-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_on_written2 [hKernel2Ideal : Cert.Kernel2Ideal.Facts] [hReference2Ideal : Cert.Reference2Ideal.Facts] [hOn_written2 : Cert.On_written2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)) (v2 : (c : Dev Cert.Kernel2Ideal.nD) → Buf (Elt Ideal) ((c.tc : Thread Cert.Kernel2Ideal.nD Cert.Kernel2Ideal.τ).loc Cert.Kernel2Ideal.main_v2_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![16384, 3072]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 i = 1#1 → r.2.mem ((c.tc : Thread Cert.Kernel2Ideal.nD Cert.Kernel2Ideal.τ).loc Cert.Kernel2Ideal.main_v2_0) i = v0 c i)
          ∧ (∀ i : (⟨2, ![16384, 12288]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 i = 1#1 → r.2.mem ((c.tc : Thread Cert.Kernel2Ideal.nD Cert.Kernel2Ideal.τ).loc Cert.Kernel2Ideal.main_v2_1) i = v1 c i)
          ∧ (∀ i : (⟨2, ![1024, 1024]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 i = 1#1 → r.2.mem ((c.tc : Thread Cert.Kernel2Ideal.nD Cert.Kernel2Ideal.τ).loc Cert.Kernel2Ideal.main_v2_2) i = v2 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![16384, 3072]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 i = 1#1 → r.2.mem ((c.tc : Thread Cert.Reference2Ideal.nD Cert.Reference2Ideal.τ).loc Cert.Reference2Ideal.main_v49) i = v0 c i)
          ∧ (∀ i : (⟨2, ![16384, 12288]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 i = 1#1 → r.2.mem ((c.tc : Thread Cert.Reference2Ideal.nD Cert.Reference2Ideal.τ).loc Cert.Reference2Ideal.main_v50) i = v1 c i)
          ∧ (∀ i : (⟨2, ![1024, 1024]⟩ : Shape).Idx, (Cert.On_written2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2 i = 1#1 → r.2.mem ((c.tc : Thread Cert.Reference2Ideal.nD Cert.Reference2Ideal.τ).loc Cert.Reference2Ideal.main_v28) i = v2 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v92) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v94) = v2 c
          ∧ r.2.mem ((c.tc : Thread Cert.Reference3Ideal.nD Cert.Reference3Ideal.τ).loc Cert.Reference3Ideal.main_v95) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)) (v4 : (c : Dev Cert.Kernel4Ideal.nD) → Buf (Elt Ideal) ((c.tc : Thread Cert.Kernel4Ideal.nD Cert.Kernel4Ideal.τ).loc Cert.Kernel4Ideal.main_v6_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_v6_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v158) = v0 c
          ∧ r.2.mem ((c.tc : Thread Cert.Reference4Ideal.nD Cert.Reference4Ideal.τ).loc Cert.Reference4Ideal.main_v81) = v1 c
          ∧ r.2.mem ((c.tc : Thread Cert.Reference4Ideal.nD Cert.Reference4Ideal.τ).loc Cert.Reference4Ideal.main_v100) = v2 c
          ∧ r.2.mem ((c.tc : Thread Cert.Reference4Ideal.nD Cert.Reference4Ideal.τ).loc Cert.Reference4Ideal.main_v159) = v3 c
          ∧ r.2.mem ((c.tc : Thread Cert.Reference4Ideal.nD Cert.Reference4Ideal.τ).loc Cert.Reference4Ideal.main_v160) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "gelu_k1" .f32 0x3D372713#32 ((8943 / 200000 : ℝ) : EReal)
  ∧ IdealRules.named_const.Statement Cert.Kernel5Ideal.κ "gelu_3k1" .f32 0x3E095D4F#32 ((26829 / 200000 : ℝ) : EReal)

def algebraic_Kernel5Ideal_Reference5Ideal_on_causal5_pre_finite5 [hKernel5Ideal : Cert.Kernel5Ideal.Facts] [hReference5Ideal : Cert.Reference5Ideal.Facts] [hPre_finite5 : Cert.Pre_finite5.Facts] [hOn_causal5 : Cert.On_causal5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)) (v3 : (c : Dev Cert.Kernel5Ideal.nD) → Buf (Elt Ideal) ((c.tc : Thread Cert.Kernel5Ideal.nD Cert.Kernel5Ideal.τ).loc Cert.Kernel5Ideal.main_v11_3)) (v4 : (c : Dev Cert.Kernel5Ideal.nD) → Buf (Elt Ideal) ((c.tc : Thread Cert.Kernel5Ideal.nD Cert.Kernel5Ideal.τ).loc Cert.Kernel5Ideal.main_v11_4)) (v5 : (c : Dev Cert.Kernel5Ideal.nD) → Buf (Elt Ideal) ((c.tc : Thread Cert.Kernel5Ideal.nD Cert.Kernel5Ideal.τ).loc Cert.Kernel5Ideal.main_v11_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![16384, 12288]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 i = 1#1 → r.2.mem ((c.tc : Thread Cert.Kernel5Ideal.nD Cert.Kernel5Ideal.τ).loc Cert.Kernel5Ideal.main_v11_0) i = v0 c i)
          ∧ (∀ i : (⟨2, ![1024, 1024]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 i = 1#1 → r.2.mem ((c.tc : Thread Cert.Kernel5Ideal.nD Cert.Kernel5Ideal.τ).loc Cert.Kernel5Ideal.main_v11_1) i = v1 c i)
          ∧ (∀ i : (⟨3, ![8, 128, 128]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 i = 1#1 → r.2.mem ((c.tc : Thread Cert.Kernel5Ideal.nD Cert.Kernel5Ideal.τ).loc Cert.Kernel5Ideal.main_v11_2) i = v2 c i)
          ∧ (∀ i : (⟨2, ![8, 128]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.1 i = 1#1 → r.2.mem ((c.tc : Thread Cert.Kernel5Ideal.nD Cert.Kernel5Ideal.τ).loc Cert.Kernel5Ideal.main_v11_3) i = v3 c i)
          ∧ (∀ i : (⟨2, ![1, 1024]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.1 i = 1#1 → r.2.mem ((c.tc : Thread Cert.Kernel5Ideal.nD Cert.Kernel5Ideal.τ).loc Cert.Kernel5Ideal.main_v11_4) i = v4 c i)
          ∧ (∀ i : (⟨2, ![1, 1024]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2 i = 1#1 → r.2.mem ((c.tc : Thread Cert.Kernel5Ideal.nD Cert.Kernel5Ideal.τ).loc Cert.Kernel5Ideal.main_v11_5) i = v5 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![16384, 12288]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).1 i = 1#1 → r.2.mem ((c.tc : Thread Cert.Reference5Ideal.nD Cert.Reference5Ideal.τ).loc Cert.Reference5Ideal.main_v186) i = v0 c i)
          ∧ (∀ i : (⟨2, ![1024, 1024]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.1 i = 1#1 → r.2.mem ((c.tc : Thread Cert.Reference5Ideal.nD Cert.Reference5Ideal.τ).loc Cert.Reference5Ideal.main_v105) i = v1 c i)
          ∧ (∀ i : (⟨3, ![8, 128, 128]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.1 i = 1#1 → r.2.mem ((c.tc : Thread Cert.Reference5Ideal.nD Cert.Reference5Ideal.τ).loc Cert.Reference5Ideal.main_v136) i = v2 c i)
          ∧ (∀ i : (⟨2, ![8, 128]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.1 i = 1#1 → r.2.mem ((c.tc : Thread Cert.Reference5Ideal.nD Cert.Reference5Ideal.τ).loc Cert.Reference5Ideal.main_v130) i = v3 c i)
          ∧ (∀ i : (⟨2, ![1, 1024]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.1 i = 1#1 → r.2.mem ((c.tc : Thread Cert.Reference5Ideal.nD Cert.Reference5Ideal.τ).loc Cert.Reference5Ideal.main_v187) i = v4 c i)
          ∧ (∀ i : (⟨2, ![1, 1024]⟩ : Shape).Idx, (Cert.On_causal5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7))).2.2.2.2.2 i = 1#1 → r.2.mem ((c.tc : Thread Cert.Reference5Ideal.nD Cert.Reference5Ideal.τ).loc Cert.Reference5Ideal.main_v188) i = v5 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v29_0)) (v1 : (c : Dev Cert.Kernel6Ideal.nD) → Buf (Elt Ideal) ((c.tc : Thread Cert.Kernel6Ideal.nD Cert.Kernel6Ideal.τ).loc Cert.Kernel6Ideal.main_v29_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29_0) = v0 c
          ∧ r.2.mem ((c.tc : Thread Cert.Kernel6Ideal.nD Cert.Kernel6Ideal.τ).loc Cert.Kernel6Ideal.main_v29_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v44) = v0 c
          ∧ r.2.mem ((c.tc : Thread Cert.Reference6Ideal.nD Cert.Reference6Ideal.τ).loc Cert.Reference6Ideal.main_v45) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_v64) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  IdealRules.named_const.Statement Cert.Kernel9Ideal.κ "gelu_k1" .f32 0x3D372713#32 ((8943 / 200000 : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v9) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v81) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v74) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v14) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v15)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v15) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v24) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v11_0)) (v1 : (c : Dev Cert.Kernel12Ideal.nD) → Buf (Elt Ideal) ((c.tc : Thread Cert.Kernel12Ideal.nD Cert.Kernel12Ideal.τ).loc Cert.Kernel12Ideal.main_v11_1)) (v2 : (c : Dev Cert.Kernel12Ideal.nD) → Buf (Elt Ideal) ((c.tc : Thread Cert.Kernel12Ideal.nD Cert.Kernel12Ideal.τ).loc Cert.Kernel12Ideal.main_v11_2)) (v3 : (c : Dev Cert.Kernel12Ideal.nD) → Buf (Elt Ideal) ((c.tc : Thread Cert.Kernel12Ideal.nD Cert.Kernel12Ideal.τ).loc Cert.Kernel12Ideal.main_v11_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v11_0) = v0 c
          ∧ r.2.mem ((c.tc : Thread Cert.Kernel12Ideal.nD Cert.Kernel12Ideal.τ).loc Cert.Kernel12Ideal.main_v11_1) = v1 c
          ∧ r.2.mem ((c.tc : Thread Cert.Kernel12Ideal.nD Cert.Kernel12Ideal.τ).loc Cert.Kernel12Ideal.main_v11_2) = v2 c
          ∧ r.2.mem ((c.tc : Thread Cert.Kernel12Ideal.nD Cert.Kernel12Ideal.τ).loc Cert.Kernel12Ideal.main_v11_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v26) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_v28) = v2 c
          ∧ r.2.mem ((c.tc : Thread Cert.Reference12Ideal.nD Cert.Reference12Ideal.τ).loc Cert.Reference12Ideal.main_v29) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel7 : Cert.Kernel7.Facts) (hKernel7Ideal : Cert.Kernel7Ideal.Facts) (hReference7Ideal : Cert.Reference7Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite3 : Cert.Pre_finite3.Facts) (hPre_finite4 : Cert.Pre_finite4.Facts) (hPre_finite5 : Cert.Pre_finite5.Facts) (hPre_finite6 : Cert.Pre_finite6.Facts) (hPre_finite10 : Cert.Pre_finite10.Facts) (hOn_written2 : Cert.On_written2.Facts) (hOn_causal5 : Cert.On_causal5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_on_written2 (hKernel2Ideal := hKernel2Ideal) (hReference2Ideal := hReference2Ideal) (hOn_written2 := hOn_written2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal_on_causal5_pre_finite5 (hKernel5Ideal := hKernel5Ideal) (hReference5Ideal := hReference5Ideal) (hPre_finite5 := hPre_finite5) (hOn_causal5 := hOn_causal5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel7_Kernel7Ideal
    ∧ algebraic_Kernel7Ideal_Reference7Ideal (hKernel7Ideal := hKernel7Ideal) (hReference7Ideal := hReference7Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== On_causal5.lean ====
abbrev S16384x12288 : Shape := ⟨2, ![16384, 12288]⟩
abbrev S16384x3072 : Shape := ⟨2, ![16384, 3072]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S1x1024 : Shape := ⟨2, ![1, 1024]⟩

class Facts : Prop where
  bcast_S_S16384x12288 : S_.BroadcastsInDim S16384x12288 (![] : Fin 0 → Fin S16384x12288.rank)
  bcast_S_S1024x1024 : S_.BroadcastsInDim S1024x1024 (![] : Fin 0 → Fin S1024x1024.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1x1024 : S_.BroadcastsInDim S1x1024 (![] : Fin 0 → Fin S1x1024.rank)

variable [Facts]

def fn {F : FTy → Type} [FloatOps F] (main_arg0 : FVec F S16384x12288 .bf16) (main_arg1 : FVec F S16384x3072 .bf16) (main_arg2 : FVec F S1024 .f32) (main_arg3 : FVec F S1024 .f32) (main_arg4 : FVec F S8x128x128 .f32) (main_arg5 : FVec F S8x128 .f32) (main_arg6 : FVec F S1024x1024 .f32) (main_arg7 : FVec F S16384x12288 .bf16) : IVec S16384x12288 1 × IVec S1024x1024 1 × IVec S8x128x128 1 × IVec S8x128 1 × IVec S1x1024 1 × IVec S1x1024 1 :=
  let main_v0 : IVec S8x128x128 32 := iotaInDim S8x128x128 32 1
  let main_v1 : IVec S8x128x128 32 := iotaInDim S8x128x128 32 2
  let main_c : IVec S_ 1 := constantI S_ 1 1#1
  let main_v2 : IVec S16384x12288 1 := broadcastInDim S16384x12288 ![] bcast_S_S16384x12288 main_c
  let main_c_0 : IVec S_ 1 := constantI S_ 1 1#1
  let main_v3 : IVec S1024x1024 1 := broadcastInDim S1024x1024 ![] bcast_S_S1024x1024 main_c_0
  let main_c_1 : IVec S_ 32 := constantI S_ 32 64#32
  let main_v4 : IVec S8x128x128 32 := broadcastInDim S8x128x128 ![] bcast_S_S8x128x128 main_c_1
  let main_v5 : IVec S8x128x128 1 := cmpi .slt main_v1 main_v4
  let main_c_2 : IVec S_ 32 := constantI S_ 32 64#32
  let main_v6 : IVec S8x128x128 32 := broadcastInDim S8x128x128 ![] bcast_S_S8x128x128 main_c_2
  let main_v7 : IVec S8x128x128 1 := cmpi .sge main_v0 main_v6
  let main_v8 : IVec S8x128x128 1 := ori main_v5 main_v7
  let main_c_3 : IVec S_ 1 := constantI S_ 1 1#1
  let main_v9 : IVec S8x128 1 := broadcastInDim S8x128 ![] bcast_S_S8x128 main_c_3
  let main_c_4 : IVec S_ 1 := constantI S_ 1 1#1
  let main_v10 : IVec S1x1024 1 := broadcastInDim S1x1024 ![] bcast_S_S1x1024 main_c_4
  let main_c_5 : IVec S_ 1 := constantI S_ 1 1#1
  let main_v11 : IVec S1x1024 1 := broadcastInDim S1x1024 ![] bcast_S_S1x1024 main_c_5
  (main_v2, main_v3, main_v8, main_v9, main_v10, main_v11)
-- ==== On_written2.lean ====
abbrev S16384x1024 : Shape := ⟨2, ![16384, 1024]⟩
abbrev S16384x12288 : Shape := ⟨2, ![16384, 12288]⟩
abbrev S1024x1024 : Shape := ⟨2, ![1024, 1024]⟩
abbrev S_ : Shape := ⟨0, ![]⟩
abbrev S16384x3072 : Shape := ⟨2, ![16384, 3072]⟩

class Facts : Prop where
  bcast_S_S16384x3072 : S_.BroadcastsInDim S16384x3072 (![] : Fin 0 → Fin S16384x3072.rank)
  bcast_S_S16384x12288 : S_.BroadcastsInDim S16384x12288 (![] : Fin 0 → Fin S16384x12288.rank)
  bcast_S_S1024x1024 : S_.BroadcastsInDim S1024x1024 (![] : Fin 0 → Fin S1024x1024.rank)

variable [Facts]

def fn {F : FTy → Type} [FloatOps F] (main_arg0 : FVec F S16384x1024 .f32) (main_arg1 : FVec F S16384x1024 .bf16) (main_arg2 : FVec F S16384x1024 .bf16) (main_arg3 : FVec F S16384x1024 .bf16) (main_arg4 : FVec F S16384x12288 .bf16) (main_arg5 : FVec F S1024x1024 .f32) : IVec S16384x3072 1 × IVec S16384x12288 1 × IVec S1024x1024 1 :=
  let main_v0 : IVec S16384x12288 32 := iotaInDim S16384x12288 32 1
  let main_c : IVec S_ 1 := constantI S_ 1 1#1
  let main_v1 : IVec S16384x3072 1 := broadcastInDim S16384x3072 ![] bcast_S_S16384x3072 main_c
  let main_c_0 : IVec S_ 32 := constantI S_ 32 9216#32
  let main_v2 : IVec S16384x12288 32 := broadcastInDim S16384x12288 ![] bcast_S_S16384x12288 main_c_0
  let main_v3 : IVec S16384x12288 1 := cmpi .sge main_v0 main_v2
  let main_c_1 : IVec S_ 1 := constantI S_ 1 1#1
  let main_v4 : IVec S1024x1024 1 := broadcastInDim S1024x1024 ![] bcast_S_S1024x1024 main_c_1
  (main_v1, main_v3, main_v4)
-- ==== Pre_finite.lean ====
abbrev S16384x1024 : Shape := ⟨2, ![16384, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S16384x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Pre_finite10.lean ====
abbrev S16384x12288 : Shape := ⟨2, ![16384, 12288]⟩
abbrev S4x256x256 : Shape := ⟨3, ![4, 256, 256]⟩
abbrev S1024 : Shape := ⟨1, ![1024]⟩
abbrev S1024x1024 : Shape := ⟨2, ![1024, 1024]⟩
abbrev S16384x1024 : Shape := ⟨2, ![16384, 1024]⟩
abbrev S_ : Shape := ⟨0, ![]⟩

class Facts : Prop where
  slices_S16384x12288_S16384x1024_0_3072 : S16384x12288.Slices ![0, 3072] S16384x1024
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x12288 .bf16) (main_arg1 : FVec F S4x256x256 .f32) (main_arg2 : FVec F S1024 .f32) (main_arg3 : FVec F S1024 .f32) (main_arg4 : FVec F S1024x1024 .f32) : IVec S_ 1 :=
  let main_v0 : FVec F S16384x1024 .bf16 := (extractStridedSlice S16384x1024 ![0, 3072] · slices_S16384x12288_S16384x1024_0_3072) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  main_v5
-- ==== Pre_finite3.lean ====
abbrev S16384x12288 : Shape := ⟨2, ![16384, 12288]⟩
abbrev S16384x3072 : Shape := ⟨2, ![16384, 3072]⟩
abbrev S3x1024 : Shape := ⟨2, ![3, 1024]⟩
abbrev S1024 : Shape := ⟨1, ![1024]⟩
abbrev S1024x1024 : Shape := ⟨2, ![1024, 1024]⟩
abbrev S_ : Shape := ⟨0, ![]⟩

class Facts : Prop where
  bitsLt_bf16_f32 : FTy.bits .bf16 < FTy.bits .f32
  bcast_S_S16384x12288 : S_.BroadcastsInDim S16384x12288 (![] : Fin 0 → Fin S16384x12288.rank)
  reducesTo_S16384x12288_S_d0_1 : S16384x12288.ReducesTo [0, 1] S_
  h_S_ : 0 < S_.numel
  bcast_S_S16384x3072 : S_.BroadcastsInDim S16384x3072 (![] : Fin 0 → Fin S16384x3072.rank)
  reducesTo_S16384x3072_S_d0_1 : S16384x3072.ReducesTo [0, 1] S_
  bcast_S_S3x1024 : S_.BroadcastsInDim S3x1024 (![] : Fin 0 → Fin S3x1024.rank)
  reducesTo_S3x1024_S_d0_1 : S3x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S1024x1024 .f32 := Host.absf main_arg4
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_c_7 : IVec S_ 1 := constantI S_ 1 1#1
  let main_v24 : IVec S_ 1 := (fun x v => Host.reduce IntOp.andi x v reducesTo_S1024x1024_S_d0_1 h_S_) main_v23 main_c_7
  let main_v25 : IVec S_ 1 := andi main_v20 main_v24
  main_v25

def fn {F : FTy → Type} [FloatOps F] (main_arg0 : FVec F S16384x12288 .bf16) (main_arg1 : FVec F S16384x3072 .bf16) (main_arg2 : FVec F S3x1024 .f32) (main_arg3 : FVec F S1024 .f32) (main_arg4 : FVec F S1024x1024 .f32) (main_arg5 : FVec F S16384x12288 .bf16) : IVec S_ 1 :=
  let main_v0 : FVec F S16384x12288 .f32 := (extf .f32 · bitsLt_bf16_f32) main_arg0
  let main_v1 : FVec F S16384x12288 .f32 := Host.absf main_v0
  let main_cst : FVec F S_ .f32 := constant S_ .f32 0x7F800000#32
  let main_v2 : FVec F S16384x12288 .f32 := broadcastInDim S16384x12288 ![] bcast_S_S16384x12288 main_cst
  let main_v3 : IVec S16384x12288 1 := cmpf .olt main_v1 main_v2
  let main_c : IVec S_ 1 := constantI S_ 1 1#1
  let main_v4 : IVec S_ 1 := (fun x v => Host.reduce IntOp.andi x v reducesTo_S16384x12288_S_d0_1 h_S_) main_v3 main_c
  let main_v5 : FVec F S16384x3072 .f32 := (extf .f32 · bitsLt_bf16_f32) main_arg1
  let main_v6 : FVec F S16384x3072 .f32 := Host.absf main_v5
  let main_cst_0 : FVec F S_ .f32 := constant S_ .f32 0x7F800000#32
  let main_v7 : FVec F S16384x3072 .f32 := broadcastInDim S16384x3072 ![] bcast_S_S16384x3072 main_cst_0
  let main_v8 : IVec S16384x3072 1 := cmpf .olt main_v6 main_v7
  let main_c_1 : IVec S_ 1 := constantI S_ 1 1#1
  let main_v9 : IVec S_ 1 := (fun x v => Host.reduce IntOp.andi x v reducesTo_S16384x3072_S_d0_1 h_S_) main_v8 main_c_1
  let main_v10 : IVec S_ 1 := andi main_v4 main_v9
  let main_v11 : FVec F S3x1024 .f32 := Host.absf main_arg2
  let main_cst_2 : FVec F S_ .f32 := constant S_ .f32 0x7F800000#32
  let main_v12 : FVec F S3x1024 .f32 := broadcastInDim S3x1024 ![] bcast_S_S3x1024 main_cst_2
  let main_v13 : IVec S3x1024 1 := cmpf .olt main_v11 main_v12
  let main_c_3 : IVec S_ 1 := constantI S_ 1 1#1
  let main_v14 : IVec S_ 1 := (fun x v => Host.reduce IntOp.andi x v reducesTo_S3x1024_S_d0_1 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_v15 main_v16 main_cst_4
-- ==== Pre_finite4.lean ====
abbrev S16384x12288 : Shape := ⟨2, ![16384, 12288]⟩
abbrev S16384x3072 : Shape := ⟨2, ![16384, 3072]⟩
abbrev S4x256x256 : Shape := ⟨3, ![4, 256, 256]⟩
abbrev S1024 : Shape := ⟨1, ![1024]⟩
abbrev S1024x1024 : Shape := ⟨2, ![1024, 1024]⟩
abbrev S_ : Shape := ⟨0, ![]⟩

class Facts : Prop where
  bitsLt_bf16_f32 : FTy.bits .bf16 < FTy.bits .f32
  bcast_S_S16384x12288 : S_.BroadcastsInDim S16384x12288 (![] : Fin 0 → Fin S16384x12288.rank)
  reducesTo_S16384x12288_S_d0_1 : S16384x12288.ReducesTo [0, 1] S_
  h_S_ : 0 < S_.numel
  bcast_S_S16384x3072 : S_.BroadcastsInDim S16384x3072 (![] : Fin 0 → Fin S16384x3072.rank)
  reducesTo_S16384x3072_S_d0_1 : S16384x3072.ReducesTo [0, 1] S_
  bcast_S_S4x256x256 : S_.BroadcastsInDim S4x256x256 (![] : Fin 0 → Fin S4x256x256.rank)
  reducesTo_S4x256x256_S_d0_1_2 : S4x256x256.ReducesTo [0, 1, 2] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024 .f32) (main_arg5 : FVec F S1024x1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S1024 .f32 := Host.absf main_arg4
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  let main_c_7 : IVec S_ 1 := constantI S_ 1 1#1
  let main_v24 : IVec S_ 1 := (fun x v => Host.reduce IntOp.andi x v reducesTo_S1024_S_d0 h_S_) main_v23 main_c_7
  let main_v25 : IVec S_ 1 := andi main_v20 main_v24
  let main_v26 : FVec F S1024x1024 .f32 := Host.absf main_arg5
  let main_cst_8 : FVec F S_ .f32 := constant S_ .f32 0x7F800000#32
  let main_v27 : FVec F S1024x1024 .f32 := broadcastInDim S1024x1024 ![] bcast_S_S1024x1024 main_cst_8
  let main_v28 : IVec S1024x1024 1 := cmpf .olt main_v26 main_v27
  let main_c_9 : IVec S_ 1 := constantI S_ 1 1#1
  let main_v29 : IVec S_ 1 := (fun x v => Host.reduce IntOp.andi x v reducesTo_S1024x1024_S_d0_1 h_S_) main_v28 main_c_9
  let main_v30 : IVec S_ 1 := andi main_v25 main_v29
  main_v30

def fn {F : FTy → Type} [FloatOps F] (main_arg0 : FVec F S16384x12288 .bf16) (main_arg1 : FVec F S16384x3072 .bf16) (main_arg2 : FVec F S4x256x256 .f32) (main_arg3 : FVec F S1024 .f32) (main_arg4 : FVec F S1024 .f32) (main_arg5 : FVec F S1024x1024 .f32) (main_arg6 : FVec F S16384x12288 .bf16) : IVec S_ 1 :=
  let main_v0 : FVec F S16384x12288 .f32 := (extf .f32 · bitsLt_bf16_f32) main_arg0
  let main_v1 : FVec F S16384x12288 .f32 := Host.absf main_v0
  let main_cst : FVec F S_ .f32 := constant S_ .f32 0x7F800000#32
  let main_v2 : FVec F S16384x12288 .f32 := broadcastInDim S16384x12288 ![] bcast_S_S16384x12288 main_cst
  let main_v3 : IVec S16384x12288 1 := cmpf .olt main_v1 main_v2
  let main_c : IVec S_ 1 := constantI S_ 1 1#1
  let main_v4 : IVec S_ 1 := (fun x v => Host.reduce IntOp.andi x v reducesTo_S16384x12288_S_d0_1 h_S_) main_v3 main_c
  let main_v5 : FVec F S16384x3072 .f32 := (extf .f32 · bitsLt_bf16_f32) main_arg1
  let main_v6 : FVec F S16384x3072 .f32 := Host.absf main_v5
  let main_cst_0 : FVec F S_ .f32 := constant S_ .f32 0x7F800000#32
  let main_v7 : FVec F S16384x3072 .f32 := broadcastInDim S16384x3072 ![] bcast_S_S16384x3072 main_cst_0
  let main_v8 : IVec S16384x3072 1 := cmpf .olt main_v6 main_v7
  let main_c_1 : IVec S_ 1 := constantI S_ 1 1#1
  let main_v9 : IVec S_ 1 := (fun x v => Host.reduce IntOp.andi x v reducesTo_S16384x3072_S_d0_1 h_S_) main_v8 main_c_1
  let main_v10 : IVec S_ 1 := andi main_v4 main_v9
  let main_v11 : FVec F S4x256x256 .f32 := Host.absf main_arg2
  let main_cst_2 : FVec F S_ .f32 := constant S_ .f32 0x7F800000#32
  let main_v12 : FVec F S4x256x256 .f32 := broadcastInDim S4x256x256 ![] bcast_S_S4x256x256 main_cst_2
  let main_v13 : IVec S4x256x256 1 := cmpf .olt main_v11 main_v12
  let main_c_3 : IVec S_ 1 := constantI S_ 1 1#1
  let main_v14 : IVec S_ 1 := (fun x v => Host.reduce IntOp.andi x v reducesTo_S4x256x256_S_d0_1_2 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_arg5 main_v15 main_v16 main_cst_4
-- ==== Pre_finite5.lean ====
abbrev S16384x12288 : Shape := ⟨2, ![16384, 12288]⟩
abbrev S16384x3072 : Shape := ⟨2, ![16384, 3072]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bitsLt_bf16_f32 : FTy.bits .bf16 < FTy.bits .f32
  bcast_S_S16384x12288 : S_.BroadcastsInDim S16384x12288 (![] : Fin 0 → Fin S16384x12288.rank)
  reducesTo_S16384x12288_S_d0_1 : S16384x12288.ReducesTo [0, 1] S_
  h_S_ : 0 < S_.numel
  bcast_S_S16384x3072 : S_.BroadcastsInDim S16384x3072 (![] : Fin 0 → Fin S16384x3072.rank)
  reducesTo_S16384x3072_S_d0_1 : S16384x3072.ReducesTo [0, 1] S_
  bcast_S_S1024 : S_.BroadcastsInDim S1024 (![] : Fin 0 → Fin S1024.rank)
  reducesTo_S1024_S_d0 : S1024.ReducesTo [0] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v30 : IVec S_ 1) (main_v33 : IVec S1024x1024 1) (main_c_11 : IVec S_ 1) : IVec S_ 1 :=
  let main_v34 : IVec S_ 1 := (fun x v => Host.reduce IntOp.andi x v reducesTo_S1024x1024_S_d0_1 h_S_) main_v33 main_c_11
  let main_v35 : IVec S_ 1 := andi main_v30 main_v34
  main_v35

def fn_part1 {F : FTy → Type} [FloatOps F] (main_arg4 : FVec F S8x128x128 .f32) (main_arg5 : FVec F S8x128 .f32) (main_arg6 : FVec F S1024x1024 .f32) (main_v15 : IVec S_ 1) (main_v16 : FVec F S1024 .f32) (main_cst_4 : FVec F S_ .f32) : IVec S_ 1 :=
  let main_v17 : FVec F S1024 .f32 := broadcastInDim S1024 ![] bcast_S_S1024 main_cst_4
  let main_v18 : IVec S1024 1 := cmpf .olt main_v16 main_v17
  let main_c_5 : IVec S_ 1 := constantI S_ 1 1#1
  let main_v19 : IVec S_ 1 := (fun x v => Host.reduce IntOp.andi x v reducesTo_S1024_S_d0 h_S_) main_v18 main_c_5
  let main_v20 : IVec S_ 1 := andi main_v15 main_v19
  let main_v21 : FVec F S8x128x128 .f32 := Host.absf main_arg4
  let main_cst_6 : FVec F S_ .f32 := constant S_ .f32 0x7F800000#32
  let main_v22 : FVec F S8x128x128 .f32 := broadcastInDim S8x128x128 ![] bcast_S_S8x128x128 main_cst_6
  let main_v23 : IVec S8x128x128 1 := cmpf .olt main_v21 main_v22
  let main_c_7 : IVec S_ 1 := constantI S_ 1 1#1
  let main_v24 : IVec S_ 1 := (fun x v => Host.reduce IntOp.andi x v reducesTo_S8x128x128_S_d0_1_2 h_S_) main_v23 main_c_7
  let main_v25 : IVec S_ 1 := andi main_v20 main_v24
  let main_v26 : FVec F S8x128 .f32 := Host.absf main_arg5
  let main_cst_8 : FVec F S_ .f32 := constant S_ .f32 0x7F800000#32
  let main_v27 : FVec F S8x128 .f32 := broadcastInDim S8x128 ![] bcast_S_S8x128 main_cst_8
  let main_v28 : IVec S8x128 1 := cmpf .olt main_v26 main_v27
  let main_c_9 : IVec S_ 1 := constantI S_ 1 1#1
  let main_v29 : IVec S_ 1 := (fun x v => Host.reduce IntOp.andi x v reducesTo_S8x128_S_d0_1 h_S_) main_v28 main_c_9
  let main_v30 : IVec S_ 1 := andi main_v25 main_v29
  let main_v31 : FVec F S1024x1024 .f32 := Host.absf main_arg6
  let main_cst_10 : FVec F S_ .f32 := constant S_ .f32 0x7F800000#32
  let main_v32 : FVec F S1024x1024 .f32 := broadcastInDim S1024x1024 ![] bcast_S_S1024x1024 main_cst_10
  let main_v33 : IVec S1024x1024 1 := cmpf .olt main_v31 main_v32
  let main_c_11 : IVec S_ 1 := constantI S_ 1 1#1
  fn_part2 (F := F) main_v30 main_v33 main_c_11

def fn {F : FTy → Type} [FloatOps F] (main_arg0 : FVec F S16384x12288 .bf16) (main_arg1 : FVec F S16384x3072 .bf16) (main_arg2 : FVec F S1024 .f32) (main_arg3 : FVec F S1024 .f32) (main_arg4 : FVec F S8x128x128 .f32) (main_arg5 : FVec F S8x128 .f32) (main_arg6 : FVec F S1024x1024 .f32) (main_arg7 : FVec F S16384x12288 .bf16) : IVec S_ 1 :=
  let main_v0 : FVec F S16384x12288 .f32 := (extf .f32 · bitsLt_bf16_f32) main_arg0
  let main_v1 : FVec F S16384x12288 .f32 := Host.absf main_v0
  let main_cst : FVec F S_ .f32 := constant S_ .f32 0x7F800000#32
  let main_v2 : FVec F S16384x12288 .f32 := broadcastInDim S16384x12288 ![] bcast_S_S16384x12288 main_cst
  let main_v3 : IVec S16384x12288 1 := cmpf .olt main_v1 main_v2
  let main_c : IVec S_ 1 := constantI S_ 1 1#1
  let main_v4 : IVec S_ 1 := (fun x v => Host.reduce IntOp.andi x v reducesTo_S16384x12288_S_d0_1 h_S_) main_v3 main_c
  let main_v5 : FVec F S16384x3072 .f32 := (extf .f32 · bitsLt_bf16_f32) main_arg1
  let main_v6 : FVec F S16384x3072 .f32 := Host.absf main_v5
  let main_cst_0 : FVec F S_ .f32 := constant S_ .f32 0x7F800000#32
  let main_v7 : FVec F S16384x3072 .f32 := broadcastInDim S16384x3072 ![] bcast_S_S16384x3072 main_cst_0
  let main_v8 : IVec S16384x3072 1 := cmpf .olt main_v6 main_v7
  let main_c_1 : IVec S_ 1 := constantI S_ 1 1#1
  let main_v9 : IVec S_ 1 := (fun x v => Host.reduce IntOp.andi x v reducesTo_S16384x3072_S_d0_1 h_S_) main_v8 main_c_1
  let main_v10 : IVec S_ 1 := andi main_v4 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_c_3 : IVec S_ 1 := constantI S_ 1 1#1
  let main_v14 : IVec S_ 1 := (fun x v => Host.reduce IntOp.andi x v reducesTo_S1024_S_d0 h_S_) main_v13 main_c_3
  let main_v15 : IVec S_ 1 := andi main_v10 main_v14
  let main_v16 : FVec F S1024 .f32 := Host.absf main_arg3
  let main_cst_4 : FVec F S_ .f32 := constant S_ .f32 0x7F800000#32
  fn_part1 (F := F) main_arg4 main_arg5 main_arg6 main_v15 main_v16 main_cst_4
-- ==== Pre_finite6.lean ====
abbrev S16384x1024 : Shape := ⟨2, ![16384, 1024]⟩
abbrev S1024 : Shape := ⟨1, ![1024]⟩
abbrev S1024x12288 : Shape := ⟨2, ![1024, 12288]⟩
abbrev S16384x12288 : Shape := ⟨2, ![16384, 12288]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x12288 : S_.BroadcastsInDim S1024x12288 (![] : Fin 0 → Fin S1024x12288.rank)
  reducesTo_S1024x12288_S_d0_1 : S1024x12288.ReducesTo [0, 1] S_
  bitsLt_bf16_f32 : FTy.bits .bf16 < FTy.bits .f32
  bcast_S_S16384x12288 : S_.BroadcastsInDim S16384x12288 (![] : Fin 0 → Fin S16384x12288.rank)
  reducesTo_S16384x12288_S_d0_1 : S16384x12288.ReducesTo [0, 1] S_

variable [Facts]

def fn_part1 {F : FTy → Type} [FloatOps F] (main_v13 : IVec S_ 1) (main_v15 : FVec F S16384x12288 .f32) (main_v16 : FVec F S16384x12288 .f32) : IVec S_ 1 :=
  let main_v17 : IVec S16384x12288 1 := cmpf .olt main_v15 main_v16
  let main_c_5 : IVec S_ 1 := constantI S_ 1 1#1
  let main_v18 : IVec S_ 1 := (fun x v => Host.reduce IntOp.andi x v reducesTo_S16384x12288_S_d0_1 h_S_) main_v17 main_c_5
  let main_v19 : IVec S_ 1 := andi main_v13 main_v18
  main_v19

def fn {F : FTy → Type} [FloatOps F] (main_arg0 : FVec F S16384x1024 .f32) (main_arg1 : FVec F S1024 .f32) (main_arg2 : FVec F S1024x12288 .f32) (main_arg3 : FVec F S16384x12288 .bf16) (main_arg4 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x12288 .f32 := Host.absf main_arg2
  let main_cst_2 : FVec F S_ .f32 := constant S_ .f32 0x7F800000#32
  let main_v10 : FVec F S1024x12288 .f32 := broadcastInDim S1024x12288 ![] bcast_S_S1024x12288 main_cst_2
  let main_v11 : IVec S1024x12288 1 := cmpf .olt main_v9 main_v10
  let main_c_3 : IVec S_ 1 := constantI S_ 1 1#1
  let main_v12 : IVec S_ 1 := (fun x v => Host.reduce IntOp.andi x v reducesTo_S1024x12288_S_d0_1 h_S_) main_v11 main_c_3
  let main_v13 : IVec S_ 1 := andi main_v8 main_v12
  let main_v14 : FVec F S16384x12288 .f32 := (extf .f32 · bitsLt_bf16_f32) main_arg3
  let main_v15 : FVec F S16384x12288 .f32 := Host.absf main_v14
  let main_cst_4 : FVec F S_ .f32 := constant S_ .f32 0x7F800000#32
  let main_v16 : FVec F S16384x12288 .f32 := broadcastInDim S16384x12288 ![] bcast_S_S16384x12288 main_cst_4
  fn_part1 (F := F) main_v13 main_v15 main_v16
-- ==== Kernel.lean ====
abbrev S16384x1024 : Shape := ⟨2, ![16384, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S16384x1024, .f32⟩
  | .hbm, ⟨40, _⟩ => ⟨S_, .f32⟩
  | .hbm, ⟨41, _⟩ => ⟨S16384, .f32⟩
  | .hbm, ⟨42, _⟩ => ⟨S16384x1, .f32⟩
  | .hbm, ⟨43, _⟩ => ⟨S16384x1024, .f32⟩
  | .hbm, ⟨44, _⟩ => ⟨S16384x1024, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S_, .f32⟩
  | .hbm, ⟨50, _⟩ => ⟨S16384, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel2.lean ====
abbrev S16384x1024 : Shape := ⟨2, ![16384, 1024]⟩
abbrev S16384x12288 : Shape := ⟨2, ![16384, 12288]⟩
abbrev S1024x1024 : Shape := ⟨2, ![1024, 1024]⟩
abbrev S16384x3072 : Shape := ⟨2, ![16384, 3072]⟩
abbrev S512x1024 : Shape := ⟨2, ![512, 1024]⟩
abbrev S512x3072 : Shape := ⟨2, ![512, 3072]⟩

abbrev nBuf : Space → Nat
  | .hbm => 11
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x12288, .bf16⟩
  | .hbm, ⟨5, _⟩ => ⟨S1024x1024, .f32⟩
  | .hbm, ⟨6, _⟩ => ⟨S1024x1024, .bf16⟩
  | .hbm, ⟨7, _⟩ => ⟨S1024x1024, .bf16⟩
  | .hbm, ⟨8, _⟩ => ⟨S16384x3072, .bf16⟩
  | .hbm, ⟨9, _⟩ => ⟨S16384x12288, .bf16⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S1024x1024, .bf16⟩
  | .local _ .vmem, ⟨11, _⟩ => ⟨S512x3072, .bf16⟩
  | .local _ .vmem, ⟨12, _⟩ => ⟨S512x3072, .bf16⟩
  | .local _ .vmem, ⟨13, _⟩ => ⟨S512x3072, .bf16⟩
  | .local _ .vmem, ⟨14, _⟩ => ⟨S512x3072, .bf16⟩
  | .local _ .vmem, ⟨15, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference2Ideal.lean ====
abbrev S16384x1024 : Shape := ⟨2, ![16384, 1024]⟩
abbrev S16384x12288 : Shape := ⟨2, ![16384, 12288]⟩
abbrev S1024x1024 : Shape := ⟨2, ![1024, 1024]⟩
abbrev S16384x3072 : Shape := ⟨2, ![16384, 3072]⟩
abbrev S16384x3x1024 : Shape := ⟨3, ![16384, 3, 1024]⟩
abbrev S_ : Shape := ⟨0, ![]⟩
abbrev S16384x1x1024 : Shape := ⟨3, ![16384, 1, 1024]⟩
abbrev S16384x9216 : Shape := ⟨2, ![16384, 9216]⟩

abbrev nBuf : Space → Nat
  | .hbm => 64
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x12288, .bf16⟩
  | .hbm, ⟨5, _⟩ => ⟨S1024x1024, .f32⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x12288, .f32⟩
  | .hbm, ⟨10, _⟩ => ⟨S16384x3072, .f32⟩
  | .hbm, ⟨11, _⟩ => ⟨S16384x3x1024, .f32⟩
  | .hbm, ⟨12, _⟩ => ⟨S16384x3x1024, .f32⟩
  | .hbm, ⟨13, _⟩ => ⟨S16384x3x1024, .f32⟩
  | .hbm, ⟨14, _⟩ => ⟨S_, .f32⟩
  | .hbm, ⟨15, _⟩ => ⟨S16384x3x1024, .f32⟩
  | .hbm, ⟨16, _⟩ => ⟨S16384x3x1024, .f32⟩
  | .hbm, ⟨17, _⟩ => ⟨S_, .f32⟩
  | .hbm, ⟨18, _⟩ => ⟨S16384x3x1024, .f32⟩
  | .hbm, ⟨19, _⟩ => ⟨S16384x3x1024, .f32⟩
  | .hbm, ⟨20, _⟩ => ⟨S_, .f32⟩
  | .hbm, ⟨21, _⟩ => ⟨S16384x3x1024, .f32⟩
  | .hbm, ⟨22, _⟩ => ⟨S16384x3x1024, .f32⟩
  | .hbm, ⟨23, _⟩ => ⟨S16384x3x1024, .f32⟩
  | .hbm, ⟨24, _⟩ => ⟨S16384x1x1024, .f32⟩
  | .hbm, ⟨25, _⟩ => ⟨S16384x1024, .f32⟩
  | .hbm, ⟨26, _⟩ => ⟨S16384x1024, .f32⟩
  | .hbm, ⟨27, _⟩ => ⟨S16384x1x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S16384x1x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1024x1024, .f32⟩
  | .hbm, ⟨37, _⟩ => ⟨S1024x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1x1024, .f32⟩
  | .hbm, ⟨42, _⟩ => ⟨S_, .f32⟩
  | .hbm, ⟨43, _⟩ => ⟨S16384x3x1024, .f32⟩
  | .hbm, ⟨44, _⟩ => ⟨S16384x1024, .f32⟩
  | .hbm, ⟨45, _⟩ => ⟨S16384x1024, .f32⟩
  | .hbm, ⟨46, _⟩ => ⟨S16384x1x1024, .f32⟩
  | .hbm, ⟨47, _⟩ => ⟨S_, .f32⟩
  | .hbm, ⟨48, _⟩ => ⟨S16384x3x1024, .f32⟩
  | .hbm, ⟨49, _⟩ => ⟨S16384x3x1024, .f32⟩
  | .hbm, ⟨50, _⟩ => ⟨S16384x1024, .f32⟩
  | .hbm, ⟨51, _⟩ => ⟨S16384x1024, .f32⟩
  | .hbm, ⟨52, _⟩ => ⟨S16384x1x1024, .f32⟩
  | .hbm, ⟨53, _⟩ => ⟨S_, .f32⟩
  | .hbm, ⟨54, _⟩ => ⟨S16384x3x1024, .f32⟩
  | .hbm, ⟨55, _⟩ => ⟨S16384x3x1024, .f32⟩
  | .hbm, ⟨56, _⟩ => ⟨S16384x3x1024, .f32⟩
  | .hbm, ⟨57, _⟩ => ⟨S16384x3072, .f32⟩
  | .hbm, ⟨58, _⟩ => ⟨S_, .f32⟩
  | .hbm, ⟨59, _⟩ => ⟨S16384x9216, .f32⟩
  | .hbm, ⟨60, _⟩ => ⟨S16384x12288, .f32⟩
  | .hbm, ⟨61, _⟩ => ⟨S16384x3072, .f32⟩
  | .hbm, ⟨62, _⟩ => ⟨S16384x3072, .bf16⟩
  | .hbm, ⟨63, _⟩ => ⟨S16384x12288, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel3.lean ====
abbrev S16384x12288 : Shape := ⟨2, ![16384, 12288]⟩
abbrev S16384x3072 : Shape := ⟨2, ![16384, 3072]⟩
abbrev S3x1024 : Shape := ⟨2, ![3, 1024]⟩
abbrev S1024 : Shape := ⟨1, ![1024]⟩
abbrev S1024x1024 : Shape := ⟨2, ![1024, 1024]⟩
abbrev S1x1024 : Shape := ⟨2, ![1, 1024]⟩
abbrev S8x1024 : Shape := ⟨2, ![8, 1024]⟩
abbrev S512x1024 : Shape := ⟨2, ![512, 1024]⟩
abbrev S32x1024 : Shape := ⟨2, ![32, 1024]⟩
abbrev S512x4096 : Shape := ⟨2, ![512, 4096]⟩
abbrev S544x1024 : Shape := ⟨2, ![544, 1024]⟩
abbrev S520x1024 : Shape := ⟨2, ![520, 1024]⟩

abbrev nBuf : Space → Nat
  | .hbm => 13
  | .vmem => 25
  | .smem => 0
  | _ => 0

abbrev bufTy : (tb : Table) → Fin (tcTables nBuf tb) → BufTy
  | .hbm, ⟨0, _⟩ => ⟨S16384x12288, .bf16⟩
  | .hbm, ⟨1, _⟩ => ⟨S16384x3072, .bf16⟩
  | .hbm, ⟨2, _⟩ => ⟨S3x1024, .f32⟩
  | .hbm, ⟨3, _⟩ => ⟨S1024, .f32⟩
  | .hbm, ⟨4, _⟩ => ⟨S1024x1024, .f32⟩
  | .hbm, ⟨5, _⟩ => ⟨S16384x12288, .bf16⟩
  | .hbm, ⟨6, _⟩ => ⟨S1x1024, .f32⟩
  | .hbm, ⟨7, _⟩ => ⟨S1024x1024, .bf16⟩
  | .hbm, ⟨8, _⟩ => ⟨S1024x1024, .bf16⟩
  | .hbm, ⟨9, _⟩ => ⟨S16384x12288, .bf16⟩
  | .hbm, ⟨10, _⟩ => ⟨S1024x1024, .f32⟩
  | .hbm, ⟨11, _⟩ => ⟨S8x1024, .f32⟩
  | .hbm, ⟨12, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S32x1024, .bf16⟩
  | .local _ .vmem, ⟨3, _⟩ => ⟨S32x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S32x1024, .bf16⟩
  | .local _ .vmem, ⟨9, _⟩ => ⟨S32x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S3x1024, .f32⟩
  | .local _ .vmem, ⟨15, _⟩ => ⟨S1x1024, .f32⟩
  | .local _ .vmem, ⟨16, _⟩ => ⟨S1024x1024, .bf16⟩
  | .local _ .vmem, ⟨17, _⟩ => ⟨S512x4096, .bf16⟩
  | .local _ .vmem, ⟨18, _⟩ => ⟨S512x4096, .bf16⟩
  | .local _ .vmem, ⟨19, _⟩ => ⟨S1024x1024, .f32⟩
  | .local _ .vmem, ⟨20, _⟩ => ⟨S8x1024, .f32⟩
  | .local _ .vmem, ⟨21, _⟩ => ⟨S1x1024, .f32⟩
  | .local _ .vmem, ⟨22, _⟩ => ⟨S544x1024, .f32⟩
  | .local _ .vmem, ⟨23, _⟩ => ⟨S520x1024, .f32⟩
  | .local _ .vmem, ⟨24, _⟩ => ⟨S8x1024, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c5_i32 : BitVec 32 := 5#32
  let c0_i32_0 : BitVec 32 := 0#32
  ![v3.toNat, c5_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c7_i32 : BitVec 32 := 7#32
  let c0_i32 : BitVec 32 := 0#32
  ![v0.toNat, c7_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c7_i32 : BitVec 32 := 7#32
  let c0_i32_0 : BitVec 32 := 0#32
  ![v3.toNat, c7_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let c0_i32 : BitVec 32 := 0#32
  ![v0.toNat, c8_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S16384x12288 : Shape := ⟨2, ![16384, 12288]⟩
abbrev S16384x3072 : Shape := ⟨2, ![16384, 3072]⟩
abbrev S3x1024 : Shape := ⟨2, ![3, 1024]⟩
abbrev S1024 : Shape := ⟨1, ![1024]⟩
abbrev S1024x1024 : Shape := ⟨2, ![1024, 1024]⟩
abbrev S16384x1024 : Shape := ⟨2, ![16384, 1024]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩
abbrev S16384x4096 : Shape := ⟨2, ![16384, 4096]⟩
abbrev S16384x8192 : Shape := ⟨2, ![16384, 8192]⟩
abbrev S5x1024 : Shape := ⟨2, ![5, 1024]⟩
abbrev S8x1024 : Shape := ⟨2, ![8, 1024]⟩

abbrev nBuf : Space → Nat
  | .hbm => 135
  | .vmem => 0
  | .smem => 0
  | _ => 0

abbrev hbmTy0_0 (i : Nat) : BufTy := match i % 128 with
  | 0 => ⟨S16384x12288, .bf16⟩
  | 1 => ⟨S16384x3072, .bf16⟩
  | 2 => ⟨S3x1024, .f32⟩
  | 3 => ⟨S1024, .f32⟩
  | 4 => ⟨S1024x1024, .f32⟩
  | 5 => ⟨S16384x12288, .bf16⟩
  | 6 => ⟨S16384x1024, .bf16⟩
  | 7 => ⟨S16384x1024, .f32⟩
  | 8 => ⟨S16384x1024, .bf16⟩
  | 9 => ⟨S16384x1024, .f32⟩
  | 10 => ⟨S16384x1024, .bf16⟩
  | 11 => ⟨S16384x1024, .f32⟩
  | 12 => ⟨S16384x1024, .bf16⟩
  | 13 => ⟨S16384x1024, .f32⟩
  | 14 => ⟨S_, .f32⟩
  | 15 => ⟨S2x1024, .f32⟩
  | 16 => ⟨S16384x1024, .f32⟩
  | 17 => ⟨S16386x1024, .f32⟩
  | 18 => ⟨S_, .f32⟩
  | 19 => ⟨S2x1024, .f32⟩
  | 20 => ⟨S1x1024, .f32⟩
  | 21 => ⟨S1024, .f32⟩
  | 22 => ⟨S16384x1024, .f32⟩
  | 23 => ⟨S1x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S1x1024, .f32⟩
  | 30 => ⟨S1024, .f32⟩
  | 31 => ⟨S16384x1024, .f32⟩
  | 32 => ⟨S1x1024, .f32⟩
  | 33 => ⟨S16384x1024, .f32⟩
  | 34 => ⟨S16384x1024, .f32⟩
  | 35 => ⟨S16384x1024, .f32⟩
  | 36 => ⟨S1x1024, .f32⟩
  | 37 => ⟨S1024, .f32⟩
  | 38 => ⟨S16384x1024, .f32⟩
  | 39 => ⟨S1x1024, .f32⟩
  | 40 => ⟨S16384x1024, .f32⟩
  | 41 => ⟨S16384x1024, .f32⟩
  | 42 => ⟨S16384x1024, .f32⟩
  | 43 => ⟨S1x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S_, .f32⟩
  | 50 => ⟨S16384x1024, .f32⟩
  | 51 => ⟨S16384x1024, .f32⟩
  | 52 => ⟨S_, .f32⟩
  | 53 => ⟨S16384x1024, .f32⟩
  | 54 => ⟨S16384x1024, .f32⟩
  | 55 => ⟨S_, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S16384x1024, .bf16⟩
  | 63 => ⟨S16384x1024, .f32⟩
  | 64 => ⟨S1024x1024, .f32⟩
  | 65 => ⟨S1024x1024, .f32⟩
  | 66 => ⟨S16384x1024, .f32⟩
  | 67 => ⟨S16384x1024, .f32⟩
  | 68 => ⟨S16384x1024, .f32⟩
  | 69 => ⟨S16384x1024, .f32⟩
  | 70 => ⟨S16384x1024, .f32⟩
  | 71 => ⟨S16384x1024, .f32⟩
  | 72 => ⟨S16384x1024, .f32⟩
  | 73 => ⟨S16384x1024, .f32⟩
  | 74 => ⟨S16384x1024, .f32⟩
  | 75 => ⟨S_, .f32⟩
  | 76 => ⟨S1024, .f32⟩
  | 77 => ⟨S1x1024, .f32⟩
  | 78 => ⟨S_, .f32⟩
  | 79 => ⟨S1024, .f32⟩
  | 80 => ⟨S16384x1024, .f32⟩
  | 81 => ⟨S16384x1024, .f32⟩
  | 82 => ⟨S16384x1024, .f32⟩
  | 83 => ⟨S_, .f32⟩
  | 84 => ⟨S1024, .f32⟩
  | 85 => ⟨S1x1024, .f32⟩
  | 86 => ⟨S_, .f32⟩
  | 87 => ⟨S1024, .f32⟩
  | 88 => ⟨S_, .f32⟩
  | 89 => ⟨S16386x1024, .f32⟩
  | 90 => ⟨S1x1024, .f32⟩
  | 91 => ⟨S_, .f32⟩
  | 92 => ⟨S3x1024, .f32⟩
  | 93 => ⟨S16384x1024, .f32⟩
  | 94 => ⟨S16384x1024, .f32⟩
  | 95 => ⟨S16384x1024, .f32⟩
  | 96 => ⟨S_, .f32⟩
  | 97 => ⟨S1024, .f32⟩
  | 98 => ⟨S1x1024, .f32⟩
  | 99 => ⟨S_, .f32⟩
  | 100 => ⟨S1024, .f32⟩
  | 101 => ⟨S_, .f32⟩
  | 102 => ⟨S16386x1024, .f32⟩
  | 103 => ⟨S16386x1024, .f32⟩
  | 104 => ⟨S1x1024, .f32⟩
  | 105 => ⟨S_, .f32⟩
  | 106 => ⟨S3x1024, .f32⟩
  | 107 => ⟨S3x1024, .f32⟩
  | 108 => ⟨S16384x1024, .f32⟩
  | 109 => ⟨S16384x1024, .f32⟩
  | 110 => ⟨S16384x1024, .f32⟩
  | 111 => ⟨S_, .f32⟩
  | 112 => ⟨S1024, .f32⟩
  | 113 => ⟨S1x1024, .f32⟩
  | 114 => ⟨S_, .f32⟩
  | 115 => ⟨S1024, .f32⟩
  | 116 => ⟨S_, .f32⟩
  | 117 => ⟨S16386x1024, .f32⟩
  | 118 => ⟨S16386x1024, .f32⟩
  | 119 => ⟨S1x1024, .f32⟩
  | 120 => ⟨S_, .f32⟩
  | 121 => ⟨S3x1024, .f32⟩
  | 122 => ⟨S3x1024, .f32⟩
  | 123 => ⟨S2x1024, .f32⟩
  | 124 => ⟨S16384x1024, .f32⟩
  | 125 => ⟨S16384x1024, .f32⟩
  | 126 => ⟨S16384x1024, .f32⟩
  | 127 => ⟨S16384x4096, .f32⟩
  | _ => ⟨S16384x12288, .bf16⟩

abbrev hbmTy0_1 (i : Nat) : BufTy := match i % 128 with
  | 0 => ⟨S16384x4096, .bf16⟩
  | 1 => ⟨S16384x8192, .bf16⟩
  | 2 => ⟨S16384x12288, .bf16⟩
  | 3 => ⟨S_, .f32⟩
  | 4 => ⟨S5x1024, .f32⟩
  | 5 => ⟨S8x1024, .f32⟩
  | 6 => ⟨S1x1024, .f32⟩
  | _ => ⟨S16384x12288, .bf16⟩

abbrev hbmTy (i : Nat) : BufTy := match i / 128 with
  | 0 => hbmTy0_0 i
  | 1 => hbmTy0_1 i
  | _ => ⟨S16384x12288, .bf16⟩

abbrev bufTy : (tb : Table) → Fin (tcTables nBuf tb) → BufTy
  | .hbm, ⟨i, _⟩ => hbmTy i
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_v38_2 : Ref sig .tc := ⟨.hbm, 54, rfl⟩
abbrev main_call0_cst_1 : Ref sig .tc := ⟨.hbm, 55, rfl⟩
abbrev main_call0_v6 : Ref sig .tc := ⟨.hbm, 56, rfl⟩
abbrev main_call0_v7 : Ref sig .tc := ⟨.hbm, 57, rfl⟩
abbrev main_v38_1 : Ref sig .tc := ⟨.hbm, 58, rfl⟩
abbrev main_v38_0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_2 : Ref sig .tc := ⟨.hbm, 75, rfl⟩
abbrev main_v51 : Ref sig .tc := ⟨.hbm, 76, rfl⟩
abbrev main_v52 : Ref sig .tc := ⟨.hbm, 77, rfl⟩
abbrev main_cst_3 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_4 : Ref sig .tc := ⟨.hbm, 83, rfl⟩
abbrev main_v57 : Ref sig .tc := ⟨.hbm, 84, rfl⟩
abbrev main_v58 : Ref sig .tc := ⟨.hbm, 85, rfl⟩
abbrev main_cst_5 : Ref sig .tc := ⟨.hbm, 86, rfl⟩
abbrev main_v59 : Ref sig .tc := ⟨.hbm, 87, rfl⟩
abbrev main_cst_6 : Ref sig .tc := ⟨.hbm, 88, rfl⟩
abbrev main_v60 : Ref sig .tc := ⟨.hbm, 89, rfl⟩
abbrev main_v61 : Ref sig .tc := ⟨.hbm, 90, rfl⟩
abbrev main_cst_7 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_8 : Ref sig .tc := ⟨.hbm, 96, rfl⟩
abbrev main_v66 : Ref sig .tc := ⟨.hbm, 97, rfl⟩
abbrev main_v67 : Ref sig .tc := ⟨.hbm, 98, rfl⟩
abbrev main_cst_9 : Ref sig .tc := ⟨.hbm, 99, rfl⟩
abbrev main_v68 : Ref sig .tc := ⟨.hbm, 100, rfl⟩
abbrev main_cst_10 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_11 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_12 : Ref sig .tc := ⟨.hbm, 111, rfl⟩
abbrev main_v77 : Ref sig .tc := ⟨.hbm, 112, rfl⟩
abbrev main_v78 : Ref sig .tc := ⟨.hbm, 113, rfl⟩
abbrev main_cst_13 : Ref sig .tc := ⟨.hbm, 114, rfl⟩
abbrev main_v79 : Ref sig .tc := ⟨.hbm, 115, rfl⟩
abbrev main_cst_14 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_15 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_16 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩

abbrev nD : Nat := 1
abbrev τ : Topo := Topo.v7x

variable {F : FTy → Type} [FloatOps F]
-- ==== Kernel4.lean ====
abbrev S16384x12288 : Shape := ⟨2, ![16384, 12288]⟩
abbrev S16384x3072 : Shape := ⟨2, ![16384, 3072]⟩
abbrev S4x256x256 : Shape := ⟨3, ![4, 256, 256]⟩
abbrev S1024 : Shape := ⟨1, ![1024]⟩
abbrev S1024x1024 : Shape := ⟨2, ![1024, 1024]⟩
abbrev S1x1024 : Shape := ⟨2, ![1, 1024]⟩
abbrev S512x1024 : Shape := ⟨2, ![512, 1024]⟩
abbrev S32x1024 : Shape := ⟨2, ![32, 1024]⟩
abbrev S512x2048 : Shape := ⟨2, ![512, 2048]⟩
abbrev S544x1024 : Shape := ⟨2, ![544, 1024]⟩
abbrev S536x1024 : Shape := ⟨2, ![536, 1024]⟩
abbrev S528x768 : Shape := ⟨2, ![528, 768]⟩
abbrev S520x512 : Shape := ⟨2, ![520, 512]⟩
abbrev S512x256 : Shape := ⟨2, ![512, 256]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 18
  | .vmem => 27
  | .smem => 0
  | _ => 0

abbrev bufTy : (tb : Table) → Fin (tcTables nBuf tb) → BufTy
  | .hbm, ⟨0, _⟩ => ⟨S16384x12288, .bf16⟩
  | .hbm, ⟨1, _⟩ => ⟨S16384x3072, .bf16⟩
  | .hbm, ⟨2, _⟩ => ⟨S4x256x256, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S16384x12288, .bf16⟩
  | .hbm, ⟨7, _⟩ => ⟨S4x256x256, .bf16⟩
  | .hbm, ⟨8, _⟩ => ⟨S4x256x256, .bf16⟩
  | .hbm, ⟨9, _⟩ => ⟨S1x1024, .f32⟩
  | .hbm, ⟨10, _⟩ => ⟨S1x1024, .f32⟩
  | .hbm, ⟨11, _⟩ => ⟨S1024x1024, .bf16⟩
  | .hbm, ⟨12, _⟩ => ⟨S1024x1024, .bf16⟩
  | .hbm, ⟨13, _⟩ => ⟨S16384x12288, .bf16⟩
  | .hbm, ⟨14, _⟩ => ⟨S1024x1024, .f32⟩
  | .hbm, ⟨15, _⟩ => ⟨S4x256x256, .f32⟩
  | .hbm, ⟨16, _⟩ => ⟨S1x1024, .f32⟩
  | .hbm, ⟨17, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S32x1024, .bf16⟩
  | .local _ .vmem, ⟨3, _⟩ => ⟨S32x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S4x256x256, .bf16⟩
  | .local _ .vmem, ⟨9, _⟩ => ⟨S4x256x256, .bf16⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S512x2048, .bf16⟩
  | .local _ .vmem, ⟨14, _⟩ => ⟨S512x2048, .bf16⟩
  | .local _ .vmem, ⟨15, _⟩ => ⟨S1024x1024, .f32⟩
  | .local _ .vmem, ⟨16, _⟩ => ⟨S4x256x256, .f32⟩
  | .local _ .vmem, ⟨17, _⟩ => ⟨S1x1024, .f32⟩
  | .local _ .vmem, ⟨18, _⟩ => ⟨S1x1024, .f32⟩
  | .local _ .vmem, ⟨19, _⟩ => ⟨S544x1024, .f32⟩
  | .local _ .vmem, ⟨20, _⟩ => ⟨S544x1024, .f32⟩
  | .local _ .vmem, ⟨21, _⟩ => ⟨S544x1024, .f32⟩
  | .local _ .vmem, ⟨22, _⟩ => ⟨S512x1024, .bf16⟩
  | .local _ .vmem, ⟨23, _⟩ => ⟨S512x1024, .f32⟩
  | .local _ .vmem, ⟨24, _⟩ => ⟨S544x1024, .f32⟩
  | .local _ .vmem, ⟨25, _⟩ => ⟨S512x1024, .bf16⟩
  | .local _ .vmem, ⟨26, _⟩ => ⟨S32x1024, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_scratch7 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem13_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  ![v3.toNat, c3_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S16384x12288 : Shape := ⟨2, ![16384, 12288]⟩
abbrev S16384x3072 : Shape := ⟨2, ![16384, 3072]⟩
abbrev S4x256x256 : Shape := ⟨3, ![4, 256, 256]⟩
abbrev S1024 : Shape := ⟨1, ![1024]⟩
abbrev S1024x1024 : Shape := ⟨2, ![1024, 1024]⟩
abbrev S16384x1024 : Shape := ⟨2, ![16384, 1024]⟩
abbrev S_ : Shape := ⟨0, ![]⟩
abbrev S16384 : Shape := ⟨1, ![16384]⟩
abbrev S16384x256 : Shape := ⟨2, ![16384, 256]⟩
abbrev S2x256 : Shape := ⟨2, ![2, 256]⟩
abbrev S16386x256 : Shape := ⟨2, ![16386, 256]⟩
abbrev S16384x1 : Shape := ⟨2, ![16384, 1]⟩
abbrev S4x256 : Shape := ⟨2, ![4, 256]⟩
abbrev S16388x256 : Shape := ⟨2, ![16388, 256]⟩
abbrev S8x256 : Shape := ⟨2, ![8, 256]⟩
abbrev S16392x256 : Shape := ⟨2, ![16392, 256]⟩
abbrev S16x256 : Shape := ⟨2, ![16, 256]⟩
abbrev S16400x256 : Shape := ⟨2, ![16400, 256]⟩
abbrev S16384x4x256 : Shape := ⟨3, ![16384, 4, 256]⟩
abbrev S4x256x16384 : Shape := ⟨3, ![4, 256, 16384]⟩
abbrev S1x1024 : Shape := ⟨2, ![1, 1024]⟩
abbrev S4x16384x256 : Shape := ⟨3, ![4, 16384, 256]⟩
abbrev S16384x2048 : Shape := ⟨2, ![16384, 2048]⟩
abbrev S16384x4096 : Shape := ⟨2, ![16384, 4096]⟩
abbrev S16384x6144 : Shape := ⟨2, ![16384, 6144]⟩

abbrev nBuf : Space → Nat
  | .hbm => 216
  | .vmem => 0
  | .smem => 0
  | _ => 0

abbrev hbmTy0_0 (i : Nat) : BufTy := match i % 128 with
  | 0 => ⟨S16384x12288, .bf16⟩
  | 1 => ⟨S16384x3072, .bf16⟩
  | 2 => ⟨S4x256x256, .f32⟩
  | 3 => ⟨S1024, .f32⟩
  | 4 => ⟨S1024, .f32⟩
  | 5 => ⟨S1024x1024, .f32⟩
  | 6 => ⟨S16384x12288, .bf16⟩
  | 7 => ⟨S16384x1024, .bf16⟩
  | 8 => ⟨S16384x1024, .f32⟩
  | 9 => ⟨S16384x1024, .bf16⟩
  | 10 => ⟨S16384x1024, .f32⟩
  | 11 => ⟨S_, .f32⟩
  | 12 => ⟨S_, .f32⟩
  | 13 => ⟨S16384x1024, .f32⟩
  | 14 => ⟨S16384, .i32⟩
  | 15 => ⟨S_, .i32⟩
  | 16 => ⟨S16384, .i32⟩
  | 17 => ⟨S16384, .i32⟩
  | 18 => ⟨S16384x256, .f32⟩
  | 19 => ⟨S_, .f32⟩
  | 20 => ⟨S2x256, .f32⟩
  | 21 => ⟨S16386x256, .f32⟩
  | 22 => ⟨S_, .f32⟩
  | 23 => ⟨S2x256, .f32⟩
  | 24 => ⟨S16384x256, .f32⟩
  | 25 => ⟨S_, .i32⟩
  | 26 => ⟨S16384, .i32⟩
  | 27 => ⟨S16384, .i32⟩
  | 28 => ⟨S16384, .f32⟩
  | 29 => ⟨S16384x1, .f32⟩
  | 30 => ⟨S16384x256, .f32⟩
  | 31 => ⟨S16384x256, .f32⟩
  | 32 => ⟨S16384x256, .f32⟩
  | 33 => ⟨S16384x256, .f32⟩
  | 34 => ⟨S16384x256, .f32⟩
  | 35 => ⟨S16384x256, .f32⟩
  | 36 => ⟨S_, .f32⟩
  | 37 => ⟨S4x256, .f32⟩
  | 38 => ⟨S16388x256, .f32⟩
  | 39 => ⟨S_, .f32⟩
  | 40 => ⟨S4x256, .f32⟩
  | 41 => ⟨S16384x256, .f32⟩
  | 42 => ⟨S_, .i32⟩
  | 43 => ⟨S16384, .i32⟩
  | 44 => ⟨S16384, .i32⟩
  | 45 => ⟨S16384, .f32⟩
  | 46 => ⟨S16384x1, .f32⟩
  | 47 => ⟨S16384x256, .f32⟩
  | 48 => ⟨S16384x256, .f32⟩
  | 49 => ⟨S16384x256, .f32⟩
  | 50 => ⟨S16384x256, .f32⟩
  | 51 => ⟨S16384x256, .f32⟩
  | 52 => ⟨S16384x256, .f32⟩
  | 53 => ⟨S_, .f32⟩
  | 54 => ⟨S8x256, .f32⟩
  | 55 => ⟨S16392x256, .f32⟩
  | 56 => ⟨S_, .f32⟩
  | 57 => ⟨S8x256, .f32⟩
  | 58 => ⟨S16384x256, .f32⟩
  | 59 => ⟨S_, .i32⟩
  | 60 => ⟨S16384, .i32⟩
  | 61 => ⟨S16384, .i32⟩
  | 62 => ⟨S16384, .f32⟩
  | 63 => ⟨S16384x1, .f32⟩
  | 64 => ⟨S16384x256, .f32⟩
  | 65 => ⟨S16384x256, .f32⟩
  | 66 => ⟨S16384x256, .f32⟩
  | 67 => ⟨S16384x256, .f32⟩
  | 68 => ⟨S16384x256, .f32⟩
  | 69 => ⟨S16384x256, .f32⟩
  | 70 => ⟨S_, .f32⟩
  | 71 => ⟨S16x256, .f32⟩
  | 72 => ⟨S16400x256, .f32⟩
  | 73 => ⟨S_, .f32⟩
  | 74 => ⟨S16x256, .f32⟩
  | 75 => ⟨S16384x256, .f32⟩
  | 76 => ⟨S_, .i32⟩
  | 77 => ⟨S16384, .i32⟩
  | 78 => ⟨S16384, .i32⟩
  | 79 => ⟨S16384, .f32⟩
  | 80 => ⟨S16384x1, .f32⟩
  | 81 => ⟨S16384x256, .f32⟩
  | 82 => ⟨S16384x256, .f32⟩
  | 83 => ⟨S16384x256, .f32⟩
  | 84 => ⟨S16384x256, .f32⟩
  | 85 => ⟨S16384x256, .f32⟩
  | 86 => ⟨S16384x1024, .f32⟩
  | 87 => ⟨S16384x4x256, .f32⟩
  | 88 => ⟨S4x256x16384, .f32⟩
  | 89 => ⟨S16384x4x256, .f32⟩
  | 90 => ⟨S16384x1024, .f32⟩
  | 91 => ⟨S1x1024, .f32⟩
  | 92 => ⟨S16384x1024, .f32⟩
  | 93 => ⟨S16384x1024, .f32⟩
  | 94 => ⟨S1x1024, .f32⟩
  | 95 => ⟨S16384x1024, .f32⟩
  | 96 => ⟨S16384x1024, .f32⟩
  | 97 => ⟨S16384x1024, .f32⟩
  | 98 => ⟨S16384x1024, .f32⟩
  | 99 => ⟨S_, .f32⟩
  | 100 => ⟨S16384x1024, .f32⟩
  | 101 => ⟨S16384x1024, .f32⟩
  | 102 => ⟨S_, .f32⟩
  | 103 => ⟨S16384x1024, .f32⟩
  | 104 => ⟨S16384x1024, .f32⟩
  | 105 => ⟨S_, .f32⟩
  | 106 => ⟨S16384x1024, .f32⟩
  | 107 => ⟨S16384x1024, .f32⟩
  | 108 => ⟨S16384x1024, .f32⟩
  | 109 => ⟨S16384x1024, .f32⟩
  | 110 => ⟨S16384x1024, .f32⟩
  | 111 => ⟨S16384x1024, .f32⟩
  | 112 => ⟨S16384x1024, .bf16⟩
  | 113 => ⟨S16384x1024, .f32⟩
  | 114 => ⟨S1024x1024, .f32⟩
  | 115 => ⟨S1024x1024, .f32⟩
  | 116 => ⟨S16384x1024, .f32⟩
  | 117 => ⟨S16384x1024, .f32⟩
  | 118 => ⟨S16384x1024, .f32⟩
  | 119 => ⟨S16384x1024, .f32⟩
  | 120 => ⟨S16384x1024, .f32⟩
  | 121 => ⟨S16384x1024, .f32⟩
  | 122 => ⟨S16384x1024, .f32⟩
  | 123 => ⟨S16384x1024, .f32⟩
  | 124 => ⟨S_, .f32⟩
  | 125 => ⟨S1024, .f32⟩
  | 126 => ⟨S1x1024, .f32⟩
  | 127 => ⟨S16384x1024, .f32⟩
  | _ => ⟨S16384x12288, .bf16⟩

abbrev hbmTy0_1 (i : Nat) : BufTy := match i % 128 with
  | 0 => ⟨S16384x1024, .f32⟩
  | 1 => ⟨S_, .f32⟩
  | 2 => ⟨S1024, .f32⟩
  | 3 => ⟨S_, .f32⟩
  | 4 => ⟨S1024, .f32⟩
  | 5 => ⟨S1x1024, .f32⟩
  | 6 => ⟨S_, .f32⟩
  | 7 => ⟨S1024, .f32⟩
  | 8 => ⟨S16384x4x256, .f32⟩
  | 9 => ⟨S4x256x16384, .f32⟩
  | 10 => ⟨S4x16384x256, .f32⟩
  | 11 => ⟨S16384x4x256, .f32⟩
  | 12 => ⟨S4x256x256, .f32⟩
  | 13 => ⟨S4x256x256, .f32⟩
  | 14 => ⟨S16384x1024, .f32⟩
  | 15 => ⟨S16384x256, .f32⟩
  | 16 => ⟨S16384x256, .f32⟩
  | 17 => ⟨S16384x256, .f32⟩
  | 18 => ⟨S16384x256, .f32⟩
  | 19 => ⟨S16384x256, .f32⟩
  | 20 => ⟨S_, .f32⟩
  | 21 => ⟨S16384x1024, .f32⟩
  | 22 => ⟨S16384x256, .f32⟩
  | 23 => ⟨S16384x256, .f32⟩
  | 24 => ⟨S16384x256, .f32⟩
  | 25 => ⟨S_, .f32⟩
  | 26 => ⟨S16400x256, .f32⟩
  | 27 => ⟨S16x256, .f32⟩
  | 28 => ⟨S16384x256, .f32⟩
  | 29 => ⟨S16384x256, .f32⟩
  | 30 => ⟨S_, .f32⟩
  | 31 => ⟨S16384x1024, .f32⟩
  | 32 => ⟨S16384x256, .f32⟩
  | 33 => ⟨S_, .f32⟩
  | 34 => ⟨S16384x1024, .f32⟩
  | 35 => ⟨S16384x1024, .f32⟩
  | 36 => ⟨S16384x256, .f32⟩
  | 37 => ⟨S16384x256, .f32⟩
  | 38 => ⟨S16384x256, .f32⟩
  | 39 => ⟨S_, .f32⟩
  | 40 => ⟨S16392x256, .f32⟩
  | 41 => ⟨S8x256, .f32⟩
  | 42 => ⟨S16384x256, .f32⟩
  | 43 => ⟨S16384x256, .f32⟩
  | 44 => ⟨S_, .f32⟩
  | 45 => ⟨S16384x1024, .f32⟩
  | 46 => ⟨S16384x1024, .f32⟩
  | 47 => ⟨S16384x256, .f32⟩
  | 48 => ⟨S_, .f32⟩
  | 49 => ⟨S16384x1024, .f32⟩
  | 50 => ⟨S16384x1024, .f32⟩
  | 51 => ⟨S16384x256, .f32⟩
  | 52 => ⟨S16384x256, .f32⟩
  | 53 => ⟨S16384x256, .f32⟩
  | 54 => ⟨S_, .f32⟩
  | 55 => ⟨S16388x256, .f32⟩
  | 56 => ⟨S4x256, .f32⟩
  | 57 => ⟨S16384x256, .f32⟩
  | 58 => ⟨S16384x256, .f32⟩
  | 59 => ⟨S_, .f32⟩
  | 60 => ⟨S16384x1024, .f32⟩
  | 61 => ⟨S16384x1024, .f32⟩
  | 62 => ⟨S16384x256, .f32⟩
  | 63 => ⟨S_, .f32⟩
  | 64 => ⟨S16384x1024, .f32⟩
  | 65 => ⟨S16384x1024, .f32⟩
  | 66 => ⟨S16384x256, .f32⟩
  | 67 => ⟨S16384x256, .f32⟩
  | 68 => ⟨S16384x256, .f32⟩
  | 69 => ⟨S_, .f32⟩
  | 70 => ⟨S16386x256, .f32⟩
  | 71 => ⟨S2x256, .f32⟩
  | 72 => ⟨S16384x256, .f32⟩
  | 73 => ⟨S16384x256, .f32⟩
  | 74 => ⟨S_, .f32⟩
  | 75 => ⟨S16384x1024, .f32⟩
  | 76 => ⟨S16384x1024, .f32⟩
  | 77 => ⟨S_, .f32⟩
  | 78 => ⟨S_, .f32⟩
  | 79 => ⟨S16384x1024, .f32⟩
  | 80 => ⟨S16384x1024, .f32⟩
  | 81 => ⟨S16384x2048, .f32⟩
  | 82 => ⟨S16384x2048, .bf16⟩
  | 83 => ⟨S16384x4096, .bf16⟩
  | 84 => ⟨S16384x6144, .bf16⟩
  | 85 => ⟨S16384x12288, .bf16⟩
  | 86 => ⟨S1x1024, .f32⟩
  | 87 => ⟨S1x1024, .f32⟩
  | _ => ⟨S16384x12288, .bf16⟩

abbrev hbmTy (i : Nat) : BufTy := match i / 128 with
  | 0 => hbmTy0_0 i
  | 1 => hbmTy0_1 i
  | _ => ⟨S16384x12288, .bf16⟩

abbrev bufTy : (tb : Table) → Fin (tcTables nBuf tb) → BufTy
  | .hbm, ⟨i, _⟩ => hbmTy i
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_call0_cst : Ref sig .tc := ⟨.hbm, 11, rfl⟩
abbrev main_call0_call0_v0 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_c_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_cst_9 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_v75_2 : Ref sig .tc := ⟨.hbm, 104, rfl⟩
abbrev main_call1_cst_1 : Ref sig .tc := ⟨.hbm, 105, rfl⟩
abbrev main_call1_v6 : Ref sig .tc := ⟨.hbm, 106, rfl⟩
abbrev main_call1_v7 : Ref sig .tc := ⟨.hbm, 107, rfl⟩
abbrev main_v75_1 : Ref sig .tc := ⟨.hbm, 108, rfl⟩
abbrev main_v75_0 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call2_v0 : Ref sig .tc := ⟨.hbm, 119, rfl⟩
abbrev main_call2_v1 : Ref sig .tc := ⟨.hbm, 120, rfl⟩
abbrev main_call2_v2 : Ref sig .tc := ⟨.hbm, 121, rfl⟩
abbrev main_v85 : Ref sig .tc := ⟨.hbm, 122, rfl⟩
abbrev main_v86 : Ref sig .tc := ⟨.hbm, 123, rfl⟩
abbrev main_cst_11 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_12 : Ref sig .tc := ⟨.hbm, 129, rfl⟩
abbrev main_v91 : Ref sig .tc := ⟨.hbm, 130, rfl⟩
abbrev main_cst_13 : Ref sig .tc := ⟨.hbm, 131, rfl⟩
abbrev main_v92 : Ref sig .tc := ⟨.hbm, 132, rfl⟩
abbrev main_v93 : Ref sig .tc := ⟨.hbm, 133, rfl⟩
abbrev main_cst_14 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_15 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_16 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_17 : Ref sig .tc := ⟨.hbm, 158, rfl⟩
abbrev main_v115 : Ref sig .tc := ⟨.hbm, 159, rfl⟩
abbrev main_v116 : Ref sig .tc := ⟨.hbm, 160, rfl⟩
abbrev main_cst_18 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_cst_19 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_20 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_21 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_22 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_23 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_24 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_25 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_26 : Ref sig .tc := ⟨.hbm, 202, rfl⟩
abbrev main_v150 : Ref sig .tc := ⟨.hbm, 203, rfl⟩
abbrev main_v151 : Ref sig .tc := ⟨.hbm, 204, rfl⟩
abbrev main_call3_call0_cst : Ref sig .tc := ⟨.hbm, 205, rfl⟩
abbrev main_call3_call0_v0 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩

abbrev nD : Nat := 1
abbrev τ : Topo := Topo.v7x

variable {F : FTy → Type} [FloatOps F]
-- ==== Kernel5.lean ====
abbrev S16384x12288 : Shape := ⟨2, ![16384, 12288]⟩
abbrev S16384x3072 : Shape := ⟨2, ![16384, 3072]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S128x128 : Shape := ⟨2, ![128, 128]⟩
abbrev S1x128x128 : Shape := ⟨3, ![1, 128, 128]⟩
abbrev S_ : Shape := ⟨0, ![]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1x128 : Shape := ⟨2, ![1, 128]⟩

abbrev nBuf : Space → Nat
  | .hbm => 30
  | .vmem => 27
  | .smem => 0
  | _ => 0

abbrev bufTy : (tb : Table) → Fin (tcTables nBuf tb) → BufTy
  | .hbm, ⟨0, _⟩ => ⟨S16384x12288, .bf16⟩
  | .hbm, ⟨1, _⟩ => ⟨S16384x3072, .bf16⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S16384x12288, .bf16⟩
  | .hbm, ⟨8, _⟩ => ⟨S128x128, .i1⟩
  | .hbm, ⟨9, _⟩ => ⟨S1x128x128, .i1⟩
  | .hbm, ⟨10, _⟩ => ⟨S_, .f32⟩
  | .hbm, ⟨11, _⟩ => ⟨S_, .f32⟩
  | .hbm, ⟨12, _⟩ => ⟨S8x128x128, .i1⟩
  | .hbm, ⟨13, _⟩ => ⟨S8x128x128, .f32⟩
  | .hbm, ⟨14, _⟩ => ⟨S8x128x128, .f32⟩
  | .hbm, ⟨15, _⟩ => ⟨S8x128x128, .bf16⟩
  | .hbm, ⟨16, _⟩ => ⟨S8x128x128, .bf16⟩
  | .hbm, ⟨17, _⟩ => ⟨S128x8, .f32⟩
  | .hbm, ⟨18, _⟩ => ⟨S128x8x128, .f32⟩
  | .hbm, ⟨19, _⟩ => ⟨S128x1024, .f32⟩
  | .hbm, ⟨20, _⟩ => ⟨S1x1024, .f32⟩
  | .hbm, ⟨21, _⟩ => ⟨S1x1024, .f32⟩
  | .hbm, ⟨22, _⟩ => ⟨S1024x1024, .bf16⟩
  | .hbm, ⟨23, _⟩ => ⟨S1024x1024, .bf16⟩
  | .hbm, ⟨24, _⟩ => ⟨S16384x12288, .bf16⟩
  | .hbm, ⟨25, _⟩ => ⟨S1024x1024, .f32⟩
  | .hbm, ⟨26, _⟩ => ⟨S8x128x128, .f32⟩
  | .hbm, ⟨27, _⟩ => ⟨S8x128, .f32⟩
  | .hbm, ⟨28, _⟩ => ⟨S1x1024, .f32⟩
  | .hbm, ⟨29, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S8x128x128, .bf16⟩
  | .local _ .vmem, ⟨11, _⟩ => ⟨S8x128x128, .bf16⟩
  | .local _ .vmem, ⟨12, _⟩ => ⟨S128x1024, .f32⟩
  | .local _ .vmem, ⟨13, _⟩ => ⟨S1024x1024, .bf16⟩
  | .local _ .vmem, ⟨14, _⟩ => ⟨S512x3072, .bf16⟩
  | .local _ .vmem, ⟨15, _⟩ => ⟨S512x3072, .bf16⟩
  | .local _ .vmem, ⟨16, _⟩ => ⟨S1024x1024, .f32⟩
  | .local _ .vmem, ⟨17, _⟩ => ⟨S8x128x128, .f32⟩
  | .local _ .vmem, ⟨18, _⟩ => ⟨S8x128, .f32⟩
  | .local _ .vmem, ⟨19, _⟩ => ⟨S1x1024, .f32⟩
  | .local _ .vmem, ⟨20, _⟩ => ⟨S1x1024, .f32⟩
  | .local _ .vmem, ⟨21, _⟩ => ⟨S512x1024, .bf16⟩
  | .local _ .vmem, ⟨22, _⟩ => ⟨S512x1024, .f32⟩
  | .local _ .vmem, ⟨23, _⟩ => ⟨S512x1024, .bf16⟩
  | .local _ .vmem, ⟨24, _⟩ => ⟨S512x1024, .f32⟩
  | .local _ .vmem, ⟨25, _⟩ => ⟨S512x1024, .f32⟩
  | .local _ .vmem, ⟨26, _⟩ => ⟨S8x128x128, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev main_v11_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1199 : BitVec 1 := Scalar.cmpi .eq arg0 c31_i32
  let v1200 : BitVec 32 := Scalar.extui v1199
  let c0_i32_1182 : BitVec 32 := 0#32
  let v1201 : BitVec 1 := Scalar.cmpi .ne v1200 c0_i32_1182
  v1201

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1024x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== Kernel5Ideal.lean ====
variable {F : FTy → Type} [FloatOps F] [Named F]
def κ : String → Option EReal := fun
  | "gelu_3k1" => some ((26829 / 200000 : ℝ) : EReal)
  | "gelu_k1" => some ((8943 / 200000 : ℝ) : EReal)
  | _ => none
-- ==== Reference5Ideal.lean ====
abbrev S16384x12288 : Shape := ⟨2, ![16384, 12288]⟩
abbrev S16384x3072 : Shape := ⟨2, ![16384, 3072]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S128x128x8x128 : Shape := ⟨4, ![128, 128, 8, 128]⟩
abbrev S8x128x128x128 : Shape := ⟨4, ![8, 128, 128, 128]⟩
abbrev S128x8 : Shape := ⟨2, ![128, 8]⟩
abbrev S128x8x1 : Shape := ⟨3, ![128, 8, 1]⟩
abbrev S1x128x8x1 : Shape := ⟨4, ![1, 128, 8, 1]⟩
abbrev S16384x6144 : Shape := ⟨2, ![16384, 6144]⟩

abbrev nBuf : Space → Nat
  | .hbm => 276
  | .vmem => 0
  | .smem => 0
  | _ => 0

abbrev hbmTy0_0 (i : Nat) : BufTy := match i % 128 with
  | 0 => ⟨S16384x12288, .bf16⟩
  | 1 => ⟨S16384x3072, .bf16⟩
  | 2 => ⟨S1024, .f32⟩
  | 3 => ⟨S1024, .f32⟩
  | 4 => ⟨S8x128x128, .f32⟩
  | 5 => ⟨S8x128, .f32⟩
  | 6 => ⟨S1024x1024, .f32⟩
  | 7 => ⟨S16384x12288, .bf16⟩
  | 8 => ⟨S16384x1024, .bf16⟩
  | 9 => ⟨S16384x1024, .f32⟩
  | 10 => ⟨S16384x1024, .bf16⟩
  | 11 => ⟨S16384x1024, .f32⟩
  | 12 => ⟨S16384x1024, .bf16⟩
  | 13 => ⟨S16384x1024, .f32⟩
  | 14 => ⟨S_, .f32⟩
  | 15 => ⟨S_, .f32⟩
  | 16 => ⟨S_, .f32⟩
  | 17 => ⟨S16384x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S16384x1024, .f32⟩
  | 25 => ⟨S16384x1024, .f32⟩
  | 26 => ⟨S_, .f32⟩
  | 27 => ⟨S16384x1024, .f32⟩
  | 28 => ⟨S16384x1024, .f32⟩
  | 29 => ⟨S16384x1024, .f32⟩
  | 30 => ⟨S_, .f32⟩
  | 31 => ⟨S16384x1024, .f32⟩
  | 32 => ⟨S16384x1024, .f32⟩
  | 33 => ⟨S_, .f32⟩
  | 34 => ⟨S16384x1024, .f32⟩
  | 35 => ⟨S16384x1024, .f32⟩
  | 36 => ⟨S16384x1024, .f32⟩
  | 37 => ⟨S_, .f32⟩
  | 38 => ⟨S16384x1024, .f32⟩
  | 39 => ⟨S16384x1024, .f32⟩
  | 40 => ⟨S_, .f32⟩
  | 41 => ⟨S16384x1024, .f32⟩
  | 42 => ⟨S16384x1024, .f32⟩
  | 43 => ⟨S16384x1024, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S16384x1024, .f32⟩
  | 51 => ⟨S16384x1024, .f32⟩
  | 52 => ⟨S16384x1024, .f32⟩
  | 53 => ⟨S_, .f32⟩
  | 54 => ⟨S16384x1024, .f32⟩
  | 55 => ⟨S16384x1024, .f32⟩
  | 56 => ⟨S_, .f32⟩
  | 57 => ⟨S16384, .f32⟩
  | 58 => ⟨S16384x1, .f32⟩
  | 59 => ⟨S_, .f32⟩
  | 60 => ⟨S16384x1, .f32⟩
  | 61 => ⟨S16384x1, .f32⟩
  | 62 => ⟨S16384x1024, .f32⟩
  | 63 => ⟨S16384x1024, .f32⟩
  | 64 => ⟨S_, .f32⟩
  | 65 => ⟨S16384x1, .f32⟩
  | 66 => ⟨S16384x1, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x1024, .f32⟩
  | 73 => ⟨S16384x1024, .f32⟩
  | 74 => ⟨S1x1024, .f32⟩
  | 75 => ⟨S16384x1024, .f32⟩
  | 76 => ⟨S16384x1024, .f32⟩
  | 77 => ⟨S1x1024, .f32⟩
  | 78 => ⟨S16384x1024, .f32⟩
  | 79 => ⟨S16384x1024, .f32⟩
  | 80 => ⟨S128, .i32⟩
  | 81 => ⟨S_, .i32⟩
  | 82 => ⟨S_, .i32⟩
  | 83 => ⟨S128, .i32⟩
  | 84 => ⟨S128, .i32⟩
  | 85 => ⟨S128, .i32⟩
  | 86 => ⟨S_, .i32⟩
  | 87 => ⟨S128, .i32⟩
  | 88 => ⟨S128, .i1⟩
  | 89 => ⟨S128, .i32⟩
  | 90 => ⟨S128, .i32⟩
  | 91 => ⟨S_, .i32⟩
  | 92 => ⟨S128, .i32⟩
  | 93 => ⟨S128, .i1⟩
  | 94 => ⟨S128, .i1⟩
  | 95 => ⟨S_, .i32⟩
  | 96 => ⟨S128, .i32⟩
  | 97 => ⟨S128, .i32⟩
  | 98 => ⟨S128, .i32⟩
  | 99 => ⟨S1x128, .i32⟩
  | 100 => ⟨S128x1, .i32⟩
  | 101 => ⟨S128x128, .i32⟩
  | 102 => ⟨S128x128, .i32⟩
  | 103 => ⟨S128x128, .i1⟩
  | 104 => ⟨S1x128x128, .i1⟩
  | 105 => ⟨S_, .f32⟩
  | 106 => ⟨S8x128x128, .f32⟩
  | 107 => ⟨S8x128x128, .i1⟩
  | 108 => ⟨S8x128x128, .f32⟩
  | 109 => ⟨S_, .f32⟩
  | 110 => ⟨S8x128x128, .f32⟩
  | 111 => ⟨S128x128x8x128, .f32⟩
  | 112 => ⟨S8x128x128x128, .f32⟩
  | 113 => ⟨S128x128x8x128, .f32⟩
  | 114 => ⟨S128x8, .f32⟩
  | 115 => ⟨S128x8x1, .f32⟩
  | 116 => ⟨S1x128x8x1, .f32⟩
  | 117 => ⟨S128x128x8x128, .f32⟩
  | 118 => ⟨S128x128x8x128, .f32⟩
  | 119 => ⟨S_, .f32⟩
  | 120 => ⟨S_, .f32⟩
  | 121 => ⟨S_, .f32⟩
  | 122 => ⟨S16384x1024, .f32⟩
  | 123 => ⟨S16384x1024, .f32⟩
  | 124 => ⟨S16384x1024, .f32⟩
  | 125 => ⟨S_, .f32⟩
  | 126 => ⟨S16384x1024, .f32⟩
  | 127 => ⟨S16384x1024, .f32⟩
  | _ => ⟨S16384x12288, .bf16⟩

abbrev hbmTy0_1 (i : Nat) : BufTy := match i % 128 with
  | 0 => ⟨S16384x1024, .f32⟩
  | 1 => ⟨S16384x1024, .f32⟩
  | 2 => ⟨S16384x1024, .f32⟩
  | 3 => ⟨S_, .f32⟩
  | 4 => ⟨S16384x1024, .f32⟩
  | 5 => ⟨S16384x1024, .f32⟩
  | 6 => ⟨S16384x1024, .f32⟩
  | 7 => ⟨S_, .f32⟩
  | 8 => ⟨S16384x1024, .f32⟩
  | 9 => ⟨S16384x1024, .f32⟩
  | 10 => ⟨S_, .f32⟩
  | 11 => ⟨S16384x1024, .f32⟩
  | 12 => ⟨S16384x1024, .f32⟩
  | 13 => ⟨S16384x1024, .f32⟩
  | 14 => ⟨S_, .f32⟩
  | 15 => ⟨S16384x1024, .f32⟩
  | 16 => ⟨S16384x1024, .f32⟩
  | 17 => ⟨S_, .f32⟩
  | 18 => ⟨S16384x1024, .f32⟩
  | 19 => ⟨S16384x1024, .f32⟩
  | 20 => ⟨S16384x1024, .f32⟩
  | 21 => ⟨S16384x1024, .f32⟩
  | 22 => ⟨S16384x1024, .f32⟩
  | 23 => ⟨S16384x1024, .f32⟩
  | 24 => ⟨S16384x1024, .f32⟩
  | 25 => ⟨S_, .f32⟩
  | 26 => ⟨S16384x1024, .f32⟩
  | 27 => ⟨S16384x1024, .f32⟩
  | 28 => ⟨S_, .f32⟩
  | 29 => ⟨S16384x1024, .f32⟩
  | 30 => ⟨S16384x1024, .f32⟩
  | 31 => ⟨S_, .f32⟩
  | 32 => ⟨S16384x1024, .f32⟩
  | 33 => ⟨S16384x1024, .f32⟩
  | 34 => ⟨S16384x1024, .f32⟩
  | 35 => ⟨S16384x1024, .f32⟩
  | 36 => ⟨S16384x1024, .f32⟩
  | 37 => ⟨S16384x1024, .f32⟩
  | 38 => ⟨S16384x1024, .bf16⟩
  | 39 => ⟨S16384x1024, .f32⟩
  | 40 => ⟨S1024x1024, .f32⟩
  | 41 => ⟨S1024x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S16384x1024, .f32⟩
  | 49 => ⟨S16384x1024, .f32⟩
  | 50 => ⟨S16384x1024, .f32⟩
  | 51 => ⟨S128x128x8x128, .f32⟩
  | 52 => ⟨S16384x1024, .f32⟩
  | 53 => ⟨S16384x1024, .f32⟩
  | 54 => ⟨S_, .f32⟩
  | 55 => ⟨S16384x1024, .f32⟩
  | 56 => ⟨S16384x1024, .f32⟩
  | 57 => ⟨S16384x1024, .f32⟩
  | 58 => ⟨S_, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S16384x1024, .f32⟩
  | 66 => ⟨S_, .f32⟩
  | 67 => ⟨S128x8, .f32⟩
  | 68 => ⟨S1x128x8x1, .f32⟩
  | 69 => ⟨S_, .f32⟩
  | 70 => ⟨S128x8, .f32⟩
  | 71 => ⟨S128x8x1, .f32⟩
  | 72 => ⟨S_, .f32⟩
  | 73 => ⟨S128x8, .f32⟩
  | 74 => ⟨S8x128, .f32⟩
  | 75 => ⟨S8x128x128x128, .f32⟩
  | 76 => ⟨S8x128x128, .f32⟩
  | 77 => ⟨S8x128x128x128, .f32⟩
  | 78 => ⟨S128x128x8x128, .f32⟩
  | 79 => ⟨S16384x1024, .f32⟩
  | 80 => ⟨S_, .f32⟩
  | 81 => ⟨S8x128x128, .f32⟩
  | 82 => ⟨S8x128x128, .f32⟩
  | 83 => ⟨S_, .f32⟩
  | 84 => ⟨S1024, .f32⟩
  | 85 => ⟨S1x1024, .f32⟩
  | 86 => ⟨S_, .f32⟩
  | 87 => ⟨S1024, .f32⟩
  | 88 => ⟨S16384x1024, .f32⟩
  | 89 => ⟨S_, .f32⟩
  | 90 => ⟨S1024, .f32⟩
  | 91 => ⟨S1x1024, .f32⟩
  | 92 => ⟨S16384x1024, .f32⟩
  | 93 => ⟨S16384x1024, .f32⟩
  | 94 => ⟨S_, .f32⟩
  | 95 => ⟨S1024, .f32⟩
  | 96 => ⟨S16384x1024, .f32⟩
  | 97 => ⟨S_, .f32⟩
  | 98 => ⟨S16384, .f32⟩
  | 99 => ⟨S16384x1, .f32⟩
  | 100 => ⟨S16384x1024, .f32⟩
  | 101 => ⟨S16384x1024, .f32⟩
  | 102 => ⟨S16384x1, .f32⟩
  | 103 => ⟨S16384x1024, .f32⟩
  | 104 => ⟨S_, .f32⟩
  | 105 => ⟨S16384, .f32⟩
  | 106 => ⟨S16384x1, .f32⟩
  | 107 => ⟨S_, .f32⟩
  | 108 => ⟨S16384x1, .f32⟩
  | 109 => ⟨S16384x1, .f32⟩
  | 110 => ⟨S_, .f32⟩
  | 111 => ⟨S16384, .f32⟩
  | 112 => ⟨S16384x1024, .f32⟩
  | 113 => ⟨S16384x1024, .f32⟩
  | 114 => ⟨S16384x1024, .f32⟩
  | 115 => ⟨S_, .f32⟩
  | 116 => ⟨S16384, .f32⟩
  | 117 => ⟨S16384x1, .f32⟩
  | 118 => ⟨S16384x1024, .f32⟩
  | 119 => ⟨S16384x1, .f32⟩
  | 120 => ⟨S_, .f32⟩
  | 121 => ⟨S16384x1, .f32⟩
  | 122 => ⟨S16384x1, .f32⟩
  | 123 => ⟨S_, .f32⟩
  | 124 => ⟨S16384, .f32⟩
  | 125 => ⟨S16384x1024, .f32⟩
  | 126 => ⟨S16384x1024, .f32⟩
  | 127 => ⟨S16384x1024, .f32⟩
  | _ => ⟨S16384x12288, .bf16⟩

abbrev hbmTy0_2 (i : Nat) : BufTy := match i % 128 with
  | 0 => ⟨S16384x1024, .f32⟩
  | 1 => ⟨S_, .f32⟩
  | 2 => ⟨S16384x1024, .f32⟩
  | 3 => ⟨S16384x1024, .f32⟩
  | 4 => ⟨S16384x1024, .f32⟩
  | 5 => ⟨S_, .f32⟩
  | 6 => ⟨S16384x1024, .f32⟩
  | 7 => ⟨S16384x1024, .f32⟩
  | 8 => ⟨S16384x1024, .f32⟩
  | 9 => ⟨S16384x1024, .f32⟩
  | 10 => ⟨S16384x1024, .f32⟩
  | 11 => ⟨S16384x1024, .f32⟩
  | 12 => ⟨S16384x1024, .f32⟩
  | 13 => ⟨S16384x3072, .f32⟩
  | 14 => ⟨S16384x3072, .bf16⟩
  | 15 => ⟨S16384x6144, .bf16⟩
  | 16 => ⟨S16384x3072, .bf16⟩
  | 17 => ⟨S16384x12288, .bf16⟩
  | 18 => ⟨S1x1024, .f32⟩
  | 19 => ⟨S1x1024, .f32⟩
  | _ => ⟨S16384x12288, .bf16⟩

abbrev hbmTy (i : Nat) : BufTy := match i / 128 with
  | 0 => hbmTy0_0 i
  | 1 => hbmTy0_1 i
  | 2 => hbmTy0_2 i
  | _ => ⟨S16384x12288, .bf16⟩

abbrev bufTy : (tb : Table) → Fin (tcTables nBuf tb) → BufTy
  | .hbm, ⟨i, _⟩ => hbmTy i
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_cst_11 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_12 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c : Ref sig .tc := ⟨.hbm, 81, rfl⟩
abbrev main_call0_v0 : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_v5 : Ref sig .tc := ⟨.hbm, 87, rfl⟩
abbrev main_call0_v6 : Ref sig .tc := ⟨.hbm, 88, rfl⟩
abbrev main_call0_v7 : Ref sig .tc := ⟨.hbm, 89, rfl⟩
abbrev main_call0_v8 : Ref sig .tc := ⟨.hbm, 90, rfl⟩
abbrev main_call0_c : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_c_0 : Ref sig .tc := ⟨.hbm, 95, rfl⟩
abbrev main_call0_v12 : Ref sig .tc := ⟨.hbm, 96, rfl⟩
abbrev main_call0_v13 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_cst_14 : Ref sig .tc := ⟨.hbm, 105, rfl⟩
abbrev main_v65 : Ref sig .tc := ⟨.hbm, 106, rfl⟩
abbrev main_v66_1 : Ref sig .tc := ⟨.hbm, 107, rfl⟩
abbrev main_v66_0 : Ref sig .tc := ⟨.hbm, 108, rfl⟩
abbrev main_call1_cst : Ref sig .tc := ⟨.hbm, 109, rfl⟩
abbrev main_v66_2 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_15 : Ref sig .tc := ⟨.hbm, 119, rfl⟩
abbrev main_cst_16 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_cst_17 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_18 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_cst_19 : Ref sig .tc := ⟨.hbm, 135, rfl⟩
abbrev main_v87 : Ref sig .tc := ⟨.hbm, 136, rfl⟩
abbrev main_v88 : Ref sig .tc := ⟨.hbm, 137, rfl⟩
abbrev main_cst_20 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_cst_21 : Ref sig .tc := ⟨.hbm, 142, rfl⟩
abbrev main_v92 : Ref sig .tc := ⟨.hbm, 143, rfl⟩
abbrev main_v93 : Ref sig .tc := ⟨.hbm, 144, rfl⟩
abbrev main_cst_22 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_call2_v0 : Ref sig .tc := ⟨.hbm, 151, rfl⟩
abbrev main_call2_v1 : Ref sig .tc := ⟨.hbm, 152, rfl⟩
abbrev main_call2_cst : Ref sig .tc := ⟨.hbm, 153, rfl⟩
abbrev main_call2_v2 : Ref sig .tc := ⟨.hbm, 154, rfl⟩
abbrev main_call2_v3 : Ref sig .tc := ⟨.hbm, 155, rfl⟩
abbrev main_call2_cst_0 : Ref sig .tc := ⟨.hbm, 156, rfl⟩
abbrev main_call2_v4 : Ref sig .tc := ⟨.hbm, 157, rfl⟩
abbrev main_v99_2 : Ref sig .tc := ⟨.hbm, 158, rfl⟩
abbrev main_call2_cst_1 : Ref sig .tc := ⟨.hbm, 159, rfl⟩
abbrev main_call2_v6 : Ref sig .tc := ⟨.hbm, 160, rfl⟩
abbrev main_call2_v7 : Ref sig .tc := ⟨.hbm, 161, rfl⟩
abbrev main_v99_1 : Ref sig .tc := ⟨.hbm, 162, rfl⟩
abbrev main_v99_0 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_call3_v0 : Ref sig .tc := ⟨.hbm, 173, rfl⟩
abbrev main_call3_v1 : Ref sig .tc := ⟨.hbm, 174, rfl⟩
abbrev main_call3_v2 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_23 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_24 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_cst_25 : Ref sig .tc := ⟨.hbm, 194, rfl⟩
abbrev main_v125 : Ref sig .tc := ⟨.hbm, 195, rfl⟩
abbrev main_v126 : Ref sig .tc := ⟨.hbm, 196, rfl⟩
abbrev main_cst_26 : Ref sig .tc := ⟨.hbm, 197, rfl⟩
abbrev main_v127 : Ref sig .tc := ⟨.hbm, 198, rfl⟩
abbrev main_v128 : Ref sig .tc := ⟨.hbm, 199, rfl⟩
abbrev main_cst_27 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_call4_cst : Ref sig .tc := ⟨.hbm, 208, rfl⟩
abbrev main_call4_v0 : Ref sig .tc := ⟨.hbm, 209, rfl⟩
abbrev main_v136 : Ref sig .tc := ⟨.hbm, 210, rfl⟩
abbrev main_cst_28 : Ref sig .tc := ⟨.hbm, 211, rfl⟩
abbrev main_v137 : Ref sig .tc := ⟨.hbm, 212, rfl⟩
abbrev main_v138 : Ref sig .tc := ⟨.hbm, 213, rfl⟩
abbrev main_cst_29 : Ref sig .tc := ⟨.hbm, 214, rfl⟩
abbrev main_v139 : Ref sig .tc := ⟨.hbm, 215, rfl⟩
abbrev main_v140 : Ref sig .tc := ⟨.hbm, 216, rfl⟩
abbrev main_cst_30 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_cst_31 : Ref sig .tc := ⟨.hbm, 222, rfl⟩
abbrev main_v145 : Ref sig .tc := ⟨.hbm, 223, rfl⟩
abbrev main_v146 : Ref sig .tc := ⟨.hbm, 224, rfl⟩
abbrev main_cst_32 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_cst_33 : Ref sig .tc := ⟨.hbm, 232, rfl⟩
abbrev main_v153 : Ref sig .tc := ⟨.hbm, 233, rfl⟩
abbrev main_v154 : Ref sig .tc := ⟨.hbm, 234, rfl⟩
abbrev main_cst_34 : Ref sig .tc := ⟨.hbm, 235, rfl⟩
abbrev main_v155 : Ref sig .tc := ⟨.hbm, 236, rfl⟩
abbrev main_v156 : Ref sig .tc := ⟨.hbm, 237, rfl⟩
abbrev main_cst_35 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_cst_36 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_cst_37 : Ref sig .tc := ⟨.hbm, 248, rfl⟩
abbrev main_v165 : Ref sig .tc := ⟨.hbm, 249, rfl⟩
abbrev main_v166 : Ref sig .tc := ⟨.hbm, 250, rfl⟩
abbrev main_cst_38 : Ref sig .tc := ⟨.hbm, 251, rfl⟩
abbrev main_v167 : Ref sig .tc := ⟨.hbm, 252, rfl⟩
abbrev main_v168 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_cst_39 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_cst_40 : Ref sig .tc := ⟨.hbm, 261, rfl⟩
abbrev main_v175 : Ref sig .tc := ⟨.hbm, 262, rfl⟩
abbrev main_v176 : Ref sig .tc := ⟨.hbm, 263, rfl⟩
abbrev main_v177 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x12288 : Shape := ⟨2, ![1024, 12288]⟩
abbrev S16384x12288 : Shape := ⟨2, ![16384, 12288]⟩
abbrev S12288x1024 : Shape := ⟨2, ![12288, 1024]⟩
abbrev S12x1024x1024 : Shape := ⟨3, ![12, 1024, 1024]⟩
abbrev S1x1024x1024 : Shape := ⟨3, ![1, 1024, 1024]⟩
abbrev S1024x1024 : Shape := ⟨2, ![1024, 1024]⟩
abbrev S1x1024 : Shape := ⟨2, ![1, 1024]⟩
abbrev S1024x2048 : Shape := ⟨2, ![1024, 2048]⟩
abbrev S2048x1024 : Shape := ⟨2, ![2048, 1024]⟩
abbrev S1024x1 : Shape := ⟨2, ![1024, 1]⟩

abbrev nBuf : Space → Nat
  | .hbm => 36
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x12288, .f32⟩
  | .hbm, ⟨3, _⟩ => ⟨S16384x12288, .bf16⟩
  | .hbm, ⟨4, _⟩ => ⟨S16384x1024, .f32⟩
  | .hbm, ⟨5, _⟩ => ⟨S1024x12288, .bf16⟩
  | .hbm, ⟨6, _⟩ => ⟨S12288x1024, .bf16⟩
  | .hbm, ⟨7, _⟩ => ⟨S12x1024x1024, .bf16⟩
  | .hbm, ⟨8, _⟩ => ⟨S1x1024x1024, .bf16⟩
  | .hbm, ⟨9, _⟩ => ⟨S1024x1024, .bf16⟩
  | .hbm, ⟨10, _⟩ => ⟨S1x1024x1024, .bf16⟩
  | .hbm, ⟨11, _⟩ => ⟨S1024x1024, .bf16⟩
  | .hbm, ⟨12, _⟩ => ⟨S1x1024x1024, .bf16⟩
  | .hbm, ⟨13, _⟩ => ⟨S1024x1024, .bf16⟩
  | .hbm, ⟨14, _⟩ => ⟨S1x1024x1024, .bf16⟩
  | .hbm, ⟨15, _⟩ => ⟨S1024x1024, .bf16⟩
  | .hbm, ⟨16, _⟩ => ⟨S1x1024x1024, .bf16⟩
  | .hbm, ⟨17, _⟩ => ⟨S1024x1024, .bf16⟩
  | .hbm, ⟨18, _⟩ => ⟨S1x1024x1024, .bf16⟩
  | .hbm, ⟨19, _⟩ => ⟨S1024x1024, .bf16⟩
  | .hbm, ⟨20, _⟩ => ⟨S1x1024x1024, .bf16⟩
  | .hbm, ⟨21, _⟩ => ⟨S1024x1024, .bf16⟩
  | .hbm, ⟨22, _⟩ => ⟨S1x1024x1024, .bf16⟩
  | .hbm, ⟨23, _⟩ => ⟨S1024x1024, .bf16⟩
  | .hbm, ⟨24, _⟩ => ⟨S1x1024x1024, .bf16⟩
  | .hbm, ⟨25, _⟩ => ⟨S1024x1024, .bf16⟩
  | .hbm, ⟨26, _⟩ => ⟨S1x1024x1024, .bf16⟩
  | .hbm, ⟨27, _⟩ => ⟨S1024x1024, .bf16⟩
  | .hbm, ⟨28, _⟩ => ⟨S1x1024x1024, .bf16⟩
  | .hbm, ⟨29, _⟩ => ⟨S1024x1024, .bf16⟩
  | .hbm, ⟨30, _⟩ => ⟨S1x1024x1024, .bf16⟩
  | .hbm, ⟨31, _⟩ => ⟨S1024x1024, .bf16⟩
  | .hbm, ⟨32, _⟩ => ⟨S12288x1024, .bf16⟩
  | .hbm, ⟨33, _⟩ => ⟨S1x1024, .f32⟩
  | .hbm, ⟨34, _⟩ => ⟨S16384x1024, .f32⟩
  | .hbm, ⟨35, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![16, 6], ![false, false]⟩

def k0_cond3 (i : grid0.Coords) : BitVec 1 :=
  let arg1 : BitVec 32 := BitVec.ofNat 32 (i 1).val
  let c5_i32 : BitVec 32 := 5#32
  let v17 : BitVec 1 := Scalar.cmpi .eq arg1 c5_i32
  let v18 : BitVec 32 := Scalar.extui v17
  let c0_i32_11 : BitVec 32 := 0#32
  let v19 : BitVec 1 := Scalar.cmpi .ne v18 c0_i32_11
  v19

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference6Ideal.lean ====
abbrev S16384x1024 : Shape := ⟨2, ![16384, 1024]⟩
abbrev S1024 : Shape := ⟨1, ![1024]⟩
abbrev S1024x12288 : Shape := ⟨2, ![1024, 12288]⟩
abbrev S16384x12288 : Shape := ⟨2, ![16384, 12288]⟩
abbrev S16384x4096 : Shape := ⟨2, ![16384, 4096]⟩
abbrev S16384x2048 : Shape := ⟨2, ![16384, 2048]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x12288, .f32⟩
  | .hbm, ⟨3, _⟩ => ⟨S16384x12288, .bf16⟩
  | .hbm, ⟨4, _⟩ => ⟨S16384x1024, .f32⟩
  | .hbm, ⟨5, _⟩ => ⟨S16384x4096, .bf16⟩
  | .hbm, ⟨6, _⟩ => ⟨S16384x2048, .bf16⟩
  | .hbm, ⟨7, _⟩ => ⟨S16384x3072, .bf16⟩
  | .hbm, ⟨8, _⟩ => ⟨S16384x3072, .bf16⟩
  | .hbm, ⟨9, _⟩ => ⟨S16384x12288, .bf16⟩
  | .hbm, ⟨10, _⟩ => ⟨S16384x12288, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x12288, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S_, .f32⟩
  | .hbm, ⟨52, _⟩ => ⟨S16384, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Kernel8.lean ====
abbrev S16384x12288 : Shape := ⟨2, ![16384, 12288]⟩
abbrev S3x1024 : Shape := ⟨2, ![3, 1024]⟩
abbrev S1024 : Shape := ⟨1, ![1024]⟩
abbrev S1024x1024 : Shape := ⟨2, ![1024, 1024]⟩
abbrev S16384x1024 : Shape := ⟨2, ![16384, 1024]⟩
abbrev S1x1024 : Shape := ⟨2, ![1, 1024]⟩
abbrev S512x1024 : Shape := ⟨2, ![512, 1024]⟩
abbrev S32x1024 : Shape := ⟨2, ![32, 1024]⟩
abbrev S512x3072 : Shape := ⟨2, ![512, 3072]⟩
abbrev S544x1024 : Shape := ⟨2, ![544, 1024]⟩

abbrev nBuf : Space → Nat
  | .hbm => 13
  | .vmem => 29
  | .smem => 0
  | _ => 0

abbrev bufTy : (tb : Table) → Fin (tcTables nBuf tb) → BufTy
  | .hbm, ⟨0, _⟩ => ⟨S16384x12288, .bf16⟩
  | .hbm, ⟨1, _⟩ => ⟨S3x1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S16384x1024, .bf16⟩
  | .hbm, ⟨7, _⟩ => ⟨S1024x1024, .f32⟩
  | .hbm, ⟨8, _⟩ => ⟨S1x1024, .f32⟩
  | .hbm, ⟨9, _⟩ => ⟨S1024x1024, .bf16⟩
  | .hbm, ⟨10, _⟩ => ⟨S1024x1024, .bf16⟩
  | .hbm, ⟨11, _⟩ => ⟨S16384x1024, .bf16⟩
  | .hbm, ⟨12, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S32x1024, .bf16⟩
  | .local _ .vmem, ⟨3, _⟩ => ⟨S32x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S32x1024, .bf16⟩
  | .local _ .vmem, ⟨9, _⟩ => ⟨S32x1024, .bf16⟩
  | .local _ .vmem, ⟨10, _⟩ => ⟨S512x1024, .bf16⟩
  | .local _ .vmem, ⟨11, _⟩ => ⟨S512x1024, .bf16⟩
  | .local _ .vmem, ⟨12, _⟩ => ⟨S3x1024, .f32⟩
  | .local _ .vmem, ⟨13, _⟩ => ⟨S1x1024, .f32⟩
  | .local _ .vmem, ⟨14, _⟩ => ⟨S1024x1024, .bf16⟩
  | .local _ .vmem, ⟨15, _⟩ => ⟨S512x1024, .f32⟩
  | .local _ .vmem, ⟨16, _⟩ => ⟨S512x1024, .f32⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | .local _ .vmem, ⟨23, _⟩ => ⟨S1024x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S544x1024, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c7_i32 : BitVec 32 := 7#32
  let c0_i32_0 : BitVec 32 := 0#32
  ![v2.toNat, c7_i32.toNat]

def cc0_transform_5 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S16384x12288 : Shape := ⟨2, ![16384, 12288]⟩
abbrev S3x1024 : Shape := ⟨2, ![3, 1024]⟩
abbrev S1024 : Shape := ⟨1, ![1024]⟩
abbrev S1024x1024 : Shape := ⟨2, ![1024, 1024]⟩
abbrev S16384x1024 : Shape := ⟨2, ![16384, 1024]⟩
abbrev S_ : Shape := ⟨0, ![]⟩
abbrev S2x1024 : Shape := ⟨2, ![2, 1024]⟩
abbrev S16386x1024 : Shape := ⟨2, ![16386, 1024]⟩
abbrev S1x1024 : Shape := ⟨2, ![1, 1024]⟩
abbrev S16384x3072 : Shape := ⟨2, ![16384, 3072]⟩
abbrev S16384x3x1024 : Shape := ⟨3, ![16384, 3, 1024]⟩
abbrev S16384x1x1024 : Shape := ⟨3, ![16384, 1, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S3x1024, .f32⟩
  | .hbm, ⟨2, _⟩ => ⟨S1024, .f32⟩
  | .hbm, ⟨3, _⟩ => ⟨S1024x1024, .f32⟩
  | .hbm, ⟨4, _⟩ => ⟨S16384x1024, .f32⟩
  | .hbm, ⟨5, _⟩ => ⟨S16384x1024, .bf16⟩
  | .hbm, ⟨6, _⟩ => ⟨S16384x1024, .bf16⟩
  | .hbm, ⟨7, _⟩ => ⟨S1024x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S16384x1024, .f32⟩
  | .hbm, ⟨14, _⟩ => ⟨S16384x1024, .bf16⟩
  | .hbm, ⟨15, _⟩ => ⟨S16384x1024, .f32⟩
  | .hbm, ⟨16, _⟩ => ⟨S_, .f32⟩
  | .hbm, ⟨17, _⟩ => ⟨S2x1024, .f32⟩
  | .hbm, ⟨18, _⟩ => ⟨S16384x1024, .f32⟩
  | .hbm, ⟨19, _⟩ => ⟨S16386x1024, .f32⟩
  | .hbm, ⟨20, _⟩ => ⟨S1x1024, .f32⟩
  | .hbm, ⟨21, _⟩ => ⟨S1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S1x1024, .f32⟩
  | .hbm, ⟨37, _⟩ => ⟨S1024, .f32⟩
  | .hbm, ⟨38, _⟩ => ⟨S16384x1024, .f32⟩
  | .hbm, ⟨39, _⟩ => ⟨S1x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S1x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x3072, .bf16⟩
  | .hbm, ⟨59, _⟩ => ⟨S16384x3072, .f32⟩
  | .hbm, ⟨60, _⟩ => ⟨S16384x3x1024, .f32⟩
  | .hbm, ⟨61, _⟩ => ⟨S16384x3x1024, .f32⟩
  | .hbm, ⟨62, _⟩ => ⟨S16384x3x1024, .f32⟩
  | .hbm, ⟨63, _⟩ => ⟨S_, .f32⟩
  | .hbm, ⟨64, _⟩ => ⟨S16384x3x1024, .f32⟩
  | .hbm, ⟨65, _⟩ => ⟨S16384x3x1024, .f32⟩
  | .hbm, ⟨66, _⟩ => ⟨S_, .f32⟩
  | .hbm, ⟨67, _⟩ => ⟨S16384x3x1024, .f32⟩
  | .hbm, ⟨68, _⟩ => ⟨S16384x3x1024, .f32⟩
  | .hbm, ⟨69, _⟩ => ⟨S16384x1x1024, .f32⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .bf16⟩
  | .hbm, ⟨83, _⟩ => ⟨S16384x1024, .f32⟩
  | .hbm, ⟨84, _⟩ => ⟨S16384x1024, .f32⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_1 : Ref sig .tc := ⟨.hbm, 63, rfl⟩
abbrev main_v45 : Ref sig .tc := ⟨.hbm, 64, rfl⟩
abbrev main_v46 : Ref sig .tc := ⟨.hbm, 65, rfl⟩
abbrev main_cst_2 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩

abbrev nD : Nat := 1
abbrev τ : Topo := Topo.v7x

variable {F : FTy → Type} [FloatOps F]
-- ==== Kernel9.lean ====
abbrev S16384x12288 : Shape := ⟨2, ![16384, 12288]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S128x128 : Shape := ⟨2, ![128, 128]⟩
abbrev S1x128x128 : Shape := ⟨3, ![1, 128, 128]⟩
abbrev S_ : Shape := ⟨0, ![]⟩
abbrev S128x8 : Shape := ⟨2, ![128, 8]⟩
abbrev S128x8x128 : Shape := ⟨3, ![128, 8, 128]⟩
abbrev S128x1024 : Shape := ⟨2, ![128, 1024]⟩
abbrev S1x1024 : Shape := ⟨2, ![1, 1024]⟩
abbrev S16384x1024 : Shape := ⟨2, ![16384, 1024]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 15
  | .smem => 0
  | _ => 0

abbrev bufTy : (tb : Table) → Fin (tcTables nBuf tb) → BufTy
  | .hbm, ⟨0, _⟩ => ⟨S16384x12288, .bf16⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1024x1024, .f32⟩
  | .hbm, ⟨6, _⟩ => ⟨S128x128, .i1⟩
  | .hbm, ⟨7, _⟩ => ⟨S1x128x128, .i1⟩
  | .hbm, ⟨8, _⟩ => ⟨S_, .f32⟩
  | .hbm, ⟨9, _⟩ => ⟨S_, .f32⟩
  | .hbm, ⟨10, _⟩ => ⟨S8x128x128, .i1⟩
  | .hbm, ⟨11, _⟩ => ⟨S8x128x128, .f32⟩
  | .hbm, ⟨12, _⟩ => ⟨S8x128x128, .f32⟩
  | .hbm, ⟨13, _⟩ => ⟨S8x128x128, .bf16⟩
  | .hbm, ⟨14, _⟩ => ⟨S128x8, .f32⟩
  | .hbm, ⟨15, _⟩ => ⟨S128x8x128, .f32⟩
  | .hbm, ⟨16, _⟩ => ⟨S128x1024, .f32⟩
  | .hbm, ⟨17, _⟩ => ⟨S1x1024, .f32⟩
  | .hbm, ⟨18, _⟩ => ⟨S1x1024, .f32⟩
  | .hbm, ⟨19, _⟩ => ⟨S1024x1024, .bf16⟩
  | .hbm, ⟨20, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S8x128x128, .bf16⟩
  | .local _ .vmem, ⟨9, _⟩ => ⟨S128x1024, .f32⟩
  | .local _ .vmem, ⟨10, _⟩ => ⟨S1024x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel9Ideal.lean ====
variable {F : FTy → Type} [FloatOps F] [Named F]
def κ : String → Option EReal := fun
  | "gelu_k1" => some ((8943 / 200000 : ℝ) : EReal)
  | _ => none
-- ==== Reference9Ideal.lean ====
abbrev S16384x12288 : Shape := ⟨2, ![16384, 12288]⟩
abbrev S1024 : Shape := ⟨1, ![1024]⟩
abbrev S8x128x128 : Shape := ⟨3, ![8, 128, 128]⟩
abbrev S8x128 : Shape := ⟨2, ![8, 128]⟩
abbrev S1024x1024 : Shape := ⟨2, ![1024, 1024]⟩
abbrev S16384x1024 : Shape := ⟨2, ![16384, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S128x128x8x128 : Shape := ⟨4, ![128, 128, 8, 128]⟩
abbrev S8x128x128x128 : Shape := ⟨4, ![8, 128, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 130
  | .vmem => 0
  | .smem => 0
  | _ => 0

abbrev hbmTy0_0 (i : Nat) : BufTy := match i % 128 with
  | 0 => ⟨S16384x12288, .bf16⟩
  | 1 => ⟨S1024, .f32⟩
  | 2 => ⟨S1024, .f32⟩
  | 3 => ⟨S8x128x128, .f32⟩
  | 4 => ⟨S8x128, .f32⟩
  | 5 => ⟨S1024x1024, .f32⟩
  | 6 => ⟨S16384x1024, .bf16⟩
  | 7 => ⟨S16384x1024, .f32⟩
  | 8 => ⟨S16384x1024, .bf16⟩
  | 9 => ⟨S16384x1024, .f32⟩
  | 10 => ⟨S16384x1024, .bf16⟩
  | 11 => ⟨S16384x1024, .f32⟩
  | 12 => ⟨S_, .f32⟩
  | 13 => ⟨S_, .f32⟩
  | 14 => ⟨S_, .f32⟩
  | 15 => ⟨S16384x1024, .f32⟩
  | 16 => ⟨S16384x1024, .f32⟩
  | 17 => ⟨S16384x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S16384x1024, .f32⟩
  | 24 => ⟨S_, .f32⟩
  | 25 => ⟨S16384x1024, .f32⟩
  | 26 => ⟨S16384x1024, .f32⟩
  | 27 => ⟨S_, .f32⟩
  | 28 => ⟨S16384x1024, .f32⟩
  | 29 => ⟨S16384x1024, .f32⟩
  | 30 => ⟨S16384x1024, .f32⟩
  | 31 => ⟨S_, .f32⟩
  | 32 => ⟨S16384, .f32⟩
  | 33 => ⟨S16384x1, .f32⟩
  | 34 => ⟨S_, .f32⟩
  | 35 => ⟨S16384x1, .f32⟩
  | 36 => ⟨S16384x1, .f32⟩
  | 37 => ⟨S16384x1024, .f32⟩
  | 38 => ⟨S16384x1024, .f32⟩
  | 39 => ⟨S16384x1024, .f32⟩
  | 40 => ⟨S_, .f32⟩
  | 41 => ⟨S16384, .f32⟩
  | 42 => ⟨S16384x1, .f32⟩
  | 43 => ⟨S_, .f32⟩
  | 44 => ⟨S16384x1, .f32⟩
  | 45 => ⟨S16384x1, .f32⟩
  | 46 => ⟨S16384x1024, .f32⟩
  | 47 => ⟨S16384x1024, .f32⟩
  | 48 => ⟨S_, .f32⟩
  | 49 => ⟨S16384x1, .f32⟩
  | 50 => ⟨S16384x1, .f32⟩
  | 51 => ⟨S16384x1, .f32⟩
  | 52 => ⟨S16384x1024, .f32⟩
  | 53 => ⟨S16384x1024, .f32⟩
  | 54 => ⟨S1x1024, .f32⟩
  | 55 => ⟨S16384x1024, .f32⟩
  | 56 => ⟨S16384x1024, .f32⟩
  | 57 => ⟨S1x1024, .f32⟩
  | 58 => ⟨S16384x1024, .f32⟩
  | 59 => ⟨S16384x1024, .f32⟩
  | 60 => ⟨S128, .i32⟩
  | 61 => ⟨S_, .i32⟩
  | 62 => ⟨S_, .i32⟩
  | 63 => ⟨S128, .i32⟩
  | 64 => ⟨S128, .i32⟩
  | 65 => ⟨S128, .i32⟩
  | 66 => ⟨S_, .i32⟩
  | 67 => ⟨S128, .i32⟩
  | 68 => ⟨S128, .i1⟩
  | 69 => ⟨S128, .i32⟩
  | 70 => ⟨S128, .i32⟩
  | 71 => ⟨S_, .i32⟩
  | 72 => ⟨S128, .i32⟩
  | 73 => ⟨S128, .i1⟩
  | 74 => ⟨S128, .i1⟩
  | 75 => ⟨S_, .i32⟩
  | 76 => ⟨S128, .i32⟩
  | 77 => ⟨S128, .i32⟩
  | 78 => ⟨S128, .i32⟩
  | 79 => ⟨S1x128, .i32⟩
  | 80 => ⟨S128x1, .i32⟩
  | 81 => ⟨S128x128, .i32⟩
  | 82 => ⟨S128x128, .i32⟩
  | 83 => ⟨S128x128, .i1⟩
  | 84 => ⟨S1x128x128, .i1⟩
  | 85 => ⟨S_, .f32⟩
  | 86 => ⟨S8x128x128, .f32⟩
  | 87 => ⟨S8x128x128, .i1⟩
  | 88 => ⟨S8x128x128, .f32⟩
  | 89 => ⟨S128x128x8x128, .f32⟩
  | 90 => ⟨S8x128x128x128, .f32⟩
  | 91 => ⟨S128x128x8x128, .f32⟩
  | 92 => ⟨S128x8, .f32⟩
  | 93 => ⟨S128x8x1, .f32⟩
  | 94 => ⟨S1x128x8x1, .f32⟩
  | 95 => ⟨S128x128x8x128, .f32⟩
  | 96 => ⟨S128x128x8x128, .f32⟩
  | 97 => ⟨S_, .f32⟩
  | 98 => ⟨S_, .f32⟩
  | 99 => ⟨S_, .f32⟩
  | 100 => ⟨S16384x1024, .f32⟩
  | 101 => ⟨S16384x1024, .f32⟩
  | 102 => ⟨S16384x1024, .f32⟩
  | 103 => ⟨S16384x1024, .f32⟩
  | 104 => ⟨S16384x1024, .f32⟩
  | 105 => ⟨S_, .f32⟩
  | 106 => ⟨S16384x1024, .f32⟩
  | 107 => ⟨S16384x1024, .f32⟩
  | 108 => ⟨S16384x1024, .f32⟩
  | 109 => ⟨S_, .f32⟩
  | 110 => ⟨S16384x1024, .f32⟩
  | 111 => ⟨S16384x1024, .f32⟩
  | 112 => ⟨S_, .f32⟩
  | 113 => ⟨S16384x1024, .f32⟩
  | 114 => ⟨S16384x1024, .f32⟩
  | 115 => ⟨S16384x1024, .f32⟩
  | 116 => ⟨S16384x1024, .f32⟩
  | 117 => ⟨S16384x1024, .f32⟩
  | 118 => ⟨S16384x1024, .f32⟩
  | 119 => ⟨S16384x1024, .f32⟩
  | 120 => ⟨S_, .f32⟩
  | 121 => ⟨S16384x1024, .f32⟩
  | 122 => ⟨S16384x1024, .f32⟩
  | 123 => ⟨S_, .f32⟩
  | 124 => ⟨S16384x1024, .f32⟩
  | 125 => ⟨S16384x1024, .f32⟩
  | 126 => ⟨S16384x1024, .f32⟩
  | 127 => ⟨S16384x1024, .f32⟩
  | _ => ⟨S16384x12288, .bf16⟩

abbrev hbmTy0_1 (i : Nat) : BufTy := match i % 128 with
  | 0 => ⟨S16384x1024, .f32⟩
  | 1 => ⟨S16384x1024, .bf16⟩
  | _ => ⟨S16384x12288, .bf16⟩

abbrev hbmTy (i : Nat) : BufTy := match i / 128 with
  | 0 => hbmTy0_0 i
  | 1 => hbmTy0_1 i
  | _ => ⟨S16384x12288, .bf16⟩

abbrev bufTy : (tb : Table) → Fin (tcTables nBuf tb) → BufTy
  | .hbm, ⟨i, _⟩ => hbmTy i
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_8 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_c : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_c_0 : Ref sig .tc := ⟨.hbm, 75, rfl⟩
abbrev main_call0_v12 : Ref sig .tc := ⟨.hbm, 76, rfl⟩
abbrev main_call0_v13 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_cst_9 : Ref sig .tc := ⟨.hbm, 85, rfl⟩
abbrev main_v52 : Ref sig .tc := ⟨.hbm, 86, rfl⟩
abbrev main_call1_v0 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_10 : Ref sig .tc := ⟨.hbm, 97, rfl⟩
abbrev main_cst_11 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_cst_13 : Ref sig .tc := ⟨.hbm, 109, rfl⟩
abbrev main_v71 : Ref sig .tc := ⟨.hbm, 110, rfl⟩
abbrev main_v72 : Ref sig .tc := ⟨.hbm, 111, rfl⟩
abbrev main_cst_14 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_call2_v0 : Ref sig .tc := ⟨.hbm, 118, rfl⟩
abbrev main_call2_v1 : Ref sig .tc := ⟨.hbm, 119, rfl⟩
abbrev main_call2_cst : Ref sig .tc := ⟨.hbm, 120, rfl⟩
abbrev main_call2_v2 : Ref sig .tc := ⟨.hbm, 121, rfl⟩
abbrev main_call2_v3 : Ref sig .tc := ⟨.hbm, 122, rfl⟩
abbrev main_call2_cst_0 : Ref sig .tc := ⟨.hbm, 123, rfl⟩
abbrev main_call2_v4 : Ref sig .tc := ⟨.hbm, 124, rfl⟩
abbrev main_call2_v5 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩

abbrev nD : Nat := 1
abbrev τ : Topo := Topo.v7x

variable {F : FTy → Type} [FloatOps F]
-- ==== Kernel10.lean ====
abbrev S16384x12288 : Shape := ⟨2, ![16384, 12288]⟩
abbrev S4x256x256 : Shape := ⟨3, ![4, 256, 256]⟩
abbrev S1024 : Shape := ⟨1, ![1024]⟩
abbrev S1024x1024 : Shape := ⟨2, ![1024, 1024]⟩
abbrev S1x1024 : Shape := ⟨2, ![1, 1024]⟩
abbrev S16384x1024 : Shape := ⟨2, ![16384, 1024]⟩
abbrev S512x1024 : Shape := ⟨2, ![512, 1024]⟩
abbrev S32x1024 : Shape := ⟨2, ![32, 1024]⟩
abbrev S544x1024 : Shape := ⟨2, ![544, 1024]⟩
abbrev S536x1024 : Shape := ⟨2, ![536, 1024]⟩
abbrev S528x768 : Shape := ⟨2, ![528, 768]⟩
abbrev S520x512 : Shape := ⟨2, ![520, 512]⟩
abbrev S512x256 : Shape := ⟨2, ![512, 256]⟩
abbrev S512x1 : Shape := ⟨2, ![512, 1]⟩
abbrev S1x256x256 : Shape := ⟨3, ![1, 256, 256]⟩
abbrev S256x256 : Shape := ⟨2, ![256, 256]⟩

abbrev nBuf : Space → Nat
  | .hbm => 10
  | .vmem => 17
  | .smem => 0
  | _ => 0

abbrev bufTy : (tb : Table) → Fin (tcTables nBuf tb) → BufTy
  | .hbm, ⟨0, _⟩ => ⟨S16384x12288, .bf16⟩
  | .hbm, ⟨1, _⟩ => ⟨S4x256x256, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S4x256x256, .bf16⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S16384x1024, .bf16⟩
  | .local _ .vmem, ⟨0, _⟩ => ⟨S512x1024, .bf16⟩
  | .local _ .vmem, ⟨1, _⟩ => ⟨S512x1024, .bf16⟩
  | .local _ .vmem, ⟨2, _⟩ => ⟨S32x1024, .bf16⟩
  | .local _ .vmem, ⟨3, _⟩ => ⟨S32x1024, .bf16⟩
  | .local _ .vmem, ⟨4, _⟩ => ⟨S512x1024, .bf16⟩
  | .local _ .vmem, ⟨5, _⟩ => ⟨S512x1024, .bf16⟩
  | .local _ .vmem, ⟨6, _⟩ => ⟨S4x256x256, .bf16⟩
  | .local _ .vmem, ⟨7, _⟩ => ⟨S1x1024, .f32⟩
  | .local _ .vmem, ⟨8, _⟩ => ⟨S1x1024, .f32⟩
  | .local _ .vmem, ⟨9, _⟩ => ⟨S1024x1024, .bf16⟩
  | .local _ .vmem, ⟨10, _⟩ => ⟨S512x1024, .bf16⟩
  | .local _ .vmem, ⟨11, _⟩ => ⟨S512x1024, .bf16⟩
  | .local _ .vmem, ⟨12, _⟩ => ⟨S544x1024, .f32⟩
  | .local _ .vmem, ⟨13, _⟩ => ⟨S544x1024, .f32⟩
  | .local _ .vmem, ⟨14, _⟩ => ⟨S544x1024, .f32⟩
  | .local _ .vmem, ⟨15, _⟩ => ⟨S512x1024, .bf16⟩
  | .local _ .vmem, ⟨16, _⟩ => ⟨S512x1024, .f32⟩
  | _, _ => ⟨S16384x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S16384x12288 : Shape := ⟨2, ![16384, 12288]⟩
abbrev S4x256x256 : Shape := ⟨3, ![4, 256, 256]⟩
abbrev S1024 : Shape := ⟨1, ![1024]⟩
abbrev S1024x1024 : Shape := ⟨2, ![1024, 1024]⟩
abbrev S16384x1024 : Shape := ⟨2, ![16384, 1024]⟩
abbrev S_ : Shape := ⟨0, ![]⟩
abbrev S16384 : Shape := ⟨1, ![16384]⟩
abbrev S16384x256 : Shape := ⟨2, ![16384, 256]⟩
abbrev S2x256 : Shape := ⟨2, ![2, 256]⟩
abbrev S16386x256 : Shape := ⟨2, ![16386, 256]⟩
abbrev S16384x1 : Shape := ⟨2, ![16384, 1]⟩
abbrev S4x256 : Shape := ⟨2, ![4, 256]⟩
abbrev S16388x256 : Shape := ⟨2, ![16388, 256]⟩
abbrev S8x256 : Shape := ⟨2, ![8, 256]⟩
abbrev S16392x256 : Shape := ⟨2, ![16392, 256]⟩
abbrev S16x256 : Shape := ⟨2, ![16, 256]⟩
abbrev S16400x256 : Shape := ⟨2, ![16400, 256]⟩
abbrev S16384x4x256 : Shape := ⟨3, ![16384, 4, 256]⟩
abbrev S4x256x16384 : Shape := ⟨3, ![4, 256, 16384]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S16384x12288, .bf16⟩
  | .hbm, ⟨1, _⟩ => ⟨S4x256x256, .f32⟩
  | .hbm, ⟨2, _⟩ => ⟨S1024, .f32⟩
  | .hbm, ⟨3, _⟩ => ⟨S1024, .f32⟩
  | .hbm, ⟨4, _⟩ => ⟨S1024x1024, .f32⟩
  | .hbm, ⟨5, _⟩ => ⟨S16384x1024, .bf16⟩
  | .hbm, ⟨6, _⟩ => ⟨S16384x1024, .f32⟩
  | .hbm, ⟨7, _⟩ => ⟨S16384x1024, .bf16⟩
  | .hbm, ⟨8, _⟩ => ⟨S16384x1024, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384, .i32⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384x256, .f32⟩
  | .hbm, ⟨17, _⟩ => ⟨S_, .f32⟩
  | .hbm, ⟨18, _⟩ => ⟨S2x256, .f32⟩
  | .hbm, ⟨19, _⟩ => ⟨S16386x256, .f32⟩
  | .hbm, ⟨20, _⟩ => ⟨S16384x256, .f32⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .f32⟩
  | .hbm, ⟨25, _⟩ => ⟨S16384x1, .f32⟩
  | .hbm, ⟨26, _⟩ => ⟨S16384x256, .f32⟩
  | .hbm, ⟨27, _⟩ => ⟨S16384x256, .f32⟩
  | .hbm, ⟨28, _⟩ => ⟨S16384x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S_, .f32⟩
  | .hbm, ⟨33, _⟩ => ⟨S4x256, .f32⟩
  | .hbm, ⟨34, _⟩ => ⟨S16388x256, .f32⟩
  | .hbm, ⟨35, _⟩ => ⟨S16384x256, .f32⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .f32⟩
  | .hbm, ⟨40, _⟩ => ⟨S16384x1, .f32⟩
  | .hbm, ⟨41, _⟩ => ⟨S16384x256, .f32⟩
  | .hbm, ⟨42, _⟩ => ⟨S16384x256, .f32⟩
  | .hbm, ⟨43, _⟩ => ⟨S16384x256, .f32⟩
  | .hbm, ⟨44, _⟩ => ⟨S16384x256, .f32⟩
  | .hbm, ⟨45, _⟩ => ⟨S16384x256, .f32⟩
  | .hbm, ⟨46, _⟩ => ⟨S16384x256, .f32⟩
  | .hbm, ⟨47, _⟩ => ⟨S_, .f32⟩
  | .hbm, ⟨48, _⟩ => ⟨S8x256, .f32⟩
  | .hbm, ⟨49, _⟩ => ⟨S16392x256, .f32⟩
  | .hbm, ⟨50, _⟩ => ⟨S16384x256, .f32⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .f32⟩
  | .hbm, ⟨55, _⟩ => ⟨S16384x1, .f32⟩
  | .hbm, ⟨56, _⟩ => ⟨S16384x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S16384x256, .f32⟩
  | .hbm, ⟨62, _⟩ => ⟨S_, .f32⟩
  | .hbm, ⟨63, _⟩ => ⟨S16x256, .f32⟩
  | .hbm, ⟨64, _⟩ => ⟨S16400x256, .f32⟩
  | .hbm, ⟨65, _⟩ => ⟨S16384x256, .f32⟩
  | .hbm, ⟨66, _⟩ => ⟨S_, .i32⟩
  | .hbm, ⟨67, _⟩ => ⟨S16384, .i32⟩
  | .hbm, ⟨68, _⟩ => ⟨S16384, .i32⟩
  | .hbm, ⟨69, _⟩ => ⟨S16384, .f32⟩
  | .hbm, ⟨70, _⟩ => ⟨S16384x1, .f32⟩
  | .hbm, ⟨71, _⟩ => ⟨S16384x256, .f32⟩
  | .hbm, ⟨72, _⟩ => ⟨S16384x256, .f32⟩
  | .hbm, ⟨73, _⟩ => ⟨S16384x256, .f32⟩
  | .hbm, ⟨74, _⟩ => ⟨S16384x256, .f32⟩
  | .hbm, ⟨75, _⟩ => ⟨S16384x256, .f32⟩
  | .hbm, ⟨76, _⟩ => ⟨S16384x1024, .f32⟩
  | .hbm, ⟨77, _⟩ => ⟨S16384x4x256, .f32⟩
  | .hbm, ⟨78, _⟩ => ⟨S4x256x16384, .f32⟩
  | .hbm, ⟨79, _⟩ => ⟨S16384x4x256, .f32⟩
  | .hbm, ⟨80, _⟩ => ⟨S16384x1024, .f32⟩
  | .hbm, ⟨81, _⟩ => ⟨S1x1024, .f32⟩
  | .hbm, ⟨82, _⟩ => ⟨S16384x1024, .f32⟩
  | .hbm, ⟨83, _⟩ => ⟨S16384x1024, .f32⟩
  | .hbm, ⟨84, _⟩ => ⟨S1x1024, .f32⟩
  | .hbm, ⟨85, _⟩ => ⟨S16384x1024, .f32⟩
  | .hbm, ⟨86, _⟩ => ⟨S16384x1024, .f32⟩
  | .hbm, ⟨87, _⟩ => ⟨S16384x1024, .f32⟩
  | .hbm, ⟨88, _⟩ => ⟨S16384x1024, .f32⟩
  | .hbm, ⟨89, _⟩ => ⟨S_, .f32⟩
  | .hbm, ⟨90, _⟩ => ⟨S16384x1024, .f32⟩
  | .hbm, ⟨91, _⟩ => ⟨S16384x1024, .f32⟩
  | .hbm, ⟨92, _⟩ => ⟨S_, .f32⟩
  | .hbm, ⟨93, _⟩ => ⟨S16384x1024, .f32⟩
  | .hbm, ⟨94, _⟩ => ⟨S16384x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S16384x1024, .bf16⟩
  | _, _ => ⟨S16384x12288, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_call1_v0 : Ref sig .tc := ⟨.hbm, 87, rfl⟩
abbrev main_call1_v1 : Ref sig .tc := ⟨.hbm, 88, rfl⟩
abbrev main_call1_cst : Ref sig .tc := ⟨.hbm, 89, rfl⟩
abbrev main_call1_v2 : Ref sig .tc := ⟨.hbm, 90, rfl⟩
abbrev main_call1_v3 : Ref sig .tc := ⟨.hbm, 91, rfl⟩
abbrev main_call1_cst_0 : Ref sig .tc := ⟨.hbm, 92, rfl⟩
abbrev main_call1_v4 : Ref sig .tc := ⟨.hbm, 93, rfl⟩
abbrev main_call1_v5 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== Kernel7.lean ====
abbrev S16384x1024 : Shape := ⟨2, ![16384, 1024]⟩
abbrev S1024 : Shape := ⟨1, ![1024]⟩
abbrev S1024x12288 : Shape := ⟨2, ![1024, 12288]⟩
abbrev S1024x8x1536 : Shape := ⟨3, ![1024, 8, 1536]⟩
abbrev S8x1024x1536 : Shape := ⟨3, ![8, 1024, 1536]⟩
abbrev S1x1024 : Shape := ⟨2, ![1, 1024]⟩
abbrev S16384x12288 : Shape := ⟨2, ![16384, 12288]⟩
abbrev S1024x16384 : Shape := ⟨2, ![1024, 16384]⟩
abbrev S1024x1024 : Shape := ⟨2, ![1024, 1024]⟩
abbrev S2x1024x1536 : Shape := ⟨3, ![2, 1024, 1536]⟩
abbrev S1024x3072 : Shape := ⟨2, ![1024, 3072]⟩
abbrev S1024x1 : Shape := ⟨2, ![1024, 1]⟩
abbrev S1x1024x1536 : Shape := ⟨3, ![1, 1024, 1536]⟩
abbrev S1024x1536 : Shape := ⟨2, ![1024, 1536]⟩

abbrev nBuf : Space → Nat
  | .hbm => 9
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x12288, .f32⟩
  | .hbm, ⟨3, _⟩ => ⟨S1024x12288, .bf16⟩
  | .hbm, ⟨4, _⟩ => ⟨S1024x8x1536, .bf16⟩
  | .hbm, ⟨5, _⟩ => ⟨S8x1024x1536, .bf16⟩
  | .hbm, ⟨6, _⟩ => ⟨S1x1024, .f32⟩
  | .hbm, ⟨7, _⟩ => ⟨S16384x12288, .bf16⟩
  | .hbm, ⟨8, _⟩ => ⟨S1024x16384, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1024x1536, .bf16⟩
  | .local _ .vmem, ⟨4, _⟩ => ⟨S2x1024x1536, .bf16⟩
  | .local _ .vmem, ⟨5, _⟩ => ⟨S1024x3072, .bf16⟩
  | .local _ .vmem, ⟨6, _⟩ => ⟨S1024x3072, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference7Ideal.lean ====
abbrev S16384x1024 : Shape := ⟨2, ![16384, 1024]⟩
abbrev S1024 : Shape := ⟨1, ![1024]⟩
abbrev S1024x12288 : Shape := ⟨2, ![1024, 12288]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x12288 : Shape := ⟨2, ![16384, 12288]⟩
abbrev S1024x16384 : Shape := ⟨2, ![1024, 16384]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x12288, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x12288, .f32⟩
  | .hbm, ⟨20, _⟩ => ⟨S16384x12288, .bf16⟩
  | .hbm, ⟨21, _⟩ => ⟨S1024x16384, .f32⟩
  | .hbm, ⟨22, _⟩ => ⟨S1024x16384, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel11.lean ====
abbrev S16384x1024 : Shape := ⟨2, ![16384, 1024]⟩
abbrev S1024 : Shape := ⟨1, ![1024]⟩
abbrev S1024x12288 : Shape := ⟨2, ![1024, 12288]⟩
abbrev S16384x12288 : Shape := ⟨2, ![16384, 12288]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1024x16384 : Shape := ⟨2, ![1024, 16384]⟩
abbrev S8x1024x1536 : Shape := ⟨3, ![8, 1024, 1536]⟩
abbrev S1024x8192 : Shape := ⟨2, ![1024, 8192]⟩
abbrev S8192x512 : Shape := ⟨2, ![8192, 512]⟩
abbrev S1x1024x512 : Shape := ⟨3, ![1, 1024, 512]⟩
abbrev S1024x512 : Shape := ⟨2, ![1024, 512]⟩

abbrev nBuf : Space → Nat
  | .hbm => 23
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x12288, .f32⟩
  | .hbm, ⟨3, _⟩ => ⟨S16384x12288, .bf16⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1024x16384, .f32⟩
  | .hbm, ⟨21, _⟩ => ⟨S1024x16384, .bf16⟩
  | .hbm, ⟨22, _⟩ => ⟨S8x1024x1536, .bf16⟩
  | .local _ .vmem, ⟨0, _⟩ => ⟨S1024x8192, .bf16⟩
  | .local _ .vmem, ⟨1, _⟩ => ⟨S1024x8192, .bf16⟩
  | .local _ .vmem, ⟨2, _⟩ => ⟨S8192x512, .bf16⟩
  | .local _ .vmem, ⟨3, _⟩ => ⟨S8192x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![24, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c5_i32 : BitVec 32 := 5#32
  let c0_i32_5 : BitVec 32 := 0#32
  let v18 : BitVec 32 := Scalar.select v17 c5_i32 c0_i32_5
  let c0_i32_6 : BitVec 32 := 0#32
  let v19 : BitVec 32 := Scalar.addi c0_i32_6 v18
  let c1_i32_7 : BitVec 32 := 1#32
  let v20 : BitVec 1 := Scalar.cmpi .eq v16 c1_i32_7
  let c6_i32 : BitVec 32 := 6#32
  let c0_i32_8 : BitVec 32 := 0#32
  let v21 : BitVec 32 := Scalar.select v20 c6_i32 c0_i32_8
  let v22 : BitVec 32 := Scalar.addi v19 v21
  let c2_i32_9 : BitVec 32 := 2#32
  let v23 : BitVec 1 := Scalar.cmpi .eq v16 c2_i32_9
  let c7_i32 : BitVec 32 := 7#32
  let c0_i32_10 : BitVec 32 := 0#32
  let v24 : BitVec 32 := Scalar.select v23 c7_i32 c0_i32_10
  let v25 : BitVec 32 := Scalar.addi v22 v24
  let c3_i32 : BitVec 32 := 3#32
  let v26 : BitVec 1 := Scalar.cmpi .eq v16 c3_i32
  let c8_i32 : BitVec 32 := 8#32
  let c0_i32_11 : BitVec 32 := 0#32
  let v27 : BitVec 32 := Scalar.select v26 c8_i32 c0_i32_11
  let v28 : BitVec 32 := Scalar.addi v25 v27
  let c4_i32 : BitVec 32 := 4#32
  let v29 : BitVec 1 := Scalar.cmpi .eq v16 c4_i32
  let c3_i32_12 : BitVec 32 := 3#32
  let c0_i32_13 : BitVec 32 := 0#32
  let v30 : BitVec 32 := Scalar.select v29 c3_i32_12 c0_i32_13
  let v31 : BitVec 32 := Scalar.addi v28 v30
  let c5_i32_14 : BitVec 32 := 5#32
  let v32 : BitVec 1 := Scalar.cmpi .eq v16 c5_i32_14
  let c4_i32_15 : BitVec 32 := 4#32
  let c0_i32_16 : BitVec 32 := 0#32
  let v33 : BitVec 32 := Scalar.select v32 c4_i32_15 c0_i32_16
  let v34 : BitVec 32 := Scalar.addi v31 v33
  let c6_i32_17 : BitVec 32 := 6#32
  let v35 : BitVec 1 := Scalar.cmpi .eq v16 c6_i32_17
  let c0_i32_18 : BitVec 32 := 0#32
  let c0_i32_19 : BitVec 32 := 0#32
  let v36 : BitVec 32 := Scalar.select v35 c0_i32_18 c0_i32_19
  let v37 : BitVec 32 := Scalar.addi v34 v36
  let c7_i32_20 : BitVec 32 := 7#32
  let v38 : BitVec 1 := Scalar.cmpi .eq v16 c7_i32_20
  let c1_i32_21 : BitVec 32 := 1#32
  let c0_i32_22 : BitVec 32 := 0#32
  let v39 : BitVec 32 := Scalar.select v38 c1_i32_21 c0_i32_22
  let v40 : BitVec 32 := Scalar.addi v37 v39
  let c8_i32_23 : BitVec 32 := 8#32
  let v41 : BitVec 1 := Scalar.cmpi .eq v16 c8_i32_23
  let c2_i32_24 : BitVec 32 := 2#32
  let c0_i32_25 : BitVec 32 := 0#32
  let v42 : BitVec 32 := Scalar.select v41 c2_i32_24 c0_i32_25
  let v43 : BitVec 32 := Scalar.addi v40 v42
  let c9_i32 : BitVec 32 := 9#32
  let v44 : BitVec 1 := Scalar.cmpi .eq v16 c9_i32
  let c9_i32_26 : BitVec 32 := 9#32
  let c0_i32_27 : BitVec 32 := 0#32
  let v45 : BitVec 32 := Scalar.select v44 c9_i32_26 c0_i32_27
  let v46 : BitVec 32 := Scalar.addi v43 v45
  let c10_i32 : BitVec 32 := 10#32
  let v47 : BitVec 1 := Scalar.cmpi .eq v16 c10_i32
  let c10_i32_28 : BitVec 32 := 10#32
  let c0_i32_29 : BitVec 32 := 0#32
  let v48 : BitVec 32 := Scalar.select v47 c10_i32_28 c0_i32_29
  let v49 : BitVec 32 := Scalar.addi v46 v48
  let c11_i32 : BitVec 32 := 11#32
  let v50 : BitVec 1 := Scalar.cmpi .eq v16 c11_i32
  let c11_i32_30 : BitVec 32 := 11#32
  let c0_i32_31 : BitVec 32 := 0#32
  let v51 : BitVec 32 := Scalar.select v50 c11_i32_30 c0_i32_31
  let v52 : BitVec 32 := Scalar.addi v49 v51
  let c2_i32_32 : BitVec 32 := 2#32
  let v53 : BitVec 32 := Scalar.muli v52 c2_i32_32
  let c2_i32_33 : BitVec 32 := 2#32
  let c0_i32_34 : BitVec 32 := 0#32
  let v54 : BitVec 1 := Scalar.cmpi .eq c2_i32_33 c0_i32_34
  let c1_i32_35 : BitVec 32 := 1#32
  let v55 : BitVec 32 := Scalar.select v54 c1_i32_35 c2_i32_33
  let v56 : BitVec 32 := Scalar.remsi arg0 v55
  let c0_i32_36 : BitVec 32 := 0#32
  let v57 : BitVec 1 := Scalar.cmpi .ne v56 c0_i32_36
  let c0_i32_37 : BitVec 32 := 0#32
  let v58 : BitVec 1 := Scalar.cmpi .slt v56 c0_i32_37
  let c0_i32_38 : BitVec 32 := 0#32
  let v59 : BitVec 1 := Scalar.cmpi .slt v55 c0_i32_38
  let v60 : BitVec 1 := Scalar.xori v58 v59
  let v61 : BitVec 1 := Scalar.andi v60 v57
  let v62 : BitVec 32 := Scalar.addi v56 v55
  let v63 : BitVec 32 := Scalar.select v61 v62 v56
  let v64 : BitVec 32 := Scalar.addi v53 v63
  let c3_i32_39 : BitVec 32 := 3#32
  let v65 : BitVec 32 := Scalar.divsi v64 c3_i32_39
  let c0_i32_40 : BitVec 32 := 0#32
  let v66 : BitVec 1 := Scalar.cmpi .sgt v64 c0_i32_40
  let v67 : BitVec 32 := Scalar.extui v66
  let c0_i32_41 : BitVec 32 := 0#32
  let v68 : BitVec 1 := Scalar.cmpi .slt v64 c0_i32_41
  let v69 : BitVec 32 := Scalar.extui v68
  let v70 : BitVec 32 := Scalar.subi v67 v69
  let c0_i32_42 : BitVec 32 := 0#32
  let v71 : BitVec 1 := Scalar.cmpi .sgt c3_i32_39 c0_i32_42
  let v72 : BitVec 32 := Scalar.extui v71
  let c0_i32_43 : BitVec 32 := 0#32
  let v73 : BitVec 1 := Scalar.cmpi .slt c3_i32_39 c0_i32_43
  let v74 : BitVec 32 := Scalar.extui v73
  let v75 : BitVec 32 := Scalar.subi v72 v74
  let v76 : BitVec 1 := Scalar.cmpi .ne v70 v75
  let v77 : BitVec 32 := Scalar.remsi v64 c3_i32_39
  let c0_i32_44 : BitVec 32 := 0#32
  let v78 : BitVec 1 := Scalar.cmpi .ne v77 c0_i32_44
  let v79 : BitVec 1 := Scalar.andi v76 v78
  let c1_i32_45 : BitVec 32 := 1#32
  let v80 : BitVec 32 := Scalar.subi v65 c1_i32_45
  let v81 : BitVec 32 := Scalar.select v79 v80 v65
  let c3_i32_46 : BitVec 32 := 3#32
  let c0_i32_47 : BitVec 32 := 0#32
  let v82 : BitVec 1 := Scalar.cmpi .eq c3_i32_46 c0_i32_47
  let c1_i32_48 : BitVec 32 := 1#32
  let v83 : BitVec 32 := Scalar.select v82 c1_i32_48 c3_i32_46
  let v84 : BitVec 32 := Scalar.remsi v64 v83
  let c0_i32_49 : BitVec 32 := 0#32
  let v85 : BitVec 1 := Scalar.cmpi .ne v84 c0_i32_49
  let c0_i32_50 : BitVec 32 := 0#32
  let v86 : BitVec 1 := Scalar.cmpi .slt v84 c0_i32_50
  let c0_i32_51 : BitVec 32 := 0#32
  let v87 : BitVec 1 := Scalar.cmpi .slt v83 c0_i32_51
  let v88 : BitVec 1 := Scalar.xori v86 v87
  let v89 : BitVec 1 := Scalar.andi v88 v85
  let v90 : BitVec 32 := Scalar.addi v84 v83
  let v91 : BitVec 32 := Scalar.select v89 v90 v84
  let c0_i32_52 : BitVec 32 := 0#32
  let c0_i32_53 : BitVec 32 := 0#32
  ![v81.toNat, c0_i32_52.toNat, v91.toNat]

abbrev stage0_0 : Fin 2 → Memref sig .tc .vmem S1024x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S16384x1024 : Shape := ⟨2, ![16384, 1024]⟩
abbrev S1024 : Shape := ⟨1, ![1024]⟩
abbrev S1024x12288 : Shape := ⟨2, ![1024, 12288]⟩
abbrev S16384x12288 : Shape := ⟨2, ![16384, 12288]⟩
abbrev S16384x4096 : Shape := ⟨2, ![16384, 4096]⟩
abbrev S16384x2048 : Shape := ⟨2, ![16384, 2048]⟩
abbrev S16384x3072 : Shape := ⟨2, ![16384, 3072]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S12288x1024 : Shape := ⟨2, ![12288, 1024]⟩
abbrev S1024x8x1536 : Shape := ⟨3, ![1024, 8, 1536]⟩
abbrev S8x1024x1536 : Shape := ⟨3, ![8, 1024, 1536]⟩

abbrev nBuf : Space → Nat
  | .hbm => 32
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x12288, .f32⟩
  | .hbm, ⟨3, _⟩ => ⟨S16384x12288, .bf16⟩
  | .hbm, ⟨4, _⟩ => ⟨S16384x4096, .bf16⟩
  | .hbm, ⟨5, _⟩ => ⟨S16384x2048, .bf16⟩
  | .hbm, ⟨6, _⟩ => ⟨S16384x3072, .bf16⟩
  | .hbm, ⟨7, _⟩ => ⟨S16384x3072, .bf16⟩
  | .hbm, ⟨8, _⟩ => ⟨S16384x12288, .bf16⟩
  | .hbm, ⟨9, _⟩ => ⟨S16384x12288, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x12288, .f32⟩
  | .hbm, ⟨27, _⟩ => ⟨S12288x1024, .f32⟩
  | .hbm, ⟨28, _⟩ => ⟨S1024x12288, .f32⟩
  | .hbm, ⟨29, _⟩ => ⟨S1024x12288, .bf16⟩
  | .hbm, ⟨30, _⟩ => ⟨S1024x8x1536, .bf16⟩
  | .hbm, ⟨31, _⟩ => ⟨S8x1024x1536, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel12.lean ====
abbrev S4x8x1024x1536 : Shape := ⟨4, ![4, 8, 1024, 1536]⟩
abbrev S4x1024x1536 : Shape := ⟨3, ![4, 1024, 1536]⟩
abbrev S1x8x1024x1536 : Shape := ⟨4, ![1, 8, 1024, 1536]⟩
abbrev S8x1024x1536 : Shape := ⟨3, ![8, 1024, 1536]⟩
abbrev S4096x1536 : Shape := ⟨2, ![4096, 1536]⟩
abbrev S8x128x1536 : Shape := ⟨3, ![8, 128, 1536]⟩
abbrev S128x1536 : Shape := ⟨2, ![128, 1536]⟩
abbrev S1x128x1536 : Shape := ⟨3, ![1, 128, 1536]⟩

abbrev nBuf : Space → Nat
  | .hbm => 19
  | .vmem => 22
  | .smem => 0
  | _ => 0

abbrev bufTy : (tb : Table) → Fin (tcTables nBuf tb) → BufTy
  | .hbm, ⟨0, _⟩ => ⟨S4x8x1024x1536, .bf16⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S1x8x1024x1536, .bf16⟩
  | .hbm, ⟨5, _⟩ => ⟨S8x1024x1536, .bf16⟩
  | .hbm, ⟨6, _⟩ => ⟨S1x8x1024x1536, .bf16⟩
  | .hbm, ⟨7, _⟩ => ⟨S8x1024x1536, .bf16⟩
  | .hbm, ⟨8, _⟩ => ⟨S1x8x1024x1536, .bf16⟩
  | .hbm, ⟨9, _⟩ => ⟨S8x1024x1536, .bf16⟩
  | .hbm, ⟨10, _⟩ => ⟨S1x8x1024x1536, .bf16⟩
  | .hbm, ⟨11, _⟩ => ⟨S8x1024x1536, .bf16⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S4096x1536, .f32⟩
  | .hbm, ⟨16, _⟩ => ⟨S4096x1536, .f32⟩
  | .hbm, ⟨17, _⟩ => ⟨S4096x1536, .f32⟩
  | .hbm, ⟨18, _⟩ => ⟨S4096x1536, .f32⟩
  | .local _ .vmem, ⟨0, _⟩ => ⟨S8x128x1536, .bf16⟩
  | .local _ .vmem, ⟨1, _⟩ => ⟨S8x128x1536, .bf16⟩
  | .local _ .vmem, ⟨2, _⟩ => ⟨S8x128x1536, .bf16⟩
  | .local _ .vmem, ⟨3, _⟩ => ⟨S8x128x1536, .bf16⟩
  | .local _ .vmem, ⟨4, _⟩ => ⟨S8x128x1536, .bf16⟩
  | .local _ .vmem, ⟨5, _⟩ => ⟨S8x128x1536, .bf16⟩
  | .local _ .vmem, ⟨6, _⟩ => ⟨S8x128x1536, .bf16⟩
  | .local _ .vmem, ⟨7, _⟩ => ⟨S8x128x1536, .bf16⟩
  | .local _ .vmem, ⟨8, _⟩ => ⟨S128x1536, .f32⟩
  | .local _ .vmem, ⟨9, _⟩ => ⟨S128x1536, .f32⟩
  | .local _ .vmem, ⟨10, _⟩ => ⟨S128x1536, .f32⟩
  | .local _ .vmem, ⟨11, _⟩ => ⟨S128x1536, .f32⟩
  | .local _ .vmem, ⟨12, _⟩ => ⟨S128x1536, .f32⟩
  | .local _ .vmem, ⟨13, _⟩ => ⟨S128x1536, .f32⟩
  | .local _ .vmem, ⟨14, _⟩ => ⟨S128x1536, .f32⟩
  | .local _ .vmem, ⟨15, _⟩ => ⟨S128x1536, .f32⟩
  | .local _ .vmem, ⟨16, _⟩ => ⟨S128x1536, .f32⟩
  | .local _ .vmem, ⟨17, _⟩ => ⟨S128x1536, .f32⟩
  | .local _ .vmem, ⟨18, _⟩ => ⟨S128x1536, .f32⟩
  | .local _ .vmem, ⟨19, _⟩ => ⟨S128x1536, .f32⟩
  | .local _ .vmem, ⟨20, _⟩ => ⟨S128x1536, .f32⟩
  | .local _ .vmem, ⟨21, _⟩ => ⟨S128x1536, .f32⟩
  | _, _ => ⟨S4x8x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v11_2 : Ref sig .tc := ⟨.hbm, 17, rfl⟩
abbrev main_v11_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S8x128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference12Ideal.lean ====
abbrev S4x8x1024x1536 : Shape := ⟨4, ![4, 8, 1024, 1536]⟩
abbrev S4x1024x1536 : Shape := ⟨3, ![4, 1024, 1536]⟩
abbrev S_ : Shape := ⟨0, ![]⟩
abbrev S4096x1536 : Shape := ⟨2, ![4096, 1536]⟩

abbrev nBuf : Space → Nat
  | .hbm => 44
  | .vmem => 0
  | .smem => 0
  | _ => 0

abbrev bufTy : (tb : Table) → Fin (tcTables nBuf tb) → BufTy
  | .hbm, ⟨0, _⟩ => ⟨S4x8x1024x1536, .bf16⟩
  | .hbm, ⟨1, _⟩ => ⟨S4x1024x1536, .f32⟩
  | .hbm, ⟨2, _⟩ => ⟨S4x1024x1536, .f32⟩
  | .hbm, ⟨3, _⟩ => ⟨S4x1024x1536, .f32⟩
  | .hbm, ⟨4, _⟩ => ⟨S4x8x1024x1536, .f32⟩
  | .hbm, ⟨5, _⟩ => ⟨S_, .f32⟩
  | .hbm, ⟨6, _⟩ => ⟨S4x1024x1536, .f32⟩
  | .hbm, ⟨7, _⟩ => ⟨S_, .f32⟩
  | .hbm, ⟨8, _⟩ => ⟨S4x1024x1536, .f32⟩
  | .hbm, ⟨9, _⟩ => ⟨S4x1024x1536, .f32⟩
  | .hbm, ⟨10, _⟩ => ⟨S_, .f32⟩
  | .hbm, ⟨11, _⟩ => ⟨S4x1024x1536, .f32⟩
  | .hbm, ⟨12, _⟩ => ⟨S4x1024x1536, .f32⟩
  | .hbm, ⟨13, _⟩ => ⟨S4x1024x1536, .f32⟩
  | .hbm, ⟨14, _⟩ => ⟨S_, .f32⟩
  | .hbm, ⟨15, _⟩ => ⟨S4x1024x1536, .f32⟩
  | .hbm, ⟨16, _⟩ => ⟨S4x1024x1536, .f32⟩
  | .hbm, ⟨17, _⟩ => ⟨S4x1024x1536, .f32⟩
  | .hbm, ⟨18, _⟩ => ⟨S_, .f32⟩
  | .hbm, ⟨19, _⟩ => ⟨S4x1024x1536, .f32⟩
  | .hbm, ⟨20, _⟩ => ⟨S4x1024x1536, .f32⟩
  | .hbm, ⟨21, _⟩ => ⟨S4x1024x1536, .f32⟩
  | .hbm, ⟨22, _⟩ => ⟨S_, .f32⟩
  | .hbm, ⟨23, _⟩ => ⟨S4x1024x1536, .f32⟩
  | .hbm, ⟨24, _⟩ => ⟨S4x1024x1536, .f32⟩
  | .hbm, ⟨25, _⟩ => ⟨S_, .f32⟩
  | .hbm, ⟨26, _⟩ => ⟨S4x1024x1536, .f32⟩
  | .hbm, ⟨27, _⟩ => ⟨S4x1024x1536, .f32⟩
  | .hbm, ⟨28, _⟩ => ⟨S4x1024x1536, .f32⟩
  | .hbm, ⟨29, _⟩ => ⟨S_, .f32⟩
  | .hbm, ⟨30, _⟩ => ⟨S4x1024x1536, .f32⟩
  | .hbm, ⟨31, _⟩ => ⟨S4x1024x1536, .f32⟩
  | .hbm, ⟨32, _⟩ => ⟨S4x1024x1536, .f32⟩
  | .hbm, ⟨33, _⟩ => ⟨S_, .f32⟩
  | .hbm, ⟨34, _⟩ => ⟨S4x1024x1536, .f32⟩
  | .hbm, ⟨35, _⟩ => ⟨S4x1024x1536, .f32⟩
  | .hbm, ⟨36, _⟩ => ⟨S4x1024x1536, .f32⟩
  | .hbm, ⟨37, _⟩ => ⟨S_, .f32⟩
  | .hbm, ⟨38, _⟩ => ⟨S4x1024x1536, .f32⟩
  | .hbm, ⟨39, _⟩ => ⟨S4x1024x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S4096x1536, .f32⟩
  | _, _ => ⟨S4x8x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩

abbrev nD : Nat := 1
abbrev τ : Topo := Topo.v7x

variable {F : FTy → Type} [FloatOps F]
-- ==== Proof.BwdCFrame.lean ====
/-
  The frame of `_bwd_c`: one core's run over the 32 row tiles.  The first tile starts every sum from zero, each later tile reads what the
  tile before left in the running outputs and in the carried scratch.  `outs` names what all of them hold after each tile, by recursion on
  the tile; `body_at` runs the body at one tile, and `frame` and `run_main` follow from the pipeline library.
-/
module

public import proofs.«01_k».proof.Proof.Gen.Kernel3Ideal.Frame.RunB
public import Idealize.ShloMosaic.Lib.Claim

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
variable (c : Dev nD) (t : Fin cfg0.N)

/-- Propositions about the machine state of this program. -/
abbrev SP (F : FTy → Type) := sProp (MT nD τ sig Unit (Elt F) ℕ (UR sig nD τ) ℕ)

/-- What one tile leaves: the 4 output buffers and the carried scratch. -/
abbrev Outs (F : FTy → Type) := Vec F S512x4096 .bf16 × Vec F S1024x1024 .f32 × Vec F S8x1024 .f32 × Vec F S1x1024 .f32 × Vec F S8x1024 .f32

/-- The body's run at the first tile. -/
abbrev firstRun (h : t.val % 32 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t)

/-- The body's run at a later tile, over what the tile before left. -/
abbrev laterRun (h : ¬t.val % 32 = 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _)
    (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t)
    p.2.1 p.2.2.1 p.2.2.2.1 p.2.2.2.2

/-- The first run's stores cover the whole of part 0. -/
theorem first_cover0 (h : t.val % 32 = 0) (y : S512x4096.Idx) :
    ∃ pc ∈ (firstRun m c t h).1, y ∈ pc.1.set :=
  View.cover_of_tiledL (firstRun m c t h).1 S512x1024.size (by sl_kernel_rfl) y

/-- The first run's stores cover the whole of part 1. -/
theorem first_cover1 (h : t.val % 32 = 0) (y : S1024x1024.Idx) :
    ∃ pc ∈ (firstRun m c t h).2.1, y ∈ pc.1.set :=
  View.cover_of_tiledL (firstRun m c t h).2.1 S1024x1024.size (by sl_kernel_rfl) y

/-- The first run's stores cover the whole of part 2. -/
theorem first_cover2 (h : t.val % 32 = 0) (y : S8x1024.Idx) :
    ∃ pc ∈ (firstRun m c t h).2.2.1, y ∈ pc.1.set :=
  View.cover_of_tiledBy (firstRun m c t h).2.2.1 ![1, 1024] (by sl_kernel_rfl) y

/-- The first run's stores cover the whole of part 3. -/
theorem first_cover3 (h : t.val % 32 = 0) (y : S1x1024.Idx) :
    ∃ pc ∈ (firstRun m c t h).2.2.2.1, y ∈ pc.1.set :=
  View.cover_of_tiledL (firstRun m c t h).2.2.2.1 S1x1024.size (by sl_kernel_rfl) y

/-- The first run's stores cover the whole of part 4. -/
theorem first_cover4 (h : t.val % 32 = 0) (y : S8x1024.Idx) :
    ∃ pc ∈ (firstRun m c t h).2.2.2.2.1, y ∈ pc.1.set :=
  View.cover_of_tiledL (firstRun m c t h).2.2.2.2.1 S8x1024.size (by sl_kernel_rfl) y

/-- What the first run leaves. -/
def firstOut (h : t.val % 32 = 0) : Outs F :=
  (VO0_10.read (Elt F) (VO0_10.writes (Elt F) VO0_10.junk (firstRun m c t h).1),
    VO0_11.read (Elt F) (VO0_11.writes (Elt F) VO0_11.junk (firstRun m c t h).2.1),
    VO0_12.read (Elt F) (VO0_12.writes (Elt F) VO0_12.junk (firstRun m c t h).2.2.1),
    VO0_13.read (Elt F) (VO0_13.writes (Elt F) VO0_13.junk (firstRun m c t h).2.2.2.1),
    VS0_2.read (Elt F) (VS0_2.writes (Elt F) VS0_2.junk (firstRun m c t h).2.2.2.2.1))

/-- The later run's stores cover the whole of part 0. -/
theorem later_cover0 (h : ¬t.val % 32 = 0) (p : Outs F) (y : S512x4096.Idx) :
    ∃ pc ∈ (laterRun m c t h p).1, y ∈ pc.1.set :=
  View.cover_of_tiledL (laterRun m c t h p).1 S512x1024.size (by sl_kernel_rfl) y

/-- The later run's stores cover the whole of part 1. -/
theorem later_cover1 (h : ¬t.val % 32 = 0) (p : Outs F) (y : S1024x1024.Idx) :
    ∃ pc ∈ (laterRun m c t h p).2.1, y ∈ pc.1.set :=
  View.cover_of_tiledL (laterRun m c t h p).2.1 S1024x1024.size (by sl_kernel_rfl) y

/-- The later run's stores cover the whole of part 3. -/
theorem later_cover3 (h : ¬t.val % 32 = 0) (p : Outs F) (y : S1x1024.Idx) :
    ∃ pc ∈ (laterRun m c t h p).2.2.2.1, y ∈ pc.1.set :=
  View.cover_of_tiledL (laterRun m c t h p).2.2.2.1 S1x1024.size (by sl_kernel_rfl) y

/-- The later run's stores cover the whole of part 4. -/
theorem later_cover4 (h : ¬t.val % 32 = 0) (p : Outs F) (y : S8x1024.Idx) :
    ∃ pc ∈ (laterRun m c t h p).2.2.2.2.1, y ∈ pc.1.set :=
  View.cover_of_tiledL (laterRun m c t h p).2.2.2.2.1 S8x1024.size (by sl_kernel_rfl) y

/-- What the later run leaves. -/
def laterOut (h : ¬t.val % 32 = 0) (p : Outs F) : Outs F :=
  (VO0_10.read (Elt F) (VO0_10.writes (Elt F) VO0_10.junk (laterRun m c t h p).1),
    VO0_11.read (Elt F) (VO0_11.writes (Elt F) VO0_11.junk (laterRun m c t h p).2.1),
    (ms0_12 t).view.read (Elt F) ((ms0_12 t).view.writes (Elt F) ((hs0_12 t).unread p.2.2.1) (laterRun m c t h p).2.2.1),
    VO0_13.read (Elt F) (VO0_13.writes (Elt F) VO0_13.junk (laterRun m c t h p).2.2.2.1),
    VS0_2.read (Elt F) (VS0_2.writes (Elt F) VS0_2.junk (laterRun m c t h p).2.2.2.2.1))

/-- What tile `n` leaves. -/
def outs (c : Dev nD) : (n : ℕ) → n < cfg0.N → Outs F
  | 0, hn => firstOut m c ⟨0, hn⟩ (Nat.zero_mod 32)
  | n + 1, hn => laterOut m c ⟨n + 1, hn⟩ (by have : cfg0.N = 32 := N_0; change ¬((n + 1) % 32 = 0); omega)
      (outs c n (Nat.lt_of_succ_lt hn))

/-- The tile before `t`. -/
abbrev outsBefore : Outs F := outs m c (t.val - 1) (Nat.lt_of_le_of_lt (Nat.sub_le _ _) t.isLt)

theorem outs_first (h : t.val % 32 = 0) : outs m c t.val t.isLt = firstOut m c t h := by
  obtain ⟨n, hn⟩ := t
  cases n with
  | zero => rw [outs]
  | succ n => have : cfg0.N = 32 := N_0; change (n + 1) % 32 = 0 at h; omega

theorem outs_later (h : ¬t.val % 32 = 0) :
    outs m c t.val t.isLt = laterOut m c t h (outsBefore m c t) := by
  obtain ⟨n, hn⟩ := t
  cases n with
  | zero => exact absurd (Nat.zero_mod 32) h
  | succ n => rw [outs]; rfl

/-- The scratch after tile `n`: the carried part at `outs`, the rest at anything. -/
def held (c : Dev nD) (o : Outs F) : SP F :=
  iprop(iprop((∃ d, owns (c : Thread nD τ) scM0_0 fullShare d) ∗ (∃ d, owns (c : Thread nD τ) scM0_1 fullShare d) ∗ owns (c : Thread nD τ) scM0_2 fullShare o.2.2.2.2) ∗ (∃ r, prngReg c r))

/-- The invariant before tile `n`. -/
def inv (c : Dev nD) : (n : ℕ) → n ≤ cfg0.N → SP F
  | 0, _ => Pipeline.ΦA spec0 c
  | n + 1, hn => held c (outs m c n hn)

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) : inv m c n h = held c (outs m c (n - 1) (by omega)) := by
  cases n with
  | zero => exact absurd rfl hz
  | succ n => rfl

/-- The pipeline's data: the arrays as the region finds them, each input's buffer at its block, the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t.val t.isLt).1
    | ⟨11, _⟩ => (outs m c t.val t.isLt).2.1
    | ⟨12, _⟩ => (outs m c t.val t.isLt).2.2.1
    | ⟨13, _⟩ => (outs m c t.val t.isLt).2.2.2.1
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc : (dats m 0 c).Φ t.castSucc = inv m c t.val (Nat.le_of_lt t.isLt) := by
  dsimp only [dats]; exact Pipeline.Dat.Φ_castSucc (inv m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = iblk m c 9 t := by dsimp only [dats]
theorem after10 : (dats m 0 c).after 10 t = (outs m c t.val t.isLt).1 := by dsimp only [dats]
theorem after11 : (dats m 0 c).after 11 t = (outs m c t.val t.isLt).2.1 := by dsimp only [dats]
theorem after12 : (dats m 0 c).after 12 t = (outs m c t.val t.isLt).2.2.1 := by dsimp only [dats]
theorem after13 : (dats m 0 c).after 13 t = (outs m c t.val t.isLt).2.2.2.1 := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d
theorem before9 (d) : (dats m 0 c).before 9 t d = iblk m c 9 t :=
  before0_9_of m (dats m 0 c) (A_eq m c 9) (after9 m c) t d

theorem before11 (h : ¬t.val % 32 = 0) (d) :
    (dats m 0 c).before 11 t d = (outsBefore m c t).2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
theorem before12 (h : ¬t.val % 32 = 0) (d) :
    (dats m 0 c).before 12 t d = (outsBefore m c t).2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
theorem before13 (h : ¬t.val % 32 = 0) (d) :
    (dats m 0 c).before 13 t d = (outsBefore m c t).2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

/-- Before the body at tile `t`. -/
def pre : SP F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- After the body at tile `t`. -/
def post : SP F :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- The body at one tile. -/
theorem body_at :
    pre m c t ⊢ wp frame (wpE (defs₀ (F := F)) Variants.none c none) Set.univ (bodyAt0 t) (fun _ => post m c t) := by
  unfold pre post bodyAt0
  simp only [before0, before1, before2, before3, before4, before5, before6, before7, before8, before9]
  rw [show (dats m 0 c).owesAt () t.succ = (dats m 0 c).owesAt () t.castSucc from rfl,
    after0, after1, after2, after3, after4, after5, after6, after7, after8, after9, after10, after11, after12, after13]
  rw [show (dats m 0 c).Φ t.succ = held c (outs m c t.val t.isLt) from rfl]
  have hN : t.val < 32 := lt_of_lt_of_eq t.isLt (show cfg0.N = 32 from N_0)
  by_cases h : t.val % 32 = 0
  · rw [inv_castSucc m c t, inv_zero m c _ _ (by omega), PhiA0_eq, outs_first m c t h]
    unfold held firstOut; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((firstRun m c t h).2.2.2.2.2.2.2 Set.univ _)
    iframe H0 H1 H2 H3 H4 H5 H6 H7 H8 H9
    isplitl [H10]; · iexists _; iexact H10
    isplitl [H11]; · iexists _; iexact H11
    isplitl [H12]; · iexists _; iexact H12
    isplitl [H13]; · iexists _; iexact H13
    iframe HS0 HS1 HS2
    iintro ⟨H0, H1, H2, H3, H4, H5, H6, H7, H8, H9, ⟨%e10, H10⟩, ⟨%e11, H11⟩, ⟨%e12, H12⟩, ⟨%e13, H13⟩, ⟨%f0, HS0⟩, ⟨%f1, HS1⟩, ⟨%f2, HS2⟩⟩
    isplitl [HS0 HS1 HS2 Hg]
    · isplitl [HS0 HS1 HS2]
      · isplitl [HS0]
        · iexists _; unfold owns; iexists _; isplitr; swap; · iexact HS0
          ipureintro; rfl
        isplitl [HS1]
        · iexists _; unfold owns; iexists _; isplitr; swap; · iexact HS1
          ipureintro; rfl
        unfold owns; iexists _; isplitr; swap; · iexact HS2
        ipureintro; exact View.read_writes_of_cover _ _ _ _ _ (first_cover4 m c t h)
      iexact Hg
    iframe Ho H0 H1 H2 H3 H4 H5 H6 H7 H8 H9
    isplitl [H10]
    · unfold owns; iexists _; isplitr; swap; · iexact H10
      ipureintro; exact View.read_writes_of_cover _ _ _ _ _ (first_cover0 m c t h)
    isplitl [H11]
    · unfold owns; iexists _; isplitr; swap; · iexact H11
      ipureintro; exact View.read_writes_of_cover _ _ _ _ _ (first_cover1 m c t h)
    isplitl [H12]
    · unfold owns; iexists _; isplitr; swap; · iexact H12
      ipureintro; exact View.read_writes_of_cover _ _ _ _ _ (first_cover2 m c t h)
    unfold owns; iexists _; isplitr; swap; · iexact H13
    ipureintro; exact View.read_writes_of_cover _ _ _ _ _ (first_cover3 m c t h)
  · rw [inv_castSucc m c t, inv_pos m c _ _ (by omega), outs_later m c t h]
    simp only [before11 m c t h, before12 m c t h, before13 m c t h]
    unfold held laterOut; (try dsimp only)
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((laterRun m c t h (outsBefore m c t)).2.2.2.2.2.2.2 Set.univ _)
    iframe H0 H1 H2 H3 H4 H5 H6 H7 H8 H9
    isplitl [H10]; · iexists _; iexact H10
    iframe H11 H12 H13 HS0 HS1 HS2
    iintro ⟨H0, H1, H2, H3, H4, H5, H6, H7, H8, H9, ⟨%e10, H10⟩, ⟨%e11, H11⟩, H12, ⟨%e13, H13⟩, ⟨%f0, HS0⟩, ⟨%f1, HS1⟩, ⟨%f2, HS2⟩⟩
    isplitl [HS0 HS1 HS2 Hg]
    · isplitl [HS0 HS1 HS2]
      · isplitl [HS0]
        · iexists _; unfold owns; iexists _; isplitr; swap; · iexact HS0
          ipureintro; rfl
        isplitl [HS1]
        · iexists _; unfold owns; iexists _; isplitr; swap; · iexact HS1
          ipureintro; rfl
        unfold owns; iexists _; isplitr; swap; · iexact HS2
        ipureintro; exact View.read_writes_of_cover _ _ _ _ _ (later_cover4 m c t h (outsBefore m c t))
      iexact Hg
    iframe Ho H0 H1 H2 H3 H4 H5 H6 H7 H8 H9
    isplitl [H10]
    · unfold owns; iexists _; isplitr; swap; · iexact H10
      ipureintro; exact View.read_writes_of_cover _ _ _ _ _ (later_cover0 m c t h (outsBefore m c t))
    isplitl [H11]
    · unfold owns; iexists _; isplitr; swap; · iexact H11
      ipureintro; exact View.read_writes_of_cover _ _ _ _ _ (later_cover1 m c t h (outsBefore m c t))
    isplitl [H12]
    · unfold owns; iexists _; isplitr; swap; · iexact H12
      ipureintro; rfl
    unfold owns; iexists _; isplitr; swap; · iexact H13
    ipureintro; exact View.read_writes_of_cover _ _ _ _ _ (later_cover3 m c t h (outsBefore m c t))

/-- The library's obligation for the body, at every tile. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

/-- The launch hands over the invariant before the first tile. -/
theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last tile the scratch's contents are forgotten. -/
theorem leave (c : Dev nD) : (dats m 0 c).Φ (Fin.last cfg0.N) ⊢ Pipeline.ΦA spec0 c := by
  have hN : cfg0.N = 32 := N_0
  rw [show (dats m 0 c).Φ (Fin.last cfg0.N) = inv m c cfg0.N (le_refl _) from rfl, inv_pos m c _ _ (by omega), PhiA0_eq]
  unfold held
  iintro ⟨⟨HS0, HS1, HS2⟩, Hg⟩
  isplitl [HS0 HS1 HS2]
  · iframe HS0 HS1
    iexists _; iexact HS2
  iexact Hg

-- the launch theorem's implicit arguments are found from its conclusion
set_option backward.isDefEq.respectTransparency.types false in
/-- The launch, with every counter at zero at the end. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- The launch: every array of the pipeline ends at what the data say. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments keep their contents and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_quiescent m ρ))

/-- The frame read at a number format, of every initial memory. -/
def Framed (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0)

theorem framed : Framed F := fun m ρ _ => frame m ρ

end Cert.Kernel3Ideal.Hand

end
-- ==== Proof.BwdBFrame.lean ====
/-
  The frame of `_bwd_b`: one core's run over the 32 row tiles.  The first tile starts every sum from zero, each later tile reads what the
  tile before left in the running outputs and in the carried scratch.  `outs` names what all of them hold after each tile, by recursion on
  the tile; `body_at` runs the body at one tile, and `frame` and `run_main` follow from the pipeline library.
-/
module

public import proofs.«01_k».proof.Proof.Gen.Kernel4Ideal.Frame.RunB
public import Idealize.ShloMosaic.Lib.Claim

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
variable (c : Dev nD) (t : Fin cfg0.N)

/-- Propositions about the machine state of this program. -/
abbrev SP (F : FTy → Type) := sProp (MT nD τ sig Unit (Elt F) ℕ (UR sig nD τ) ℕ)

/-- What one tile leaves: the 5 output buffers and the carried scratch. -/
abbrev Outs (F : FTy → Type) := Vec F S512x2048 .bf16 × Vec F S1024x1024 .f32 × Vec F S4x256x256 .f32 × Vec F S1x1024 .f32 × Vec F S1x1024 .f32 × Vec F S32x1024 .f32

/-- The body's run at the first tile. -/
abbrev firstRun (h : t.val % 32 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
    ((hcond0_0 t).mpr h) (iblk m c 0 t) (iblk m c 1 t) (iblk m c 2 t) (iblk m c 3 t) (iblk m c 4 t) (iblk m c 5 t) (iblk m c 6 t) (iblk m c 7 t) (iblk m c 8 t)

/-- The body's run at a later tile, over what the tile before left. -/
abbrev laterRun (h : ¬t.val % 32 = 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _)
    (fun e => h ((hcond0_0 t).mp e)) (iblk m c 0 t) (iblk m c 1 t) (iblk m c 2 t) (iblk m c 3 t) (iblk m c 4 t) (iblk m c 5 t) (iblk m c 6 t) (iblk m c 7 t) (iblk m c 8 t)
    p.2.1 p.2.2.1 p.2.2.2.1 p.2.2.2.2.1 p.2.2.2.2.2

/-- The first run's stores cover the whole of part 0. -/
theorem first_cover0 (h : t.val % 32 = 0) (y : S512x2048.Idx) :
    ∃ pc ∈ (firstRun m c t h).1, y ∈ pc.1.set :=
  View.cover_of_tiledBy (firstRun m c t h).1 ![512, 256] (by sl_kernel_rfl) y

/-- The first run's stores cover the whole of part 1. -/
theorem first_cover1 (h : t.val % 32 = 0) (y : S1024x1024.Idx) :
    ∃ pc ∈ (firstRun m c t h).2.1, y ∈ pc.1.set :=
  View.cover_of_tiledL (firstRun m c t h).2.1 S1024x1024.size (by sl_kernel_rfl) y

/-- The first run's stores cover the whole of part 2. -/
theorem first_cover2 (h : t.val % 32 = 0) (y : S4x256x256.Idx) :
    ∃ pc ∈ (firstRun m c t h).2.2.1, y ∈ pc.1.set :=
  View.cover_of_tiledBy (firstRun m c t h).2.2.1 ![1, 256, 256] (by sl_kernel_rfl) y

/-- The first run's stores cover the whole of part 3. -/
theorem first_cover3 (h : t.val % 32 = 0) (y : S1x1024.Idx) :
    ∃ pc ∈ (firstRun m c t h).2.2.2.1, y ∈ pc.1.set :=
  View.cover_of_tiledL (firstRun m c t h).2.2.2.1 S1x1024.size (by sl_kernel_rfl) y

/-- The first run's stores cover the whole of part 4. -/
theorem first_cover4 (h : t.val % 32 = 0) (y : S1x1024.Idx) :
    ∃ pc ∈ (firstRun m c t h).2.2.2.2.1, y ∈ pc.1.set :=
  View.cover_of_tiledL (firstRun m c t h).2.2.2.2.1 S1x1024.size (by sl_kernel_rfl) y

/-- The first run's stores cover the whole of part 5. -/
theorem first_cover5 (h : t.val % 32 = 0) (y : S32x1024.Idx) :
    ∃ pc ∈ (firstRun m c t h).2.2.2.2.2.1, y ∈ pc.1.set :=
  View.cover_of_tiledL (firstRun m c t h).2.2.2.2.2.1 S32x1024.size (by sl_kernel_rfl) y

/-- What the first run leaves. -/
def firstOut (h : t.val % 32 = 0) : Outs F :=
  (VO0_9.read (Elt F) (VO0_9.writes (Elt F) VO0_9.junk (firstRun m c t h).1),
    VO0_10.read (Elt F) (VO0_10.writes (Elt F) VO0_10.junk (firstRun m c t h).2.1),
    VO0_11.read (Elt F) (VO0_11.writes (Elt F) VO0_11.junk (firstRun m c t h).2.2.1),
    VO0_12.read (Elt F) (VO0_12.writes (Elt F) VO0_12.junk (firstRun m c t h).2.2.2.1),
    VO0_13.read (Elt F) (VO0_13.writes (Elt F) VO0_13.junk (firstRun m c t h).2.2.2.2.1),
    VS0_7.read (Elt F) (VS0_7.writes (Elt F) VS0_7.junk (firstRun m c t h).2.2.2.2.2.1))

/-- The later run's stores cover the whole of part 0. -/
theorem later_cover0 (h : ¬t.val % 32 = 0) (p : Outs F) (y : S512x2048.Idx) :
    ∃ pc ∈ (laterRun m c t h p).1, y ∈ pc.1.set :=
  View.cover_of_tiledBy (laterRun m c t h p).1 ![512, 256] (by sl_kernel_rfl) y

/-- The later run's stores cover the whole of part 1. -/
theorem later_cover1 (h : ¬t.val % 32 = 0) (p : Outs F) (y : S1024x1024.Idx) :
    ∃ pc ∈ (laterRun m c t h p).2.1, y ∈ pc.1.set :=
  View.cover_of_tiledL (laterRun m c t h p).2.1 S1024x1024.size (by sl_kernel_rfl) y

/-- The later run's stores cover the whole of part 2. -/
theorem later_cover2 (h : ¬t.val % 32 = 0) (p : Outs F) (y : S4x256x256.Idx) :
    ∃ pc ∈ (laterRun m c t h p).2.2.1, y ∈ pc.1.set :=
  View.cover_of_tiledL (laterRun m c t h p).2.2.1 S1x256x256.size (by sl_kernel_rfl) y

/-- The later run's stores cover the whole of part 3. -/
theorem later_cover3 (h : ¬t.val % 32 = 0) (p : Outs F) (y : S1x1024.Idx) :
    ∃ pc ∈ (laterRun m c t h p).2.2.2.1, y ∈ pc.1.set :=
  View.cover_of_tiledL (laterRun m c t h p).2.2.2.1 S1x1024.size (by sl_kernel_rfl) y

/-- The later run's stores cover the whole of part 4. -/
theorem later_cover4 (h : ¬t.val % 32 = 0) (p : Outs F) (y : S1x1024.Idx) :
    ∃ pc ∈ (laterRun m c t h p).2.2.2.2.1, y ∈ pc.1.set :=
  View.cover_of_tiledL (laterRun m c t h p).2.2.2.2.1 S1x1024.size (by sl_kernel_rfl) y

/-- The later run's stores cover the whole of part 5. -/
theorem later_cover5 (h : ¬t.val % 32 = 0) (p : Outs F) (y : S32x1024.Idx) :
    ∃ pc ∈ (laterRun m c t h p).2.2.2.2.2.1, y ∈ pc.1.set :=
  View.cover_of_tiledL (laterRun m c t h p).2.2.2.2.2.1 S32x1024.size (by sl_kernel_rfl) y

/-- What the later run leaves. -/
def laterOut (h : ¬t.val % 32 = 0) (p : Outs F) : Outs F :=
  (VO0_9.read (Elt F) (VO0_9.writes (Elt F) VO0_9.junk (laterRun m c t h p).1),
    VO0_10.read (Elt F) (VO0_10.writes (Elt F) VO0_10.junk (laterRun m c t h p).2.1),
    VO0_11.read (Elt F) (VO0_11.writes (Elt F) VO0_11.junk (laterRun m c t h p).2.2.1),
    VO0_12.read (Elt F) (VO0_12.writes (Elt F) VO0_12.junk (laterRun m c t h p).2.2.2.1),
    VO0_13.read (Elt F) (VO0_13.writes (Elt F) VO0_13.junk (laterRun m c t h p).2.2.2.2.1),
    VS0_7.read (Elt F) (VS0_7.writes (Elt F) VS0_7.junk (laterRun m c t h p).2.2.2.2.2.1))

/-- What tile `n` leaves. -/
def outs (c : Dev nD) : (n : ℕ) → n < cfg0.N → Outs F
  | 0, hn => firstOut m c ⟨0, hn⟩ (Nat.zero_mod 32)
  | n + 1, hn => laterOut m c ⟨n + 1, hn⟩ (by have : cfg0.N = 32 := N_0; change ¬((n + 1) % 32 = 0); omega)
      (outs c n (Nat.lt_of_succ_lt hn))

/-- The tile before `t`. -/
abbrev outsBefore : Outs F := outs m c (t.val - 1) (Nat.lt_of_le_of_lt (Nat.sub_le _ _) t.isLt)

theorem outs_first (h : t.val % 32 = 0) : outs m c t.val t.isLt = firstOut m c t h := by
  obtain ⟨n, hn⟩ := t
  cases n with
  | zero => rw [outs]
  | succ n => have : cfg0.N = 32 := N_0; change (n + 1) % 32 = 0 at h; omega

theorem outs_later (h : ¬t.val % 32 = 0) :
    outs m c t.val t.isLt = laterOut m c t h (outsBefore m c t) := by
  obtain ⟨n, hn⟩ := t
  cases n with
  | zero => exact absurd (Nat.zero_mod 32) h
  | succ n => rw [outs]; rfl

/-- The scratch after tile `n`: the carried part at `outs`, the rest at anything. -/
def held (c : Dev nD) (o : Outs F) : SP F :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ owns (c : Thread nD τ) scM0_7 fullShare o.2.2.2.2.2) ∗ (∃ r, prngReg c r))

/-- The invariant before tile `n`. -/
def inv (c : Dev nD) : (n : ℕ) → n ≤ cfg0.N → SP F
  | 0, _ => Pipeline.ΦA spec0 c
  | n + 1, hn => held c (outs m c n hn)

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) : inv m c n h = held c (outs m c (n - 1) (by omega)) := by
  cases n with
  | zero => exact absurd rfl hz
  | succ n => rfl

/-- The pipeline's data: the arrays as the region finds them, each input's buffer at its block, the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outs m c t.val t.isLt).1
    | ⟨10, _⟩ => (outs m c t.val t.isLt).2.1
    | ⟨11, _⟩ => (outs m c t.val t.isLt).2.2.1
    | ⟨12, _⟩ => (outs m c t.val t.isLt).2.2.2.1
    | ⟨13, _⟩ => (outs m c t.val t.isLt).2.2.2.2.1
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem inv_castSucc : (dats m 0 c).Φ t.castSucc = inv m c t.val (Nat.le_of_lt t.isLt) := by
  dsimp only [dats]; exact Pipeline.Dat.Φ_castSucc (inv m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = iblk m c 3 t := by dsimp only [dats]
theorem after4 : (dats m 0 c).after 4 t = iblk m c 4 t := by dsimp only [dats]
theorem after5 : (dats m 0 c).after 5 t = iblk m c 5 t := by dsimp only [dats]
theorem after6 : (dats m 0 c).after 6 t = iblk m c 6 t := by dsimp only [dats]
theorem after7 : (dats m 0 c).after 7 t = iblk m c 7 t := by dsimp only [dats]
theorem after8 : (dats m 0 c).after 8 t = iblk m c 8 t := by dsimp only [dats]
theorem after9 : (dats m 0 c).after 9 t = (outs m c t.val t.isLt).1 := by dsimp only [dats]
theorem after10 : (dats m 0 c).after 10 t = (outs m c t.val t.isLt).2.1 := by dsimp only [dats]
theorem after11 : (dats m 0 c).after 11 t = (outs m c t.val t.isLt).2.2.1 := by dsimp only [dats]
theorem after12 : (dats m 0 c).after 12 t = (outs m c t.val t.isLt).2.2.2.1 := by dsimp only [dats]
theorem after13 : (dats m 0 c).after 13 t = (outs m c t.val t.isLt).2.2.2.2.1 := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d
theorem before3 (d) : (dats m 0 c).before 3 t d = iblk m c 3 t :=
  before0_3_of m (dats m 0 c) (A_eq m c 3) (after3 m c) t d
theorem before4 (d) : (dats m 0 c).before 4 t d = iblk m c 4 t :=
  before0_4_of m (dats m 0 c) (A_eq m c 4) (after4 m c) t d
theorem before5 (d) : (dats m 0 c).before 5 t d = iblk m c 5 t :=
  before0_5_of m (dats m 0 c) (A_eq m c 5) (after5 m c) t d
theorem before6 (d) : (dats m 0 c).before 6 t d = iblk m c 6 t :=
  before0_6_of m (dats m 0 c) (A_eq m c 6) (after6 m c) t d
theorem before7 (d) : (dats m 0 c).before 7 t d = iblk m c 7 t :=
  before0_7_of m (dats m 0 c) (A_eq m c 7) (after7 m c) t d
theorem before8 (d) : (dats m 0 c).before 8 t d = iblk m c 8 t :=
  before0_8_of m (dats m 0 c) (A_eq m c 8) (after8 m c) t d

theorem before10 (h : ¬t.val % 32 = 0) (d) :
    (dats m 0 c).before 10 t d = (outsBefore m c t).2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]
theorem before11 (h : ¬t.val % 32 = 0) (d) :
    (dats m 0 c).before 11 t d = (outsBefore m c t).2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
theorem before12 (h : ¬t.val % 32 = 0) (d) :
    (dats m 0 c).before 12 t d = (outsBefore m c t).2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
theorem before13 (h : ¬t.val % 32 = 0) (d) :
    (dats m 0 c).before 13 t d = (outsBefore m c t).2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

/-- Before the body at tile `t`. -/
def pre : SP F :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- After the body at tile `t`. -/
def post : SP F :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

/-- The body at one tile. -/
theorem body_at :
    pre m c t ⊢ wp frame (wpE (defs₀ (F := F)) Variants.none c none) Set.univ (bodyAt0 t) (fun _ => post m c t) := by
  unfold pre post bodyAt0
  simp only [before0, before1, before2, before3, before4, before5, before6, before7, before8]
  rw [show (dats m 0 c).owesAt () t.succ = (dats m 0 c).owesAt () t.castSucc from rfl,
    after0, after1, after2, after3, after4, after5, after6, after7, after8, after9, after10, after11, after12, after13]
  rw [show (dats m 0 c).Φ t.succ = held c (outs m c t.val t.isLt) from rfl]
  have hN : t.val < 32 := lt_of_lt_of_eq t.isLt (show cfg0.N = 32 from N_0)
  by_cases h : t.val % 32 = 0
  · rw [inv_castSucc m c t, inv_zero m c _ _ (by omega), PhiA0_eq, outs_first m c t h]
    unfold held firstOut; (try dsimp only)
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((firstRun m c t h).2.2.2.2.2.2.2.2.2.2.2.2.2 Set.univ _)
    iframe H0 H1 H2 H3 H4 H5 H6 H7 H8
    isplitl [H9]; · iexists _; iexact H9
    isplitl [H10]; · iexists _; iexact H10
    isplitl [H11]; · iexists _; iexact H11
    isplitl [H12]; · iexists _; iexact H12
    isplitl [H13]; · iexists _; iexact H13
    iframe HS0 HS1 HS2 HS3 HS4 HS5 HS6 HS7
    iintro ⟨H0, H1, H2, H3, H4, H5, H6, H7, H8, ⟨%e9, H9⟩, ⟨%e10, H10⟩, ⟨%e11, H11⟩, ⟨%e12, H12⟩, ⟨%e13, H13⟩, ⟨%f0, HS0⟩, ⟨%f1, HS1⟩, ⟨%f2, HS2⟩, ⟨%f3, HS3⟩, ⟨%f4, HS4⟩, ⟨%f5, HS5⟩, ⟨%f6, HS6⟩, ⟨%f7, HS7⟩⟩
    isplitl [HS0 HS1 HS2 HS3 HS4 HS5 HS6 HS7 Hg]
    · isplitl [HS0 HS1 HS2 HS3 HS4 HS5 HS6 HS7]
      · isplitl [HS0]
        · iexists _; unfold owns; iexists _; isplitr; swap; · iexact HS0
          ipureintro; rfl
        isplitl [HS1]
        · iexists _; unfold owns; iexists _; isplitr; swap; · iexact HS1
          ipureintro; rfl
        isplitl [HS2]
        · iexists _; unfold owns; iexists _; isplitr; swap; · iexact HS2
          ipureintro; rfl
        isplitl [HS3]
        · iexists _; unfold owns; iexists _; isplitr; swap; · iexact HS3
          ipureintro; rfl
        isplitl [HS4]
        · iexists _; unfold owns; iexists _; isplitr; swap; · iexact HS4
          ipureintro; rfl
        isplitl [HS5]
        · iexists _; unfold owns; iexists _; isplitr; swap; · iexact HS5
          ipureintro; rfl
        isplitl [HS6]
        · iexists _; unfold owns; iexists _; isplitr; swap; · iexact HS6
          ipureintro; rfl
        unfold owns; iexists _; isplitr; swap; · iexact HS7
        ipureintro; exact View.read_writes_of_cover _ _ _ _ _ (first_cover5 m c t h)
      iexact Hg
    iframe Ho H0 H1 H2 H3 H4 H5 H6 H7 H8
    isplitl [H9]
    · unfold owns; iexists _; isplitr; swap; · iexact H9
      ipureintro; exact View.read_writes_of_cover _ _ _ _ _ (first_cover0 m c t h)
    isplitl [H10]
    · unfold owns; iexists _; isplitr; swap; · iexact H10
      ipureintro; exact View.read_writes_of_cover _ _ _ _ _ (first_cover1 m c t h)
    isplitl [H11]
    · unfold owns; iexists _; isplitr; swap; · iexact H11
      ipureintro; exact View.read_writes_of_cover _ _ _ _ _ (first_cover2 m c t h)
    isplitl [H12]
    · unfold owns; iexists _; isplitr; swap; · iexact H12
      ipureintro; exact View.read_writes_of_cover _ _ _ _ _ (first_cover3 m c t h)
    unfold owns; iexists _; isplitr; swap; · iexact H13
    ipureintro; exact View.read_writes_of_cover _ _ _ _ _ (first_cover4 m c t h)
  · rw [inv_castSucc m c t, inv_pos m c _ _ (by omega), outs_later m c t h]
    simp only [before10 m c t h, before11 m c t h, before12 m c t h, before13 m c t h]
    unfold held laterOut; (try dsimp only)
    iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((laterRun m c t h (outsBefore m c t)).2.2.2.2.2.2.2.2.2.2.2.2.2 Set.univ _)
    iframe H0 H1 H2 H3 H4 H5 H6 H7 H8
    isplitl [H9]; · iexists _; iexact H9
    iframe H10 H11 H12 H13 HS0 HS1 HS2 HS3 HS4 HS5 HS6 HS7
    iintro ⟨H0, H1, H2, H3, H4, H5, H6, H7, H8, ⟨%e9, H9⟩, ⟨%e10, H10⟩, ⟨%e11, H11⟩, ⟨%e12, H12⟩, ⟨%e13, H13⟩, ⟨%f0, HS0⟩, ⟨%f1, HS1⟩, ⟨%f2, HS2⟩, ⟨%f3, HS3⟩, ⟨%f4, HS4⟩, ⟨%f5, HS5⟩, ⟨%f6, HS6⟩, ⟨%f7, HS7⟩⟩
    isplitl [HS0 HS1 HS2 HS3 HS4 HS5 HS6 HS7 Hg]
    · isplitl [HS0 HS1 HS2 HS3 HS4 HS5 HS6 HS7]
      · isplitl [HS0]
        · iexists _; unfold owns; iexists _; isplitr; swap; · iexact HS0
          ipureintro; rfl
        isplitl [HS1]
        · iexists _; unfold owns; iexists _; isplitr; swap; · iexact HS1
          ipureintro; rfl
        isplitl [HS2]
        · iexists _; unfold owns; iexists _; isplitr; swap; · iexact HS2
          ipureintro; rfl
        isplitl [HS3]
        · iexists _; unfold owns; iexists _; isplitr; swap; · iexact HS3
          ipureintro; rfl
        isplitl [HS4]
        · iexists _; unfold owns; iexists _; isplitr; swap; · iexact HS4
          ipureintro; rfl
        isplitl [HS5]
        · iexists _; unfold owns; iexists _; isplitr; swap; · iexact HS5
          ipureintro; rfl
        isplitl [HS6]
        · iexists _; unfold owns; iexists _; isplitr; swap; · iexact HS6
          ipureintro; rfl
        unfold owns; iexists _; isplitr; swap; · iexact HS7
        ipureintro; exact View.read_writes_of_cover _ _ _ _ _ (later_cover5 m c t h (outsBefore m c t))
      iexact Hg
    iframe Ho H0 H1 H2 H3 H4 H5 H6 H7 H8
    isplitl [H9]
    · unfold owns; iexists _; isplitr; swap; · iexact H9
      ipureintro; exact View.read_writes_of_cover _ _ _ _ _ (later_cover0 m c t h (outsBefore m c t))
    isplitl [H10]
    · unfold owns; iexists _; isplitr; swap; · iexact H10
      ipureintro; exact View.read_writes_of_cover _ _ _ _ _ (later_cover1 m c t h (outsBefore m c t))
    isplitl [H11]
    · unfold owns; iexists _; isplitr; swap; · iexact H11
      ipureintro; exact View.read_writes_of_cover _ _ _ _ _ (later_cover2 m c t h (outsBefore m c t))
    isplitl [H12]
    · unfold owns; iexists _; isplitr; swap; · iexact H12
      ipureintro; exact View.read_writes_of_cover _ _ _ _ _ (later_cover3 m c t h (outsBefore m c t))
    unfold owns; iexists _; isplitr; swap; · iexact H13
    ipureintro; exact View.read_writes_of_cover _ _ _ _ _ (later_cover4 m c t h (outsBefore m c t))

/-- The library's obligation for the body, at every tile. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

/-- The launch hands over the invariant before the first tile. -/
theorem enter (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last tile the scratch's contents are forgotten. -/
theorem leave (c : Dev nD) : (dats m 0 c).Φ (Fin.last cfg0.N) ⊢ Pipeline.ΦA spec0 c := by
  have hN : cfg0.N = 32 := N_0
  rw [show (dats m 0 c).Φ (Fin.last cfg0.N) = inv m c cfg0.N (le_refl _) from rfl, inv_pos m c _ _ (by omega), PhiA0_eq]
  unfold held
  iintro ⟨⟨HS0, HS1, HS2, HS3, HS4, HS5, HS6, HS7⟩, Hg⟩
  isplitl [HS0 HS1 HS2 HS3 HS4 HS5 HS6 HS7]
  · iframe HS0 HS1 HS2 HS3 HS4 HS5 HS6
    iexists _; iexact HS7
  iexact Hg

-- the launch theorem's implicit arguments are found from its conclusion
set_option backward.isDefEq.respectTransparency.types false in
/-- The launch, with every counter at zero at the end. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := A_eq m) (hin := enter m) (hout := leave m)

/-- The launch: every array of the pipeline ends at what the data say. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments keep their contents and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_quiescent m ρ))

/-- The frame read at a number format, of every initial memory. -/
def Framed (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

theorem framed : Framed F := fun m ρ _ => frame m ρ

end Cert.Kernel4Ideal.Hand

end
-- ==== Proof.FwdProjFrame.lean ====
/-
  The frame of `_fwd_proj`: one core's run over 16 row tiles times 4 column tiles.  At the first column tile of each row tile the rows are
  normalised, kept in the scratch and written out transposed; the other three column tiles read the scratch and leave it and the transposed
  rows as they were.  Every content is a closed form of the tile's blocks, since the block of rows is the same at the four column tiles.
-/
module

public import proofs.«01_k».proof.Proof.Gen.Kernel7Ideal.Frame
public import proofs.«01_k».proof.Proof.Gen.Kernel7Ideal.Skeleton
public import Idealize.ShloMosaic.Lib.Claim
public import Idealize.ShloMosaic.Lib.Pipeline.ValueKit.Basic

@[expose] public section

set_option maxRecDepth 16384

noncomputable section

namespace Cert.Kernel7Ideal.Hand

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)
variable (c : Dev nD) (t : Fin cfg0.N)

/-- Propositions about the machine state of this program. -/
abbrev SP (F : FTy → Type) := sProp (MT nD τ sig Unit (Elt F) ℕ (UR sig nD τ) ℕ)

/-- The two slabs of weights times the normalised rows, side by side. -/
def pieces (h : Vec F S1024x1024 .bf16) (w : Vec F S2x1024x1536 .bf16) : List (View.Piece (Elt F) S1024x3072 .bf16) :=
  [⟨Rect.unit ![0, 1536] S1024x1536.size inb_S1024x3072_S1024x1536_0_1536,
      k0_pay5 h (View.ld w (Rect.unit ![1, 0, 0] S1x1024x1536.size inb_S2x1024x1536_S1x1024x1536_1_0_0))⟩,
    ⟨Rect.unit ![0, 0] S1024x1536.size inb_S1024x3072_S1024x1536_0_0,
      k0_pay4 h (View.ld w (Rect.unit ![0, 0, 0] S1x1024x1536.size inb_S2x1024x1536_S1x1024x1536_0_0_0))⟩]

theorem pieces_cover (h : Vec F S1024x1024 .bf16) (w : Vec F S2x1024x1536 .bf16) (y : S1024x3072.Idx) :
    ∃ pc ∈ pieces h w, y ∈ pc.1.set :=
  View.cover_of_tiledL (pieces h w) S1024x1536.size (by sl_kernel_rfl) y

/-- The product's tile. -/
def prod (h : Vec F S1024x1024 .bf16) (w : Vec F S2x1024x1536 .bf16) : Vec F S1024x3072 .bf16 := View.canon (pieces h w)

/-- A store of a whole buffer leaves what was stored. -/
theorem whole_store {κ : Kind} {sp : Space} (v : View sig κ sp S1024x1024 .bf16) (f : v.ty.Contents (Elt F)) (x : Vec F S1024x1024 .bf16)
    (inb : ∀ a, (![0, 0] : Fin 2 → ℕ) a + S1024x1024.size a ≤ S1024x1024.size a) :
    v.read (Elt F) (v.writes (Elt F) f [⟨Rect.unit ![0, 0] S1024x1024.size inb, x⟩]) = x :=
  (View.read_writes_eq_canon v f _ (View.cover_of_tiledL _ S1024x1024.size (by sl_kernel_rfl))).trans
    (View.canon_cons_unit_lit inb x [] (by decide))

/-- The body where the column tile is not the first: the scratch and the transposed rows are handed through. -/
theorem later_run (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S2x1024x1536 .bf16) (harg4 : arg4.IsWhole)
    (arg5 : Memref sig .tc .vmem S1024x3072 .bf16) (harg5 : arg5.IsWhole) (arg6 : Memref sig .tc .vmem S1024x1024 .bf16) (harg6 : arg6.IsWhole)
    (arg7 : Memref sig .tc .vmem S1024x1024 .bf16) (harg7 : arg7.IsWhole) (hc0 : ¬k0_cond1 i = 1#1)
    (w : Vec F S2x1024x1536 .bf16) (h : Vec F S1024x1024 .bf16) (K : PUnit → SP F) :
    iprop(owns (c : Thread nD τ) arg4 fullShare w ∗ (∃ d, owns (c : Thread nD τ) arg5 fullShare d) ∗ owns (c : Thread nD τ) arg7 fullShare h
        ∗ (iprop(owns (c : Thread nD τ) arg4 fullShare w ∗ owns (c : Thread nD τ) arg5 fullShare (prod h w) ∗ owns (c : Thread nD τ) arg7 fullShare h) -∗ K ⟨⟩))
      ⊢ wp frame (wpE (defs₀ (F := F)) Variants.none c none) Set.univ (cc0_fwd_proj i arg2 harg2 arg3 harg3 arg4 harg4 arg5 harg5 arg6 harg6 arg7 harg7) K := by
  simp only [cc0_fwd_proj_eq_skeleton]; unfold cc0_fwd_proj_skel
  unfold owns
  iintro ⟨⟨%f2, %hf2, H2⟩, ⟨%d3, %f3, -, H3⟩, ⟨%fs0, %hfs0, HS0⟩, Hk⟩
  obtain rfl := harg4.eq_unread hf2; obtain rfl := harg7.eq_unread hfs0
  sl_exec (disch := first | sl_exact hc0)
  sl_step
  iapply Hk
  isplitl [H2]
  · iexists _; isplitr; · ipureintro; exact harg4.read_unread _
    iexact H2
  isplitl [H3]
  · iexists _; isplitr; swap; · iexact H3
    ipureintro
    simp only [View.readAt_eq_ld, harg7.read_unread, harg4.read_unread]
    rw [View.ld_unit_lit _ _ (by decide)]
    exact View.read_writes_eq_canon _ _ _ (pieces_cover h w)
  iexists _; isplitr; · ipureintro; exact harg7.read_unread _
  iexact HS0

/-- The body at the first column tile of a row tile: the rows are normalised, kept in the scratch and written transposed. -/
theorem first_run (c : Dev nD) (i : grid0.Coords) (arg2 : Memref sig .tc .vmem S1024x1024 .f32) (harg2 : arg2.IsWhole)
    (arg3 : Memref sig .tc .vmem S1x1024 .f32) (harg3 : arg3.IsWhole) (arg4 : Memref sig .tc .vmem S2x1024x1536 .bf16) (harg4 : arg4.IsWhole)
    (arg5 : Memref sig .tc .vmem S1024x3072 .bf16) (harg5 : arg5.IsWhole) (arg6 : Memref sig .tc .vmem S1024x1024 .bf16) (harg6 : arg6.IsWhole)
    (arg7 : Memref sig .tc .vmem S1024x1024 .bf16) (harg7 : arg7.IsWhole) (hc0 : k0_cond1 i = 1#1)
    (x : Vec F S1024x1024 .f32) (g : Vec F S1x1024 .f32) (w : Vec F S2x1024x1536 .bf16) (K : PUnit → SP F) :
    iprop(owns (c : Thread nD τ) arg2 fullShare x ∗ owns (c : Thread nD τ) arg3 fullShare g ∗ owns (c : Thread nD τ) arg4 fullShare w
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x ∗ owns (c : Thread nD τ) arg3 fullShare g ∗ owns (c : Thread nD τ) arg4 fullShare w
          ∗ owns (c : Thread nD τ) arg5 fullShare (prod (k0_pay2 x g) w) ∗ owns (c : Thread nD τ) arg6 fullShare (k0_pay3 x g)
          ∗ owns (c : Thread nD τ) arg7 fullShare (k0_pay2 x g)) -∗ K ⟨⟩))
      ⊢ wp frame (wpE (defs₀ (F := F)) Variants.none c none) Set.univ (cc0_fwd_proj i arg2 harg2 arg3 harg3 arg4 harg4 arg5 harg5 arg6 harg6 arg7 harg7) K := by
  simp only [cc0_fwd_proj_eq_skeleton]; unfold cc0_fwd_proj_skel
  unfold owns
  iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [show first_run.sl.v3 c arg2 harg2 arg3 harg3 arg7 x g = k0_pay2 x g by
      unfold first_run.sl.v3 first_run.sl.HS0_1
      rw [View.readCov_unit_lit _ _ _ (by decide)]
      simp only [View.readAt_eq_ld, harg2.read_unread, harg3.read_unread]
      rw [View.ld_unit_lit _ _ (by decide), View.ld_unit_lit _ _ (by decide)]]
    simp only [View.readAt_eq_ld, harg4.read_unread]
    exact View.read_writes_eq_canon _ _ _ (pieces_cover _ w)
  isplitl [H4]
  · iexists _; isplitr; swap; · iexact H4
    ipureintro
    simp only [View.readAt_eq_ld, harg2.read_unread, harg3.read_unread]
    rw [View.ld_unit_lit _ _ (by decide), View.ld_unit_lit _ _ (by decide)]
    exact whole_store _ _ _ _
  iexists _; isplitr; swap; · iexact HS0
  ipureintro
  unfold first_run.sl.HS0_1
  simp only [View.readAt_eq_ld, harg2.read_unread, harg3.read_unread]
  rw [View.ld_unit_lit _ _ (by decide), View.ld_unit_lit _ _ (by decide)]
  exact whole_store _ _ _ _

/-- The staging buffers at a tile, as the pipeline passes them. -/
abbrev buf0 (t : Fin cfg0.N) : Memref sig .tc .vmem S1024x1024 .f32 := win0_0.stage (cfg0.slots t 0)
abbrev buf1 (t : Fin cfg0.N) : Memref sig .tc .vmem S1x1024 .f32 := win0_1.stage (cfg0.slots t 1)
abbrev buf2 (t : Fin cfg0.N) : Memref sig .tc .vmem S2x1024x1536 .bf16 := win0_2.stage (cfg0.slots t 2)
abbrev buf3 (t : Fin cfg0.N) : Memref sig .tc .vmem S1024x3072 .bf16 := win0_3.stage (cfg0.slots t 3)
abbrev buf4 (t : Fin cfg0.N) : Memref sig .tc .vmem S1024x1024 .bf16 := win0_4.stage (cfg0.slots t 4)
/-- The scratch. -/
abbrev kept : Memref sig .tc .vmem S1024x1024 .bf16 := Memref.whole cc0_scratch0

/-- The launch's resources: the scratch at anything, the generator's register at anything. -/
theorem launch_eq (c : Dev nD) :
    (Pipeline.ΦA spec0 c : SP F) = iprop(iprop((∃ d, owns (c : Thread nD τ) kept fullShare d)) ∗ (∃ r, prngReg c r)) := by
  unfold Pipeline.ΦA; rw [scopedRest0_eq]; simp only [kept, owns_whole]; try rfl

/-- The body normalises exactly at the first column tile of a row tile. -/
theorem first_iff (t : Fin cfg0.N) : k0_cond1 (grid0.coords t) = 1#1 ↔ t.val % 4 = 0 := by
  have ht : t.val < 64 := Nat.lt_of_lt_of_eq t.isLt N_0
  have e0 : (grid0.coords t 0).val = t.val / 4 % 16 := Pipeline.Grid.coords_val t 0 (by decide) rfl
  have e1 : (grid0.coords t 1).val = t.val / 1 % 4 := Pipeline.Grid.coords_val t 1 (by decide) rfl
  simp only [k0_cond1, e0, e1]
  word_cmp

/-- The normalised rows of the tile, and the same transposed. -/
def rows : Vec F S1024x1024 .bf16 := k0_pay2 (iblk m c 0 t) (iblk m c 1 t)
def cols : Vec F S1024x1024 .bf16 := k0_pay3 (iblk m c 0 t) (iblk m c 1 t)

/-- The tile before. -/
abbrev prev (t : Fin cfg0.N) : Fin cfg0.N := ⟨t.val - 1, Nat.lt_of_le_of_lt (Nat.sub_le _ _) t.isLt⟩

/-- The scratch at known contents. -/
def held (c : Dev nD) (h : Vec F S1024x1024 .bf16) : SP F :=
  iprop(owns (c : Thread nD τ) kept fullShare h ∗ (∃ r, prngReg c r))

/-- The invariant before tile `n`: the scratch holds the rows of the tile before. -/
def inv (c : Dev nD) : (n : ℕ) → n ≤ cfg0.N → SP F
  | 0, _ => Pipeline.ΦA spec0 c
  | n + 1, hn => held c (rows m c ⟨n, hn⟩)

theorem inv_pos (c : Dev nD) (n : ℕ) (h : n ≤ cfg0.N) (hz : n ≠ 0) : inv m c n h = held c (rows m c ⟨n - 1, by omega⟩) := by
  cases n with
  | zero => exact absurd rfl hz
  | succ n => rfl

/-- The scratch can always be given up at some contents. -/
theorem inv_some (c : Dev nD) (n : ℕ) (h : n ≤ cfg0.N) : inv m c n h ⊢ Pipeline.ΦA spec0 c := by
  cases n with
  | zero => exact Idealize.SL.BI.Entails.refl _
  | succ n =>
    rw [show inv m c (n + 1) h = held c (rows m c ⟨n, h⟩) from rfl, launch_eq]
    unfold held
    iintro ⟨HS, Hg⟩
    isplitl [HS]; · iexists _; iexact HS
    iexact Hg

/-- The pipeline's data: the arrays as the region finds them, each buffer at its closed form. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => prod (rows m c t) (iblk m c 2 t)
    | ⟨4, _⟩ => cols m c t
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc : (dats m 0 c).Φ t.castSucc = inv m c t.val (Nat.le_of_lt t.isLt) := by
  dsimp only [dats]; exact Pipeline.Dat.Φ_castSucc (inv m c) t

theorem after0 : (dats m 0 c).after 0 t = iblk m c 0 t := by dsimp only [dats]
theorem after1 : (dats m 0 c).after 1 t = iblk m c 1 t := by dsimp only [dats]
theorem after2 : (dats m 0 c).after 2 t = iblk m c 2 t := by dsimp only [dats]
theorem after3 : (dats m 0 c).after 3 t = prod (rows m c t) (iblk m c 2 t) := by dsimp only [dats]
theorem after4 : (dats m 0 c).after 4 t = cols m c t := by dsimp only [dats]

theorem before0 (d) : (dats m 0 c).before 0 t d = iblk m c 0 t :=
  before0_0_of m (dats m 0 c) (A_eq m c 0) (after0 m c) t d
theorem before1 (d) : (dats m 0 c).before 1 t d = iblk m c 1 t :=
  before0_1_of m (dats m 0 c) (A_eq m c 1) (after1 m c) t d
theorem before2 (d) : (dats m 0 c).before 2 t d = iblk m c 2 t :=
  before0_2_of m (dats m 0 c) (A_eq m c 2) (after2 m c) t d

/-- A block the pipeline does not fetch is the block of the tile before. -/
theorem block_prev (c : Dev nD) (w : Fin cfg0.W) (hw : (cfg0.win w).isOut = false) (t : Fin cfg0.N) (hf : (cfg0.win w).fetch t = false)
    (hl : ∀ i, cfg0.idle w i = false) (hc : ∀ (i : cfg0.grid.Coords) a, (cfg0.win w).clip i a = none) (d) :
    (dats m 0 c).before w t d = (dats m 0 c).after w (prev t) := by
  rw [(dats m 0 c).before_unfetched_in w hw t hf hl d]
  unfold Dat.kept
  rw [Pipeline.fill_of_clip_none w _ (hc _) d ((dats m 0 c).after w _), Pipeline.Window.fill_cut]

/-- The four column tiles of a row tile see the same rows and the same gain. -/
theorem x_prev (h : ¬t.val % 4 = 0) : iblk m c 0 (prev t) = iblk m c 0 t :=
  (block_prev m c 0 rfl t (Bool.eq_false_iff.mpr fun e => h ((fetch0_0 t).mp e)) (fun _ => rfl) (fun _ _ => rfl) (iblk m c 0 t)).symm.trans
    (before0 m c t _)
theorem g_prev (h : ¬t.val % 4 = 0) : iblk m c 1 (prev t) = iblk m c 1 t :=
  (block_prev m c 1 rfl t (Bool.eq_false_iff.mpr fun e => h (by have := (fetch0_1 t).mp e; omega)) (fun _ => rfl) (fun _ _ => rfl)
    (iblk m c 1 t)).symm.trans (before1 m c t _)
theorem rows_prev (h : ¬t.val % 4 = 0) : rows m c (prev t) = rows m c t :=
  congrArg₂ k0_pay2 (x_prev m c t h) (g_prev m c t h)
theorem cols_prev (h : ¬t.val % 4 = 0) : cols m c (prev t) = cols m c t :=
  congrArg₂ k0_pay3 (x_prev m c t h) (g_prev m c t h)

/-- The body leaves the transposed rows alone at all but the first column tile. -/
theorem idle_iff (t : Fin cfg0.N) : cfg0.idle 4 (cfg0.grid.coords t) = true ↔ ¬t.val % 4 = 0 := by
  rw [← first_iff t]
  show (!(k0_cond1 (grid0.coords t) == 1#1)) = true ↔ _
  simp

/-- So there their buffer holds what the first column tile stored. -/
theorem before4 (c : Dev nD) (d) : ∀ (n : ℕ) (hn : n < cfg0.N) (_ : ¬n % 4 = 0), (dats m 0 c).before 4 ⟨n, hn⟩ d = cols m c ⟨n, hn⟩
  | 0, _, h => absurd (Nat.zero_mod 4) h
  | n + 1, hn, h => by
    have hN : n + 1 < 64 := lt_of_lt_of_eq hn (show cfg0.N = 64 from N_0)
    rw [(dats m 0 c).before_of_pos 4 ⟨n + 1, hn⟩ (Nat.succ_ne_zero n) ((cfg0.win 4).fetch_out rfl _),
      if_neg (fun e => h (by have := (flush0_4 _).mp e; dsimp only at this; omega))]
    refine Eq.trans ?_ (cols_prev m c ⟨n + 1, hn⟩ h)
    show (dats m 0 c).left 4 ⟨n, Nat.lt_of_succ_lt hn⟩ d = cols m c ⟨n, Nat.lt_of_succ_lt hn⟩
    unfold Dat.left
    by_cases h0 : n % 4 = 0
    · rw [Bool.eq_false_iff.mpr fun e => (idle_iff ⟨n, Nat.lt_of_succ_lt hn⟩).mp e h0]
      dsimp only
      unfold Dat.kept
      rw [Pipeline.fill_of_clip_none 4 _ (fun _ => rfl) d ((dats m 0 c).after 4 _), Pipeline.Window.fill_cut, after4]
    · rw [(idle_iff ⟨n, Nat.lt_of_succ_lt hn⟩).mpr h0]
      exact before4 c d n (Nat.lt_of_succ_lt hn) h0

/-- The transposed rows in their buffer are what the pipeline asks of every tile. -/
theorem leaves4 : owns (c : Thread nD τ) (buf4 t) fullShare (cols m c t) ⊢ (dats m 0 c).leavesExact 4 t := by
  unfold Dat.leavesExact
  by_cases h : t.val % 4 = 0
  · rw [Bool.eq_false_iff.mpr fun e => (idle_iff t).mp e h]
    exact Idealize.SL.BI.Entails.refl _
  · rw [(idle_iff t).mpr h]
    cases (cfg0.win 4).flush t
    · iintro H
      iexists (cols m c t)
      rw [before4 m c _ t.val t.isLt h]
      iexact H
    · exact Idealize.SL.BI.Entails.refl _

/-- Before the body at tile `t`. -/
def pre : SP F :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d)))

/-- After the body at tile `t`. -/
def post : SP F :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ (dats m 0 c).leavesExact 4 t)

/-- The body at one tile. -/
theorem body_at :
    pre m c t ⊢ wp frame (wpE (defs₀ (F := F)) Variants.none c none) Set.univ (bodyAt0 t) (fun _ => post m c t) := by
  unfold pre post bodyAt0
  simp only [before0, before1, before2]
  rw [show (dats m 0 c).owesAt () t.succ = (dats m 0 c).owesAt () t.castSucc from rfl, after0, after1, after2, after3,
    show (dats m 0 c).Φ t.succ = held c (rows m c t) from rfl, inv_castSucc m c t]
  by_cases h : t.val % 4 = 0
  · refine (sep_mono (inv_some m c _ _) .rfl).trans ?_
    rw [launch_eq]
    unfold held
    iintro ⟨⟨HS, Hg⟩, Ho, ⟨%d0, H0⟩, ⟨%d1, H1⟩, ⟨%d2, H2⟩, ⟨%d3, H3⟩, ⟨%d4, H4⟩⟩
    iapply (first_run c (grid0.coords t) (buf0 t) _ (buf1 t) _ (buf2 t) _ (buf3 t) _ (buf4 t) _ kept _ ((first_iff t).mpr h)
      (iblk m c 0 t) (iblk m c 1 t) (iblk m c 2 t) _)
    iframe H0 H1 H2
    isplitl [H3]; · iexists _; iexact H3
    isplitl [H4]; · iexists _; iexact H4
    isplitl [HS]; · iexact HS
    iintro ⟨H0, H1, H2, H3, H4, HS⟩
    isplitl [HS Hg]
    · isplitl [HS]; · iexact HS
      iexact Hg
    iframe Ho H0 H1 H2 H3
    iapply (leaves4 m c t); iexact H4
  · have hz : t.val ≠ 0 := fun e => h (by rw [e])
    rw [inv_pos m c _ _ hz, show rows m c ⟨t.val - 1, _⟩ = rows m c t from rows_prev m c t h]
    simp only [before4 m c _ t.val t.isLt h]
    unfold held
    iintro ⟨⟨HS, Hg⟩, Ho, ⟨%d0, H0⟩, ⟨%d1, H1⟩, ⟨%d2, H2⟩, ⟨%d3, H3⟩, ⟨%d4, H4⟩⟩
    iapply (later_run c (grid0.coords t) (buf0 t) _ (buf1 t) _ (buf2 t) _ (buf3 t) _ (buf4 t) _ kept _ (fun e => h ((first_iff t).mp e))
      (iblk m c 2 t) (rows m c t) _)
    isplitl [H2]; · iexact H2
    isplitl [H3]; · iexists _; iexact H3
    isplitl [HS]; · iexact HS
    iintro ⟨H2, H3, HS⟩
    isplitl [HS Hg]
    · isplitl [HS]; · iexact HS
      iexact Hg
    iframe Ho H0 H1 H2 H3
    iapply (leaves4 m c t); iexact H4

/-- The library's obligation for the body, at every tile. -/
theorem obligation (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by
    unfold defs₀; rw [Defs.onTc_tc]]
  exact triple_restated (body_at m c t) rfl .rfl fun _ => .rfl

-- the launch theorem's implicit arguments are found from its conclusion
set_option backward.isDefEq.respectTransparency.types false in
/-- The launch, with every counter at zero at the end. -/
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m)
    (hin := fun c => Idealize.SL.BI.Entails.refl _) (hout := fun c => inv_some m c cfg0.N (le_refl _))

/-- The launch: every array of the pipeline ends at what the data say. -/
theorem run_main : θ_run defs (onTc (τ := τ) (main (F := F))) (s₀ m ρ) (Pipeline.FramePost cfgs (dats m) 0 (V m)) :=
  (θ_run defs _ _).mono (fun _ h => h.1) (run_quiescent m ρ)

/-- The frame: the arguments keep their contents and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

/-- The frame read at a number format, of every initial memory. -/
def Framed (F : FTy → Type) [FloatOps F] : Prop :=
  ∀ (m : (ℓ : Loc nD τ sig) → Buf (Elt F) ℓ) (ρ : Dev nD → PrngReg), True →
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

theorem framed : Framed F := fun m ρ _ => frame m ρ

end Cert.Kernel7Ideal.Hand

end
-- ==== Proof.Lift.lean ====
/- Real arithmetic inside the extended reals: on real numbers every operation the programs use is the real operation,
   and an argument whose absolute values are all below infinity is an array of real numbers. Hand-written, untrusted. -/
module

public import Idealize.ShloMosaic.Lib.Pipeline.ValueKit
public import Idealize.ShloMosaic.Lib.ReduceAll

@[expose] public section

noncomputable section

open Idealize.ShloMosaic
open scoped BigOperators

namespace Cert.Lift

/-- A finite sum of real numbers read in the extended reals is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- Dividing a real number by a nonzero real number. -/
theorem div_coe_coe {x y : ℝ} (h : y ≠ 0) : Ideal.div (x : EReal) (y : EReal) = ((x / y : ℝ) : EReal) := by
  rw [Ideal.div_coe h, ← EReal.coe_mul, mul_one_div]

/-- The reciprocal square root of a positive real number. -/
theorem rsqrt_coe_pos {x : ℝ} (h : 0 < x) : Ideal.rsqrt (x : EReal) = (((Real.sqrt x)⁻¹ : ℝ) : EReal) := by
  rw [Ideal.rsqrt_coe, if_neg (not_lt.mpr h.le), if_neg h.ne']

/-- The square of the reciprocal square root of a positive number is its reciprocal. -/
theorem inv_sqrt_sq {x : ℝ} (h : 0 < x) : (Real.sqrt x)⁻¹ * (Real.sqrt x)⁻¹ = x⁻¹ := by
  rw [← mul_inv, Real.mul_self_sqrt h.le]

/-- An extended real whose absolute value is below infinity is a real number. -/
theorem exists_real_of_abs_lt {x : EReal} (h : max x (-x) < ⊤) : ∃ r : ℝ, x = (r : EReal) := by
  induction x using EReal.rec with
  | bot => simp at h
  | coe r => exact ⟨r, rfl⟩
  | top => simp at h

theorem ofBits_inf_f32 : Ideal.ofBits .f32 0x7F800000#32 = (⊤ : EReal) := by
  simp [Ideal.ofBits, Ideal.ieee]

/-- A precondition `jnp.all(jnp.abs(x) < jnp.inf)` that holds says that `x` is an array of real numbers. -/
theorem real_of_all {s u t : Shape} {axes : List (Fin s.rank)} [Subsingleton t.Idx] (X : FVec Ideal s .f32)
    (B : FVec Ideal s .f32) (hB : ∀ i, B i = Ideal.ofBits .f32 0x7F800000#32) (init : IVec u 1) (h : s.ReducesTo axes t)
    (hu : 0 < u.numel) (j : t.Idx) (e : Host.reduce IntOp.andi (cmpf .olt (Host.absf X) B) init h hu j = 1#1) :
    ∃ x : s.Idx → ℝ, X = fun i => ((x i : ℝ) : EReal) := by
  have key : ∀ i, ∃ r : ℝ, X i = (r : EReal) := fun i => by
    have := Host.reduce_andi_all _ _ _ _ j e i
    pointwise at this
    rw [hB, ofBits_inf_f32] at this
    refine exists_real_of_abs_lt ?_
    have hd : BitVec.ofBool (decide (max (X i) (-X i) < ⊤)) = 1#1 := this
    by_contra hn
    rw [decide_eq_false hn] at hd
    exact absurd hd (by decide)
  choose x hx using key
  exact ⟨x, funext hx⟩

/-- A two-axis index is given by its two coordinates. -/
theorem exists_ix2 {a b : ℕ} (z : Shape.Idx ⟨2, ![a, b]⟩) : ∃ (r : Fin a) (k : Fin b), z = ix2 r k :=
  ⟨z 0, z 1, (ix2_eta z).symm⟩

/-- A one-axis index is given by its coordinate. -/
theorem exists_ix1 {a : ℕ} (z : Shape.Idx ⟨1, ![a]⟩) : ∃ r : Fin a, z = ix1 r := ⟨z 0, (ix1_eta z).symm⟩

/-- The rows of 32 grid points, 512 each, are all the rows. -/
theorem sum_rows {N : ℕ} (row : Fin N → Fin 512 → Fin 16384) (h : ∀ t r, (row t r).val = 512 * t.val + r.val)
    (f : Fin 16384 → EReal) (p : Fin 32 → Fin N) (hp : ∀ s, (p s).val = s.val) :
    ∑ s : Fin 32, ∑ r : Fin 512, f (row (p s) r) = ∑ r, f r := by
  rw [Fin.sum_univ_tiles 32 512 (by norm_num) f]
  refine Finset.sum_congr rfl fun s _ => Finset.sum_congr rfl fun r _ => congrArg f (Fin.ext ?_)
  show (row (p s) r).val = s.val * 512 + r.val
  rw [h, hp, Nat.mul_comm]

end Cert.Lift

end
-- ==== Proof.LossHead.lean ====
/- The fused loss head: final RMSNorm, squared-error sums and the hand-written gradient of both, against `jax.vjp` of the
   plain forward lines. The three results are (0) the cotangent of the residual stream, (1) the squared error summed over
   the rows, per column, (2) the cotangent of the final norm's gain. Hand-written, untrusted. -/
module

public import proofs.«01_k».proof.Proof.Gen.KernelIdeal.Value
public import proofs.«01_k».proof.Proof.Gen.ReferenceIdeal.Run
public import proofs.«01_k».proof.Proof.Lift
public import proofs.«01_k».proof.Defs
public import proofs.«01_k».proof.Proof.Gen.Pre_finite

@[expose] public section

set_option maxRecDepth 16384

noncomputable section

open Idealize.ShloMosaic Idealize.ShloMosaic.TcCoe Idealize.SL.Sem
open Idealize.ShloMosaic.Pipeline (Dat)
open scoped BigOperators

/-! ## One row of the loss head, as the kernel and as the reference write it -/

namespace Cert.LossHead

/-- The reciprocal root mean square of a row. -/
def rms (x : Fin 1024 → EReal) : EReal :=
  Ideal.rsqrt (Ideal.div (∑ j, x j * x j) (Ideal.ofBits .f32 0x44800000#32) + Ideal.ofBits .f32 0x358637BD#32)

/-- The error of the normalised row against the target. -/
def err (x t g : Fin 1024 → EReal) (k : Fin 1024) : EReal := x k * rms x * g k - t k

/-- The kernel's cotangent of the normalised row: the error over 1024. -/
def dyK (x t g : Fin 1024 → EReal) (k : Fin 1024) : EReal := err x t g k * Ideal.ofBits .f32 0x3A800000#32

/-- The kernel's cotangent of the row: the normalisation's gradient in closed form. -/
def dxK (x t g : Fin 1024 → EReal) (k : Fin 1024) : EReal :=
  rms x * (dyK x t g k * g k - x k * rms x *
    Ideal.div (∑ j, dyK x t g j * g j * (x j * rms x)) (Ideal.ofBits .f32 0x44800000#32))

/-- The reference's cotangent of the normalised row: half of the mean's factor, times the derivative of the square. -/
def dyR (x t g : Fin 1024 → EReal) (k : Fin 1024) : EReal :=
  Ideal.ofBits .f32 0x3A000000#32 * (Ideal.ofBits .f32 0x40000000#32 * err x t g k)

/-- The reference's cotangent of the row's sum of squares over 1024, as reverse differentiation writes it. -/
def dmsR (x t g : Fin 1024 → EReal) : EReal :=
  Ideal.div ((∑ j, x j * (dyR x t g j * g j)) * (Ideal.ofBits .f32 0xBF000000#32 *
    Ideal.div (rms x) (Ideal.div (∑ j, x j * x j) (Ideal.ofBits .f32 0x44800000#32) + Ideal.ofBits .f32 0x358637BD#32)))
    (Ideal.ofBits .f32 0x44800000#32)

/-- The reference's cotangent of the row. -/
def dxR (x t g : Fin 1024 → EReal) (k : Fin 1024) : EReal :=
  dyR x t g k * g k * rms x + x k * dmsR x t g + dmsR x t g * x k

/-! ### The constants, as real numbers -/

theorem eps_real : ∃ e : ℝ, 0 < e ∧ Ideal.ofBits .f32 0x358637BD#32 = (e : EReal) := by
  refine ⟨_, ?_, by simp [Ideal.ofBits, Ideal.ieee, -EReal.coe_mul]; rfl⟩
  norm_num

theorem c1024 : Ideal.ofBits .f32 0x44800000#32 = ((1024 : ℝ) : EReal) := by
  simp [Ideal.ofBits, Ideal.ieee, -EReal.coe_mul]; norm_num

theorem cinv1024 : Ideal.ofBits .f32 0x3A800000#32 = ((1 / 1024 : ℝ) : EReal) := by
  simp [Ideal.ofBits, Ideal.ieee, -EReal.coe_mul]; norm_num

theorem cinv2048 : Ideal.ofBits .f32 0x3A000000#32 = ((1 / 2048 : ℝ) : EReal) := by
  simp [Ideal.ofBits, Ideal.ieee, -EReal.coe_mul]; norm_num

theorem c2 : Ideal.ofBits .f32 0x40000000#32 = ((2 : ℝ) : EReal) := by
  simp [Ideal.ofBits, Ideal.ieee, -EReal.coe_mul]; norm_num

theorem cneghalf : Ideal.ofBits .f32 0xBF000000#32 = ((-(1 / 2) : ℝ) : EReal) := by
  simp [Ideal.ofBits, Ideal.ieee, -EReal.coe_mul, -EReal.coe_neg]; norm_num

/-! ### The two rows are equal on real numbers -/

/-- The mean square plus epsilon of a real row, a positive real number. -/
theorem exists_ms (x : Fin 1024 → ℝ) : ∃ v : ℝ, 0 < v ∧
    Ideal.div (∑ j, (x j : EReal) * (x j : EReal)) (Ideal.ofBits .f32 0x44800000#32) + Ideal.ofBits .f32 0x358637BD#32 = (v : EReal) := by
  obtain ⟨e, he, hE⟩ := eps_real
  refine ⟨(∑ j, x j * x j) / 1024 + e, ?_, ?_⟩
  · have : 0 ≤ ∑ j, x j * x j := Finset.sum_nonneg fun j _ => mul_self_nonneg _
    positivity
  · simp only [c1024, hE, ← EReal.coe_mul, Lift.coe_sum, Lift.div_coe_coe (show (1024 : ℝ) ≠ 0 by norm_num), EReal.coe_add]

/-- On real rows both cotangents of the normalised row are the same. -/
theorem dy_eq (x t g : Fin 1024 → ℝ) (k : Fin 1024) :
    dyK (fun j => x j) (fun j => t j) (fun j => g j) k = dyR (fun j => x j) (fun j => t j) (fun j => g j) k := by
  obtain ⟨v, hv, hV⟩ := exists_ms x
  simp only [dyK, dyR, err, rms, hV, Lift.rsqrt_coe_pos hv]
  simp only [cinv1024, cinv2048, c2, ← EReal.coe_mul, ← EReal.coe_sub]
  congr 1
  ring

/-- On real rows both cotangents of the row are the same. -/
theorem dx_eq (x t g : Fin 1024 → ℝ) (k : Fin 1024) :
    dxK (fun j => x j) (fun j => t j) (fun j => g j) k = dxR (fun j => x j) (fun j => t j) (fun j => g j) k := by
  obtain ⟨v, hv, hV⟩ := exists_ms x
  have h2 := Lift.inv_sqrt_sq hv
  have h1024 : (1024 : ℝ) ≠ 0 := by norm_num
  simp only [dxK, dxR, dmsR, dyK, dyR, err, rms, hV, Lift.rsqrt_coe_pos hv]
  simp only [c1024, cinv1024, cinv2048, c2, cneghalf, ← EReal.coe_mul,
    ← EReal.coe_sub, ← EReal.coe_add, Lift.coe_sum, Lift.div_coe_coe h1024, Lift.div_coe_coe hv.ne']
  congr 1
  generalize (Real.sqrt v)⁻¹ = r at *
  have e1 : ∑ j, (x j * r * g j - t j) * (1 / 1024) * g j * (x j * r)
      = r / 1024 * ∑ j, x j * ((x j * r * g j - t j) * g j) := by
    rw [Finset.mul_sum]; exact Finset.sum_congr rfl fun j _ => by ring
  have e2 : ∑ j, x j * (1 / 2048 * (2 * (x j * r * g j - t j)) * g j)
      = 1 / 1024 * ∑ j, x j * ((x j * r * g j - t j) * g j) := by
    rw [Finset.mul_sum]; exact Finset.sum_congr rfl fun j _ => by ring
  rw [e1, e2, div_eq_mul_inv r v, ← h2]
  ring

end Cert.LossHead

/-! ## What the kernel's run leaves in its three results -/

namespace Cert.KernelIdeal.Value

open Cert.KernelIdeal Cert.KernelIdeal.Gen Cert.LossHead

variable (X T : Vec Ideal S512x1024 .f32) (G L : Vec Ideal S1x1024 .f32)

/-- One entry of a point's block of the stream's cotangent. -/
theorem pay_dx (r : Fin 512) (k : Fin 1024) : k0_pay1 (k0_pay4 G) (k0_pay5 X) (k0_pay6 X) (k0_pay9 X G T) (ix2 r k)
    = dxK (fun j => X (ix2 r j)) (fun j => T (ix2 r j)) (fun j => G (ix2 0 j)) k := by
  pointwise [k0_pay1, k0_pay4, k0_pay5, k0_pay6, k0_pay7, k0_pay9]
  rfl

/-- One column of a point's step of the loss sums. -/
theorem pay_loss (k : Fin 1024) : k0_pay8 X G T L (ix2 0 k)
    = L (ix2 0 k) + ∑ r : Fin 512, err (fun j => X (ix2 r j)) (fun j => T (ix2 r j)) (fun j => G (ix2 0 j)) k
        * err (fun j => X (ix2 r j)) (fun j => T (ix2 r j)) (fun j => G (ix2 0 j)) k := by
  pointwise [k0_pay8, k0_pay4, k0_pay5, k0_pay6, k0_pay7]
  rfl

/-- One column of a point's step of the gain's cotangent. -/
theorem pay_dg (k : Fin 1024) : k0_pay10 X G T L (ix2 0 k)
    = L (ix2 0 k) + ∑ r : Fin 512, dyK (fun j => X (ix2 r j)) (fun j => T (ix2 r j)) (fun j => G (ix2 0 j)) k
        * (X (ix2 r k) * rms fun j => X (ix2 r j)) := by
  pointwise [k0_pay10, k0_pay9, k0_pay4, k0_pay5, k0_pay6, k0_pay7]
  rfl

variable (m : (ℓ : Loc nD τ sig) → Buf (Elt Ideal) ℓ)

/-- The argument arrays by row. -/
abbrev rowX (c : Dev nD) (r : Fin 16384) : Fin 1024 → EReal := fun j => m (c.tc.loc main_arg0) (ix2 r j)
abbrev rowT (c : Dev nD) (r : Fin 16384) : Fin 1024 → EReal := fun j => m (c.tc.loc main_arg1) (ix2 r j)
abbrev rowG (c : Dev nD) : Fin 1024 → EReal := fun j => m (c.tc.loc main_arg2) (ix1 j)

/-- Row `r` of point `t`'s block, in the whole array. -/
abbrev rowAt (t : Fin cfg0.N) (r : Fin 512) : Fin 16384 :=
  ⟨512 * t.val + r.val, by have := t.isLt; have : cfg0.N = 32 := rfl; omega⟩

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

theorem blk0 (c : Dev nD) (t : Fin cfg0.N) (r : Fin 512) :
    (fun k => (iblk m c 0 t : FVec Ideal S512x1024 .f32) (ix2 r k)) = rowX m c (rowAt t r) := by
  funext k
  blk_point [iblk, V, idx t]

theorem blk1 (c : Dev nD) (t : Fin cfg0.N) (r : Fin 512) :
    (fun k => (iblk m c 1 t : FVec Ideal S512x1024 .f32) (ix2 r k)) = rowT m c (rowAt t r) := by
  funext k
  blk_point [iblk, V, idx t]

theorem blk2 (c : Dev nD) (t : Fin cfg0.N) :
    (fun k => (iblk m c 2 t : FVec Ideal S1x1024 .f32) (ix2 0 k)) = rowG m c := by
  funext k
  blk_point [iblk, V, idx t]

/-- Where an entry of point `t`'s block of result 0 lies in the whole array. -/
theorem emb3 (t : Fin cfg0.N) (r : Fin 512) (k : Fin 1024) :
    (win0_3.blk t).view.emb (ix2 r k : S512x1024.Idx) = ix2 (rowAt t r) k := by
  blk_ext [idx t]

/-- Result 0 after the run: every row of the stream's cotangent. -/
theorem arr_dx (c : Dev nD) : (dats m 0 c).arrAt 3 cfg0.N
    = fun i : S16384x1024.Idx => dxK (rowX m c (i 0)) (rowT m c (i 0)) (rowG m c) (i 1) := by
  refine (dats m 0 c).arrAt_eq_of_covers 3 _ (by decide +kernel) fun t hf y => ?_
  have hv : ((outsAt0 m c t.val t.isLt).1 : FVec Ideal S512x1024 .f32)
      = k0_pay1 (k0_pay4 (iblk m c 2 t)) (k0_pay5 (iblk m c 0 t)) (k0_pay6 (iblk m c 0 t))
          (k0_pay9 (iblk m c 0 t) (iblk m c 2 t) (iblk m c 1 t)) := by
    by_cases h : t.val % 32 = 0
    · rw [outsAt0_A m c t h]; frame_out
    · rw [outsAt0_B m c t h]; frame_out
  have key : ∀ z : S512x1024.Idx, ((outsAt0 m c t.val t.isLt).1 : FVec Ideal S512x1024 .f32) z
      = (fun i : S16384x1024.Idx => dxK (rowX m c (i 0)) (rowT m c (i 0)) (rowG m c) (i 1)) ((win0_3.blk t).view.emb z) := fun z => by
    obtain ⟨r, k, rfl⟩ := Lift.exists_ix2 z
    rw [hv, pay_dx, blk0, blk1, blk2, emb3]
    rfl
  blk_simp
  rw [after0_3]
  exact key y

/-- One row's part of a column of the loss sums, and of the gain's cotangent. -/
abbrev lossRow (c : Dev nD) (k : Fin 1024) (r : Fin 16384) : EReal :=
  err (rowX m c r) (rowT m c r) (rowG m c) k * err (rowX m c r) (rowT m c r) (rowG m c) k
abbrev dgRow (c : Dev nD) (k : Fin 1024) (r : Fin 16384) : EReal :=
  dyK (rowX m c r) (rowT m c r) (rowG m c) k * (rowX m c r k * rms (rowX m c r))

/-- A point's step of the loss sums adds its rows' parts. -/
theorem step_loss (c : Dev nD) (t : Fin cfg0.N) (z : S1x1024.Idx) :
    k0_pay8 (iblk m c 0 t) (iblk m c 2 t) (iblk m c 1 t) L z = L z + ∑ r : Fin 512, lossRow m c (z 1) (rowAt t r) := by
  obtain ⟨r, k, rfl⟩ := Lift.exists_ix2 z
  obtain rfl : r = 0 := Subsingleton.elim _ _
  simp only [pay_loss, blk0, blk1, blk2]
  rfl

/-- A point's step of the gain's cotangent adds its rows' parts. -/
theorem step_dg (c : Dev nD) (t : Fin cfg0.N) (z : S1x1024.Idx) :
    k0_pay10 (iblk m c 0 t) (iblk m c 2 t) (iblk m c 1 t) L z = L z + ∑ r : Fin 512, dgRow m c (z 1) (rowAt t r) := by
  obtain ⟨r, k, rfl⟩ := Lift.exists_ix2 z
  obtain rfl : r = 0 := Subsingleton.elim _ _
  rw [pay_dg]
  simp only [blk0, blk1, blk2]
  exact congrArg₂ _ rfl (Finset.sum_congr rfl fun r _ => congrArg₂ _ rfl (congrArg (· * _) (congrFun (blk0 m c t r) k)))

/-- Both accumulators start at zero. -/
theorem zero_loss (z : S1x1024.Idx) : k0_pay2 (F := Ideal) z = 0 := by pointwise [k0_pay2]
theorem zero_dg (z : S1x1024.Idx) : k0_pay3 (F := Ideal) z = 0 := by pointwise [k0_pay3]

/-- A point that ends a run of 32 is in the first such run. -/
theorem run_start (t : Fin cfg0.N) : t.val / 32 = 0 := Nat.div_eq_of_lt (lt_of_lt_of_le t.isLt (show cfg0.N ≤ 32 from le_refl 32))

/-- The one block of results 1 and 2 is the whole array. -/
theorem emb4 (t : Fin cfg0.N) (z : S1x1024.Idx) : (win0_4.blk t).view.emb z = z := by
  blk_ext [idx t]
theorem emb5 (t : Fin cfg0.N) (z : S1x1024.Idx) : (win0_5.blk t).view.emb z = z := by
  blk_ext [idx t]

/-- What the run leaves in the three results. -/
def outDx (c : Dev nD) : FVec Ideal S16384x1024 .f32 := fun i => dxK (rowX m c (i 0)) (rowT m c (i 0)) (rowG m c) (i 1)
def outLoss (c : Dev nD) : FVec Ideal S1x1024 .f32 := fun i => ∑ r, lossRow m c (i 1) r
def outDg (c : Dev nD) : FVec Ideal S1x1024 .f32 := fun i => ∑ r, dgRow m c (i 1) r

/-- Result 1 after the run: the squared error of every column, summed over the rows point by point. -/
theorem arr_loss (c : Dev nD) : (dats m 0 c).arrAt 4 cfg0.N
    = fun i : S1x1024.Idx => ∑ r : Fin 16384, lossRow m c (i 1) r := by
  refine (dats m 0 c).arrAt_eq_of_covers 4 _ (by decide +kernel) fun t hf y => ?_
  blk_simp
  rw [after0_4, Pipeline.eq_sum_fin_of_reset_step_apply_of_flush (fun n h => (outsAt0 m c n h).2.1) 32 (fun _ => 0)
    (fun (t : Fin cfg0.N) (z : S1x1024.Idx) => ∑ r : Fin 512, lossRow m c (z 1) (rowAt t r))
    (fun t h z => by rw [outsAt0_A m c t h]; frame_out; rw [step_loss, zero_loss])
    (fun t h z => by rw [outsAt0_B m c t h]; frame_out; rw [step_loss])
    t ((flush0_4 t).mp hf) _, zero_add]
  refine (Lift.sum_rows rowAt (fun _ _ => rfl) (lossRow m c _) _ fun s => ?_).trans ?_
  · show 32 * (t.val / 32) + s.val = s.val
    rw [run_start]; omega
  · exact Finset.sum_congr rfl fun r _ => congrArg (lossRow m c · r) (congrFun (emb4 t y) 1).symm

/-- Result 2 after the run: the gain's cotangent, summed over the rows point by point. -/
theorem arr_dg (c : Dev nD) : (dats m 0 c).arrAt 5 cfg0.N
    = fun i : S1x1024.Idx => ∑ r : Fin 16384, dgRow m c (i 1) r := by
  refine (dats m 0 c).arrAt_eq_of_covers 5 _ (by decide +kernel) fun t hf y => ?_
  blk_simp
  rw [after0_5, Pipeline.eq_sum_fin_of_reset_step_apply_of_flush (fun n h => (outsAt0 m c n h).2.2) 32 (fun _ => 0)
    (fun (t : Fin cfg0.N) (z : S1x1024.Idx) => ∑ r : Fin 512, dgRow m c (z 1) (rowAt t r))
    (fun t h z => by rw [outsAt0_A m c t h]; frame_out; rw [step_dg, zero_dg])
    (fun t h z => by rw [outsAt0_B m c t h]; frame_out; rw [step_dg])
    t ((flush0_5 t).mp hf) _, zero_add]
  refine (Lift.sum_rows rowAt (fun _ _ => rfl) (dgRow m c _) _ fun s => ?_).trans ?_
  · show 32 * (t.val / 32) + s.val = s.val
    rw [run_start]; omega
  · exact Finset.sum_congr rfl fun r _ => congrArg (dgRow m c · r) (congrFun (emb5 t y) 1).symm

end Cert.KernelIdeal.Value

/-! ## What the reference's run leaves in its three results -/

namespace Cert.ReferenceIdeal.Value

open Cert.ReferenceIdeal Cert.ReferenceIdeal.Gen Cert.LossHead

variable (m : (ℓ : Loc nD τ sig) → Buf (Elt Ideal) ℓ)

/-- The argument arrays by row. -/
abbrev rowX (c : Dev nD) (r : Fin 16384) : Fin 1024 → EReal := fun j => m (c.tc.loc main_arg0) (ix2 r j)
abbrev rowT (c : Dev nD) (r : Fin 16384) : Fin 1024 → EReal := fun j => m (c.tc.loc main_arg1) (ix2 r j)
abbrev rowG (c : Dev nD) : Fin 1024 → EReal := fun j => m (c.tc.loc main_arg2) (ix1 j)

/-- The reference's run by rows: what each of the three results holds, the arguments unchanged. -/
theorem run_rows (ρ : Dev nD → PrngReg) : θ_run defs (onTc (τ := τ) (main (F := Ideal))) ⟨m, fun _ => 0, ρ⟩ fun r => ∀ c : Dev nD,
      r.2.mem ((c.tc : Thread nD τ).loc main_v41) = (fun i : S16384x1024.Idx => dxR (rowX m c (i 0)) (rowT m c (i 0)) (rowG m c) (i 1))
      ∧ r.2.mem ((c.tc : Thread nD τ).loc main_v43) = (fun i : S1x1024.Idx => ∑ r : Fin 16384,
          err (rowX m c r) (rowT m c r) (rowG m c) (i 1) * err (rowX m c r) (rowT m c r) (rowG m c) (i 1))
      ∧ r.2.mem ((c.tc : Thread nD τ).loc main_v44) = (fun i : S1x1024.Idx => ∑ r : Fin 16384,
          rowX m c r (i 1) * rms (rowX m c r) * dyR (rowX m c r) (rowT m c r) (rowG m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans ?_, (h c).2.1.trans ?_, (h c).2.2.1.trans ?_, (h c).2.2.2⟩) (run m ρ)
  · clear h
    funext z
    obtain ⟨r, k, rfl⟩ := Lift.exists_ix2 z
    unfold res_main_v41
    pointwise
    simp only [Fin.sum_univ_one]
    rfl
  · clear h
    funext z
    obtain ⟨r, k, rfl⟩ := Lift.exists_ix2 z
    pointwise
    rfl
  · clear h
    funext z
    obtain ⟨r, k, rfl⟩ := Lift.exists_ix2 z
    pointwise
    simp only [Fin.sum_univ_one]
    rfl

end Cert.ReferenceIdeal.Value

/-! ## The precondition, and the value claim -/

namespace Cert.LossHead

/-- Where the precondition holds the three arguments are arrays of real numbers. -/
theorem args_real (m : (ℓ : Loc Cert.KernelIdeal.nD Cert.KernelIdeal.τ Cert.KernelIdeal.sig) → Buf (Elt Ideal) ℓ)
    (h : Cert.Pre_KernelIdeal_finite m) (c : Dev Cert.KernelIdeal.nD) :
    (∃ x : Cert.KernelIdeal.S16384x1024.Idx → ℝ, m (c.tc.loc Cert.KernelIdeal.main_arg0) = fun i => ((x i : ℝ) : EReal))
    ∧ (∃ x : Cert.KernelIdeal.S16384x1024.Idx → ℝ, m (c.tc.loc Cert.KernelIdeal.main_arg1) = fun i => ((x i : ℝ) : EReal))
    ∧ (∃ x : Cert.KernelIdeal.S1024.Idx → ℝ, m (c.tc.loc Cert.KernelIdeal.main_arg2) = fun i => ((x i : ℝ) : EReal)) := by
  have h0 := congrFun (h c) (fun a => a.elim0)
  unfold Cert.Pre_finite.fn at h0
  dsimp only at h0
  obtain ⟨h1, h3⟩ := IntOp.andi_eq_one.1 h0
  obtain ⟨h1, h2⟩ := IntOp.andi_eq_one.1 h1
  haveI : Subsingleton Cert.Pre_finite.S_.Idx := ⟨fun a b => funext fun i => i.elim0⟩
  exact ⟨Lift.real_of_all _ _ (fun i => by pointwise) _ _ _ _ h1, Lift.real_of_all _ _ (fun i => by pointwise) _ _ _ _ h2,
    Lift.real_of_all _ _ (fun i => by pointwise) _ _ _ _ h3⟩

/-- The value claim: where the precondition holds, the kernel and the reference end with equal results. -/
theorem value : Cert.algebraic_KernelIdeal_ReferenceIdeal_pre_finite := by
  intro m g m' g' hpre hag
  refine ⟨fun c => KernelIdeal.Value.outDx m c, fun c => KernelIdeal.Value.outLoss m c, fun c => KernelIdeal.Value.outDg m c,
    (θ_run _ _ _).mono (fun r h c => ?_) (KernelIdeal.Value.run_blocks m g),
    (θ_run _ _ _).mono (fun r h c => ?_) (ReferenceIdeal.Value.run_rows m' g')⟩
  · obtain ⟨h0, h1, h2, h3⟩ := h c
    exact ⟨h0.trans (KernelIdeal.Value.arr_dx m c), h1.trans (KernelIdeal.Value.arr_loss m c), h2.trans (KernelIdeal.Value.arr_dg m c), h3⟩
  · obtain ⟨h0, h1, h2, h3⟩ := h c
    obtain ⟨⟨x, hx⟩, ⟨t, ht⟩, ⟨w, hw⟩⟩ := args_real m hpre c
    obtain ⟨a0, a1, a2⟩ := hag c
    have eX : ∀ r, ReferenceIdeal.Value.rowX m' c r = fun j => ((x (ix2 r j) : ℝ) : EReal) := fun r => funext fun j => congrFun (a0.trans hx) _
    have eT : ∀ r, ReferenceIdeal.Value.rowT m' c r = fun j => ((t (ix2 r j) : ℝ) : EReal) := fun r => funext fun j => congrFun (a1.trans ht) _
    have eG : ReferenceIdeal.Value.rowG m' c = fun j => ((w (ix1 j) : ℝ) : EReal) := funext fun j => congrFun (a2.trans hw) _
    have kX : ∀ r, KernelIdeal.Value.rowX m c r = fun j => ((x (ix2 r j) : ℝ) : EReal) := fun r => funext fun j => congrFun hx _
    have kT : ∀ r, KernelIdeal.Value.rowT m c r = fun j => ((t (ix2 r j) : ℝ) : EReal) := fun r => funext fun j => congrFun ht _
    have kG : KernelIdeal.Value.rowG m c = fun j => ((w (ix1 j) : ℝ) : EReal) := funext fun j => congrFun hw _
    have e0 : ∀ (r : Fin 16384) (k : Fin 1024), dxR (ReferenceIdeal.Value.rowX m' c r) (ReferenceIdeal.Value.rowT m' c r) (ReferenceIdeal.Value.rowG m' c) k
        = dxK (KernelIdeal.Value.rowX m c r) (KernelIdeal.Value.rowT m c r) (KernelIdeal.Value.rowG m c) k := fun r k => by
      rw [eX, eT, eG, kX, kT, kG, dx_eq]
    have e1 : ∀ (r : Fin 16384) (k : Fin 1024), err (ReferenceIdeal.Value.rowX m' c r) (ReferenceIdeal.Value.rowT m' c r) (ReferenceIdeal.Value.rowG m' c) k
        = err (KernelIdeal.Value.rowX m c r) (KernelIdeal.Value.rowT m c r) (KernelIdeal.Value.rowG m c) k := fun r k => by
      rw [eX, eT, eG, kX, kT, kG]
    have e2 : ∀ (r : Fin 16384) (k : Fin 1024), ReferenceIdeal.Value.rowX m' c r k * rms (ReferenceIdeal.Value.rowX m' c r)
        * dyR (ReferenceIdeal.Value.rowX m' c r) (ReferenceIdeal.Value.rowT m' c r) (ReferenceIdeal.Value.rowG m' c) k
        = KernelIdeal.Value.dgRow m c k r := fun r k => by
      rw [KernelIdeal.Value.dgRow, eX, eT, eG, kX, kT, kG, dy_eq, mul_comm]
    exact ⟨h0.trans (funext fun i => e0 (i 0) (i 1)),
      h1.trans (funext fun i => Finset.sum_congr rfl fun r _ => congrArg₂ _ (e1 r (i 1)) (e1 r (i 1))),
      h2.trans (funext fun i => Finset.sum_congr rfl fun r _ => e2 r (i 1)), h3⟩

end Cert.LossHead

end
-- ==== Proof.BwdO.lean ====
/- The gates' backward call: the output projection's cotangent, the three sigmoid gates' and the three branches' cotangents,
   and the output projection's gradient, against `jax.vjp` of the plain forward lines. Hand-written, untrusted. -/
module

public import proofs.«01_k».proof.Proof.Gen.Kernel2Ideal.Value
public import proofs.«01_k».proof.Proof.Gen.Reference2Ideal.Run
public import proofs.«01_k».proof.Proof.Lift
public import proofs.«01_k».proof.Defs
public import proofs.«01_k».proof.Proof.Gen.On_written2

@[expose] public section

set_option maxRecDepth 16384

noncomputable section

open Idealize.ShloMosaic Idealize.ShloMosaic.TcCoe Idealize.SL.Sem
open Idealize.ShloMosaic.Pipeline (Dat)
open scoped BigOperators

/-! ## One row of the call -/

namespace Cert.BwdO

/-- A row of three blocks of 1024 columns, by column. -/
def ofBlocks (f : Fin 3 → Fin 1024 → EReal) (k : Fin 3072) : EReal :=
  if h : k.val < 1024 then f 0 ⟨k.val, h⟩ else if h' : k.val < 2048 then f 1 ⟨k.val - 1024, by omega⟩ else f 2 ⟨k.val - 2048, by omega⟩

theorem ofBlocks_0 (f : Fin 3 → Fin 1024 → EReal) {k : Fin 3072} {j : Fin 1024} (h : k.val = j.val) : ofBlocks f k = f 0 j := by
  rw [ofBlocks, dif_pos (h ▸ j.isLt)]
  exact congrArg (f 0) (Fin.ext h)

theorem ofBlocks_1 (f : Fin 3 → Fin 1024 → EReal) {k : Fin 3072} {j : Fin 1024} (h : k.val = 1024 + j.val) : ofBlocks f k = f 1 j := by
  rw [ofBlocks, dif_neg (by omega), dif_pos (by omega)]
  exact congrArg (f 1) (Fin.ext (show k.val - 1024 = j.val by omega))

theorem ofBlocks_2 (f : Fin 3 → Fin 1024 → EReal) {k : Fin 3072} {j : Fin 1024} (h : k.val = 2048 + j.val) : ofBlocks f k = f 2 j := by
  rw [ofBlocks, dif_neg (by omega), dif_neg (by omega)]
  exact congrArg (f 2) (Fin.ext (show k.val - 2048 = j.val by omega))

/-- The block and the lane of a column. -/
theorem exists_col (k : Fin 3072) : ∃ j : Fin 1024, k = ⟨j.val, by omega⟩ ∨ k = ⟨1024 + j.val, by omega⟩ ∨ k = ⟨2048 + j.val, by omega⟩ :=
  ⟨⟨k.val % 1024, Nat.mod_lt _ (by norm_num)⟩, by simp only [Fin.ext_iff]; omega⟩

/-- The cotangent of the merged row: the row of the stream's cotangent times the transposed projection. -/
def dm (x : Fin 1024 → EReal) (w : Fin 1024 → Fin 1024 → EReal) (k : Fin 1024) : EReal := ∑ j, x j * w k j

/-- The merged row: the three branches, each under its gate. -/
def merged (p l : Fin 3 → Fin 1024 → EReal) (k : Fin 1024) : EReal :=
  Ideal.logistic (l 0 k) * p 0 k + Ideal.logistic (l 1 k) * p 1 k + Ideal.logistic (l 2 k) * p 2 k

/-- The cotangent of branch `b`. -/
def dp (x : Fin 1024 → EReal) (w : Fin 1024 → Fin 1024 → EReal) (l : Fin 3 → Fin 1024 → EReal) (b : Fin 3) (k : Fin 1024) : EReal :=
  dm x w k * Ideal.logistic (l b k)

/-- The cotangent of gate `b`'s logit. -/
def dl (x : Fin 1024 → EReal) (w : Fin 1024 → Fin 1024 → EReal) (p l : Fin 3 → Fin 1024 → EReal) (b : Fin 3) (k : Fin 1024) : EReal :=
  dp x w l b k * p b k * (1 - Ideal.logistic (l b k))

/-- The reference's order of the same product. -/
theorem dl_eq (x : Fin 1024 → EReal) (w : Fin 1024 → Fin 1024 → EReal) (p l : Fin 3 → Fin 1024 → EReal) (b : Fin 3) (k : Fin 1024) :
    dm x w k * p b k * (Ideal.logistic (l b k) * (1 - Ideal.logistic (l b k))) = dl x w p l b k := by
  unfold dl dp
  ac_rfl

theorem c1 : Ideal.ofBits .f32 0x3F800000#32 = 1 := by
  simp [Ideal.ofBits, Ideal.ieee, -EReal.coe_mul]; norm_num

end Cert.BwdO

/-! ## What the kernel's run leaves in its three results -/

namespace Cert.Kernel2Ideal.Value

open Cert.Kernel2Ideal Cert.Kernel2Ideal.Gen Cert.BwdO

section
variable (X : Vec Ideal S512x1024 .f32) (A B C : Vec Ideal S512x1024 .bf16) (L : Vec Ideal S512x3072 .bf16)
  (W : Vec Ideal S1024x1024 .bf16) (O : Vec Ideal S1024x1024 .f32) (r : Fin 512) (k : Fin 1024)

/-- The logits of a row of a point's block, by gate. -/
abbrev blkL : Fin 3 → Fin 1024 → EReal :=
  ![fun k => L (ix2 r ⟨k.val, by omega⟩), fun k => L (ix2 r ⟨1024 + k.val, by omega⟩), fun k => L (ix2 r ⟨2048 + k.val, by omega⟩)]

/-- The branches of a row of a point's block. -/
abbrev blkP : Fin 3 → Fin 1024 → EReal := ![fun k => A (ix2 r k), fun k => B (ix2 r k), fun k => C (ix2 r k)]

theorem pay_dp0 : k0_pay19 L X W (ix2 r k) = dp (fun j => X (ix2 r j)) (fun a b => W (ix2 b a)) (blkL L r) 0 k := by
  pointwise [k0_pay19, k0_pay18, k0_pay17, k0_pay15, k0_pay9]
  rfl
theorem pay_dp1 : k0_pay3 (k0_pay10 L) (k0_pay17 X W) (ix2 r k) = dp (fun j => X (ix2 r j)) (fun a b => W (ix2 b a)) (blkL L r) 1 k := by
  pointwise [k0_pay3, k0_pay2, k0_pay17, k0_pay15, k0_pay10]
  rfl
theorem pay_dp2 : k0_pay6 (k0_pay11 L) (k0_pay17 X W) (ix2 r k) = dp (fun j => X (ix2 r j)) (fun a b => W (ix2 b a)) (blkL L r) 2 k := by
  pointwise [k0_pay6, k0_pay5, k0_pay17, k0_pay15, k0_pay11]
  rfl
theorem pay_dl0 : k0_pay1 (k0_pay9 L) (k0_pay12 A) (k0_pay18 L X W) (ix2 r k)
    = dl (fun j => X (ix2 r j)) (fun a b => W (ix2 b a)) (blkP A B C r) (blkL L r) 0 k := by
  pointwise [k0_pay1, k0_pay18, k0_pay12, k0_pay17, k0_pay15, k0_pay9]
  rfl
theorem pay_dl1 : k0_pay4 (k0_pay10 L) (k0_pay13 B) (k0_pay17 X W) (ix2 r k)
    = dl (fun j => X (ix2 r j)) (fun a b => W (ix2 b a)) (blkP A B C r) (blkL L r) 1 k := by
  pointwise [k0_pay4, k0_pay2, k0_pay13, k0_pay17, k0_pay15, k0_pay10]
  rfl
theorem pay_dl2 : k0_pay7 (k0_pay11 L) (k0_pay14 C) (k0_pay17 X W) (ix2 r k)
    = dl (fun j => X (ix2 r j)) (fun a b => W (ix2 b a)) (blkP A B C r) (blkL L r) 2 k := by
  pointwise [k0_pay7, k0_pay5, k0_pay14, k0_pay17, k0_pay15, k0_pay11]
  rfl

/-- One entry of a point's step of the output projection's gradient. -/
theorem pay_dw (i j : Fin 1024) : k0_pay16 A B C L X O (ix2 i j) = O (ix2 i j)
    + ∑ r : Fin 512, merged (blkP A B C r) (blkL L r) i * X (ix2 r j) := by
  pointwise [k0_pay16, k0_pay15, k0_pay9, k0_pay10, k0_pay11, k0_pay12, k0_pay13, k0_pay14]
  rfl
end

variable (m : (ℓ : Loc nD τ sig) → Buf (Elt Ideal) ℓ)

/-- The argument arrays by row: the stream's cotangent, the three branches, the gates' logits (the last three blocks of
    the projections), and the output projection. -/
abbrev rowX (c : Dev nD) (r : Fin 16384) : Fin 1024 → EReal := fun j => m (c.tc.loc main_arg0) (ix2 r j)
abbrev rowP (c : Dev nD) (r : Fin 16384) : Fin 3 → Fin 1024 → EReal :=
  ![fun j => m (c.tc.loc main_arg1) (ix2 r j), fun j => m (c.tc.loc main_arg2) (ix2 r j), fun j => m (c.tc.loc main_arg3) (ix2 r j)]
abbrev rowL (c : Dev nD) (r : Fin 16384) : Fin 3 → Fin 1024 → EReal :=
  ![fun j => m (c.tc.loc main_arg4) (ix2 r ⟨9216 + j.val, by omega⟩), fun j => m (c.tc.loc main_arg4) (ix2 r ⟨9216 + (1024 + j.val), by omega⟩),
    fun j => m (c.tc.loc main_arg4) (ix2 r ⟨9216 + (2048 + j.val), by omega⟩)]
abbrev wOut (c : Dev nD) : Fin 1024 → Fin 1024 → EReal := fun a b => m (c.tc.loc main_arg5) (ix2 a b)

/-- Row `r` of point `t`'s block, in the whole array. -/
abbrev rowAt (t : Fin cfg0.N) (r : Fin 512) : Fin 16384 :=
  ⟨512 * t.val + r.val, by have := t.isLt; have : cfg0.N = 32 := rfl; omega⟩

theorem idx : ∀ t : Fin cfg0.N, win0_0.index t = ![t.val, 0] ∧ win0_1.index t = ![t.val, 0] ∧ win0_2.index t = ![t.val, 0]
    ∧ win0_3.index t = ![t.val, 0] ∧ win0_4.index t = ![t.val, 3] ∧ win0_5.index t = ![0, 0] ∧ win0_6.index t = ![t.val, 0]
    ∧ win0_7.index t = ![t.val, 3] ∧ win0_8.index t = ![0, 0] :=
  (by decide +kernel : ∀ t : Fin grid0.N, _)

theorem blk0 (c : Dev nD) (t : Fin cfg0.N) (r : Fin 512) :
    (fun k => (iblk m c 0 t : FVec Ideal S512x1024 .f32) (ix2 r k)) = rowX m c (rowAt t r) := by
  funext k
  blk_point [iblk, V, idx t]

theorem blk1 (c : Dev nD) (t : Fin cfg0.N) (r : Fin 512) (k : Fin 1024) :
    (iblk m c 1 t : FVec Ideal S512x1024 .bf16) (ix2 r k) = m (c.tc.loc main_arg1) (ix2 (rowAt t r) k) := by
  blk_point [iblk, V, idx t]

theorem blk2 (c : Dev nD) (t : Fin cfg0.N) (r : Fin 512) (k : Fin 1024) :
    (iblk m c 2 t : FVec Ideal S512x1024 .bf16) (ix2 r k) = m (c.tc.loc main_arg2) (ix2 (rowAt t r) k) := by
  blk_point [iblk, V, idx t]

theorem blk3 (c : Dev nD) (t : Fin cfg0.N) (r : Fin 512) (k : Fin 1024) :
    (iblk m c 3 t : FVec Ideal S512x1024 .bf16) (ix2 r k) = m (c.tc.loc main_arg3) (ix2 (rowAt t r) k) := by
  blk_point [iblk, V, idx t]

theorem blk4 (c : Dev nD) (t : Fin cfg0.N) (r : Fin 512) (k : Fin 3072) :
    (iblk m c 4 t : FVec Ideal S512x3072 .bf16) (ix2 r k) = m (c.tc.loc main_arg4) (ix2 (rowAt t r) ⟨9216 + k.val, by omega⟩) := by
  blk_point [iblk, V, idx t]

theorem blkP_eq (c : Dev nD) (t : Fin cfg0.N) (r : Fin 512) :
    blkP (iblk m c 1 t) (iblk m c 2 t) (iblk m c 3 t) r = rowP m c (rowAt t r) := by
  funext b k
  fin_cases b
  exacts [blk1 m c t r k, blk2 m c t r k, blk3 m c t r k]

theorem blkL_eq (c : Dev nD) (t : Fin cfg0.N) (r : Fin 512) : blkL (iblk m c 4 t) r = rowL m c (rowAt t r) := by
  funext b k
  fin_cases b
  exacts [blk4 m c t r _, blk4 m c t r _, blk4 m c t r _]

theorem blk5 (c : Dev nD) (t : Fin cfg0.N) :
    (fun a b => (iblk m c 5 t : FVec Ideal S1024x1024 .bf16) (ix2 b a)) = wOut m c := by
  funext a b
  blk_point [iblk, V, idx t]

/-- Where an entry of point `t`'s block of a result lies in the whole array. -/
theorem emb6 (t : Fin cfg0.N) (r : Fin 512) (k : Fin 3072) :
    (win0_6.blk t).view.emb (ix2 r k : S512x3072.Idx) = ix2 (rowAt t r) k := by
  blk_ext [idx t]
theorem emb7 (t : Fin cfg0.N) (r : Fin 512) (k : Fin 3072) :
    (win0_7.blk t).view.emb (ix2 r k : S512x3072.Idx) = ix2 (rowAt t r) ⟨9216 + k.val, by omega⟩ := by
  blk_ext [idx t]
theorem emb8 (t : Fin cfg0.N) (z : S1024x1024.Idx) : (win0_8.blk t).view.emb z = z := by
  blk_ext [idx t]

/-- What the run leaves in the three results: the branches' cotangents, the logits' cotangents (in the last three blocks of
    columns), and the output projection's gradient. -/
def outDp (c : Dev nD) : FVec Ideal S16384x3072 .bf16 := fun i => ofBlocks (dp (rowX m c (i 0)) (wOut m c) (rowL m c (i 0))) (i 1)
def outDl (c : Dev nD) : FVec Ideal S16384x12288 .bf16 := fun i =>
  if h : 9216 ≤ (i 1).val then ofBlocks (dl (rowX m c (i 0)) (wOut m c) (rowP m c (i 0)) (rowL m c (i 0)))
    ⟨(i 1).val - 9216, by have : (i 1).val < 12288 := (i 1).isLt; omega⟩ else 0
def outDw (c : Dev nD) : FVec Ideal S1024x1024 .f32 := fun i => ∑ r, merged (rowP m c r) (rowL m c r) (i 0) * rowX m c r (i 1)

/-- Three stores side by side, read back as a row of three blocks. -/
theorem canon_blocks (P0 P1 P2 : FVec Ideal S512x1024 .bf16) (f : Fin 3 → Fin 1024 → EReal) (r : Fin 512)
    (h0 : ∀ j, P0 (ix2 r j) = f 0 j) (h1 : ∀ j, P1 (ix2 r j) = f 1 j) (h2 : ∀ j, P2 (ix2 r j) = f 2 j) (k : Fin 3072) :
    View.canon (Val := Elt Ideal) (s := S512x3072) (e := EltTy.bf16) [⟨Rect.unit (s := S512x3072) ![0, 2048] S512x1024.size inb_S512x3072_S512x1024_0_2048, P2⟩,
      ⟨Rect.unit (s := S512x3072) ![0, 1024] S512x1024.size inb_S512x3072_S512x1024_0_1024, P1⟩,
      ⟨Rect.unit (s := S512x3072) ![0, 0] S512x1024.size inb_S512x3072_S512x1024_0_0, P0⟩] (ix2 r k) = ofBlocks f k := by
  canon_tiles x hx
  all_goals
    obtain ⟨r', j, rfl⟩ := Lift.exists_ix2 x
    obtain rfl : r = r' := Fin.ext ‹_›
  · exact (h2 j).trans (ofBlocks_2 f hx1).symm
  · exact (h1 j).trans (ofBlocks_1 f hx1).symm
  · exact (h0 j).trans (ofBlocks_0 f hx1).symm

/-- A point's three stores of the branches' cotangents. -/
theorem after_dp (c : Dev nD) (t : Fin cfg0.N) (r : Fin 512) (k : Fin 3072) :
    ((outsAt0 m c t.val t.isLt).1 : FVec Ideal S512x3072 .bf16) (ix2 r k)
      = ofBlocks (dp (rowX m c (rowAt t r)) (wOut m c) (rowL m c (rowAt t r))) k := by
  rw [← blk0, ← blk5 m c t, ← blkL_eq]
  refine Eq.trans ?_ (canon_blocks _ _ _ _ r (pay_dp0 _ _ _ r) (pay_dp1 _ _ _ r) (pay_dp2 _ _ _ r) k)
  by_cases h : t.val % 32 = 0
  · rw [outsAt0_A m c t h]; frame_out
  · rw [outsAt0_B m c t h]; frame_out

/-- A point's three stores of the logits' cotangents. -/
theorem after_dl (c : Dev nD) (t : Fin cfg0.N) (r : Fin 512) (k : Fin 3072) :
    ((outsAt0 m c t.val t.isLt).2.1 : FVec Ideal S512x3072 .bf16) (ix2 r k)
      = ofBlocks (dl (rowX m c (rowAt t r)) (wOut m c) (rowP m c (rowAt t r)) (rowL m c (rowAt t r))) k := by
  rw [← blk0, ← blk5 m c t, ← blkL_eq, ← blkP_eq]
  refine Eq.trans ?_ (canon_blocks _ _ _ _ r (pay_dl0 _ _ _ _ _ _ r) (pay_dl1 _ _ _ _ _ _ r) (pay_dl2 _ _ _ _ _ _ r) k)
  by_cases h : t.val % 32 = 0
  · rw [outsAt0_A m c t h]; frame_out
  · rw [outsAt0_B m c t h]; frame_out

/-- Result 0 after the run. -/
theorem arr_dp (c : Dev nD) : (dats m 0 c).arrAt 6 cfg0.N = outDp m c := by
  refine (dats m 0 c).arrAt_eq_of_covers 6 _ (by decide +kernel) fun t hf y => ?_
  have key : ∀ z : S512x3072.Idx, ((outsAt0 m c t.val t.isLt).1 : FVec Ideal S512x3072 .bf16) z
      = outDp m c ((win0_6.blk t).view.emb z) := fun z => by
    obtain ⟨r, k, rfl⟩ := Lift.exists_ix2 z
    rw [after_dp, emb6]
    rfl
  blk_simp
  rw [after0_6]
  exact key y

/-- Result 1 after the run, in its last three blocks of columns. -/
theorem arr_dl (c : Dev nD) (r : Fin 16384) (k : Fin 12288) (hk : 9216 ≤ k.val) :
    (dats m 0 c).arrAt 7 cfg0.N (ix2 r k) = outDl m c (ix2 r k) := by
  have h := (dats m 0 c).arrAt_eq_of_coversWhere 7 (outDl m c) (P := fun i : S16384x12288.Idx => 9216 ≤ (i 1).val)
    (fun β => 3 ≤ β (1 : Fin 2)) (by decide +kernel) (fun t hf y => ?_) (fun j => ?_)
  · rw [h]; exact if_pos hk
  · have key : ∀ z : S512x3072.Idx, ((outsAt0 m c t.val t.isLt).2.1 : FVec Ideal S512x3072 .bf16) z
        = outDl m c ((win0_7.blk t).view.emb z) := fun z => by
      obtain ⟨r, k, rfl⟩ := Lift.exists_ix2 z
      rw [after_dl, emb7]
      refine Eq.trans ?_ (dif_pos (show 9216 ≤ 9216 + k.val by omega)).symm
      exact congrArg _ (Fin.ext (Nat.add_sub_cancel_left ..).symm)
    blk_simp
    rw [after0_7]
    exact key y
  · blk_simp [Pipeline.Window.cell_apply]
    omega

/-- A point's step of the output projection's gradient adds its rows' parts. -/
theorem step_dw (O : Vec Ideal S1024x1024 .f32) (c : Dev nD) (t : Fin cfg0.N) (z : S1024x1024.Idx) :
    k0_pay16 (iblk m c 1 t) (iblk m c 2 t) (iblk m c 3 t) (iblk m c 4 t) (iblk m c 0 t) O z
      = O z + ∑ r : Fin 512, merged (rowP m c (rowAt t r)) (rowL m c (rowAt t r)) (z 0) * rowX m c (rowAt t r) (z 1) := by
  obtain ⟨i, j, rfl⟩ := Lift.exists_ix2 z
  rw [pay_dw]
  refine congrArg₂ _ rfl (Finset.sum_congr rfl fun r _ => ?_)
  rw [blkP_eq, blkL_eq]
  exact congrArg _ (congrFun (blk0 m c t r) j)

theorem zero_dw (z : S1024x1024.Idx) : k0_pay8 (F := Ideal) z = 0 := by pointwise [k0_pay8]

/-- Result 2 after the run. -/
theorem arr_dw (c : Dev nD) : (dats m 0 c).arrAt 8 cfg0.N = outDw m c := by
  refine (dats m 0 c).arrAt_eq_of_covers 8 _ (by decide +kernel) fun t hf y => ?_
  blk_simp
  rw [after0_8, Pipeline.eq_sum_fin_of_reset_step_apply_of_flush (fun n h => (outsAt0 m c n h).2.2) 32 (fun _ => 0)
    (fun (t : Fin cfg0.N) (z : S1024x1024.Idx) => ∑ r : Fin 512, merged (rowP m c (rowAt t r)) (rowL m c (rowAt t r)) (z 0) * rowX m c (rowAt t r) (z 1))
    (fun t h z => by rw [outsAt0_A m c t h]; frame_out; rw [step_dw, zero_dw])
    (fun t h z => by rw [outsAt0_B m c t h]; frame_out; rw [step_dw])
    t ((flush0_8 t).mp hf) _, zero_add]
  refine (Lift.sum_rows rowAt (fun _ _ => rfl) (fun r => merged (rowP m c r) (rowL m c r) _ * rowX m c r _) _ fun s => ?_).trans ?_
  · show 32 * (t.val / 32) + s.val = s.val
    rw [Nat.div_eq_of_lt (lt_of_lt_of_le t.isLt (show cfg0.N ≤ 32 from le_refl 32))]
    omega
  · exact congrArg (outDw m c) (emb8 t y).symm

end Cert.Kernel2Ideal.Value

/-! ## What the reference's run leaves in its three results -/

namespace Cert.Reference2Ideal.Value

open Cert.Reference2Ideal Cert.Reference2Ideal.Gen Cert.BwdO

variable (m : (ℓ : Loc nD τ sig) → Buf (Elt Ideal) ℓ)

/-- The argument arrays by row, as for the kernel. -/
abbrev rowX (c : Dev nD) (r : Fin 16384) : Fin 1024 → EReal := fun j => m (c.tc.loc main_arg0) (ix2 r j)
abbrev rowP (c : Dev nD) (r : Fin 16384) : Fin 3 → Fin 1024 → EReal :=
  ![fun j => m (c.tc.loc main_arg1) (ix2 r j), fun j => m (c.tc.loc main_arg2) (ix2 r j), fun j => m (c.tc.loc main_arg3) (ix2 r j)]
abbrev rowL (c : Dev nD) (r : Fin 16384) : Fin 3 → Fin 1024 → EReal :=
  ![fun j => m (c.tc.loc main_arg4) (ix2 r ⟨9216 + j.val, by omega⟩), fun j => m (c.tc.loc main_arg4) (ix2 r ⟨9216 + (1024 + j.val), by omega⟩),
    fun j => m (c.tc.loc main_arg4) (ix2 r ⟨9216 + (2048 + j.val), by omega⟩)]
abbrev wOut (c : Dev nD) : Fin 1024 → Fin 1024 → EReal := fun a b => m (c.tc.loc main_arg5) (ix2 a b)

/-- What the run leaves in the three results. -/
def outDp (c : Dev nD) : FVec Ideal S16384x3072 .bf16 := fun i => ofBlocks (dp (rowX m c (i 0)) (wOut m c) (rowL m c (i 0))) (i 1)
def outDl (c : Dev nD) : FVec Ideal S16384x12288 .bf16 := fun i =>
  if h : 9216 ≤ (i 1).val then ofBlocks (dl (rowX m c (i 0)) (wOut m c) (rowP m c (i 0)) (rowL m c (i 0)))
    ⟨(i 1).val - 9216, by have : (i 1).val < 12288 := (i 1).isLt; omega⟩ else 0
def outDw (c : Dev nD) : FVec Ideal S1024x1024 .f32 := fun i => ∑ r, merged (rowP m c r) (rowL m c r) (i 0) * rowX m c r (i 1)

/-- The column's block, in the three forms that reading the reference leaves. -/
theorem div_col (b : ℕ) (k : Fin 1024) : (1024 * b + k.val) / 1024 = b := by omega

theorem outDl_at (c : Dev nD) (r : Fin 16384) (k : Fin 3072) (h : 9216 + k.val < 12288) : outDl m c (ix2 r ⟨9216 + k.val, h⟩)
    = ofBlocks (dl (rowX m c r) (wOut m c) (rowP m c r) (rowL m c r)) k := by
  refine (dif_pos (show 9216 ≤ 9216 + k.val by omega)).trans ?_
  exact congrArg _ (Fin.ext (Nat.add_sub_cancel_left ..))

/-- The reference's run by rows: what each of the three results holds (the second in its last three blocks of columns), the
    arguments unchanged. -/
theorem run_rows (ρ : Dev nD → PrngReg) : θ_run defs (onTc (τ := τ) (main (F := Ideal))) ⟨m, fun _ => 0, ρ⟩ fun r => ∀ c : Dev nD,
      r.2.mem ((c.tc : Thread nD τ).loc main_v49) = outDp m c
      ∧ (∀ (i : Fin 16384) (k : Fin 3072), r.2.mem ((c.tc : Thread nD τ).loc main_v50) (ix2 i ⟨9216 + k.val, by omega⟩) = outDl m c (ix2 i ⟨9216 + k.val, by omega⟩))
      ∧ r.2.mem ((c.tc : Thread nD τ).loc main_v28) = outDw m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨h0, h1, h2, h3⟩ := h c
  refine ⟨h0.trans ?_, fun r k => ?_, h2.trans ?_, h3⟩
  · clear h h0 h1 h2 h3
    funext z
    obtain ⟨r, k, rfl⟩ := Lift.exists_ix2 z
    obtain ⟨k, rfl | rfl | rfl⟩ := exists_col k
    · refine Eq.trans ?_ (ofBlocks_0 _ (j := k) rfl).symm
      pointwise
      exact mul_comm (G := EReal) _ _
    · refine Eq.trans ?_ (ofBlocks_1 _ (j := k) rfl).symm
      pointwise
      exact mul_comm (G := EReal) _ _
    · refine Eq.trans ?_ (ofBlocks_2 _ (j := k) rfl).symm
      pointwise
      simp only [show 2048 + k.val - 1024 - 1024 = k.val by omega]
      rw [dif_neg (by omega), dif_neg (by omega)]
      exact mul_comm (G := EReal) _ _
  · rw [outDl_at]
    refine (congrFun h1 _).trans ?_
    clear h h0 h1 h2 h3
    obtain ⟨k, rfl | rfl | rfl⟩ := exists_col k
    · refine Eq.trans ?_ ((dl_eq _ _ _ _ _ _).trans (ofBlocks_0 _ (j := k) rfl).symm)
      pointwise
      simp only [show k.val / 1024 = 0 by omega]
      simp [Nat.mod_eq_of_lt k.isLt]
      rfl
    · refine Eq.trans ?_ ((dl_eq _ _ _ _ _ _).trans (ofBlocks_1 _ (j := k) rfl).symm)
      pointwise
      simp only [show (1024 + k.val) / 1024 = 1 by omega]
      simp [Nat.mod_eq_of_lt k.isLt]
      rfl
    · refine Eq.trans ?_ ((dl_eq _ _ _ _ _ _).trans (ofBlocks_2 _ (j := k) rfl).symm)
      pointwise
      simp only [show (2048 + k.val) / 1024 = 2 by omega]
      simp [Nat.mod_eq_of_lt k.isLt]
      rfl
  · clear h h0 h1 h2 h3
    funext z
    obtain ⟨r, k, rfl⟩ := Lift.exists_ix2 z
    pointwise
    exact Finset.sum_congr rfl fun x _ => mul_comm _ _

end Cert.Reference2Ideal.Value

/-! ## The value claim -/

namespace Cert.BwdO

/-- The mask selects the last three blocks of columns of the second result. -/
theorem mask_cols (a0 a1 a2 a3 a4 a5) (r : Fin 16384) (k : Fin 12288)
    (h : (Cert.On_written2.fn (F := Ideal) a0 a1 a2 a3 a4 a5).2.1 (ix2 r k) = 1#1) : 9216 ≤ k.val := by
  have h' : BitVec.ofBool (BitVec.sle 9216#32 (BitVec.ofNat 32 k.val)) = 1#1 := h
  have hk := k.isLt
  by_contra hn
  have e : BitVec.sle 9216#32 (BitVec.ofNat 32 k.val) = false := by
    rw [BitVec.sle_eq_decide, decide_eq_false_iff_not, BitVec.toInt_ofNat', BitVec.toInt_ofNat']
    simp only [Int.bmod_def]
    omega
  rw [e] at h'
  exact absurd h' (by decide)

/-- The reference's rows of equal arguments are the kernel's. -/
theorem value : Cert.algebraic_Kernel2Ideal_Reference2Ideal_on_written2 := by
  intro m g m' g' _ hag
  refine ⟨fun c => Kernel2Ideal.Value.outDp m c, fun c => Kernel2Ideal.Value.outDl m c, fun c => Kernel2Ideal.Value.outDw m c,
    (θ_run _ _ _).mono (fun r h c => ?_) (Kernel2Ideal.Value.run_blocks m g),
    (θ_run _ _ _).mono (fun r h c => ?_) (Reference2Ideal.Value.run_rows m' g')⟩
  · obtain ⟨h0, h1, h2, h3⟩ := h c
    refine ⟨fun i _ => congrFun (h0.trans (Kernel2Ideal.Value.arr_dp m c)) i, fun i hi => (congrFun h1 i).trans ?_,
      fun i _ => congrFun (h2.trans (Kernel2Ideal.Value.arr_dw m c)) i, h3⟩
    obtain ⟨r, k, rfl⟩ := Lift.exists_ix2 i
    exact Kernel2Ideal.Value.arr_dl m c r k (mask_cols _ _ _ _ _ _ r k hi)
  · obtain ⟨h0, h1, h2, h3⟩ := h c
    obtain ⟨a0, a1, a2, a3, a4, a5⟩ := hag c
    have eX : Reference2Ideal.Value.rowX m' c = Kernel2Ideal.Value.rowX m c := funext fun r => funext fun j => congrFun a0 _
    have eW : Reference2Ideal.Value.wOut m' c = Kernel2Ideal.Value.wOut m c := funext fun a => funext fun b => congrFun a5 _
    have eP : Reference2Ideal.Value.rowP m' c = Kernel2Ideal.Value.rowP m c := by
      unfold Reference2Ideal.Value.rowP Kernel2Ideal.Value.rowP
      rw [a1, a2, a3]
    have eL : Reference2Ideal.Value.rowL m' c = Kernel2Ideal.Value.rowL m c := by
      unfold Reference2Ideal.Value.rowL Kernel2Ideal.Value.rowL
      rw [a4]
    have e0 : Reference2Ideal.Value.outDp m' c = Kernel2Ideal.Value.outDp m c := by
      unfold Reference2Ideal.Value.outDp Kernel2Ideal.Value.outDp
      rw [eX, eW, eL]
    have e1 : Reference2Ideal.Value.outDl m' c = Kernel2Ideal.Value.outDl m c := by
      unfold Reference2Ideal.Value.outDl Kernel2Ideal.Value.outDl
      rw [eX, eW, eL, eP]
    have e2 : Reference2Ideal.Value.outDw m' c = Kernel2Ideal.Value.outDw m c := by
      unfold Reference2Ideal.Value.outDw Kernel2Ideal.Value.outDw
      rw [eX, eL, eP]
    refine ⟨fun i _ => congrFun (h0.trans e0) i, fun i hi => ?_, fun i _ => congrFun (h2.trans e2) i, h3⟩
    obtain ⟨r, k, rfl⟩ := Lift.exists_ix2 i
    obtain ⟨j, rfl⟩ : ∃ j : Fin 3072, k = ⟨9216 + j.val, by omega⟩ :=
      ⟨⟨k.val - 9216, by omega⟩, Fin.ext (Nat.add_sub_of_le (mask_cols _ _ _ _ _ _ r k hi)).symm⟩
    exact (h1 r j).trans (congrFun e1 _)

end Cert.BwdO

end
-- ==== Proof.Reals.lean ====
/- Extended reals that are real numbers: sums, products and the sigmoid keep them so. Hand-written, untrusted. -/
module

public import proofs.«01_k».proof.Proof.Lift

@[expose] public section

noncomputable section

open Idealize.ShloMosaic
open scoped BigOperators

namespace Cert

/-- An extended real that is a real number. -/
def IsReal (x : EReal) : Prop := ∃ r : ℝ, x = (r : EReal)

namespace IsReal

theorem coe (r : ℝ) : IsReal (r : EReal) := ⟨r, rfl⟩
theorem zero : IsReal 0 := ⟨0, by simp⟩
theorem one : IsReal 1 := ⟨1, by simp⟩
theorem add {x y : EReal} (hx : IsReal x) (hy : IsReal y) : IsReal (x + y) := by
  obtain ⟨a, rfl⟩ := hx
  obtain ⟨b, rfl⟩ := hy
  exact ⟨a + b, (EReal.coe_add a b).symm⟩
theorem sub {x y : EReal} (hx : IsReal x) (hy : IsReal y) : IsReal (x - y) := by
  obtain ⟨a, rfl⟩ := hx
  obtain ⟨b, rfl⟩ := hy
  exact ⟨a - b, (EReal.coe_sub a b).symm⟩
theorem mul {x y : EReal} (hx : IsReal x) (hy : IsReal y) : IsReal (x * y) := by
  obtain ⟨a, rfl⟩ := hx
  obtain ⟨b, rfl⟩ := hy
  exact ⟨a * b, (EReal.coe_mul a b).symm⟩
theorem sum {ι : Type*} (s : Finset ι) {f : ι → EReal} (h : ∀ i, IsReal (f i)) : IsReal (∑ i ∈ s, f i) := by
  choose g hg using h
  exact ⟨∑ i ∈ s, g i, by rw [← Lift.coe_sum]; exact Finset.sum_congr rfl fun i _ => hg i⟩
theorem logistic {x : EReal} (hx : IsReal x) : IsReal (Ideal.logistic x) := by
  obtain ⟨a, rfl⟩ := hx
  exact ⟨_, Ideal.logistic_coe a⟩
theorem ite {p : Prop} [Decidable p] {x y : EReal} (hx : IsReal x) (hy : IsReal y) : IsReal (if p then x else y) := by
  split <;> assumption

end IsReal

/-- Where `jnp.all(jnp.abs(x) < jnp.inf)` holds every entry of `x` is a real number. -/
theorem real_of_all {s u t : Shape} {axes : List (Fin s.rank)} [Subsingleton t.Idx] {X B : FVec Ideal s .f32}
    {init : IVec u 1} {h : s.ReducesTo axes t} {hu : 0 < u.numel} {j : t.Idx}
    (e : Host.reduce IntOp.andi (cmpf .olt (Host.absf X) B) init h hu j = 1#1)
    (hB : ∀ i, B i = Ideal.ofBits .f32 0x7F800000#32) (i : s.Idx) : IsReal (X i) := by
  obtain ⟨x, hx⟩ := Lift.real_of_all X B hB init h hu j e
  exact ⟨x i, congrFun hx i⟩

end Cert

end
-- ==== Proof.BwdCRows.lean ====
/- The gated convolution's backward call, row by row: what each result holds as a function of the argument rows, and the one
   identity between the kernel's and the reference's form of the gate's derivative. Hand-written, untrusted. -/
module

public import proofs.«01_k».proof.Proof.Reals

@[expose] public section

noncomputable section

open Idealize.ShloMosaic
open scoped BigOperators

namespace Cert.BwdC

/-- The argument rows of the call: the convolution's two factors `H` and `C`, the branch factor `B`, the gate's logit `Z`, the
    branch's cotangent `P`, the three taps and the bias of the convolution, and the branch's output matrix. -/
structure Args where
  H : Fin 16384 → Fin 1024 → EReal
  B : Fin 16384 → Fin 1024 → EReal
  C : Fin 16384 → Fin 1024 → EReal
  Z : Fin 16384 → Fin 1024 → EReal
  P : Fin 16384 → Fin 1024 → EReal
  taps : Fin 3 → Fin 1024 → EReal
  bias : Fin 1024 → EReal
  w : Fin 1024 → Fin 1024 → EReal

namespace Args

variable (a : Args)

/-- The convolution's input at a row. -/
def q (r : Fin 16384) (k : Fin 1024) : EReal := a.C r k * a.H r k

/-- The convolution's input after two rows of zeros. -/
def qp (i : ℕ) (k : Fin 1024) : EReal := if h : 2 ≤ i ∧ i < 16386 then a.q ⟨i - 2, by omega⟩ k else 0

/-- The convolution's output at a row. -/
def conv (r : Fin 16384) (k : Fin 1024) : EReal :=
  a.taps 0 k * a.qp (r.val + 0) k + a.taps 1 k * a.qp (r.val + 1) k + a.taps 2 k * a.qp (r.val + 2) k + a.bias k

/-- The gate at a row: the logit times its sigmoid. -/
def gate (r : Fin 16384) (k : Fin 1024) : EReal := a.Z r k * Ideal.logistic (a.Z r k)

/-- The cotangent of the gated product: the row of the branch's cotangent times the transposed output matrix. -/
def dy (r : Fin 16384) (k : Fin 1024) : EReal := ∑ j, a.P r j * a.w k j

/-- The gated product at a row. -/
def y (r : Fin 16384) (k : Fin 1024) : EReal := a.B r k * a.conv r k * a.gate r k

/-- The cotangent of the branch factor. -/
def dB (r : Fin 16384) (k : Fin 1024) : EReal := a.dy r k * a.conv r k * a.gate r k

/-- The cotangent of the gate's logit. -/
def dZ (r : Fin 16384) (k : Fin 1024) : EReal :=
  a.dy r k * a.conv r k * a.B r k * (Ideal.logistic (a.Z r k) * (1 + a.Z r k * (1 - Ideal.logistic (a.Z r k))))

/-- The cotangent of the convolution's output. -/
def dconv (r : Fin 16384) (k : Fin 1024) : EReal := a.dy r k * a.B r k * a.gate r k

/-- The cotangent of the convolution's output, with zeros after the last row. -/
def dconvZ (i : ℕ) (k : Fin 1024) : EReal := if h : i < 16384 then a.dconv ⟨i, h⟩ k else 0

/-- The cotangent of the convolution's input. -/
def dq (r : Fin 16384) (k : Fin 1024) : EReal :=
  a.taps 2 k * a.dconvZ (r.val + 0) k + a.taps 1 k * a.dconvZ (r.val + 1) k + a.taps 0 k * a.dconvZ (r.val + 2) k

/-- The four blocks of columns of the first result. -/
def grads : Fin 4 → Fin 16384 → Fin 1024 → EReal :=
  ![fun r k => a.dq r k * a.C r k, a.dB, fun r k => a.dq r k * a.H r k, a.dZ]

/-- A row of the taps' gradient: row `i` for the three taps, zeros below. -/
def dtapsPart (r : Fin 16384) (i : Fin 8) (k : Fin 1024) : EReal := if i.val < 3 then a.dconv r k * a.qp (r.val + i.val) k else 0

theorem qp_at {i : ℕ} {r : Fin 16384} (h : i = r.val + 2) (k : Fin 1024) : a.qp i k = a.q r k := by
  subst h
  exact (dif_pos ⟨by omega, by omega⟩).trans (congrArg (fun s => a.q s k) (Fin.ext (Nat.add_sub_cancel ..)))

theorem qp_zero {i : ℕ} (h : i < 2) (k : Fin 1024) : a.qp i k = 0 := dif_neg (by omega)

theorem dconvZ_at {i : ℕ} {r : Fin 16384} (h : i = r.val) (k : Fin 1024) : a.dconvZ i k = a.dconv r k := by
  subst h
  exact dif_pos r.isLt

theorem dconvZ_zero {i : ℕ} (h : 16384 ≤ i) (k : Fin 1024) : a.dconvZ i k = 0 := dif_neg (by omega)

/-! The reference reads the same rows through arrays padded with zeros: its forms of the same functions. -/

theorem qp0_eq (r : ℕ) (hr : r < 16384) (k : Fin 1024) :
    a.qp (r + 0) k = if h : r < 2 then 0 else a.C ⟨r - 2, by omega⟩ k * a.H ⟨r - 2, by omega⟩ k := by
  by_cases h : r < 2
  · rw [dif_pos h]; exact a.qp_zero h k
  · rw [dif_neg h]; exact a.qp_at (r := ⟨r - 2, by omega⟩) (show r + 0 = r - 2 + 2 by omega) k
theorem qp1_eq (r : ℕ) (hr : r < 16384) (k : Fin 1024) :
    a.qp (r + 1) k = if h : 1 + r < 2 then 0 else a.C ⟨1 + r - 2, by omega⟩ k * a.H ⟨1 + r - 2, by omega⟩ k := by
  by_cases h : 1 + r < 2
  · rw [dif_pos h]; exact a.qp_zero (by omega) k
  · rw [dif_neg h]; exact a.qp_at (r := ⟨1 + r - 2, by omega⟩) (show r + 1 = 1 + r - 2 + 2 by omega) k
theorem qp2_eq (r : Fin 16384) (k : Fin 1024) : a.qp (r.val + 2) k = a.C r k * a.H r k := a.qp_at rfl k

theorem conv_eq (r : Fin 16384) (k : Fin 1024) : a.conv r k =
    (a.taps 0 k * (if h : r.val < 2 then 0 else a.C ⟨r.val - 2, by omega⟩ k * a.H ⟨r.val - 2, by omega⟩ k)
      + a.taps 1 k * (if h : 1 + r.val < 2 then 0 else a.C ⟨1 + r.val - 2, by omega⟩ k * a.H ⟨1 + r.val - 2, by omega⟩ k))
      + a.taps 2 k * (a.C r k * a.H r k) + a.bias k := by
  rw [← a.qp0_eq r.val r.isLt, ← a.qp1_eq r.val r.isLt, ← a.qp2_eq]
  rfl

/-- At the first two rows the tap two rows back meets a zero, -/
theorem conv_head (x : Fin 2) (k : Fin 1024) : a.conv ⟨x.val, by omega⟩ k =
    (a.taps 0 k * 0
      + a.taps 1 k * (if h : 1 + x.val < 2 then 0 else a.C ⟨1 + x.val - 2, by omega⟩ k * a.H ⟨1 + x.val - 2, by omega⟩ k))
      + a.taps 2 k * (a.C ⟨x.val, by omega⟩ k * a.H ⟨x.val, by omega⟩ k) + a.bias k := by
  rw [conv_eq, dif_pos x.isLt]

/-- and at the others the row two back. -/
theorem conv_tail (x : Fin 16382) (k : Fin 1024) : a.conv ⟨2 + x.val, by omega⟩ k =
    (a.taps 0 k * (a.C ⟨x.val, by omega⟩ k * a.H ⟨x.val, by omega⟩ k)
      + a.taps 1 k * (if h : 1 + (2 + x.val) < 2 then 0 else a.C ⟨1 + (2 + x.val) - 2, by omega⟩ k * a.H ⟨1 + (2 + x.val) - 2, by omega⟩ k))
      + a.taps 2 k * (a.C ⟨2 + x.val, by omega⟩ k * a.H ⟨2 + x.val, by omega⟩ k) + a.bias k := by
  rw [← a.qp1_eq (2 + x.val) (by omega), ← a.qp2_eq, ← a.qp2_eq, show x.val + 2 = 2 + x.val + 0 by omega]
  rfl

theorem dconv_eq (r : Fin 16384) (k : Fin 1024) : a.B r k * (a.dy r k * a.gate r k) = a.dconv r k := by
  unfold dconv
  ac_rfl

theorem dq_eq (r : Fin 16384) (k : Fin 1024) : a.dq r k = (a.taps 2 k * (a.B r k * (a.dy r k * a.gate r k))
    + (if h : 1 ≤ 2 + r.val ∧ 2 + r.val - 1 < 16384 then
        a.taps 1 k * (a.B ⟨2 + r.val - 1, h.2⟩ k * (a.dy ⟨2 + r.val - 1, h.2⟩ k * a.gate ⟨2 + r.val - 1, h.2⟩ k)) else 0))
    + (if h : 2 + r.val < 16384 then a.taps 0 k * (a.B ⟨2 + r.val, h⟩ k * (a.dy ⟨2 + r.val, h⟩ k * a.gate ⟨2 + r.val, h⟩ k)) else 0) := by
  simp only [dconv_eq]
  refine congrArg₂ (· + ·) (congrArg₂ (· + ·) (congrArg _ (a.dconvZ_at (Nat.add_zero _) k)) ?_) ?_
  · by_cases h : 1 ≤ 2 + r.val ∧ 2 + r.val - 1 < 16384
    · rw [dif_pos h]
      exact congrArg _ (a.dconvZ_at (r := ⟨2 + r.val - 1, h.2⟩) (show r.val + 1 = 2 + r.val - 1 by omega) k)
    · rw [dif_neg h, a.dconvZ_zero (by omega), mul_zero]
  · by_cases h : 2 + r.val < 16384
    · rw [dif_pos h]
      exact congrArg _ (a.dconvZ_at (r := ⟨2 + r.val, h⟩) (Nat.add_comm _ _) k)
    · rw [dif_neg h, a.dconvZ_zero (by omega), mul_zero]

/-- Every argument entry a real number. -/
structure Real : Prop where
  H : ∀ r k, IsReal (a.H r k)
  B : ∀ r k, IsReal (a.B r k)
  C : ∀ r k, IsReal (a.C r k)
  Z : ∀ r k, IsReal (a.Z r k)
  P : ∀ r k, IsReal (a.P r k)
  taps : ∀ i k, IsReal (a.taps i k)
  bias : ∀ k, IsReal (a.bias k)
  w : ∀ i j, IsReal (a.w i j)

variable {a}

theorem Real.qp (h : a.Real) (i : ℕ) (k : Fin 1024) : IsReal (a.qp i k) := by
  unfold Args.qp
  split
  · exact (h.C _ _).mul (h.H _ _)
  · exact IsReal.zero

theorem Real.conv (h : a.Real) (r : Fin 16384) (k : Fin 1024) : IsReal (a.conv r k) :=
  ((((h.taps _ _).mul (h.qp _ _)).add ((h.taps _ _).mul (h.qp _ _))).add ((h.taps _ _).mul (h.qp _ _))).add (h.bias k)

theorem Real.dy (h : a.Real) (r : Fin 16384) (k : Fin 1024) : IsReal (a.dy r k) :=
  IsReal.sum _ fun j => (h.P _ _).mul (h.w _ _)

/-- The gate's derivative as the reference's two terms: on real numbers the product distributes. -/
theorem Real.dZ_eq (h : a.Real) (r : Fin 16384) (k : Fin 1024) :
    a.B r k * a.conv r k * a.dy r k * Ideal.logistic (a.Z r k)
      + a.Z r k * (a.B r k * a.conv r k * a.dy r k) * (Ideal.logistic (a.Z r k) * (1 - Ideal.logistic (a.Z r k))) = a.dZ r k := by
  unfold dZ
  obtain ⟨b, hb⟩ := h.B r k
  obtain ⟨u, hu⟩ := h.conv r k
  obtain ⟨d, hd⟩ := h.dy r k
  obtain ⟨z, hz⟩ := h.Z r k
  obtain ⟨s, hs⟩ := (h.Z r k).logistic
  rw [hs, hz, hb, hu, hd, ← EReal.coe_one]
  simp only [← EReal.coe_mul, ← EReal.coe_add, ← EReal.coe_sub]
  exact congrArg _ (by ring)

end Args

/-- The first two rows and the others are all the rows. -/
theorem sum_two (f : Fin 16384 → EReal) : ∑ x : Fin 2, f ⟨x.val, by omega⟩ + ∑ x : Fin 16382, f ⟨2 + x.val, by omega⟩ = ∑ r, f r :=
  (Fin.sum_univ_add (a := 2) (b := 16382) f).symm

/-- A row of four blocks of 1024 columns, by column. -/
def ofBlocks (f : Fin 4 → Fin 1024 → EReal) (k : ℕ) : EReal :=
  if h : k < 4096 then f ⟨k / 1024, by omega⟩ ⟨k % 1024, by omega⟩ else 0

theorem ofBlocks_at (f : Fin 4 → Fin 1024 → EReal) {k : ℕ} {b : Fin 4} {j : Fin 1024} (h : k = 1024 * b.val + j.val) :
    ofBlocks f k = f b j := by
  subst h
  refine (dif_pos (by omega)).trans ?_
  exact congrArg₂ f (Fin.ext (show (1024 * b.val + j.val) / 1024 = b.val by omega))
    (Fin.ext (show (1024 * b.val + j.val) % 1024 = j.val by omega))

/-- The block and the lane of a column. -/
theorem exists_col (k : Fin 4096) : ∃ j : Fin 1024, k = ⟨j.val, by omega⟩ ∨ k = ⟨1024 + j.val, by omega⟩ ∨ k = ⟨2048 + j.val, by omega⟩
    ∨ k = ⟨3072 + j.val, by omega⟩ :=
  ⟨⟨k.val % 1024, Nat.mod_lt _ (by norm_num)⟩, by simp only [Fin.ext_iff]; omega⟩

theorem c1 : Ideal.ofBits .f32 0x3F800000#32 = 1 := by
  simp [Ideal.ofBits, Ideal.ieee, -EReal.coe_mul]; norm_num

end Cert.BwdC

end
-- ==== Proof.Rows.lean ====
/- Stores of whole rows into a two-axis buffer, read back row by row. Hand-written, untrusted. -/
module

public import Idealize.ShloMosaic.Lib.Pipeline.ValueKit
public import Idealize.ShloMosaic.Lib.Pipeline.ReadBack
public import Idealize.ShloMosaic.Lib.WritesUnit

@[expose] public section

noncomputable section

open Idealize.ShloMosaic

namespace Cert.Rows

variable {Val : EltTy → Type} [∀ e, Nonempty (Val e)] {e : EltTy} {n w h o : ℕ}

/-- Row `r` of a store at row `o` is row `o + r` of the buffer. -/
theorem emb_rows (inb : ∀ a, (![o, 0] : Fin 2 → ℕ) a + (![h, w] : Fin 2 → ℕ) a ≤ Shape.size ⟨2, ![n, w]⟩ a) (s : Fin n) (r : Fin h)
    (k : Fin w) (hs : s.val = o + r.val) :
    (Rect.unit (s := ⟨2, ![n, w]⟩) ![o, 0] ![h, w] inb).idx (ix2 r k : Shape.Idx ⟨2, ![h, w]⟩) = ix2 s k := by
  funext a
  refine Fin.ext ?_
  fin_cases a
  · show o + 1 * r.val = s.val
    omega
  · show 0 + 1 * k.val = k.val
    omega

/-- The newest store read back at its own rows. -/
theorem canon_rows (inb : ∀ a, (![o, 0] : Fin 2 → ℕ) a + (![h, w] : Fin 2 → ℕ) a ≤ Shape.size ⟨2, ![n, w]⟩ a)
    (P : Shape.Idx ⟨2, ![h, w]⟩ → Val e) (L : List (View.Piece Val ⟨2, ![n, w]⟩ e)) (s : Fin n) (r : Fin h) (k : Fin w)
    (hs : s.val = o + r.val) :
    View.canon (⟨Rect.unit (s := ⟨2, ![n, w]⟩) ![o, 0] ![h, w] inb, P⟩ :: L) (ix2 s k) = P (ix2 r k) := by
  rw [← emb_rows inb s r k hs]
  exact View.canon_cons_emb _ _ _ _

/-- Any other row is what the older stores left. -/
theorem canon_skip (inb : ∀ a, (![o, 0] : Fin 2 → ℕ) a + (![h, w] : Fin 2 → ℕ) a ≤ Shape.size ⟨2, ![n, w]⟩ a)
    (P : Shape.Idx ⟨2, ![h, w]⟩ → Val e) (L : List (View.Piece Val ⟨2, ![n, w]⟩ e)) (s : Fin n) (k : Fin w)
    (hs : s.val < o ∨ o + h ≤ s.val) :
    View.canon (⟨Rect.unit (s := ⟨2, ![n, w]⟩) ![o, 0] ![h, w] inb, P⟩ :: L) (ix2 s k) = View.canon L (ix2 s k) := by
  refine View.canon_cons_of_not_mem _ _ fun hm => ?_
  have h0 := (Rect.mem_set_unit (inb := inb)).mp hm 0
  have h1 : o ≤ s.val ∧ s.val < o + h := h0
  omega

/-- A load of whole rows, of a buffer filled by stores. -/
theorem readCov_rows {sig : RefSig} {κ : Kind} {sp : Space} (v : View sig κ sp ⟨2, ![n, w]⟩ e)
    (inb : ∀ a, (![o, 0] : Fin 2 → ℕ) a + (![h, w] : Fin 2 → ℕ) a ≤ Shape.size ⟨2, ![n, w]⟩ a)
    (L : List (View.Piece Val ⟨2, ![n, w]⟩ e)) (s : Fin n) (r : Fin h) (k : Fin w) (hs : s.val = o + r.val) :
    v.readCov L (Rect.unit (s := ⟨2, ![n, w]⟩) ![o, 0] ![h, w] inb).toLoadRect (ix2 r k : Shape.Idx ⟨2, ![h, w]⟩) = View.canon L (ix2 s k) := by
  rw [View.readCov_eq_canon', ← emb_rows inb s r k hs]

/-- A load of whole rows of known contents. -/
theorem ld_rows (X : Shape.Idx ⟨2, ![n, w]⟩ → Val e)
    (inb : ∀ a, (![o, 0] : Fin 2 → ℕ) a + (![h, w] : Fin 2 → ℕ) a ≤ Shape.size ⟨2, ![n, w]⟩ a)
    (s : Fin n) (r : Fin h) (k : Fin w) (hs : s.val = o + r.val) :
    View.ld X (Rect.unit (s := ⟨2, ![n, w]⟩) ![o, 0] ![h, w] inb) (ix2 r k : Shape.Idx ⟨2, ![h, w]⟩) = X (ix2 s k) := by
  rw [← emb_rows inb s r k hs]

/-- The newest store read back at its own rows, through any view and over any contents, -/
theorem read_rows {sig : RefSig} {κ : Kind} {sp : Space} (v : View sig κ sp ⟨2, ![n, w]⟩ e) (f : v.ty.Contents Val)
    (inb : ∀ a, (![o, 0] : Fin 2 → ℕ) a + (![h, w] : Fin 2 → ℕ) a ≤ Shape.size ⟨2, ![n, w]⟩ a)
    (P : Shape.Idx ⟨2, ![h, w]⟩ → Val e) (L : List (View.Piece Val ⟨2, ![n, w]⟩ e)) (s : Fin n) (r : Fin h) (k : Fin w)
    (hs : s.val = o + r.val) :
    View.read Val v (v.writes Val f (⟨Rect.unit (s := ⟨2, ![n, w]⟩) ![o, 0] ![h, w] inb, P⟩ :: L)) (ix2 s k) = P (ix2 r k) := by
  rw [← emb_rows inb s r k hs]
  exact View.read_writes_cons_emb _ _ _ _ _ _

/-- and at any other row. -/
theorem read_skip {sig : RefSig} {κ : Kind} {sp : Space} (v : View sig κ sp ⟨2, ![n, w]⟩ e) (f : v.ty.Contents Val)
    (inb : ∀ a, (![o, 0] : Fin 2 → ℕ) a + (![h, w] : Fin 2 → ℕ) a ≤ Shape.size ⟨2, ![n, w]⟩ a)
    (P : Shape.Idx ⟨2, ![h, w]⟩ → Val e) (L : List (View.Piece Val ⟨2, ![n, w]⟩ e)) (s : Fin n) (k : Fin w)
    (hs : s.val < o ∨ o + h ≤ s.val) :
    View.read Val v (v.writes Val f (⟨Rect.unit (s := ⟨2, ![n, w]⟩) ![o, 0] ![h, w] inb, P⟩ :: L)) (ix2 s k)
      = View.read Val v (v.writes Val f L) (ix2 s k) :=
  View.read_writes_cons_unit_of_not_mem v f inb P L (ix2 s k) rfl 0 hs

end Cert.Rows

end
-- ==== Proof.BwdCKernel.lean ====
/- The gated convolution's backward call: what the kernel's run leaves in its four results, by rows. The grid runs over the
   row tiles from the last to the first; each point keeps the first rows of its convolution cotangent for the next point.
   Hand-written, untrusted. -/
module

public import proofs.«01_k».proof.Proof.BwdCFrame
public import proofs.«01_k».proof.Proof.BwdCRows
public import proofs.«01_k».proof.Proof.Rows
public import Idealize.ShloMosaic.Lib.Pipeline.Value
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Hand

open Cert.Kernel3Ideal Cert.Kernel3Ideal.Gen Cert.BwdC

section
variable (B Z P H C : Vec Ideal S512x1024 .bf16) (W : Vec Ideal S1024x1024 .bf16) (b : Vec Ideal S1x1024 .f32)
  (c0 c1 c2 O : Vec Ideal S1x1024 .f32) (q0 q1 q2 : Vec Ideal S512x1024 .f32) (r : Fin 512) (k : Fin 1024)
  (a : Args) (row : Fin 512 → Fin 16384)
  (hB : ∀ r k, B (ix2 r k) = a.B (row r) k) (hZ : ∀ r k, Z (ix2 r k) = a.Z (row r) k) (hP : ∀ r k, P (ix2 r k) = a.P (row r) k)
  (hH : ∀ r k, H (ix2 r k) = a.H (row r) k) (hC : ∀ r k, C (ix2 r k) = a.C (row r) k)
  (hW : ∀ i j, W (ix2 i j) = a.w j i) (hb : ∀ k, b (ix2 0 k) = a.bias k)
  (h0 : ∀ k, c0 (ix2 0 k) = a.taps 0 k) (h1 : ∀ k, c1 (ix2 0 k) = a.taps 1 k) (h2 : ∀ k, c2 (ix2 0 k) = a.taps 2 k)
  (e0 : ∀ r k, q0 (ix2 r k) = a.qp ((row r).val + 0) k) (e1 : ∀ r k, q1 (ix2 r k) = a.qp ((row r).val + 1) k)
  (e2 : ∀ r k, q2 (ix2 r k) = a.qp ((row r).val + 2) k)

include hB hZ hP hW in
theorem pay_dconv : k0_pay22 (k0_pay7 B) (k0_pay14 (k0_pay8 Z)) (k0_pay16 P W) (ix2 r k) = a.dconv (row r) k := by
  pointwise [k0_pay22, k0_pay7, k0_pay14, k0_pay13, k0_pay8, k0_pay16]
  simp only [hB, hZ, hP, hW]
  rfl

include hb h0 h1 h2 e0 e1 e2 in
theorem pay_conv : k0_pay12 (k0_pay9 b) c0 q0 c1 q1 c2 q2 (ix2 r k) = a.conv (row r) k := by
  pointwise [k0_pay12, k0_pay9]
  simp only [hb, h0, h1, h2, e0, e1, e2]
  rfl

include hZ in
theorem pay_gate : k0_pay14 (k0_pay8 Z) (ix2 r k) = a.gate (row r) k := by
  pointwise [k0_pay14, k0_pay13, k0_pay8]
  simp only [hZ]
  rfl

include hP hW in
theorem pay_dy : k0_pay16 P W (ix2 r k) = a.dy (row r) k := by
  pointwise [k0_pay16]
  simp only [hP, hW]
  rfl

include hZ hP hW hb h0 h1 h2 e0 e1 e2 in
theorem pay_dB : k0_pay18 (k0_pay8 Z) (k0_pay9 b) c0 q0 c1 q1 c2 q2 P W (ix2 r k) = a.dB (row r) k := by
  pointwise [k0_pay18, k0_pay17]
  rw [pay_dy P W r k a row hP hW, pay_gate Z r k a row hZ, pay_conv b c0 c1 c2 q0 q1 q2 r k a row hb h0 h1 h2 e0 e1 e2]
  rfl

include hB hZ hP hW hb h0 h1 h2 e0 e1 e2 in
theorem pay_dZ : k0_pay21 (k0_pay8 Z) (k0_pay13 (k0_pay8 Z)) (k0_pay19 (k0_pay7 B) (k0_pay9 b) c0 q0 c1 q1 c2 q2 P W)
    (k0_pay20 (k0_pay8 Z)) (ix2 r k) = a.dZ (row r) k := by
  pointwise [k0_pay21, k0_pay19, k0_pay17, k0_pay20, k0_pay13, k0_pay7, k0_pay8]
  rw [pay_dy P W r k a row hP hW, pay_conv b c0 c1 c2 q0 q1 q2 r k a row hb h0 h1 h2 e0 e1 e2, hB, hZ]
  rfl

include hB hZ hP hW hb h0 h1 h2 e0 e1 e2 in
theorem pay_dw (A : Vec Ideal S1024x1024 .f32) (i j : Fin 1024) :
    k0_pay15 (k0_pay7 B) (k0_pay8 Z) (k0_pay9 b) c0 q0 c1 q1 c2 q2 P A (ix2 i j)
      = A (ix2 i j) + ∑ r : Fin 512, a.y (row r) i * a.P (row r) j := by
  pointwise [k0_pay15, k0_pay7]
  refine congrArg₂ _ rfl (Finset.sum_congr rfl fun r _ => ?_)
  rw [pay_gate Z r i a row hZ, pay_conv b c0 c1 c2 q0 q1 q2 r i a row hb h0 h1 h2 e0 e1 e2, hB, hP]
  rfl

include hB hZ hP hW in
theorem pay_dbias : k0_pay23 (k0_pay7 B) (k0_pay14 (k0_pay8 Z)) (k0_pay16 P W) O (ix2 0 k)
    = O (ix2 0 k) + ∑ r : Fin 512, a.dconv (row r) k := by
  pointwise [k0_pay23]
  refine congrArg₂ _ rfl (Finset.sum_congr rfl fun r _ => ?_)
  exact pay_dconv B Z P W r k a row hB hZ hP hW

include hB hZ hP hW e0 in
theorem pay_tap0 : k0_pay24 (k0_pay7 B) (k0_pay14 (k0_pay8 Z)) (k0_pay16 P W) O q0 (ix2 0 k)
    = O (ix2 0 k) + ∑ r : Fin 512, a.dconv (row r) k * a.qp ((row r).val + 0) k := by
  pointwise [k0_pay24]
  refine congrArg₂ _ rfl (Finset.sum_congr rfl fun r _ => ?_)
  exact congrArg₂ _ (pay_dconv B Z P W r k a row hB hZ hP hW) (e0 r k)

include hB hZ hP hW e1 in
theorem pay_tap1 : k0_pay25 (k0_pay7 B) (k0_pay14 (k0_pay8 Z)) (k0_pay16 P W) O q1 (ix2 0 k)
    = O (ix2 0 k) + ∑ r : Fin 512, a.dconv (row r) k * a.qp ((row r).val + 1) k := by
  pointwise [k0_pay25]
  refine congrArg₂ _ rfl (Finset.sum_congr rfl fun r _ => ?_)
  exact congrArg₂ _ (pay_dconv B Z P W r k a row hB hZ hP hW) (e1 r k)

include hB hZ hP hW e2 in
theorem pay_tap2 : k0_pay26 (k0_pay22 (k0_pay7 B) (k0_pay14 (k0_pay8 Z)) (k0_pay16 P W)) O q2 (ix2 0 k)
    = O (ix2 0 k) + ∑ r : Fin 512, a.dconv (row r) k * a.qp ((row r).val + 2) k := by
  pointwise [k0_pay26]
  refine congrArg₂ _ rfl (Finset.sum_congr rfl fun r _ => ?_)
  exact congrArg₂ _ (pay_dconv B Z P W r k a row hB hZ hP hW) (e2 r k)

variable (D d1 d2 : Vec Ideal S512x1024 .f32) (eD : ∀ r k, D (ix2 r k) = a.dconvZ ((row r).val + 0) k)
  (f1 : ∀ r k, d1 (ix2 r k) = a.dconvZ ((row r).val + 1) k) (f2 : ∀ r k, d2 (ix2 r k) = a.dconvZ ((row r).val + 2) k)

include h0 h1 h2 eD f1 f2 hH hC in
theorem pay_dC : k0_pay2 (k0_pay30 D c2 c1 d1 c0 d2) H (ix2 r k) = a.grads 2 (row r) k := by
  pointwise [k0_pay2, k0_pay30]
  simp only [h0, h1, h2, eD, f1, f2, hH]
  rfl

include h0 h1 h2 eD f1 f2 hH hC in
theorem pay_dH : k0_pay1 (k0_pay30 D c2 c1 d1 c0 d2) C (ix2 r k) = a.grads 0 (row r) k := by
  pointwise [k0_pay1, k0_pay30]
  simp only [h0, h1, h2, eD, f1, f2, hC]
  rfl
end

end Cert.Kernel3Ideal.Hand

end
-- ==== Proof.BwdCArrays.lean ====
/- The gated convolution's backward call: the kernel's blocks and scratch by rows of the argument arrays, and its four results
   after the run. Hand-written, untrusted. -/
module

public import proofs.«01_k».proof.Proof.BwdCKernel

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Hand

open Cert.Kernel3Ideal Cert.Kernel3Ideal.Gen Cert.BwdC

variable (m : (ℓ : Loc nD τ sig) → Buf (Elt Ideal) ℓ)
variable (c : Dev nD) (t : Fin cfg0.N)

/-- The argument rows of the call, from the argument arrays. -/
def argRows (c : Dev nD) : Args where
  H r j := m (c.tc.loc main_arg0) (ix2 r ⟨5120 + j.val, by omega⟩)
  B r j := m (c.tc.loc main_arg0) (ix2 r ⟨6144 + j.val, by omega⟩)
  C r j := m (c.tc.loc main_arg0) (ix2 r ⟨7168 + j.val, by omega⟩)
  Z r j := m (c.tc.loc main_arg0) (ix2 r ⟨8192 + j.val, by omega⟩)
  P r j := m (c.tc.loc main_arg1) (ix2 r ⟨2048 + j.val, by omega⟩)
  taps i j := m (c.tc.loc main_arg2) (ix2 i j)
  bias j := m (c.tc.loc main_arg3) (ix1 j)
  w i j := m (c.tc.loc main_arg4) (ix2 i j)

theorem lt32 (t : Fin cfg0.N) : t.val < 32 := lt_of_lt_of_le t.isLt (le_refl 32)

/-- Row `r` of point `t`'s block, in the whole array: the points take the tiles from the last to the first. -/
abbrev rowAt (t : Fin cfg0.N) (r : Fin 512) : Fin 16384 :=
  ⟨512 * (31 - t.val) + r.val, by have := lt32 t; omega⟩

theorem idx : ∀ t : Fin cfg0.N, win0_0.index t = ![31 - t.val, 5] ∧ win0_1.index t = ![16 * (31 - t.val) - 1, 5]
    ∧ win0_2.index t = ![31 - t.val, 6] ∧ win0_3.index t = ![31 - t.val, 7] ∧ win0_4.index t = ![16 * (31 - t.val) - 1, 7]
    ∧ win0_5.index t = ![31 - t.val, 8] ∧ win0_6.index t = ![31 - t.val, 2] ∧ win0_7.index t = ![0, 0]
    ∧ win0_8.index t = ![0, 0] ∧ win0_9.index t = ![0, 0] ∧ win0_10.index t = ![31 - t.val, 0]
    ∧ win0_11.index t = ![0, 0] ∧ win0_12.index t = ![0, 0] ∧ win0_13.index t = ![0, 0] :=
  (by decide +kernel : ∀ t : Fin grid0.N, _)

theorem blk0 (r : Fin 512) (k : Fin 1024) :
    (iblk m c 0 t : FVec Ideal S512x1024 .bf16) (ix2 r k) = (argRows m c).H (rowAt t r) k := by
  refine Eq.trans ?_ (show m (c.tc.loc main_arg0) (ix2 (rowAt t r) ⟨5120 + k.val, by omega⟩) = _ from rfl)
  blk_point [iblk, V, idx t]
theorem blk2 (r : Fin 512) (k : Fin 1024) :
    (iblk m c 2 t : FVec Ideal S512x1024 .bf16) (ix2 r k) = (argRows m c).B (rowAt t r) k := by
  refine Eq.trans ?_ (show m (c.tc.loc main_arg0) (ix2 (rowAt t r) ⟨6144 + k.val, by omega⟩) = _ from rfl)
  blk_point [iblk, V, idx t]
theorem blk3 (r : Fin 512) (k : Fin 1024) :
    (iblk m c 3 t : FVec Ideal S512x1024 .bf16) (ix2 r k) = (argRows m c).C (rowAt t r) k := by
  refine Eq.trans ?_ (show m (c.tc.loc main_arg0) (ix2 (rowAt t r) ⟨7168 + k.val, by omega⟩) = _ from rfl)
  blk_point [iblk, V, idx t]
theorem blk5 (r : Fin 512) (k : Fin 1024) :
    (iblk m c 5 t : FVec Ideal S512x1024 .bf16) (ix2 r k) = (argRows m c).Z (rowAt t r) k := by
  refine Eq.trans ?_ (show m (c.tc.loc main_arg0) (ix2 (rowAt t r) ⟨8192 + k.val, by omega⟩) = _ from rfl)
  blk_point [iblk, V, idx t]
theorem blk6 (r : Fin 512) (k : Fin 1024) :
    (iblk m c 6 t : FVec Ideal S512x1024 .bf16) (ix2 r k) = (argRows m c).P (rowAt t r) k := by
  refine Eq.trans ?_ (show m (c.tc.loc main_arg1) (ix2 (rowAt t r) ⟨2048 + k.val, by omega⟩) = _ from rfl)
  blk_point [iblk, V, idx t]
theorem blk7 (i : Fin 3) (k : Fin 1024) :
    (iblk m c 7 t : FVec Ideal S3x1024 .f32) (ix2 i k) = (argRows m c).taps i k := by
  refine Eq.trans ?_ (show m (c.tc.loc main_arg2) (ix2 i k) = _ from rfl)
  blk_point [iblk, V, idx t]
theorem blk8 (k : Fin 1024) :
    (iblk m c 8 t : FVec Ideal S1x1024 .f32) (ix2 0 k) = (argRows m c).bias k := by
  refine Eq.trans ?_ (show m (c.tc.loc main_arg3) (ix1 k) = _ from rfl)
  blk_point [iblk, V, idx t]
theorem blk9 (i j : Fin 1024) :
    (iblk m c 9 t : FVec Ideal S1024x1024 .bf16) (ix2 i j) = (argRows m c).w j i := by
  refine Eq.trans ?_ (show m (c.tc.loc main_arg4) (ix2 j i) = _ from rfl)
  blk_point [iblk, V, idx t]

/-- The 32 rows before a tile, except before the first tile. -/
theorem blk1 (h : t.val < 31) (s : Fin 32) (k : Fin 1024) :
    (iblk m c 1 t : FVec Ideal S32x1024 .bf16) (ix2 s k)
      = (argRows m c).H ⟨32 * (16 * (31 - t.val) - 1) + s.val, by have := lt32 t; omega⟩ k := by
  refine Eq.trans ?_ (show m (c.tc.loc main_arg0) (ix2 ⟨32 * (16 * (31 - t.val) - 1) + s.val, by have := lt32 t; omega⟩ ⟨5120 + k.val, by omega⟩) = _ from rfl)
  blk_point [iblk, V, idx t]
theorem blk4 (h : t.val < 31) (s : Fin 32) (k : Fin 1024) :
    (iblk m c 4 t : FVec Ideal S32x1024 .bf16) (ix2 s k)
      = (argRows m c).C ⟨32 * (16 * (31 - t.val) - 1) + s.val, by have := lt32 t; omega⟩ k := by
  refine Eq.trans ?_ (show m (c.tc.loc main_arg0) (ix2 ⟨32 * (16 * (31 - t.val) - 1) + s.val, by have := lt32 t; omega⟩ ⟨7168 + k.val, by omega⟩) = _ from rfl)
  blk_point [iblk, V, idx t]

theorem emb10 (t : Fin cfg0.N) (r : Fin 512) (k : Fin 4096) :
    (win0_10.blk t).view.emb (ix2 r k : S512x4096.Idx) = ix2 (rowAt t r) ⟨k.val, by omega⟩ := by
  blk_ext [idx t]
theorem emb11 (t : Fin cfg0.N) (z : S1024x1024.Idx) : (win0_11.blk t).view.emb z = z := by
  blk_ext [idx t]
theorem emb12 (t : Fin cfg0.N) (z : S8x1024.Idx) : (win0_12.blk t).view.emb z = z := by
  blk_ext [idx t]
theorem emb13 (t : Fin cfg0.N) (z : S1x1024.Idx) : (win0_13.blk t).view.emb z = z := by
  blk_ext [idx t]

/-- The kernel's test for the first tile. -/
theorem first_tile : ∀ t : Fin cfg0.N, Scalar.cmpi .sgt (Scalar.subi 31#32 (BitVec.ofNat 32 (grid0.coords t 0).val)) 0#32
    = if t.val < 31 then 1#1 else 0#1 :=
  (by decide +kernel : ∀ t : Fin grid0.N, _)

/-- The last two of the 32 rows before a tile: the convolution's input there, zeros before the first tile. -/
theorem pay_halo (s : Fin 32) (hs : 30 ≤ s.val) (k : Fin 1024) :
    k0_pay10 (grid0.coords t) (iblk m c 1 t) (iblk m c 4 t) (ix2 s k)
      = (argRows m c).qp (512 * (31 - t.val) + (s.val - 30)) k := by
  have e := first_tile t
  have hN := lt32 t
  pointwise [k0_pay10]
  by_cases h : t.val < 31
  · rw [if_pos h] at e
    rw [e, (argRows m c).qp_at (r := ⟨32 * (16 * (31 - t.val) - 1) + s.val, by omega⟩)
      (show _ = 32 * (16 * (31 - t.val) - 1) + s.val + 2 by omega)]
    pointwise
    rw [blk1 m c t h, blk4 m c t h]
    exact mul_comm (G := EReal) _ _
  · rw [if_neg h] at e
    rw [e, (argRows m c).qp_zero (by omega)]
    pointwise

theorem pay_q (r : Fin 512) (k : Fin 1024) :
    k0_pay11 (iblk m c 3 t) (iblk m c 0 t) (ix2 r k) = (argRows m c).q (rowAt t r) k := by
  pointwise [k0_pay11]
  rw [blk3, blk0]
  rfl

/-- The convolution's input around a tile, as the scratch holds it. -/
abbrev qPieces : List (View.Piece (Elt Ideal) S544x1024 .f32) :=
  [⟨Rect.unit (s := S544x1024) ![32, 0] S512x1024.size inb_S544x1024_S512x1024_32_0, k0_pay11 (iblk m c 3 t) (iblk m c 0 t)⟩,
    ⟨Rect.unit (s := S544x1024) ![0, 0] S32x1024.size inb_S544x1024_S32x1024_0_0, k0_pay10 (grid0.coords t) (iblk m c 1 t) (iblk m c 4 t)⟩]

theorem q_canon (s : Fin 544) (hs : 30 ≤ s.val) (k : Fin 1024) :
    View.canon (qPieces m c t) (ix2 s k) = (argRows m c).qp (512 * (31 - t.val) + (s.val - 30)) k := by
  by_cases h : s.val < 32
  · refine (Rows.canon_skip _ _ _ s k (Or.inl h)).trans ?_
    refine (Rows.canon_rows _ _ _ s ⟨s.val, h⟩ k (Nat.zero_add _).symm).trans ?_
    exact pay_halo m c t ⟨s.val, h⟩ hs k
  · refine (Rows.canon_rows _ _ _ s ⟨s.val - 32, by omega⟩ k (show s.val = 32 + (s.val - 32) by omega)).trans ?_
    rw [pay_q]
    exact ((argRows m c).qp_at (r := rowAt t ⟨s.val - 32, by omega⟩) (show _ = 512 * (31 - t.val) + (s.val - 32) + 2 by omega) k).symm

/-- The tile's rows two, one or no row earlier (`o` = 0, 1, 2). -/
abbrev qRows (o : Fin 3) := Rect.unit (s := S544x1024) ![30 + o.val, 0] S512x1024.size (fun a => by
  fin_cases a
  · show 30 + o.val + 512 ≤ 544
    omega
  · exact le_refl 1024)
theorem read_q (o : Fin 3) (r : Fin 512) (k : Fin 1024) :
    (View.whole cc0_scratch0).readCov (Val := Elt Ideal) (qPieces m c t) (qRows o).toLoadRect (ix2 r k) = (argRows m c).qp ((rowAt t r).val + o.val) k := by
  refine (Rows.readCov_rows _ _ _ ⟨30 + o.val + r.val, by omega⟩ r k rfl).trans ((q_canon m c t _ (show 30 ≤ 30 + o.val + r.val by omega) k).trans ?_)
  exact congrArg (fun i => (argRows m c).qp i k) (show 512 * (31 - t.val) + (30 + o.val + r.val - 30) = 512 * (31 - t.val) + r.val + o.val by omega)

/-- The convolution's taps as a point reads them. -/
abbrev tap (i : Fin 3) := View.ld (iblk m c 7 t : Vec Ideal S3x1024 .f32) (Rect.unit (s := S3x1024) ![i.val, 0] S1x1024.size (fun a => by
  fin_cases a
  · show i.val + 1 ≤ 3
    omega
  · exact le_refl 1024))
theorem ld_tap (i : Fin 3) (k : Fin 1024) : tap m c t i (ix2 0 k) = (argRows m c).taps i k :=
  (Rows.ld_rows _ _ i 0 k rfl).trans (blk7 m c t i k)

/-- A tile's cotangent of the convolution. -/
abbrev dTile : FVec Ideal S512x1024 .f32 :=
  k0_pay22 (k0_pay7 (iblk m c 2 t)) (k0_pay14 (k0_pay8 (iblk m c 5 t))) (k0_pay16 (iblk m c 6 t) (iblk m c 9 t))

theorem dTile_eq (r : Fin 512) (k : Fin 1024) : dTile m c t (ix2 r k) = (argRows m c).dconv (rowAt t r) k :=
  pay_dconv _ _ _ _ r k (argRows m c) (rowAt t) (blk2 m c t) (blk5 m c t) (blk6 m c t) (blk9 m c t)

/-- A tile's cotangent of the convolution and the rows `K` after it, as the scratch holds them. -/
abbrev dPieces (K : FVec Ideal S8x1024 .f32) : List (View.Piece (Elt Ideal) S520x1024 .f32) :=
  [⟨Rect.unit (s := S520x1024) ![512, 0] S8x1024.size inb_S520x1024_S8x1024_512_0, k0_pay28 (F := Ideal) K⟩,
    ⟨Rect.unit (s := S520x1024) ![0, 0] S512x1024.size inb_S520x1024_S512x1024_0_0, k0_pay27 (F := Ideal) (dTile m c t)⟩]

/-- The rows after a tile are the next tile's first rows (zeros after the last tile). -/
def After (K : FVec Ideal S8x1024 .f32) : Prop :=
  ∀ (s : Fin 8) (k : Fin 1024), K (ix2 s k) = (argRows m c).dconvZ (512 * (31 - t.val) + 512 + s.val) k

theorem d_canon_tile (K : FVec Ideal S8x1024 .f32) (s : Fin 520) (h : s.val < 512) (k : Fin 1024) :
    View.canon (dPieces m c t K) (ix2 s k) = (argRows m c).dconvZ (512 * (31 - t.val) + s.val) k := by
  refine (Rows.canon_skip _ _ _ s k (Or.inl h)).trans ?_
  refine (Rows.canon_rows _ _ _ s ⟨s.val, h⟩ k (Nat.zero_add _).symm).trans ?_
  rw [(argRows m c).dconvZ_at (r := rowAt t ⟨s.val, h⟩) rfl, ← dTile_eq]
  pointwise [k0_pay27]

theorem d_canon (K : FVec Ideal S8x1024 .f32) (hK : After m c t K) (s : Fin 520) (k : Fin 1024) :
    View.canon (dPieces m c t K) (ix2 s k) = (argRows m c).dconvZ (512 * (31 - t.val) + s.val) k := by
  by_cases h : s.val < 512
  · exact d_canon_tile m c t K s h k
  · refine (Rows.canon_rows _ _ _ s ⟨s.val - 512, by omega⟩ k (show s.val = 512 + (s.val - 512) by omega)).trans ?_
    rw [show 512 * (31 - t.val) + s.val = 512 * (31 - t.val) + 512 + (s.val - 512) by omega, ← hK ⟨s.val - 512, by omega⟩ k]
    pointwise [k0_pay28]

/-- The tile's rows one or two rows later. -/
abbrev dRows (o : Fin 3) := Rect.unit (s := S520x1024) ![o.val, 0] S512x1024.size (fun a => by
  fin_cases a
  · show o.val + 512 ≤ 520
    omega
  · exact le_refl 1024)
theorem read_d (K : FVec Ideal S8x1024 .f32) (hK : After m c t K) (o : Fin 3) (r : Fin 512) (k : Fin 1024) :
    (View.whole cc0_scratch1).readCov (Val := Elt Ideal) (dPieces m c t K) (dRows o).toLoadRect (ix2 r k) = (argRows m c).dconvZ ((rowAt t r).val + o.val) k := by
  refine (Rows.readCov_rows _ _ _ ⟨o.val + r.val, by omega⟩ r k rfl).trans ((d_canon m c t K hK _ k).trans ?_)
  exact congrArg (fun i => (argRows m c).dconvZ i k) (show 512 * (31 - t.val) + (o.val + r.val) = 512 * (31 - t.val) + r.val + o.val by omega)

theorem pay_carry (X : Vec Ideal S8x1024 .f32) (s : Fin 8) (k : Fin 1024) (v : EReal) (h : X (ix2 s k) = v) : k0_pay29 X (ix2 s k) = v := by
  rw [← h]
  pointwise [k0_pay29]

/-- What a point leaves for the next: the first rows of its tile's cotangent. -/
theorem read_d0 (K : FVec Ideal S8x1024 .f32) (s : Fin 8) (k : Fin 1024) :
    k0_pay29 ((View.whole cc0_scratch1).readCov (Val := Elt Ideal) (dPieces m c t K)
      (Rect.unit (s := S520x1024) ![0, 0] S8x1024.size inb_S520x1024_S8x1024_0_0).toLoadRect) (ix2 s k)
      = (argRows m c).dconvZ (512 * (31 - t.val) + s.val) k := by
  apply pay_carry
  exact (Rows.readCov_rows (View.whole cc0_scratch1) _ (dPieces m c t K) ⟨s.val, by omega⟩ s k (Nat.zero_add _).symm).trans (d_canon_tile m c t K _ (show s.val < 512 by omega) k)

/-- Four stores side by side, read back as a row of four blocks. -/
theorem canon_blocks (P0 P1 P2 P3 : FVec Ideal S512x1024 .bf16) (f : Fin 4 → Fin 1024 → EReal) (r : Fin 512)
    (h2 : ∀ j, P2 (ix2 r j) = f 2 j) (h0 : ∀ j, P0 (ix2 r j) = f 0 j) (h3 : ∀ j, P3 (ix2 r j) = f 3 j)
    (h1 : ∀ j, P1 (ix2 r j) = f 1 j) (k : Fin 4096) :
    View.canon (Val := Elt Ideal) (s := S512x4096) (e := EltTy.bf16)
      [⟨Rect.unit (s := S512x4096) ![0, 2048] S512x1024.size inb_S512x4096_S512x1024_0_2048, P2⟩,
      ⟨Rect.unit (s := S512x4096) ![0, 0] S512x1024.size inb_S512x4096_S512x1024_0_0, P0⟩,
      ⟨Rect.unit (s := S512x4096) ![0, 3072] S512x1024.size inb_S512x4096_S512x1024_0_3072, P3⟩,
      ⟨Rect.unit (s := S512x4096) ![0, 1024] S512x1024.size inb_S512x4096_S512x1024_0_1024, P1⟩] (ix2 r k) = ofBlocks f k.val := by
  canon_tiles x hx
  all_goals
    obtain ⟨r', j, rfl⟩ := Lift.exists_ix2 x
    obtain rfl : r = r' := Fin.ext ‹_›
  · exact (h2 j).trans (ofBlocks_at f (b := 2) hx1).symm
  · exact (h0 j).trans (ofBlocks_at f (b := 0) (hx1.trans (Nat.zero_add _).symm)).symm
  · exact (h3 j).trans (ofBlocks_at f (b := 3) hx1).symm
  · exact (h1 j).trans (ofBlocks_at f (b := 1) hx1).symm

theorem zero_carry (h : t.val % 32 = 0) : After m c t (k0_pay6 (F := Ideal)) := fun s k => by
  have := lt32 t
  rw [(argRows m c).dconvZ_zero (by omega)]
  pointwise [k0_pay6]

/-- What a point keeps for the next. -/
theorem after_carry (s : Fin 8) (k : Fin 1024) :
    ((outs m c t.val t.isLt).2.2.2.2 : FVec Ideal S8x1024 .f32) (ix2 s k) = (argRows m c).dconvZ (512 * (31 - t.val) + s.val) k := by
  by_cases h : t.val % 32 = 0
  · rw [outs_first m c t h]
    unfold firstOut firstRun
    frame_out
    exact read_d0 m c t _ s k
  · rw [outs_later m c t h]
    unfold laterOut laterRun
    frame_out
    exact read_d0 m c t _ s k

/-- The rows that a point finds after its tile. -/
theorem before_carry (h : ¬ t.val % 32 = 0) :
    After m c t (outsBefore m c t).2.2.2.2 := fun s k => by
  have hN := lt32 t
  obtain ⟨n, hn⟩ : ∃ n, t.val = n + 1 := ⟨t.val - 1, by omega⟩
  obtain ⟨t, ht⟩ := t
  obtain rfl : t = n + 1 := hn
  refine (after_carry m c ⟨n, Nat.lt_of_succ_lt ht⟩ s k).trans ?_
  exact congrArg (fun i => (argRows m c).dconvZ i k) (show 512 * (31 - n) + s.val = 512 * (31 - (n + 1)) + 512 + s.val by simp only at hN; omega)

/-- The first result after the run: the four blocks of columns written, the others as the call finds them. -/
def outD (c : Dev nD) : FVec Ideal S16384x12288 .bf16 := fun i =>
  if (i 1).val < 4096 then ofBlocks (fun b => (argRows m c).grads b (i 0)) (i 1).val else m (c.tc.loc main_arg5) i
def outW (c : Dev nD) : FVec Ideal S1024x1024 .f32 := fun i => ∑ r, (argRows m c).y r (i 0) * (argRows m c).P r (i 1)
def outTaps (c : Dev nD) : FVec Ideal S8x1024 .f32 := fun i => ∑ r, (argRows m c).dtapsPart r (i 0) (i 1)
def outBias (c : Dev nD) : FVec Ideal S1x1024 .f32 := fun i => ∑ r, (argRows m c).dconv r (i 1)

/-- A point's four stores of the first result. -/
theorem after_grads (r : Fin 512) (k : Fin 4096) :
    ((outs m c t.val t.isLt).1 : FVec Ideal S512x4096 .bf16) (ix2 r k)
      = ofBlocks (fun b => (argRows m c).grads b (rowAt t r)) k.val := by
  have key : ∀ K, After m c t K → _ := fun K hK =>
    canon_blocks _ _ _ _ (fun b => (argRows m c).grads b (rowAt t r)) r
      (fun j => pay_dC (iblk m c 0 t) (iblk m c 3 t) _ _ _ r j (argRows m c) (rowAt t) (blk0 m c t) (blk3 m c t) (ld_tap m c t 0) (ld_tap m c t 1) (ld_tap m c t 2)
        (dTile m c t) _ _ (fun r k => (dTile_eq m c t r k).trans ((argRows m c).dconvZ_at rfl k).symm) (read_d m c t K hK 1) (read_d m c t K hK 2))
      (fun j => pay_dH (iblk m c 0 t) (iblk m c 3 t) _ _ _ r j (argRows m c) (rowAt t) (blk0 m c t) (blk3 m c t) (ld_tap m c t 0) (ld_tap m c t 1) (ld_tap m c t 2)
        (dTile m c t) _ _ (fun r k => (dTile_eq m c t r k).trans ((argRows m c).dconvZ_at rfl k).symm) (read_d m c t K hK 1) (read_d m c t K hK 2))
      (fun j => pay_dZ (iblk m c 2 t) (iblk m c 5 t) (iblk m c 6 t) (iblk m c 9 t) (iblk m c 8 t) _ _ _ _ _ _ r j (argRows m c) (rowAt t)
        (blk2 m c t) (blk5 m c t) (blk6 m c t) (blk9 m c t) (blk8 m c t) (ld_tap m c t 0) (ld_tap m c t 1) (ld_tap m c t 2)
        (read_q m c t 0) (read_q m c t 1) (read_q m c t 2))
      (fun j => pay_dB (iblk m c 5 t) (iblk m c 6 t) (iblk m c 9 t) (iblk m c 8 t) _ _ _ _ _ _ r j (argRows m c) (rowAt t)
        (blk5 m c t) (blk6 m c t) (blk9 m c t) (blk8 m c t) (ld_tap m c t 0) (ld_tap m c t 1) (ld_tap m c t 2)
        (read_q m c t 0) (read_q m c t 1) (read_q m c t 2)) k
  by_cases h : t.val % 32 = 0
  · rw [outs_first m c t h]
    unfold firstOut firstRun
    frame_out
    exact key _ (zero_carry m c t h)
  · rw [outs_later m c t h]
    unfold laterOut laterRun
    frame_out
    rw [read_unread_whole]
    exact key _ (before_carry m c t h)

/-- Result 0 after the run. -/
theorem arr_grads (c : Dev nD) : (dats m 0 c).arrAt 10 cfg0.N = outD m c := by
  refine ((dats m 0 c).arrAt_eq_of_coversWhere 10 (outD m c) (P := fun i : S16384x12288.Idx => (i 1).val < 4096)
    (fun β => β (1 : Fin 2) < 1) (by decide +kernel) (fun t hf y => ?_) (fun j => ?_)).trans ?_
  · have key : ∀ z : S512x4096.Idx, ((outs m c t.val t.isLt).1 : FVec Ideal S512x4096 .bf16) z
        = outD m c ((win0_10.blk t).view.emb z) := fun z => by
      obtain ⟨r, k, rfl⟩ := Lift.exists_ix2 z
      rw [after_grads, emb10]
      exact (if_pos (show k.val < 4096 from k.isLt)).symm
    blk_simp
    rw [after10]
    exact key y
  · blk_simp [Pipeline.Window.cell_apply]
    omega
  · funext i
    by_cases h : (i 1).val < 4096
    · exact if_pos h
    · refine (if_neg h).trans ?_
      refine Eq.trans ?_ (show m (c.tc.loc main_arg5) i = _ from (if_neg h).symm)
      rw [A_eq]
      rfl

/-- The points in order take the tiles from the last to the first, and the rows of all the tiles are all the rows. -/
theorem sum_tiles (f : Fin 16384 → EReal) (p : Fin 32 → Fin cfg0.N) (hp : ∀ s, (p s).val = s.val) :
    ∑ s : Fin 32, ∑ r : Fin 512, f (rowAt (p s) r) = ∑ r, f r := by
  rw [← Equiv.sum_comp Fin.revPerm]
  refine Lift.sum_rows (fun (t : Fin 32) (r : Fin 512) => ⟨512 * t.val + r.val, by omega⟩) (fun _ _ => rfl) f id (fun _ => rfl) |>.symm.trans ?_ |>.symm
  refine Finset.sum_congr rfl fun s _ => Finset.sum_congr rfl fun r _ => congrArg f (Fin.ext ?_)
  show 512 * s.val + r.val = 512 * (31 - (p (Fin.revPerm s)).val) + r.val
  rw [hp, Fin.revPerm_apply, Fin.val_rev]
  omega

theorem point_of_flush (t s : ℕ) (ht : t < cfg0.N) : 32 * (t / 32) + s = s := by
  rw [Nat.div_eq_of_lt (lt_of_lt_of_le ht (show cfg0.N ≤ 32 from le_refl 32))]
  omega

/-- A point's step of the output matrix's gradient. -/
theorem step_w (A : Vec Ideal S1024x1024 .f32) (c : Dev nD) (t : Fin cfg0.N) (z : S1024x1024.Idx) :
    k0_pay15 (k0_pay7 (iblk m c 2 t)) (k0_pay8 (iblk m c 5 t)) (k0_pay9 (iblk m c 8 t)) (tap m c t 0)
      ((View.whole cc0_scratch0).readCov (Val := Elt Ideal) (qPieces m c t) (qRows 0).toLoadRect)
      (tap m c t 1)
      ((View.whole cc0_scratch0).readCov (Val := Elt Ideal) (qPieces m c t) (qRows 1).toLoadRect)
      (tap m c t 2)
      ((View.whole cc0_scratch0).readCov (Val := Elt Ideal) (qPieces m c t) (qRows 2).toLoadRect)
      (iblk m c 6 t) A z
      = A z + ∑ r : Fin 512, (argRows m c).y (rowAt t r) (z 0) * (argRows m c).P (rowAt t r) (z 1) := by
  obtain ⟨i, j, rfl⟩ := Lift.exists_ix2 z
  exact pay_dw (iblk m c 2 t) (iblk m c 5 t) (iblk m c 6 t) (iblk m c 9 t) (iblk m c 8 t) _ _ _ _ _ _ (argRows m c) (rowAt t)
        (blk2 m c t) (blk5 m c t) (blk6 m c t) (blk9 m c t) (blk8 m c t) (ld_tap m c t 0) (ld_tap m c t 1) (ld_tap m c t 2)
        (read_q m c t 0) (read_q m c t 1) (read_q m c t 2) A i j

/-- Result 1 after the run. -/
theorem arr_w (c : Dev nD) : (dats m 0 c).arrAt 11 cfg0.N = outW m c := by
  refine (dats m 0 c).arrAt_eq_of_covers 11 _ (by decide +kernel) fun t hf y => ?_
  blk_simp
  rw [after11, Pipeline.eq_sum_fin_of_reset_step_apply_of_flush (fun n h => (outs m c n h).2.1) 32 (fun _ => 0)
    (fun (t : Fin cfg0.N) (z : S1024x1024.Idx) => ∑ r : Fin 512, (argRows m c).y (rowAt t r) (z 0) * (argRows m c).P (rowAt t r) (z 1))
    (fun t h z => by
      rw [outs_first m c t h]; unfold firstOut firstRun; frame_out
      exact (step_w m _ c t z).trans (congrArg (· + _) (by pointwise [k0_pay3])))
    (fun t h z => by
      rw [outs_later m c t h]; unfold laterOut laterRun; frame_out
      exact step_w m _ c t z)
    t ((flush0_11 t).mp hf) _, zero_add]
  refine (sum_tiles (fun r => (argRows m c).y r _ * (argRows m c).P r _) _ fun s => point_of_flush _ _ t.isLt).trans ?_
  exact congrArg (outW m c) (emb11 t y).symm

/-- Result 3 after the run. -/
theorem arr_bias (c : Dev nD) : (dats m 0 c).arrAt 13 cfg0.N = outBias m c := by
  refine (dats m 0 c).arrAt_eq_of_covers 13 _ (by decide +kernel) fun t hf y => ?_
  blk_simp
  rw [after13, Pipeline.eq_sum_fin_of_reset_step_apply_of_flush (fun n h => (outs m c n h).2.2.2.1) 32 (fun _ => 0)
    (fun (t : Fin cfg0.N) (z : S1x1024.Idx) => ∑ r : Fin 512, (argRows m c).dconv (rowAt t r) (z 1))
    (fun t h z => by
      rw [outs_first m c t h]; unfold firstOut firstRun; frame_out
      obtain ⟨i, k, rfl⟩ := Lift.exists_ix2 z
      obtain rfl : i = 0 := Subsingleton.elim _ _
      exact (pay_dbias _ _ _ _ _ k (argRows m c) (rowAt t) (blk2 m c t) (blk5 m c t) (blk6 m c t) (blk9 m c t)).trans (congrArg (· + _) (by pointwise [k0_pay5])))
    (fun t h z => by
      rw [outs_later m c t h]; unfold laterOut laterRun; frame_out
      obtain ⟨i, k, rfl⟩ := Lift.exists_ix2 z
      obtain rfl : i = 0 := Subsingleton.elim _ _
      exact pay_dbias _ _ _ _ _ k (argRows m c) (rowAt t) (blk2 m c t) (blk5 m c t) (blk6 m c t) (blk9 m c t))
    t ((flush0_13 t).mp hf) _, zero_add]
  refine (sum_tiles (fun r => (argRows m c).dconv r _) _ fun s => point_of_flush _ _ t.isLt).trans ?_
  exact congrArg (outBias m c) (emb13 t y).symm

/-- The taps' gradient from one tile: three rows, zeros below. -/
theorem sum_tap {c : Dev nD} {t : Fin cfg0.N} {i : Fin 8} {k : Fin 1024} {n : ℕ} (hn : i.val = n) (h : n < 3) :
    ∑ r : Fin 512, (argRows m c).dconv (rowAt t r) k * (argRows m c).qp ((rowAt t r).val + n) k
      = ∑ r : Fin 512, (argRows m c).dtapsPart (rowAt t r) i k := by
  subst hn
  exact Finset.sum_congr rfl fun r _ => (if_pos h).symm
theorem sum_zero {c : Dev nD} {t : Fin cfg0.N} {i : Fin 8} {k : Fin 1024} (h : 3 ≤ i.val) :
    ∑ r : Fin 512, (argRows m c).dtapsPart (rowAt t r) i k = 0 :=
  Finset.sum_eq_zero fun r _ => if_neg (by omega)

theorem zero_taps (i : Fin 8) (k : Fin 1024) : k0_pay4 (F := Ideal) (ix2 i k) = 0 := by pointwise [k0_pay4]

theorem row_cases (i : Fin 8) : i = 0 ∨ i = 1 ∨ i = 2 ∨ 3 ≤ i.val := by
  simp only [Fin.ext_iff]
  show i.val = 0 ∨ i.val = 1 ∨ i.val = 2 ∨ 3 ≤ i.val
  omega

/-- A point's three rows of the taps' gradient over what it found there: zeros at the first point, -/
theorem after_taps_first (h : t.val % 32 = 0) (z : S8x1024.Idx) :
    (outs m c t.val t.isLt).2.2.1 z = 0 + ∑ r : Fin 512, (argRows m c).dtapsPart (rowAt t r) (z 0) (z 1) := by
  rw [outs_first m c t h]; unfold firstOut firstRun; frame_out
  obtain ⟨i, k, rfl⟩ := Lift.exists_ix2 z
  have base : ∀ i : Fin 8, View.canon (Val := Elt Ideal) (e := EltTy.f32) [⟨Rect.unit (s := S8x1024) ![0, 0] ![8, 1024] inb_S8x1024_S8x1024_0_0, k0_pay4 (F := Ideal)⟩] (ix2 i k) = 0 :=
    fun i => (Rows.canon_rows _ _ _ i i k (Nat.zero_add _).symm).trans (zero_taps i k)
  obtain rfl | rfl | rfl | h3 := row_cases i
  · refine (Rows.canon_skip _ _ _ _ k (Or.inl (by decide))).trans ?_
    refine (Rows.canon_skip _ _ _ _ k (Or.inl (by decide))).trans ?_
    refine (Rows.canon_rows _ _ _ _ 0 k rfl).trans ?_
    refine (pay_tap0 _ _ _ _ _ _ k (argRows m c) (rowAt t) (blk2 m c t) (blk5 m c t) (blk6 m c t) (blk9 m c t) (read_q m c t 0)).trans ?_
    refine congrArg₂ (· + ·) ((Rows.readCov_rows _ _ _ 0 0 k rfl).trans (base 0)) (sum_tap m rfl (by decide))
  · refine (Rows.canon_skip _ _ _ _ k (Or.inl (by decide))).trans ?_
    refine (Rows.canon_rows _ _ _ _ 0 k rfl).trans ?_
    refine (pay_tap1 _ _ _ _ _ _ k (argRows m c) (rowAt t) (blk2 m c t) (blk5 m c t) (blk6 m c t) (blk9 m c t) (read_q m c t 1)).trans ?_
    refine congrArg₂ (· + ·) ((Rows.readCov_rows _ _ _ 1 0 k rfl).trans ?_) (sum_tap m rfl (by decide))
    exact (Rows.canon_skip _ _ _ _ k (Or.inr (by decide))).trans (base 1)
  · refine (Rows.canon_rows _ _ _ _ 0 k rfl).trans ?_
    refine (pay_tap2 _ _ _ _ _ _ k (argRows m c) (rowAt t) (blk2 m c t) (blk5 m c t) (blk6 m c t) (blk9 m c t) (read_q m c t 2)).trans ?_
    refine congrArg₂ (· + ·) ((Rows.readCov_rows _ _ _ 2 0 k rfl).trans ?_) (sum_tap m rfl (by decide))
    refine (Rows.canon_skip _ _ _ _ k (Or.inr (by decide))).trans ?_
    exact (Rows.canon_skip _ _ _ _ k (Or.inr (by decide))).trans (base 2)
  · refine (Rows.canon_skip _ _ _ _ k (Or.inr (by omega))).trans ?_
    refine (Rows.canon_skip _ _ _ _ k (Or.inr (by omega))).trans ?_
    refine (Rows.canon_skip _ _ _ _ k (Or.inr (by omega))).trans ?_
    exact (base i).trans ((zero_add _).trans (sum_zero m h3)).symm

/-- and the sum of the points before it at the later ones. -/
theorem after_taps_later (h : ¬ t.val % 32 = 0) (z : S8x1024.Idx) :
    (outs m c t.val t.isLt).2.2.1 z = (outsBefore m c t).2.2.1 z + ∑ r : Fin 512, (argRows m c).dtapsPart (rowAt t r) (z 0) (z 1) := by
  rw [outs_later m c t h]; unfold laterOut laterRun; frame_out
  obtain ⟨i, k, rfl⟩ := Lift.exists_ix2 z
  obtain rfl | rfl | rfl | h3 := row_cases i
  · refine (Rows.read_skip _ _ _ _ _ _ k (Or.inl (by decide))).trans ?_
    refine (Rows.read_skip _ _ _ _ _ _ k (Or.inl (by decide))).trans ?_
    refine (Rows.read_rows _ _ _ _ _ _ 0 k rfl).trans ?_
    refine (pay_tap0 _ _ _ _ _ _ k (argRows m c) (rowAt t) (blk2 m c t) (blk5 m c t) (blk6 m c t) (blk9 m c t) (read_q m c t 0)).trans ?_
    exact congrArg₂ (· + ·) (Rows.ld_rows _ _ 0 0 k rfl) (sum_tap m rfl (by decide))
  · refine (Rows.read_skip _ _ _ _ _ _ k (Or.inl (by decide))).trans ?_
    refine (Rows.read_rows _ _ _ _ _ _ 0 k rfl).trans ?_
    refine (pay_tap1 _ _ _ _ _ _ k (argRows m c) (rowAt t) (blk2 m c t) (blk5 m c t) (blk6 m c t) (blk9 m c t) (read_q m c t 1)).trans ?_
    exact congrArg₂ (· + ·) (Rows.ld_rows _ _ 1 0 k rfl) (sum_tap m rfl (by decide))
  · refine (Rows.read_rows _ _ _ _ _ _ 0 k rfl).trans ?_
    refine (pay_tap2 _ _ _ _ _ _ k (argRows m c) (rowAt t) (blk2 m c t) (blk5 m c t) (blk6 m c t) (blk9 m c t) (read_q m c t 2)).trans ?_
    exact congrArg₂ (· + ·) (Rows.ld_rows _ _ 2 0 k rfl) (sum_tap m rfl (by decide))
  · refine (Rows.read_skip _ _ _ _ _ _ k (Or.inr (by omega))).trans ?_
    refine (Rows.read_skip _ _ _ _ _ _ k (Or.inr (by omega))).trans ?_
    refine (Rows.read_skip _ _ _ _ _ _ k (Or.inr (by omega))).trans ?_
    refine Eq.trans ?_ ((add_zero _).symm.trans (congrArg _ (sum_zero m h3).symm))
    exact congrFun (Memref.IsWhole.read_unread _ _) _

/-- Result 2 after the run. -/
theorem arr_taps (c : Dev nD) : (dats m 0 c).arrAt 12 cfg0.N = outTaps m c := by
  refine (dats m 0 c).arrAt_eq_of_covers 12 _ (by decide +kernel) fun t hf y => ?_
  blk_simp
  rw [after12, Pipeline.eq_sum_fin_of_reset_step_apply_of_flush (fun n h => (outs m c n h).2.2.1) 32 (fun _ => 0)
    (fun (t : Fin cfg0.N) (z : S8x1024.Idx) => ∑ r : Fin 512, (argRows m c).dtapsPart (rowAt t r) (z 0) (z 1))
    (after_taps_first m c) (after_taps_later m c) t ((flush0_12 t).mp hf) _, zero_add]
  refine (sum_tiles (fun r => (argRows m c).dtapsPart r _ _) _ fun s => point_of_flush _ _ t.isLt).trans ?_
  exact congrArg (outTaps m c) (emb12 t y).symm

end Cert.Kernel3Ideal.Hand

end
-- ==== Proof.BwdCRef.lean ====
/- The gated convolution's backward call: what the reference's run leaves in its four results, by rows, and the value claim.
   Hand-written, untrusted. -/
module

public import proofs.«01_k».proof.Proof.Gen.Reference3Ideal.Run
public import proofs.«01_k».proof.Proof.BwdCRows
public import proofs.«01_k».proof.Proof.Rows

@[expose] public section

set_option maxRecDepth 16384

noncomputable section

open Idealize.ShloMosaic Idealize.ShloMosaic.TcCoe Idealize.SL.Sem
open scoped BigOperators

namespace Cert.Reference3Ideal.Value

open Cert.Reference3Ideal Cert.Reference3Ideal.Gen Cert.BwdC

variable (m : (ℓ : Loc nD τ sig) → Buf (Elt Ideal) ℓ)

/-- The argument rows of the call, from the argument arrays. -/
def argRows (c : Dev nD) : Args where
  H r j := m (c.tc.loc main_arg0) (ix2 r ⟨5120 + j.val, by omega⟩)
  B r j := m (c.tc.loc main_arg0) (ix2 r ⟨6144 + j.val, by omega⟩)
  C r j := m (c.tc.loc main_arg0) (ix2 r ⟨7168 + j.val, by omega⟩)
  Z r j := m (c.tc.loc main_arg0) (ix2 r ⟨8192 + j.val, by omega⟩)
  P r j := m (c.tc.loc main_arg1) (ix2 r ⟨2048 + j.val, by omega⟩)
  taps i j := m (c.tc.loc main_arg2) (ix2 i j)
  bias j := m (c.tc.loc main_arg3) (ix1 j)
  w i j := m (c.tc.loc main_arg4) (ix2 i j)

def outD (c : Dev nD) : FVec Ideal S16384x12288 .bf16 := fun i =>
  if (i 1).val < 4096 then ofBlocks (fun b => (argRows m c).grads b (i 0)) (i 1).val else m (c.tc.loc main_arg5) i
def outW (c : Dev nD) : FVec Ideal S1024x1024 .f32 := fun i => ∑ r, (argRows m c).y r (i 0) * (argRows m c).P r (i 1)
def outTaps (c : Dev nD) : FVec Ideal S8x1024 .f32 := fun i => ∑ r, (argRows m c).dtapsPart r (i 0) (i 1)
def outBias (c : Dev nD) : FVec Ideal S1x1024 .f32 := fun i => ∑ r, (argRows m c).dconv r (i 1)

section
variable (A0 A1 A2 A3 : FVec Ideal S16384x1024 .f32) (B : FVec Ideal S16384x8192 .bf16) (r : Fin 16384)

/-- The reference's first result: four blocks of columns and the columns it leaves. -/
abbrev cat : FVec Ideal S16384x12288 .bf16 :=
  concatenate S16384x12288 1 [⟨S16384x4096, (truncf .bf16 (concatenate S16384x4096 1 [⟨S16384x1024, A0⟩, ⟨S16384x1024, A1⟩, ⟨S16384x1024, A2⟩, ⟨S16384x1024, A3⟩]
    concatenates_S16384x1024_S16384x1024_S16384x1024_S16384x1024_S16384x4096_d1 : FVec Ideal S16384x4096 .f32) bitsLt_bf16_f32 : FVec Ideal S16384x4096 .bf16)⟩,
    ⟨S16384x8192, B⟩] concatenates_S16384x4096_S16384x8192_S16384x12288_d1

theorem cat_0 (j : Fin 1024) : cat A0 A1 A2 A3 B (ix2 r ⟨j.val, by omega⟩) = A0 (ix2 r j) := by
  pointwise
  rw [dif_pos (by omega)]
theorem cat_1 (j : Fin 1024) : cat A0 A1 A2 A3 B (ix2 r ⟨1024 + j.val, by omega⟩) = A1 (ix2 r j) := by
  pointwise
  rw [dif_pos (by omega)]
theorem cat_2 (j : Fin 1024) : cat A0 A1 A2 A3 B (ix2 r ⟨2048 + j.val, by omega⟩) = A2 (ix2 r j) := by
  pointwise
  rw [dif_pos (by omega), dif_neg (by omega), dif_neg (by omega), dif_pos (by omega)]
  exact congrArg (fun k => A2 (ix2 r k)) (Fin.ext (show 2048 + j.val - 1024 - 1024 = j.val by omega))
theorem cat_3 (j : Fin 1024) : cat A0 A1 A2 A3 B (ix2 r ⟨3072 + j.val, by omega⟩) = A3 (ix2 r j) := by
  pointwise
  rw [dif_pos (by omega), dif_neg (by omega), dif_neg (by omega), dif_neg (by omega)]
  exact congrArg (fun k => A3 (ix2 r k)) (Fin.ext (show 3072 + j.val - 1024 - 1024 - 1024 = j.val by omega))
theorem cat_4 (j : Fin 8192) : cat A0 A1 A2 A3 B (ix2 r ⟨4096 + j.val, by omega⟩) = B (ix2 r j) := by pointwise
end

/-! ## The four results, entry by entry -/

section
variable (c : Dev nD) (r : Fin 16384) (j : Fin 1024)

theorem res_0 : res_main_v92 m c (ix2 r ⟨j.val, by omega⟩) = (argRows m c).grads 0 r j := by
  refine (cat_0 _ _ _ _ _ r j).trans ?_
  pointwise
  exact (congrArg _ ((argRows m c).dq_eq r j).symm).trans (mul_comm (G := EReal) _ _)
theorem res_1 : res_main_v92 m c (ix2 r ⟨1024 + j.val, by omega⟩) = (argRows m c).grads 1 r j := by
  refine (cat_1 _ _ _ _ _ r j).trans ?_
  pointwise
  refine (congrArg _ ((argRows m c).conv_eq r j).symm).trans ?_
  exact mul_right_comm (G := EReal) _ _ _
theorem res_2 : res_main_v92 m c (ix2 r ⟨2048 + j.val, by omega⟩) = (argRows m c).grads 2 r j := by
  refine (cat_2 _ _ _ _ _ r j).trans ?_
  pointwise
  exact congrArg (· * _) ((argRows m c).dq_eq r j).symm
theorem res_3 (h : (argRows m c).Real) : res_main_v92 m c (ix2 r ⟨3072 + j.val, by omega⟩) = (argRows m c).grads 3 r j := by
  refine Eq.trans ?_ (h.dZ_eq r j)
  rw [(argRows m c).conv_eq]
  refine (cat_3 _ _ _ _ _ r j).trans ?_
  pointwise
  rfl
theorem res_4 (j : Fin 8192) : res_main_v92 m c (ix2 r ⟨4096 + j.val, by omega⟩) = m (c.tc.loc main_arg5) (ix2 r ⟨4096 + j.val, by omega⟩) := by
  refine (cat_4 _ _ _ _ _ r j).trans ?_
  pointwise

theorem res_all (h : (argRows m c).Real) : res_main_v92 m c = outD m c := by
  funext z
  obtain ⟨r, ⟨k, hk'⟩, rfl⟩ := Lift.exists_ix2 z
  by_cases hk : k < 4096
  · refine Eq.trans ?_ (show ofBlocks (fun b => (argRows m c).grads b r) k = _ from (if_pos hk).symm)
    obtain ⟨j, e | e | e | e⟩ := exists_col ⟨k, hk⟩
    · obtain rfl : k = j.val := congrArg Fin.val e
      exact (res_0 m c r j).trans (ofBlocks_at (fun b => (argRows m c).grads b r) (b := 0) (j := j) (show j.val = 1024 * 0 + j.val by omega)).symm
    · obtain rfl : k = 1024 + j.val := congrArg Fin.val e
      exact (res_1 m c r j).trans (ofBlocks_at (fun b => (argRows m c).grads b r) (b := 1) (j := j) rfl).symm
    · obtain rfl : k = 2048 + j.val := congrArg Fin.val e
      exact (res_2 m c r j).trans (ofBlocks_at (fun b => (argRows m c).grads b r) (b := 2) (j := j) rfl).symm
    · obtain rfl : k = 3072 + j.val := congrArg Fin.val e
      exact (res_3 m c r j h).trans (ofBlocks_at (fun b => (argRows m c).grads b r) (b := 3) (j := j) rfl).symm
  · refine Eq.trans ?_ (show m (c.tc.loc main_arg5) (ix2 r ⟨k, hk'⟩) = _ from (if_neg hk).symm)
    obtain ⟨j, rfl⟩ : ∃ j : Fin 8192, k = 4096 + j.val := ⟨⟨k - 4096, by omega⟩, show k = 4096 + (k - 4096) by omega⟩
    exact res_4 m c r j
end

theorem run_rows (ρ : Dev nD → PrngReg) (hr : ∀ c, (argRows m c).Real) : θ_run defs (onTc (τ := τ) (main (F := Ideal))) ⟨m, fun _ => 0, ρ⟩ fun r => ∀ c : Dev nD,
      r.2.mem ((c.tc : Thread nD τ).loc main_v92) = outD m c
      ∧ r.2.mem ((c.tc : Thread nD τ).loc main_v44) = outW m c
      ∧ r.2.mem ((c.tc : Thread nD τ).loc main_v94) = outTaps m c
      ∧ r.2.mem ((c.tc : Thread nD τ).loc main_v95) = outBias m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run m ρ)
  obtain ⟨h0, h1, h2, h3, h4⟩ := h c
  refine ⟨h0.trans (res_all m c (hr c)), h1.trans ?_, h2.trans ?_, h3.trans ?_, h4⟩
  · clear h h0 h1 h2 h3 h4
    funext z
    obtain ⟨i, j, rfl⟩ := Lift.exists_ix2 z
    pointwise
    refine Eq.trans (congrArg₂ (· + ·) (Finset.sum_congr rfl fun x _ => ?_) (Finset.sum_congr rfl fun x _ => ?_))
      (sum_two fun r => (argRows m c).y r i * (argRows m c).P r j)
    · refine Eq.trans ?_ (mul_comm (G := EReal) _ _)
      unfold Args.y
      rw [(argRows m c).conv_head x i]
      rfl
    · refine Eq.trans ?_ (mul_comm (G := EReal) _ _)
      unfold Args.y
      rw [(argRows m c).conv_tail x i]
      rfl
  · clear h h0 h1 h2 h3 h4
    funext z
    obtain ⟨i, k, rfl⟩ := Lift.exists_ix2 z
    pointwise [res_main_v94]
    refine Eq.trans ?_ (show ∑ r, (argRows m c).dtapsPart r i k = _ from rfl)
    obtain rfl | rfl | rfl | h3 := (by decide : ∀ i : Fin 8, i = 0 ∨ i = 1 ∨ i = 2 ∨ ¬ i.val < 3) i
    · rw [dif_pos (by decide), dif_neg (by decide), dif_neg (by decide), dif_pos (by decide), zero_add, zero_add]
      simp only [Finset.univ_unique, Finset.sum_singleton]
      refine Eq.trans ?_ (sum_two fun r => (argRows m c).dtapsPart r 0 k)
      refine congrArg₂ (· + ·) (Finset.sum_congr (M := EReal) rfl fun x _ => ?_) (Finset.sum_congr (M := EReal) rfl fun x _ => ?_)
      · exact congrArg₂ (· * ·) ((argRows m c).dconv_eq ⟨x.val, by omega⟩ k) ((argRows m c).qp_zero (show x.val + 0 < 2 by omega) k).symm
      · exact congrArg₂ (· * ·) ((argRows m c).dconv_eq ⟨2 + x.val, by omega⟩ k)
          ((argRows m c).qp_at (r := ⟨x.val, by omega⟩) (show 2 + x.val + 0 = x.val + 2 by omega) k).symm
    · rw [dif_pos (by decide), dif_neg (by decide), dif_pos (by decide), dif_neg (by decide), zero_add, add_zero]
      simp only [Finset.univ_unique, Finset.sum_singleton]
      exact Finset.sum_congr (M := EReal) rfl fun x _ =>
        congrArg₂ (· * ·) ((argRows m c).dconv_eq x k) ((argRows m c).qp1_eq x.val x.isLt k).symm
    · rw [dif_pos (by decide), dif_pos (by decide), dif_neg (by decide), dif_neg (by decide), add_zero, add_zero]
      simp only [Finset.univ_unique, Finset.sum_singleton]
      exact Finset.sum_congr (M := EReal) rfl fun x _ =>
        congrArg₂ (· * ·) ((argRows m c).dconv_eq x k) ((argRows m c).qp2_eq x k).symm
    · rw [dif_neg h3]
      exact (Finset.sum_eq_zero (M := EReal) fun r _ => if_neg h3).symm
  · clear h h0 h1 h2 h3 h4
    funext z
    obtain ⟨i, k, rfl⟩ := Lift.exists_ix2 z
    pointwise
    simp only [Finset.univ_unique, Finset.sum_singleton]
    exact Finset.sum_congr (M := EReal) rfl fun x _ => (argRows m c).dconv_eq x k

end Cert.Reference3Ideal.Value

end
-- ==== Proof.BwdC.lean ====
/- The value claim of `_bwd_c`: kernel and reference end with the same four results wherever the arguments are real numbers.
   Hand-written, untrusted. -/
module

public import proofs.«01_k».proof.Defs
public import proofs.«01_k».proof.Proof.Gen.Pre_finite3
public import proofs.«01_k».proof.Proof.BwdCArrays
public import proofs.«01_k».proof.Proof.BwdCRef

@[expose] public section

noncomputable section

open Idealize.ShloMosaic Idealize.ShloMosaic.Tactic
open Idealize.SL.Sem

namespace Cert.BwdC

variable (m : (ℓ : Loc Cert.Kernel3Ideal.nD Cert.Kernel3Ideal.τ Cert.Kernel3Ideal.sig) → Buf (Elt Ideal) ℓ)

/-- Where the precondition holds every argument row the call reads is real. -/
theorem args_real (h : Cert.Pre_Kernel3Ideal_finite3 m) (c : Dev Cert.Kernel3Ideal.nD) : (Kernel3Ideal.Hand.argRows m c).Real := by
  have h0 := congrFun (h c) (fun a => a.elim0)
  unfold Cert.Pre_finite3.fn Cert.Pre_finite3.fn_part1 at h0
  dsimp only at h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton Cert.Pre_finite3.S_.Idx := ⟨fun a b => funext fun i => i.elim0⟩
  have e1 := real_of_all h1 (fun i => by pointwise)
  have e2 := real_of_all h2 (fun i => by pointwise)
  have e3 := real_of_all h3 (fun i => by pointwise)
  have e4 := real_of_all h4 (fun i => by pointwise)
  have e5 := real_of_all h5 (fun i => by pointwise)
  exact ⟨fun r k => e1 _, fun r k => e1 _, fun r k => e1 _, fun r k => e1 _, fun r k => e2 _, fun i k => e3 _, fun k => e4 _, fun i j => e5 _⟩

/-- The value claim: where the precondition holds, the kernel and the reference end with equal results. -/
theorem value : Cert.algebraic_Kernel3Ideal_Reference3Ideal_pre_finite3 := by
  intro m g m' g' hpre hag
  have eA : ∀ c, Reference3Ideal.Value.argRows m' c = Kernel3Ideal.Hand.argRows m c := fun c => by
    obtain ⟨a0, a1, a2, a3, a4, -⟩ := hag c
    simp only [Reference3Ideal.Value.argRows, Kernel3Ideal.Hand.argRows, a0, a1, a2, a3, a4]
  refine ⟨fun c => Kernel3Ideal.Hand.outD m c, fun c => Kernel3Ideal.Hand.outW m c, fun c => Kernel3Ideal.Hand.outTaps m c,
    fun c => Kernel3Ideal.Hand.outBias m c,
    (θ_run _ _ _).mono (fun r h c => ?_) (θ_run_and (Kernel3Ideal.Hand.run_main m g) (Kernel3Ideal.Hand.frame m g)),
    (θ_run _ _ _).mono (fun r h c => ?_) (Reference3Ideal.Value.run_rows m' g' fun c => (eA c).symm ▸ args_real m hpre c)⟩
  · obtain ⟨h, hk, -⟩ := h
    exact ⟨((h c).1 10).trans (Kernel3Ideal.Hand.arr_grads m c), ((h c).1 11).trans (Kernel3Ideal.Hand.arr_w m c),
      ((h c).1 12).trans (Kernel3Ideal.Hand.arr_taps m c), ((h c).1 13).trans (Kernel3Ideal.Hand.arr_bias m c), hk c⟩
  · obtain ⟨h0, h1, h2, h3, h4⟩ := h c
    obtain ⟨-, -, -, -, -, a5⟩ := hag c
    refine ⟨h0.trans ?_, h1.trans ?_, h2.trans ?_, h3.trans ?_, h4⟩
    · unfold Reference3Ideal.Value.outD
      rw [eA, a5]
      rfl
    · unfold Reference3Ideal.Value.outW
      rw [eA]
      rfl
    · unfold Reference3Ideal.Value.outTaps
      rw [eA]
      rfl
    · unfold Reference3Ideal.Value.outBias
      rw [eA]
      rfl

end Cert.BwdC

end
-- ==== Proof.CumSum.lean ====
/- Running sums over the rows of a two-axis array, as the host computes them, and what is left of them where two running sums are
   subtracted. Hand-written, untrusted. -/
module

public import proofs.«01_k».proof.Proof.Reals
public import Idealize.ShloMosaic.Lib.Pipeline.ValueKit

@[expose] public section

noncomputable section

open Idealize.ShloMosaic
open scoped BigOperators

namespace Cert.CumSum

/-- A sum over the indices of a column is the sum over its rows. -/
theorem sum_column {N : ℕ} (f : Shape.Idx ⟨2, ![N, 1]⟩ → EReal) : ∑ z, f z = ∑ n : Fin N, f (ix2 n 0) :=
  Fintype.sum_equiv ⟨fun z => z 0, fun n => ix2 n 0, fun z => by
      obtain ⟨r, k, rfl⟩ := Lift.exists_ix2 z
      obtain rfl : k = 0 := Subsingleton.elim _ _
      rfl, fun _ => rfl⟩ _ _ fun z => by
      obtain ⟨r, k, rfl⟩ := Lift.exists_ix2 z
      obtain rfl : k = 0 := Subsingleton.elim _ _
      rfl

theorem foldl_add {α : Type*} (g : α → EReal) (l : List α) (z : EReal) : l.foldl (fun r n => r + g n) z = z + (l.map g).sum := by
  induction l generalizing z with
  | nil => simp
  | cons a l ih => rw [List.foldl_cons, ih, List.map_cons, List.sum_cons, add_assoc]

/-- The host's window sum whose window is as long as the array, over rows: a row of the result is the sum of the rows that
    the window reaches. -/
theorem window_rows {N w : ℕ} {u : Shape} (lo hi : ℕ) (x : FVec Ideal ⟨2, ![N, w]⟩ .f32) (init : FVec Ideal u .f32)
    (h : Shape.ReduceWindows (s := ⟨2, ![N, w]⟩) ![N, 1] ![1, 1] ![lo, 0] ![hi, 0] ⟨2, ![N, w]⟩) (hu : 0 < u.numel)
    (h0 : init (Shape.Idx.first hu) = 0) (r : Fin N) (k : Fin w) :
    Host.reduceWindowAdd (s := ⟨2, ![N, w]⟩) ![N, 1] ![1, 1] ![lo, 0] ![hi, 0] x init h hu (ix2 r k)
      = ∑ n : Fin N, if hn : lo ≤ r.val + n.val ∧ r.val + n.val - lo < N then x (ix2 ⟨r.val + n.val - lo, hn.2⟩ k) else 0 := by
  show Ideal.hostReduceWindowAdd _ _ _ _ h x (init (Shape.Idx.first hu)) (ix2 r k) = _
  rw [h0]
  unfold Ideal.hostReduceWindowAdd Host.reduceWindow
  dsimp only
  rw [foldl_add, zero_add, ← Fin.sum_univ_def]
  refine (Fintype.sum_equiv (Shape.rowMajor _).symm _ (fun z : Shape.Idx ⟨2, ![N, 1]⟩ =>
    if hn : lo ≤ r.val + (z 0).val ∧ r.val + (z 0).val - lo < N then x (ix2 ⟨r.val + (z 0).val - lo, hn.2⟩ k) else 0) fun n => ?_).trans
    (sum_column _)
  have hb : (((Shape.rowMajor ⟨2, ![N, 1]⟩).symm n) 1).val = 0 := by
    have : (((Shape.rowMajor ⟨2, ![N, 1]⟩).symm n) 1).val < 1 := Fin.isLt _
    omega
  by_cases hn : lo ≤ r.val + (((Shape.rowMajor ⟨2, ![N, 1]⟩).symm n) 0).val ∧ r.val + (((Shape.rowMajor ⟨2, ![N, 1]⟩).symm n) 0).val - lo < N
  · refine Eq.trans ?_ (dif_pos hn).symm
    refine (dif_pos (fun d => ?_)).trans (congrArg x ?_)
    · fin_cases d
      · show lo ≤ r.val * 1 + (((Shape.rowMajor ⟨2, ![N, 1]⟩).symm n) 0).val ∧ r.val * 1 + (((Shape.rowMajor ⟨2, ![N, 1]⟩).symm n) 0).val - lo < N
        rwa [Nat.mul_one]
      · show 0 ≤ k.val * 1 + (((Shape.rowMajor ⟨2, ![N, 1]⟩).symm n) 1).val ∧ k.val * 1 + (((Shape.rowMajor ⟨2, ![N, 1]⟩).symm n) 1).val - 0 < w
        rw [hb]
        exact ⟨Nat.zero_le _, by simp⟩
    · funext d
      refine Fin.ext ?_
      fin_cases d
      · show r.val * 1 + (((Shape.rowMajor ⟨2, ![N, 1]⟩).symm n) 0).val - lo = r.val + (((Shape.rowMajor ⟨2, ![N, 1]⟩).symm n) 0).val - lo
        rw [Nat.mul_one]
      · show k.val * 1 + (((Shape.rowMajor ⟨2, ![N, 1]⟩).symm n) 1).val - 0 = k.val
        rw [hb, Nat.mul_one]
        rfl
  · refine Eq.trans ?_ (dif_neg hn).symm
    refine dif_neg fun hd => hn ?_
    have h1 : lo ≤ r.val * 1 + (((Shape.rowMajor ⟨2, ![N, 1]⟩).symm n) 0).val ∧ r.val * 1 + (((Shape.rowMajor ⟨2, ![N, 1]⟩).symm n) 0).val - lo < N := hd 0
    rwa [Nat.mul_one] at h1

/-- A running sum from the first row, over a function that goes on with zeros: the first `r + 1` terms. -/
theorem prefix_rows {N w : ℕ} {u : Shape} (x : FVec Ideal ⟨2, ![N, w]⟩ .f32) (init : FVec Ideal u .f32)
    (h : Shape.ReduceWindows (s := ⟨2, ![N, w]⟩) ![N, 1] ![1, 1] ![N - 1, 0] ![0, 0] ⟨2, ![N, w]⟩) (hu : 0 < u.numel)
    (h0 : init (Shape.Idx.first hu) = 0) (r : Fin N) (k : Fin w) (f : ℕ → EReal) (hf : ∀ s : Fin N, x (ix2 s k) = f s.val) :
    Host.reduceWindowAdd (s := ⟨2, ![N, w]⟩) ![N, 1] ![1, 1] ![N - 1, 0] ![0, 0] x init h hu (ix2 r k) = ∑ i ∈ Finset.range (r.val + 1), f i := by
  rw [window_rows _ _ _ _ _ _ h0]
  simp only [hf]
  rw [Fin.sum_univ_eq_sum_range (fun n => if hn : N - 1 ≤ r.val + n ∧ r.val + n - (N - 1) < N then f (r.val + n - (N - 1)) else 0) N]
  have hr := r.isLt
  have e : ∀ g : ℕ → EReal, ∑ i ∈ Finset.range N, g i = ∑ i ∈ Finset.range (N - 1 - r.val), g i + ∑ i ∈ Finset.range (r.val + 1), g (N - 1 - r.val + i) :=
    fun g => by rw [← Finset.sum_range_add, show N - 1 - r.val + (r.val + 1) = N by omega]
  rw [e, Finset.sum_eq_zero (fun i hi => dif_neg (by have := Finset.mem_range.1 hi; omega)), zero_add]
  refine Finset.sum_congr rfl fun i hi => ?_
  have := Finset.mem_range.1 hi
  rw [dif_pos (by omega)]
  exact congrArg f (by omega)

/-- A running sum from the last row. -/
theorem suffix_rows {N w : ℕ} {u : Shape} (x : FVec Ideal ⟨2, ![N, w]⟩ .f32) (init : FVec Ideal u .f32) (hi : ℕ)
    (h : Shape.ReduceWindows (s := ⟨2, ![N, w]⟩) ![N, 1] ![1, 1] ![0, 0] ![hi, 0] ⟨2, ![N, w]⟩) (hu : 0 < u.numel)
    (h0 : init (Shape.Idx.first hu) = 0) (r : Fin N) (k : Fin w) (f : ℕ → EReal) (hf : ∀ s : Fin N, x (ix2 s k) = f s.val) :
    Host.reduceWindowAdd (s := ⟨2, ![N, w]⟩) ![N, 1] ![1, 1] ![0, 0] ![hi, 0] x init h hu (ix2 r k)
      = ∑ i ∈ Finset.range (N - r.val), f (r.val + i) := by
  rw [window_rows _ _ _ _ _ _ h0]
  simp only [hf]
  rw [Fin.sum_univ_eq_sum_range (fun n => if hn : 0 ≤ r.val + n ∧ r.val + n - 0 < N then f (r.val + n - 0) else 0) N]
  have hr := r.isLt
  refine (Finset.sum_subset (Finset.range_subset_range.2 (show N - r.val ≤ N by omega)) fun i _ hi => dif_neg ?_).symm.trans ?_
  · have := mt Finset.mem_range.2 hi
    omega
  · refine Finset.sum_congr rfl fun i hi => ?_
    have := Finset.mem_range.1 hi
    rw [dif_pos (by omega)]
    rfl

/-- The sum of `n` terms up to the term `i`, last first. -/
def back (f : ℕ → EReal) (n i : ℕ) : EReal := ∑ x ∈ Finset.range n, f (i - x)

/-- The sum of `n` terms from the term `i` on. -/
def ahead (f : ℕ → EReal) (n i : ℕ) : EReal := ∑ x ∈ Finset.range n, f (i + x)

/-- Sums over windows double: a window of `n + l` terms is a window of `n` terms and the window of `l` terms next to it. -/
theorem back_add (f : ℕ → EReal) (n l i : ℕ) : back f n i + back f l (i - n) = back f (n + l) i := by
  unfold back
  rw [Finset.sum_range_add]
  exact congrArg _ (Finset.sum_congr rfl fun x _ => congrArg f (Nat.sub_sub _ _ _))
theorem ahead_add (f : ℕ → EReal) (n l i : ℕ) : ahead f n i + ahead f l (i + n) = ahead f (n + l) i := by
  unfold ahead
  rw [Finset.sum_range_add]
  exact congrArg _ (Finset.sum_congr rfl fun x _ => congrArg f (Nat.add_assoc _ _ _))
theorem back_one (f : ℕ → EReal) (i : ℕ) : back f 1 i = f i := by simp [back]
theorem ahead_one (f : ℕ → EReal) (i : ℕ) : ahead f 1 i = f i := by simp [ahead]

variable {f : ℕ → EReal} (hf : ∀ i, IsReal (f i))

include hf in
theorem real_back (n i : ℕ) : IsReal (back f n i) := IsReal.sum _ fun _ => hf _
include hf in
theorem real_ahead (n i : ℕ) : IsReal (ahead f n i) := IsReal.sum _ fun _ => hf _

/-- On real numbers a sum less its first term is the other term. -/
theorem add_sub_cancel {x y : EReal} (hx : IsReal x) (hy : IsReal y) : x + y - x = y := by
  obtain ⟨a, rfl⟩ := hx
  obtain ⟨b, rfl⟩ := hy
  rw [← EReal.coe_add, ← EReal.coe_sub]
  exact congrArg _ (by ring)

include hf in
/-- The first `i + 1` terms less the first `i + 1 - n` are the window of `n` terms that ends at `i`. -/
theorem prefix_sub (n i : ℕ) (h : n ≤ i + 1) :
    ∑ x ∈ Finset.range (i + 1), f x - ∑ x ∈ Finset.range (i + 1 - n), f x = back f n i := by
  conv_lhs => rw [show i + 1 = (i + 1 - n) + n by omega, Finset.sum_range_add]
  rw [show i + 1 - n + n - n = i + 1 - n by omega, add_sub_cancel (IsReal.sum _ fun _ => hf _) (IsReal.sum _ fun _ => hf _)]
  unfold back
  rw [← Finset.sum_range_reflect]
  refine Finset.sum_congr rfl fun x hx => congrArg f ?_
  have := Finset.mem_range.1 hx
  omega

include hf in
/-- The sum from the term `i` on of each term less the term `n` further on, over a function that ends with zeros, is the
    window of `n` terms that starts at `i`. -/
theorem suffix_sub (n i M : ℕ) (hz : ∀ j, i + M ≤ j → f j = 0) :
    ∑ x ∈ Finset.range M, (f (i + x) + -f (i + x + n)) = ahead f n i := by
  choose g hg using hf
  have hz' : ∀ j, i + M ≤ j → g j = 0 := fun j hj => by
    have := hz j hj
    rw [hg] at this
    exact_mod_cast this
  unfold ahead
  simp only [hg, ← EReal.coe_neg, ← EReal.coe_add, Lift.coe_sum]
  refine congrArg _ ?_
  have e1 := Finset.sum_range_add (fun x => g (i + x)) M n
  have e2 := Finset.sum_range_add (fun x => g (i + x)) n M
  rw [Nat.add_comm n M, e1, Finset.sum_eq_zero (fun x _ => hz' (i + (M + x)) (by omega))] at e2
  rw [Finset.sum_add_distrib, Finset.sum_neg_distrib]
  have e3 : ∑ x ∈ Finset.range M, g (i + x + n) = ∑ x ∈ Finset.range M, g (i + (n + x)) :=
    Finset.sum_congr rfl fun x _ => congrArg g (by omega)
  rw [e3]
  linarith

end Cert.CumSum

end
-- ==== Proof.BwdBRows.lean ====
/- The pooling branch's backward call, row by row: what each result holds as a function of the argument rows, and the identities
   between the kernel's windows and the reference's running sums. Hand-written, untrusted. -/
module

public import proofs.«01_k».proof.Proof.CumSum

@[expose] public section

noncomputable section

open Idealize.ShloMosaic
open scoped BigOperators

namespace Cert.BwdB

open CumSum

/-- The argument rows of the call: the pooled rows `P`, the gate's logit `Z`, the branch's cotangent `G`, the four groups' matrices,
    the bias, the scale and the branch's output matrix. -/
structure Args where
  P : Fin 16384 → Fin 1024 → EReal
  Z : Fin 16384 → Fin 1024 → EReal
  G : Fin 16384 → Fin 1024 → EReal
  pw : Fin 4 → Fin 256 → Fin 256 → EReal
  pb : Fin 1024 → EReal
  ps : Fin 1024 → EReal
  w : Fin 1024 → Fin 1024 → EReal

/-- Column `j` of group `g`, -/
def col (g : Fin 4) (j : Fin 256) : Fin 1024 := ⟨256 * g.val + j.val, by omega⟩
/-- the group of a column, -/
def grp (k : Fin 1024) : Fin 4 := ⟨k.val / 256, by omega⟩
/-- and its place there. -/
def lane (k : Fin 1024) : Fin 256 := ⟨k.val % 256, by omega⟩

@[simp] theorem grp_col (g : Fin 4) (j : Fin 256) : grp (col g j) = g := Fin.ext (show (256 * g.val + j.val) / 256 = g.val by omega)
@[simp] theorem lane_col (g : Fin 4) (j : Fin 256) : lane (col g j) = j := Fin.ext (show (256 * g.val + j.val) % 256 = j.val by omega)
theorem col_grp (k : Fin 1024) : col (grp k) (lane k) = k := Fin.ext (show 256 * (k.val / 256) + k.val % 256 = k.val by omega)
theorem exists_col (k : Fin 1024) : ∃ g j, k = col g j := ⟨grp k, lane k, (col_grp k).symm⟩

/-- The windows of the four groups. -/
def win : Fin 4 → ℕ := ![2, 4, 8, 16]

theorem win_pos : ∀ g, 0 < win g := by decide
theorem win_le : ∀ g, win g ≤ 16 := by decide

/-- How many rows a window of `n` rows that ends at row `r` holds. -/
def cnt (n r : ℕ) : ℝ := ((min (r + 1) n : ℕ) : ℝ)
/-- One over it. -/
def inv (n r : ℕ) : EReal := ((1 / cnt n r : ℝ) : EReal)

theorem cnt_ne {n r : ℕ} (h : 0 < n) : cnt n r ≠ 0 := Nat.cast_ne_zero.2 (by omega)
theorem div_cnt {n r : ℕ} (h : 0 < n) (x : EReal) : Ideal.div x (cnt n r : EReal) = x * inv n r := Ideal.div_coe (cnt_ne h) x

/-- The count as the programs compute it: the smaller of two 32-bit integers. -/
theorem cnt_min (n r : ℕ) (hn : n < 2 ^ 31) (hr : r + 1 < 2 ^ 31) :
    (((IntOp.minsi (BitVec.ofNat 32 (r + 1)) (BitVec.ofNat 32 n)).toInt : ℝ) : EReal) = (cnt n r : EReal) := by
  have e1 : (BitVec.ofNat 32 (r + 1)).toInt = (r + 1 : ℕ) := by
    rw [BitVec.toInt_ofNat', Int.bmod_eq_of_le] <;> omega
  have e2 : (BitVec.ofNat 32 n).toInt = (n : ℕ) := by
    rw [BitVec.toInt_ofNat', Int.bmod_eq_of_le] <;> omega
  unfold IntOp.minsi cnt BitVec.slt
  rw [e1, e2]
  by_cases h : r + 1 < n
  · rw [decide_eq_true (by exact_mod_cast h), if_pos rfl, e1, min_eq_left (by omega)]
    simp
  · rw [decide_eq_false (by exact_mod_cast h), if_neg (by decide), e2, min_eq_right (by omega)]
    simp

namespace Args

variable (a : Args)

/-- The pooled rows after 32 rows of zeros, -/
def pz (k : Fin 1024) (i : ℕ) : EReal := if h : 32 ≤ i ∧ i < 16416 then a.P ⟨i - 32, by omega⟩ k else 0

/-- the pooled row less the row itself, -/
def d (r : Fin 16384) (k : Fin 1024) : EReal := back (a.pz k) (win (grp k)) (r.val + 32) * inv (win (grp k)) r.val - a.P r k

/-- its product with the group's matrix, -/
def lin0 (r : Fin 16384) (k : Fin 1024) : EReal := ∑ i, a.d r (col (grp k) i) * a.pw (grp k) i (lane k)

/-- and that with the bias, -/
def lin (r : Fin 16384) (k : Fin 1024) : EReal := a.lin0 r k + a.pb k

/-- the gate, -/
def gate (r : Fin 16384) (k : Fin 1024) : EReal := a.Z r k * Ideal.logistic (a.Z r k)

/-- and the gated product. -/
def y (r : Fin 16384) (k : Fin 1024) : EReal := a.lin r k * a.ps k * a.gate r k

/-- The cotangent of the gated product: the row of the branch's cotangent times the transposed output matrix. -/
def dy (r : Fin 16384) (k : Fin 1024) : EReal := ∑ j, a.G r j * a.w k j

/-- The scale's gradient from one row. -/
def dps (r : Fin 16384) (k : Fin 1024) : EReal := a.dy r k * a.lin r k * a.gate r k

/-- The cotangent of the gate's logit. -/
def dZ (r : Fin 16384) (k : Fin 1024) : EReal :=
  a.dy r k * a.lin r k * a.ps k * (Ideal.logistic (a.Z r k) * (1 + a.Z r k * (1 - Ideal.logistic (a.Z r k))))

/-- The cotangent of the product with the group's matrix, -/
def dlin (r : Fin 16384) (k : Fin 1024) : EReal := a.dy r k * a.ps k * a.gate r k

/-- of the pooled rows, -/
def dd (r : Fin 16384) (k : Fin 1024) : EReal := ∑ j, a.dlin r (col (grp k) j) * a.pw (grp k) (lane k) j

/-- over the row's count, with zeros after the last row, -/
def ez (k : Fin 1024) (i : ℕ) : EReal := if h : i < 16384 then a.dd ⟨i, h⟩ k * inv (win (grp k)) i else 0

/-- and of the rows themselves. -/
def dP (r : Fin 16384) (k : Fin 1024) : EReal := ahead (a.ez k) (win (grp k)) r.val - a.dd r k

/-- The two blocks of columns of the first result. -/
def grads : Fin 2 → Fin 16384 → Fin 1024 → EReal := ![a.dP, a.dZ]

theorem pz_at {i : ℕ} {r : Fin 16384} (h : i = r.val + 32) (k : Fin 1024) : a.pz k i = a.P r k := by
  subst h
  exact (dif_pos ⟨by omega, by omega⟩).trans (congrArg (fun s => a.P s k) (Fin.ext (Nat.add_sub_cancel ..)))
theorem pz_zero {i : ℕ} (h : i < 32) (k : Fin 1024) : a.pz k i = 0 := dif_neg (by omega)
theorem ez_at {i : ℕ} {r : Fin 16384} (h : i = r.val) (k : Fin 1024) : a.ez k i = a.dd r k * inv (win (grp k)) r.val := by
  subst h
  exact dif_pos r.isLt
theorem ez_zero {i : ℕ} (h : 16384 ≤ i) (k : Fin 1024) : a.ez k i = 0 := dif_neg (by omega)

/-- Every argument entry a real number. -/
structure Real : Prop where
  P : ∀ r k, IsReal (a.P r k)
  Z : ∀ r k, IsReal (a.Z r k)
  G : ∀ r k, IsReal (a.G r k)
  pw : ∀ g i j, IsReal (a.pw g i j)
  pb : ∀ k, IsReal (a.pb k)
  ps : ∀ k, IsReal (a.ps k)
  w : ∀ i j, IsReal (a.w i j)

variable {a}

theorem Real.pz (h : a.Real) (k : Fin 1024) (i : ℕ) : IsReal (a.pz k i) := by
  unfold Args.pz
  split
  · exact h.P _ _
  · exact IsReal.zero
theorem Real.d (h : a.Real) (r : Fin 16384) (k : Fin 1024) : IsReal (a.d r k) :=
  ((real_back (h.pz k) _ _).mul (IsReal.coe _)).sub (h.P r k)
theorem Real.lin (h : a.Real) (r : Fin 16384) (k : Fin 1024) : IsReal (a.lin r k) :=
  (IsReal.sum _ fun i => (h.d _ _).mul (h.pw _ _ _)).add (h.pb k)
theorem Real.dy (h : a.Real) (r : Fin 16384) (k : Fin 1024) : IsReal (a.dy r k) :=
  IsReal.sum _ fun j => (h.G _ _).mul (h.w _ _)
theorem Real.dlin (h : a.Real) (r : Fin 16384) (k : Fin 1024) : IsReal (a.dlin r k) :=
  ((h.dy r k).mul (h.ps k)).mul ((h.Z r k).mul (h.Z r k).logistic)
theorem Real.dd (h : a.Real) (r : Fin 16384) (k : Fin 1024) : IsReal (a.dd r k) :=
  IsReal.sum _ fun j => (h.dlin _ _).mul (h.pw _ _ _)
theorem Real.ez (h : a.Real) (k : Fin 1024) (i : ℕ) : IsReal (a.ez k i) := by
  unfold Args.ez
  split
  · exact (h.dd _ _).mul (IsReal.coe _)
  · exact IsReal.zero

/-- The gate's derivative as the reference's two terms: on real numbers the product distributes. -/
theorem Real.dZ_eq (h : a.Real) (r : Fin 16384) (k : Fin 1024) :
    a.lin r k * a.ps k * a.dy r k * Ideal.logistic (a.Z r k)
      + a.Z r k * (a.lin r k * a.ps k * a.dy r k) * (Ideal.logistic (a.Z r k) * (1 - Ideal.logistic (a.Z r k))) = a.dZ r k := by
  unfold Args.dZ
  obtain ⟨b, hb⟩ := h.ps k
  obtain ⟨u, hu⟩ := h.lin r k
  obtain ⟨d, hd⟩ := h.dy r k
  obtain ⟨z, hz⟩ := h.Z r k
  obtain ⟨s, hs⟩ := (h.Z r k).logistic
  rw [hs, hz, hb, hu, hd, ← EReal.coe_one]
  simp only [← EReal.coe_mul, ← EReal.coe_add, ← EReal.coe_sub]
  exact congrArg _ (by ring)

end Args

end Cert.BwdB

end
-- ==== Proof.BwdBKernel.lean ====
/- The pooling branch's backward call: what each store of the kernel's body holds, by rows. Hand-written, untrusted. -/
module

public import proofs.«01_k».proof.Proof.BwdBFrame
public import proofs.«01_k».proof.Proof.BwdBRows

@[expose] public section

set_option maxRecDepth 16384

noncomputable section

open Idealize.ShloMosaic Idealize.ShloMosaic.TcCoe
open scoped BigOperators

namespace Cert.Kernel4Ideal.Hand

open Cert.Kernel4Ideal Cert.Kernel4Ideal.Gen Cert.BwdB Cert.CumSum

/-- A row's place counted from one, as the kernel computes it from its tile. -/
theorem place {v : BitVec 32} {T r : ℕ} (hv : v = BitVec.ofNat 32 T) :
    IntOp.addi (IntOp.addi (Scalar.muli v 512#32) (BitVec.ofNat 32 r)) 1#32 = BitVec.ofNat 32 (512 * T + r + 1) := by
  subst hv
  apply BitVec.eq_of_toNat_eq
  simp [IntOp.addi, Scalar.muli, IntOp.muli, Nat.mul_comm]

/-- One over a row's count, as the kernel computes it. -/
theorem inv_tile {v : BitVec 32} {T r n : ℕ} (hv : v = BitVec.ofNat 32 T) (hT : T < 32) (hr : r < 512) (h0 : 0 < n) (hn : n < 2 ^ 31) :
    Ideal.div 1 (FloatOps.sitofp (F := Ideal) FTy.f32 (IntOp.minsi (IntOp.addi (IntOp.addi (Scalar.muli v 512#32) (BitVec.ofNat 32 r)) 1#32) (BitVec.ofNat 32 n)))
      = BwdB.inv n (512 * T + r) := by
  rw [place hv]
  refine (congrArg (Ideal.div 1) (cnt_min n (512 * T + r) hn (by omega))).trans ?_
  rw [div_cnt h0, one_mul]

section
variable (a : Args) (row : Fin 512 → Fin 16384) (v : BitVec 32) {T : ℕ} (hv : v = BitVec.ofNat 32 T) (hT : T < 32)
  (hrow : ∀ r, (row r).val = 512 * T + r.val) (g : Fin 4)
  (S A : Vec Ideal S512x256 .f32) (hS : ∀ r j, S (ix2 r j) = back (a.pz (col g j)) (win g) ((row r).val + 32))
  (hA : ∀ r j, A (ix2 r j) = a.P (row r) (col g j)) (r : Fin 512) (j : Fin 256)

include hv hT hrow in
theorem inv_row {n : ℕ} (h0 : 0 < n) (hn : n < 2 ^ 31) :
    Ideal.div 1 (FloatOps.sitofp (F := Ideal) FTy.f32 (IntOp.minsi (IntOp.addi (IntOp.addi (Scalar.muli v 512#32) (BitVec.ofNat 32 r.val)) 1#32) (BitVec.ofNat 32 n)))
      = BwdB.inv n (row r).val := by
  rw [inv_tile hv hT r.isLt h0 hn, hrow]

/-! The pooled rows less the rows, group by group. -/

include hv hT hrow hS hA in
theorem pay_d0 (hg : g = 0) : k0_pay26 (k0_pay19 v) S A (ix2 r j) = a.d (row r) (col g j) := by
  subst hg
  pointwise [k0_pay26, k0_pay19, k0_pay18]
  rw [hS, hA, inv_row row v hv hT hrow r (n := 2) (by decide) (by decide)]
  unfold Args.d
  rw [grp_col]
  rfl
include hv hT hrow hS hA in
theorem pay_d1 (hg : g = 1) : k0_pay28 (k0_pay23 (k0_pay20 v) S A) (ix2 r j) = a.d (row r) (col g j) := by
  subst hg
  pointwise [k0_pay28, k0_pay23, k0_pay20, k0_pay18]
  rw [hS, hA, inv_row row v hv hT hrow r (n := 4) (by decide) (by decide)]
  unfold Args.d
  rw [grp_col]
  rfl
include hv hT hrow hS hA in
theorem pay_d2 (hg : g = 2) : k0_pay30 (k0_pay24 (k0_pay18 v) S A) (ix2 r j) = a.d (row r) (col g j) := by
  subst hg
  pointwise [k0_pay30, k0_pay24, k0_pay21, k0_pay18]
  rw [hS, hA, inv_row row v hv hT hrow r (n := 8) (by decide) (by decide)]
  unfold Args.d
  rw [grp_col]
  rfl
include hv hT hrow hS hA in
theorem pay_d3 (hg : g = 3) : k0_pay33 (k0_pay32 (k0_pay25 (k0_pay18 v) S A)) (ix2 r j) = a.d (row r) (col g j) := by
  subst hg
  pointwise [k0_pay33, k0_pay32, k0_pay25, k0_pay22, k0_pay18]
  rw [hS, hA, inv_row row v hv hT hrow r (n := 16) (by decide) (by decide)]
  unfold Args.d
  rw [grp_col]
  rfl

variable (D E : Vec Ideal S512x256 .bf16) (W U : Vec Ideal S1x256x256 .bf16) (C : Vec Ideal S1x256x256 .f32) (i : Fin 256)
  (hD : ∀ r j, D (ix2 r j) = a.d (row r) (col g j)) (hW : ∀ i j, W (ix3 0 i j) = a.pw g i j) (hU : ∀ i j, U (ix3 0 i j) = a.pw g j i)
  (hE : ∀ r j, E (ix2 r j) = a.dlin (row r) (col g j))

include hD hW in
theorem lin_eq : ∑ x, D (ix2 r x) * W (ix3 0 x j) = a.lin0 (row r) (col g j) := by
  unfold Args.lin0
  simp only [hD, hW, grp_col, lane_col]

include hE hU in
theorem dd_eq : ∑ x, E (ix2 r x) * U (ix3 0 x j) = a.dd (row r) (col g j) := by
  unfold Args.dd
  simp only [hE, hU, grp_col, lane_col]

/-! The products with the groups' matrices, forward and backward, and the matrices' gradients, group by group. -/

include hD hW in
theorem pay_lin0 : k0_pay27 D W (ix2 r j) = a.lin0 (row r) (col g j) := by
  pointwise [k0_pay27]
  exact lin_eq a row g r j D W hD hW
include hD hE in
theorem pay_dpw0 : k0_pay49 E C D (ix3 0 i j) = C (ix3 0 i j) + ∑ r, a.d (row r) (col g i) * a.dlin (row r) (col g j) := by
  pointwise [k0_pay49]
  simp only [hD, hE]
include hE hU in
theorem pay_dd0 : k0_pay51 E U (ix2 r j) = a.dd (row r) (col g j) := by
  pointwise [k0_pay51, k0_pay50]
  exact dd_eq a row g r j E U hU hE
include hv hT hrow hE hU in
theorem pay_e0 (hg : g = 0) : k0_pay52 (k0_pay19 v) E U (ix2 r j) = a.ez (col g j) (row r).val := by
  rw [a.ez_at rfl, grp_col, ← dd_eq a row g r j E U hU hE]
  subst hg
  pointwise [k0_pay52, k0_pay50, k0_pay19, k0_pay18]
  rw [inv_row row v hv hT hrow r (n := 2) (by decide) (by decide)]
  rfl
include hD hW in
theorem pay_lin1 : k0_pay29 D W (ix2 r j) = a.lin0 (row r) (col g j) := by
  pointwise [k0_pay29]
  exact lin_eq a row g r j D W hD hW
include hD hE in
theorem pay_dpw1 : k0_pay53 E C D (ix3 0 i j) = C (ix3 0 i j) + ∑ r, a.d (row r) (col g i) * a.dlin (row r) (col g j) := by
  pointwise [k0_pay53]
  simp only [hD, hE]
include hE hU in
theorem pay_dd1 : k0_pay55 E U (ix2 r j) = a.dd (row r) (col g j) := by
  pointwise [k0_pay55, k0_pay54]
  exact dd_eq a row g r j E U hU hE
include hv hT hrow hE hU in
theorem pay_e1 (hg : g = 1) : k0_pay56 (k0_pay20 v) E U (ix2 r j) = a.ez (col g j) (row r).val := by
  rw [a.ez_at rfl, grp_col, ← dd_eq a row g r j E U hU hE]
  subst hg
  pointwise [k0_pay56, k0_pay54, k0_pay20, k0_pay18]
  rw [inv_row row v hv hT hrow r (n := 4) (by decide) (by decide)]
  rfl
include hD hW in
theorem pay_lin2 : k0_pay31 D W (ix2 r j) = a.lin0 (row r) (col g j) := by
  pointwise [k0_pay31]
  exact lin_eq a row g r j D W hD hW
include hD hE in
theorem pay_dpw2 : k0_pay57 E C D (ix3 0 i j) = C (ix3 0 i j) + ∑ r, a.d (row r) (col g i) * a.dlin (row r) (col g j) := by
  pointwise [k0_pay57]
  simp only [hD, hE]
include hE hU in
theorem pay_dd2 : k0_pay59 E U (ix2 r j) = a.dd (row r) (col g j) := by
  pointwise [k0_pay59, k0_pay58]
  exact dd_eq a row g r j E U hU hE
include hv hT hrow hE hU in
theorem pay_e2 (hg : g = 2) : k0_pay60 (k0_pay21 (k0_pay18 v)) E U (ix2 r j) = a.ez (col g j) (row r).val := by
  rw [a.ez_at rfl, grp_col, ← dd_eq a row g r j E U hU hE]
  subst hg
  pointwise [k0_pay60, k0_pay58, k0_pay21, k0_pay18]
  rw [inv_row row v hv hT hrow r (n := 8) (by decide) (by decide)]
  rfl
include hD hW in
theorem pay_lin3 : k0_pay34 D W (ix2 r j) = a.lin0 (row r) (col g j) := by
  pointwise [k0_pay34]
  exact lin_eq a row g r j D W hD hW
include hD hE in
theorem pay_dpw3 : k0_pay61 E C D (ix3 0 i j) = C (ix3 0 i j) + ∑ r, a.d (row r) (col g i) * a.dlin (row r) (col g j) := by
  pointwise [k0_pay61]
  simp only [hD, hE]
include hE hU in
theorem pay_dd3 : k0_pay63 E U (ix2 r j) = a.dd (row r) (col g j) := by
  pointwise [k0_pay63, k0_pay62]
  exact dd_eq a row g r j E U hU hE
include hv hT hrow hE hU in
theorem pay_e3 (hg : g = 3) : k0_pay64 (k0_pay22 (k0_pay18 v)) E U (ix2 r j) = a.ez (col g j) (row r).val := by
  rw [a.ez_at rfl, grp_col, ← dd_eq a row g r j E U hU hE]
  subst hg
  pointwise [k0_pay64, k0_pay62, k0_pay22, k0_pay18]
  rw [inv_row row v hv hT hrow r (n := 16) (by decide) (by decide)]
  rfl

variable (N : Vec Ideal S512x256 .f32) (hN : ∀ r j, N (ix2 r j) = ahead (a.ez (col g j)) (win g) (row r).val)
  (X : Vec Ideal S512x256 .f32) (hX : ∀ r j, X (ix2 r j) = a.dd (row r) (col g j))

include hN hX in
theorem dP_eq : N (ix2 r j) - X (ix2 r j) = a.dP (row r) (col g j) := by
  unfold Args.dP
  rw [hN, hX, grp_col]

include hN hX in
theorem pay_dP0 : k0_pay71 N X (ix2 r j) = a.dP (row r) (col g j) := by
  pointwise [k0_pay71]
  exact dP_eq a row g r j N hN X hX
include hN hX in
theorem pay_dP1 : k0_pay1 N X (ix2 r j) = a.dP (row r) (col g j) := by
  pointwise [k0_pay1]
  exact dP_eq a row g r j N hN X hX
include hN hX in
theorem pay_dP2 : k0_pay2 N X (ix2 r j) = a.dP (row r) (col g j) := by
  pointwise [k0_pay2]
  exact dP_eq a row g r j N hN X hX
include hN hX in
theorem pay_dP3 : k0_pay3 N X (ix2 r j) = a.dP (row r) (col g j) := by
  pointwise [k0_pay3]
  exact dP_eq a row g r j N hN X hX
end

section
variable (Z G : Vec Ideal S512x1024 .bf16) (L : Vec Ideal S512x1024 .f32) (W : Vec Ideal S1024x1024 .bf16) (b s O : Vec Ideal S1x1024 .f32)
  (r : Fin 512) (k : Fin 1024) (a : Args) (row : Fin 512 → Fin 16384)
  (hZ : ∀ r k, Z (ix2 r k) = a.Z (row r) k) (hG : ∀ r k, G (ix2 r k) = a.G (row r) k) (hL : ∀ r k, L (ix2 r k) = a.lin0 (row r) k)
  (hW : ∀ i j, W (ix2 i j) = a.w j i) (hb : ∀ k, b (ix2 0 k) = a.pb k) (hs : ∀ k, s (ix2 0 k) = a.ps k)

include hL hb in
theorem pay_lin : k0_pay35 (k0_pay11 b) L (ix2 r k) = a.lin (row r) k := by
  pointwise [k0_pay35, k0_pay11]
  rw [hL, hb]
  rfl

include hZ in
theorem pay_gate : k0_pay37 (k0_pay9 Z) (ix2 r k) = a.gate (row r) k := by
  pointwise [k0_pay37, k0_pay36, k0_pay9]
  rw [hZ]
  rfl

include hG hW in
theorem pay_dy : k0_pay39 G W (ix2 r k) = a.dy (row r) k := by
  pointwise [k0_pay39]
  simp only [hG, hW]
  rfl

include hZ hG hL hb hs in
theorem pay_dw (A : Vec Ideal S1024x1024 .f32) (i j : Fin 1024) :
    k0_pay38 (k0_pay9 Z) (k0_pay10 s) (k0_pay11 b) L G A (ix2 i j) = A (ix2 i j) + ∑ r : Fin 512, a.y (row r) i * a.G (row r) j := by
  pointwise [k0_pay38, k0_pay10]
  refine congrArg₂ _ rfl (Finset.sum_congr rfl fun r _ => ?_)
  rw [pay_gate Z r i a row hZ, pay_lin L b r i a row hL hb, hs, hG]
  rfl

include hZ hG hL hW hb in
theorem pay_dps : k0_pay43 (k0_pay41 O) (k0_pay42 (k0_pay9 Z) (k0_pay11 b) L G W) (ix2 0 k)
    = O (ix2 0 k) + ∑ r : Fin 512, a.dps (row r) k := by
  pointwise [k0_pay43, k0_pay41, k0_pay42, k0_pay40]
  refine congrArg₂ _ rfl (Finset.sum_congr rfl fun r _ => ?_)
  rw [pay_gate Z r k a row hZ, pay_lin L b r k a row hL hb, pay_dy G W r k a row hG hW]
  rfl

include hZ hG hL hW hb hs in
theorem pay_dZ : k0_pay44 (k0_pay9 Z) (k0_pay10 s) (k0_pay36 (k0_pay9 Z)) (k0_pay40 (k0_pay11 b) L G W) (ix2 r k) = a.dZ (row r) k := by
  pointwise [k0_pay44, k0_pay40, k0_pay36, k0_pay9, k0_pay10]
  rw [pay_lin L b r k a row hL hb, pay_dy G W r k a row hG hW, hs, hZ]
  rfl

include hZ hG hW hs in
theorem pay_dlin : k0_pay45 (k0_pay10 s) (k0_pay37 (k0_pay9 Z)) (k0_pay39 G W) (ix2 r k) = a.dlin (row r) k := by
  pointwise [k0_pay45, k0_pay10]
  rw [pay_gate Z r k a row hZ, pay_dy G W r k a row hG hW, hs]
  rfl

include hZ hG hW hs in
theorem pay_dpb : k0_pay46 (k0_pay10 s) (k0_pay37 (k0_pay9 Z)) (k0_pay39 G W) O (ix2 0 k)
    = O (ix2 0 k) + ∑ r : Fin 512, a.dlin (row r) k := by
  pointwise [k0_pay46]
  refine congrArg₂ _ rfl (Finset.sum_congr rfl fun r _ => ?_)
  exact pay_dlin Z G W s r k a row hZ hG hW hs

include hZ hG hW hs in
theorem pay_dl : k0_pay47 (k0_pay10 s) (k0_pay37 (k0_pay9 Z)) (k0_pay39 G W) (ix2 r k) = a.dlin (row r) k := by
  rw [← pay_dlin Z G W s r k a row hZ hG hW hs]
  pointwise [k0_pay47]
end

end Cert.Kernel4Ideal.Hand

end
-- ==== Proof.Blocks.lean ====
/- Stores of rectangles into a two-axis buffer, read back entry by entry. Hand-written, untrusted. -/
module

public import Idealize.ShloMosaic.Lib.Pipeline.ValueKit
public import Idealize.ShloMosaic.Lib.Pipeline.ReadBack
public import Idealize.ShloMosaic.Lib.WritesUnit

@[expose] public section

noncomputable section

open Idealize.ShloMosaic

namespace Cert.Blocks

variable {Val : EltTy → Type} [∀ e, Nonempty (Val e)] {e : EltTy} {n w h v o p : ℕ}

/-- Entry `(r, j)` of a store at `(o, p)` is entry `(o + r, p + j)` of the buffer. -/
theorem emb (inb : ∀ a, (![o, p] : Fin 2 → ℕ) a + (![h, v] : Fin 2 → ℕ) a ≤ Shape.size ⟨2, ![n, w]⟩ a) (s : Fin n) (r : Fin h)
    (k : Fin w) (j : Fin v) (hs : s.val = o + r.val) (hk : k.val = p + j.val) :
    (Rect.unit (s := ⟨2, ![n, w]⟩) ![o, p] ![h, v] inb).idx (ix2 r j : Shape.Idx ⟨2, ![h, v]⟩) = ix2 s k := by
  funext a
  refine Fin.ext ?_
  fin_cases a
  · show o + 1 * r.val = s.val
    omega
  · show p + 1 * j.val = k.val
    omega

/-- The newest store read back inside its rectangle. -/
theorem canon_at (inb : ∀ a, (![o, p] : Fin 2 → ℕ) a + (![h, v] : Fin 2 → ℕ) a ≤ Shape.size ⟨2, ![n, w]⟩ a)
    (P : Shape.Idx ⟨2, ![h, v]⟩ → Val e) (L : List (View.Piece Val ⟨2, ![n, w]⟩ e)) (s : Fin n) (r : Fin h) (k : Fin w) (j : Fin v)
    (hs : s.val = o + r.val) (hk : k.val = p + j.val) :
    View.canon (⟨Rect.unit (s := ⟨2, ![n, w]⟩) ![o, p] ![h, v] inb, P⟩ :: L) (ix2 s k) = P (ix2 r j) := by
  rw [← emb inb s r k j hs hk]
  exact View.canon_cons_emb _ _ _ _

/-- Any other entry is what the older stores left. -/
theorem canon_off (inb : ∀ a, (![o, p] : Fin 2 → ℕ) a + (![h, v] : Fin 2 → ℕ) a ≤ Shape.size ⟨2, ![n, w]⟩ a)
    (P : Shape.Idx ⟨2, ![h, v]⟩ → Val e) (L : List (View.Piece Val ⟨2, ![n, w]⟩ e)) (s : Fin n) (k : Fin w)
    (hs : s.val < o ∨ o + h ≤ s.val ∨ k.val < p ∨ p + v ≤ k.val) :
    View.canon (⟨Rect.unit (s := ⟨2, ![n, w]⟩) ![o, p] ![h, v] inb, P⟩ :: L) (ix2 s k) = View.canon L (ix2 s k) := by
  refine View.canon_cons_of_not_mem _ _ fun hm => ?_
  have h0 : o ≤ s.val ∧ s.val < o + h := (Rect.mem_set_unit (inb := inb)).mp hm 0
  have h1 : p ≤ k.val ∧ k.val < p + v := (Rect.mem_set_unit (inb := inb)).mp hm 1
  omega

/-- A load of a rectangle, of a buffer filled by stores. -/
theorem readCov_at {sig : RefSig} {κ : Kind} {sp : Space} (V : View sig κ sp ⟨2, ![n, w]⟩ e)
    (inb : ∀ a, (![o, p] : Fin 2 → ℕ) a + (![h, v] : Fin 2 → ℕ) a ≤ Shape.size ⟨2, ![n, w]⟩ a)
    (L : List (View.Piece Val ⟨2, ![n, w]⟩ e)) (s : Fin n) (r : Fin h) (k : Fin w) (j : Fin v) (hs : s.val = o + r.val)
    (hk : k.val = p + j.val) :
    V.readCov L (Rect.unit (s := ⟨2, ![n, w]⟩) ![o, p] ![h, v] inb).toLoadRect (ix2 r j : Shape.Idx ⟨2, ![h, v]⟩) = View.canon L (ix2 s k) := by
  rw [View.readCov_eq_canon', ← emb inb s r k j hs hk]

/-- Four stores side by side, each of 256 columns, on top of any older ones. -/
theorem canon_four (hw : 1024 ≤ w)
    (i0 : ∀ a, (![0, 0] : Fin 2 → ℕ) a + (![h, 256] : Fin 2 → ℕ) a ≤ Shape.size ⟨2, ![n, w]⟩ a)
    (i1 : ∀ a, (![0, 256] : Fin 2 → ℕ) a + (![h, 256] : Fin 2 → ℕ) a ≤ Shape.size ⟨2, ![n, w]⟩ a)
    (i2 : ∀ a, (![0, 512] : Fin 2 → ℕ) a + (![h, 256] : Fin 2 → ℕ) a ≤ Shape.size ⟨2, ![n, w]⟩ a)
    (i3 : ∀ a, (![0, 768] : Fin 2 → ℕ) a + (![h, 256] : Fin 2 → ℕ) a ≤ Shape.size ⟨2, ![n, w]⟩ a)
    (P0 P1 P2 P3 : Shape.Idx ⟨2, ![h, 256]⟩ → Val e) (L : List (View.Piece Val ⟨2, ![n, w]⟩ e)) (f : Fin 4 → Fin 256 → Val e)
    (s : Fin n) (r : Fin h) (hs : s.val = r.val)
    (h0 : ∀ j, P0 (ix2 r j) = f 0 j) (h1 : ∀ j, P1 (ix2 r j) = f 1 j) (h2 : ∀ j, P2 (ix2 r j) = f 2 j) (h3 : ∀ j, P3 (ix2 r j) = f 3 j)
    (g : Fin 4) (j : Fin 256) (k : Fin w) (hk : k.val = 256 * g.val + j.val) :
    View.canon (⟨Rect.unit (s := ⟨2, ![n, w]⟩) ![0, 768] ![h, 256] i3, P3⟩ :: ⟨Rect.unit (s := ⟨2, ![n, w]⟩) ![0, 512] ![h, 256] i2, P2⟩
      :: ⟨Rect.unit (s := ⟨2, ![n, w]⟩) ![0, 256] ![h, 256] i1, P1⟩ :: ⟨Rect.unit (s := ⟨2, ![n, w]⟩) ![0, 0] ![h, 256] i0, P0⟩ :: L) (ix2 s k)
      = f g j := by
  have hs' : s.val = 0 + r.val := hs.trans (Nat.zero_add _).symm
  obtain rfl | rfl | rfl | rfl := (by decide : ∀ g : Fin 4, g = 0 ∨ g = 1 ∨ g = 2 ∨ g = 3) g
  · refine (canon_off i3 P3 _ s k (Or.inr (Or.inr (Or.inl (by omega))))).trans ?_
    refine (canon_off i2 P2 _ s k (Or.inr (Or.inr (Or.inl (by omega))))).trans ?_
    refine (canon_off i1 P1 _ s k (Or.inr (Or.inr (Or.inl (by omega))))).trans ?_
    exact (canon_at i0 P0 _ s r k j hs' hk).trans (h0 j)
  · refine (canon_off i3 P3 _ s k (Or.inr (Or.inr (Or.inl (by omega))))).trans ?_
    refine (canon_off i2 P2 _ s k (Or.inr (Or.inr (Or.inl (by omega))))).trans ?_
    exact (canon_at i1 P1 _ s r k j hs' hk).trans (h1 j)
  · refine (canon_off i3 P3 _ s k (Or.inr (Or.inr (Or.inl (by omega))))).trans ?_
    exact (canon_at i2 P2 _ s r k j hs' hk).trans (h2 j)
  · exact (canon_at i3 P3 _ s r k j hs' hk).trans (h3 j)

/-! Slabs of a three-axis buffer, stored and loaded one at a time. -/

variable {q : ℕ}

theorem emb_slab (inb : ∀ a, (![o, 0, 0] : Fin 3 → ℕ) a + (![1, h, v] : Fin 3 → ℕ) a ≤ Shape.size ⟨3, ![q, h, v]⟩ a) (g : Fin q)
    (hg : g.val = o) (i : Fin h) (j : Fin v) :
    (Rect.unit (s := ⟨3, ![q, h, v]⟩) ![o, 0, 0] ![1, h, v] inb).idx (ix3 0 i j : Shape.Idx ⟨3, ![1, h, v]⟩) = ix3 g i j := by
  funext a
  refine Fin.ext ?_
  fin_cases a
  · show o + 1 * 0 = g.val
    omega
  · show 0 + 1 * i.val = i.val
    omega
  · show 0 + 1 * j.val = j.val
    omega

theorem canon_slab (inb : ∀ a, (![o, 0, 0] : Fin 3 → ℕ) a + (![1, h, v] : Fin 3 → ℕ) a ≤ Shape.size ⟨3, ![q, h, v]⟩ a)
    (P : Shape.Idx ⟨3, ![1, h, v]⟩ → Val e) (L : List (View.Piece Val ⟨3, ![q, h, v]⟩ e)) (g : Fin q) (hg : g.val = o) (i : Fin h)
    (j : Fin v) :
    View.canon (⟨Rect.unit (s := ⟨3, ![q, h, v]⟩) ![o, 0, 0] ![1, h, v] inb, P⟩ :: L) (ix3 g i j) = P (ix3 0 i j) := by
  rw [← emb_slab inb g hg i j]
  exact View.canon_cons_emb _ _ _ _

theorem canon_other (inb : ∀ a, (![o, 0, 0] : Fin 3 → ℕ) a + (![1, h, v] : Fin 3 → ℕ) a ≤ Shape.size ⟨3, ![q, h, v]⟩ a)
    (P : Shape.Idx ⟨3, ![1, h, v]⟩ → Val e) (L : List (View.Piece Val ⟨3, ![q, h, v]⟩ e)) (g : Fin q) (hg : g.val ≠ o) (i : Fin h)
    (j : Fin v) :
    View.canon (⟨Rect.unit (s := ⟨3, ![q, h, v]⟩) ![o, 0, 0] ![1, h, v] inb, P⟩ :: L) (ix3 g i j) = View.canon L (ix3 g i j) := by
  refine View.canon_cons_of_not_mem _ _ fun hm => ?_
  have h0 : o ≤ g.val ∧ g.val < o + 1 := (Rect.mem_set_unit (inb := inb)).mp hm 0
  omega

theorem canon_all (inb : ∀ a, (![0, 0, 0] : Fin 3 → ℕ) a + (![q, h, v] : Fin 3 → ℕ) a ≤ Shape.size ⟨3, ![q, h, v]⟩ a)
    (P : Shape.Idx ⟨3, ![q, h, v]⟩ → Val e) (g : Fin q) (i : Fin h) (j : Fin v) :
    View.canon [⟨Rect.unit (s := ⟨3, ![q, h, v]⟩) ![0, 0, 0] ![q, h, v] inb, P⟩] (ix3 g i j) = P (ix3 g i j) := by
  have he : (Rect.unit (s := ⟨3, ![q, h, v]⟩) ![0, 0, 0] ![q, h, v] inb).idx (ix3 g i j : Shape.Idx ⟨3, ![q, h, v]⟩) = ix3 g i j := by
    funext a
    refine Fin.ext ?_
    fin_cases a
    · show 0 + 1 * g.val = g.val
      omega
    · show 0 + 1 * i.val = i.val
      omega
    · show 0 + 1 * j.val = j.val
      omega
  rw [← he]
  exact (View.canon_cons_emb _ _ _ _).trans (congrArg P he.symm)

theorem readCov_slab {sig : RefSig} {κ : Kind} {sp : Space} (V : View sig κ sp ⟨3, ![q, h, v]⟩ e)
    (inb : ∀ a, (![o, 0, 0] : Fin 3 → ℕ) a + (![1, h, v] : Fin 3 → ℕ) a ≤ Shape.size ⟨3, ![q, h, v]⟩ a)
    (L : List (View.Piece Val ⟨3, ![q, h, v]⟩ e)) (g : Fin q) (hg : g.val = o) (i : Fin h) (j : Fin v) :
    V.readCov L (Rect.unit (s := ⟨3, ![q, h, v]⟩) ![o, 0, 0] ![1, h, v] inb).toLoadRect (ix3 0 i j : Shape.Idx ⟨3, ![1, h, v]⟩)
      = View.canon L (ix3 g i j) := by
  rw [View.readCov_eq_canon', ← emb_slab inb g hg i j]

theorem ld_slab (inb : ∀ a, (![o, 0, 0] : Fin 3 → ℕ) a + (![1, h, v] : Fin 3 → ℕ) a ≤ Shape.size ⟨3, ![q, h, v]⟩ a)
    (X : Shape.Idx ⟨3, ![q, h, v]⟩ → Val e) (g : Fin q) (hg : g.val = o) (i : Fin h) (j : Fin v) :
    View.ld X (Rect.unit (s := ⟨3, ![q, h, v]⟩) ![o, 0, 0] ![1, h, v] inb) (ix3 0 i j : Shape.Idx ⟨3, ![1, h, v]⟩) = X (ix3 g i j) := by
  rw [← emb_slab inb g hg i j]

end Cert.Blocks

end
-- ==== Proof.BwdBTile.lean ====
/- The pooling branch's backward call: the kernel's blocks and scratch at one tile, by rows of the argument arrays.
   Hand-written, untrusted. -/
module

public import proofs.«01_k».proof.Proof.BwdBKernel
public import proofs.«01_k».proof.Proof.Blocks
public import proofs.«01_k».proof.Proof.Lift
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Hand

open Cert.Kernel4Ideal Cert.Kernel4Ideal.Gen Cert.BwdB Cert.CumSum Cert.Blocks

variable (m : (ℓ : Loc nD τ sig) → Buf (Elt Ideal) ℓ)
variable (c : Dev nD) (t : Fin cfg0.N)

/-- The argument rows of the call, from the argument arrays. -/
def argRows (c : Dev nD) : Args where
  P r j := m (c.tc.loc main_arg0) (ix2 r ⟨3072 + j.val, by omega⟩)
  Z r j := m (c.tc.loc main_arg0) (ix2 r ⟨4096 + j.val, by omega⟩)
  G r j := m (c.tc.loc main_arg1) (ix2 r ⟨1024 + j.val, by omega⟩)
  pw g i j := m (c.tc.loc main_arg2) (ix3 g i j)
  pb j := m (c.tc.loc main_arg3) (ix1 j)
  ps j := m (c.tc.loc main_arg4) (ix1 j)
  w i j := m (c.tc.loc main_arg5) (ix2 i j)

theorem lt32 (t : Fin cfg0.N) : t.val < 32 := lt_of_lt_of_le t.isLt (le_refl 32)

/-- Row `r` of point `t`'s block, in the whole array: the points take the tiles from the last to the first. -/
abbrev rowAt (t : Fin cfg0.N) (r : Fin 512) : Fin 16384 :=
  ⟨512 * (31 - t.val) + r.val, by have := lt32 t; omega⟩

theorem idx : ∀ t : Fin cfg0.N, win0_0.index t = ![31 - t.val, 3] ∧ win0_1.index t = ![16 * (31 - t.val) - 1, 3]
    ∧ win0_2.index t = ![31 - t.val, 4] ∧ win0_3.index t = ![31 - t.val, 1] ∧ win0_4.index t = ![0, 0, 0]
    ∧ win0_5.index t = ![0, 0, 0] ∧ win0_6.index t = ![0, 0] ∧ win0_7.index t = ![0, 0]
    ∧ win0_8.index t = ![0, 0] ∧ win0_9.index t = ![31 - t.val, 2] ∧ win0_10.index t = ![0, 0]
    ∧ win0_11.index t = ![0, 0, 0] ∧ win0_12.index t = ![0, 0] ∧ win0_13.index t = ![0, 0] :=
  (by decide +kernel : ∀ t : Fin grid0.N, _)

theorem blk0 (r : Fin 512) (k : Fin 1024) :
    (iblk m c 0 t : FVec Ideal S512x1024 .bf16) (ix2 r k) = (argRows m c).P (rowAt t r) k := by
  refine Eq.trans ?_ (show m (c.tc.loc main_arg0) (ix2 (rowAt t r) ⟨3072 + k.val, by omega⟩) = _ from rfl)
  blk_point [iblk, V, idx t]
theorem blk2 (r : Fin 512) (k : Fin 1024) :
    (iblk m c 2 t : FVec Ideal S512x1024 .bf16) (ix2 r k) = (argRows m c).Z (rowAt t r) k := by
  refine Eq.trans ?_ (show m (c.tc.loc main_arg0) (ix2 (rowAt t r) ⟨4096 + k.val, by omega⟩) = _ from rfl)
  blk_point [iblk, V, idx t]
theorem blk3 (r : Fin 512) (k : Fin 1024) :
    (iblk m c 3 t : FVec Ideal S512x1024 .bf16) (ix2 r k) = (argRows m c).G (rowAt t r) k := by
  refine Eq.trans ?_ (show m (c.tc.loc main_arg1) (ix2 (rowAt t r) ⟨1024 + k.val, by omega⟩) = _ from rfl)
  blk_point [iblk, V, idx t]
theorem blk4 (g : Fin 4) (i j : Fin 256) :
    (iblk m c 4 t : FVec Ideal S4x256x256 .bf16) (ix3 g i j) = (argRows m c).pw g i j := by
  refine Eq.trans ?_ (show m (c.tc.loc main_arg2) (ix3 g i j) = _ from rfl)
  blk_point [iblk, V, idx t]
theorem blk5 (g : Fin 4) (i j : Fin 256) :
    (iblk m c 5 t : FVec Ideal S4x256x256 .bf16) (ix3 g i j) = (argRows m c).pw g j i := by
  refine Eq.trans ?_ (show m (c.tc.loc main_arg2) (ix3 g j i) = _ from rfl)
  blk_point [iblk, V, idx t]
theorem blk6 (k : Fin 1024) :
    (iblk m c 6 t : FVec Ideal S1x1024 .f32) (ix2 0 k) = (argRows m c).pb k := by
  refine Eq.trans ?_ (show m (c.tc.loc main_arg3) (ix1 k) = _ from rfl)
  blk_point [iblk, V, idx t]
theorem blk7 (k : Fin 1024) :
    (iblk m c 7 t : FVec Ideal S1x1024 .f32) (ix2 0 k) = (argRows m c).ps k := by
  refine Eq.trans ?_ (show m (c.tc.loc main_arg4) (ix1 k) = _ from rfl)
  blk_point [iblk, V, idx t]
theorem blk8 (i j : Fin 1024) :
    (iblk m c 8 t : FVec Ideal S1024x1024 .bf16) (ix2 i j) = (argRows m c).w j i := by
  refine Eq.trans ?_ (show m (c.tc.loc main_arg5) (ix2 j i) = _ from rfl)
  blk_point [iblk, V, idx t]

/-- The 32 rows before a tile, except before the first tile. -/
theorem blk1 (h : t.val < 31) (s : Fin 32) (k : Fin 1024) :
    (iblk m c 1 t : FVec Ideal S32x1024 .bf16) (ix2 s k)
      = (argRows m c).P ⟨32 * (16 * (31 - t.val) - 1) + s.val, by have := lt32 t; omega⟩ k := by
  refine Eq.trans ?_ (show m (c.tc.loc main_arg0) (ix2 ⟨32 * (16 * (31 - t.val) - 1) + s.val, by have := lt32 t; omega⟩ ⟨3072 + k.val, by omega⟩) = _ from rfl)
  blk_point [iblk, V, idx t]

theorem emb9 (t : Fin cfg0.N) (r : Fin 512) (k : Fin 2048) :
    (win0_9.blk t).view.emb (ix2 r k : S512x2048.Idx) = ix2 (rowAt t r) ⟨4096 + k.val, by omega⟩ := by
  blk_ext [idx t]
theorem emb10 (t : Fin cfg0.N) (z : S1024x1024.Idx) : (win0_10.blk t).view.emb z = z := by
  blk_ext [idx t]
theorem emb11 (t : Fin cfg0.N) (z : S4x256x256.Idx) : (win0_11.blk t).view.emb z = z := by
  blk_ext [idx t]
theorem emb12 (t : Fin cfg0.N) (z : S1x1024.Idx) : (win0_12.blk t).view.emb z = z := by
  blk_ext [idx t]
theorem emb13 (t : Fin cfg0.N) (z : S1x1024.Idx) : (win0_13.blk t).view.emb z = z := by
  blk_ext [idx t]

/-- The tile's number, as the kernel computes it, -/
abbrev tileNo (t : Fin cfg0.N) : BitVec 32 := Scalar.subi 31#32 (BitVec.ofNat 32 (grid0.coords t 0).val)
theorem tile_no : ∀ t : Fin cfg0.N, tileNo t = BitVec.ofNat 32 (31 - t.val) :=
  (by decide +kernel : ∀ t : Fin grid0.N, _)
/-- and its test for the first tile. -/
theorem first_tile : ∀ t : Fin cfg0.N, Scalar.cmpi .sgt (tileNo t) 0#32 = if t.val < 31 then 1#1 else 0#1 :=
  (by decide +kernel : ∀ t : Fin grid0.N, _)
theorem tile_lt (t : Fin cfg0.N) : 31 - t.val < 32 := by omega

/-- Column group `g` of all rows of a tile. -/
abbrev quarter (g : Fin 4) := Rect.unit (s := S512x1024) ![0, 256 * g.val] S512x256.size (fun a => by
  fin_cases a
  · exact le_refl 512
  · show 256 * g.val + 256 ≤ 1024
    omega)
/-- Column group `g` of a tile's rows that begin at row `o` of the tile and the rows kept beside it. -/
abbrev within (o : Fin 33) (g : Fin 4) := Rect.unit (s := S544x1024) ![o.val, 256 * g.val] S512x256.size (fun a => by
  fin_cases a
  · show o.val + 512 ≤ 544
    omega
  · show 256 * g.val + 256 ≤ 1024
    omega)
/-- Slab `g` of the four matrices. -/
theorem slabOf_le (g : Fin 4) (a : Fin 3) : (![g.val, 0, 0] : Fin 3 → ℕ) a + S1x256x256.size a ≤ S4x256x256.size a := by
  fin_cases a
  · exact g.isLt
  · exact le_refl 256
  · exact le_refl 256
abbrev slabOf (g : Fin 4) := Rect.unit (s := S4x256x256) ![g.val, 0, 0] S1x256x256.size (slabOf_le g)

/-! The sums over windows of rows, doubled from window to window. -/

section
variable {sig' : RefSig} {κ : Kind} {sp : Space} {h v o o' p : ℕ} (V W : View sig' κ sp S544x1024 .f32)
  (inb : ∀ a, (![o, p] : Fin 2 → ℕ) a + (![h, v] : Fin 2 → ℕ) a ≤ Shape.size S544x1024 a)
  (inb' : ∀ a, (![o', p] : Fin 2 → ℕ) a + (![h, v] : Fin 2 → ℕ) a ≤ Shape.size S544x1024 a)
  (L : List (View.Piece (Elt Ideal) S544x1024 .f32)) (f : Fin 1024 → ℕ → EReal) (n b : ℕ) (r : Fin h) (j : Fin v) (k : Fin 1024)

theorem back_step (ho : o' + n = o) (hk : k.val = p + j.val)
    (hL : ∀ s : Fin 544, o' ≤ s.val → View.canon L (ix2 s k) = back (f k) n (b + s.val)) :
    (V.readCov L (Rect.unit (s := S544x1024) ![o, p] ![h, v] inb).toLoadRect (ix2 r j : Shape.Idx ⟨2, ![h, v]⟩) : EReal)
      + V.readCov L (Rect.unit (s := S544x1024) ![o', p] ![h, v] inb').toLoadRect (ix2 r j : Shape.Idx ⟨2, ![h, v]⟩)
      = back (f k) (n + n) (b + (o + r.val)) := by
  have e : o + h ≤ 544 := inb 0
  rw [readCov_at V inb L ⟨o + r.val, by omega⟩ r k j rfl hk, readCov_at V inb' L ⟨o' + r.val, by omega⟩ r k j rfl hk,
    hL _ (show o' ≤ o + r.val by omega), hL _ (show o' ≤ o' + r.val by omega), ← back_add]
  exact congrArg (fun i => back (f k) n (b + (o + r.val)) + back (f k) n i) (show b + (o' + r.val) = b + (o + r.val) - n by omega)

theorem ahead_step (ho : o + n = o') (hk : k.val = p + j.val)
    (hL : ∀ s : Fin 544, s.val < o' + h → View.canon L (ix2 s k) = ahead (f k) n (b + s.val)) :
    (V.readCov L (Rect.unit (s := S544x1024) ![o, p] ![h, v] inb).toLoadRect (ix2 r j : Shape.Idx ⟨2, ![h, v]⟩) : EReal)
      + V.readCov L (Rect.unit (s := S544x1024) ![o', p] ![h, v] inb').toLoadRect (ix2 r j : Shape.Idx ⟨2, ![h, v]⟩)
      = ahead (f k) (n + n) (b + (o + r.val)) := by
  have e : o' + h ≤ 544 := inb' 0
  rw [readCov_at V inb L ⟨o + r.val, by omega⟩ r k j rfl hk, readCov_at V inb' L ⟨o' + r.val, by omega⟩ r k j rfl hk,
    hL _ (show o + r.val < o' + h by omega), hL _ (show o' + r.val < o' + h by omega), ← ahead_add]
  exact congrArg (fun i => ahead (f k) n (b + (o + r.val)) + ahead (f k) n i) (show b + (o' + r.val) = b + (o + r.val) + n by omega)
end

theorem sum14 (X Y : Vec Ideal S536x1024 .f32) (r : Fin 536) (j : Fin 1024) : k0_pay14 X Y (ix2 r j) = X (ix2 r j) + Y (ix2 r j) := by
  pointwise [k0_pay14]
theorem sum15 (X Y : Vec Ideal S528x768 .f32) (r : Fin 528) (j : Fin 768) : k0_pay15 X Y (ix2 r j) = X (ix2 r j) + Y (ix2 r j) := by
  pointwise [k0_pay15]
theorem sum16 (X Y : Vec Ideal S520x512 .f32) (r : Fin 520) (j : Fin 512) : k0_pay16 X Y (ix2 r j) = X (ix2 r j) + Y (ix2 r j) := by
  pointwise [k0_pay16]
theorem sum17 (X Y : Vec Ideal S512x256 .f32) (r : Fin 512) (j : Fin 256) : k0_pay17 X Y (ix2 r j) = X (ix2 r j) + Y (ix2 r j) := by
  pointwise [k0_pay17]
theorem sum67 (X Y : Vec Ideal S536x1024 .f32) (r : Fin 536) (j : Fin 1024) : k0_pay67 (k0_pay66 X Y) (ix2 r j) = X (ix2 r j) + Y (ix2 r j) := by
  pointwise [k0_pay67, k0_pay66]
theorem sum68 (X Y : Vec Ideal S528x768 .f32) (r : Fin 528) (j : Fin 768) : k0_pay68 X Y (ix2 r j) = X (ix2 r j) + Y (ix2 r j) := by
  pointwise [k0_pay68]
theorem sum69 (X Y : Vec Ideal S520x512 .f32) (r : Fin 520) (j : Fin 512) : k0_pay69 X Y (ix2 r j) = X (ix2 r j) + Y (ix2 r j) := by
  pointwise [k0_pay69]
theorem sum70 (X Y : Vec Ideal S512x256 .f32) (r : Fin 512) (j : Fin 256) : k0_pay70 X Y (ix2 r j) = X (ix2 r j) + Y (ix2 r j) := by
  pointwise [k0_pay70]

/-! The rows around a tile and their sums over windows, as the scratch holds them. -/

abbrev peL : List (View.Piece (Elt Ideal) S544x1024 .f32) :=
  [⟨Rect.unit (s := S544x1024) ![32, 0] S512x1024.size inb_S544x1024_S512x1024_32_0, k0_pay13 (iblk m c 0 t)⟩,
    ⟨Rect.unit (s := S544x1024) ![0, 0] S32x1024.size inb_S544x1024_S32x1024_0_0, k0_pay12 (grid0.coords t) (iblk m c 1 t)⟩]
abbrev sa1 : List (View.Piece (Elt Ideal) S544x1024 .f32) :=
  [⟨Rect.unit (s := S544x1024) ![8, 0] S536x1024.size inb_S544x1024_S536x1024_8_0, k0_pay14 ((View.whole cc0_scratch0).readCov (Val := Elt Ideal) (peL m c t) (Rect.unit (s := S544x1024) ![8, 0] S536x1024.size inb_S544x1024_S536x1024_8_0).toLoadRect)
    ((View.whole cc0_scratch0).readCov (Val := Elt Ideal) (peL m c t) (Rect.unit (s := S544x1024) ![7, 0] S536x1024.size inb_S544x1024_S536x1024_7_0).toLoadRect)⟩]
abbrev sb1 : List (View.Piece (Elt Ideal) S544x1024 .f32) :=
  [⟨Rect.unit (s := S544x1024) ![16, 256] S528x768.size inb_S544x1024_S528x768_16_256, k0_pay15 ((View.whole cc0_scratch1).readCov (Val := Elt Ideal) (sa1 m c t) (Rect.unit (s := S544x1024) ![16, 256] S528x768.size inb_S544x1024_S528x768_16_256).toLoadRect)
    ((View.whole cc0_scratch1).readCov (Val := Elt Ideal) (sa1 m c t) (Rect.unit (s := S544x1024) ![14, 256] S528x768.size inb_S544x1024_S528x768_14_256).toLoadRect)⟩]
abbrev sa2 : List (View.Piece (Elt Ideal) S544x1024 .f32) :=
  ⟨Rect.unit (s := S544x1024) ![24, 512] S520x512.size inb_S544x1024_S520x512_24_512, k0_pay16 ((View.whole cc0_scratch2).readCov (Val := Elt Ideal) (sb1 m c t) (Rect.unit (s := S544x1024) ![24, 512] S520x512.size inb_S544x1024_S520x512_24_512).toLoadRect)
    ((View.whole cc0_scratch2).readCov (Val := Elt Ideal) (sb1 m c t) (Rect.unit (s := S544x1024) ![20, 512] S520x512.size inb_S544x1024_S520x512_20_512).toLoadRect)⟩ :: sa1 m c t
abbrev sb2 : List (View.Piece (Elt Ideal) S544x1024 .f32) :=
  ⟨within 32 3, k0_pay17 ((View.whole cc0_scratch1).readCov (Val := Elt Ideal) (sa2 m c t) (within 32 3).toLoadRect)
    ((View.whole cc0_scratch1).readCov (Val := Elt Ideal) (sa2 m c t) (Rect.unit (s := S544x1024) ![24, 768] S512x256.size inb_S544x1024_S512x256_24_768).toLoadRect)⟩ :: sb1 m c t

section
variable (c : Dev nD) (t : Fin cfg0.N)

theorem pay_halo (s : Fin 32) (k : Fin 1024) :
    k0_pay12 (grid0.coords t) (iblk m c 1 t) (ix2 s k) = (argRows m c).pz k (512 * (31 - t.val) + s.val) := by
  have e := first_tile t
  have hN := lt32 t
  pointwise [k0_pay12]
  by_cases h : t.val < 31
  · rw [if_pos h] at e
    rw [e, (argRows m c).pz_at (r := ⟨32 * (16 * (31 - t.val) - 1) + s.val, by omega⟩)
      (show _ = 32 * (16 * (31 - t.val) - 1) + s.val + 32 by omega)]
    pointwise
    rw [blk1 m c t h]
  · rw [if_neg h] at e
    rw [e, (argRows m c).pz_zero (by omega)]
    pointwise

theorem pay_rows (r : Fin 512) (k : Fin 1024) : k0_pay13 (iblk m c 0 t) (ix2 r k) = (argRows m c).P (rowAt t r) k := by
  pointwise [k0_pay13]
  rw [blk0]

theorem pe_canon (s : Fin 544) (k : Fin 1024) :
    View.canon (peL m c t) (ix2 s k) = back ((argRows m c).pz k) 1 (512 * (31 - t.val) + s.val) := by
  rw [back_one]
  by_cases h : s.val < 32
  · refine (canon_off _ _ _ s k (Or.inl h)).trans ?_
    refine (canon_at _ _ _ s ⟨s.val, h⟩ k k (Nat.zero_add _).symm (Nat.zero_add _).symm).trans ?_
    exact pay_halo m c t ⟨s.val, h⟩ k
  · refine (canon_at _ _ _ s ⟨s.val - 32, by omega⟩ k k (show s.val = 32 + (s.val - 32) by omega) (Nat.zero_add _).symm).trans ?_
    rw [pay_rows]
    exact ((argRows m c).pz_at (r := rowAt t ⟨s.val - 32, by omega⟩) (show _ = 512 * (31 - t.val) + (s.val - 32) + 32 by omega) k).symm

theorem sa1_canon (s : Fin 544) (k : Fin 1024) (hs : 8 ≤ s.val) (hk : 0 ≤ k.val) :
    View.canon (sa1 m c t) (ix2 s k) = back ((argRows m c).pz k) 2 (512 * (31 - t.val) + s.val) := by
  refine (canon_at _ _ _ s ⟨s.val - 8, by omega⟩ k ⟨k.val - 0, by omega⟩ (show s.val = 8 + (s.val - 8) by omega)
    (show k.val = 0 + (k.val - 0) by omega)).trans ?_
  refine (sum14 _ _ _ _).trans ?_
  refine (back_step _ _ _ _ (argRows m c).pz 1 (512 * (31 - t.val)) _ _ k (by decide) (show k.val = 0 + (k.val - 0) by omega)
    fun s hs => pe_canon m c t s k).trans ?_
  exact congrArg (back _ 2) (show _ + (8 + (s.val - 8)) = _ by omega)

theorem sb1_canon (s : Fin 544) (k : Fin 1024) (hs : 16 ≤ s.val) (hk : 256 ≤ k.val) :
    View.canon (sb1 m c t) (ix2 s k) = back ((argRows m c).pz k) 4 (512 * (31 - t.val) + s.val) := by
  refine (canon_at _ _ _ s ⟨s.val - 16, by omega⟩ k ⟨k.val - 256, by omega⟩ (show s.val = 16 + (s.val - 16) by omega)
    (show k.val = 256 + (k.val - 256) by omega)).trans ?_
  refine (sum15 _ _ _ _).trans ?_
  refine (back_step _ _ _ _ (argRows m c).pz 2 (512 * (31 - t.val)) _ _ k (by decide) (show k.val = 256 + (k.val - 256) by omega)
    fun s hs => sa1_canon m c t s k (by omega) (by omega)).trans ?_
  exact congrArg (back _ 4) (show _ + (16 + (s.val - 16)) = _ by omega)

theorem sa2_canon (s : Fin 544) (k : Fin 1024) (hs : 24 ≤ s.val) (hk : 512 ≤ k.val) :
    View.canon (sa2 m c t) (ix2 s k) = back ((argRows m c).pz k) 8 (512 * (31 - t.val) + s.val) := by
  refine (canon_at _ _ _ s ⟨s.val - 24, by omega⟩ k ⟨k.val - 512, by omega⟩ (show s.val = 24 + (s.val - 24) by omega)
    (show k.val = 512 + (k.val - 512) by omega)).trans ?_
  refine (sum16 _ _ _ _).trans ?_
  refine (back_step _ _ _ _ (argRows m c).pz 4 (512 * (31 - t.val)) _ _ k (by decide) (show k.val = 512 + (k.val - 512) by omega)
    fun s hs => sb1_canon m c t s k (by omega) (by omega)).trans ?_
  exact congrArg (back _ 8) (show _ + (24 + (s.val - 24)) = _ by omega)

theorem sb2_canon (s : Fin 544) (k : Fin 1024) (hs : 32 ≤ s.val) (hk : 768 ≤ k.val) :
    View.canon (sb2 m c t) (ix2 s k) = back ((argRows m c).pz k) 16 (512 * (31 - t.val) + s.val) := by
  refine (canon_at _ _ _ s ⟨s.val - 32, by omega⟩ k ⟨k.val - 768, by omega⟩ (show s.val = 32 + (s.val - 32) by omega)
    (show k.val = 768 + (k.val - 768) by omega)).trans ?_
  refine (sum17 _ _ _ _).trans ?_
  refine (back_step _ _ _ _ (argRows m c).pz 8 (512 * (31 - t.val)) _ _ k (by decide) (show k.val = 768 + (k.val - 768) by omega)
    fun s hs => sa2_canon m c t s k (by omega) (by omega)).trans ?_
  exact congrArg (back _ 16) (show _ + (32 + (s.val - 32)) = _ by omega)

theorem read_p (g : Fin 4) (r : Fin 512) (j : Fin 256) :
    ((View.whole cc0_scratch0).readCov (Val := Elt Ideal) (peL m c t) (within 32 g).toLoadRect) (ix2 r j) = (argRows m c).P (rowAt t r) (col g j) := by
  refine (readCov_at _ _ _ ⟨32 + r.val, by omega⟩ r (col g j) j rfl rfl).trans ?_
  refine (pe_canon m c t _ _).trans ?_
  rw [back_one]
  exact (argRows m c).pz_at (r := rowAt t r) (show _ + (32 + r.val) = _ + r.val + 32 by omega) _
theorem read_s0 (r : Fin 512) (j : Fin 256) :
    ((View.whole cc0_scratch1).readCov (Val := Elt Ideal) (sa2 m c t) (within 32 0).toLoadRect) (ix2 r j)
      = back ((argRows m c).pz (col 0 j)) (win 0) ((rowAt t r).val + 32) := by
  refine (readCov_at _ _ _ ⟨32 + r.val, by omega⟩ r (col 0 j) j rfl rfl).trans ?_
  refine ((canon_off _ _ _ _ _ (Or.inr (Or.inr (Or.inl (show 256 * 0 + j.val < 512 by omega))))).trans (sa1_canon m c t _ _ (show _ ≤ 32 + r.val by omega) (show 0 ≤ 256 * 0 + j.val by omega))).trans ?_
  exact congrArg (back _ 2) (show _ + (32 + r.val) = _ + r.val + 32 by omega)
theorem read_s1 (r : Fin 512) (j : Fin 256) :
    ((View.whole cc0_scratch2).readCov (Val := Elt Ideal) (sb2 m c t) (within 32 1).toLoadRect) (ix2 r j)
      = back ((argRows m c).pz (col 1 j)) (win 1) ((rowAt t r).val + 32) := by
  refine (readCov_at _ _ _ ⟨32 + r.val, by omega⟩ r (col 1 j) j rfl rfl).trans ?_
  refine ((canon_off _ _ _ _ _ (Or.inr (Or.inr (Or.inl (show 256 * 1 + j.val < 768 by omega))))).trans (sb1_canon m c t _ _ (show _ ≤ 32 + r.val by omega) (show 256 ≤ 256 * 1 + j.val by omega))).trans ?_
  exact congrArg (back _ 4) (show _ + (32 + r.val) = _ + r.val + 32 by omega)
theorem read_s2 (r : Fin 512) (j : Fin 256) :
    ((View.whole cc0_scratch1).readCov (Val := Elt Ideal) (sa2 m c t) (within 32 2).toLoadRect) (ix2 r j)
      = back ((argRows m c).pz (col 2 j)) (win 2) ((rowAt t r).val + 32) := by
  refine (readCov_at _ _ _ ⟨32 + r.val, by omega⟩ r (col 2 j) j rfl rfl).trans ?_
  refine (sa2_canon m c t _ _ (show _ ≤ 32 + r.val by omega) (show 512 ≤ 256 * 2 + j.val by omega)).trans ?_
  exact congrArg (back _ 8) (show _ + (32 + r.val) = _ + r.val + 32 by omega)
theorem read_s3 (r : Fin 512) (j : Fin 256) :
    ((View.whole cc0_scratch2).readCov (Val := Elt Ideal) (sb2 m c t) (within 32 3).toLoadRect) (ix2 r j)
      = back ((argRows m c).pz (col 3 j)) (win 3) ((rowAt t r).val + 32) := by
  refine (readCov_at _ _ _ ⟨32 + r.val, by omega⟩ r (col 3 j) j rfl rfl).trans ?_
  refine (sb2_canon m c t _ _ (show _ ≤ 32 + r.val by omega) (show 768 ≤ 256 * 3 + j.val by omega)).trans ?_
  exact congrArg (back _ 16) (show _ + (32 + r.val) = _ + r.val + 32 by omega)
end

end Cert.Kernel4Ideal.Hand

end
-- ==== Proof.BwdBScratch.lean ====
/- The pooling branch's backward call: the pooled rows, the products with the groups' matrices and the sums over the rows after a
   tile, as the scratch holds them. Hand-written, untrusted. -/
module

public import proofs.«01_k».proof.Proof.BwdBTile

@[expose] public section

set_option maxRecDepth 16384

noncomputable section

open Idealize.ShloMosaic Idealize.ShloMosaic.TcCoe Idealize.SL.Sem
open scoped BigOperators

namespace Cert.Kernel4Ideal.Hand

open Cert.Kernel4Ideal Cert.Kernel4Ideal.Gen Cert.BwdB Cert.CumSum Cert.Blocks

variable (m : (ℓ : Loc nD τ sig) → Buf (Elt Ideal) ℓ)
variable (c : Dev nD) (t : Fin cfg0.N)

/-! Forward: the pooled rows less the rows, and their products with the groups' matrices. -/

abbrev dTile0 : FVec Ideal S512x256 .bf16 :=
  k0_pay26 (k0_pay19 (tileNo t)) ((View.whole cc0_scratch1).readCov (Val := Elt Ideal) (sa2 m c t) (within 32 0).toLoadRect)
    ((View.whole cc0_scratch0).readCov (Val := Elt Ideal) (peL m c t) (within 32 0).toLoadRect)
abbrev dTile1 : FVec Ideal S512x256 .bf16 :=
  k0_pay28 (k0_pay23 (k0_pay20 (tileNo t)) ((View.whole cc0_scratch2).readCov (Val := Elt Ideal) (sb2 m c t) (within 32 1).toLoadRect)
    ((View.whole cc0_scratch0).readCov (Val := Elt Ideal) (peL m c t) (within 32 1).toLoadRect))
abbrev dTile2 : FVec Ideal S512x256 .bf16 :=
  k0_pay30 (k0_pay24 (k0_pay18 (tileNo t)) ((View.whole cc0_scratch1).readCov (Val := Elt Ideal) (sa2 m c t) (within 32 2).toLoadRect)
    ((View.whole cc0_scratch0).readCov (Val := Elt Ideal) (peL m c t) (within 32 2).toLoadRect))
abbrev dTile3 : FVec Ideal S512x256 .bf16 :=
  k0_pay33 (k0_pay32 (k0_pay25 (k0_pay18 (tileNo t)) ((View.whole cc0_scratch2).readCov (Val := Elt Ideal) (sb2 m c t) (within 32 3).toLoadRect)
    ((View.whole cc0_scratch0).readCov (Val := Elt Ideal) (peL m c t) (within 32 3).toLoadRect)))
abbrev dL1 : List (View.Piece (Elt Ideal) S512x1024 .bf16) :=
  ⟨quarter 0, dTile0 m c t⟩ :: []
abbrev dL2 : List (View.Piece (Elt Ideal) S512x1024 .bf16) :=
  ⟨quarter 1, dTile1 m c t⟩ :: dL1 m c t
abbrev dL3 : List (View.Piece (Elt Ideal) S512x1024 .bf16) :=
  ⟨quarter 2, dTile2 m c t⟩ :: dL2 m c t
abbrev dL4 : List (View.Piece (Elt Ideal) S512x1024 .bf16) :=
  ⟨quarter 3, dTile3 m c t⟩ :: dL3 m c t
abbrev linTile0 : FVec Ideal S512x256 .f32 :=
  k0_pay27 ((View.whole cc0_scratch3).readCov (Val := Elt Ideal) (dL1 m c t) (quarter 0).toLoadRect)
    (View.ld (iblk m c 4 t : Vec Ideal S4x256x256 .bf16) (slabOf 0))
abbrev linTile1 : FVec Ideal S512x256 .f32 :=
  k0_pay29 ((View.whole cc0_scratch3).readCov (Val := Elt Ideal) (dL2 m c t) (quarter 1).toLoadRect)
    (View.ld (iblk m c 4 t : Vec Ideal S4x256x256 .bf16) (slabOf 1))
abbrev linTile2 : FVec Ideal S512x256 .f32 :=
  k0_pay31 ((View.whole cc0_scratch3).readCov (Val := Elt Ideal) (dL3 m c t) (quarter 2).toLoadRect)
    (View.ld (iblk m c 4 t : Vec Ideal S4x256x256 .bf16) (slabOf 2))
abbrev linTile3 : FVec Ideal S512x256 .f32 :=
  k0_pay34 ((View.whole cc0_scratch3).readCov (Val := Elt Ideal) (dL4 m c t) (quarter 3).toLoadRect)
    (View.ld (iblk m c 4 t : Vec Ideal S4x256x256 .bf16) (slabOf 3))
abbrev linL : List (View.Piece (Elt Ideal) S512x1024 .f32) :=
  [⟨quarter 3, linTile3 m c t⟩,
    ⟨quarter 2, linTile2 m c t⟩,
    ⟨quarter 1, linTile1 m c t⟩,
    ⟨quarter 0, linTile0 m c t⟩]
abbrev linWhole : FVec Ideal S512x1024 .f32 :=
  ((View.whole cc0_scratch4).readCov (Val := Elt Ideal) (linL m c t) (Rect.unit (s := S512x1024) ![0, 0] S512x1024.size inb_S512x1024_S512x1024_0_0).toLoadRect)
abbrev dlL : List (View.Piece (Elt Ideal) S512x1024 .bf16) :=
  [⟨Rect.unit (s := S512x1024) ![0, 0] S512x1024.size inb_S512x1024_S512x1024_0_0, k0_pay47 (k0_pay10 (iblk m c 7 t)) (k0_pay37 (k0_pay9 (iblk m c 2 t))) (k0_pay39 (iblk m c 3 t) (iblk m c 8 t))⟩]
abbrev dlTile (g : Fin 4) : FVec Ideal S512x256 .bf16 :=
  ((View.whole cc0_scratch6).readCov (Val := Elt Ideal) (dlL m c t) (quarter g).toLoadRect)

section
variable (c : Dev nD) (t : Fin cfg0.N)

theorem d_tile0 (r : Fin 512) (j : Fin 256) : dTile0 m c t (ix2 r j) = (argRows m c).d (rowAt t r) (col 0 j) :=
  pay_d0 (argRows m c) (rowAt t) (tileNo t) (tile_no t) (tile_lt t) (fun _ => rfl) 0 _ _ (read_s0 m c t) (read_p m c t 0) r j rfl
theorem d_tile1 (r : Fin 512) (j : Fin 256) : dTile1 m c t (ix2 r j) = (argRows m c).d (rowAt t r) (col 1 j) :=
  pay_d1 (argRows m c) (rowAt t) (tileNo t) (tile_no t) (tile_lt t) (fun _ => rfl) 1 _ _ (read_s1 m c t) (read_p m c t 1) r j rfl
theorem d_tile2 (r : Fin 512) (j : Fin 256) : dTile2 m c t (ix2 r j) = (argRows m c).d (rowAt t r) (col 2 j) :=
  pay_d2 (argRows m c) (rowAt t) (tileNo t) (tile_no t) (tile_lt t) (fun _ => rfl) 2 _ _ (read_s2 m c t) (read_p m c t 2) r j rfl
theorem d_tile3 (r : Fin 512) (j : Fin 256) : dTile3 m c t (ix2 r j) = (argRows m c).d (rowAt t r) (col 3 j) :=
  pay_d3 (argRows m c) (rowAt t) (tileNo t) (tile_no t) (tile_lt t) (fun _ => rfl) 3 _ _ (read_s3 m c t) (read_p m c t 3) r j rfl

/-- A tile's pooled rows, as all four groups read them. -/
theorem d_canon (r : Fin 512) (g : Fin 4) (j : Fin 256) : View.canon (dL4 m c t) (ix2 r (col g j)) = (argRows m c).d (rowAt t r) (col g j) :=
  canon_four (Val := Elt Ideal) (e := .bf16) (le_refl _) _ _ _ _ (dTile0 m c t) (dTile1 m c t) (dTile2 m c t) (dTile3 m c t) [] (fun g j => (argRows m c).d (rowAt t r) (col g j)) r r rfl
    (d_tile0 m c t r) (d_tile1 m c t r) (d_tile2 m c t r) (d_tile3 m c t r) g j _ rfl

theorem read_new0 (r : Fin 512) (j : Fin 256) :
    ((View.whole cc0_scratch3).readCov (Val := Elt Ideal) (dL1 m c t) (quarter 0).toLoadRect) (ix2 r j) = (argRows m c).d (rowAt t r) (col 0 j) :=
  ((readCov_at _ _ _ r r (col 0 j) j (Nat.zero_add _).symm rfl).trans (canon_at _ _ _ r r (col 0 j) j (Nat.zero_add _).symm rfl)).trans (d_tile0 m c t r j)
theorem ld_pw (g : Fin 4) (i j : Fin 256) : (View.ld (iblk m c 4 t : Vec Ideal S4x256x256 .bf16) (slabOf g)) (ix3 0 i j) = (argRows m c).pw g i j :=
  (ld_slab _ _ g rfl i j).trans (blk4 m c t g i j)
theorem lin_tile0 (r : Fin 512) (j : Fin 256) : linTile0 m c t (ix2 r j) = (argRows m c).lin0 (rowAt t r) (col 0 j) :=
  pay_lin0 (argRows m c) (rowAt t) 0 r j _ _ (read_new0 m c t) (ld_pw m c t 0)
theorem read_d (g : Fin 4) (r : Fin 512) (j : Fin 256) :
    ((View.whole cc0_scratch3).readCov (Val := Elt Ideal) (dL4 m c t) (quarter g).toLoadRect) (ix2 r j) = (argRows m c).d (rowAt t r) (col g j) :=
  (readCov_at _ _ _ r r (col g j) j (Nat.zero_add _).symm rfl).trans (d_canon m c t r g j)
theorem read_new1 (r : Fin 512) (j : Fin 256) :
    ((View.whole cc0_scratch3).readCov (Val := Elt Ideal) (dL2 m c t) (quarter 1).toLoadRect) (ix2 r j) = (argRows m c).d (rowAt t r) (col 1 j) :=
  ((readCov_at _ _ _ r r (col 1 j) j (Nat.zero_add _).symm rfl).trans (canon_at _ _ _ r r (col 1 j) j (Nat.zero_add _).symm rfl)).trans (d_tile1 m c t r j)
theorem ld_pwt (g : Fin 4) (i j : Fin 256) : (View.ld (iblk m c 5 t : Vec Ideal S4x256x256 .bf16) (slabOf g)) (ix3 0 i j) = (argRows m c).pw g j i :=
  (ld_slab _ _ g rfl i j).trans (blk5 m c t g i j)
theorem lin_tile1 (r : Fin 512) (j : Fin 256) : linTile1 m c t (ix2 r j) = (argRows m c).lin0 (rowAt t r) (col 1 j) :=
  pay_lin1 (argRows m c) (rowAt t) 1 r j _ _ (read_new1 m c t) (ld_pw m c t 1)
theorem read_new2 (r : Fin 512) (j : Fin 256) :
    ((View.whole cc0_scratch3).readCov (Val := Elt Ideal) (dL3 m c t) (quarter 2).toLoadRect) (ix2 r j) = (argRows m c).d (rowAt t r) (col 2 j) :=
  ((readCov_at _ _ _ r r (col 2 j) j (Nat.zero_add _).symm rfl).trans (canon_at _ _ _ r r (col 2 j) j (Nat.zero_add _).symm rfl)).trans (d_tile2 m c t r j)
theorem lin_tile2 (r : Fin 512) (j : Fin 256) : linTile2 m c t (ix2 r j) = (argRows m c).lin0 (rowAt t r) (col 2 j) :=
  pay_lin2 (argRows m c) (rowAt t) 2 r j _ _ (read_new2 m c t) (ld_pw m c t 2)
theorem read_new3 (r : Fin 512) (j : Fin 256) :
    ((View.whole cc0_scratch3).readCov (Val := Elt Ideal) (dL4 m c t) (quarter 3).toLoadRect) (ix2 r j) = (argRows m c).d (rowAt t r) (col 3 j) :=
  ((readCov_at _ _ _ r r (col 3 j) j (Nat.zero_add _).symm rfl).trans (canon_at _ _ _ r r (col 3 j) j (Nat.zero_add _).symm rfl)).trans (d_tile3 m c t r j)
theorem lin_tile3 (r : Fin 512) (j : Fin 256) : linTile3 m c t (ix2 r j) = (argRows m c).lin0 (rowAt t r) (col 3 j) :=
  pay_lin3 (argRows m c) (rowAt t) 3 r j _ _ (read_new3 m c t) (ld_pw m c t 3)

theorem lin_whole (r : Fin 512) (k : Fin 1024) : linWhole m c t (ix2 r k) = (argRows m c).lin0 (rowAt t r) k := by
  obtain ⟨g, j, rfl⟩ := exists_col k
  refine (readCov_at _ _ _ r r (col g j) (col g j) (Nat.zero_add _).symm (Nat.zero_add _).symm).trans ?_
  exact canon_four (Val := Elt Ideal) (e := .f32) (le_refl _) _ _ _ _ (linTile0 m c t) (linTile1 m c t) (linTile2 m c t) (linTile3 m c t) [] (fun g j => (argRows m c).lin0 (rowAt t r) (col g j)) r r rfl
    (lin_tile0 m c t r) (lin_tile1 m c t r) (lin_tile2 m c t r) (lin_tile3 m c t r) g j _ rfl

theorem dl_canon (r : Fin 512) (k : Fin 1024) : View.canon (dlL m c t) (ix2 r k) = (argRows m c).dlin (rowAt t r) k :=
  (canon_at _ _ _ r r k k (Nat.zero_add _).symm (Nat.zero_add _).symm).trans
    (pay_dl _ _ _ _ r k (argRows m c) (rowAt t) (blk2 m c t) (blk3 m c t) (blk8 m c t) (blk7 m c t))

theorem dl_tile (g : Fin 4) (r : Fin 512) (j : Fin 256) : dlTile m c t g (ix2 r j) = (argRows m c).dlin (rowAt t r) (col g j) :=
  (readCov_at _ _ _ r r (col g j) j (Nat.zero_add _).symm rfl).trans (dl_canon m c t r _)
end

/-! Backward: the cotangents of the pooled rows, and their sums over windows of the rows that follow. -/

abbrev ddTile0 : FVec Ideal S512x256 .f32 :=
  k0_pay51 (dlTile m c t 0) (View.ld (iblk m c 5 t : Vec Ideal S4x256x256 .bf16) (slabOf 0))
abbrev eTile0 : FVec Ideal S512x256 .f32 :=
  k0_pay52 (k0_pay19 (tileNo t)) (dlTile m c t 0) (View.ld (iblk m c 5 t : Vec Ideal S4x256x256 .bf16) (slabOf 0))
abbrev ddTile1 : FVec Ideal S512x256 .f32 :=
  k0_pay55 (dlTile m c t 1) (View.ld (iblk m c 5 t : Vec Ideal S4x256x256 .bf16) (slabOf 1))
abbrev eTile1 : FVec Ideal S512x256 .f32 :=
  k0_pay56 (k0_pay20 (tileNo t)) (dlTile m c t 1) (View.ld (iblk m c 5 t : Vec Ideal S4x256x256 .bf16) (slabOf 1))
abbrev ddTile2 : FVec Ideal S512x256 .f32 :=
  k0_pay59 (dlTile m c t 2) (View.ld (iblk m c 5 t : Vec Ideal S4x256x256 .bf16) (slabOf 2))
abbrev eTile2 : FVec Ideal S512x256 .f32 :=
  k0_pay60 (k0_pay21 (k0_pay18 (tileNo t))) (dlTile m c t 2) (View.ld (iblk m c 5 t : Vec Ideal S4x256x256 .bf16) (slabOf 2))
abbrev ddTile3 : FVec Ideal S512x256 .f32 :=
  k0_pay63 (dlTile m c t 3) (View.ld (iblk m c 5 t : Vec Ideal S4x256x256 .bf16) (slabOf 3))
abbrev eTile3 : FVec Ideal S512x256 .f32 :=
  k0_pay64 (k0_pay22 (k0_pay18 (tileNo t))) (dlTile m c t 3) (View.ld (iblk m c 5 t : Vec Ideal S4x256x256 .bf16) (slabOf 3))
abbrev ddL : List (View.Piece (Elt Ideal) S512x1024 .f32) :=
  ⟨quarter 3, ddTile3 m c t⟩ ::
    ⟨quarter 2, ddTile2 m c t⟩ ::
    ⟨quarter 1, ddTile1 m c t⟩ ::
    ⟨quarter 0, ddTile0 m c t⟩ :: linL m c t
abbrev eL (K : FVec Ideal S32x1024 .f32) : List (View.Piece (Elt Ideal) S544x1024 .f32) :=
  [⟨within 0 3, eTile3 m c t⟩,
    ⟨within 0 2, eTile2 m c t⟩,
    ⟨within 0 1, eTile1 m c t⟩,
    ⟨within 0 0, eTile0 m c t⟩,
    ⟨Rect.unit (s := S544x1024) ![512, 0] S32x1024.size inb_S544x1024_S32x1024_512_0, k0_pay48 (F := Ideal) K⟩]
abbrev sa3 (K : FVec Ideal S32x1024 .f32) : List (View.Piece (Elt Ideal) S544x1024 .f32) :=
  ⟨Rect.unit (s := S544x1024) ![0, 0] S536x1024.size inb_S544x1024_S536x1024_0_0, k0_pay67 (k0_pay66 ((View.whole cc0_scratch5).readCov (Val := Elt Ideal) (eL m c t K) (Rect.unit (s := S544x1024) ![0, 0] S536x1024.size inb_S544x1024_S536x1024_0_0).toLoadRect)
    ((View.whole cc0_scratch5).readCov (Val := Elt Ideal) (eL m c t K) (Rect.unit (s := S544x1024) ![1, 0] S536x1024.size inb_S544x1024_S536x1024_1_0).toLoadRect))⟩ :: sa2 m c t
abbrev sb3 (K : FVec Ideal S32x1024 .f32) : List (View.Piece (Elt Ideal) S544x1024 .f32) :=
  ⟨Rect.unit (s := S544x1024) ![0, 256] S528x768.size inb_S544x1024_S528x768_0_256, k0_pay68 ((View.whole cc0_scratch1).readCov (Val := Elt Ideal) (sa3 m c t K) (Rect.unit (s := S544x1024) ![0, 256] S528x768.size inb_S544x1024_S528x768_0_256).toLoadRect)
    ((View.whole cc0_scratch1).readCov (Val := Elt Ideal) (sa3 m c t K) (Rect.unit (s := S544x1024) ![2, 256] S528x768.size inb_S544x1024_S528x768_2_256).toLoadRect)⟩ :: sb2 m c t
abbrev sa4 (K : FVec Ideal S32x1024 .f32) : List (View.Piece (Elt Ideal) S544x1024 .f32) :=
  ⟨Rect.unit (s := S544x1024) ![0, 512] S520x512.size inb_S544x1024_S520x512_0_512, k0_pay69 ((View.whole cc0_scratch2).readCov (Val := Elt Ideal) (sb3 m c t K) (Rect.unit (s := S544x1024) ![0, 512] S520x512.size inb_S544x1024_S520x512_0_512).toLoadRect)
    ((View.whole cc0_scratch2).readCov (Val := Elt Ideal) (sb3 m c t K) (Rect.unit (s := S544x1024) ![4, 512] S520x512.size inb_S544x1024_S520x512_4_512).toLoadRect)⟩ :: sa3 m c t K
abbrev sb4 (K : FVec Ideal S32x1024 .f32) : List (View.Piece (Elt Ideal) S544x1024 .f32) :=
  ⟨within 0 3, k0_pay70 ((View.whole cc0_scratch1).readCov (Val := Elt Ideal) (sa4 m c t K) (within 0 3).toLoadRect)
    ((View.whole cc0_scratch1).readCov (Val := Elt Ideal) (sa4 m c t K) (Rect.unit (s := S544x1024) ![8, 768] S512x256.size inb_S544x1024_S512x256_8_768).toLoadRect)⟩ :: sb3 m c t K

/-- The rows after a tile are the next tile's first rows (zeros after the last tile). -/
def After (K : FVec Ideal S32x1024 .f32) : Prop :=
  ∀ (s : Fin 32) (k : Fin 1024), K (ix2 s k) = (argRows m c).ez k (512 * (31 - t.val) + 512 + s.val)

section
variable (c : Dev nD) (t : Fin cfg0.N)

theorem dd_tile0 (r : Fin 512) (j : Fin 256) : ddTile0 m c t (ix2 r j) = (argRows m c).dd (rowAt t r) (col 0 j) :=
  pay_dd0 (argRows m c) (rowAt t) 0 r j _ _ (ld_pwt m c t 0) (dl_tile m c t 0)
theorem e_tile0 (r : Fin 512) (j : Fin 256) : eTile0 m c t (ix2 r j) = (argRows m c).ez (col 0 j) (rowAt t r).val :=
  pay_e0 (argRows m c) (rowAt t) (tileNo t) (tile_no t) (tile_lt t) (fun _ => rfl) 0 r j _ _ (ld_pwt m c t 0) (dl_tile m c t 0) rfl
theorem dd_tile1 (r : Fin 512) (j : Fin 256) : ddTile1 m c t (ix2 r j) = (argRows m c).dd (rowAt t r) (col 1 j) :=
  pay_dd1 (argRows m c) (rowAt t) 1 r j _ _ (ld_pwt m c t 1) (dl_tile m c t 1)
theorem e_tile1 (r : Fin 512) (j : Fin 256) : eTile1 m c t (ix2 r j) = (argRows m c).ez (col 1 j) (rowAt t r).val :=
  pay_e1 (argRows m c) (rowAt t) (tileNo t) (tile_no t) (tile_lt t) (fun _ => rfl) 1 r j _ _ (ld_pwt m c t 1) (dl_tile m c t 1) rfl
theorem dd_tile2 (r : Fin 512) (j : Fin 256) : ddTile2 m c t (ix2 r j) = (argRows m c).dd (rowAt t r) (col 2 j) :=
  pay_dd2 (argRows m c) (rowAt t) 2 r j _ _ (ld_pwt m c t 2) (dl_tile m c t 2)
theorem e_tile2 (r : Fin 512) (j : Fin 256) : eTile2 m c t (ix2 r j) = (argRows m c).ez (col 2 j) (rowAt t r).val :=
  pay_e2 (argRows m c) (rowAt t) (tileNo t) (tile_no t) (tile_lt t) (fun _ => rfl) 2 r j _ _ (ld_pwt m c t 2) (dl_tile m c t 2) rfl
theorem dd_tile3 (r : Fin 512) (j : Fin 256) : ddTile3 m c t (ix2 r j) = (argRows m c).dd (rowAt t r) (col 3 j) :=
  pay_dd3 (argRows m c) (rowAt t) 3 r j _ _ (ld_pwt m c t 3) (dl_tile m c t 3)
theorem e_tile3 (r : Fin 512) (j : Fin 256) : eTile3 m c t (ix2 r j) = (argRows m c).ez (col 3 j) (rowAt t r).val :=
  pay_e3 (argRows m c) (rowAt t) (tileNo t) (tile_no t) (tile_lt t) (fun _ => rfl) 3 r j _ _ (ld_pwt m c t 3) (dl_tile m c t 3) rfl

theorem dd_canon (r : Fin 512) (g : Fin 4) (j : Fin 256) : View.canon (ddL m c t) (ix2 r (col g j)) = (argRows m c).dd (rowAt t r) (col g j) :=
  canon_four (Val := Elt Ideal) (e := .f32) (le_refl _) _ _ _ _ (ddTile0 m c t) (ddTile1 m c t) (ddTile2 m c t) (ddTile3 m c t) (linL m c t) (fun g j => (argRows m c).dd (rowAt t r) (col g j)) r r rfl
    (dd_tile0 m c t r) (dd_tile1 m c t r) (dd_tile2 m c t r) (dd_tile3 m c t r) g j _ rfl

variable (K : FVec Ideal S32x1024 .f32)

theorem e_canon_tile (s : Fin 544) (h : s.val < 512) (k : Fin 1024) :
    View.canon (eL m c t K) (ix2 s k) = (argRows m c).ez k (512 * (31 - t.val) + s.val) := by
  obtain ⟨g, j, rfl⟩ := exists_col k
  exact canon_four (Val := Elt Ideal) (e := .f32) (le_refl _) _ _ _ _ (eTile0 m c t) (eTile1 m c t) (eTile2 m c t) (eTile3 m c t) _ (fun g j => (argRows m c).ez (col g j) (512 * (31 - t.val) + s.val)) s ⟨s.val, h⟩ rfl
    (e_tile0 m c t ⟨s.val, h⟩) (e_tile1 m c t ⟨s.val, h⟩) (e_tile2 m c t ⟨s.val, h⟩) (e_tile3 m c t ⟨s.val, h⟩) g j _ rfl

theorem pay_kept (s : Fin 32) (k : Fin 1024) : k0_pay48 K (ix2 s k) = K (ix2 s k) := by pointwise [k0_pay48]
theorem pay_carry (X : Vec Ideal S32x1024 .f32) (s : Fin 32) (k : Fin 1024) (v : EReal) (h : X (ix2 s k) = v) : k0_pay65 X (ix2 s k) = v := by
  rw [← h]
  pointwise [k0_pay65]

/-- What a point leaves for the next: the first rows of its tile. -/
theorem read_carry (s : Fin 32) (k : Fin 1024) :
    k0_pay65 ((View.whole cc0_scratch5).readCov (Val := Elt Ideal) (eL m c t K)
      (Rect.unit (s := S544x1024) ![0, 0] S32x1024.size inb_S544x1024_S32x1024_0_0).toLoadRect) (ix2 s k)
      = (argRows m c).ez k (512 * (31 - t.val) + s.val) := by
  apply pay_carry
  exact (readCov_at (View.whole cc0_scratch5) _ (eL m c t K) ⟨s.val, by omega⟩ s k k (Nat.zero_add _).symm (Nat.zero_add _).symm).trans
    (e_canon_tile m c t K _ (show s.val < 512 by omega) k)

variable {K} (hK : After m c t K)
include hK

theorem e_canon (s : Fin 544) (k : Fin 1024) :
    View.canon (eL m c t K) (ix2 s k) = ahead ((argRows m c).ez k) 1 (512 * (31 - t.val) + s.val) := by
  rw [ahead_one]
  by_cases h : s.val < 512
  · exact e_canon_tile m c t K s h k
  · refine (canon_off _ _ _ s k (Or.inr (Or.inl (by omega)))).trans ?_
    refine (canon_off _ _ _ s k (Or.inr (Or.inl (by omega)))).trans ?_
    refine (canon_off _ _ _ s k (Or.inr (Or.inl (by omega)))).trans ?_
    refine (canon_off _ _ _ s k (Or.inr (Or.inl (by omega)))).trans ?_
    refine (canon_at _ _ _ s ⟨s.val - 512, by omega⟩ k k (show s.val = 512 + (s.val - 512) by omega) (Nat.zero_add _).symm).trans ?_
    refine (pay_kept K _ _).trans ((hK ⟨s.val - 512, by omega⟩ k).trans ?_)
    exact congrArg ((argRows m c).ez k) (show 512 * (31 - t.val) + 512 + (s.val - 512) = _ by omega)

theorem sa3_canon (s : Fin 544) (k : Fin 1024) (hs : s.val < 536) (hk : 0 ≤ k.val) :
    View.canon (sa3 m c t K) (ix2 s k) = ahead ((argRows m c).ez k) 2 (512 * (31 - t.val) + s.val) := by
  refine (canon_at _ _ _ s ⟨s.val, hs⟩ k ⟨k.val - 0, by omega⟩ (Nat.zero_add _).symm
    (show k.val = 0 + (k.val - 0) by omega)).trans ?_
  refine (sum67 _ _ _ _).trans ?_
  refine (ahead_step _ _ _ _ (argRows m c).ez 1 (512 * (31 - t.val)) _ _ k (by decide) (show k.val = 0 + (k.val - 0) by omega)
    fun s hs => e_canon m c t hK s k).trans ?_
  exact congrArg (ahead _ 2) (show _ + (0 + s.val) = _ by omega)

theorem sb3_canon (s : Fin 544) (k : Fin 1024) (hs : s.val < 528) (hk : 256 ≤ k.val) :
    View.canon (sb3 m c t K) (ix2 s k) = ahead ((argRows m c).ez k) 4 (512 * (31 - t.val) + s.val) := by
  refine (canon_at _ _ _ s ⟨s.val, hs⟩ k ⟨k.val - 256, by omega⟩ (Nat.zero_add _).symm
    (show k.val = 256 + (k.val - 256) by omega)).trans ?_
  refine (sum68 _ _ _ _).trans ?_
  refine (ahead_step _ _ _ _ (argRows m c).ez 2 (512 * (31 - t.val)) _ _ k (by decide) (show k.val = 256 + (k.val - 256) by omega)
    fun s hs => sa3_canon m c t hK s k (by omega) (by omega)).trans ?_
  exact congrArg (ahead _ 4) (show _ + (0 + s.val) = _ by omega)

theorem sa4_canon (s : Fin 544) (k : Fin 1024) (hs : s.val < 520) (hk : 512 ≤ k.val) :
    View.canon (sa4 m c t K) (ix2 s k) = ahead ((argRows m c).ez k) 8 (512 * (31 - t.val) + s.val) := by
  refine (canon_at _ _ _ s ⟨s.val, hs⟩ k ⟨k.val - 512, by omega⟩ (Nat.zero_add _).symm
    (show k.val = 512 + (k.val - 512) by omega)).trans ?_
  refine (sum69 _ _ _ _).trans ?_
  refine (ahead_step _ _ _ _ (argRows m c).ez 4 (512 * (31 - t.val)) _ _ k (by decide) (show k.val = 512 + (k.val - 512) by omega)
    fun s hs => sb3_canon m c t hK s k (by omega) (by omega)).trans ?_
  exact congrArg (ahead _ 8) (show _ + (0 + s.val) = _ by omega)

theorem sb4_canon (s : Fin 544) (k : Fin 1024) (hs : s.val < 512) (hk : 768 ≤ k.val) :
    View.canon (sb4 m c t K) (ix2 s k) = ahead ((argRows m c).ez k) 16 (512 * (31 - t.val) + s.val) := by
  refine (canon_at _ _ _ s ⟨s.val, hs⟩ k ⟨k.val - 768, by omega⟩ (Nat.zero_add _).symm
    (show k.val = 768 + (k.val - 768) by omega)).trans ?_
  refine (sum70 _ _ _ _).trans ?_
  refine (ahead_step _ _ _ _ (argRows m c).ez 8 (512 * (31 - t.val)) _ _ k (by decide) (show k.val = 768 + (k.val - 768) by omega)
    fun s hs => sa4_canon m c t hK s k (by omega) (by omega)).trans ?_
  exact congrArg (ahead _ 16) (show _ + (0 + s.val) = _ by omega)

theorem read_n0 (r : Fin 512) (j : Fin 256) :
    ((View.whole cc0_scratch1).readCov (Val := Elt Ideal) (sa4 m c t K) (within 0 0).toLoadRect) (ix2 r j)
      = ahead ((argRows m c).ez (col 0 j)) (win 0) (rowAt t r).val := by
  refine (readCov_at (View.whole cc0_scratch1) inb_S544x1024_S512x256_0_0 (sa4 m c t K) ⟨r.val, by omega⟩ r (col 0 j) j (Nat.zero_add _).symm rfl).trans ?_
  exact (canon_off (Val := Elt Ideal) _ _ _ _ _ (Or.inr (Or.inr (Or.inl (show 256 * 0 + j.val < 512 by omega))))).trans (sa3_canon m c t hK ⟨r.val, by omega⟩ (col 0 j) (show r.val < _ by omega) (show 0 ≤ 256 * 0 + j.val by omega))
theorem read_n1 (r : Fin 512) (j : Fin 256) :
    ((View.whole cc0_scratch2).readCov (Val := Elt Ideal) (sb4 m c t K) (within 0 1).toLoadRect) (ix2 r j)
      = ahead ((argRows m c).ez (col 1 j)) (win 1) (rowAt t r).val := by
  refine (readCov_at (View.whole cc0_scratch2) inb_S544x1024_S512x256_0_256 (sb4 m c t K) ⟨r.val, by omega⟩ r (col 1 j) j (Nat.zero_add _).symm rfl).trans ?_
  exact (canon_off (Val := Elt Ideal) _ _ _ _ _ (Or.inr (Or.inr (Or.inl (show 256 * 1 + j.val < 768 by omega))))).trans (sb3_canon m c t hK ⟨r.val, by omega⟩ (col 1 j) (show r.val < _ by omega) (show 256 ≤ 256 * 1 + j.val by omega))
theorem read_n2 (r : Fin 512) (j : Fin 256) :
    ((View.whole cc0_scratch1).readCov (Val := Elt Ideal) (sa4 m c t K) (within 0 2).toLoadRect) (ix2 r j)
      = ahead ((argRows m c).ez (col 2 j)) (win 2) (rowAt t r).val := by
  refine (readCov_at (View.whole cc0_scratch1) inb_S544x1024_S512x256_0_512 (sa4 m c t K) ⟨r.val, by omega⟩ r (col 2 j) j (Nat.zero_add _).symm rfl).trans ?_
  exact (sa4_canon m c t hK ⟨r.val, by omega⟩ (col 2 j) (show r.val < _ by omega) (show 512 ≤ 256 * 2 + j.val by omega))
theorem read_n3 (r : Fin 512) (j : Fin 256) :
    ((View.whole cc0_scratch2).readCov (Val := Elt Ideal) (sb4 m c t K) (within 0 3).toLoadRect) (ix2 r j)
      = ahead ((argRows m c).ez (col 3 j)) (win 3) (rowAt t r).val := by
  refine (readCov_at (View.whole cc0_scratch2) inb_S544x1024_S512x256_0_768 (sb4 m c t K) ⟨r.val, by omega⟩ r (col 3 j) j (Nat.zero_add _).symm rfl).trans ?_
  exact (sb4_canon m c t hK ⟨r.val, by omega⟩ (col 3 j) (show r.val < _ by omega) (show 768 ≤ 256 * 3 + j.val by omega))
omit hK
theorem read_dd (g : Fin 4) (r : Fin 512) (j : Fin 256) : ((View.whole cc0_scratch4).readCov (Val := Elt Ideal) (ddL m c t) (quarter g).toLoadRect) (ix2 r j) = (argRows m c).dd (rowAt t r) (col g j) :=
  (readCov_at _ _ _ r r (col g j) j (Nat.zero_add _).symm rfl).trans (dd_canon m c t r g j)
abbrev outL (K : FVec Ideal S32x1024 .f32) : List (View.Piece (Elt Ideal) S512x2048 .bf16) :=
  ⟨Rect.unit (s := S512x2048) ![0, 768] S512x256.size inb_S512x2048_S512x256_0_768, k0_pay3 ((View.whole cc0_scratch2).readCov (Val := Elt Ideal) (sb4 m c t K) (within 0 3).toLoadRect)
    ((View.whole cc0_scratch4).readCov (Val := Elt Ideal) (ddL m c t) (quarter 3).toLoadRect)⟩ ::
  ⟨Rect.unit (s := S512x2048) ![0, 512] S512x256.size inb_S512x2048_S512x256_0_512, k0_pay2 ((View.whole cc0_scratch1).readCov (Val := Elt Ideal) (sa4 m c t K) (within 0 2).toLoadRect)
    ((View.whole cc0_scratch4).readCov (Val := Elt Ideal) (ddL m c t) (quarter 2).toLoadRect)⟩ ::
  ⟨Rect.unit (s := S512x2048) ![0, 256] S512x256.size inb_S512x2048_S512x256_0_256, k0_pay1 ((View.whole cc0_scratch2).readCov (Val := Elt Ideal) (sb4 m c t K) (within 0 1).toLoadRect)
    ((View.whole cc0_scratch4).readCov (Val := Elt Ideal) (ddL m c t) (quarter 1).toLoadRect)⟩ ::
  ⟨Rect.unit (s := S512x2048) ![0, 0] S512x256.size inb_S512x2048_S512x256_0_0, k0_pay71 ((View.whole cc0_scratch1).readCov (Val := Elt Ideal) (sa4 m c t K) (within 0 0).toLoadRect)
    ((View.whole cc0_scratch4).readCov (Val := Elt Ideal) (ddL m c t) (quarter 0).toLoadRect)⟩ ::
  ⟨Rect.unit (s := S512x2048) ![0, 1024] S512x1024.size inb_S512x2048_S512x1024_0_1024, k0_pay44 (k0_pay9 (iblk m c 2 t)) (k0_pay10 (iblk m c 7 t)) (k0_pay36 (k0_pay9 (iblk m c 2 t)))
    (k0_pay40 (k0_pay11 (iblk m c 6 t)) (linWhole m c t) (iblk m c 3 t) (iblk m c 8 t))⟩ :: []

include hK in
theorem out_canon (r : Fin 512) (b : Fin 2) (k : Fin 1024) (q : Fin 2048) (hq : q.val = 1024 * b.val + k.val) :
    View.canon (outL m c t K) (ix2 r q) = (argRows m c).grads b (rowAt t r) k := by
  obtain rfl | rfl := (by decide : ∀ b : Fin 2, b = 0 ∨ b = 1) b
  · obtain ⟨g, j, rfl⟩ := exists_col k
    exact canon_four (Val := Elt Ideal) (e := .bf16) (by decide) _ _ _ _ _ _ _ _ _ (fun g j => (argRows m c).dP (rowAt t r) (col g j)) r r rfl
      (fun j => pay_dP0 (argRows m c) (rowAt t) 0 r j _ (read_n0 m c t hK) _ (read_dd m c t 0))
      (fun j => pay_dP1 (argRows m c) (rowAt t) 1 r j _ (read_n1 m c t hK) _ (read_dd m c t 1))
      (fun j => pay_dP2 (argRows m c) (rowAt t) 2 r j _ (read_n2 m c t hK) _ (read_dd m c t 2))
      (fun j => pay_dP3 (argRows m c) (rowAt t) 3 r j _ (read_n3 m c t hK) _ (read_dd m c t 3))
      g j q (hq.trans (show 1024 * 0 + (256 * g.val + j.val) = _ by omega))
  · have hq' : q.val = 1024 + k.val := hq
    refine (canon_off _ _ _ r q (Or.inr (Or.inr (Or.inr (by omega))))).trans ?_
    refine (canon_off _ _ _ r q (Or.inr (Or.inr (Or.inr (by omega))))).trans ?_
    refine (canon_off _ _ _ r q (Or.inr (Or.inr (Or.inr (by omega))))).trans ?_
    refine (canon_off _ _ _ r q (Or.inr (Or.inr (Or.inr (by omega))))).trans ?_
    refine (canon_at _ _ _ r r q k (Nat.zero_add _).symm hq').trans ?_
    exact pay_dZ _ _ _ _ _ _ r k (argRows m c) (rowAt t) (blk2 m c t) (blk3 m c t) (lin_whole m c t) (blk8 m c t) (blk6 m c t) (blk7 m c t)
end

end Cert.Kernel4Ideal.Hand

end
-- ==== Proof.BwdBArrays.lean ====
/- The pooling branch's backward call: its five results after the run, by rows of the argument arrays. Hand-written, untrusted. -/
module

public import proofs.«01_k».proof.Proof.BwdBScratch
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Hand

open Cert.Kernel4Ideal Cert.Kernel4Ideal.Gen Cert.BwdB Cert.CumSum Cert.Blocks

variable (m : (ℓ : Loc nD τ sig) → Buf (Elt Ideal) ℓ)
variable (c : Dev nD) (t : Fin cfg0.N)

theorem zero_carry (h : t.val % 32 = 0) : After m c t (k0_pay8 (F := Ideal)) := fun s k => by
  have := lt32 t
  rw [(argRows m c).ez_zero (by omega)]
  pointwise [k0_pay8]

/-- What a point keeps for the next. -/
theorem after_carry (s : Fin 32) (k : Fin 1024) :
    ((outs m c t.val t.isLt).2.2.2.2.2 : FVec Ideal S32x1024 .f32) (ix2 s k) = (argRows m c).ez k (512 * (31 - t.val) + s.val) := by
  by_cases h : t.val % 32 = 0
  · rw [outs_first m c t h]
    unfold firstOut firstRun
    frame_out
    exact read_carry m c t _ s k
  · rw [outs_later m c t h]
    unfold laterOut laterRun
    frame_out
    exact read_carry m c t _ s k

/-- The rows that a point finds after its tile. -/
theorem before_carry (h : ¬ t.val % 32 = 0) :
    After m c t (outsBefore m c t).2.2.2.2.2 := fun s k => by
  have hN := lt32 t
  obtain ⟨n, hn⟩ : ∃ n, t.val = n + 1 := ⟨t.val - 1, by omega⟩
  obtain ⟨t, ht⟩ := t
  obtain rfl : t = n + 1 := hn
  refine (after_carry m c ⟨n, Nat.lt_of_succ_lt ht⟩ s k).trans ?_
  exact congrArg (fun i => (argRows m c).ez k i) (show 512 * (31 - n) + s.val = 512 * (31 - (n + 1)) + 512 + s.val by simp only at hN; omega)

theorem after_read (h : (Memref.whole cc0_scratch7).IsWhole) (K : Vec Ideal S32x1024 .f32)
    (hK : After m c t K) : After m c t (View.read (Elt Ideal) (View.whole cc0_scratch7) (h.unread K)) := by
  rw [read_unread_whole]
  exact hK

/-- An entry of the first result's two blocks of columns. -/
def gradAt (c : Dev nD) (r : Fin 16384) (q : ℕ) : EReal := (argRows m c).grads ⟨q / 1024 % 2, by omega⟩ r ⟨q % 1024, by omega⟩
theorem gradAt_eq (c : Dev nD) (r : Fin 16384) (b : Fin 2) (k : Fin 1024) {q : ℕ} (hq : q = 4096 + (1024 * b.val + k.val)) :
    gradAt m c r q = (argRows m c).grads b r k := by
  subst hq
  exact congrArg₂ (fun b k => (argRows m c).grads b r k) (Fin.ext (show (4096 + (1024 * b.val + k.val)) / 1024 % 2 = b.val by omega))
    (Fin.ext (show (4096 + (1024 * b.val + k.val)) % 1024 = k.val by omega))

/-- The first result after the run: the two blocks of columns written, the others as the call finds them. -/
def outD (c : Dev nD) : FVec Ideal S16384x12288 .bf16 := fun i =>
  if 4096 ≤ (i 1).val ∧ (i 1).val < 6144 then gradAt m c (i 0) (i 1).val else m (c.tc.loc main_arg6) i
def outW (c : Dev nD) : FVec Ideal S1024x1024 .f32 := fun i => ∑ r, (argRows m c).y r (i 0) * (argRows m c).G r (i 1)
def outPw (c : Dev nD) : FVec Ideal S4x256x256 .f32 := fun i => ∑ r, (argRows m c).d r (col (i 0) (i 1)) * (argRows m c).dlin r (col (i 0) (i 2))
def outPb (c : Dev nD) : FVec Ideal S1x1024 .f32 := fun i => ∑ r, (argRows m c).dlin r (i 1)
def outPs (c : Dev nD) : FVec Ideal S1x1024 .f32 := fun i => ∑ r, (argRows m c).dps r (i 1)

/-- A point's stores of the first result, at the first point -/
theorem first_grads (h : t.val % 32 = 0) (r : Fin 512) (b : Fin 2) (k : Fin 1024) (q : Fin 2048)
    (hq : q.val = 1024 * b.val + k.val) :
    ((outs m c t.val t.isLt).1 : FVec Ideal S512x2048 .bf16) (ix2 r q) = (argRows m c).grads b (rowAt t r) k := by
  rw [outs_first m c t h]
  unfold firstOut firstRun
  frame_out
  exact out_canon m c t (zero_carry m c t h) r _ _ q hq

/-- at the later ones -/
theorem later_grads (h : ¬ t.val % 32 = 0) (r : Fin 512) (b : Fin 2) (k : Fin 1024) (q : Fin 2048)
    (hq : q.val = 1024 * b.val + k.val) :
    ((outs m c t.val t.isLt).1 : FVec Ideal S512x2048 .bf16) (ix2 r q) = (argRows m c).grads b (rowAt t r) k := by
  rw [outs_later m c t h]
  unfold laterOut laterRun
  frame_out
  exact out_canon m c t (after_read m c t _ _ (before_carry m c t h)) r _ _ q hq

/-- and at all. -/
theorem after_grads (r : Fin 512) (q : Fin 2048) :
    ((outs m c t.val t.isLt).1 : FVec Ideal S512x2048 .bf16) (ix2 r q) = gradAt m c (rowAt t r) (4096 + q.val) := by
  have hq : q.val = 1024 * (⟨q.val / 1024, by omega⟩ : Fin 2).val + (⟨q.val % 1024, by omega⟩ : Fin 1024).val :=
    show q.val = 1024 * (q.val / 1024) + q.val % 1024 by omega
  rw [gradAt_eq m c _ _ _ (congrArg (4096 + ·) hq)]
  by_cases h : t.val % 32 = 0
  · exact first_grads m c t h r _ _ q hq
  · exact later_grads m c t h r _ _ q hq

/-- Result 0 after the run. -/
theorem arr_grads (c : Dev nD) : (dats m 0 c).arrAt 9 cfg0.N = outD m c := by
  refine ((dats m 0 c).arrAt_eq_of_coversWhere 9 (outD m c) (P := fun i : S16384x12288.Idx => 4096 ≤ (i 1).val ∧ (i 1).val < 6144)
    (fun β => β (1 : Fin 2) = 2) (by decide +kernel) (fun t hf y => ?_) (fun j => ?_)).trans ?_
  · have key : ∀ z : S512x2048.Idx, ((outs m c t.val t.isLt).1 : FVec Ideal S512x2048 .bf16) z
        = outD m c ((win0_9.blk t).view.emb z) := fun z => by
      obtain ⟨r, k, rfl⟩ := Lift.exists_ix2 z
      rw [after_grads, emb9]
      exact (if_pos (show 4096 ≤ 4096 + k.val ∧ 4096 + k.val < 6144 by omega)).symm
    blk_simp
    rw [after9]
    exact key y
  · blk_simp [Pipeline.Window.cell_apply]
    omega
  · funext i
    by_cases h : 4096 ≤ (i 1).val ∧ (i 1).val < 6144
    · exact if_pos h
    · refine (if_neg h).trans ?_
      refine Eq.trans ?_ (show m (c.tc.loc main_arg6) i = _ from (if_neg h).symm)
      rw [A_eq]
      rfl

/-- The points in order take the tiles from the last to the first, and the rows of all the tiles are all the rows. -/
theorem sum_tiles (f : Fin 16384 → EReal) (p : Fin 32 → Fin cfg0.N) (hp : ∀ s, (p s).val = s.val) :
    ∑ s : Fin 32, ∑ r : Fin 512, f (rowAt (p s) r) = ∑ r, f r := by
  rw [← Equiv.sum_comp Fin.revPerm]
  refine Lift.sum_rows (fun (t : Fin 32) (r : Fin 512) => ⟨512 * t.val + r.val, by omega⟩) (fun _ _ => rfl) f id (fun _ => rfl) |>.symm.trans ?_ |>.symm
  refine Finset.sum_congr rfl fun s _ => Finset.sum_congr rfl fun r _ => congrArg f (Fin.ext ?_)
  show 512 * s.val + r.val = 512 * (31 - (p (Fin.revPerm s)).val) + r.val
  rw [hp, Fin.revPerm_apply, Fin.val_rev]
  omega

theorem point_of_flush (t s : ℕ) (ht : t < cfg0.N) : 32 * (t / 32) + s = s := by
  rw [Nat.div_eq_of_lt (lt_of_lt_of_le ht (show cfg0.N ≤ 32 from le_refl 32))]
  omega

/-- A point's step of the output matrix's gradient, -/
theorem step_w (A : Vec Ideal S1024x1024 .f32) (c : Dev nD) (t : Fin cfg0.N) (z : S1024x1024.Idx) :
    k0_pay38 (k0_pay9 (iblk m c 2 t)) (k0_pay10 (iblk m c 7 t)) (k0_pay11 (iblk m c 6 t)) (linWhole m c t) (iblk m c 3 t) A z
      = A z + ∑ r : Fin 512, (argRows m c).y (rowAt t r) (z 0) * (argRows m c).G (rowAt t r) (z 1) := by
  obtain ⟨i, j, rfl⟩ := Lift.exists_ix2 z
  exact pay_dw _ _ _ _ _ (argRows m c) (rowAt t) (blk2 m c t) (blk3 m c t) (lin_whole m c t) (blk6 m c t) (blk7 m c t) A i j

/-- of the bias's -/
theorem step_pb (A : Vec Ideal S1x1024 .f32) (c : Dev nD) (t : Fin cfg0.N) (z : S1x1024.Idx) :
    k0_pay46 (k0_pay10 (iblk m c 7 t)) (k0_pay37 (k0_pay9 (iblk m c 2 t))) (k0_pay39 (iblk m c 3 t) (iblk m c 8 t)) A z
      = A z + ∑ r : Fin 512, (argRows m c).dlin (rowAt t r) (z 1) := by
  obtain ⟨i, k, rfl⟩ := Lift.exists_ix2 z
  obtain rfl : i = 0 := Subsingleton.elim _ _
  exact pay_dpb _ _ _ _ A k (argRows m c) (rowAt t) (blk2 m c t) (blk3 m c t) (blk8 m c t) (blk7 m c t)

/-- and of the scale's. -/
theorem step_ps (A : Vec Ideal S1x1024 .f32) (c : Dev nD) (t : Fin cfg0.N) (z : S1x1024.Idx) :
    k0_pay43 (k0_pay41 A) (k0_pay42 (k0_pay9 (iblk m c 2 t)) (k0_pay11 (iblk m c 6 t)) (linWhole m c t) (iblk m c 3 t) (iblk m c 8 t)) z
      = A z + ∑ r : Fin 512, (argRows m c).dps (rowAt t r) (z 1) := by
  obtain ⟨i, k, rfl⟩ := Lift.exists_ix2 z
  obtain rfl : i = 0 := Subsingleton.elim _ _
  exact pay_dps _ _ _ _ _ A k (argRows m c) (rowAt t) (blk2 m c t) (blk3 m c t) (lin_whole m c t) (blk8 m c t) (blk6 m c t)

/-- Result 1 after the run. -/
theorem arr_w (c : Dev nD) : (dats m 0 c).arrAt 10 cfg0.N = outW m c := by
  refine (dats m 0 c).arrAt_eq_of_covers 10 _ (by decide +kernel) fun t hf y => ?_
  blk_simp
  rw [after10, Pipeline.eq_sum_fin_of_reset_step_apply_of_flush (fun n h => (outs m c n h).2.1) 32 (fun _ => 0)
    (fun (t : Fin cfg0.N) (z : S1024x1024.Idx) => ∑ r : Fin 512, (argRows m c).y (rowAt t r) (z 0) * (argRows m c).G (rowAt t r) (z 1))
    (fun t h z => by
      rw [outs_first m c t h]; unfold firstOut firstRun; frame_out
      exact (step_w m _ c t z).trans (congrArg (· + _) (by obtain ⟨i, j, rfl⟩ := Lift.exists_ix2 z; pointwise [k0_pay4])))
    (fun t h z => by
      rw [outs_later m c t h]; unfold laterOut laterRun; frame_out
      exact step_w m _ c t z)
    t ((flush0_10 t).mp hf) _, zero_add]
  refine (sum_tiles (fun r => (argRows m c).y r _ * (argRows m c).G r _) _ fun s => point_of_flush _ _ t.isLt).trans ?_
  exact congrArg (outW m c) (emb10 t y).symm

/-- Result 3 after the run. -/
theorem arr_pb (c : Dev nD) : (dats m 0 c).arrAt 12 cfg0.N = outPb m c := by
  refine (dats m 0 c).arrAt_eq_of_covers 12 _ (by decide +kernel) fun t hf y => ?_
  blk_simp
  rw [after12, Pipeline.eq_sum_fin_of_reset_step_apply_of_flush (fun n h => (outs m c n h).2.2.2.1) 32 (fun _ => 0)
    (fun (t : Fin cfg0.N) (z : S1x1024.Idx) => ∑ r : Fin 512, (argRows m c).dlin (rowAt t r) (z 1))
    (fun t h z => by
      rw [outs_first m c t h]; unfold firstOut firstRun; frame_out
      exact (step_pb m _ c t z).trans (congrArg (· + _) (by obtain ⟨i, j, rfl⟩ := Lift.exists_ix2 z; pointwise [k0_pay6])))
    (fun t h z => by
      rw [outs_later m c t h]; unfold laterOut laterRun; frame_out
      exact step_pb m _ c t z)
    t ((flush0_12 t).mp hf) _, zero_add]
  refine (sum_tiles (fun r => (argRows m c).dlin r _) _ fun s => point_of_flush _ _ t.isLt).trans ?_
  exact congrArg (outPb m c) (emb12 t y).symm

/-- Result 4 after the run. -/
theorem arr_ps (c : Dev nD) : (dats m 0 c).arrAt 13 cfg0.N = outPs m c := by
  refine (dats m 0 c).arrAt_eq_of_covers 13 _ (by decide +kernel) fun t hf y => ?_
  blk_simp
  rw [after13, Pipeline.eq_sum_fin_of_reset_step_apply_of_flush (fun n h => (outs m c n h).2.2.2.2.1) 32 (fun _ => 0)
    (fun (t : Fin cfg0.N) (z : S1x1024.Idx) => ∑ r : Fin 512, (argRows m c).dps (rowAt t r) (z 1))
    (fun t h z => by
      rw [outs_first m c t h]; unfold firstOut firstRun; frame_out
      exact (step_ps m _ c t z).trans (congrArg (· + _) (by obtain ⟨i, j, rfl⟩ := Lift.exists_ix2 z; pointwise [k0_pay7])))
    (fun t h z => by
      rw [outs_later m c t h]; unfold laterOut laterRun; frame_out
      exact step_ps m _ c t z)
    t ((flush0_13 t).mp hf) _, zero_add]
  refine (sum_tiles (fun r => (argRows m c).dps r _) _ fun s => point_of_flush _ _ t.isLt).trans ?_
  exact congrArg (outPs m c) (emb13 t y).symm

/-- A group's matrix's gradient from one tile. -/
abbrev pwPart (g : Fin 4) (i j : Fin 256) : EReal :=
  ∑ r : Fin 512, (argRows m c).d (rowAt t r) (col g i) * (argRows m c).dlin (rowAt t r) (col g j)

theorem exists_ix3 {a b c : ℕ} (z : Shape.Idx ⟨3, ![a, b, c]⟩) : ∃ (g : Fin a) (i : Fin b) (j : Fin c), z = ix3 g i j :=
  ⟨z 0, z 1, z 2, by funext a; fin_cases a <;> rfl⟩

theorem zero_pw (g : Fin 4) (i j : Fin 256) : k0_pay5 (F := Ideal) (ix3 g i j) = 0 := by pointwise [k0_pay5]

/-- A slab after a point, over what was there. -/
abbrev pw0 (C : FVec Ideal S1x256x256 .f32) : FVec Ideal S1x256x256 .f32 :=
  k0_pay49 (dlTile m c t 0) C ((View.whole cc0_scratch3).readCov (Val := Elt Ideal) (dL4 m c t) (quarter 0).toLoadRect)
theorem pw0_eq (C : FVec Ideal S1x256x256 .f32) (i j : Fin 256) :
    pw0 m c t C (ix3 0 i j) = C (ix3 0 i j) + pwPart m c t 0 i j :=
  pay_dpw0 (argRows m c) (rowAt t) 0 j _ _ _ i (read_d m c t 0) (dl_tile m c t 0)
/-- As above. -/
abbrev pw1 (C : FVec Ideal S1x256x256 .f32) : FVec Ideal S1x256x256 .f32 :=
  k0_pay53 (dlTile m c t 1) C ((View.whole cc0_scratch3).readCov (Val := Elt Ideal) (dL4 m c t) (quarter 1).toLoadRect)
theorem pw1_eq (C : FVec Ideal S1x256x256 .f32) (i j : Fin 256) :
    pw1 m c t C (ix3 0 i j) = C (ix3 0 i j) + pwPart m c t 1 i j :=
  pay_dpw1 (argRows m c) (rowAt t) 1 j _ _ _ i (read_d m c t 1) (dl_tile m c t 1)
/-- As above. -/
abbrev pw2 (C : FVec Ideal S1x256x256 .f32) : FVec Ideal S1x256x256 .f32 :=
  k0_pay57 (dlTile m c t 2) C ((View.whole cc0_scratch3).readCov (Val := Elt Ideal) (dL4 m c t) (quarter 2).toLoadRect)
theorem pw2_eq (C : FVec Ideal S1x256x256 .f32) (i j : Fin 256) :
    pw2 m c t C (ix3 0 i j) = C (ix3 0 i j) + pwPart m c t 2 i j :=
  pay_dpw2 (argRows m c) (rowAt t) 2 j _ _ _ i (read_d m c t 2) (dl_tile m c t 2)
/-- As above. -/
abbrev pw3 (C : FVec Ideal S1x256x256 .f32) : FVec Ideal S1x256x256 .f32 :=
  k0_pay61 (dlTile m c t 3) C ((View.whole cc0_scratch3).readCov (Val := Elt Ideal) (dL4 m c t) (quarter 3).toLoadRect)
theorem pw3_eq (C : FVec Ideal S1x256x256 .f32) (i j : Fin 256) :
    pw3 m c t C (ix3 0 i j) = C (ix3 0 i j) + pwPart m c t 3 i j :=
  pay_dpw3 (argRows m c) (rowAt t) 3 j _ _ _ i (read_d m c t 3) (dl_tile m c t 3)

/-- Four slabs stored one after another hold the four values, whatever was there before. -/
theorem four_slabs (f : Fin 4 → Fin 256 → Fin 256 → EReal) (P : Fin 4 → FVec Ideal S1x256x256 .f32) (L : List (View.Piece (Elt Ideal) S4x256x256 .f32))
    (h : ∀ g i j, P g (ix3 0 i j) = f g i j) (z : S4x256x256.Idx) :
    View.canon (Val := Elt Ideal) (e := .f32) (⟨slabOf 3, P 3⟩ :: ⟨slabOf 2, P 2⟩ :: ⟨slabOf 1, P 1⟩ :: ⟨slabOf 0, P 0⟩ :: L) z = f (z 0) (z 1) (z 2) := by
  obtain ⟨g, i, j, rfl⟩ := exists_ix3 z
  have other (o g : Fin 4) (P) (L) (hg : g.val ≠ o.val) := canon_other (Val := Elt Ideal) (e := .f32) (slabOf_le o) P L g hg i j
  have own (g : Fin 4) (L) := (canon_slab (Val := Elt Ideal) (e := .f32) (slabOf_le g) (P g) L g rfl i j).trans (h g i j)
  obtain rfl | rfl | rfl | rfl := (by decide : ∀ g : Fin 4, g = 0 ∨ g = 1 ∨ g = 2 ∨ g = 3) g
  · exact (other 3 0 _ _ (by decide)).trans ((other 2 0 _ _ (by decide)).trans ((other 1 0 _ _ (by decide)).trans (own 0 _)))
  · exact (other 3 1 _ _ (by decide)).trans ((other 2 1 _ _ (by decide)).trans (own 1 _))
  · exact (other 3 2 _ _ (by decide)).trans (own 2 _)
  · exact own 3 _

/-- A point's slab `g` over what it found there. -/
abbrev pwS : Fin 4 → FVec Ideal S1x256x256 .f32 → FVec Ideal S1x256x256 .f32 :=
  ![pw0 m c t, pw1 m c t, pw2 m c t, pw3 m c t]
theorem pwS_eq (g : Fin 4) (C : FVec Ideal S1x256x256 .f32) (i j : Fin 256) :
    pwS m c t g C (ix3 0 i j) = C (ix3 0 i j) + pwPart m c t g i j := by
  obtain rfl | rfl | rfl | rfl := (by decide : ∀ g : Fin 4, g = 0 ∨ g = 1 ∨ g = 2 ∨ g = 3) g
  · exact pw0_eq m c t C i j
  · exact pw1_eq m c t C i j
  · exact pw2_eq m c t C i j
  · exact pw3_eq m c t C i j

/-! The slabs' stores over zeros, and over the sum of the points before. -/
abbrev pwL0 : List (View.Piece (Elt Ideal) S4x256x256 .f32) :=
  [⟨Rect.unit (s := S4x256x256) ![0, 0, 0] S4x256x256.size inb_S4x256x256_S4x256x256_0_0_0, k0_pay5 (F := Ideal)⟩]
/-- The slab `g` that a point stores over what `L` left there. -/
abbrev pwOver {sig : RefSig} {κ : Kind} {sp : Space} (V : View sig κ sp S4x256x256 .f32) (c : Dev nD) (t : Fin cfg0.N) (g : Fin 4) (L : List (View.Piece (Elt Ideal) S4x256x256 .f32)) : FVec Ideal S1x256x256 .f32 :=
  pwS m c t g (V.readCov (Val := Elt Ideal) L (slabOf g).toLoadRect)
abbrev pwL1 {sig : RefSig} {κ : Kind} {sp : Space} (V : View sig κ sp S4x256x256 .f32) (c : Dev nD) (t : Fin cfg0.N) : List (View.Piece (Elt Ideal) S4x256x256 .f32) :=
  ⟨slabOf 0, pwOver m V c t 0 pwL0⟩ :: pwL0
abbrev pwL2 {sig : RefSig} {κ : Kind} {sp : Space} (V : View sig κ sp S4x256x256 .f32) (c : Dev nD) (t : Fin cfg0.N) : List (View.Piece (Elt Ideal) S4x256x256 .f32) :=
  ⟨slabOf 1, pwOver m V c t 1 (pwL1 m V c t)⟩ :: pwL1 m V c t
abbrev pwL3 {sig : RefSig} {κ : Kind} {sp : Space} (V : View sig κ sp S4x256x256 .f32) (c : Dev nD) (t : Fin cfg0.N) : List (View.Piece (Elt Ideal) S4x256x256 .f32) :=
  ⟨slabOf 2, pwOver m V c t 2 (pwL2 m V c t)⟩ :: pwL2 m V c t
abbrev pwL4 {sig : RefSig} {κ : Kind} {sp : Space} (V : View sig κ sp S4x256x256 .f32) (c : Dev nD) (t : Fin cfg0.N) : List (View.Piece (Elt Ideal) S4x256x256 .f32) :=
  ⟨slabOf 3, pwOver m V c t 3 (pwL3 m V c t)⟩ :: pwL3 m V c t
abbrev pwN4 (X : Vec Ideal S4x256x256 .f32) : List (View.Piece (Elt Ideal) S4x256x256 .f32) :=
  [⟨slabOf 3, pwS m c t 3 (View.ld X (slabOf 3))⟩, ⟨slabOf 2, pwS m c t 2 (View.ld X (slabOf 2))⟩, ⟨slabOf 1, pwS m c t 1 (View.ld X (slabOf 1))⟩,
    ⟨slabOf 0, pwS m c t 0 (View.ld X (slabOf 0))⟩]

theorem pwOver_eq {sig : RefSig} {κ : Kind} {sp : Space} (V : View sig κ sp S4x256x256 .f32) (c : Dev nD) (t : Fin cfg0.N) (g : Fin 4) (L : List (View.Piece (Elt Ideal) S4x256x256 .f32)) (i j : Fin 256)
    (hL : View.canon (Val := Elt Ideal) (e := .f32) L (ix3 g i j) = 0) : pwOver m V c t g L (ix3 0 i j) = 0 + pwPart m c t g i j :=
  (pwS_eq m c t g _ i j).trans (congrArg (· + _) ((readCov_slab (Val := Elt Ideal) (e := .f32) V (slabOf_le g) L g rfl i j).trans hL))

theorem pw_zeros {sig : RefSig} {κ : Kind} {sp : Space} (V : View sig κ sp S4x256x256 .f32) (c : Dev nD) (t : Fin cfg0.N)
    (z : S4x256x256.Idx) : View.canon (Val := Elt Ideal) (e := .f32) (pwL4 m V c t) z = 0 + pwPart m c t (z 0) (z 1) (z 2) := by
  refine four_slabs (fun g i j => 0 + pwPart m c t g i j)
    ![pwOver m V c t 0 pwL0, pwOver m V c t 1 (pwL1 m V c t), pwOver m V c t 2 (pwL2 m V c t), pwOver m V c t 3 (pwL3 m V c t)] pwL0 (fun g i j => ?_) z
  have zeros (g : Fin 4) := (canon_all (Val := Elt Ideal) (e := .f32) inb_S4x256x256_S4x256x256_0_0_0 (k0_pay5 (F := Ideal)) g i j).trans (zero_pw g i j)
  have other (o g : Fin 4) (P) (L) (hg : g.val ≠ o.val) := canon_other (Val := Elt Ideal) (e := .f32) (slabOf_le o) P L g hg i j
  obtain rfl | rfl | rfl | rfl := (by decide : ∀ g : Fin 4, g = 0 ∨ g = 1 ∨ g = 2 ∨ g = 3) g
  · exact pwOver_eq m V c t 0 _ i j (zeros 0)
  · exact pwOver_eq m V c t 1 _ i j ((other 0 1 _ _ (by decide)).trans (zeros 1))
  · exact pwOver_eq m V c t 2 _ i j ((other 1 2 _ _ (by decide)).trans ((other 0 2 _ _ (by decide)).trans (zeros 2)))
  · exact pwOver_eq m V c t 3 _ i j ((other 2 3 _ _ (by decide)).trans ((other 1 3 _ _ (by decide)).trans ((other 0 3 _ _ (by decide)).trans (zeros 3))))

theorem pw_sums (X : Vec Ideal S4x256x256 .f32) (z : S4x256x256.Idx) :
    View.canon (Val := Elt Ideal) (e := .f32) (pwN4 m c t X) z = X z + pwPart m c t (z 0) (z 1) (z 2) := by
  obtain ⟨g, i, j, rfl⟩ := exists_ix3 z
  exact four_slabs (fun g i j => X (ix3 g i j) + pwPart m c t g i j) (fun g => pwS m c t g (View.ld X (slabOf g))) [] (fun g i j =>
    (pwS_eq m c t g _ i j).trans (congrArg (· + _) (ld_slab (Val := Elt Ideal) (e := .f32) (slabOf_le g) X g rfl i j))) (ix3 g i j)

/-- A point's four slabs over what it found there: zeros at the first point, -/
theorem after_pw_first (h : t.val % 32 = 0) (z : S4x256x256.Idx) :
    (outs m c t.val t.isLt).2.2.1 z = 0 + pwPart m c t (z 0) (z 1) (z 2) := by
  rw [outs_first m c t h]; unfold firstOut firstRun; frame_out
  exact pw_zeros m (ms0_11 t).view c t z

/-- and the sum of the points before it at the later ones. -/
theorem after_pw_later (h : ¬ t.val % 32 = 0) (z : S4x256x256.Idx) :
    (outs m c t.val t.isLt).2.2.1 z = (outsBefore m c t).2.2.1 z + pwPart m c t (z 0) (z 1) (z 2) := by
  rw [outs_later m c t h]; unfold laterOut laterRun; frame_out
  exact pw_sums m c t (outsBefore m c t).2.2.1 z

/-- Result 2 after the run. -/
theorem arr_pw (c : Dev nD) : (dats m 0 c).arrAt 11 cfg0.N = outPw m c := by
  refine (dats m 0 c).arrAt_eq_of_covers 11 _ (by decide +kernel) fun t hf y => ?_
  blk_simp
  rw [after11, Pipeline.eq_sum_fin_of_reset_step_apply_of_flush (fun n h => (outs m c n h).2.2.1) 32 (fun _ => 0)
    (fun (t : Fin cfg0.N) (z : S4x256x256.Idx) => pwPart m c t (z 0) (z 1) (z 2))
    (after_pw_first m c) (after_pw_later m c) t ((flush0_11 t).mp hf) _, zero_add]
  refine (sum_tiles (fun r => (argRows m c).d r _ * (argRows m c).dlin r _) _ fun s => point_of_flush _ _ t.isLt).trans ?_
  exact congrArg (outPw m c) (emb11 t y).symm

end Cert.Kernel4Ideal.Hand

end
-- ==== Proof.BwdBRef.lean ====
/- The pooling branch's backward call: what the reference's run leaves in its five results, by rows. Hand-written, untrusted. -/
module

public import proofs.«01_k».proof.Proof.Gen.Reference4Ideal.Run
public import proofs.«01_k».proof.Proof.BwdBRows
public import proofs.«01_k».proof.Proof.Rows

@[expose] public section

set_option maxRecDepth 16384

noncomputable section

open Idealize.ShloMosaic Idealize.ShloMosaic.TcCoe Idealize.SL.Sem
open Idealize.ShloMosaic.StableHlo (launchContents)
open scoped BigOperators

namespace Cert.Reference4Ideal.Value

open Cert.Reference4Ideal Cert.Reference4Ideal.Gen Cert.BwdB Cert.CumSum

variable (m : (ℓ : Loc nD τ sig) → Buf (Elt Ideal) ℓ)

/-- The argument rows of the call, from the argument arrays. -/
def argRows (c : Dev nD) : Args where
  P r j := m (c.tc.loc main_arg0) (ix2 r ⟨3072 + j.val, by omega⟩)
  Z r j := m (c.tc.loc main_arg0) (ix2 r ⟨4096 + j.val, by omega⟩)
  G r j := m (c.tc.loc main_arg1) (ix2 r ⟨1024 + j.val, by omega⟩)
  pw g i j := m (c.tc.loc main_arg2) (ix3 g i j)
  pb j := m (c.tc.loc main_arg3) (ix1 j)
  ps j := m (c.tc.loc main_arg4) (ix1 j)
  w i j := m (c.tc.loc main_arg5) (ix2 i j)

def gradAt (c : Dev nD) (r : Fin 16384) (q : ℕ) : EReal := (argRows m c).grads ⟨q / 1024 % 2, by omega⟩ r ⟨q % 1024, by omega⟩
def outD (c : Dev nD) : FVec Ideal S16384x12288 .bf16 := fun i =>
  if 4096 ≤ (i 1).val ∧ (i 1).val < 6144 then gradAt m c (i 0) (i 1).val else m (c.tc.loc main_arg6) i
def outW (c : Dev nD) : FVec Ideal S1024x1024 .f32 := fun i => ∑ r, (argRows m c).y r (i 0) * (argRows m c).G r (i 1)
def outPw (c : Dev nD) : FVec Ideal S4x256x256 .f32 := fun i => ∑ r, (argRows m c).d r (col (i 0) (i 1)) * (argRows m c).dlin r (col (i 0) (i 2))
def outPb (c : Dev nD) : FVec Ideal S1x1024 .f32 := fun i => ∑ r, (argRows m c).dlin r (i 1)
def outPs (c : Dev nD) : FVec Ideal S1x1024 .f32 := fun i => ∑ r, (argRows m c).dps r (i 1)

/-! ## The forward part, row by row -/

section
variable (A0 A1 A2 A3 : FVec Ideal S16384x256 .f32) (r : Fin 16384) (j : Fin 256)

/-- Four groups of columns side by side, and their own axis. -/
abbrev cat4 : FVec Ideal S16384x4x256 .f32 :=
  shapeCast _ (concatenate S16384x1024 1 [⟨S16384x256, A0⟩, ⟨S16384x256, A1⟩, ⟨S16384x256, A2⟩, ⟨S16384x256, A3⟩]
    concatenates_S16384x256_S16384x256_S16384x256_S16384x256_S16384x1024_d1 : FVec Ideal S16384x1024 .f32) shapeCasts_S16384x1024_S16384x4x256

theorem cat4_0 : cat4 A0 A1 A2 A3 (ix3 r 0 j) = A0 (ix2 r j) := by pointwise
theorem cat4_1 : cat4 A0 A1 A2 A3 (ix3 r 1 j) = A1 (ix2 r j) := by pointwise
theorem cat4_2 : cat4 A0 A1 A2 A3 (ix3 r 2 j) = A2 (ix2 r j) := by
  pointwise
  rw [dif_neg (by omega), dif_neg (by omega), dif_pos (by omega)]
  exact congrArg (fun k => A2 (ix2 r k)) (Fin.ext (show 512 + j.val - 256 - 256 = j.val by omega))
theorem cat4_3 : cat4 A0 A1 A2 A3 (ix3 r 3 j) = A3 (ix2 r j) := by
  pointwise
  rw [dif_neg (by omega), dif_neg (by omega), dif_neg (by omega)]
  exact congrArg (fun k => A3 (ix2 r k)) (Fin.ext (show 768 + j.val - 256 - 256 - 256 = j.val by omega))
end

section
variable (c : Dev nD) (r : Fin 16384) (k : Fin 1024)

theorem row_P : res_main_v1 (launchContents m c) (ix2 r k) = (argRows m c).P r k := by
  pointwise [res_main_v1]
  rfl
theorem row_Z : res_main_v3 (launchContents m c) (ix2 r k) = (argRows m c).Z r k := by
  pointwise [res_main_v3]
  rfl
theorem row_G : res_main_v79 (launchContents m c) (ix2 r k) = (argRows m c).G r k := by
  pointwise [res_main_v79]
  rfl
theorem row_ps : res_main_v72 (launchContents m c) (ix2 0 k) = (argRows m c).ps k := by
  pointwise [res_main_v72]
  rfl

/-- A running sum of the pooled rows, with the 32 rows of zeros before them. -/
theorem row_sum : res_main_v4 (launchContents m c) (ix2 r k) = ∑ i ∈ Finset.range (r.val + 33), (argRows m c).pz k i := by
  refine (prefix_rows (N := 16384) _ _ reduceWindows_S16384x1024_S16384x1024_w16384s1p16383_0_w1s1p0_0 h_S_ ?_ r k
    (fun i => (argRows m c).pz k (32 + i)) fun s => ?_).trans ?_
  · pointwise
  · exact (row_P m c s k).trans ((argRows m c).pz_at (Nat.add_comm _ _) k).symm
  · have e : ∑ i ∈ Finset.range 32, (argRows m c).pz k i = 0 :=
      Finset.sum_eq_zero fun i hi => (argRows m c).pz_zero (Finset.mem_range.1 hi) k
    have := Finset.sum_range_add (fun i => (argRows m c).pz k i) 32 (r.val + 1)
    rw [e, zero_add] at this
    exact this.symm.trans (congrArg (fun n => ∑ i ∈ Finset.range n, (argRows m c).pz k i) (by omega))

variable {m c}

/-- A running sum less the one that ends before the window is the window's sum. -/
theorem window (h : (argRows m c).Real) (n : ℕ) (hn : n ≤ 16) (S : Fin 16384 → EReal)
    (hS : ∀ s : Fin 16384, S s = ∑ i ∈ Finset.range (s.val + 33), (argRows m c).pz k i) :
    S r - (if _ : r.val < n then 0 else S ⟨r.val - n, by omega⟩) = back ((argRows m c).pz k) n (r.val + 32) := by
  refine Eq.trans ?_ (prefix_sub (h.pz k) n (r.val + 32) (by omega))
  refine congrArg₂ (· - ·) (hS r) ?_
  by_cases hr : r.val < n
  · exact (dif_pos hr).trans (Finset.sum_eq_zero fun i hi => (argRows m c).pz_zero (by have := Finset.mem_range.1 hi; omega) k).symm
  · exact ((dif_neg hr).trans (hS _)).trans (congrArg (fun n => ∑ i ∈ Finset.range n, (argRows m c).pz k i)
      (show r.val - n + 33 = r.val + 32 + 1 - n by omega))

variable (m c) (j : Fin 256)

/-- A group's counts, running sums and rows. -/
theorem cnt0 : res_main_v16 (launchContents m c) (ix2 r 0) = (cnt 2 r.val : EReal) := by
  pointwise [res_main_v16, res_main_v7]
  refine Eq.trans (congrArg (fun b => (((IntOp.minsi b 2#32).toInt : ℝ) : EReal)) ?_) (cnt_min 2 r.val (by decide) (by omega))
  exact (BitVec.ofNat_add _ _).symm.trans (congrArg (BitVec.ofNat 32) (Nat.add_comm _ _))
theorem sum0 : res_main_v8 (launchContents m c) (ix2 r j) = ∑ i ∈ Finset.range (r.val + 33), (argRows m c).pz (col 0 j) i := by
  pointwise [res_main_v8]
  exact (congrArg (fun k => res_main_v4 (launchContents m c) (ix2 r k)) (Fin.ext (show j.val = 256 * 0 + j.val by omega))).trans
    (row_sum m c r (col 0 j))
theorem d0 (h : (argRows m c).Real) : res_main_v65 (launchContents m c) (ix3 r 0 j) = (argRows m c).d r (col 0 j) := by
  refine (cat4_0 _ _ _ _ r j).trans ?_
  pointwise
  rw [cnt0, div_cnt (by decide)]
  unfold Args.d
  rw [grp_col, show win 0 = 2 from rfl, ← window r (col 0 j) h 2 (by decide) (fun s => res_main_v8 (launchContents m c) (ix2 s j)) fun s => sum0 m c s j]
  have e : res_main_v1 (launchContents m c) (ix2 r ⟨j.val, by omega⟩) = (argRows m c).P r (col 0 j) :=
    (congrArg (fun k => res_main_v1 (launchContents m c) (ix2 r k)) (Fin.ext (show j.val = 256 * 0 + j.val by omega))).trans
      (row_P m c r (col 0 j))
  rw [e]
/-- As above. -/
theorem cnt1 : res_main_v30 (launchContents m c) (ix2 r 0) = (cnt 4 r.val : EReal) := by
  pointwise [res_main_v30, res_main_v7]
  refine Eq.trans (congrArg (fun b => (((IntOp.minsi b 4#32).toInt : ℝ) : EReal)) ?_) (cnt_min 4 r.val (by decide) (by omega))
  exact (BitVec.ofNat_add _ _).symm.trans (congrArg (BitVec.ofNat 32) (Nat.add_comm _ _))
theorem sum1 : res_main_v22 (launchContents m c) (ix2 r j) = ∑ i ∈ Finset.range (r.val + 33), (argRows m c).pz (col 1 j) i := by
  pointwise [res_main_v22]
  exact (congrArg (fun k => res_main_v4 (launchContents m c) (ix2 r k)) (Fin.ext (show 256 + j.val = 256 * 1 + j.val by omega))).trans
    (row_sum m c r (col 1 j))
theorem d1 (h : (argRows m c).Real) : res_main_v65 (launchContents m c) (ix3 r 1 j) = (argRows m c).d r (col 1 j) := by
  refine (cat4_1 _ _ _ _ r j).trans ?_
  pointwise
  rw [cnt1, div_cnt (by decide)]
  unfold Args.d
  rw [grp_col, show win 1 = 4 from rfl, ← window r (col 1 j) h 4 (by decide) (fun s => res_main_v22 (launchContents m c) (ix2 s j)) fun s => sum1 m c s j]
  have e : res_main_v1 (launchContents m c) (ix2 r ⟨256 + j.val, by omega⟩) = (argRows m c).P r (col 1 j) :=
    (congrArg (fun k => res_main_v1 (launchContents m c) (ix2 r k)) (Fin.ext (show 256 + j.val = 256 * 1 + j.val by omega))).trans
      (row_P m c r (col 1 j))
  rw [e]
/-- As above. -/
theorem cnt2 : res_main_v44 (launchContents m c) (ix2 r 0) = (cnt 8 r.val : EReal) := by
  pointwise [res_main_v44, res_main_v7]
  refine Eq.trans (congrArg (fun b => (((IntOp.minsi b 8#32).toInt : ℝ) : EReal)) ?_) (cnt_min 8 r.val (by decide) (by omega))
  exact (BitVec.ofNat_add _ _).symm.trans (congrArg (BitVec.ofNat 32) (Nat.add_comm _ _))
theorem sum2 : res_main_v36 (launchContents m c) (ix2 r j) = ∑ i ∈ Finset.range (r.val + 33), (argRows m c).pz (col 2 j) i := by
  pointwise [res_main_v36]
  exact (congrArg (fun k => res_main_v4 (launchContents m c) (ix2 r k)) (Fin.ext (show 512 + j.val = 256 * 2 + j.val by omega))).trans
    (row_sum m c r (col 2 j))
theorem d2 (h : (argRows m c).Real) : res_main_v65 (launchContents m c) (ix3 r 2 j) = (argRows m c).d r (col 2 j) := by
  refine (cat4_2 _ _ _ _ r j).trans ?_
  pointwise
  rw [cnt2, div_cnt (by decide)]
  unfold Args.d
  rw [grp_col, show win 2 = 8 from rfl, ← window r (col 2 j) h 8 (by decide) (fun s => res_main_v36 (launchContents m c) (ix2 s j)) fun s => sum2 m c s j]
  have e : res_main_v1 (launchContents m c) (ix2 r ⟨512 + j.val, by omega⟩) = (argRows m c).P r (col 2 j) :=
    (congrArg (fun k => res_main_v1 (launchContents m c) (ix2 r k)) (Fin.ext (show 512 + j.val = 256 * 2 + j.val by omega))).trans
      (row_P m c r (col 2 j))
  rw [e]
/-- As above. -/
theorem cnt3 : res_main_v58 (launchContents m c) (ix2 r 0) = (cnt 16 r.val : EReal) := by
  pointwise [res_main_v58, res_main_v7]
  refine Eq.trans (congrArg (fun b => (((IntOp.minsi b 16#32).toInt : ℝ) : EReal)) ?_) (cnt_min 16 r.val (by decide) (by omega))
  exact (BitVec.ofNat_add _ _).symm.trans (congrArg (BitVec.ofNat 32) (Nat.add_comm _ _))
theorem sum3 : res_main_v50 (launchContents m c) (ix2 r j) = ∑ i ∈ Finset.range (r.val + 33), (argRows m c).pz (col 3 j) i := by
  pointwise [res_main_v50]
  exact (congrArg (fun k => res_main_v4 (launchContents m c) (ix2 r k)) (Fin.ext (show 768 + j.val = 256 * 3 + j.val by omega))).trans
    (row_sum m c r (col 3 j))
theorem d3 (h : (argRows m c).Real) : res_main_v65 (launchContents m c) (ix3 r 3 j) = (argRows m c).d r (col 3 j) := by
  refine (cat4_3 _ _ _ _ r j).trans ?_
  pointwise
  rw [cnt3, div_cnt (by decide)]
  unfold Args.d
  rw [grp_col, show win 3 = 16 from rfl, ← window r (col 3 j) h 16 (by decide) (fun s => res_main_v50 (launchContents m c) (ix2 s j)) fun s => sum3 m c s j]
  have e : res_main_v1 (launchContents m c) (ix2 r ⟨768 + j.val, by omega⟩) = (argRows m c).P r (col 3 j) :=
    (congrArg (fun k => res_main_v1 (launchContents m c) (ix2 r k)) (Fin.ext (show 768 + j.val = 256 * 3 + j.val by omega))).trans
      (row_P m c r (col 3 j))
  rw [e]

theorem row_d (h : (argRows m c).Real) (g : Fin 4) : res_main_v65 (launchContents m c) (ix3 r g j) = (argRows m c).d r (col g j) := by
  obtain rfl | rfl | rfl | rfl := (by decide : ∀ g : Fin 4, g = 0 ∨ g = 1 ∨ g = 2 ∨ g = 3) g
  exacts [d0 m c r j h, d1 m c r j h, d2 m c r j h, d3 m c r j h]
theorem row_lin (h : (argRows m c).Real) : res_main_v71 (launchContents m c) (ix2 r k) = (argRows m c).lin r k := by
  pointwise [res_main_v71]
  exact congrArg (· + _) (Finset.sum_congr (M := EReal) rfl fun x _ =>
    (mul_comm (G := EReal) _ _).trans (congrArg (· * _) (row_d m c r x h (grp k))))
theorem row_lins (h : (argRows m c).Real) : res_main_v74 (launchContents m c) (ix2 r k) = (argRows m c).lin r k * (argRows m c).ps k := by
  pointwise [res_main_v74]
  rw [row_lin m c r k h, row_ps]
theorem row_sig : res_main_v75_2 (launchContents m c) (ix2 r k) = Ideal.logistic ((argRows m c).Z r k) := by
  pointwise [res_main_v75_2]
  rw [row_Z]
  rfl
theorem row_gate : res_main_v75_0 (launchContents m c) (ix2 r k) = (argRows m c).gate r k := by
  pointwise [res_main_v75_0]
  rw [row_Z, row_sig]
  rfl
theorem row_y (h : (argRows m c).Real) : res_main_v76 (launchContents m c) (ix2 r k) = (argRows m c).y r k := by
  pointwise [res_main_v76]
  rw [row_lins m c r k h, row_gate]
  rfl

/-! ## The backward part -/

theorem row_dy : res_main_v82 (launchContents m c) (ix2 r k) = (argRows m c).dy r k := by
  pointwise [res_main_v82]
  exact Finset.sum_congr (M := EReal) rfl fun x _ => congrArg (· * _) (row_G m c r x)
theorem row_84 : res_main_v84 (launchContents m c) (ix2 r k) = (argRows m c).dy r k * (argRows m c).gate r k := by
  pointwise [res_main_v84]
  rw [row_dy, row_gate]
theorem row_dlin : res_main_v90 (launchContents m c) (ix2 r k) = (argRows m c).dlin r k := by
  pointwise [res_main_v90]
  rw [row_84, row_ps]
  exact mul_right_comm (G := EReal) _ _ _
theorem row_96 (g : Fin 4) : res_main_v96 (launchContents m c) (ix3 g j r) = (argRows m c).dlin r (col g j) := by
  pointwise [res_main_v96]
  exact (congrArg (fun k => res_main_v90 (launchContents m c) (ix2 r k)) (Fin.ext (show g.val * 256 + j.val = 256 * g.val + j.val by omega))).trans
    (row_dlin m c r (col g j))
theorem row_dd : res_main_v101 (launchContents m c) (ix2 r k) = (argRows m c).dd r k := by
  pointwise [res_main_v101]
  exact Finset.sum_congr (M := EReal) rfl fun x _ => congrArg (· * _) (row_96 m c r x (grp k))
end

/-- An array placed among zeros. -/
theorem pad_at {N w M W lo hi hi' : ℕ} (X : FVec Ideal ⟨2, ![N, w]⟩ .f32) {u : Shape} (Z : FVec Ideal u .f32)
    (h : Shape.Pads (s := ⟨2, ![N, w]⟩) ![0, lo] ![hi, hi'] ![0, 0] ⟨2, ![M, W]⟩) (hu : 0 < u.numel) (hz : Z (Shape.Idx.first hu) = 0)
    (r : Fin M) (k : Fin W) :
    pad (s := ⟨2, ![N, w]⟩) ⟨2, ![M, W]⟩ ![0, lo] ![hi, hi'] ![0, 0] X Z h hu (ix2 r k)
      = if hk : r.val < N ∧ lo ≤ k.val ∧ k.val - lo < w then X (ix2 ⟨r.val, hk.1⟩ ⟨k.val - lo, hk.2.2⟩) else 0 := by
  have e := Fin.forall_fin_two (p := fun a : Fin 2 => (![0, lo] : Fin 2 → ℕ) a ≤ ((ix2 r k : Shape.Idx ⟨2, ![M, W]⟩) a).val
    ∧ (((ix2 r k : Shape.Idx ⟨2, ![M, W]⟩) a).val - (![0, lo] : Fin 2 → ℕ) a) % ((![0, 0] : Fin 2 → ℕ) a + 1) = 0
    ∧ (((ix2 r k : Shape.Idx ⟨2, ![M, W]⟩) a).val - (![0, lo] : Fin 2 → ℕ) a) / ((![0, 0] : Fin 2 → ℕ) a + 1) < (![N, w] : Fin 2 → ℕ) a)
  by_cases hk : r.val < N ∧ lo ≤ k.val ∧ k.val - lo < w
  · rw [dif_pos hk]
    refine (dif_pos (e.2 ⟨⟨Nat.zero_le _, Nat.mod_one _, ?_⟩, hk.2.1, Nat.mod_one _, ?_⟩)).trans (congrArg X ?_)
    · exact (Nat.div_one _).trans_lt hk.1
    · exact (Nat.div_one _).trans_lt hk.2.2
    · funext a
      refine Fin.ext ?_
      fin_cases a
      · exact Nat.div_one _
      · exact Nat.div_one _
  · rw [dif_neg hk]
    refine (dif_neg fun ha => hk ?_).trans hz
    obtain ⟨⟨-, -, h1⟩, h2, -, h3⟩ := e.1 ha
    exact ⟨(Nat.div_one _).symm.trans_lt h1, h2, (Nat.div_one _).symm.trans_lt h3⟩

end Cert.Reference4Ideal.Value

end
-- ==== Proof.BwdBRefRun.lean ====
/- The pooling branch's backward call: the reference's five results, entry by entry, and what its run leaves. Hand-written,
   untrusted. -/
module

public import proofs.«01_k».proof.Proof.BwdBRef

@[expose] public section

set_option maxRecDepth 16384

noncomputable section

open Idealize.ShloMosaic Idealize.ShloMosaic.TcCoe Idealize.SL.Sem
open Idealize.ShloMosaic.StableHlo (launchContents)
open scoped BigOperators

namespace Cert.Reference4Ideal.Value

open Cert.Reference4Ideal Cert.Reference4Ideal.Gen Cert.BwdB Cert.CumSum

variable (m : (ℓ : Loc nD τ sig) → Buf (Elt Ideal) ℓ)

theorem zero_first : (constant (F := Ideal) S_ .f32 0x00000000#32) (Shape.Idx.first h_S_) = (0 : EReal) := by pointwise

section
variable (X0 X1 X2 X3 : FVec Ideal S16384x256 .f32) (r : Fin 16384) (j : Fin 256)

/-! A group's columns among the zeros of the other groups. -/
abbrev place0 (X : FVec Ideal S16384x256 .f32) : FVec Ideal S16384x1024 .f32 :=
  pad S16384x1024 ![0, 0] ![0, 768] ![0, 0] X (constant S_ .f32 0x00000000#32) pads_S16384x256_S16384x1024_000_07680 h_S_
theorem place0_at (k : Fin 1024) : place0 X0 (ix2 r k) = if hk : r.val < 16384 ∧ 0 ≤ k.val ∧ k.val - 0 < 256 then X0 (ix2 ⟨r.val, hk.1⟩ ⟨k.val - 0, hk.2.2⟩) else 0 :=
  pad_at (N := 16384) (w := 256) X0 _ pads_S16384x256_S16384x1024_000_07680 h_S_ zero_first r k
abbrev place1 (X : FVec Ideal S16384x256 .f32) : FVec Ideal S16384x1024 .f32 :=
  pad S16384x1024 ![0, 256] ![0, 512] ![0, 0] X (constant S_ .f32 0x00000000#32) pads_S16384x256_S16384x1024_000_2565120 h_S_
theorem place1_at (k : Fin 1024) : place1 X1 (ix2 r k) = if hk : r.val < 16384 ∧ 256 ≤ k.val ∧ k.val - 256 < 256 then X1 (ix2 ⟨r.val, hk.1⟩ ⟨k.val - 256, hk.2.2⟩) else 0 :=
  pad_at (N := 16384) (w := 256) X1 _ pads_S16384x256_S16384x1024_000_2565120 h_S_ zero_first r k
abbrev place2 (X : FVec Ideal S16384x256 .f32) : FVec Ideal S16384x1024 .f32 :=
  pad S16384x1024 ![0, 512] ![0, 256] ![0, 0] X (constant S_ .f32 0x00000000#32) pads_S16384x256_S16384x1024_000_5122560 h_S_
theorem place2_at (k : Fin 1024) : place2 X2 (ix2 r k) = if hk : r.val < 16384 ∧ 512 ≤ k.val ∧ k.val - 512 < 256 then X2 (ix2 ⟨r.val, hk.1⟩ ⟨k.val - 512, hk.2.2⟩) else 0 :=
  pad_at (N := 16384) (w := 256) X2 _ pads_S16384x256_S16384x1024_000_5122560 h_S_ zero_first r k
abbrev place3 (X : FVec Ideal S16384x256 .f32) : FVec Ideal S16384x1024 .f32 :=
  pad S16384x1024 ![0, 768] ![0, 0] ![0, 0] X (constant S_ .f32 0x00000000#32) pads_S16384x256_S16384x1024_000_76800 h_S_
theorem place3_at (k : Fin 1024) : place3 X3 (ix2 r k) = if hk : r.val < 16384 ∧ 768 ≤ k.val ∧ k.val - 768 < 256 then X3 (ix2 ⟨r.val, hk.1⟩ ⟨k.val - 768, hk.2.2⟩) else 0 :=
  pad_at (N := 16384) (w := 256) X3 _ pads_S16384x256_S16384x1024_000_76800 h_S_ zero_first r k

/-- The four groups' columns, one after the other. -/
abbrev sum4 : FVec Ideal S16384x1024 .f32 := addf (addf (addf (place3 X3) (place2 X2)) (place1 X1)) (place0 X0)
theorem sum4_0 : sum4 X0 X1 X2 X3 (ix2 r (col 0 j)) = X0 (ix2 r j) :=
  (congrArg₂ (fun a b : EReal => a + b) (congrArg₂ (fun a b : EReal => a + b) (congrArg₂ (fun a b : EReal => a + b)
    ((place3_at X3 r (col 0 j)).trans (dif_neg (show ¬ (r.val < 16384 ∧ 768 ≤ 256 * 0 + j.val ∧ 256 * 0 + j.val - 768 < 256) by omega)))
    ((place2_at X2 r (col 0 j)).trans (dif_neg (show ¬ (r.val < 16384 ∧ 512 ≤ 256 * 0 + j.val ∧ 256 * 0 + j.val - 512 < 256) by omega))))
    ((place1_at X1 r (col 0 j)).trans (dif_neg (show ¬ (r.val < 16384 ∧ 256 ≤ 256 * 0 + j.val ∧ 256 * 0 + j.val - 256 < 256) by omega))))
    ((place0_at X0 r (col 0 j)).trans ((dif_pos (show r.val < 16384 ∧ 0 ≤ 256 * 0 + j.val ∧ 256 * 0 + j.val - 0 < 256 by omega)).trans
      (congrArg (fun k => X0 (ix2 r k)) (Fin.ext (show 256 * 0 + j.val - 0 = j.val by omega)))))).trans (by simp)
theorem sum4_1 : sum4 X0 X1 X2 X3 (ix2 r (col 1 j)) = X1 (ix2 r j) :=
  (congrArg₂ (fun a b : EReal => a + b) (congrArg₂ (fun a b : EReal => a + b) (congrArg₂ (fun a b : EReal => a + b)
    ((place3_at X3 r (col 1 j)).trans (dif_neg (show ¬ (r.val < 16384 ∧ 768 ≤ 256 * 1 + j.val ∧ 256 * 1 + j.val - 768 < 256) by omega)))
    ((place2_at X2 r (col 1 j)).trans (dif_neg (show ¬ (r.val < 16384 ∧ 512 ≤ 256 * 1 + j.val ∧ 256 * 1 + j.val - 512 < 256) by omega))))
    ((place1_at X1 r (col 1 j)).trans ((dif_pos (show r.val < 16384 ∧ 256 ≤ 256 * 1 + j.val ∧ 256 * 1 + j.val - 256 < 256 by omega)).trans
      (congrArg (fun k => X1 (ix2 r k)) (Fin.ext (show 256 * 1 + j.val - 256 = j.val by omega))))))
    ((place0_at X0 r (col 1 j)).trans (dif_neg (show ¬ (r.val < 16384 ∧ 0 ≤ 256 * 1 + j.val ∧ 256 * 1 + j.val - 0 < 256) by omega)))).trans (by simp)
theorem sum4_2 : sum4 X0 X1 X2 X3 (ix2 r (col 2 j)) = X2 (ix2 r j) :=
  (congrArg₂ (fun a b : EReal => a + b) (congrArg₂ (fun a b : EReal => a + b) (congrArg₂ (fun a b : EReal => a + b)
    ((place3_at X3 r (col 2 j)).trans (dif_neg (show ¬ (r.val < 16384 ∧ 768 ≤ 256 * 2 + j.val ∧ 256 * 2 + j.val - 768 < 256) by omega)))
    ((place2_at X2 r (col 2 j)).trans ((dif_pos (show r.val < 16384 ∧ 512 ≤ 256 * 2 + j.val ∧ 256 * 2 + j.val - 512 < 256 by omega)).trans
      (congrArg (fun k => X2 (ix2 r k)) (Fin.ext (show 256 * 2 + j.val - 512 = j.val by omega))))))
    ((place1_at X1 r (col 2 j)).trans (dif_neg (show ¬ (r.val < 16384 ∧ 256 ≤ 256 * 2 + j.val ∧ 256 * 2 + j.val - 256 < 256) by omega))))
    ((place0_at X0 r (col 2 j)).trans (dif_neg (show ¬ (r.val < 16384 ∧ 0 ≤ 256 * 2 + j.val ∧ 256 * 2 + j.val - 0 < 256) by omega)))).trans (by simp)
theorem sum4_3 : sum4 X0 X1 X2 X3 (ix2 r (col 3 j)) = X3 (ix2 r j) :=
  (congrArg₂ (fun a b : EReal => a + b) (congrArg₂ (fun a b : EReal => a + b) (congrArg₂ (fun a b : EReal => a + b)
    ((place3_at X3 r (col 3 j)).trans ((dif_pos (show r.val < 16384 ∧ 768 ≤ 256 * 3 + j.val ∧ 256 * 3 + j.val - 768 < 256 by omega)).trans
      (congrArg (fun k => X3 (ix2 r k)) (Fin.ext (show 256 * 3 + j.val - 768 = j.val by omega)))))
    ((place2_at X2 r (col 3 j)).trans (dif_neg (show ¬ (r.val < 16384 ∧ 512 ≤ 256 * 3 + j.val ∧ 256 * 3 + j.val - 512 < 256) by omega))))
    ((place1_at X1 r (col 3 j)).trans (dif_neg (show ¬ (r.val < 16384 ∧ 256 ≤ 256 * 3 + j.val ∧ 256 * 3 + j.val - 256 < 256) by omega))))
    ((place0_at X0 r (col 3 j)).trans (dif_neg (show ¬ (r.val < 16384 ∧ 0 ≤ 256 * 3 + j.val ∧ 256 * 3 + j.val - 0 < 256) by omega)))).trans (by simp)
end

section
variable (c : Dev nD) (r : Fin 16384) (j : Fin 256)

/-! A group's cotangents over the counts, each less the one a window further on, and their sum from a row on. -/
theorem dd0 : res_main_v102 (launchContents m c) (ix2 r j) = (argRows m c).dd r (col 0 j) := by
  pointwise [res_main_v102]
  exact (congrArg (fun k => res_main_v101 (launchContents m c) (ix2 r k)) (Fin.ext (show j.val = 256 * 0 + j.val by omega))).trans
    (row_dd m c r (col 0 j))
theorem e0 : res_main_v144 (launchContents m c) (ix2 r j) = (argRows m c).ez (col 0 j) r.val := by
  rw [(argRows m c).ez_at rfl, grp_col, show win 0 = 2 from rfl]
  pointwise [res_main_v144]
  rw [cnt0, div_cnt (by decide), dd0]
theorem p0 (q : Fin 16386) : res_main_v146 (launchContents m c) (ix2 q j) = (-(argRows m c).ez (col 0 j) q.val : EReal) := by
  refine (pad_at (N := 16384) (w := 256) _ _ pads_S16384x256_S16386x256_020_000 h_S_ zero_first q j).trans ?_
  by_cases hq : q.val < 16384
  · refine (dif_pos ⟨hq, Nat.zero_le _, j.isLt⟩).trans ?_
    exact congrArg (fun x : EReal => -x) (e0 m c ⟨q.val, hq⟩ j)
  · rw [(argRows m c).ez_zero (by omega), neg_zero]
    exact dif_neg fun h => hq h.1
abbrev step0 : FVec Ideal S16384x256 .f32 := addf (res_main_v144 (launchContents m c)) (extractStridedSlice S16384x256 ![2, 0] (res_main_v146 (launchContents m c)) slices_S16386x256_S16384x256_2_0)
theorem step0_at : step0 m c (ix2 r j) = (argRows m c).ez (col 0 j) r.val + -(argRows m c).ez (col 0 j) (r.val + 2) := by
  pointwise
  rw [e0, p0]
  exact congrArg (fun i => (argRows m c).ez (col 0 j) r.val + -(argRows m c).ez (col 0 j) i) (Nat.add_comm 2 r.val)

theorem dd1 : res_main_v103 (launchContents m c) (ix2 r j) = (argRows m c).dd r (col 1 j) := by
  pointwise [res_main_v103]
  exact (congrArg (fun k => res_main_v101 (launchContents m c) (ix2 r k)) (Fin.ext (show 256 + j.val = 256 * 1 + j.val by omega))).trans
    (row_dd m c r (col 1 j))
theorem e1 : res_main_v132 (launchContents m c) (ix2 r j) = (argRows m c).ez (col 1 j) r.val := by
  rw [(argRows m c).ez_at rfl, grp_col, show win 1 = 4 from rfl]
  pointwise [res_main_v132]
  rw [cnt1, div_cnt (by decide), dd1]
theorem p1 (q : Fin 16388) : res_main_v134 (launchContents m c) (ix2 q j) = (-(argRows m c).ez (col 1 j) q.val : EReal) := by
  refine (pad_at (N := 16384) (w := 256) _ _ pads_S16384x256_S16388x256_040_000 h_S_ zero_first q j).trans ?_
  by_cases hq : q.val < 16384
  · refine (dif_pos ⟨hq, Nat.zero_le _, j.isLt⟩).trans ?_
    exact congrArg (fun x : EReal => -x) (e1 m c ⟨q.val, hq⟩ j)
  · rw [(argRows m c).ez_zero (by omega), neg_zero]
    exact dif_neg fun h => hq h.1
abbrev step1 : FVec Ideal S16384x256 .f32 := addf (res_main_v132 (launchContents m c)) (extractStridedSlice S16384x256 ![4, 0] (res_main_v134 (launchContents m c)) slices_S16388x256_S16384x256_4_0)
theorem step1_at : step1 m c (ix2 r j) = (argRows m c).ez (col 1 j) r.val + -(argRows m c).ez (col 1 j) (r.val + 4) := by
  pointwise
  rw [e1, p1]
  exact congrArg (fun i => (argRows m c).ez (col 1 j) r.val + -(argRows m c).ez (col 1 j) i) (Nat.add_comm 4 r.val)

theorem dd2 : res_main_v104 (launchContents m c) (ix2 r j) = (argRows m c).dd r (col 2 j) := by
  pointwise [res_main_v104]
  exact (congrArg (fun k => res_main_v101 (launchContents m c) (ix2 r k)) (Fin.ext (show 512 + j.val = 256 * 2 + j.val by omega))).trans
    (row_dd m c r (col 2 j))
theorem e2 : res_main_v120 (launchContents m c) (ix2 r j) = (argRows m c).ez (col 2 j) r.val := by
  rw [(argRows m c).ez_at rfl, grp_col, show win 2 = 8 from rfl]
  pointwise [res_main_v120]
  rw [cnt2, div_cnt (by decide), dd2]
theorem p2 (q : Fin 16392) : res_main_v122 (launchContents m c) (ix2 q j) = (-(argRows m c).ez (col 2 j) q.val : EReal) := by
  refine (pad_at (N := 16384) (w := 256) _ _ pads_S16384x256_S16392x256_080_000 h_S_ zero_first q j).trans ?_
  by_cases hq : q.val < 16384
  · refine (dif_pos ⟨hq, Nat.zero_le _, j.isLt⟩).trans ?_
    exact congrArg (fun x : EReal => -x) (e2 m c ⟨q.val, hq⟩ j)
  · rw [(argRows m c).ez_zero (by omega), neg_zero]
    exact dif_neg fun h => hq h.1
abbrev step2 : FVec Ideal S16384x256 .f32 := addf (res_main_v120 (launchContents m c)) (extractStridedSlice S16384x256 ![8, 0] (res_main_v122 (launchContents m c)) slices_S16392x256_S16384x256_8_0)
theorem step2_at : step2 m c (ix2 r j) = (argRows m c).ez (col 2 j) r.val + -(argRows m c).ez (col 2 j) (r.val + 8) := by
  pointwise
  rw [e2, p2]
  exact congrArg (fun i => (argRows m c).ez (col 2 j) r.val + -(argRows m c).ez (col 2 j) i) (Nat.add_comm 8 r.val)

theorem dd3 : res_main_v105 (launchContents m c) (ix2 r j) = (argRows m c).dd r (col 3 j) := by
  pointwise [res_main_v105]
  exact (congrArg (fun k => res_main_v101 (launchContents m c) (ix2 r k)) (Fin.ext (show 768 + j.val = 256 * 3 + j.val by omega))).trans
    (row_dd m c r (col 3 j))
theorem e3 : res_main_v109 (launchContents m c) (ix2 r j) = (argRows m c).ez (col 3 j) r.val := by
  rw [(argRows m c).ez_at rfl, grp_col, show win 3 = 16 from rfl]
  pointwise [res_main_v109]
  rw [cnt3, div_cnt (by decide), dd3]
theorem p3 (q : Fin 16400) : res_main_v111 (launchContents m c) (ix2 q j) = (-(argRows m c).ez (col 3 j) q.val : EReal) := by
  refine (pad_at (N := 16384) (w := 256) _ _ pads_S16384x256_S16400x256_0160_000 h_S_ zero_first q j).trans ?_
  by_cases hq : q.val < 16384
  · refine (dif_pos ⟨hq, Nat.zero_le _, j.isLt⟩).trans ?_
    exact congrArg (fun x : EReal => -x) (e3 m c ⟨q.val, hq⟩ j)
  · rw [(argRows m c).ez_zero (by omega), neg_zero]
    exact dif_neg fun h => hq h.1
abbrev step3 : FVec Ideal S16384x256 .f32 := addf (res_main_v109 (launchContents m c)) (extractStridedSlice S16384x256 ![16, 0] (res_main_v111 (launchContents m c)) slices_S16400x256_S16384x256_16_0)
theorem step3_at : step3 m c (ix2 r j) = (argRows m c).ez (col 3 j) r.val + -(argRows m c).ez (col 3 j) (r.val + 16) := by
  pointwise
  rw [e3, p3]
  exact congrArg (fun i => (argRows m c).ez (col 3 j) r.val + -(argRows m c).ez (col 3 j) i) (Nat.add_comm 16 r.val)

/-- The pooled rows' cotangents. -/
abbrev dpArr : FVec Ideal S16384x1024 .f32 :=
  addf (sum4 (Host.negf (res_main_v102 (launchContents m c))) (Host.negf (res_main_v103 (launchContents m c))) (Host.negf (res_main_v104 (launchContents m c))) (Host.negf (res_main_v105 (launchContents m c))))
    (Host.reduceWindowAdd ![16384, 1] ![1, 1] ![0, 0] ![16383, 0] (sum4 (step0 m c) (step1 m c) (step2 m c) (step3 m c)) (broadcastInDim S_ ![] bcast_S_S_ (constant S_ .f32 0x00000000#32)) reduceWindows_S16384x1024_S16384x1024_w16384s1p0_16383_w1s1p0_0 h_S_)

theorem dp0 (h : (argRows m c).Real) : dpArr m c (ix2 r (col 0 j)) = (argRows m c).dP r (col 0 j) := by
  unfold Args.dP
  rw [grp_col, show win 0 = 2 from rfl, sub_eq_add_neg, add_comm]
  refine congrArg₂ (fun a b : EReal => a + b) ((sum4_0 _ _ _ _ r j).trans (congrArg (fun x : EReal => -x) (dd0 m c r j))) ?_
  refine (suffix_rows (N := 16384) _ _ 16383 reduceWindows_S16384x1024_S16384x1024_w16384s1p0_16383_w1s1p0_0 h_S_ ?_ r (col 0 j)
    (fun i => (argRows m c).ez (col 0 j) i + -(argRows m c).ez (col 0 j) (i + 2)) fun s => ?_).trans ?_
  · pointwise
  · exact (sum4_0 _ _ _ _ s j).trans (step0_at m c s j)
  · exact suffix_sub (h.ez (col 0 j)) 2 r.val (16384 - r.val) fun i hi => (argRows m c).ez_zero (by omega) _
theorem dp1 (h : (argRows m c).Real) : dpArr m c (ix2 r (col 1 j)) = (argRows m c).dP r (col 1 j) := by
  unfold Args.dP
  rw [grp_col, show win 1 = 4 from rfl, sub_eq_add_neg, add_comm]
  refine congrArg₂ (fun a b : EReal => a + b) ((sum4_1 _ _ _ _ r j).trans (congrArg (fun x : EReal => -x) (dd1 m c r j))) ?_
  refine (suffix_rows (N := 16384) _ _ 16383 reduceWindows_S16384x1024_S16384x1024_w16384s1p0_16383_w1s1p0_0 h_S_ ?_ r (col 1 j)
    (fun i => (argRows m c).ez (col 1 j) i + -(argRows m c).ez (col 1 j) (i + 4)) fun s => ?_).trans ?_
  · pointwise
  · exact (sum4_1 _ _ _ _ s j).trans (step1_at m c s j)
  · exact suffix_sub (h.ez (col 1 j)) 4 r.val (16384 - r.val) fun i hi => (argRows m c).ez_zero (by omega) _
theorem dp2 (h : (argRows m c).Real) : dpArr m c (ix2 r (col 2 j)) = (argRows m c).dP r (col 2 j) := by
  unfold Args.dP
  rw [grp_col, show win 2 = 8 from rfl, sub_eq_add_neg, add_comm]
  refine congrArg₂ (fun a b : EReal => a + b) ((sum4_2 _ _ _ _ r j).trans (congrArg (fun x : EReal => -x) (dd2 m c r j))) ?_
  refine (suffix_rows (N := 16384) _ _ 16383 reduceWindows_S16384x1024_S16384x1024_w16384s1p0_16383_w1s1p0_0 h_S_ ?_ r (col 2 j)
    (fun i => (argRows m c).ez (col 2 j) i + -(argRows m c).ez (col 2 j) (i + 8)) fun s => ?_).trans ?_
  · pointwise
  · exact (sum4_2 _ _ _ _ s j).trans (step2_at m c s j)
  · exact suffix_sub (h.ez (col 2 j)) 8 r.val (16384 - r.val) fun i hi => (argRows m c).ez_zero (by omega) _
theorem dp3 (h : (argRows m c).Real) : dpArr m c (ix2 r (col 3 j)) = (argRows m c).dP r (col 3 j) := by
  unfold Args.dP
  rw [grp_col, show win 3 = 16 from rfl, sub_eq_add_neg, add_comm]
  refine congrArg₂ (fun a b : EReal => a + b) ((sum4_3 _ _ _ _ r j).trans (congrArg (fun x : EReal => -x) (dd3 m c r j))) ?_
  refine (suffix_rows (N := 16384) _ _ 16383 reduceWindows_S16384x1024_S16384x1024_w16384s1p0_16383_w1s1p0_0 h_S_ ?_ r (col 3 j)
    (fun i => (argRows m c).ez (col 3 j) i + -(argRows m c).ez (col 3 j) (i + 16)) fun s => ?_).trans ?_
  · pointwise
  · exact (sum4_3 _ _ _ _ s j).trans (step3_at m c s j)
  · exact suffix_sub (h.ez (col 3 j)) 16 r.val (16384 - r.val) fun i hi => (argRows m c).ez_zero (by omega) _

theorem dp_at (h : (argRows m c).Real) (k : Fin 1024) : dpArr m c (ix2 r k) = (argRows m c).dP r k := by
  obtain ⟨g, j, rfl⟩ := exists_col k
  obtain rfl | rfl | rfl | rfl := (by decide : ∀ g : Fin 4, g = 0 ∨ g = 1 ∨ g = 2 ∨ g = 3) g
  exacts [dp0 m c r j h, dp1 m c r j h, dp2 m c r j h, dp3 m c r j h]

/-- The cotangents of the gate's logit. -/
abbrev dzArr : FVec Ideal S16384x1024 .f32 :=
  addf (mulf (res_main_v83 (launchContents m c)) (res_main_v75_2 (launchContents m c))) (mulf (mulf (res_main_v3 (launchContents m c)) (res_main_v83 (launchContents m c))) (mulf (res_main_v75_2 (launchContents m c)) (subf (broadcastInDim S16384x1024 ![] bcast_S_S16384x1024 (constant S_ .f32 0x3F800000#32)) (res_main_v75_2 (launchContents m c)))))
theorem dz_at (h : (argRows m c).Real) (k : Fin 1024) : dzArr m c (ix2 r k) = (argRows m c).dZ r k := by
  refine Eq.trans ?_ (h.dZ_eq r k)
  pointwise [res_main_v83]
  rw [row_lins m c r k h, row_dy, row_sig, row_Z]

section
variable (L : FVec Ideal S16384x4096 .bf16) (A0 A1 : FVec Ideal S16384x1024 .f32) (R : FVec Ideal S16384x6144 .bf16)

/-- The reference's first result: two blocks of columns between the columns it leaves. -/
abbrev cat : FVec Ideal S16384x12288 .bf16 :=
  concatenate S16384x12288 1 [⟨S16384x4096, L⟩, ⟨S16384x2048, (truncf .bf16 (concatenate S16384x2048 1 [⟨S16384x1024, A0⟩, ⟨S16384x1024, A1⟩]
    concatenates_S16384x1024_S16384x1024_S16384x2048_d1 : FVec Ideal S16384x2048 .f32) bitsLt_bf16_f32 : FVec Ideal S16384x2048 .bf16)⟩,
    ⟨S16384x6144, R⟩] concatenates_S16384x4096_S16384x2048_S16384x6144_S16384x12288_d1

theorem cat_l (k : Fin 4096) : cat L A0 A1 R (ix2 r ⟨k.val, by omega⟩) = L (ix2 r k) := by pointwise
theorem cat_0 (k : Fin 1024) : cat L A0 A1 R (ix2 r ⟨4096 + k.val, by omega⟩) = A0 (ix2 r k) := by
  pointwise
  exact dif_pos (by omega)
theorem cat_1 (k : Fin 1024) : cat L A0 A1 R (ix2 r ⟨5120 + k.val, by omega⟩) = A1 (ix2 r k) := by
  pointwise
  rw [dif_neg (by omega), dif_pos (by omega), dif_neg (by omega)]
  exact congrArg (fun k => A1 (ix2 r k)) (Fin.ext (show 5120 + k.val - 4096 - 1024 = k.val by omega))
theorem cat_r (k : Fin 6144) : cat L A0 A1 R (ix2 r ⟨6144 + k.val, by omega⟩) = R (ix2 r k) := by
  pointwise
  rw [dif_neg (by omega), dif_neg (by omega)]
  exact congrArg (fun k => R (ix2 r k)) (Fin.ext (show 6144 + k.val - 4096 - 2048 = k.val by omega))
end
end

/-- The reference's first result. -/
abbrev dArr (c : Dev nD) : FVec Ideal S16384x12288 .bf16 :=
  cat (extractStridedSlice S16384x4096 ![0, 0] ((launchContents m c) (Proc.devRef .tc main_arg6)) slices_S16384x12288_S16384x4096_0_0)
    (dpArr m c) (dzArr m c)
    (extractStridedSlice S16384x6144 ![0, 6144] ((launchContents m c) (Proc.devRef .tc main_arg6)) slices_S16384x12288_S16384x6144_0_6144)

theorem gradAt_eq (c : Dev nD) (r : Fin 16384) (b : Fin 2) (k : Fin 1024) {q : ℕ} (hq : q = 4096 + (1024 * b.val + k.val)) :
    gradAt m c r q = (argRows m c).grads b r k := by
  subst hq
  exact congrArg₂ (fun b k => (argRows m c).grads b r k) (Fin.ext (show (4096 + (1024 * b.val + k.val)) / 1024 % 2 = b.val by omega))
    (Fin.ext (show (4096 + (1024 * b.val + k.val)) % 1024 = k.val by omega))

theorem res_all (c : Dev nD) (h : (argRows m c).Real) : dArr m c = outD m c := by
  funext z
  obtain ⟨r, ⟨q, hq⟩, rfl⟩ := Lift.exists_ix2 z
  by_cases h1 : q < 4096
  · refine Eq.trans ?_ (show m (c.tc.loc main_arg6) (ix2 r ⟨q, hq⟩) = _ from (if_neg fun h => absurd h.1 (by simpa using h1)).symm)
    refine (cat_l r _ _ _ _ ⟨q, h1⟩).trans ?_
    pointwise
  · by_cases h2 : q < 6144
    · refine Eq.trans ?_ (show gradAt m c r q = _ from (if_pos ⟨not_lt.1 h1, h2⟩).symm)
      by_cases h3 : q < 5120
      · obtain ⟨k, rfl⟩ : ∃ k : Fin 1024, q = 4096 + k.val := ⟨⟨q - 4096, by omega⟩, show q = 4096 + (q - 4096) by omega⟩
        exact ((cat_0 r _ _ _ _ k).trans (dp_at m c r h k)).trans (gradAt_eq m c r 0 k (show 4096 + k.val = 4096 + (1024 * 0 + k.val) by omega)).symm
      · obtain ⟨k, rfl⟩ : ∃ k : Fin 1024, q = 5120 + k.val := ⟨⟨q - 5120, by omega⟩, show q = 5120 + (q - 5120) by omega⟩
        exact ((cat_1 r _ _ _ _ k).trans (dz_at m c r h k)).trans (gradAt_eq m c r 1 k (show 5120 + k.val = 4096 + (1024 * 1 + k.val) by omega)).symm
    · refine Eq.trans ?_ (show m (c.tc.loc main_arg6) (ix2 r ⟨q, hq⟩) = _ from (if_neg fun h => absurd h.2 h2).symm)
      obtain ⟨k, rfl⟩ : ∃ k : Fin 6144, q = 6144 + k.val := ⟨⟨q - 6144, by omega⟩, show q = 6144 + (q - 6144) by omega⟩
      refine (cat_r r _ _ _ _ k).trans ?_
      pointwise

theorem run_rows (ρ : Dev nD → PrngReg) (hr : ∀ c, (argRows m c).Real) : θ_run defs (onTc (τ := τ) (main (F := Ideal))) ⟨m, fun _ => 0, ρ⟩ fun r => ∀ c : Dev nD,
      r.2.mem ((c.tc : Thread nD τ).loc main_v158) = outD m c
      ∧ r.2.mem ((c.tc : Thread nD τ).loc main_v81) = outW m c
      ∧ r.2.mem ((c.tc : Thread nD τ).loc main_v100) = outPw m c
      ∧ r.2.mem ((c.tc : Thread nD τ).loc main_v159) = outPb m c
      ∧ r.2.mem ((c.tc : Thread nD τ).loc main_v160) = outPs m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ?_) (run m ρ)
  obtain ⟨h0, h1, h2, h3, h4, h5⟩ := h c
  refine ⟨h0.trans (res_all m c (hr c)), h1.trans ?_, h2.trans ?_, h3.trans ?_, h4.trans ?_, h5⟩
  · clear h h0 h1 h2 h3 h4 h5
    funext z
    obtain ⟨i, j, rfl⟩ := Lift.exists_ix2 z
    pointwise
    refine Finset.sum_congr (M := EReal) rfl fun x _ => ?_
    rw [row_G, row_y m c x i (hr c)]
    exact mul_comm (G := EReal) _ _
  · clear h h0 h1 h2 h3 h4 h5
    funext z
    obtain ⟨g, i, j, rfl⟩ : ∃ g i j, z = ix3 g i j := ⟨z 0, z 1, z 2, by funext a; fin_cases a <;> rfl⟩
    pointwise
    refine Finset.sum_congr (M := EReal) rfl fun x _ => ?_
    rw [row_96, row_d m c x i (hr c) g]
    exact mul_comm (G := EReal) _ _
  · clear h h0 h1 h2 h3 h4 h5
    funext z
    obtain ⟨i, k, rfl⟩ := Lift.exists_ix2 z
    pointwise
    simp only [Finset.univ_unique, Finset.sum_singleton]
    exact Finset.sum_congr (M := EReal) rfl fun x _ => row_dlin m c x k
  · clear h h0 h1 h2 h3 h4 h5
    funext z
    obtain ⟨i, k, rfl⟩ := Lift.exists_ix2 z
    pointwise
    simp only [Finset.univ_unique, Finset.sum_singleton]
    refine Finset.sum_congr (M := EReal) rfl fun x _ => ?_
    rw [row_lin m c x k (hr c), row_84, mul_left_comm, ← mul_assoc]
    rfl

end Cert.Reference4Ideal.Value

end
-- ==== Proof.BwdB.lean ====
/- The value claim of `_bwd_b`: kernel and reference end with the same five results wherever the arguments are real numbers.
   Hand-written, untrusted. -/
module

public import proofs.«01_k».proof.Defs
public import proofs.«01_k».proof.Proof.Gen.Pre_finite4
public import proofs.«01_k».proof.Proof.BwdBArrays
public import proofs.«01_k».proof.Proof.BwdBRefRun

@[expose] public section

noncomputable section

open Idealize.ShloMosaic Idealize.ShloMosaic.Tactic
open Idealize.SL.Sem

namespace Cert.BwdB

variable (m : (ℓ : Loc Cert.Kernel4Ideal.nD Cert.Kernel4Ideal.τ Cert.Kernel4Ideal.sig) → Buf (Elt Ideal) ℓ)

/-- Where the precondition holds every argument row the call reads is real. -/
theorem args_real (h : Cert.Pre_Kernel4Ideal_finite4 m) (c : Dev Cert.Kernel4Ideal.nD) : (Kernel4Ideal.Hand.argRows m c).Real := by
  have h0 := congrFun (h c) (fun a => a.elim0)
  unfold Cert.Pre_finite4.fn Cert.Pre_finite4.fn_part1 at h0
  dsimp only at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton Cert.Pre_finite4.S_.Idx := ⟨fun a b => funext fun i => i.elim0⟩
  have e1 := real_of_all h1 (fun i => by pointwise)
  have e2 := real_of_all h2 (fun i => by pointwise)
  have e3 := real_of_all h3 (fun i => by pointwise)
  have e4 := real_of_all h4 (fun i => by pointwise)
  have e5 := real_of_all h5 (fun i => by pointwise)
  have e6 := real_of_all h6 (fun i => by pointwise)
  exact ⟨fun r k => e1 _, fun r k => e1 _, fun r k => e2 _, fun g i j => e3 _, fun k => e4 _, fun k => e5 _, fun i j => e6 _⟩

/-- The value claim: where the precondition holds, the kernel and the reference end with equal results. -/
theorem value : Cert.algebraic_Kernel4Ideal_Reference4Ideal_pre_finite4 := by
  intro m g m' g' hpre hag
  have eA : ∀ c, Reference4Ideal.Value.argRows m' c = Kernel4Ideal.Hand.argRows m c := fun c => by
    obtain ⟨a0, a1, a2, a3, a4, a5, -⟩ := hag c
    simp only [Reference4Ideal.Value.argRows, Kernel4Ideal.Hand.argRows, a0, a1, a2, a3, a4, a5]
  refine ⟨fun c => Kernel4Ideal.Hand.outD m c, fun c => Kernel4Ideal.Hand.outW m c, fun c => Kernel4Ideal.Hand.outPw m c,
    fun c => Kernel4Ideal.Hand.outPb m c, fun c => Kernel4Ideal.Hand.outPs m c,
    (θ_run _ _ _).mono (fun r h c => ?_) (θ_run_and (Kernel4Ideal.Hand.run_main m g) (Kernel4Ideal.Hand.frame m g)),
    (θ_run _ _ _).mono (fun r h c => ?_) (Reference4Ideal.Value.run_rows m' g' fun c => (eA c).symm ▸ args_real m hpre c)⟩
  · obtain ⟨h, hk, -⟩ := h
    exact ⟨((h c).1 9).trans (Kernel4Ideal.Hand.arr_grads m c), ((h c).1 10).trans (Kernel4Ideal.Hand.arr_w m c),
      ((h c).1 11).trans (Kernel4Ideal.Hand.arr_pw m c), ((h c).1 12).trans (Kernel4Ideal.Hand.arr_pb m c),
      ((h c).1 13).trans (Kernel4Ideal.Hand.arr_ps m c), hk c⟩
  · obtain ⟨h0, h1, h2, h3, h4, h5⟩ := h c
    obtain ⟨-, -, -, -, -, -, a6⟩ := hag c
    refine ⟨h0.trans ?_, h1.trans ?_, h2.trans ?_, h3.trans ?_, h4.trans ?_, h5⟩
    · unfold Reference4Ideal.Value.outD Reference4Ideal.Value.gradAt
      rw [eA, a6]
      rfl
    · unfold Reference4Ideal.Value.outW
      rw [eA]
      rfl
    · unfold Reference4Ideal.Value.outPw
      rw [eA]
      rfl
    · unfold Reference4Ideal.Value.outPb
      rw [eA]
      rfl
    · unfold Reference4Ideal.Value.outPs
      rw [eA]
      rfl

end Cert.BwdB

end
-- ==== Proof.BwdARows.lean ====
/- The spatial gating branch's backward call, row by row: what each result holds as a function of the argument rows, and the
   identities between the kernel's closed forms and reverse differentiation's terms. Hand-written, untrusted. -/
module

public import proofs.«01_k».proof.Proof.Reals
public import proofs.«01_k».proof.Proof.LossHead

@[expose] public section

noncomputable section

open Idealize.ShloMosaic
open scoped BigOperators

namespace Cert.BwdA

/-- The constants of the gelu, the layer norm's small number and its length. -/
abbrev c0 : EReal := Ideal.ofBits .f32 0x3F4C422A#32
abbrev k1 : EReal := ((8943 / 200000 : ℝ) : EReal)
abbrev k3 : EReal := ((26829 / 200000 : ℝ) : EReal)
abbrev half : EReal := Ideal.ofBits .f32 0x3F000000#32
abbrev eps : EReal := Ideal.ofBits .f32 0x3727C5AC#32
abbrev len : EReal := Ideal.ofBits .f32 0x44800000#32

theorem c0_real : ∃ x : ℝ, c0 = (x : EReal) :=
  ⟨_, by simp [c0, Ideal.ofBits, Ideal.ieee, -EReal.coe_mul]; rfl⟩
theorem half_eq : half = ((1 / 2 : ℝ) : EReal) := by
  simp [half, Ideal.ofBits, Ideal.ieee, -EReal.coe_mul]; norm_num
theorem len_eq : len = ((1024 : ℝ) : EReal) := LossHead.c1024
theorem c3 : Ideal.ofBits .f32 0x40400000#32 = ((3 : ℝ) : EReal) := by
  simp [Ideal.ofBits, Ideal.ieee, -EReal.coe_mul]; norm_num
theorem eps_real : ∃ x : ℝ, 0 < x ∧ eps = (x : EReal) := by
  refine ⟨_, ?_, by simp [eps, Ideal.ofBits, Ideal.ieee, -EReal.coe_mul]; rfl⟩
  norm_num

/-- The gelu's inner tanh, the gelu and its derivative. -/
def th (x : EReal) : EReal := Ideal.tanh (c0 * (x + k1 * (x * x * x)))
def gl (x : EReal) : EReal := half * x * (1 + th x)
def gd (x : EReal) : EReal := half * (1 + th x) + half * x * (1 - th x * th x) * (c0 * (1 + k3 * (x * x)))

/-- The gelu's cotangent as reverse differentiation writes it. -/
def gdR (d x : EReal) : EReal :=
  d * (half * (1 + th x)) + c0 * (half * (x * d) * ((1 + th x) * (1 - th x)))
    + k1 * (c0 * (half * (x * d) * ((1 + th x) * (1 - th x)))) * (Ideal.ofBits .f32 0x40400000#32 * (x * x))

theorem th_real {x : EReal} (h : IsReal x) : IsReal (th x) := by
  obtain ⟨a, rfl⟩ := h
  obtain ⟨c, hc⟩ := c0_real
  unfold th
  rw [hc]
  simp only [← EReal.coe_mul, ← EReal.coe_add]
  exact ⟨_, Ideal.tanh_coe _⟩
theorem half_real : IsReal half := ⟨_, half_eq⟩
theorem gl_real {x : EReal} (h : IsReal x) : IsReal (gl x) := (half_real.mul h).mul (IsReal.one.add (th_real h))

theorem gd_eq {d x : EReal} (hd : IsReal d) (hx : IsReal x) : gdR d x = d * gd x := by
  obtain ⟨t, ht⟩ := th_real hx
  obtain ⟨d, rfl⟩ := hd
  obtain ⟨x, rfl⟩ := hx
  obtain ⟨c, hc⟩ := c0_real
  unfold gdR gd
  rw [ht, hc, half_eq, c3, ← EReal.coe_one]
  simp only [← EReal.coe_mul, ← EReal.coe_add, ← EReal.coe_sub]
  exact congrArg _ (by ring)

/-- A layer norm's row: mean, centred row, its mean square with the small number, normalised row. -/
def cen (x : Fin 1024 → EReal) (k : Fin 1024) : EReal := x k - Ideal.div (∑ j, x j) len
def ms (x : Fin 1024 → EReal) : EReal := Ideal.div (∑ j, cen x j * cen x j) len + eps
def hat (x : Fin 1024 → EReal) (k : Fin 1024) : EReal := cen x k * Ideal.rsqrt (ms x)
/-- Its cotangent, in the kernel's closed form -/
def lnb (x d : Fin 1024 → EReal) (k : Fin 1024) : EReal :=
  Ideal.rsqrt (ms x) * (d k - Ideal.div (∑ j, d j) len - hat x k * Ideal.div (∑ j, d j * hat x j) len)
/-- and as reverse differentiation writes it. -/
def lnq (x d : Fin 1024 → EReal) : EReal :=
  Ideal.div ((∑ j, cen x j * d j) * (Ideal.ofBits .f32 0xBF000000#32 * Ideal.div (Ideal.rsqrt (ms x)) (ms x))) len
def lnp (x d : Fin 1024 → EReal) (k : Fin 1024) : EReal := lnq x d * (Ideal.ofBits .f32 0x40000000#32 * cen x k)
def lnR (x d : Fin 1024 → EReal) (k : Fin 1024) : EReal :=
  d k * Ideal.rsqrt (ms x) + lnp x d k
    + Ideal.div ((∑ j, -(d j * Ideal.rsqrt (ms x))) + ∑ j, -(lnp x d j)) len

section
variable (x : Fin 1024 → ℝ)
/-- A real row's centred row. -/
def rcen (k : Fin 1024) : ℝ := x k - (∑ j, x j) / 1024
theorem cen_coe : cen (fun j => (x j : EReal)) = fun k => ((rcen x k : ℝ) : EReal) := by
  funext k
  unfold cen rcen
  rw [Lift.coe_sum, len_eq, Lift.div_coe_coe (by norm_num), ← EReal.coe_sub]
theorem sum_rcen : ∑ k, rcen x k = 0 := by
  unfold rcen
  rw [Finset.sum_sub_distrib, Finset.sum_const, Finset.card_univ, Fintype.card_fin, nsmul_eq_mul]
  norm_num
  ring
theorem ms_coe : ∃ v : ℝ, 0 < v ∧ ms (fun j => (x j : EReal)) = (v : EReal) := by
  obtain ⟨e, he, hE⟩ := eps_real
  refine ⟨(∑ j, rcen x j * rcen x j) / 1024 + e, ?_, ?_⟩
  · have : 0 ≤ ∑ j, rcen x j * rcen x j := Finset.sum_nonneg fun j _ => mul_self_nonneg _
    positivity
  · unfold ms
    rw [cen_coe, hE, len_eq]
    simp only [← EReal.coe_mul, Lift.coe_sum]
    rw [Lift.div_coe_coe (by norm_num), ← EReal.coe_add]
end

theorem hat_real {x : Fin 1024 → EReal} (h : ∀ k, IsReal (x k)) (k : Fin 1024) : IsReal (hat x k) := by
  choose y hy using h
  obtain rfl : x = fun j => ((y j : ℝ) : EReal) := funext hy
  obtain ⟨v, hv, hV⟩ := ms_coe y
  unfold hat
  rw [hV, cen_coe, Lift.rsqrt_coe_pos hv]
  exact (IsReal.coe _).mul (IsReal.coe _)

theorem ln_eq {x d : Fin 1024 → EReal} (h : ∀ k, IsReal (x k)) (hd : ∀ k, IsReal (d k)) (k : Fin 1024) : lnR x d k = lnb x d k := by
  choose y hy using h
  choose e he using hd
  obtain rfl : x = fun j => ((y j : ℝ) : EReal) := funext hy
  obtain rfl : d = fun j => ((e j : ℝ) : EReal) := funext he
  obtain ⟨v, hv, hV⟩ := ms_coe y
  have h2 := Lift.inv_sqrt_sq hv
  have h1024 : (1024 : ℝ) ≠ 0 := by norm_num
  have hs := sum_rcen y
  unfold lnR lnb lnp lnq hat
  simp only [hV, cen_coe, Lift.rsqrt_coe_pos hv, len_eq, LossHead.cneghalf, LossHead.c2]
  simp only [← EReal.coe_mul, ← EReal.coe_neg, Lift.coe_sum, Lift.div_coe_coe h1024, Lift.div_coe_coe hv.ne', ← EReal.coe_sub, ← EReal.coe_add]
  refine congrArg _ ?_
  generalize (Real.sqrt v)⁻¹ = q at *
  generalize rcen y = w at *
  have e1 : ∑ j, e j * (w j * q) = q * ∑ j, w j * e j := by
    rw [Finset.mul_sum]; exact Finset.sum_congr rfl fun j _ => by ring
  generalize ∑ j, w j * e j = T at *
  have e2 : ∑ j, -(T * (-(1 / 2) * (q / v)) / 1024 * (2 * w j)) = 0 := by
    rw [← mul_zero (T * (q / v) / 1024), ← hs, Finset.mul_sum]; exact Finset.sum_congr rfl fun j _ => by ring
  have e3 : ∑ j, -(e j * q) = - (q * ∑ j, e j) := by
    rw [Finset.mul_sum, ← Finset.sum_neg_distrib]; exact Finset.sum_congr rfl fun j _ => by ring
  rw [e1, e2, e3, div_eq_mul_inv q v, ← h2]
  ring

/-! ## The rows of the call -/

/-- Row `i` of block `n`, and a row's block and place there. -/
abbrev row (n i : Fin 128) : Fin 16384 := ⟨128 * n.val + i.val, by omega⟩
abbrev blk (r : Fin 16384) : Fin 128 := ⟨r.val / 128, by omega⟩
abbrev lane (r : Fin 16384) : Fin 128 := ⟨r.val % 128, by omega⟩
/-- Column `j` of group `g`, and a column's group. -/
abbrev col (g : Fin 8) (j : Fin 128) : Fin 1024 := ⟨128 * g.val + j.val, by omega⟩
abbrev grp (k : Fin 1024) : Fin 8 := ⟨k.val / 128, by omega⟩

theorem blk_row (n i : Fin 128) : blk (row n i) = n := Fin.ext (show (128 * n.val + i.val) / 128 = n.val by omega)
theorem lane_row (n i : Fin 128) : lane (row n i) = i := Fin.ext (show (128 * n.val + i.val) % 128 = i.val by omega)
theorem grp_col (g : Fin 8) (j : Fin 128) : grp (col g j) = g := Fin.ext (show (128 * g.val + j.val) / 128 = g.val by omega)
theorem row_blk (r : Fin 16384) : row (blk r) (lane r) = r := Fin.ext (show 128 * (r.val / 128) + r.val % 128 = r.val by omega)
theorem exists_row (r : Fin 16384) : ∃ n i, r = row n i := ⟨blk r, lane r, (row_blk r).symm⟩
theorem exists_col (k : Fin 1024) : ∃ g j, k = col g j :=
  ⟨grp k, ⟨k.val % 128, by omega⟩, Fin.ext (show k.val = 128 * (k.val / 128) + k.val % 128 by omega)⟩

/-- The argument rows of the call: the branch's two halves and the gate's logit, the branch's cotangent, the layer norm's gain and
    shift, the spatial matrices and biases of the eight groups, and the branch's output matrix. -/
structure Args where
  U : Fin 16384 → Fin 1024 → EReal
  V : Fin 16384 → Fin 1024 → EReal
  Z : Fin 16384 → Fin 1024 → EReal
  G : Fin 16384 → Fin 1024 → EReal
  lg : Fin 1024 → EReal
  lb : Fin 1024 → EReal
  sw : Fin 8 → Fin 128 → Fin 128 → EReal
  sb : Fin 8 → Fin 128 → EReal
  w : Fin 1024 → Fin 1024 → EReal

namespace Args

variable (a : Args) (r : Fin 16384)

/-- The spatial matrices with their mask: a place sees its own half and the halves before it. -/
def wm (g : Fin 8) (i j : Fin 128) : EReal := if j.val / 64 ≤ i.val / 64 then a.sw g i j else 0
def vg (k : Fin 1024) : EReal := gl (a.V r k)
def vh (k : Fin 1024) : EReal := hat (a.vg r) k
def vn (k : Fin 1024) : EReal := a.vh r k * a.lg k + a.lb k
def mixed (k : Fin 1024) : EReal := (∑ j, a.wm (grp k) (lane r) j * a.vn (row (blk r) j) k) + a.sb (grp k) (lane r)
def dya (k : Fin 1024) : EReal := ∑ j, a.G r j * a.w k j
def sz (k : Fin 1024) : EReal := a.Z r k * Ideal.logistic (a.Z r k)
def u (k : Fin 1024) : EReal := gl (a.U r k)
def y (k : Fin 1024) : EReal := a.u r k * a.mixed r k * a.sz r k
def du (k : Fin 1024) : EReal := a.dya r k * a.mixed r k * a.sz r k * gd (a.U r k)
def dz (k : Fin 1024) : EReal :=
  a.dya r k * a.mixed r k * a.u r k * (Ideal.logistic (a.Z r k) * (1 + a.Z r k * (1 - Ideal.logistic (a.Z r k))))
def dm (k : Fin 1024) : EReal := a.dya r k * a.u r k * a.sz r k
def dvn (k : Fin 1024) : EReal := ∑ i, a.wm (grp k) i (lane r) * a.dm (row (blk r) i) k
def dv (k : Fin 1024) : EReal := lnb (a.vg r) (fun j => a.dvn r j * a.lg j) k * gd (a.V r k)
/-- The row's cotangents: of the first half, of the second, of the gate's logit. -/
def grads (q : Fin 3) (k : Fin 1024) : EReal := match q with
  | 0 => a.du r k
  | 1 => a.dv r k
  | 2 => a.dz r k

/-- The arguments the call reads are real numbers. -/
structure Real : Prop where
  U : ∀ r k, IsReal (a.U r k)
  V : ∀ r k, IsReal (a.V r k)
  Z : ∀ r k, IsReal (a.Z r k)
  G : ∀ r k, IsReal (a.G r k)
  lg : ∀ k, IsReal (a.lg k)
  lb : ∀ k, IsReal (a.lb k)
  sw : ∀ g i j, IsReal (a.sw g i j)
  sb : ∀ g i, IsReal (a.sb g i)
  w : ∀ i j, IsReal (a.w i j)

variable {a} (h : a.Real) (k : Fin 1024)
include h

theorem Real.wm (g : Fin 8) (i j : Fin 128) : IsReal (a.wm g i j) := IsReal.ite (h.sw g i j) IsReal.zero
theorem Real.vg : IsReal (a.vg r k) := gl_real (h.V r k)
theorem Real.vn : IsReal (a.vn r k) := ((hat_real (h.vg r) k).mul (h.lg k)).add (h.lb k)
theorem Real.mixed : IsReal (a.mixed r k) := (IsReal.sum _ fun j => (h.wm _ _ j).mul (h.vn _ k)).add (h.sb _ _)
theorem Real.dya : IsReal (a.dya r k) := IsReal.sum _ fun j => (h.G r j).mul (h.w k j)
theorem Real.sz : IsReal (a.sz r k) := (h.Z r k).mul (h.Z r k).logistic
theorem Real.u : IsReal (a.u r k) := gl_real (h.U r k)
theorem Real.dm : IsReal (a.dm r k) := ((h.dya r k).mul (h.u r k)).mul (h.sz r k)
theorem Real.dvn : IsReal (a.dvn r k) := IsReal.sum _ fun i => (h.wm _ i _).mul (h.dm _ k)

/-- The three cotangents as reverse differentiation writes them. -/
theorem Real.du_eq : gdR (a.dya r k * a.sz r k * a.mixed r k) (a.U r k) = a.du r k := by
  rw [gd_eq (((h.dya r k).mul (h.sz r k)).mul (h.mixed r k)) (h.U r k), mul_right_comm (G := EReal) (a.dya r k)]
  rfl
theorem Real.dv_eq : gdR (lnR (a.vg r) (fun j => a.dvn r j * a.lg j) k) (a.V r k) = a.dv r k := by
  have hd : ∀ j, IsReal (a.dvn r j * a.lg j) := fun j => (h.dvn r j).mul (h.lg j)
  rw [gd_eq ?_ (h.V r k), ln_eq (h.vg r) hd]
  · rfl
  · rw [ln_eq (h.vg r) hd]
    have hh := hat_real (h.vg r)
    have hq : IsReal (Ideal.rsqrt (ms (a.vg r))) := by
      choose y hy using h.vg r
      obtain ⟨v, hv, hV⟩ := ms_coe y
      rw [show a.vg r = fun j => ((y j : ℝ) : EReal) from funext hy, hV, Lift.rsqrt_coe_pos hv]
      exact IsReal.coe _
    have hlen : ∀ {x : EReal}, IsReal x → IsReal (Ideal.div x len) := fun {x} hx => by
      obtain ⟨x, rfl⟩ := hx
      rw [len_eq, Lift.div_coe_coe (by norm_num)]
      exact IsReal.coe _
    exact hq.mul (((hd k).sub (hlen (IsReal.sum _ hd))).sub ((hh k).mul (hlen (IsReal.sum _ fun j => (hd j).mul (hh j)))))
theorem Real.dz_eq :
    a.u r k * a.mixed r k * a.dya r k * Ideal.logistic (a.Z r k)
      + a.Z r k * (a.u r k * a.mixed r k * a.dya r k) * (Ideal.logistic (a.Z r k) * (1 - Ideal.logistic (a.Z r k))) = a.dz r k := by
  unfold Args.dz
  obtain ⟨b, hb⟩ := h.u r k
  obtain ⟨u, hu⟩ := h.mixed r k
  obtain ⟨d, hd⟩ := h.dya r k
  obtain ⟨z, hz⟩ := h.Z r k
  obtain ⟨s, hs⟩ := (h.Z r k).logistic
  rw [hs, hz, hb, hu, hd, ← EReal.coe_one]
  simp only [← EReal.coe_mul, ← EReal.coe_add, ← EReal.coe_sub]
  exact congrArg _ (by ring)

end Args

end Cert.BwdA

end
-- ==== Proof.BwdASteps.lean ====
/- The spatial gating branch's backward call: what a tile's stores of 32 blocks of 128 rows and 128 columns leave in a buffer, and
   what 32 additions to eight matrices leave, one store at a time. Hand-written, untrusted. -/
module

public import proofs.«01_k».proof.Proof.Gen.Kernel5Ideal.Value
public import Idealize.ShloMosaic.Lib.Pipeline.ReadBack
public import proofs.«01_k».proof.Proof.Blocks
public import proofs.«01_k».proof.Proof.BwdARows

@[expose] public section

noncomputable section

open Idealize.ShloMosaic Idealize.ShloMosaic.TcCoe Idealize.SL.Sem
open scoped BigOperators

namespace Cert.Kernel5Ideal.Value

open Cert.Kernel5Ideal Cert.Kernel5Ideal.Gen Cert.BwdA Cert.Blocks

/-- A tile's row from its block and its place there, a row's block, and a row's place. -/
abbrev trow (b : Fin 4) (i : Fin 128) : Fin 512 := ⟨128 * b.val + i.val, by omega⟩
abbrev tblk (s : Fin 512) : Fin 4 := ⟨s.val / 128, by omega⟩
abbrev tlane (s : Fin 512) : Fin 128 := ⟨s.val % 128, by omega⟩

section
variable {e : EltTy}

/-- The first `n` blocks of the buffer, eight to a block of rows, hold `f`. -/
def Filled (n : ℕ) (L : List (View.Piece (Elt Ideal) S512x1024 e)) (f : Fin 512 → Fin 1024 → Elt Ideal e) : Prop :=
  ∀ s k, 8 * (s.val / 128) + k.val / 128 < n → View.canon L (ix2 s k) = f s k

variable {n o p g : ℕ} {L : List (View.Piece (Elt Ideal) S512x1024 e)} {f : Fin 512 → Fin 1024 → Elt Ideal e}

theorem fill_nil : Filled (e := e) 0 [] f := fun _ _ h => absurd h (Nat.not_lt_zero _)

theorem fill_step (hL : Filled n L f) (ho : o = 128 * (n / 8)) (hp : p = 128 * (n % 8))
    (inb : ∀ a, (![o, p] : Fin 2 → ℕ) a + (![128, 128] : Fin 2 → ℕ) a ≤ S512x1024.size a) (P : S128x128.Idx → Elt Ideal e)
    (hP : ∀ (i j : Fin 128) (s : Fin 512) (k : Fin 1024), s.val = o + i.val → k.val = p + j.val → P (ix2 i j) = f s k) :
    Filled (n + 1) (⟨Rect.unit (s := S512x1024) ![o, p] ![128, 128] inb, P⟩ :: L) f := fun s k h => by
  by_cases hk : 8 * (s.val / 128) + k.val / 128 = n
  · have e1 : s.val = o + (s.val - o) := by omega
    have e2 : k.val = p + (k.val - p) := by omega
    exact (canon_at inb P L s ⟨s.val - o, by omega⟩ k ⟨k.val - p, by omega⟩ e1 e2).trans (hP _ _ s k e1 e2)
  · refine (canon_off inb P L s k ?_).trans (hL s k (by omega))
    by_cases h1 : s.val / 128 = n / 8
    · rcases Nat.lt_or_ge (k.val / 128) (n % 8) with h2 | h2
      · exact Or.inr (Or.inr (Or.inl (by omega)))
      · exact Or.inr (Or.inr (Or.inr (by omega)))
    · rcases Nat.lt_or_ge (s.val / 128) (n / 8) with h2 | h2
      · exact Or.inl (by omega)
      · exact Or.inr (Or.inl (by omega))
end

/-! ## The three kinds of block -/

/-- A block of the mixed rows: a group's matrix on the block's rows, and its bias. -/
def mixB (W : FVec Ideal S8x128x128 .bf16) (B : FVec Ideal S128x1024 .f32) (X : Fin 512 → Fin 1024 → EReal) (s : Fin 512)
    (k : Fin 1024) : EReal :=
  (∑ x, W (ix3 (grp k) (tlane s) x) * X (trow (tblk s) x) k) + B (ix2 (tlane s) k)

/-- A block of a product alone. -/
def mulB (W : FVec Ideal S8x128x128 .bf16) (X : Fin 512 → Fin 1024 → EReal) (s : Fin 512) (k : Fin 1024) : EReal :=
  ∑ x, W (ix3 (grp k) (tlane s) x) * X (trow (tblk s) x) k

theorem pay_mix (W : Vec Ideal S1x128x128 .bf16) (X : Vec Ideal S128x128 .bf16) (B : Vec Ideal S128x128 .f32) (i j : Fin 128) :
    k0_pay29 W X B (ix2 i j) = (∑ x, W (ix3 0 i x) * X (ix2 x j)) + B (ix2 i j) := by
  pointwise [k0_pay29]
theorem pay_mul (X : Vec Ideal S128x128 .bf16) (W : Vec Ideal S1x128x128 .bf16) (i j : Fin 128) :
    k0_pay81 X W (ix2 i j) = ∑ x, W (ix3 0 i x) * X (ix2 x j) := by
  pointwise [k0_pay81]
theorem pay_acc (D : Vec Ideal S128x128 .bf16) (A : Vec Ideal S1x128x128 .f32) (X : Vec Ideal S128x128 .bf16) (i j : Fin 128) :
    k0_pay80 D A X (ix3 0 i j) = A (ix3 0 i j) + ∑ x, D (ix2 i x) * X (ix2 j x) := by
  pointwise [k0_pay80]
theorem pay_add (A : Vec Ideal S1x128x128 .f32) (D : Vec Ideal S128x128 .f32) (i j : Fin 128) :
    k0_pay86 A D (ix3 0 i j) = A (ix3 0 i j) + D (ix2 i j) := by
  pointwise [k0_pay86]

section
variable {n o p g : ℕ} {L : List (View.Piece (Elt Ideal) S512x1024 .f32)} {VL : List (View.Piece (Elt Ideal) S512x1024 .bf16)}
  {X : Fin 512 → Fin 1024 → EReal} (V : View sig .tc .vmem S512x1024 .bf16)
  (i1 : ∀ a, (![g, 0, 0] : Fin 3 → ℕ) a + (![1, 128, 128] : Fin 3 → ℕ) a ≤ S8x128x128.size a)
  (i2 i4 : ∀ a, (![o, p] : Fin 2 → ℕ) a + (![128, 128] : Fin 2 → ℕ) a ≤ S512x1024.size a)
  (W : FVec Ideal S8x128x128 .bf16)

theorem mix_step (B : FVec Ideal S128x1024 .f32)
    (i3 : ∀ a, (![0, p] : Fin 2 → ℕ) a + (![128, 128] : Fin 2 → ℕ) a ≤ S128x1024.size a)
    (hV : ∀ s k, View.canon VL (ix2 s k) = X s k)
    (hL : Filled n L (mixB W B X)) (ho : o = 128 * (n / 8)) (hp : p = 128 * (n % 8)) (hg : g = n % 8) :
    Filled (n + 1) (⟨Rect.unit (s := S512x1024) ![o, p] ![128, 128] i4,
      k0_pay29 (View.ld W (Rect.unit (s := S8x128x128) ![g, 0, 0] ![1, 128, 128] i1))
        (V.readCov VL (Rect.unit (s := S512x1024) ![o, p] ![128, 128] i2).toLoadRect)
        (View.ld B (Rect.unit (s := S128x1024) ![0, p] ![128, 128] i3))⟩ :: L) (mixB W B X) :=
  fill_step hL ho hp i4 _ fun i j s k hs hk => by
    refine (pay_mix _ _ _ i j).trans (congrArg₂ (· + ·) (Finset.sum_congr (M := EReal) rfl fun x _ => congrArg₂ (· * ·) ?_ ?_) ?_)
    · refine Eq.trans (ld_slab (Val := Elt Ideal) (e := .bf16) i1 W (grp k) (show k.val / 128 = g by omega) i x) ?_
      exact congrArg (fun i => W (ix3 (grp k) i x)) (Fin.ext (show i.val = s.val % 128 by omega))
    · exact (readCov_at V i2 VL (trow (tblk s) x) x k j (show 128 * (s.val / 128) + x.val = o + x.val by omega) hk).trans (hV _ k)
    · have e := emb i3 (tlane s) i k j (show s.val % 128 = 0 + i.val by omega) hk
      exact congrArg B e

theorem mul_step (hV : ∀ s k, View.canon VL (ix2 s k) = X s k)
    (hL : Filled n L (mulB W X)) (ho : o = 128 * (n / 8)) (hp : p = 128 * (n % 8)) (hg : g = n % 8) :
    Filled (n + 1) (⟨Rect.unit (s := S512x1024) ![o, p] ![128, 128] i4,
      k0_pay81 (V.readCov VL (Rect.unit (s := S512x1024) ![o, p] ![128, 128] i2).toLoadRect)
        (View.ld W (Rect.unit (s := S8x128x128) ![g, 0, 0] ![1, 128, 128] i1))⟩ :: L) (mulB W X) :=
  fill_step hL ho hp i4 _ fun i j s k hs hk => by
    refine (pay_mul _ _ i j).trans (Finset.sum_congr (M := EReal) rfl fun x _ => congrArg₂ (· * ·) ?_ ?_)
    · refine Eq.trans (ld_slab (Val := Elt Ideal) (e := .bf16) i1 W (grp k) (show k.val / 128 = g by omega) i x) ?_
      exact congrArg (fun i => W (ix3 (grp k) i x)) (Fin.ext (show i.val = s.val % 128 by omega))
    · exact (readCov_at V i2 VL (trow (tblk s) x) x k j (show 128 * (s.val / 128) + x.val = o + x.val by omega) hk).trans (hV _ k)
end

/-! ## Additions to the eight matrices -/

/-- After the first `n` additions, eight to a block of rows, the matrices hold their contents before and the additions since. The
    contents before are in the buffer from the start where `z` holds, else from each matrix's first addition. -/
def Added (z : Prop) (n : ℕ) (L : List (View.Piece (Elt Ideal) S8x128x128 .f32)) (A : Fin 8 → Fin 128 → Fin 128 → EReal)
    (F : ℕ → Fin 8 → Fin 128 → Fin 128 → EReal) : Prop :=
  ∀ g i j, z ∨ g.val < n → View.canon L (ix3 g i j) = A g i j + ∑ b ∈ Finset.range ((n + 7 - g.val) / 8), F b g i j

section
variable {z : Prop} {n o : ℕ} {L : List (View.Piece (Elt Ideal) S8x128x128 .f32)} {A : Fin 8 → Fin 128 → Fin 128 → EReal}
  {F : ℕ → Fin 8 → Fin 128 → Fin 128 → EReal}

theorem add_nil : Added False 0 [] A F := fun _ _ _ h => absurd h (by simp)

theorem add_zero' (inb : ∀ a, (![0, 0, 0] : Fin 3 → ℕ) a + (![8, 128, 128] : Fin 3 → ℕ) a ≤ S8x128x128.size a)
    (P : S8x128x128.Idx → Elt Ideal .f32) (hP : ∀ g i j, P (ix3 g i j) = A g i j) :
    Added True 0 [⟨Rect.unit (s := S8x128x128) ![0, 0, 0] ![8, 128, 128] inb, P⟩] A F := fun g i j _ => by
  rw [show (0 + 7 - g.val) / 8 = 0 by omega, Finset.sum_range_zero, add_zero (M := EReal)]
  exact (canon_all inb P g i j).trans (hP g i j)

variable (i1 i4 : ∀ a, (![o, 0, 0] : Fin 3 → ℕ) a + (![1, 128, 128] : Fin 3 → ℕ) a ≤ S8x128x128.size a)

theorem add_any (hL : Added z n L A F) (ho : o = n % 8) (P : S1x128x128.Idx → Elt Ideal .f32)
    (hP : ∀ (g : Fin 8) i j, g.val = o → P (ix3 0 i j) = A g i j + ∑ b ∈ Finset.range (n / 8), F b g i j + F (n / 8) g i j) :
    Added z (n + 1) (⟨Rect.unit (s := S8x128x128) ![o, 0, 0] ![1, 128, 128] i4, P⟩ :: L) A F := fun g i j h => by
  by_cases hg : g.val = o
  · rw [show (n + 1 + 7 - g.val) / 8 = n / 8 + 1 by omega, Finset.sum_range_succ, ← add_assoc (G := EReal)]
    exact (canon_slab i4 P L g hg i j).trans (hP g i j hg)
  · rw [show (n + 1 + 7 - g.val) / 8 = (n + 7 - g.val) / 8 by omega]
    exact (canon_other i4 P L g hg i j).trans (hL g i j (h.imp id fun h => by omega))

/-- The matrix before an addition, read from the stores so far, -/
theorem prev_read {κ : Kind} {sp : Space} (V : View sig κ sp S8x128x128 .f32) (hL : Added z n L A F) (ho : o = n % 8) (hz : z ∨ 8 ≤ n) (g : Fin 8) (hg : g.val = o)
    (i j : Fin 128) :
    V.readCov L (Rect.unit (s := S8x128x128) ![o, 0, 0] ![1, 128, 128] i1).toLoadRect (ix3 0 i j : S1x128x128.Idx)
      = A g i j + ∑ b ∈ Finset.range (n / 8), F b g i j := by
  refine (readCov_slab V i1 L g hg i j).trans ((hL g i j (hz.imp id fun h => by omega)).trans ?_)
  rw [show (n + 7 - g.val) / 8 = n / 8 by omega]
/-- or from the contents before. -/
theorem prev_ld (X : S8x128x128.Idx → Elt Ideal .f32) (hX : ∀ g i j, X (ix3 g i j) = A g i j) (hn : n < 8) (g : Fin 8) (hg : g.val = o)
    (i j : Fin 128) :
    View.ld X (Rect.unit (s := S8x128x128) ![o, 0, 0] ![1, 128, 128] i1) (ix3 0 i j : S1x128x128.Idx)
      = A g i j + ∑ b ∈ Finset.range (n / 8), F b g i j := by
  rw [show n / 8 = 0 by omega, Finset.sum_range_zero, add_zero (M := EReal)]
  exact (ld_slab i1 X g hg i j).trans (hX g i j)

variable {p q : ℕ} {DL VL : List (View.Piece (Elt Ideal) S512x1024 .bf16)} {ML : List (View.Piece (Elt Ideal) S512x1024 .f32)}
  {D X : Fin 512 → Fin 1024 → EReal} (V V' : View sig .tc .vmem S512x1024 .bf16) (V'' : View sig .tc .vmem S512x1024 .f32)
  (i2 i3 : ∀ a, (![p, q] : Fin 2 → ℕ) a + (![128, 128] : Fin 2 → ℕ) a ≤ S512x1024.size a)

/-- A block's part of the spatial matrices' cotangent and of the biases' one. -/
def dwB (D X : Fin 512 → Fin 1024 → EReal) (b : ℕ) (g : Fin 8) (i j : Fin 128) : EReal :=
  ∑ x, D (trow ⟨b % 4, by omega⟩ i) (col g x) * X (trow ⟨b % 4, by omega⟩ j) (col g x)
def dbB (D : Fin 512 → Fin 1024 → EReal) (b : ℕ) (g : Fin 8) (i j : Fin 128) : EReal := D (trow ⟨b % 4, by omega⟩ i) (col g j)

theorem dw_step (hD : ∀ s k, View.canon DL (ix2 s k) = D s k) (hV : ∀ s k, View.canon VL (ix2 s k) = X s k)
    (hL : Added z n L A (dwB D X)) (hn : n < 32) (ho : o = n % 8) (hp : p = 128 * (n / 8)) (hq : q = 128 * (n % 8)) (R : Vec Ideal S1x128x128 .f32)
    (hR : ∀ (g : Fin 8) i j, g.val = o → R (ix3 0 i j) = A g i j + ∑ b ∈ Finset.range (n / 8), dwB D X b g i j) :
    Added z (n + 1) (⟨Rect.unit (s := S8x128x128) ![o, 0, 0] ![1, 128, 128] i4,
      k0_pay80 (V.readCov DL (Rect.unit (s := S512x1024) ![p, q] ![128, 128] i2).toLoadRect) R
        (V'.readCov VL (Rect.unit (s := S512x1024) ![p, q] ![128, 128] i3).toLoadRect)⟩ :: L) A (dwB D X) :=
  add_any i4 hL ho _ fun g i j hg => by
    refine (pay_acc _ _ _ i j).trans (congrArg₂ (· + ·) (hR g i j hg) (Finset.sum_congr (M := EReal) rfl fun x _ => congrArg₂ (· * ·) ?_ ?_))
    · exact (readCov_at V i2 DL (trow ⟨n / 8 % 4, by omega⟩ i) i (col g x) x (show 128 * (n / 8 % 4) + i.val = p + i.val by omega)
        (show 128 * g.val + x.val = q + x.val by omega)).trans (hD _ _)
    · exact (readCov_at V' i3 VL (trow ⟨n / 8 % 4, by omega⟩ j) j (col g x) x (show 128 * (n / 8 % 4) + j.val = p + j.val by omega)
        (show 128 * g.val + x.val = q + x.val by omega)).trans (hV _ _)

theorem db_step (hD : ∀ s k, View.canon ML (ix2 s k) = D s k)
    (hL : Added z n L A (dbB D)) (hn : n < 32) (ho : o = n % 8) (hp : p = 128 * (n / 8)) (hq : q = 128 * (n % 8)) (R : Vec Ideal S1x128x128 .f32)
    (hR : ∀ (g : Fin 8) i j, g.val = o → R (ix3 0 i j) = A g i j + ∑ b ∈ Finset.range (n / 8), dbB D b g i j) :
    Added z (n + 1) (⟨Rect.unit (s := S8x128x128) ![o, 0, 0] ![1, 128, 128] i4,
      k0_pay86 R (V''.readCov ML (Rect.unit (s := S512x1024) ![p, q] ![128, 128] i2).toLoadRect)⟩ :: L) A (dbB D) :=
  add_any i4 hL ho _ fun g i j hg => by
    refine (pay_add _ _ i j).trans (congrArg₂ (· + ·) (hR g i j hg) ?_)
    exact (readCov_at V'' i2 ML (trow ⟨n / 8 % 4, by omega⟩ i) i (col g j) j (show 128 * (n / 8 % 4) + i.val = p + i.val by omega)
      (show 128 * g.val + j.val = q + j.val by omega)).trans (hD _ _)

/-! The same, with the matrix before read from the stores so far, or from the contents before. -/
theorem dw_next {κ : Kind} {sp : Space} (U : View sig κ sp S8x128x128 .f32) (hD : ∀ s k, View.canon DL (ix2 s k) = D s k)
    (hV : ∀ s k, View.canon VL (ix2 s k) = X s k) (hL : Added z n L A (dwB D X)) (hz : z ∨ 8 ≤ n) (hn : n < 32) (ho : o = n % 8)
    (hp : p = 128 * (n / 8)) (hq : q = 128 * (n % 8)) :
    Added z (n + 1) (⟨Rect.unit (s := S8x128x128) ![o, 0, 0] ![1, 128, 128] i4,
      k0_pay80 (V.readCov DL (Rect.unit (s := S512x1024) ![p, q] ![128, 128] i2).toLoadRect)
        (U.readCov L (Rect.unit (s := S8x128x128) ![o, 0, 0] ![1, 128, 128] i1).toLoadRect)
        (V'.readCov VL (Rect.unit (s := S512x1024) ![p, q] ![128, 128] i3).toLoadRect)⟩ :: L) A (dwB D X) :=
  dw_step i4 V V' i2 i3 hD hV hL hn ho hp hq _ fun g i j hg => prev_read i1 U hL ho hz g hg i j
theorem dw_open (Y : FVec Ideal S8x128x128 .f32) (hY : ∀ g i j, Y (ix3 g i j) = A g i j) (hD : ∀ s k, View.canon DL (ix2 s k) = D s k)
    (hV : ∀ s k, View.canon VL (ix2 s k) = X s k) (hL : Added z n L A (dwB D X)) (hn : n < 8) (ho : o = n % 8)
    (hp : p = 128 * (n / 8)) (hq : q = 128 * (n % 8)) :
    Added z (n + 1) (⟨Rect.unit (s := S8x128x128) ![o, 0, 0] ![1, 128, 128] i4,
      k0_pay80 (V.readCov DL (Rect.unit (s := S512x1024) ![p, q] ![128, 128] i2).toLoadRect)
        (View.ld Y (Rect.unit (s := S8x128x128) ![o, 0, 0] ![1, 128, 128] i1))
        (V'.readCov VL (Rect.unit (s := S512x1024) ![p, q] ![128, 128] i3).toLoadRect)⟩ :: L) A (dwB D X) :=
  dw_step i4 V V' i2 i3 hD hV hL (by omega) ho hp hq _ fun g i j hg => prev_ld i1 Y hY hn g hg i j
theorem db_next {κ : Kind} {sp : Space} (U : View sig κ sp S8x128x128 .f32) (hD : ∀ s k, View.canon ML (ix2 s k) = D s k)
    (hL : Added z n L A (dbB D)) (hz : z ∨ 8 ≤ n) (hn : n < 32) (ho : o = n % 8) (hp : p = 128 * (n / 8)) (hq : q = 128 * (n % 8)) :
    Added z (n + 1) (⟨Rect.unit (s := S8x128x128) ![o, 0, 0] ![1, 128, 128] i4,
      k0_pay86 (U.readCov L (Rect.unit (s := S8x128x128) ![o, 0, 0] ![1, 128, 128] i1).toLoadRect)
        (V''.readCov ML (Rect.unit (s := S512x1024) ![p, q] ![128, 128] i2).toLoadRect)⟩ :: L) A (dbB D) :=
  db_step i4 V'' i2 hD hL hn ho hp hq _ fun g i j hg => prev_read i1 U hL ho hz g hg i j
theorem db_open (Y : FVec Ideal S8x128x128 .f32) (hY : ∀ g i j, Y (ix3 g i j) = A g i j) (hD : ∀ s k, View.canon ML (ix2 s k) = D s k)
    (hL : Added z n L A (dbB D)) (hn : n < 8) (ho : o = n % 8) (hp : p = 128 * (n / 8)) (hq : q = 128 * (n % 8)) :
    Added z (n + 1) (⟨Rect.unit (s := S8x128x128) ![o, 0, 0] ![1, 128, 128] i4,
      k0_pay86 (View.ld Y (Rect.unit (s := S8x128x128) ![o, 0, 0] ![1, 128, 128] i1))
        (V''.readCov ML (Rect.unit (s := S512x1024) ![p, q] ![128, 128] i2).toLoadRect)⟩ :: L) A (dbB D) :=
  db_step i4 V'' i2 hD hL (by omega) ho hp hq _ fun g i j hg => prev_ld i1 Y hY hn g hg i j

theorem added_all (h : Added z 32 L A F) (g : Fin 8) (i j : Fin 128) :
    View.canon L (ix3 g i j) = A g i j + ∑ b ∈ Finset.range 4, F b g i j := by
  refine (h g i j (Or.inr (by omega))).trans ?_
  rw [show (32 + 7 - g.val) / 8 = 4 by omega]
end

/-! ## The rows' sums of the eight matrices -/

theorem pay_row (X : Vec Ideal S1x128x128 .f32) (i : Fin 128) : k0_pay5 X (ix2 0 i) = ∑ j, X (ix3 0 i j) := by
  pointwise [k0_pay5, k0_pay4]

/-- The first `n` rows hold the sums of the first `n` matrices of the list. -/
def Rowed (n : ℕ) (L : List (View.Piece (Elt Ideal) S8x128 .f32)) (K : List (View.Piece (Elt Ideal) S8x128x128 .f32)) : Prop :=
  ∀ g i, g.val < n → View.canon L (ix2 g i) = (∑ j : Fin 128, View.canon K (ix3 g i j) : EReal)

section
variable {o : ℕ} {L : List (View.Piece (Elt Ideal) S8x128 .f32)} {K : List (View.Piece (Elt Ideal) S8x128x128 .f32)}
theorem row_nil : Rowed 0 [] K := fun _ _ h => absurd h (Nat.not_lt_zero _)
theorem row_step {κ : Kind} {sp : Space} (V : View sig κ sp S8x128x128 .f32)
    (i1 : ∀ a, (![o, 0, 0] : Fin 3 → ℕ) a + (![1, 128, 128] : Fin 3 → ℕ) a ≤ S8x128x128.size a)
    (i2 : ∀ a, (![o, 0] : Fin 2 → ℕ) a + (![1, 128] : Fin 2 → ℕ) a ≤ S8x128.size a) (h : Rowed o L K) :
    Rowed (o + 1) (⟨Rect.unit (s := S8x128) ![o, 0] ![1, 128] i2,
      k0_pay5 (V.readCov K (Rect.unit (s := S8x128x128) ![o, 0, 0] ![1, 128, 128] i1).toLoadRect)⟩ :: L) K := fun g i hg => by
  by_cases e : g.val = o
  · refine (canon_at i2 _ L g 0 i i (show g.val = o + 0 by omega) (Nat.zero_add _).symm).trans ((pay_row _ i).trans ?_)
    exact Finset.sum_congr (M := EReal) rfl fun j _ => readCov_slab V i1 K g e i j
  · exact (canon_off i2 _ L g i (Or.inl (by omega))).trans (h g i (by omega))
end

end Cert.Kernel5Ideal.Value

end
-- ==== Proof.BwdAMask.lean ====
/- The mask of the gate's weights: which columns a row of the weights may use. Hand-written, untrusted. -/
module

public import proofs.«01_k».proof.Proof.Gen.Kernel5Ideal.Value
public import Idealize.ShloMosaic.Lib.Pipeline.ReadBack

@[expose] public section

set_option maxRecDepth 16384

noncomputable section

open Idealize.ShloMosaic Idealize.ShloMosaic.TcCoe Idealize.SL.Sem

namespace Cert.Kernel5Ideal.Value

open Cert.Kernel5Ideal

set_option maxHeartbeats 4000000 in
/-- The mask's table: one where the column's half of the block is not after the row's. -/
theorem table : ∀ a b : Fin 128, lit0t (a.val * 128 + b.val) = if b.val / 64 ≤ a.val / 64 then 1#1 else 0#1 := by decide +kernel

end Cert.Kernel5Ideal.Value

end
-- ==== Proof.BwdAKernel.lean ====
/- The spatial gating branch's backward call: the kernel's blocks at one tile, by rows of the argument arrays. Hand-written, untrusted. -/
module

public import proofs.«01_k».proof.Proof.BwdASteps
public import proofs.«01_k».proof.Proof.BwdAMask
public import proofs.«01_k».proof.Proof.Lift
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen Cert.BwdA Cert.Blocks

variable (m : (ℓ : Loc nD τ sig) → Buf (Elt Ideal) ℓ)
variable (c : Dev nD) (t : Fin cfg0.N)

/-- The argument rows of the call, from the argument arrays. -/
def argRows (c : Dev nD) : Args where
  U r j := m (c.tc.loc main_arg0) (ix2 r ⟨j.val, by omega⟩)
  V r j := m (c.tc.loc main_arg0) (ix2 r ⟨1024 + j.val, by omega⟩)
  Z r j := m (c.tc.loc main_arg0) (ix2 r ⟨2048 + j.val, by omega⟩)
  G r j := m (c.tc.loc main_arg1) (ix2 r ⟨j.val, by omega⟩)
  lg j := m (c.tc.loc main_arg2) (ix1 j)
  lb j := m (c.tc.loc main_arg3) (ix1 j)
  sw g i j := m (c.tc.loc main_arg4) (ix3 g i j)
  sb g i := m (c.tc.loc main_arg5) (ix2 g i)
  w i j := m (c.tc.loc main_arg6) (ix2 i j)

theorem lt32 (t : Fin cfg0.N) : t.val < 32 := lt_of_lt_of_le t.isLt (le_refl 32)

/-- Row `r` of point `t`'s block, in the whole array. -/
abbrev rowAt (t : Fin cfg0.N) (r : Fin 512) : Fin 16384 :=
  ⟨512 * t.val + r.val, by have := lt32 t; omega⟩

theorem idx : ∀ t : Fin cfg0.N, win0_0.index t = ![t.val, 0] ∧ win0_1.index t = ![t.val, 1]
    ∧ win0_2.index t = ![t.val, 2] ∧ win0_3.index t = ![t.val, 0] ∧ win0_4.index t = ![0, 0]
    ∧ win0_5.index t = ![0, 0] ∧ win0_6.index t = ![0, 0, 0] ∧ win0_7.index t = ![0, 0, 0]
    ∧ win0_8.index t = ![0, 0] ∧ win0_9.index t = ![0, 0] ∧ win0_10.index t = ![t.val, 2]
    ∧ win0_11.index t = ![0, 0] ∧ win0_12.index t = ![0, 0, 0] ∧ win0_13.index t = ![0, 0]
    ∧ win0_14.index t = ![0, 0] ∧ win0_15.index t = ![0, 0] :=
  (by decide +kernel : ∀ t : Fin grid0.N, _)

theorem blk0 (r : Fin 512) (k : Fin 1024) :
    (iblk m c 0 t : FVec Ideal S512x1024 .bf16) (ix2 r k) = (argRows m c).U (rowAt t r) k := by
  refine Eq.trans ?_ (show m (c.tc.loc main_arg0) (ix2 (rowAt t r) ⟨k.val, by omega⟩) = _ from rfl)
  blk_point [iblk, V, idx t]
theorem blk1 (r : Fin 512) (k : Fin 1024) :
    (iblk m c 1 t : FVec Ideal S512x1024 .bf16) (ix2 r k) = (argRows m c).V (rowAt t r) k := by
  refine Eq.trans ?_ (show m (c.tc.loc main_arg0) (ix2 (rowAt t r) ⟨1024 + k.val, by omega⟩) = _ from rfl)
  blk_point [iblk, V, idx t]
theorem blk2 (r : Fin 512) (k : Fin 1024) :
    (iblk m c 2 t : FVec Ideal S512x1024 .bf16) (ix2 r k) = (argRows m c).Z (rowAt t r) k := by
  refine Eq.trans ?_ (show m (c.tc.loc main_arg0) (ix2 (rowAt t r) ⟨2048 + k.val, by omega⟩) = _ from rfl)
  blk_point [iblk, V, idx t]
theorem blk3 (r : Fin 512) (k : Fin 1024) :
    (iblk m c 3 t : FVec Ideal S512x1024 .bf16) (ix2 r k) = (argRows m c).G (rowAt t r) k := by
  refine Eq.trans ?_ (show m (c.tc.loc main_arg1) (ix2 (rowAt t r) ⟨k.val, by omega⟩) = _ from rfl)
  blk_point [iblk, V, idx t]
theorem mask_at (i j : Fin 128) : lit0 (S128x128.rowMajor (ix2 i j)) = if j.val / 64 ≤ i.val / 64 then 1#1 else 0#1 :=
  (congrArg lit0t (Shape.rowMajor_val_two _)).trans (table i j)
theorem zero_entry : id (constant (F := Ideal) S_ .f32 0x00000000#32) ix0 = 0 := by
  show constant (F := Ideal) S_ .f32 0x00000000#32 ix0 = 0
  pointwise
theorem V7 (c : Dev nD) (k : Fin 1024) : (V m c main_v7 : FVec Ideal S1x1024 .f32) (ix2 0 k) = (argRows m c).lg k := by
  refine Eq.trans ?_ (show m (c.tc.loc main_arg2) (ix1 k) = _ from rfl)
  unfold V
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise
theorem V8 (c : Dev nD) (k : Fin 1024) : (V m c main_v8 : FVec Ideal S1x1024 .f32) (ix2 0 k) = (argRows m c).lb k := by
  refine Eq.trans ?_ (show m (c.tc.loc main_arg3) (ix1 k) = _ from rfl)
  unfold V
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise
theorem V2 (c : Dev nD) (g : Fin 8) (i j : Fin 128) : (V m c main_v2 : FVec Ideal S8x128x128 .bf16) (ix3 g i j) = (argRows m c).wm g i j := by
  unfold V Args.wm
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise
  refine (congrArg (fun b : BitVec 1 => if b = 1#1 then _ else _) (mask_at i j)).trans ?_
  split
  · exact if_pos rfl
  · exact (if_neg (by decide)).trans zero_entry
theorem V3 (c : Dev nD) (g : Fin 8) (i j : Fin 128) : (V m c main_v3 : FVec Ideal S8x128x128 .bf16) (ix3 g i j) = (argRows m c).wm g j i := by
  unfold V Args.wm
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise
  refine (congrArg (fun b : BitVec 1 => if b = 1#1 then _ else _) (mask_at j i)).trans ?_
  split
  · exact if_pos rfl
  · exact (if_neg (by decide)).trans zero_entry
theorem V6 (c : Dev nD) (i : Fin 128) (k : Fin 1024) : (V m c main_v6 : FVec Ideal S128x1024 .f32) (ix2 i k) = (argRows m c).sb (grp k) i := by
  refine Eq.trans ?_ (show m (c.tc.loc main_arg5) (ix2 (grp k) i) = _ from rfl)
  unfold V
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise
theorem V10 (c : Dev nD) (i j : Fin 1024) : (V m c main_v10 : FVec Ideal S1024x1024 .bf16) (ix2 i j) = (argRows m c).w j i := by
  refine Eq.trans ?_ (show m (c.tc.loc main_arg6) (ix2 j i) = _ from rfl)
  unfold V
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise

theorem blk4 (k : Fin 1024) :
    (iblk m c 4 t : FVec Ideal S1x1024 .f32) (ix2 0 k) = (argRows m c).lg k := by
  refine Eq.trans ?_ (V7 m c k)
  blk_point [iblk, idx t]
theorem blk5 (k : Fin 1024) :
    (iblk m c 5 t : FVec Ideal S1x1024 .f32) (ix2 0 k) = (argRows m c).lb k := by
  refine Eq.trans ?_ (V8 m c k)
  blk_point [iblk, idx t]
theorem blk6 (g : Fin 8) (i j : Fin 128) :
    (iblk m c 6 t : FVec Ideal S8x128x128 .bf16) (ix3 g i j) = (argRows m c).wm g i j := by
  refine Eq.trans ?_ (V2 m c g i j)
  blk_point [iblk, idx t]
theorem blk7 (g : Fin 8) (i j : Fin 128) :
    (iblk m c 7 t : FVec Ideal S8x128x128 .bf16) (ix3 g i j) = (argRows m c).wm g j i := by
  refine Eq.trans ?_ (V3 m c g i j)
  blk_point [iblk, idx t]
theorem blk8 (i : Fin 128) (k : Fin 1024) :
    (iblk m c 8 t : FVec Ideal S128x1024 .f32) (ix2 i k) = (argRows m c).sb (grp k) i := by
  refine Eq.trans ?_ (V6 m c i k)
  blk_point [iblk, idx t]
theorem blk9 (i j : Fin 1024) :
    (iblk m c 9 t : FVec Ideal S1024x1024 .bf16) (ix2 i j) = (argRows m c).w j i := by
  refine Eq.trans ?_ (V10 m c i j)
  blk_point [iblk, idx t]

theorem emb10 (t : Fin cfg0.N) (r : Fin 512) (k : Fin 3072) :
    (win0_10.blk t).view.emb (ix2 r k : S512x3072.Idx) = ix2 (rowAt t r) ⟨6144 + k.val, by omega⟩ := by
  blk_ext [idx t]
theorem emb11 (t : Fin cfg0.N) (z : S1024x1024.Idx) : (win0_11.blk t).view.emb z = z := by
  blk_ext [idx t]
theorem emb12 (t : Fin cfg0.N) (z : S8x128x128.Idx) : (win0_12.blk t).view.emb z = z := by
  blk_ext [idx t]
theorem emb13 (t : Fin cfg0.N) (z : S8x128.Idx) : (win0_13.blk t).view.emb z = z := by
  blk_ext [idx t]
theorem emb14 (t : Fin cfg0.N) (z : S1x1024.Idx) : (win0_14.blk t).view.emb z = z := by
  blk_ext [idx t]
theorem emb15 (t : Fin cfg0.N) (z : S1x1024.Idx) : (win0_15.blk t).view.emb z = z := by
  blk_ext [idx t]

end Cert.Kernel5Ideal.Value

end
-- ==== Proof.BwdATile.lean ====
/- The spatial gating branch's backward call: the pieces of a tile's arithmetic, by rows of the argument arrays. Hand-written,
   untrusted. -/
module

public import proofs.«01_k».proof.Proof.BwdAKernel

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen Cert.BwdA Cert.Blocks

section
variable (B X : Vec Ideal S512x1024 .bf16) (G L : Vec Ideal S1x1024 .f32) (P Q R S T : FVec Ideal S512x1024 .f32)
  (W : Vec Ideal S1024x1024 .bf16) (A : FVec Ideal S1024x1024 .f32) (r : Fin 512) (k : Fin 1024)

theorem named_k1 : Named.named (F := Ideal) (φ := .f32) κ "gelu_k1" 0x3D372713#32 = k1 := rfl
theorem named_k3 : Named.named (F := Ideal) (φ := .f32) κ "gelu_3k1" 0x3E095D4F#32 = k3 := rfl
theorem pay_gl : k0_pay21 B (ix2 r k) = gl (B (ix2 r k)) := by
  pointwise [k0_pay21, k0_pay20, k0_pay15]
  simp only [named_k1, named_k3]
  rfl
theorem pay_vg : mulf (k0_pay23 B) (k0_pay24 B) (ix2 r k) = gl (B (ix2 r k)) := by
  pointwise [k0_pay23, k0_pay24, k0_pay22, k0_pay16]
  simp only [named_k1, named_k3]
  rfl
theorem pay_hat : k0_pay27 P Q (ix2 r k) = hat (fun k => mulf P Q (ix2 r k)) k := by
  pointwise [k0_pay27, k0_pay26, k0_pay25]
  rfl
theorem pay_rstd : k0_pay26 P Q (ix2 r 0) = Ideal.rsqrt (ms fun k => mulf P Q (ix2 r k)) := by
  pointwise [k0_pay26, k0_pay25]
  rfl
theorem pay_ln : k0_pay28 (k0_pay18 G) (k0_pay19 L) P Q (ix2 r k) = k0_pay27 P Q (ix2 r k) * G (ix2 0 k) + L (ix2 0 k) := by
  pointwise [k0_pay28, k0_pay18, k0_pay19]
theorem pay_sz : k0_pay69 (k0_pay17 B) (ix2 r k) = B (ix2 r k) * Ideal.logistic (B (ix2 r k)) := by
  pointwise [k0_pay69, k0_pay68, k0_pay17]
theorem pay_dya : k0_pay73 B W (ix2 r k) = ∑ j, B (ix2 r j) * W (ix2 j k) := by
  pointwise [k0_pay73]
theorem pay_y : k0_pay71 P Q R (ix2 r k) = Q (ix2 r k) * R (ix2 r k) * k0_pay69 P (ix2 r k) := by
  pointwise [k0_pay71]
theorem pay_w (i j : Fin 1024) : k0_pay72 B A X (ix2 i j) = A (ix2 i j) + ∑ r : Fin 512, X (ix2 r i) * B (ix2 r j) := by
  pointwise [k0_pay72]
theorem pay_du : k0_pay75 (k0_pay15 B) (k0_pay20 B) P Q X W (ix2 r k)
    = k0_pay73 X W (ix2 r k) * P (ix2 r k) * Q (ix2 r k) * gd (B (ix2 r k)) := by
  pointwise [k0_pay75, k0_pay74, k0_pay20, k0_pay15]
  simp only [named_k1, named_k3]
  rfl
theorem pay_dz : k0_pay76 P Q R S X W (ix2 r k)
    = k0_pay73 X W (ix2 r k) * R (ix2 r k) * Q (ix2 r k) * (S (ix2 r k) * (1 + P (ix2 r k) * (1 - S (ix2 r k)))) := by
  pointwise [k0_pay76, k0_pay74]
theorem pay_dmf : k0_pay78 P Q R (ix2 r k) = R (ix2 r k) * P (ix2 r k) * Q (ix2 r k) := by
  pointwise [k0_pay78, k0_pay77]
theorem pay_dm : k0_pay79 P Q R (ix2 r k) = R (ix2 r k) * P (ix2 r k) * Q (ix2 r k) := by
  pointwise [k0_pay79, k0_pay77]
theorem pay_dg : k0_pay192 P Q G (ix2 0 k) = G (ix2 0 k) + ∑ r : Fin 512, Q (ix2 r k) * P (ix2 r k) := by
  pointwise [k0_pay192]
theorem pay_db : k0_pay193 P G (ix2 0 k) = G (ix2 0 k) + ∑ r : Fin 512, P (ix2 r k) := by
  pointwise [k0_pay193]
theorem pay_lnb : k0_pay194 (k0_pay18 G) (k0_pay26 P Q) (k0_pay27 P Q) R (ix2 r k)
    = lnb (fun k => mulf P Q (ix2 r k)) (fun j => R (ix2 r j) * G (ix2 0 j)) k := by
  unfold lnb
  simp only [← pay_hat, ← pay_rstd]
  pointwise [k0_pay194, k0_pay18]
theorem pay_dv : k0_pay198 (k0_pay16 B) P (k0_pay195 (k0_pay22 B)) (k0_pay196 (k0_pay16 B)) (k0_pay197 (k0_pay22 B)) (ix2 r k)
    = P (ix2 r k) * gd (B (ix2 r k)) := by
  pointwise [k0_pay198, k0_pay195, k0_pay196, k0_pay197, k0_pay22, k0_pay16]
  simp only [named_k1, named_k3]
  rfl
end

variable (m : (ℓ : Loc nD τ sig) → Buf (Elt Ideal) ℓ) (c : Dev nD) (t : Fin cfg0.N) (s : Fin 512) (r : Fin 512) (k : Fin 1024)

theorem vg_at : mulf (k0_pay23 (iblk m c 1 t)) (k0_pay24 (iblk m c 1 t)) (ix2 r k) = (argRows m c).vg (rowAt t r) k :=
  (pay_vg _ r k).trans (congrArg gl (blk1 m c t r k))
theorem vg_row : (fun k => mulf (k0_pay23 (iblk m c 1 t)) (k0_pay24 (iblk m c 1 t)) (ix2 r k)) = (argRows m c).vg (rowAt t r) :=
  funext fun k => vg_at m c t r k
theorem vh_at : k0_pay27 (k0_pay23 (iblk m c 1 t)) (k0_pay24 (iblk m c 1 t)) (ix2 r k) = (argRows m c).vh (rowAt t r) k :=
  (pay_hat _ _ r k).trans (by rw [vg_row]; rfl)
theorem vn_at : k0_pay28 (k0_pay18 (iblk m c 4 t)) (k0_pay19 (iblk m c 5 t)) (k0_pay23 (iblk m c 1 t)) (k0_pay24 (iblk m c 1 t)) (ix2 r k)
    = (argRows m c).vn (rowAt t r) k :=
  (pay_ln _ _ _ _ r k).trans (by rw [vh_at, blk4, blk5]; rfl)
theorem u_at : k0_pay21 (iblk m c 0 t) (ix2 r k) = (argRows m c).u (rowAt t r) k := (pay_gl _ r k).trans (congrArg gl (blk0 m c t r k))
theorem sz_at : k0_pay69 (k0_pay17 (iblk m c 2 t)) (ix2 r k) = (argRows m c).sz (rowAt t r) k :=
  (pay_sz _ r k).trans (by rw [blk2]; rfl)
theorem dya_at : k0_pay73 (iblk m c 3 t) (iblk m c 9 t) (ix2 r k) = (argRows m c).dya (rowAt t r) k :=
  (pay_dya _ _ r k).trans (Finset.sum_congr (M := EReal) rfl fun j _ => by rw [blk3, blk9])
theorem dm_at : k0_pay79 (k0_pay21 (iblk m c 0 t)) (k0_pay69 (k0_pay17 (iblk m c 2 t))) (k0_pay73 (iblk m c 3 t) (iblk m c 9 t)) (ix2 r k)
    = (argRows m c).dm (rowAt t r) k :=
  (pay_dm _ _ _ r k).trans (by rw [dya_at, u_at, sz_at]; rfl)
theorem dmf_at : k0_pay78 (k0_pay21 (iblk m c 0 t)) (k0_pay69 (k0_pay17 (iblk m c 2 t))) (k0_pay73 (iblk m c 3 t) (iblk m c 9 t)) (ix2 r k)
    = (argRows m c).dm (rowAt t r) k :=
  (pay_dmf _ _ _ r k).trans (by rw [dya_at, u_at, sz_at]; rfl)

theorem y_at (M : FVec Ideal S512x1024 .f32) (hM : M (ix2 r k) = (argRows m c).mixed (rowAt t r) k) :
    k0_pay71 (k0_pay17 (iblk m c 2 t)) (k0_pay21 (iblk m c 0 t)) M (ix2 r k) = (argRows m c).y (rowAt t r) k :=
  (pay_y _ _ _ r k).trans (by rw [u_at, sz_at, hM]; rfl)
theorem du_at (M : FVec Ideal S512x1024 .f32) (hM : M (ix2 r k) = (argRows m c).mixed (rowAt t r) k) :
    k0_pay75 (k0_pay15 (iblk m c 0 t)) (k0_pay20 (iblk m c 0 t)) M (k0_pay69 (k0_pay17 (iblk m c 2 t))) (iblk m c 3 t) (iblk m c 9 t) (ix2 r k)
      = (argRows m c).du (rowAt t r) k :=
  (pay_du _ _ _ _ _ r k).trans (by rw [dya_at, sz_at, hM, blk0]; rfl)
theorem dz_at (M : FVec Ideal S512x1024 .f32) (hM : M (ix2 r k) = (argRows m c).mixed (rowAt t r) k) :
    k0_pay76 (k0_pay17 (iblk m c 2 t)) (k0_pay21 (iblk m c 0 t)) M (logistic (k0_pay17 (iblk m c 2 t))) (iblk m c 3 t) (iblk m c 9 t) (ix2 r k)
      = (argRows m c).dz (rowAt t r) k :=
  (pay_dz _ _ _ _ _ _ r k).trans (by
    rw [dya_at, u_at, hM, show k0_pay17 (iblk m c 2 t) (ix2 r k) = (argRows m c).Z (rowAt t r) k from blk2 m c t r k,
      show logistic (k0_pay17 (iblk m c 2 t)) (ix2 r k) = Ideal.logistic ((argRows m c).Z (rowAt t r) k) from congrArg Ideal.logistic (blk2 m c t r k)]
    rfl)
theorem dv_at (D : FVec Ideal S512x1024 .f32) (hD : ∀ k, D (ix2 r k) = (argRows m c).dvn (rowAt t r) k) :
    k0_pay198 (k0_pay16 (iblk m c 1 t))
        (k0_pay194 (k0_pay18 (iblk m c 4 t)) (k0_pay26 (k0_pay23 (iblk m c 1 t)) (k0_pay24 (iblk m c 1 t)))
          (k0_pay27 (k0_pay23 (iblk m c 1 t)) (k0_pay24 (iblk m c 1 t))) D)
        (k0_pay195 (k0_pay22 (iblk m c 1 t))) (k0_pay196 (k0_pay16 (iblk m c 1 t))) (k0_pay197 (k0_pay22 (iblk m c 1 t))) (ix2 r k)
      = (argRows m c).dv (rowAt t r) k :=
  (pay_dv _ _ r k).trans (congrArg₂ (· * ·) ((pay_lnb _ _ _ _ r k).trans (by rw [vg_row]; simp only [hD, blk4])) (congrArg gd (blk1 m c t r k)))

/-! ## The blocks -/

theorem mix_eq (X : Fin 512 → Fin 1024 → EReal) (hX : ∀ s k, X s k = (argRows m c).vn (rowAt t s) k) :
    mixB (iblk m c 6 t) (iblk m c 8 t) X s k = (argRows m c).mixed (rowAt t s) k := by
  unfold mixB Args.mixed
  have e : tlane s = lane (rowAt t s) := Fin.ext (show s.val % 128 = (512 * t.val + s.val) % 128 by omega)
  rw [e, blk8]
  refine congrArg (· + _) (Finset.sum_congr (M := EReal) rfl fun x _ => ?_)
  rw [blk6, hX]
  exact congrArg (fun r => _ * (argRows m c).vn r k)
    (Fin.ext (show 512 * t.val + (128 * (s.val / 128) + x.val) = 128 * ((512 * t.val + s.val) / 128) + x.val by omega))
theorem mul_eq (X : Fin 512 → Fin 1024 → EReal) (hX : ∀ s k, X s k = (argRows m c).dm (rowAt t s) k) :
    mulB (iblk m c 7 t) X s k = (argRows m c).dvn (rowAt t s) k := by
  unfold mulB Args.dvn
  have e : tlane s = lane (rowAt t s) := Fin.ext (show s.val % 128 = (512 * t.val + s.val) % 128 by omega)
  rw [e]
  refine Finset.sum_congr (M := EReal) rfl fun x _ => ?_
  rw [blk7, hX]
  exact congrArg (fun r => _ * (argRows m c).dm r k)
    (Fin.ext (show 512 * t.val + (128 * (s.val / 128) + x.val) = 128 * ((512 * t.val + s.val) / 128) + x.val by omega))

end Cert.Kernel5Ideal.Value

end
-- ==== Proof.BwdAOut.lean ====
/- The spatial gating branch's backward call: what a tile's stores leave, read whole. Hand-written, untrusted. -/
module

public import proofs.«01_k».proof.Proof.BwdATile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen Cert.BwdA Cert.Blocks

section
variable {e : EltTy} {L : List (View.Piece (Elt Ideal) S512x1024 e)} {f : Fin 512 → Fin 1024 → Elt Ideal e} (V : View sig .tc .vmem S512x1024 e)
  (inb : ∀ a, (![0, 0] : Fin 2 → ℕ) a + (![512, 1024] : Fin 2 → ℕ) a ≤ S512x1024.size a)

theorem canon_one (P : S512x1024.Idx → Elt Ideal e) (r : Fin 512) (k : Fin 1024) :
    View.canon [⟨Rect.unit (s := S512x1024) ![0, 0] ![512, 1024] inb, P⟩] (ix2 r k) = P (ix2 r k) :=
  canon_at inb P [] r r k k (Nat.zero_add _).symm (Nat.zero_add _).symm

theorem read_filled (h : Filled 32 L f) (r : Fin 512) (k : Fin 1024) :
    V.readCov L (Rect.unit (s := S512x1024) ![0, 0] ![512, 1024] inb).toLoadRect (ix2 r k : S512x1024.Idx) = f r k :=
  (readCov_at V inb L r r k k (Nat.zero_add _).symm (Nat.zero_add _).symm).trans (h r k (by omega))
end

/-- The first result's three blocks of columns. -/
theorem canon_three (i0 : ∀ a, (![0, 0] : Fin 2 → ℕ) a + (![512, 1024] : Fin 2 → ℕ) a ≤ S512x3072.size a)
    (i1 : ∀ a, (![0, 1024] : Fin 2 → ℕ) a + (![512, 1024] : Fin 2 → ℕ) a ≤ S512x3072.size a)
    (i2 : ∀ a, (![0, 2048] : Fin 2 → ℕ) a + (![512, 1024] : Fin 2 → ℕ) a ≤ S512x3072.size a)
    (P0 P1 P2 : S512x1024.Idx → Elt Ideal .bf16) (f : Fin 3 → EReal) (r : Fin 512) (k : Fin 1024) (h0 : P0 (ix2 r k) = f 0) (h1 : P1 (ix2 r k) = f 1)
    (h2 : P2 (ix2 r k) = f 2) (q : Fin 3) (n : Fin 3072) (hn : n.val = 1024 * q.val + k.val) :
    View.canon (Val := Elt Ideal) (e := .bf16) [⟨Rect.unit (s := S512x3072) ![0, 1024] ![512, 1024] i1, P1⟩, ⟨Rect.unit (s := S512x3072) ![0, 2048] ![512, 1024] i2, P2⟩,
      ⟨Rect.unit (s := S512x3072) ![0, 0] ![512, 1024] i0, P0⟩] (ix2 r n) = f q := by
  obtain ⟨q, hq⟩ := q
  simp only at hn
  interval_cases q
  · refine (canon_off i1 P1 _ r n (Or.inr (Or.inr (Or.inl (by omega))))).trans
      ((canon_off i2 P2 _ r n (Or.inr (Or.inr (Or.inl (by omega))))).trans ?_)
    exact (canon_at i0 P0 [] r r n k (Nat.zero_add _).symm (by omega)).trans h0
  · exact (canon_at i1 P1 _ r r n k (Nat.zero_add _).symm (by omega)).trans h1
  · refine (canon_off i1 P1 _ r n (Or.inr (Or.inr (Or.inr (by omega))))).trans ?_
    exact (canon_at i2 P2 _ r r n k (Nat.zero_add _).symm (by omega)).trans h2

variable (m : (ℓ : Loc nD τ sig) → Buf (Elt Ideal) ℓ) (c : Dev nD) (t : Fin cfg0.N)

/-- The tile's rows of the normalised half and of the mixed rows' cotangent. -/
abbrev vnT (s : Fin 512) (k : Fin 1024) : EReal := (argRows m c).vn (rowAt t s) k
abbrev dmT (s : Fin 512) (k : Fin 1024) : EReal := (argRows m c).dm (rowAt t s) k

section
variable (inb : ∀ a, (![0, 0] : Fin 2 → ℕ) a + (![512, 1024] : Fin 2 → ℕ) a ≤ S512x1024.size a)

theorem keep_vn (s : Fin 512) (k : Fin 1024) :
    View.canon (Val := Elt Ideal) (e := .bf16) [⟨Rect.unit (s := S512x1024) ![0, 0] ![512, 1024] inb,
      k0_pay28 (k0_pay18 (iblk m c 4 t)) (k0_pay19 (iblk m c 5 t)) (k0_pay23 (iblk m c 1 t)) (k0_pay24 (iblk m c 1 t))⟩] (ix2 s k) = vnT m c t s k :=
  (canon_one inb _ s k).trans (vn_at m c t s k)
theorem keep_dm (s : Fin 512) (k : Fin 1024) :
    View.canon (Val := Elt Ideal) (e := .bf16) [⟨Rect.unit (s := S512x1024) ![0, 0] ![512, 1024] inb,
      k0_pay79 (k0_pay21 (iblk m c 0 t)) (k0_pay69 (k0_pay17 (iblk m c 2 t))) (k0_pay73 (iblk m c 3 t) (iblk m c 9 t))⟩] (ix2 s k) = dmT m c t s k :=
  (canon_one inb _ s k).trans (dm_at m c t s k)
theorem keep_dmf (s : Fin 512) (k : Fin 1024) :
    View.canon (Val := Elt Ideal) (e := .f32) [⟨Rect.unit (s := S512x1024) ![0, 0] ![512, 1024] inb,
      k0_pay78 (k0_pay21 (iblk m c 0 t)) (k0_pay69 (k0_pay17 (iblk m c 2 t))) (k0_pay73 (iblk m c 3 t) (iblk m c 9 t))⟩] (ix2 s k) = dmT m c t s k :=
  (canon_one inb _ s k).trans (dmf_at m c t s k)
end

/-- A point is the first, between, or the last. -/
theorem point_cases : (t.val % 32 = 0 ∧ ¬t.val % 32 = 31) ∨ (¬t.val % 32 = 0 ∧ ¬t.val % 32 = 31) ∨ (¬t.val % 32 = 0 ∧ t.val % 32 = 31) := by omega

set_option maxHeartbeats 4000000 in
/-- A point's stores of the first result. -/
theorem outs_grads (r : Fin 512) (k : Fin 1024) (q : Fin 3) (n : Fin 3072) (hn : n.val = 1024 * q.val + k.val) :
    ((outsAt0 m c t.val t.isLt).1 : FVec Ideal S512x3072 .bf16) (ix2 r n) = (argRows m c).grads (rowAt t r) q k := by
  rcases point_cases t with ⟨h0, h1⟩ | ⟨h0, h1⟩ | ⟨h0, h1⟩
  on_goal 1 => rw [outsAt0_A m c t h0 h1]
  on_goal 2 => rw [outsAt0_B m c t h0 h1]
  on_goal 3 => rw [outsAt0_C m c t h0 h1]
  all_goals
    frame_out
    refine canon_three _ _ _ _ _ _ ((argRows m c).grads (rowAt t r) · k) r k (du_at m c t r k _ ?_) (dv_at m c t r k _ fun k => ?_) (dz_at m c t r k _ ?_) q n hn
    on_goal 2 =>
      refine (read_filled _ _ (f := mulB (iblk m c 7 t) (dmT m c t)) ?_ r k).trans (mul_eq m c t r k _ fun _ _ => rfl)
      iterate 32 refine mul_step _ _ _ _ _ (keep_dm m c t _) ?_ rfl rfl rfl
      exact fill_nil
    all_goals
      refine (read_filled _ _ (f := mixB (iblk m c 6 t) (iblk m c 8 t) (vnT m c t)) ?_ r k).trans (mix_eq m c t r k _ fun _ _ => rfl)
      iterate 32 refine mix_step _ _ _ _ _ _ _ (keep_vn m c t _) ?_ rfl rfl rfl
      exact fill_nil

/-- A tile's parts of the five sums. -/
def wT (i j : Fin 1024) : EReal := ∑ r : Fin 512, (argRows m c).y (rowAt t r) i * (argRows m c).G (rowAt t r) j
def sT (g : Fin 8) (i j : Fin 128) : EReal := ∑ b ∈ Finset.range 4, dwB (dmT m c t) (vnT m c t) b g i j
def bT (g : Fin 8) (i j : Fin 128) : EReal := ∑ b ∈ Finset.range 4, dbB (dmT m c t) b g i j
def gT (k : Fin 1024) : EReal := ∑ r : Fin 512, (argRows m c).dvn (rowAt t r) k * (argRows m c).vh (rowAt t r) k
def lT (k : Fin 1024) : EReal := ∑ r : Fin 512, (argRows m c).dvn (rowAt t r) k

/-- What the point before left. -/
abbrev prev := outsAt0 m c (t.val - 1) (Nat.lt_of_le_of_lt (Nat.sub_le _ _) t.isLt)

theorem cast_at (A : FVec Ideal S1024x1024 .f32) (i j : Fin 1024) :
    shapeCast S1024x1024 A shapeCasts_S1024x1024_S1024x1024 (ix2 i j) = A (ix2 i j) := by pointwise
theorem zero_w (i j : Fin 1024) : k0_pay10 (F := Ideal) (ix2 i j) = 0 := by pointwise [k0_pay10]
theorem zero_s (g : Fin 8) (i j : Fin 128) : k0_pay11 (F := Ideal) (ix3 g i j) = 0 := by pointwise [k0_pay11]
theorem zero_b (g : Fin 8) (i j : Fin 128) : k0_pay14 (F := Ideal) (ix3 g i j) = 0 := by pointwise [k0_pay14]
theorem zero_g (k : Fin 1024) : k0_pay12 (F := Ideal) (ix2 0 k) = 0 := by pointwise [k0_pay12]
theorem zero_l (k : Fin 1024) : k0_pay13 (F := Ideal) (ix2 0 k) = 0 := by pointwise [k0_pay13]

set_option maxHeartbeats 4000000 in
/-- A point's store of the output matrix's gradient, the first -/
theorem w_first (h0 : t.val % 32 = 0) (i j : Fin 1024) :
    ((outsAt0 m c t.val t.isLt).2.1 : FVec Ideal S1024x1024 .f32) (ix2 i j) = 0 + wT m c t i j := by
  rw [outsAt0_A m c t h0 (by omega)]
  frame_out
  refine (pay_w _ _ _ i j).trans (congrArg₂ (· + ·) ((cast_at _ i j).trans (zero_w i j))
    (Finset.sum_congr (M := EReal) rfl fun r _ => congrArg₂ (· * ·) (y_at m c t r i _ ?_) (blk3 m c t r j)))
  refine (read_filled _ _ (f := mixB (iblk m c 6 t) (iblk m c 8 t) (vnT m c t)) ?_ r i).trans (mix_eq m c t r i _ fun _ _ => rfl)
  iterate 32 refine mix_step _ _ _ _ _ _ _ (keep_vn m c t _) ?_ rfl rfl rfl
  exact fill_nil

set_option maxHeartbeats 4000000 in
/-- and the later ones. -/
theorem w_later (h : ¬t.val % 32 = 0) (i j : Fin 1024) :
    ((outsAt0 m c t.val t.isLt).2.1 : FVec Ideal S1024x1024 .f32) (ix2 i j) = ((prev m c t).2.1 : FVec Ideal S1024x1024 .f32) (ix2 i j) + wT m c t i j := by
  rcases point_cases t with ⟨h0, h1⟩ | ⟨h0, h1⟩ | ⟨h0, h1⟩
  · exact absurd h0 h
  on_goal 1 => rw [outsAt0_B m c t h0 h1]
  on_goal 2 => rw [outsAt0_C m c t h0 h1]
  all_goals
    frame_out
    refine (pay_w _ _ _ i j).trans (congrArg₂ (· + ·) (cast_at _ i j)
      (Finset.sum_congr (M := EReal) rfl fun r _ => congrArg₂ (· * ·) (y_at m c t r i _ ?_) (blk3 m c t r j)))
    refine (read_filled _ _ (f := mixB (iblk m c 6 t) (iblk m c 8 t) (vnT m c t)) ?_ r i).trans (mix_eq m c t r i _ fun _ _ => rfl)
    iterate 32 refine mix_step _ _ _ _ _ _ _ (keep_vn m c t _) ?_ rfl rfl rfl
    exact fill_nil

set_option maxHeartbeats 4000000 in
/-- A point's stores of the spatial matrices' gradient, the first -/
theorem s_first (h0 : t.val % 32 = 0) (g : Fin 8) (i j : Fin 128) :
    ((outsAt0 m c t.val t.isLt).2.2.1 : FVec Ideal S8x128x128 .f32) (ix3 g i j) = 0 + sT m c t g i j := by
  rw [outsAt0_A m c t h0 (by omega)]
  frame_out
  refine added_all (z := True) (A := fun _ _ _ => 0) (F := dwB (dmT m c t) (vnT m c t)) ?_ g i j
  iterate 32 refine dw_next _ _ _ _ _ _ _ (keep_dm m c t _) (keep_vn m c t _) ?_ (Or.inl trivial) (by norm_num) rfl rfl rfl
  exact add_zero' _ _ zero_s

set_option maxHeartbeats 4000000 in
/-- and the later ones. -/
theorem s_later (h : ¬t.val % 32 = 0) (g : Fin 8) (i j : Fin 128) :
    ((outsAt0 m c t.val t.isLt).2.2.1 : FVec Ideal S8x128x128 .f32) (ix3 g i j)
      = ((prev m c t).2.2.1 : FVec Ideal S8x128x128 .f32) (ix3 g i j) + sT m c t g i j := by
  rcases point_cases t with ⟨h0, h1⟩ | ⟨h0, h1⟩ | ⟨h0, h1⟩
  · exact absurd h0 h
  on_goal 1 => rw [outsAt0_B m c t h0 h1]
  on_goal 2 => rw [outsAt0_C m c t h0 h1]
  all_goals
    frame_out
    refine added_all (z := False) (A := fun g i j => ((prev m c t).2.2.1 : FVec Ideal S8x128x128 .f32) (ix3 g i j)) (F := dwB (dmT m c t) (vnT m c t)) ?_ g i j
    iterate 24 refine dw_next _ _ _ _ _ _ _ (keep_dm m c t _) (keep_vn m c t _) ?_ (Or.inr (by norm_num)) (by norm_num) rfl rfl rfl
    iterate 8 refine dw_open _ _ _ _ _ _ _ (fun _ _ _ => rfl) (keep_dm m c t _) (keep_vn m c t _) ?_ (by norm_num) rfl rfl rfl
    exact add_nil

set_option maxHeartbeats 4000000 in
/-- A point's sums of the biases' gradient by columns, the first -/
theorem b_first (h0 : t.val % 32 = 0) (g : Fin 8) (i j : Fin 128) :
    ((outsAt0 m c t.val t.isLt).2.2.2.2.2.2 : FVec Ideal S8x128x128 .f32) (ix3 g i j) = 0 + bT m c t g i j := by
  rw [outsAt0_A m c t h0 (by omega)]
  frame_out
  refine added_all (z := True) (A := fun _ _ _ => 0) (F := dbB (dmT m c t)) ?_ g i j
  iterate 32 refine db_next _ _ _ _ _ (keep_dmf m c t _) ?_ (Or.inl trivial) (by norm_num) rfl rfl rfl
  exact add_zero' _ _ zero_b

set_option maxHeartbeats 4000000 in
/-- and the later ones. -/
theorem b_later (h : ¬t.val % 32 = 0) (g : Fin 8) (i j : Fin 128) :
    ((outsAt0 m c t.val t.isLt).2.2.2.2.2.2 : FVec Ideal S8x128x128 .f32) (ix3 g i j)
      = ((prev m c t).2.2.2.2.2.2 : FVec Ideal S8x128x128 .f32) (ix3 g i j) + bT m c t g i j := by
  rcases point_cases t with ⟨h0, h1⟩ | ⟨h0, h1⟩ | ⟨h0, h1⟩
  · exact absurd h0 h
  on_goal 1 => rw [outsAt0_B m c t h0 h1]
  on_goal 2 => rw [outsAt0_C m c t h0 h1]
  all_goals
    frame_out
    refine added_all (z := False) (A := fun g i j => ((prev m c t).2.2.2.2.2.2 : FVec Ideal S8x128x128 .f32) (ix3 g i j)) (F := dbB (dmT m c t)) ?_ g i j
    iterate 24 refine db_next _ _ _ _ _ (keep_dmf m c t _) ?_ (Or.inr (by norm_num)) (by norm_num) rfl rfl rfl
    iterate 8 refine db_open _ _ _ _ _ (fun _ _ _ => by rw [read_unread_whole]) (keep_dmf m c t _) ?_ (by norm_num) rfl rfl rfl
    exact add_nil

set_option maxHeartbeats 4000000 in
/-- A point's stores of the layer norm's gradients, the first -/
theorem g_first (h0 : t.val % 32 = 0) (k : Fin 1024) :
    ((outsAt0 m c t.val t.isLt).2.2.2.2.1 : FVec Ideal S1x1024 .f32) (ix2 0 k) = 0 + gT m c t k := by
  rw [outsAt0_A m c t h0 (by omega)]
  frame_out
  refine (pay_dg _ _ _ k).trans (congrArg₂ (· + ·) (zero_g k)
    (Finset.sum_congr (M := EReal) rfl fun r _ => congrArg₂ (· * ·) ?_ (vh_at m c t r k)))
  refine (read_filled _ _ (f := mulB (iblk m c 7 t) (dmT m c t)) ?_ r k).trans (mul_eq m c t r k _ fun _ _ => rfl)
  iterate 32 refine mul_step _ _ _ _ _ (keep_dm m c t _) ?_ rfl rfl rfl
  exact fill_nil

set_option maxHeartbeats 4000000 in
/-- and the later ones, -/
theorem g_later (h : ¬t.val % 32 = 0) (k : Fin 1024) :
    ((outsAt0 m c t.val t.isLt).2.2.2.2.1 : FVec Ideal S1x1024 .f32) (ix2 0 k) = ((prev m c t).2.2.2.2.1 : FVec Ideal S1x1024 .f32) (ix2 0 k) + gT m c t k := by
  rcases point_cases t with ⟨h0, h1⟩ | ⟨h0, h1⟩ | ⟨h0, h1⟩
  · exact absurd h0 h
  on_goal 1 => rw [outsAt0_B m c t h0 h1]
  on_goal 2 => rw [outsAt0_C m c t h0 h1]
  all_goals
    frame_out
    refine (pay_dg _ _ _ k).trans (congrArg₂ (· + ·) rfl
      (Finset.sum_congr (M := EReal) rfl fun r _ => congrArg₂ (· * ·) ?_ (vh_at m c t r k)))
    refine (read_filled _ _ (f := mulB (iblk m c 7 t) (dmT m c t)) ?_ r k).trans (mul_eq m c t r k _ fun _ _ => rfl)
    iterate 32 refine mul_step _ _ _ _ _ (keep_dm m c t _) ?_ rfl rfl rfl
    exact fill_nil

set_option maxHeartbeats 4000000 in
/-- of the shift's, the first -/
theorem l_first (h0 : t.val % 32 = 0) (k : Fin 1024) :
    ((outsAt0 m c t.val t.isLt).2.2.2.2.2.1 : FVec Ideal S1x1024 .f32) (ix2 0 k) = 0 + lT m c t k := by
  rw [outsAt0_A m c t h0 (by omega)]
  frame_out
  refine (pay_db _ _ k).trans (congrArg₂ (· + ·) (zero_l k) (Finset.sum_congr (M := EReal) rfl fun r _ => ?_))
  refine (read_filled _ _ (f := mulB (iblk m c 7 t) (dmT m c t)) ?_ r k).trans (mul_eq m c t r k _ fun _ _ => rfl)
  iterate 32 refine mul_step _ _ _ _ _ (keep_dm m c t _) ?_ rfl rfl rfl
  exact fill_nil

set_option maxHeartbeats 4000000 in
/-- and the later ones. -/
theorem l_later (h : ¬t.val % 32 = 0) (k : Fin 1024) :
    ((outsAt0 m c t.val t.isLt).2.2.2.2.2.1 : FVec Ideal S1x1024 .f32) (ix2 0 k) = ((prev m c t).2.2.2.2.2.1 : FVec Ideal S1x1024 .f32) (ix2 0 k) + lT m c t k := by
  rcases point_cases t with ⟨h0, h1⟩ | ⟨h0, h1⟩ | ⟨h0, h1⟩
  · exact absurd h0 h
  on_goal 1 => rw [outsAt0_B m c t h0 h1]
  on_goal 2 => rw [outsAt0_C m c t h0 h1]
  all_goals
    frame_out
    refine (pay_db _ _ k).trans (congrArg₂ (· + ·) rfl (Finset.sum_congr (M := EReal) rfl fun r _ => ?_))
    refine (read_filled _ _ (f := mulB (iblk m c 7 t) (dmT m c t)) ?_ r k).trans (mul_eq m c t r k _ fun _ _ => rfl)
    iterate 32 refine mul_step _ _ _ _ _ (keep_dm m c t _) ?_ rfl rfl rfl
    exact fill_nil

set_option maxHeartbeats 4000000 in
/-- The last point's store of the biases' gradient, from its sums by columns. -/
theorem db_last (h : t.val % 32 = 31) (g : Fin 8) (i : Fin 128) :
    ((outsAt0 m c t.val t.isLt).2.2.2.1 : FVec Ideal S8x128 .f32) (ix2 g i)
      = ∑ j, ((outsAt0 m c t.val t.isLt).2.2.2.2.2.2 : FVec Ideal S8x128x128 .f32) (ix3 g i j) := by
  rw [outsAt0_C m c t (by omega) h]
  frame_out
  refine Eq.trans ((?_ : Rowed 8 _ _) g i (by omega)) rfl
  iterate 8 refine row_step _ _ _ ?_
  exact row_nil

end Cert.Kernel5Ideal.Value

end
-- ==== Proof.BwdAArrays.lean ====
/- The spatial gating branch's backward call: its six results after the run, by rows of the argument arrays. Hand-written, untrusted. -/
module

public import proofs.«01_k».proof.Proof.BwdAOut
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen Cert.BwdA Cert.Blocks

variable (m : (ℓ : Loc nD τ sig) → Buf (Elt Ideal) ℓ)
variable (c : Dev nD) (t : Fin cfg0.N)

/-- An entry of the first result's three blocks of columns. -/
def gradAt (c : Dev nD) (r : Fin 16384) (q : ℕ) : EReal := (argRows m c).grads r ⟨q / 1024 % 3, by omega⟩ ⟨q % 1024, by omega⟩
theorem gradAt_eq (c : Dev nD) (r : Fin 16384) (b : Fin 3) (k : Fin 1024) {q : ℕ} (hq : q = 6144 + (1024 * b.val + k.val)) :
    gradAt m c r q = (argRows m c).grads r b k := by
  subst hq
  exact congrArg₂ (fun b k => (argRows m c).grads r b k) (Fin.ext (show (6144 + (1024 * b.val + k.val)) / 1024 % 3 = b.val by omega))
    (Fin.ext (show (6144 + (1024 * b.val + k.val)) % 1024 = k.val by omega))

/-- The first result after the run: the three blocks of columns written, the others as the call finds them. -/
def outD (c : Dev nD) : FVec Ideal S16384x12288 .bf16 := fun i =>
  if 6144 ≤ (i 1).val ∧ (i 1).val < 9216 then gradAt m c (i 0) (i 1).val else m (c.tc.loc main_arg7) i
def outW (c : Dev nD) : FVec Ideal S1024x1024 .f32 := fun i => ∑ r, (argRows m c).y r (i 0) * (argRows m c).G r (i 1)
def outS (c : Dev nD) : FVec Ideal S8x128x128 .f32 := fun i => ∑ n : Fin 128, ∑ x : Fin 128,
  (argRows m c).dm (row n (i 1)) (col (i 0) x) * (argRows m c).vn (row n (i 2)) (col (i 0) x)
def outB (c : Dev nD) : FVec Ideal S8x128 .f32 := fun i => ∑ n : Fin 128, ∑ x : Fin 128, (argRows m c).dm (row n (i 1)) (col (i 0) x)
def outG (c : Dev nD) : FVec Ideal S1x1024 .f32 := fun i => ∑ r, (argRows m c).dvn r (i 1) * (argRows m c).vh r (i 1)
def outL (c : Dev nD) : FVec Ideal S1x1024 .f32 := fun i => ∑ r, (argRows m c).dvn r (i 1)

theorem after_grads (r : Fin 512) (q : Fin 3072) :
    ((outsAt0 m c t.val t.isLt).1 : FVec Ideal S512x3072 .bf16) (ix2 r q) = gradAt m c (rowAt t r) (6144 + q.val) := by
  have hq : q.val = 1024 * (⟨q.val / 1024, by omega⟩ : Fin 3).val + (⟨q.val % 1024, by omega⟩ : Fin 1024).val :=
    show q.val = 1024 * (q.val / 1024) + q.val % 1024 by omega
  rw [gradAt_eq m c _ _ _ (congrArg (6144 + ·) hq)]
  exact outs_grads m c t r _ _ q hq

/-- Result 0 after the run. -/
theorem arr_grads (c : Dev nD) : (dats m 0 c).arrAt 10 cfg0.N = outD m c := by
  refine ((dats m 0 c).arrAt_eq_of_coversWhere 10 (outD m c) (P := fun i : S16384x12288.Idx => 6144 ≤ (i 1).val ∧ (i 1).val < 9216)
    (fun β => β (1 : Fin 2) = 2) (by decide +kernel) (fun t hf y => ?_) (fun j => ?_)).trans ?_
  · have key : ∀ z : S512x3072.Idx, ((outsAt0 m c t.val t.isLt).1 : FVec Ideal S512x3072 .bf16) z
        = outD m c ((win0_10.blk t).view.emb z) := fun z => by
      obtain ⟨r, k, rfl⟩ := Lift.exists_ix2 z
      rw [after_grads, emb10]
      exact (if_pos (show 6144 ≤ 6144 + k.val ∧ 6144 + k.val < 9216 by omega)).symm
    blk_simp
    rw [after0_10]
    exact key y
  · blk_simp [Pipeline.Window.cell_apply]
    omega
  · funext i
    by_cases h : 6144 ≤ (i 1).val ∧ (i 1).val < 9216
    · exact if_pos h
    · refine (if_neg h).trans ?_
      refine Eq.trans ?_ (show m (c.tc.loc main_arg7) i = _ from (if_neg h).symm)
      rw [A_eq]
      rfl

/-- The rows of all the tiles are all the rows, -/
theorem sum_tiles (f : Fin 16384 → EReal) (p : Fin 32 → Fin cfg0.N) (hp : ∀ s, (p s).val = s.val) :
    ∑ s : Fin 32, ∑ r : Fin 512, f (rowAt (p s) r) = ∑ r, f r :=
  Lift.sum_rows rowAt (fun _ _ => rfl) f p hp
/-- and their blocks all the blocks. -/
theorem sum_blocks (f : Fin 128 → EReal) (F : Fin cfg0.N → ℕ → EReal) (hF : ∀ (t : Fin cfg0.N) (b : Fin 4) (n : Fin 128), n.val = 4 * t.val + b.val → F t b.val = f n)
    (p : Fin 32 → Fin cfg0.N) (hp : ∀ s, (p s).val = s.val) : ∑ s : Fin 32, ∑ b ∈ Finset.range 4, F (p s) b = ∑ n, f n := by
  rw [Fin.sum_univ_tiles 32 4 (by norm_num) f]
  refine Finset.sum_congr rfl fun s _ => (Finset.sum_range _).trans (Finset.sum_congr rfl fun b _ => hF _ _ _ ?_)
  rw [hp]
  show s.val * 4 + b.val = 4 * s.val + b.val
  omega

theorem point_of_flush (t s : ℕ) (ht : t < cfg0.N) : 32 * (t / 32) + s = s := by
  rw [Nat.div_eq_of_lt (lt_of_lt_of_le ht (show cfg0.N ≤ 32 from le_refl 32))]
  omega

theorem exists_ix3 {a b c : ℕ} (z : Shape.Idx ⟨3, ![a, b, c]⟩) : ∃ (g : Fin a) (i : Fin b) (j : Fin c), z = ix3 g i j :=
  ⟨z 0, z 1, z 2, by funext a; fin_cases a <;> rfl⟩

/-- Result 1 after the run. -/
theorem arr_w (c : Dev nD) : (dats m 0 c).arrAt 11 cfg0.N = outW m c := by
  refine (dats m 0 c).arrAt_eq_of_covers 11 _ (by decide +kernel) fun t hf y => ?_
  blk_simp
  rw [after0_11, Pipeline.eq_sum_fin_of_reset_step_apply_of_flush (fun n h => (outsAt0 m c n h).2.1) 32 (fun _ => 0)
    (fun (t : Fin cfg0.N) (z : S1024x1024.Idx) => wT m c t (z 0) (z 1))
    (fun t h z => by obtain ⟨i, j, rfl⟩ := Lift.exists_ix2 z; exact w_first m c t h i j)
    (fun t h z => by obtain ⟨i, j, rfl⟩ := Lift.exists_ix2 z; exact w_later m c t h i j)
    t ((flush0_11 t).mp hf) _, zero_add]
  refine (sum_tiles (fun r => (argRows m c).y r _ * (argRows m c).G r _) _ fun s => point_of_flush _ _ t.isLt).trans ?_
  exact congrArg (outW m c) (emb11 t y).symm

theorem dw_block (b : Fin 4) (n : Fin 128) (hn : n.val = 4 * t.val + b.val) (g : Fin 8) (i j : Fin 128) :
    dwB (dmT m c t) (vnT m c t) b.val g i j
      = ∑ x : Fin 128, (argRows m c).dm (row n i) (col g x) * (argRows m c).vn (row n j) (col g x) := by
  have e : ∀ i : Fin 128, rowAt t (trow ⟨b.val % 4, by omega⟩ i) = row n i := fun i =>
    Fin.ext (show 512 * t.val + (128 * (b.val % 4) + i.val) = 128 * n.val + i.val by omega)
  refine Finset.sum_congr rfl fun x _ => ?_
  show (argRows m c).dm (rowAt t _) _ * (argRows m c).vn (rowAt t _) _ = _
  rw [e, e]
theorem db_block (b : Fin 4) (n : Fin 128) (hn : n.val = 4 * t.val + b.val) (g : Fin 8) (i j : Fin 128) :
    dbB (dmT m c t) b.val g i j = (argRows m c).dm (row n i) (col g j) :=
  congrArg (fun r => (argRows m c).dm r (col g j)) (Fin.ext (show 512 * t.val + (128 * (b.val % 4) + i.val) = 128 * n.val + i.val by omega))

/-- Result 2 after the run. -/
theorem arr_s (c : Dev nD) : (dats m 0 c).arrAt 12 cfg0.N = outS m c := by
  refine (dats m 0 c).arrAt_eq_of_covers 12 _ (by decide +kernel) fun t hf y => ?_
  blk_simp
  rw [after0_12, Pipeline.eq_sum_fin_of_reset_step_apply_of_flush (fun n h => (outsAt0 m c n h).2.2.1) 32 (fun _ => 0)
    (fun (t : Fin cfg0.N) (z : S8x128x128.Idx) => sT m c t (z 0) (z 1) (z 2))
    (fun t h z => by obtain ⟨g, i, j, rfl⟩ := exists_ix3 z; exact s_first m c t h g i j)
    (fun t h z => by obtain ⟨g, i, j, rfl⟩ := exists_ix3 z; exact s_later m c t h g i j)
    t ((flush0_12 t).mp hf) _, zero_add]
  refine (sum_blocks _ (fun t b => dwB (dmT m c t) (vnT m c t) b _ _ _) (fun t b n hn => dw_block m c t b n hn _ _ _) _ fun s => point_of_flush _ _ t.isLt).trans ?_
  exact congrArg (outS m c) (emb12 t y).symm

/-- The sums by columns at the last point, -/
theorem b_last (h : t.val % 32 = 31) (g : Fin 8) (i j : Fin 128) :
    ((outsAt0 m c t.val t.isLt).2.2.2.2.2.2 : FVec Ideal S8x128x128 .f32) (ix3 g i j) = ∑ n : Fin 128, (argRows m c).dm (row n i) (col g j) := by
  rw [Pipeline.eq_sum_fin_of_reset_step_apply_of_flush (fun n h => (outsAt0 m c n h).2.2.2.2.2.2) 32 (fun _ => 0)
    (fun (t : Fin cfg0.N) (z : S8x128x128.Idx) => bT m c t (z 0) (z 1) (z 2))
    (fun t h z => by obtain ⟨g, i, j, rfl⟩ := exists_ix3 z; exact b_first m c t h g i j)
    (fun t h z => by obtain ⟨g, i, j, rfl⟩ := exists_ix3 z; exact b_later m c t h g i j)
    t h _, zero_add]
  exact sum_blocks _ (fun t b => dbB (dmT m c t) b _ _ _) (fun t b n hn => db_block m c t b n hn _ _ _) _ fun s => point_of_flush _ _ t.isLt

/-- and result 3 after the run. -/
theorem arr_b (c : Dev nD) : (dats m 0 c).arrAt 13 cfg0.N = outB m c := by
  refine (dats m 0 c).arrAt_eq_of_covers 13 _ (by decide +kernel) fun t hf y => ?_
  have key : ∀ z : S8x128.Idx, ((outsAt0 m c t.val t.isLt).2.2.2.1 : FVec Ideal S8x128 .f32) z = outB m c ((win0_13.blk t).view.emb z) := fun z => by
    have h := (flush0_13 t).mp hf
    rw [emb13]
    obtain ⟨g, i, rfl⟩ := Lift.exists_ix2 z
    refine (db_last m c t h g i).trans ((Finset.sum_congr (M := EReal) rfl fun j _ => b_last m c t h g i j).trans ?_)
    exact Finset.sum_comm
  blk_simp
  rw [after0_13]
  exact key y

/-- Result 4 after the run. -/
theorem arr_g (c : Dev nD) : (dats m 0 c).arrAt 14 cfg0.N = outG m c := by
  refine (dats m 0 c).arrAt_eq_of_covers 14 _ (by decide +kernel) fun t hf y => ?_
  blk_simp
  rw [after0_14, Pipeline.eq_sum_fin_of_reset_step_apply_of_flush (fun n h => (outsAt0 m c n h).2.2.2.2.1) 32 (fun _ => 0)
    (fun (t : Fin cfg0.N) (z : S1x1024.Idx) => gT m c t (z 1))
    (fun t h z => by obtain ⟨i, k, rfl⟩ := Lift.exists_ix2 z; obtain rfl : i = 0 := Subsingleton.elim _ _; exact g_first m c t h k)
    (fun t h z => by obtain ⟨i, k, rfl⟩ := Lift.exists_ix2 z; obtain rfl : i = 0 := Subsingleton.elim _ _; exact g_later m c t h k)
    t ((flush0_14 t).mp hf) _, zero_add]
  refine (sum_tiles (fun r => (argRows m c).dvn r _ * (argRows m c).vh r _) _ fun s => point_of_flush _ _ t.isLt).trans ?_
  exact congrArg (outG m c) (emb14 t y).symm

/-- Result 5 after the run. -/
theorem arr_l (c : Dev nD) : (dats m 0 c).arrAt 15 cfg0.N = outL m c := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.1) 32 (fun _ => 0)
    (fun (t : Fin cfg0.N) (z : S1x1024.Idx) => lT m c t (z 1))
    (fun t h z => by obtain ⟨i, k, rfl⟩ := Lift.exists_ix2 z; obtain rfl : i = 0 := Subsingleton.elim _ _; exact l_first m c t h k)
    (fun t h z => by obtain ⟨i, k, rfl⟩ := Lift.exists_ix2 z; obtain rfl : i = 0 := Subsingleton.elim _ _; exact l_later m c t h k)
    t ((flush0_15 t).mp hf) _, zero_add]
  refine (sum_tiles (fun r => (argRows m c).dvn r _) _ fun s => point_of_flush _ _ t.isLt).trans ?_
  exact congrArg (outL m c) (emb15 t y).symm

end Cert.Kernel5Ideal.Value

end
-- ==== Proof.BwdARef.lean ====
/- The spatial gating branch's backward call: what the reference computes on the way to its results, by rows. Hand-written, untrusted. -/
module

public import proofs.«01_k».proof.Proof.Gen.Reference5Ideal.Run
public import proofs.«01_k».proof.Proof.BwdARows
public import proofs.«01_k».proof.Proof.Lift
public import Idealize.ShloMosaic.Lib.Pipeline.ReadBack

@[expose] public section

set_option maxRecDepth 16384

noncomputable section

open Idealize.ShloMosaic Idealize.ShloMosaic.TcCoe Idealize.SL.Sem
open Idealize.ShloMosaic.StableHlo (launchContents)
open scoped BigOperators

namespace Cert.Reference5Ideal.Value

open Cert.Reference5Ideal Cert.Reference5Ideal.Gen Cert.BwdA

variable (m : (ℓ : Loc nD τ sig) → Buf (Elt Ideal) ℓ)

/-- The argument rows of the call, from the argument arrays. -/
def argRows (c : Dev nD) : Args where
  U r j := m (c.tc.loc main_arg0) (ix2 r ⟨j.val, by omega⟩)
  V r j := m (c.tc.loc main_arg0) (ix2 r ⟨1024 + j.val, by omega⟩)
  Z r j := m (c.tc.loc main_arg0) (ix2 r ⟨2048 + j.val, by omega⟩)
  G r j := m (c.tc.loc main_arg1) (ix2 r ⟨j.val, by omega⟩)
  lg j := m (c.tc.loc main_arg2) (ix1 j)
  lb j := m (c.tc.loc main_arg3) (ix1 j)
  sw g i j := m (c.tc.loc main_arg4) (ix3 g i j)
  sb g i := m (c.tc.loc main_arg5) (ix2 g i)
  w i j := m (c.tc.loc main_arg6) (ix2 i j)

/-- The gelu's constant, a quotient of whole numbers. -/
theorem num : Ideal.ofBits FTy.f32 0x472EAB00#32 = ((44715 : ℝ) : EReal) := by
  simp [Ideal.ofBits, Ideal.ieee, -EReal.coe_mul]; norm_num
theorem den : Ideal.ofBits FTy.f32 0x49742400#32 = ((1000000 : ℝ) : EReal) := by
  simp [Ideal.ofBits, Ideal.ieee, -EReal.coe_mul]; norm_num
theorem k1_eq : Ideal.div (Ideal.ofBits FTy.f32 0x472EAB00#32) (Ideal.ofBits FTy.f32 0x49742400#32) = k1 := by
  rw [num, den, Lift.div_coe_coe (by norm_num)]
  exact congrArg _ (by norm_num)
theorem k1_V (c : Dev nD) : res_main_v6 (F := Ideal) (launchContents m c) ix0 = k1 := by
  pointwise [res_main_v6]
  exact k1_eq
theorem k1_U (c : Dev nD) : res_main_v75 (F := Ideal) (launchContents m c) ix0 = k1 := by
  pointwise [res_main_v75]
  exact k1_eq

/-! ## The mask -/

theorem half_at (c : Dev nD) (i : Fin 128) : res_main_v58 (F := Ideal) (launchContents m c) (ix1 i) = BitVec.ofNat 32 (i.val / 64) := by
  pointwise [res_main_v58, res_main_call0_v2, res_main_v57, res_main_call0_v0]
  revert i
  decide +kernel

section
variable (c : Dev nD) (r : Fin 16384) (k : Fin 1024)

theorem row_U : res_main_v1 (launchContents m c) (ix2 r k) = (argRows m c).U r k := by
  pointwise [res_main_v1]
  rfl
theorem row_V : res_main_v3 (launchContents m c) (ix2 r k) = (argRows m c).V r k := by
  pointwise [res_main_v3]
  rfl
theorem row_Z : res_main_v5 (launchContents m c) (ix2 r k) = (argRows m c).Z r k := by
  pointwise [res_main_v5]
  rfl
theorem row_G : res_main_v103 (launchContents m c) (ix2 r k) = (argRows m c).G r k := by
  pointwise [res_main_v103]
  rfl
theorem row_lg : res_main_v51 (launchContents m c) (ix2 0 k) = (argRows m c).lg k := by
  pointwise [res_main_v51]
  rfl

/-! ## The forward part -/

theorem row_thV : res_main_v17 (launchContents m c) (ix2 r k) = th ((argRows m c).V r k) := by
  pointwise [res_main_v17]
  rw [row_V, k1_V]
  rfl
theorem row_hV : res_main_v26 (launchContents m c) (ix2 r k) = half * (1 + th ((argRows m c).V r k)) := by
  pointwise [res_main_v26]
  rw [row_thV]
theorem row_vg : res_main_v27 (launchContents m c) (ix2 r k) = (argRows m c).vg r k := by
  pointwise [res_main_v27]
  rw [row_hV, row_V]
  exact (mul_left_comm (G := EReal) _ _ _).trans (mul_assoc (G := EReal) _ _ _).symm
theorem row_mean : res_main_v31 (launchContents m c) (ix2 r 0) = Ideal.div (∑ j, (argRows m c).vg r j) len := by
  pointwise [res_main_v31]
  simp only [row_vg]
theorem row_cen : res_main_v42 (launchContents m c) (ix2 r k) = cen ((argRows m c).vg r) k := by
  pointwise [res_main_v42]
  rw [row_vg, row_mean]
  rfl
theorem row_cen' : res_main_v33 (launchContents m c) (ix2 r k) = cen ((argRows m c).vg r) k := row_cen m c r k
theorem row_ms : res_main_v44 (launchContents m c) (ix2 r 0) = ms ((argRows m c).vg r) := by
  pointwise [res_main_v44]
  simp only [row_cen']
  rfl
theorem row_rs : res_main_v45 (launchContents m c) (ix2 r 0) = Ideal.rsqrt (ms ((argRows m c).vg r)) := by
  pointwise [res_main_v45]
  rw [row_ms]
theorem row_vh : res_main_v50 (launchContents m c) (ix2 r k) = (argRows m c).vh r k := by
  pointwise [res_main_v50]
  rw [row_cen, row_rs]
  rfl
theorem row_thU : res_main_v86 (launchContents m c) (ix2 r k) = th ((argRows m c).U r k) := by
  pointwise [res_main_v86]
  rw [row_U, k1_U]
  rfl
theorem row_hU : res_main_v95 (launchContents m c) (ix2 r k) = half * (1 + th ((argRows m c).U r k)) := by
  pointwise [res_main_v95]
  rw [row_thU]
theorem row_u : res_main_v96 (launchContents m c) (ix2 r k) = (argRows m c).u r k := by
  pointwise [res_main_v96]
  rw [row_hU, row_U]
  exact (mul_left_comm (G := EReal) _ _ _).trans (mul_assoc (G := EReal) _ _ _).symm
theorem row_sig : res_main_v99_2 (launchContents m c) (ix2 r k) = Ideal.logistic ((argRows m c).Z r k) := by
  pointwise [res_main_v99_2]
  rw [row_Z]
  rfl
theorem row_sz : res_main_v99_0 (launchContents m c) (ix2 r k) = (argRows m c).sz r k := by
  pointwise [res_main_v99_0]
  rw [row_Z, row_sig]
  rfl
theorem row_dya : res_main_v106 (launchContents m c) (ix2 r k) = (argRows m c).dya r k := by
  pointwise [res_main_v106]
  exact Finset.sum_congr (M := EReal) rfl fun x _ => congrArg (· * _) (row_G m c r x)
theorem row_dys : res_main_v108 (launchContents m c) (ix2 r k) = (argRows m c).dya r k * (argRows m c).sz r k := by
  pointwise [res_main_v108]
  rw [row_dya, row_sz]
end

/-! ## The four-axis arrays -/

section
variable (c : Dev nD) (n i j : Fin 128) (g : Fin 8) (x : Fin 128)

theorem half_le : ∀ a b : Fin 2, IntOp.cmpi .sle (BitVec.ofNat 32 a.val) (BitVec.ofNat 32 b.val) = if a.val ≤ b.val then 1#1 else 0#1 := by
  decide +kernel
theorem at_mask : res_main_v66_1 (F := Ideal) (launchContents m c) (ix3 g i j) = if j.val / 64 ≤ i.val / 64 then 1#1 else 0#1 := by
  pointwise [res_main_v66_1]
  rw [half_at, half_at]
  exact half_le ⟨j.val / 64, by omega⟩ ⟨i.val / 64, by omega⟩
theorem at_vn : res_main_v67 (launchContents m c) (ix4 n i g x) = (argRows m c).vn (row n i) (col g x) := by
  pointwise [res_main_v67]
  rw [row_vh, row_lg]
  simp only [Nat.mul_comm _ 128]
  rfl
theorem at_wm : res_main_v66_0 (launchContents m c) (ix3 g i j) = (argRows m c).wm g i j := by
  pointwise [res_main_v66_0]
  rw [at_mask]
  unfold Args.wm
  split
  · exact if_pos rfl
  · exact if_neg (by decide)
theorem div128 (a b : ℕ) (h : b < 128) : (128 * a + b) / 128 = a := by omega
theorem mod128 (a b : ℕ) (h : b < 128) : (128 * a + b) % 128 = b := by omega
theorem mixed_row (a : Args) : a.mixed (row n i) (col g x) = (∑ j, a.wm g i j * a.vn (row n j) (col g x)) + a.sb g i := by
  have e : ∀ (p : Fin 128) (q : Fin 128) (h : Fin 8), p = n → q = i → h = g →
      (∑ j, a.wm h q j * a.vn (row p j) (col g x)) + a.sb h q = (∑ j, a.wm g i j * a.vn (row n j) (col g x)) + a.sb g i := by
    rintro p q h rfl rfl rfl
    rfl
  exact e _ _ _ (blk_row n i) (lane_row n i) (grp_col g x)
theorem dvn_row (a : Args) : a.dvn (row n i) (col g x) = ∑ j, a.wm g j i * a.dm (row n j) (col g x) := by
  have e : ∀ (p : Fin 128) (q : Fin 128) (h : Fin 8), p = n → q = i → h = g →
      (∑ j, a.wm h j q * a.dm (row p j) (col g x)) = ∑ j, a.wm g j i * a.dm (row n j) (col g x) := by
    rintro p q h rfl rfl rfl
    rfl
  exact e _ _ _ (blk_row n i) (lane_row n i) (grp_col g x)
theorem at_mixed : res_main_v97 (launchContents m c) (ix2 (row n i) (col g x)) = (argRows m c).mixed (row n i) (col g x) := by
  refine Eq.trans ?_ (mixed_row n i g x _).symm
  pointwise [res_main_v97]
  simp only [div128 _ _ (Fin.isLt _), mod128 _ _ (Fin.isLt _), Fin.eta, at_vn, at_wm]
  refine congrArg₂ (fun a b : EReal => a + b) ?_ rfl
  exact (Finset.sum_congr (M := EReal) rfl fun x _ => mul_comm (G := EReal) _ _)
theorem row_mixed (r : Fin 16384) (k : Fin 1024) : res_main_v97 (launchContents m c) (ix2 r k) = (argRows m c).mixed r k := by
  obtain ⟨n, i, rfl⟩ := exists_row r
  obtain ⟨g, x, rfl⟩ := exists_col k
  exact at_mixed m c n i g x

/-! ## The backward part -/

theorem at_dm : res_main_v112 (launchContents m c) (ix4 n i g x) = (argRows m c).dm (row n i) (col g x) := by
  pointwise [res_main_v112]
  rw [row_u, row_dys]
  simp only [Nat.mul_comm _ 128]
  exact (mul_left_comm (G := EReal) _ _ _).trans (mul_assoc (G := EReal) _ _ _).symm
theorem at_dmT : res_main_v131 (launchContents m c) (ix4 g n x i) = (argRows m c).dm (row n i) (col g x) := by
  pointwise [res_main_v131]
  exact at_dm m c n i g x
theorem at_dvn : res_main_v135 (launchContents m c) (ix2 (row n i) (col g x)) = (argRows m c).dvn (row n i) (col g x) := by
  refine Eq.trans ?_ (dvn_row n i g x _).symm
  pointwise [res_main_v135]
  simp only [div128 _ _ (Fin.isLt _), mod128 _ _ (Fin.isLt _), Fin.eta, at_dmT, at_wm]
  exact Finset.sum_congr (M := EReal) rfl fun x _ => mul_comm (G := EReal) _ _
end

section
variable (c : Dev nD) (r : Fin 16384) (k : Fin 1024)
theorem row_dvn : res_main_v135 (launchContents m c) (ix2 r k) = (argRows m c).dvn r k := by
  obtain ⟨n, i, rfl⟩ := exists_row r
  obtain ⟨g, x, rfl⟩ := exists_col k
  exact at_dvn m c n i g x
theorem row_umix : res_main_v98 (launchContents m c) (ix2 r k) = (argRows m c).u r k * (argRows m c).mixed r k := by
  pointwise [res_main_v98]
  rw [row_u, row_mixed]
theorem row_y : res_main_v100 (launchContents m c) (ix2 r k) = (argRows m c).y r k := by
  pointwise [res_main_v100]
  rw [row_umix, row_sz]
  rfl
theorem row_umd : res_main_v107 (launchContents m c) (ix2 r k) = (argRows m c).u r k * (argRows m c).mixed r k * (argRows m c).dya r k := by
  pointwise [res_main_v107]
  rw [row_umix, row_dya]
theorem row_dysm : res_main_v111 (launchContents m c) (ix2 r k) = (argRows m c).dya r k * (argRows m c).sz r k * (argRows m c).mixed r k := by
  pointwise [res_main_v111]
  rw [row_dys, row_mixed]
/-- The layer norm's cotangent. -/
abbrev dl (c : Dev nD) (r : Fin 16384) (j : Fin 1024) : EReal := (argRows m c).dvn r j * (argRows m c).lg j
theorem row_dl : res_main_v144 (launchContents m c) (ix2 r k) = dl m c r k := by
  pointwise [res_main_v144]
  rw [row_dvn, row_lg]
theorem row_dlr : res_main_v150 (launchContents m c) (ix2 r k) = dl m c r k * Ideal.rsqrt (ms ((argRows m c).vg r)) := by
  pointwise [res_main_v150]
  rw [row_dl, row_rs]
theorem row_lnp : res_main_v159 (launchContents m c) (ix2 r k) = lnp ((argRows m c).vg r) (dl m c r) k := by
  pointwise [res_main_v159]
  simp only [Finset.univ_unique, Finset.sum_singleton, row_cen, row_cen', row_dl, show (default : Fin 1) = 0 from rfl, row_rs, row_ms]
  rfl
theorem row_ln : res_main_v169 (launchContents m c) (ix2 r k) = lnR ((argRows m c).vg r) (dl m c r) k := by
  pointwise [res_main_v169]
  simp only [Finset.univ_unique, Finset.sum_singleton, row_dlr, row_lnp]
  rfl

/-- The three cotangents' arrays. -/
theorem row_inV : res_main_v176 (launchContents m c) (ix2 r k) = c0 * (half * ((argRows m c).V r k * lnR ((argRows m c).vg r) (dl m c r) k)
    * ((1 + th ((argRows m c).V r k)) * (1 - th ((argRows m c).V r k)))) := by
  pointwise [res_main_v176]
  rw [row_V, row_ln, row_thV]
theorem row_inU : res_main_v119 (launchContents m c) (ix2 r k) = c0 * (half * ((argRows m c).U r k * ((argRows m c).dya r k * (argRows m c).sz r k * (argRows m c).mixed r k))
    * ((1 + th ((argRows m c).U r k)) * (1 - th ((argRows m c).U r k)))) := by
  pointwise [res_main_v119]
  rw [row_U, row_dysm, row_thU]
end
end Cert.Reference5Ideal.Value

end
-- ==== Proof.BwdARefRun.lean ====
/- The spatial gating branch's backward call: the reference's six results, entry by entry, and what its run leaves. Hand-written,
   untrusted. -/
module

public import proofs.«01_k».proof.Proof.BwdARef

@[expose] public section

set_option maxRecDepth 16384

noncomputable section

open Idealize.ShloMosaic Idealize.ShloMosaic.TcCoe Idealize.SL.Sem
open Idealize.ShloMosaic.StableHlo (launchContents)
open scoped BigOperators

namespace Cert.Reference5Ideal.Value

open Cert.Reference5Ideal Cert.Reference5Ideal.Gen Cert.BwdA

variable (m : (ℓ : Loc nD τ sig) → Buf (Elt Ideal) ℓ)

def gradAt (c : Dev nD) (r : Fin 16384) (q : ℕ) : EReal := (argRows m c).grads r ⟨q / 1024 % 3, by omega⟩ ⟨q % 1024, by omega⟩
def outD (c : Dev nD) : FVec Ideal S16384x12288 .bf16 := fun i =>
  if 6144 ≤ (i 1).val ∧ (i 1).val < 9216 then gradAt m c (i 0) (i 1).val else m (c.tc.loc main_arg7) i
def outW (c : Dev nD) : FVec Ideal S1024x1024 .f32 := fun i => ∑ r, (argRows m c).y r (i 0) * (argRows m c).G r (i 1)
def outS (c : Dev nD) : FVec Ideal S8x128x128 .f32 := fun i => ∑ n : Fin 128, ∑ x : Fin 128,
  (argRows m c).dm (row n (i 1)) (col (i 0) x) * (argRows m c).vn (row n (i 2)) (col (i 0) x)
def outB (c : Dev nD) : FVec Ideal S8x128 .f32 := fun i => ∑ n : Fin 128, ∑ x : Fin 128, (argRows m c).dm (row n (i 1)) (col (i 0) x)
def outG (c : Dev nD) : FVec Ideal S1x1024 .f32 := fun i => ∑ r, (argRows m c).dvn r (i 1) * (argRows m c).vh r (i 1)
def outL (c : Dev nD) : FVec Ideal S1x1024 .f32 := fun i => ∑ r, (argRows m c).dvn r (i 1)

section
variable (c : Dev nD) (r : Fin 16384) (k : Fin 1024)

/-- The three cotangents' arrays, -/
abbrev duArr : FVec Ideal S16384x1024 .f32 :=
  addf (addf (mulf (res_main_v111 (launchContents m c)) (res_main_v95 (launchContents m c))) (res_main_v119 (launchContents m c))) (mulf (mulf (broadcastInDim S16384x1024 ![] bcast_S_S16384x1024 (res_main_v75 (launchContents m c))) (res_main_v119 (launchContents m c))) (mulf (broadcastInDim S16384x1024 ![] bcast_S_S16384x1024 (constant S_ .f32 0x40400000#32)) (mulf (res_main_v1 (launchContents m c)) (res_main_v1 (launchContents m c)))))
abbrev dvArr : FVec Ideal S16384x1024 .f32 :=
  addf (addf (mulf (res_main_v169 (launchContents m c)) (res_main_v26 (launchContents m c))) (res_main_v176 (launchContents m c))) (mulf (mulf (broadcastInDim S16384x1024 ![] bcast_S_S16384x1024 (res_main_v6 (launchContents m c))) (res_main_v176 (launchContents m c))) (mulf (broadcastInDim S16384x1024 ![] bcast_S_S16384x1024 (constant S_ .f32 0x40400000#32)) (mulf (res_main_v3 (launchContents m c)) (res_main_v3 (launchContents m c)))))
abbrev dzArr : FVec Ideal S16384x1024 .f32 :=
  addf (mulf (res_main_v107 (launchContents m c)) (res_main_v99_2 (launchContents m c))) (mulf (mulf (res_main_v5 (launchContents m c)) (res_main_v107 (launchContents m c))) (mulf (res_main_v99_2 (launchContents m c)) (subf (broadcastInDim S16384x1024 ![] bcast_S_S16384x1024 (constant S_ .f32 0x3F800000#32)) (res_main_v99_2 (launchContents m c)))))

variable {m c} (h : (argRows m c).Real)
include h

/-- entry by entry. -/
theorem du_at : duArr m c (ix2 r k) = (argRows m c).du r k := by
  refine Eq.trans ?_ (h.du_eq r k)
  pointwise
  rw [row_dysm, row_hU, row_inU, k1_U, row_U]
  rfl
theorem dv_at : dvArr m c (ix2 r k) = (argRows m c).dv r k := by
  refine Eq.trans ?_ (h.dv_eq r k)
  pointwise
  rw [row_ln, row_hV, row_inV, k1_V, row_V]
  rfl
theorem dz_at : dzArr m c (ix2 r k) = (argRows m c).dz r k := by
  refine Eq.trans ?_ (h.dz_eq r k)
  pointwise
  rw [row_umd, row_sig, row_Z]
end

section
variable (r : Fin 16384) (L : FVec Ideal S16384x6144 .bf16) (A0 A1 A2 : FVec Ideal S16384x1024 .f32) (R : FVec Ideal S16384x3072 .bf16)

/-- The reference's first result: three blocks of columns between the columns it leaves. -/
abbrev cat : FVec Ideal S16384x12288 .bf16 :=
  concatenate S16384x12288 1 [⟨S16384x6144, L⟩, ⟨S16384x3072, (truncf .bf16 (concatenate S16384x3072 1 [⟨S16384x1024, A0⟩, ⟨S16384x1024, A1⟩, ⟨S16384x1024, A2⟩]
    concatenates_S16384x1024_S16384x1024_S16384x1024_S16384x3072_d1 : FVec Ideal S16384x3072 .f32) bitsLt_bf16_f32 : FVec Ideal S16384x3072 .bf16)⟩,
    ⟨S16384x3072, R⟩] concatenates_S16384x6144_S16384x3072_S16384x3072_S16384x12288_d1

theorem cat_l (k : Fin 6144) : cat L A0 A1 A2 R (ix2 r ⟨k.val, by omega⟩) = L (ix2 r k) := by pointwise
theorem cat_0 (k : Fin 1024) : cat L A0 A1 A2 R (ix2 r ⟨6144 + (1024 * 0 + k.val), by omega⟩) = A0 (ix2 r k) := by
  pointwise
  exact dif_pos (by omega)
theorem cat_1 (k : Fin 1024) : cat L A0 A1 A2 R (ix2 r ⟨6144 + (1024 * 1 + k.val), by omega⟩) = A1 (ix2 r k) := by
  pointwise
  exact dif_pos (by omega)
theorem cat_2 (k : Fin 1024) : cat L A0 A1 A2 R (ix2 r ⟨6144 + (1024 * 2 + k.val), by omega⟩) = A2 (ix2 r k) := by
  pointwise
  rw [dif_pos (by omega), dif_neg (by omega), dif_neg (by omega)]
  exact congrArg (fun k => A2 (ix2 r k)) (Fin.ext (show 2048 + k.val - 1024 - 1024 = k.val by omega))
theorem cat_r (k : Fin 3072) : cat L A0 A1 A2 R (ix2 r ⟨9216 + k.val, by omega⟩) = R (ix2 r k) := by
  pointwise
  rw [dif_neg (by omega), dif_neg (by omega)]
  exact congrArg (fun k => R (ix2 r k)) (Fin.ext (show 9216 + k.val - 6144 - 3072 = k.val by omega))
end

/-- The reference's first result. -/
abbrev dArr (c : Dev nD) : FVec Ideal S16384x12288 .bf16 :=
  cat (extractStridedSlice S16384x6144 ![0, 0] ((launchContents m c) (Proc.devRef .tc main_arg7)) slices_S16384x12288_S16384x6144_0_0)
    (duArr m c) (dvArr m c) (dzArr m c)
    (extractStridedSlice S16384x3072 ![0, 9216] ((launchContents m c) (Proc.devRef .tc main_arg7)) slices_S16384x12288_S16384x3072_0_9216)

theorem gradAt_eq (c : Dev nD) (r : Fin 16384) (b : Fin 3) (k : Fin 1024) :
    gradAt m c r (6144 + (1024 * b.val + k.val)) = (argRows m c).grads r b k :=
  congrArg₂ (fun b k => (argRows m c).grads r b k) (Fin.ext (show (6144 + (1024 * b.val + k.val)) / 1024 % 3 = b.val by omega))
    (Fin.ext (show (6144 + (1024 * b.val + k.val)) % 1024 = k.val by omega))

theorem res_all (c : Dev nD) (h : (argRows m c).Real) : dArr m c = outD m c := by
  funext z
  obtain ⟨r, ⟨q, hq⟩, rfl⟩ := Lift.exists_ix2 z
  by_cases h1 : q < 6144
  · refine Eq.trans ?_ (show m (c.tc.loc main_arg7) (ix2 r ⟨q, hq⟩) = _ from (if_neg fun h => absurd h.1 (by simpa using h1)).symm)
    refine (cat_l r _ _ _ _ _ ⟨q, h1⟩).trans ?_
    pointwise
  · by_cases h2 : q < 9216
    · refine Eq.trans ?_ (show gradAt m c r q = _ from (if_pos ⟨not_lt.1 h1, h2⟩).symm)
      obtain ⟨b, k, rfl⟩ : ∃ (b : Fin 3) (k : Fin 1024), q = 6144 + (1024 * b.val + k.val) :=
        ⟨⟨(q - 6144) / 1024, by omega⟩, ⟨(q - 6144) % 1024, by omega⟩, show q = 6144 + (1024 * ((q - 6144) / 1024) + (q - 6144) % 1024) by omega⟩
      rw [gradAt_eq]
      obtain rfl | rfl | rfl := (by decide : ∀ b : Fin 3, b = 0 ∨ b = 1 ∨ b = 2) b
      exacts [(cat_0 r _ _ _ _ _ k).trans (du_at r k h), (cat_1 r _ _ _ _ _ k).trans (dv_at r k h), (cat_2 r _ _ _ _ _ k).trans (dz_at r k h)]
    · refine Eq.trans ?_ (show m (c.tc.loc main_arg7) (ix2 r ⟨q, hq⟩) = _ from (if_neg fun h => absurd h.2 h2).symm)
      obtain ⟨k, rfl⟩ : ∃ k : Fin 3072, q = 9216 + k.val := ⟨⟨q - 9216, by omega⟩, show q = 9216 + (q - 9216) by omega⟩
      refine (cat_r r _ _ _ _ _ k).trans ?_
      pointwise

/-- The spatial matrices' result is zero where their mask is, -/
def outSm (c : Dev nD) : FVec Ideal S8x128x128 .f32 := fun i => if (i 2).val / 64 ≤ (i 1).val / 64 then outS m c i else 0
theorem res_s (c : Dev nD) : select (res_main_v66_1 (launchContents m c)) (Host.dotGeneral (φ₁ := .f32) (φ₂ := .f32) dot_S8x128x128x128_S128x128x8x128_S8x128x128_12_03_3_1_0_2 none (res_main_v131 (launchContents m c)) (res_main_v67 (launchContents m c))) (broadcastInDim S8x128x128 ![] bcast_S_S8x128x128 (constant (F := Ideal) S_ .f32 0x00000000#32)) = outSm m c := by
  funext z
  obtain ⟨g, i, j, rfl⟩ : ∃ g i j, z = ix3 g i j := ⟨z 0, z 1, z 2, by funext a; fin_cases a <;> rfl⟩
  pointwise
  rw [at_mask]
  unfold outSm
  by_cases hm : j.val / 64 ≤ i.val / 64
  · rw [if_pos hm]
    refine (if_pos rfl).trans (Eq.trans ?_ (show outS m c (ix3 g i j) = _ from (if_pos hm).symm))
    exact Finset.sum_congr (M := EReal) rfl fun n _ => Finset.sum_congr (M := EReal) rfl fun x _ => by rw [at_dmT, at_vn]; rfl
  · rw [if_neg hm]
    exact (if_neg (by decide)).trans (show (0 : EReal) = _ from (if_neg hm).symm)
/-- A sum over the first and the last of four axes. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (a : EReal) (i : Fin n1) (g : Fin n2) :
    Ideal.hostReduceAdd h v a (ix2 i g) = a + ∑ n : Fin n0, ∑ x : Fin n3, v (ix4 n i g x) := by
  refine congrArg (a + ·) ((Finset.sum_filter_eq_sum_of_fiber _ (fun k : Fin n0 × Fin n3 => (ix4 k.1 i g k.2 : (⟨4, ![n0, n1, n2, n3]⟩ : Shape).Idx))
    (fun _ _ e => Prod.ext (congrFun e 0) (congrFun e 3)) (fun z => ⟨fun e => ⟨(z 0, z 3), ?_⟩, ?_⟩) v).trans ?_)
  · funext b
    fin_cases b
    · rfl
    · exact (congrFun e 0).symm
    · exact (congrFun e 1).symm
    · rfl
  · rintro ⟨k, rfl⟩
    funext b
    fin_cases b <;> rfl
  · simp only [Fintype.sum_prod_type]
theorem res_b (c : Dev nD) : transpose S8x128 [1, 0] (Host.reduceAdd (broadcastInDim S128x8x1 ![0, 1] bcast_S128x8_S128x8x1_0_1 (Host.reduceAdd (shapeCast _ (Host.reduceAdd (res_main_v112 (launchContents m c)) (constant S_ .f32 0x00000000#32) reducesTo_S128x128x8x128_S128x8_d0_3 h_S_) shapeCasts_S128x8_S1x128x8x1) (constant S_ .f32 0x00000000#32) reducesTo_S1x128x8x1_S128x8_d0_3 h_S_)) (constant S_ .f32 0x00000000#32) reducesTo_S128x8x1_S128x8_d2 h_S_) transposes_S128x8_S8x128_1_0 = outB m c := by
  funext z
  obtain ⟨g, i, rfl⟩ := Lift.exists_ix2 z
  pointwise
  simp only [sum_outer, Finset.univ_unique, Finset.sum_singleton, zero_add]
  pointwise
  rw [sum_outer, zero_add]
  exact Finset.sum_congr (M := EReal) rfl fun n _ => Finset.sum_congr (M := EReal) rfl fun x _ => at_dm m c n i g x

theorem run_rows (ρ : Dev nD → PrngReg) (hr : ∀ c, (argRows m c).Real) : θ_run defs (onTc (τ := τ) (main (F := Ideal))) ⟨m, fun _ => 0, ρ⟩ fun r => ∀ c : Dev nD,
      r.2.mem ((c.tc : Thread nD τ).loc main_v186) = outD m c
      ∧ r.2.mem ((c.tc : Thread nD τ).loc main_v105) = outW m c
      ∧ r.2.mem ((c.tc : Thread nD τ).loc main_v136) = outSm m c
      ∧ r.2.mem ((c.tc : Thread nD τ).loc main_v130) = outB m c
      ∧ r.2.mem ((c.tc : Thread nD τ).loc main_v187) = outG m c
      ∧ r.2.mem ((c.tc : Thread nD τ).loc main_v188) = outL m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run m ρ)
  obtain ⟨h0, h1, h2, h3, h4, h5, h6⟩ := h c
  refine ⟨h0.trans (res_all m c (hr c)), h1.trans ?_, h2.trans (res_s m c), h3.trans (res_b m c), h4.trans ?_, h5.trans ?_, h6⟩
  · clear h h0 h1 h2 h3 h4 h5 h6
    funext z
    obtain ⟨i, j, rfl⟩ := Lift.exists_ix2 z
    pointwise
    refine Finset.sum_congr (M := EReal) rfl fun x _ => ?_
    rw [row_G, row_y]
    exact mul_comm (G := EReal) _ _
  · clear h h0 h1 h2 h3 h4 h5 h6
    funext z
    obtain ⟨i, k, rfl⟩ := Lift.exists_ix2 z
    pointwise
    simp only [Finset.univ_unique, Finset.sum_singleton]
    refine Finset.sum_congr (M := EReal) rfl fun x _ => ?_
    rw [row_vh, row_dvn]
    exact mul_comm (G := EReal) _ _
  · clear h h0 h1 h2 h3 h4 h5 h6
    funext z
    obtain ⟨i, k, rfl⟩ := Lift.exists_ix2 z
    pointwise
    simp only [Finset.univ_unique, Finset.sum_singleton]
    exact Finset.sum_congr (M := EReal) rfl fun x _ => row_dvn m c x k

end Cert.Reference5Ideal.Value

end
-- ==== Proof.BwdA.lean ====
/- The value claim of `_bwd_a`: kernel and reference end with the same six results wherever the arguments are real numbers,
   the mixing matrices' gradient read where the causal mask lets it through.
   Hand-written, untrusted. -/
module

public import proofs.«01_k».proof.Defs
public import proofs.«01_k».proof.Proof.Gen.Pre_finite5
public import proofs.«01_k».proof.Proof.Gen.On_causal5
public import proofs.«01_k».proof.Proof.BwdAArrays
public import proofs.«01_k».proof.Proof.BwdARefRun

@[expose] public section

noncomputable section

open Idealize.ShloMosaic Idealize.ShloMosaic.Tactic
open Idealize.SL.Sem

namespace Cert.BwdA

variable (m : (ℓ : Loc Cert.Kernel5Ideal.nD Cert.Kernel5Ideal.τ Cert.Kernel5Ideal.sig) → Buf (Elt Ideal) ℓ)

/-- Where the precondition holds every argument row the call reads is real. -/
theorem args_real (h : Cert.Pre_Kernel5Ideal_finite5 m) (c : Dev Cert.Kernel5Ideal.nD) : (Kernel5Ideal.Value.argRows m c).Real := by
  have h0 := congrFun (h c) (fun a => a.elim0)
  unfold Cert.Pre_finite5.fn Cert.Pre_finite5.fn_part1 Cert.Pre_finite5.fn_part2 at h0
  dsimp only at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  haveI : Subsingleton Cert.Pre_finite5.S_.Idx := ⟨fun a b => funext fun i => i.elim0⟩
  have e1 := real_of_all h1 (fun i => by pointwise)
  have e2 := real_of_all h2 (fun i => by pointwise)
  have e3 := real_of_all h3 (fun i => by pointwise)
  have e4 := real_of_all h4 (fun i => by pointwise)
  have e5 := real_of_all h5 (fun i => by pointwise)
  have e6 := real_of_all h6 (fun i => by pointwise)
  have e7 := real_of_all h7 (fun i => by pointwise)
  exact ⟨fun r k => e1 _, fun r k => e1 _, fun r k => e1 _, fun r k => e2 _, fun k => e3 _, fun k => e4 _, fun g i j => e5 _,
    fun g i => e6 _, fun i j => e7 _⟩

theorem causal : ∀ i j : Fin 128, IntOp.ori (IntOp.cmpi .slt (BitVec.ofNat 32 j.val) 64#32) (IntOp.cmpi .sge (BitVec.ofNat 32 i.val) 64#32) = 1#1 → j.val / 64 ≤ i.val / 64 := by
  decide +kernel

/-- The value claim: where the precondition holds, the kernel and the reference end with equal results. -/
theorem value : Cert.algebraic_Kernel5Ideal_Reference5Ideal_on_causal5_pre_finite5 := by
  intro m g m' g' hpre hag
  have eA : ∀ c, Reference5Ideal.Value.argRows m' c = Kernel5Ideal.Value.argRows m c := fun c => by
    obtain ⟨a0, a1, a2, a3, a4, a5, a6, -⟩ := hag c
    simp only [Reference5Ideal.Value.argRows, Kernel5Ideal.Value.argRows, a0, a1, a2, a3, a4, a5, a6]
  refine ⟨fun c => Kernel5Ideal.Value.outD m c, fun c => Kernel5Ideal.Value.outW m c, fun c => Kernel5Ideal.Value.outS m c,
    fun c => Kernel5Ideal.Value.outB m c, fun c => Kernel5Ideal.Value.outG m c, fun c => Kernel5Ideal.Value.outL m c,
    (θ_run _ _ _).mono (fun r h c => ?_) (Kernel5Ideal.Value.run_blocks m g),
    (θ_run _ _ _).mono (fun r h c => ?_) (Reference5Ideal.Value.run_rows m' g' fun c => (eA c).symm ▸ args_real m hpre c)⟩
  · obtain ⟨h0, h1, h2, h3, h4, h5, h6⟩ := h c
    exact ⟨fun i _ => congrFun (h0.trans (Kernel5Ideal.Value.arr_grads m c)) i, fun i _ => congrFun (h1.trans (Kernel5Ideal.Value.arr_w m c)) i,
      fun i _ => congrFun (h2.trans (Kernel5Ideal.Value.arr_s m c)) i, fun i _ => congrFun (h3.trans (Kernel5Ideal.Value.arr_b m c)) i,
      fun i _ => congrFun (h4.trans (Kernel5Ideal.Value.arr_g m c)) i, fun i _ => congrFun (h5.trans (Kernel5Ideal.Value.arr_l m c)) i, h6⟩
  · obtain ⟨h0, h1, h2, h3, h4, h5, h6⟩ := h c
    obtain ⟨-, -, -, -, -, -, -, a7⟩ := hag c
    refine ⟨fun i _ => congrFun (h0.trans ?_) i, fun i _ => congrFun (h1.trans ?_) i, fun i hi => (congrFun h2 i).trans ?_,
      fun i _ => congrFun (h3.trans ?_) i, fun i _ => congrFun (h4.trans ?_) i, fun i _ => congrFun (h5.trans ?_) i, h6⟩
    · unfold Reference5Ideal.Value.outD
      simp only [Reference5Ideal.Value.gradAt, eA, a7]
      rfl
    · unfold Reference5Ideal.Value.outW
      rw [eA]
      rfl
    · clear h h0 h1 h2 h3 h4 h5 h6
      have hc : (i 2).val / 64 ≤ (i 1).val / 64 := causal (i 1) (i 2) (by
        rw [← hi]
        unfold Cert.On_causal5.fn
        pointwise)
      unfold Reference5Ideal.Value.outSm Reference5Ideal.Value.outS
      rw [eA]
      exact if_pos hc
    · unfold Reference5Ideal.Value.outB
      rw [eA]
      rfl
    · unfold Reference5Ideal.Value.outG
      rw [eA]
      rfl
    · unfold Reference5Ideal.Value.outL
      rw [eA]
      rfl

end Cert.BwdA

end
-- ==== Proof.BwdProjRows.lean ====
/- The input projection's backward call, row by row: the cotangent of the normalised row is a product over the twelve column
   groups of the projection, the rows' cotangent and the gain's follow from it. Hand-written, untrusted. -/
module

public import proofs.«01_k».proof.Proof.Reals
public import proofs.«01_k».proof.Proof.LossHead

@[expose] public section

noncomputable section

open Idealize.ShloMosaic
open scoped BigOperators

namespace Cert.BwdProjDx

open Cert.LossHead (rms)

/-- The call's arguments by row: the rows, the gain, the weights, the projection's cotangent, the rows' cotangent so far. -/
structure Args where
  x : Fin 16384 → Fin 1024 → EReal
  g : Fin 1024 → EReal
  w : Fin 1024 → Fin 12288 → EReal
  d : Fin 16384 → Fin 12288 → EReal
  o : Fin 16384 → Fin 1024 → EReal

/-- The weights' column group that the cotangent's column group `q` belongs to, and back. -/
def perm : Fin 12 → Fin 12 := ![5, 6, 7, 8, 3, 4, 0, 1, 2, 9, 10, 11]
def back : Fin 12 → Fin 12 := ![6, 7, 8, 4, 5, 0, 1, 2, 3, 9, 10, 11]

/-- Column `j` of group `q`. -/
abbrev col (q : Fin 12) (j : Fin 1024) : Fin 12288 := ⟨1024 * q.val + j.val, by omega⟩

theorem exists_col (n : Fin 12288) : ∃ q j, n = col q j :=
  ⟨⟨n.val / 1024, by omega⟩, ⟨n.val % 1024, by omega⟩, Fin.ext (show n.val = 1024 * (n.val / 1024) + n.val % 1024 by omega)⟩

/-- The weights' column that the cotangent's column `n` belongs to. -/
abbrev wcol (n : Fin 12288) : Fin 12288 := col (perm ⟨n.val / 1024, by omega⟩) ⟨n.val % 1024, by omega⟩
/-- The cotangent's column that the weights' column `n` belongs to. -/
abbrev dcol (n : Fin 12288) : Fin 12288 := col (back ⟨n.val / 1024, by omega⟩) ⟨n.val % 1024, by omega⟩

theorem grp_col (q : Fin 12) (j : Fin 1024) : (⟨(col q j).val / 1024, by omega⟩ : Fin 12) = q :=
  Fin.ext (show (1024 * q.val + j.val) / 1024 = q.val by omega)
theorem lane_col (q : Fin 12) (j : Fin 1024) : (⟨(col q j).val % 1024, by omega⟩ : Fin 1024) = j :=
  Fin.ext (show (1024 * q.val + j.val) % 1024 = j.val by omega)
theorem wcol_col (q : Fin 12) (j : Fin 1024) : wcol (col q j) = col (perm q) j := by
  unfold wcol
  rw [grp_col, lane_col]
theorem dcol_col (q : Fin 12) (j : Fin 1024) : dcol (col q j) = col (back q) j := by
  unfold dcol
  rw [grp_col, lane_col]

/-- A sum over the columns, group by group. -/
theorem sum_col (f : Fin 12288 → EReal) : ∑ n, f n = ∑ q : Fin 12, ∑ j : Fin 1024, f (col q j) := by
  rw [Fin.sum_univ_tiles 12 1024 (by norm_num) f]
  exact Finset.sum_congr rfl fun q _ => Finset.sum_congr rfl fun j _ => congrArg f (Fin.ext (show q.val * 1024 + j.val = 1024 * q.val + j.val by omega))

/-- The columns in the cotangent's order are the columns in the weights' order. -/
theorem sum_wcol (f : Fin 12288 → Fin 12288 → EReal) : ∑ n, f n (wcol n) = ∑ n, f (dcol n) n := by
  rw [sum_col, sum_col]
  simp only [wcol_col, dcol_col]
  refine Fintype.sum_equiv (⟨perm, back, by decide, by decide⟩ : Fin 12 ≃ Fin 12) _ _ fun q => ?_
  show _ = ∑ j, f (col (back (perm q)) j) (col (perm q) j)
  rw [(by decide : ∀ q, back (perm q) = q) q]

namespace Args

variable (a : Args) (r : Fin 16384)

/-- The normalised row's cotangent. -/
def dh (k : Fin 1024) : EReal := ∑ n, a.d r n * a.w k (wcol n)

/-- The row's cotangent, in the kernel's closed form. -/
def dx (k : Fin 1024) : EReal :=
  a.o r k + rms (a.x r) * (a.dh r k * a.g k - a.x r k * rms (a.x r) *
    Ideal.div (∑ j, a.dh r j * a.g j * (a.x r j * rms (a.x r))) (Ideal.ofBits .f32 0x44800000#32))

/-- The row's part of the gain's cotangent. -/
def dg (k : Fin 1024) : EReal := a.dh r k * (a.x r k * rms (a.x r))

/-- The cotangent of the row's mean square, as reverse differentiation writes it. -/
def dms : EReal :=
  Ideal.div ((∑ j, a.x r j * (a.dh r j * a.g j)) * (Ideal.ofBits .f32 0xBF000000#32 *
    Ideal.div (rms (a.x r)) (Ideal.div (∑ j, a.x r j * a.x r j) (Ideal.ofBits .f32 0x44800000#32) + Ideal.ofBits .f32 0x358637BD#32)))
    (Ideal.ofBits .f32 0x44800000#32)

/-- The row's cotangent, as reverse differentiation writes it. -/
def dxR (k : Fin 1024) : EReal :=
  a.o r k + (a.dh r k * a.g k * rms (a.x r) + a.x r k * a.dms r + a.dms r * a.x r k)

/-- The arguments the gradient reads are real numbers. -/
structure Real : Prop where
  x : ∀ r k, IsReal (a.x r k)
  g : ∀ k, IsReal (a.g k)
  w : ∀ k n, IsReal (a.w k n)
  d : ∀ r n, IsReal (a.d r n)

variable {a} (h : a.Real)
include h

/-- On real arguments both forms of the row's cotangent are the same. -/
theorem Real.dx_eq (k : Fin 1024) : a.dxR r k = a.dx r k := by
  have hd : ∀ j, IsReal (a.dh r j) := fun j => IsReal.sum _ fun n => (h.d r n).mul (h.w j _)
  choose x hx using h.x r
  choose g hg using h.g
  choose e he using hd
  obtain ⟨v, hv, hV⟩ := LossHead.exists_ms x
  have h2 := Lift.inv_sqrt_sq hv
  have h1024 : (1024 : ℝ) ≠ 0 := by norm_num
  have hx' : a.x r = fun j => ((x j : ℝ) : EReal) := funext hx
  unfold dxR dx dms
  refine congrArg (a.o r k + ·) ?_
  simp only [rms, hx', hg, he, hV, Lift.rsqrt_coe_pos hv]
  simp only [LossHead.c1024, LossHead.cneghalf, ← EReal.coe_mul, ← EReal.coe_sub, ← EReal.coe_add, Lift.coe_sum, Lift.div_coe_coe h1024,
    Lift.div_coe_coe hv.ne']
  congr 1
  generalize (Real.sqrt v)⁻¹ = q at *
  have e1 : ∑ j, e j * g j * (x j * q) = q * ∑ j, x j * (e j * g j) := by
    rw [Finset.mul_sum]; exact Finset.sum_congr rfl fun j _ => by ring
  rw [e1, div_eq_mul_inv q v, ← h2]
  ring

end Args

end Cert.BwdProjDx

end
-- ==== Proof.BwdProjKernel.lean ====
/- The input projection's backward call: what the kernel's run leaves in its two results, by rows. Hand-written, untrusted. -/
module

public import proofs.«01_k».proof.Proof.Gen.Kernel6Ideal.Value
public import Idealize.ShloMosaic.Lib.Pipeline.ReadBack
public import proofs.«01_k».proof.Proof.BwdProjRows

@[expose] public section

set_option maxRecDepth 16384

noncomputable section

open Idealize.ShloMosaic Idealize.ShloMosaic.TcCoe Idealize.SL.Sem
open Idealize.ShloMosaic.Pipeline (Dat)
open Idealize.ShloMosaic.StableHlo (launchContents)
open scoped BigOperators

namespace Cert.Kernel6Ideal.Value

open Cert.Kernel6Ideal Cert.Kernel6Ideal.Gen Cert.BwdProjDx
open Cert.LossHead (rms)

section
variable (X H O : Vec Ideal S1024x1024 .f32) (G L : Vec Ideal S1x1024 .f32) (D : Vec Ideal S1024x2048 .bf16) (W : Vec Ideal S2048x1024 .bf16)

theorem pay_acc (r k : Fin 1024) : k0_pay3 H D W (ix2 r k) = H (ix2 r k) + ∑ n : Fin 2048, D (ix2 r n) * W (ix2 n k) := by
  pointwise [k0_pay3]
theorem pay_zero (z : S1024x1024.Idx) : k0_pay2 (F := Ideal) z = 0 := by pointwise [k0_pay2]
theorem pay_zero_g (z : S1x1024.Idx) : k0_pay1 (F := Ideal) z = 0 := by pointwise [k0_pay1]

theorem pay_dx (r k : Fin 1024) : k0_pay7 X G H O (ix2 r k)
    = O (ix2 r k) + rms (fun j => X (ix2 r j)) * (H (ix2 r k) * G (ix2 0 k) - X (ix2 r k) * rms (fun j => X (ix2 r j)) *
      Ideal.div (∑ j, H (ix2 r j) * G (ix2 0 j) * (X (ix2 r j) * rms fun j => X (ix2 r j))) (Ideal.ofBits .f32 0x44800000#32)) := by
  pointwise [k0_pay7, k0_pay5, k0_pay4]
  rfl
theorem pay_dg (k : Fin 1024) : k0_pay6 X H L (ix2 0 k)
    = L (ix2 0 k) + ∑ r : Fin 1024, H (ix2 r k) * (X (ix2 r k) * rms fun j => X (ix2 r j)) := by
  pointwise [k0_pay6, k0_pay5, k0_pay4]
  rfl
end

set_option maxHeartbeats 4000000 in
/-- Twelve blocks of rows, one after the other: row `i` of block `q`. -/
theorem cat_at (A0 A1 A2 A3 A4 A5 A6 A7 A8 A9 A10 A11 : FVec Ideal S1024x1024 .bf16) (n : Fin 12288) (q : Fin 12) (i k : Fin 1024) (h : n.val = 1024 * q.val + i.val) :
    concatenate S12288x1024 0 [⟨S1024x1024, A0⟩, ⟨S1024x1024, A1⟩, ⟨S1024x1024, A2⟩, ⟨S1024x1024, A3⟩, ⟨S1024x1024, A4⟩, ⟨S1024x1024, A5⟩, ⟨S1024x1024, A6⟩, ⟨S1024x1024, A7⟩, ⟨S1024x1024, A8⟩, ⟨S1024x1024, A9⟩, ⟨S1024x1024, A10⟩, ⟨S1024x1024, A11⟩]
      concatenates_S1024x1024_S1024x1024_S1024x1024_S1024x1024_S1024x1024_S1024x1024_S1024x1024_S1024x1024_S1024x1024_S1024x1024_S1024x1024_S1024x1024_S12288x1024_d0
      (ix2 n k : S12288x1024.Idx) = (![A0, A1, A2, A3, A4, A5, A6, A7, A8, A9, A10, A11] : Fin 12 → FVec Ideal S1024x1024 .bf16) q (ix2 i k) := by
  have key : ∀ (A : FVec Ideal S1024x1024 .bf16) (a : Fin 1024), a = i → A (ix2 a k) = A (ix2 i k) := fun A a e => by rw [e]
  pointwise
  obtain ⟨q, hq⟩ := q
  dsimp only at h
  interval_cases q <;> (repeat rw [dif_neg (by omega)]) <;> (try rw [dif_pos (by omega)]) <;>
    exact key _ _ (Fin.ext (by dsimp only; omega))

variable (m : (ℓ : Loc nD τ sig) → Buf (Elt Ideal) ℓ)
variable (c : Dev nD) (t : Fin cfg0.N)

/-- The call's arguments by row. -/
abbrev argRows (c : Dev nD) : Args :=
  ⟨fun r k => m (c.tc.loc main_arg0) (ix2 r k), fun k => m (c.tc.loc main_arg1) (ix1 k), fun k n => m (c.tc.loc main_arg2) (ix2 k n),
    fun r n => m (c.tc.loc main_arg3) (ix2 r n), fun r k => m (c.tc.loc main_arg4) (ix2 r k)⟩

theorem wt_at (c : Dev nD) (q : Fin 12) (i k : Fin 1024) :
    (V m c main_v27 : FVec Ideal S12288x1024 .bf16) (ix2 (col q i) k) = (argRows m c).w k (col (perm q) i) := by
  unfold V
  after_results_simp
  refine (cat_at _ _ _ _ _ _ _ _ _ _ _ _ (col q i) q i k rfl).trans ?_
  obtain ⟨q, hq⟩ := q
  interval_cases q <;> dsimp only [Matrix.cons_val] <;> after_results_simp <;> pointwise <;> first
    | rfl
    | exact congrArg (fun j => m (c.tc.loc main_arg2) (ix2 k j)) (Fin.ext (show i.val = 1024 * 0 + i.val by omega))

/-- Row `r` of point `t`'s tile, and column `n` of its columns, in the whole arrays. -/
abbrev rowAt (t : Fin cfg0.N) (r : Fin 1024) : Fin 16384 :=
  ⟨1024 * (t.val / 6) + r.val, by have := t.isLt; have : cfg0.N = 96 := rfl; omega⟩
abbrev colAt (t : Fin cfg0.N) (n : Fin 2048) : Fin 12288 := ⟨2048 * (t.val % 6) + n.val, by omega⟩

theorem idx : ∀ t : Fin cfg0.N, win0_0.index t = ![t.val / 6, t.val % 6] ∧ win0_1.index t = ![t.val % 6, 0] ∧ win0_2.index t = ![t.val / 6, 0]
    ∧ win0_3.index t = ![0, 0] ∧ win0_4.index t = ![t.val / 6, 0] ∧ win0_5.index t = ![t.val / 6, 0] ∧ win0_6.index t = ![0, 0] :=
  (by decide +kernel : ∀ t : Fin grid0.N, _)

theorem blk0 (r : Fin 1024) (n : Fin 2048) :
    (iblk m c 0 t : FVec Ideal S1024x2048 .bf16) (ix2 r n) = (argRows m c).d (rowAt t r) (colAt t n) := by
  blk_point [iblk, V, idx t]
theorem blk1 (n : Fin 2048) (k : Fin 1024) :
    (iblk m c 1 t : FVec Ideal S2048x1024 .bf16) (ix2 n k) = (V m c main_v27 : FVec Ideal S12288x1024 .bf16) (ix2 (colAt t n) k) := by
  blk_point [iblk, idx t]
theorem blk2 (r k : Fin 1024) :
    (iblk m c 2 t : FVec Ideal S1024x1024 .f32) (ix2 r k) = (argRows m c).x (rowAt t r) k := by
  blk_point [iblk, V, idx t]
theorem blk3 (k : Fin 1024) :
    (iblk m c 3 t : FVec Ideal S1x1024 .f32) (ix2 0 k) = (argRows m c).g k := by
  blk_point [iblk, V, idx t]
theorem blk4 (r k : Fin 1024) :
    (iblk m c 4 t : FVec Ideal S1024x1024 .f32) (ix2 r k) = (argRows m c).o (rowAt t r) k := by
  blk_point [iblk, V, idx t]

/-- What a point adds to the accumulated product. -/
abbrev part (z : S1024x1024.Idx) : EReal :=
  ∑ n : Fin 2048, (argRows m c).d (rowAt t (z 0)) (colAt t n) * (argRows m c).w (z 1) (wcol (colAt t n))

theorem step_acc (H : Vec Ideal S1024x1024 .f32) (z : S1024x1024.Idx) :
    k0_pay3 H (iblk m c 0 t) (iblk m c 1 t) z = H z + part m c t z := by
  obtain ⟨r, k, rfl⟩ := Lift.exists_ix2 z
  rw [pay_acc]
  refine congrArg (H (ix2 r k) + ·) (Finset.sum_congr rfl fun n _ => ?_)
  rw [blk0, blk1]
  obtain ⟨q, j, e⟩ := exists_col (colAt t n)
  rw [e, wt_at, wcol_col]
  rfl

theorem sc_first (h : t.val % 6 = 0) (z : S1024x1024.Idx) :
    (outsAt0 m c t.val t.isLt).2.2 z = 0 + part m c t z := by
  by_cases h0 : t.val % 96 = 0
  · rw [outsAt0_A m c t h0 h (by omega)]; frame_out; rw [step_acc, pay_zero]
  · rw [outsAt0_D m c t h0 h (by omega)]; frame_out; rw [step_acc, pay_zero]
theorem sc_step (h : ¬t.val % 6 = 0) (z : S1024x1024.Idx) :
    (outsAt0 m c t.val t.isLt).2.2 z = (outsAt0 m c (t.val - 1) (Nat.lt_of_le_of_lt (Nat.sub_le _ _) t.isLt)).2.2 z + part m c t z := by
  by_cases h5 : t.val % 6 = 5
  · rw [outsAt0_C m c t (by omega) h h5]; frame_out; rw [read_unread_whole, step_acc]
  · rw [outsAt0_B m c t (by omega) h h5]; frame_out; rw [read_unread_whole, step_acc]

/-- At the last point of a tile the accumulated product is the normalised rows' cotangent. -/
theorem sc_last (h : t.val % 6 = 5) (r k : Fin 1024) :
    ((outsAt0 m c t.val t.isLt).2.2 : FVec Ideal S1024x1024 .f32) (ix2 r k) = (argRows m c).dh (rowAt t r) k := by
  rw [Pipeline.eq_sum_fin_of_reset_step_apply_of_flush (fun n h => (outsAt0 m c n h).2.2) 6 (fun _ => 0) (part m c) (sc_first m c)
    (sc_step m c) t h _, zero_add]
  unfold Args.dh
  rw [Fin.sum_univ_tiles 6 2048 (by norm_num) fun n => (argRows m c).d (rowAt t r) n * (argRows m c).w k (wcol n)]
  refine Finset.sum_congr rfl fun s _ => Finset.sum_congr rfl fun n _ => ?_
  have e1 : rowAt ⟨6 * (t.val / 6) + s.val, Pipeline.run_point_lt_of_flush t h s⟩ r = rowAt t r := Fin.ext (show 1024 * ((6 * (t.val / 6) + s.val) / 6) + r.val = 1024 * (t.val / 6) + r.val by omega)
  have e2 : colAt ⟨6 * (t.val / 6) + s.val, Pipeline.run_point_lt_of_flush t h s⟩ n = ⟨s.val * 2048 + n.val, by omega⟩ :=
    Fin.ext (show 2048 * ((6 * (t.val / 6) + s.val) % 6) + n.val = s.val * 2048 + n.val by omega)
  show (argRows m c).d (rowAt _ r) (colAt _ n) * (argRows m c).w k (wcol (colAt _ n)) = _
  rw [e1, e2]

/-- The last point of a tile, over the accumulated product it leaves. -/
theorem sc_C (h : t.val % 6 = 5) : (outsAt0 m c t.val t.isLt).2.2
    = k0_pay3 (outsAt0 m c (t.val - 1) (Nat.lt_of_le_of_lt (Nat.sub_le _ _) t.isLt)).2.2 (iblk m c 0 t) (iblk m c 1 t) := by
  rw [outsAt0_C m c t (by omega) (by omega) h]
  frame_out
  rw [read_unread_whole]
theorem dx_C (h : t.val % 6 = 5) :
    (outsAt0 m c t.val t.isLt).1 = k0_pay7 (iblk m c 2 t) (iblk m c 3 t) (outsAt0 m c t.val t.isLt).2.2 (iblk m c 4 t) := by
  rw [sc_C m c t h, outsAt0_C m c t (by omega) (by omega) h]
  frame_out
  rw [read_unread_whole]
theorem dg_C (h : t.val % 6 = 5) :
    (outsAt0 m c t.val t.isLt).2.1 = k0_pay6 (iblk m c 2 t) (outsAt0 m c t.val t.isLt).2.2
        (outsAt0 m c (t.val - 1) (Nat.lt_of_le_of_lt (Nat.sub_le _ _) t.isLt)).2.1 := by
  rw [sc_C m c t h, outsAt0_C m c t (by omega) (by omega) h]
  frame_out
  rw [read_unread_whole]

/-- Where an entry of a point's block of a result lies in the whole array. -/
theorem emb5 (t : Fin cfg0.N) (r k : Fin 1024) : (win0_5.blk t).view.emb (ix2 r k : S1024x1024.Idx) = ix2 (rowAt t r) k := by
  blk_ext [idx t]
theorem emb6 (t : Fin cfg0.N) (z : S1x1024.Idx) : (win0_6.blk t).view.emb z = z := by
  blk_ext [idx t]

/-- What the run leaves in the two results. -/
def outDx (c : Dev nD) : FVec Ideal S16384x1024 .f32 := fun i => (argRows m c).dx (i 0) (i 1)
def outDg (c : Dev nD) : FVec Ideal S1x1024 .f32 := fun i => ∑ r, (argRows m c).dg r (i 1)

/-- The rows' cotangent after the run. -/
theorem arr_dx (c : Dev nD) : (dats m 0 c).arrAt 5 cfg0.N = outDx m c := by
  refine (dats m 0 c).arrAt_eq_of_covers 5 _ (by decide +kernel) fun t hf y => ?_
  have h5 := (flush0_5 t).mp hf
  have key : ∀ z : S1024x1024.Idx, ((outsAt0 m c t.val t.isLt).1 : FVec Ideal S1024x1024 .f32) z
      = outDx m c ((win0_5.blk t).view.emb z) := fun z => by
    obtain ⟨r, k, rfl⟩ := Lift.exists_ix2 z
    rw [dx_C m c t h5, pay_dx, emb5]
    simp only [sc_last m c t h5, blk2, blk3, blk4]
    rfl
  blk_simp
  rw [after0_5]
  exact key y

/-- What a point adds to the gain's cotangent: the rows of its tile, at the tile's last point. -/
abbrev partG (z : S1x1024.Idx) : EReal :=
  if t.val % 6 = 5 then ∑ r : Fin 1024, (argRows m c).dg (rowAt t r) (z 1) else 0

theorem dg_first (h : t.val % 96 = 0) (z : S1x1024.Idx) :
    (outsAt0 m c t.val t.isLt).2.1 z = 0 + partG m c t z := by
  rw [outsAt0_A m c t h (by omega) (by omega)]
  frame_out
  rw [pay_zero_g]
  have e : partG m c t z = 0 := if_neg (by omega)
  rw [e, add_zero]
theorem dg_step (h : ¬t.val % 96 = 0) (z : S1x1024.Idx) :
    (outsAt0 m c t.val t.isLt).2.1 z = (outsAt0 m c (t.val - 1) (Nat.lt_of_le_of_lt (Nat.sub_le _ _) t.isLt)).2.1 z + partG m c t z := by
  by_cases h5 : t.val % 6 = 5
  · obtain ⟨q, k, rfl⟩ := Lift.exists_ix2 z
    obtain rfl : q = 0 := Subsingleton.elim _ _
    rw [dg_C m c t h5, pay_dg]
    simp only [sc_last m c t h5, blk2]
    exact (congrArg (_ + ·) (if_pos h5)).symm
  · have e : partG m c t z = 0 := if_neg h5
    rw [e, add_zero]
    by_cases h0 : t.val % 6 = 0
    · rw [outsAt0_D m c t h h0 h5]; rfl
    · rw [outsAt0_B m c t h h0 h5]; rfl

/-- The points' parts are the rows' parts. -/
theorem sum_partG (c : Dev nD) (p : Fin 96 → Fin cfg0.N) (hp : ∀ s, (p s).val = s.val) (z : S1x1024.Idx) :
    ∑ s, partG m c (p s) z = ∑ r, (argRows m c).dg r (z 1) := by
  rw [Fin.sum_univ_tiles 16 6 (by norm_num) fun s => partG m c (p s) z, Fin.sum_univ_tiles 16 1024 (by norm_num) fun r => (argRows m c).dg r (z 1)]
  refine Finset.sum_congr rfl fun s _ => ?_
  rw [Fin.sum_univ_succAbove _ (5 : Fin 6), Finset.sum_eq_zero (fun k _ => if_neg ?_), add_zero]
  · refine (if_pos ?_).trans (Finset.sum_congr rfl fun r _ => congrArg (fun r => (argRows m c).dg r (z 1)) (Fin.ext ?_))
    · rw [hp]
      show (s.val * 6 + 5) % 6 = 5
      omega
    · show 1024 * ((p _).val / 6) + r.val = s.val * 1024 + r.val
      rw [hp]
      show 1024 * ((s.val * 6 + 5) / 6) + r.val = s.val * 1024 + r.val
      omega
  · have hk : ((5 : Fin 6).succAbove k).val ≠ 5 := fun e => Fin.succAbove_ne 5 k (Fin.ext e)
    have := ((5 : Fin 6).succAbove k).isLt
    rw [hp]
    show ¬(s.val * 6 + ((5 : Fin 6).succAbove k).val) % 6 = 5
    omega

/-- The gain's cotangent after the run: the rows' parts summed tile by tile. -/
theorem arr_dg (c : Dev nD) : (dats m 0 c).arrAt 6 cfg0.N = outDg m c := by
  refine (dats m 0 c).arrAt_eq_of_covers 6 _ (by decide +kernel) fun t hf y => ?_
  blk_simp
  rw [after0_6, Pipeline.eq_sum_fin_of_reset_step_apply_of_flush (fun n h => (outsAt0 m c n h).2.1) 96 (fun _ => 0) (partG m c)
    (dg_first m c) (dg_step m c) t ((flush0_6 t).mp hf) _, zero_add]
  have h0 : t.val / 96 = 0 := Nat.div_eq_of_lt (lt_of_lt_of_le t.isLt (show cfg0.N ≤ 96 from le_refl 96))
  refine (sum_partG m c _ (fun s => ?_) _).trans (congrArg (outDg m c) (emb6 t y)).symm
  show 96 * (t.val / 96) + s.val = s.val
  omega

end Cert.Kernel6Ideal.Value

end
-- ==== Proof.BwdProjRef.lean ====
/- The input projection's backward call: what the reference's run leaves in its two results, by rows. Hand-written, untrusted. -/
module

public import proofs.«01_k».proof.Proof.Gen.Reference6Ideal.Run
public import proofs.«01_k».proof.Proof.BwdProjRows

@[expose] public section

set_option maxRecDepth 16384

noncomputable section

open Idealize.ShloMosaic Idealize.ShloMosaic.TcCoe Idealize.SL.Sem
open scoped BigOperators

namespace Cert.Reference6Ideal.Value

open Cert.Reference6Ideal Cert.Reference6Ideal.Gen Cert.BwdProjDx
open Cert.LossHead (rms)

/-- The cotangent with its column groups in the weights' order. -/
abbrev cot (D : FVec Ideal S16384x12288 .bf16) : FVec Ideal S16384x12288 .bf16 :=
  concatenate S16384x12288 1 [⟨S16384x3072, (extractStridedSlice S16384x3072 ![0, 6144] D slices_S16384x12288_S16384x3072_0_6144 : FVec Ideal S16384x3072 .bf16)⟩,
    ⟨S16384x2048, (extractStridedSlice S16384x2048 ![0, 4096] D slices_S16384x12288_S16384x2048_0_4096 : FVec Ideal S16384x2048 .bf16)⟩,
    ⟨S16384x4096, (extractStridedSlice S16384x4096 ![0, 0] D slices_S16384x12288_S16384x4096_0_0 : FVec Ideal S16384x4096 .bf16)⟩,
    ⟨S16384x3072, (extractStridedSlice S16384x3072 ![0, 9216] D slices_S16384x12288_S16384x3072_0_9216 : FVec Ideal S16384x3072 .bf16)⟩]
    concatenates_S16384x3072_S16384x2048_S16384x4096_S16384x3072_S16384x12288_d1

theorem cot_at (D : FVec Ideal S16384x12288 .bf16) (r : Fin 16384) (q : Fin 12) (j : Fin 1024) :
    cot D (ix2 r (col q j)) = D (ix2 r (col (back q) j)) := by
  have key : ∀ (n : Fin 12288) (_ : n.val = 1024 * q.val + j.val), cot D (ix2 r n) = D (ix2 r (col (back q) j)) := fun n h => by
    have fin : ∀ a : Fin 12288, a.val = 1024 * (back q).val + j.val → D (ix2 r a) = D (ix2 r (col (back q) j)) := fun a e =>
      congrArg (fun a => D (ix2 r a)) (Fin.ext e)
    pointwise
    obtain ⟨q, hq⟩ := q
    dsimp only at h
    interval_cases q <;> (repeat rw [dif_neg (by omega)]) <;> (try rw [dif_pos (by omega)]) <;> refine fin _ ?_ <;>
      simp [back] <;> omega
  exact key _ rfl

variable (m : (ℓ : Loc nD τ sig) → Buf (Elt Ideal) ℓ)

/-- The call's arguments by row. -/
abbrev argRows (c : Dev nD) : Args :=
  ⟨fun r k => m (c.tc.loc main_arg0) (ix2 r k), fun k => m (c.tc.loc main_arg1) (ix1 k), fun k n => m (c.tc.loc main_arg2) (ix2 k n),
    fun r n => m (c.tc.loc main_arg3) (ix2 r n), fun r k => m (c.tc.loc main_arg4) (ix2 r k)⟩

/-- The normalised row's cotangent, in the weights' order of the columns. -/
theorem dh_at (c : Dev nD) (r : Fin 16384) (k : Fin 1024) :
    ∑ n, cot (m (c.tc.loc main_arg3)) (ix2 r n) * m (c.tc.loc main_arg2) (ix2 k n) = (argRows m c).dh r k := by
  refine Eq.trans ?_ (sum_wcol fun n n' => (argRows m c).d r n * (argRows m c).w k n').symm
  refine Finset.sum_congr (M := EReal) rfl fun n _ => ?_
  obtain ⟨q, j, rfl⟩ := exists_col n
  rw [cot_at, dcol_col]

/-- The array of these cotangents. -/
def dhArr (c : Dev nD) : FVec Ideal S16384x1024 .f32 := fun z => (argRows m c).dh (z 0) (z 1)
theorem dot_at (C : FVec Ideal S16384x12288 .bf16) (W : FVec Ideal S1024x12288 .f32) (r : Fin 16384) (k : Fin 1024) :
    Host.dotGeneral dot_S16384x12288_S1024x12288_S16384x1024_1_1_0_0_n_n none (extf .f32 C bitsLt_bf16_f32) W (ix2 r k)
      = ∑ n, C (ix2 r n) * W (ix2 k n) := by pointwise
theorem dh_arr (c : Dev nD) : Host.dotGeneral (φ₂ := .f32) dot_S16384x12288_S1024x12288_S16384x1024_1_1_0_0_n_n none
    (extf .f32 (cot (m (c.tc.loc main_arg3))) bitsLt_bf16_f32) (m (c.tc.loc main_arg2)) = dhArr m c := by
  funext z
  obtain ⟨r, k, rfl⟩ := Lift.exists_ix2 z
  exact (dot_at _ _ r k).trans (dh_at m c r k)

theorem res_dx (c : Dev nD) : res_main_v44 m c = fun i : S16384x1024.Idx => (argRows m c).dxR (i 0) (i 1) := by
  funext z
  obtain ⟨r, k, rfl⟩ := Lift.exists_ix2 z
  unfold res_main_v44
  rw [dh_arr]
  pointwise
  simp only [Fin.sum_univ_one]
  rfl

/-- The reference's run by rows: what each of the results holds, the arguments unchanged. -/
theorem run_rows (ρ : Dev nD → PrngReg) : θ_run defs (onTc (τ := τ) (main (F := Ideal))) ⟨m, fun _ => 0, ρ⟩ fun r => ∀ c : Dev nD,
      r.2.mem ((c.tc : Thread nD τ).loc main_v44) = (fun i : S16384x1024.Idx => (argRows m c).dxR (i 0) (i 1))
      ∧ r.2.mem ((c.tc : Thread nD τ).loc main_v45) = (fun i : S1x1024.Idx => ∑ r, (argRows m c).dg r (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (res_dx m c), (h c).2.1.trans ?_, (h c).2.2⟩) (run m ρ)
  clear h
  funext z
  obtain ⟨q, k, rfl⟩ := Lift.exists_ix2 z
  rw [dh_arr]
  pointwise
  simp only [Finset.univ_unique, Finset.sum_singleton]
  refine Finset.sum_congr (M := EReal) rfl fun x _ => ?_
  exact mul_comm (G := EReal) _ _

end Cert.Reference6Ideal.Value

end
-- ==== Proof.BwdProjDx.lean ====
/- The value claim of `_bwd_proj_dx`: kernel and reference end with the same two results wherever the arguments the gradient
   reads are real numbers. Hand-written, untrusted. -/
module

public import proofs.«01_k».proof.Defs
public import proofs.«01_k».proof.Proof.Gen.Pre_finite6
public import proofs.«01_k».proof.Proof.BwdProjKernel
public import proofs.«01_k».proof.Proof.BwdProjRef

@[expose] public section

noncomputable section

open Idealize.ShloMosaic Idealize.ShloMosaic.Tactic
open Idealize.SL.Sem

namespace Cert.BwdProjDx

/-- Where the precondition holds every argument row the gradient reads is real. -/
theorem args_real (m : (ℓ : Loc Cert.Kernel6Ideal.nD Cert.Kernel6Ideal.τ Cert.Kernel6Ideal.sig) → Buf (Elt Ideal) ℓ)
    (h : Cert.Pre_Kernel6Ideal_finite6 m) (c : Dev Cert.Kernel6Ideal.nD) : (Kernel6Ideal.Value.argRows m c).Real := by
  have h0 := congrFun (h c) (fun a => a.elim0)
  unfold Cert.Pre_finite6.fn at h0
  dsimp only at h0
  obtain ⟨h0, h4⟩ := IntOp.andi_eq_one.1 h0
  obtain ⟨h0, h3⟩ := IntOp.andi_eq_one.1 h0
  obtain ⟨h1, h2⟩ := IntOp.andi_eq_one.1 h0
  haveI : Subsingleton Cert.Pre_finite6.S_.Idx := ⟨fun a b => funext fun i => i.elim0⟩
  have e1 := real_of_all h1 (fun i => by pointwise)
  have e2 := real_of_all h2 (fun i => by pointwise)
  have e3 := real_of_all h3 (fun i => by pointwise)
  have e4 := real_of_all h4 (fun i => by pointwise)
  exact ⟨fun r k => e1 _, fun k => e2 _, fun k n => e3 _, fun r n => e4 _⟩

/-- The value claim: where the precondition holds, the kernel and the reference end with equal results. -/
theorem value : Cert.algebraic_Kernel6Ideal_Reference6Ideal_pre_finite6 := by
  intro m g m' g' hpre hag
  have eA : ∀ c, Reference6Ideal.Value.argRows m' c = Kernel6Ideal.Value.argRows m c := fun c => by
    obtain ⟨a0, a1, a2, a3, a4⟩ := hag c
    simp only [Reference6Ideal.Value.argRows, Kernel6Ideal.Value.argRows, a0, a1, a2, a3, a4]
  refine ⟨fun c => Kernel6Ideal.Value.outDx m c, fun c => Kernel6Ideal.Value.outDg m c,
    (θ_run _ _ _).mono (fun r h c => ?_) (Kernel6Ideal.Value.run_blocks m g),
    (θ_run _ _ _).mono (fun r h c => ?_) (Reference6Ideal.Value.run_rows m' g')⟩
  · obtain ⟨h0, h1, h2⟩ := h c
    exact ⟨h0.trans (Kernel6Ideal.Value.arr_dx m c), h1.trans (Kernel6Ideal.Value.arr_dg m c), h2⟩
  · obtain ⟨h0, h1, h2⟩ := h c
    rw [eA] at h0 h1
    exact ⟨h0.trans (funext fun i => (args_real m hpre c).dx_eq (i 0) (i 1)), h1, h2⟩

end Cert.BwdProjDx

end
-- ==== Proof.FwdCO.lean ====
/- The forward call of the gated convolution and the merge: the branch's product, the three gated branches, the output
   projection and the residual, against the plain forward lines. Hand-written, untrusted. -/
module

public import proofs.«01_k».proof.Proof.Gen.Kernel8Ideal.Value
public import proofs.«01_k».proof.Proof.Gen.Reference8Ideal.Run
public import proofs.«01_k».proof.Proof.Lift
public import proofs.«01_k».proof.Proof.Rows
public import proofs.«01_k».proof.Proof.BwdCRows
public import proofs.«01_k».proof.Defs

@[expose] public section

set_option maxRecDepth 16384

noncomputable section

open Idealize.ShloMosaic Idealize.ShloMosaic.TcCoe Idealize.SL.Sem
open Idealize.ShloMosaic.Pipeline (Dat)
open scoped BigOperators

/-! ## One row of the call -/

namespace Cert.FwdCO

/-- The argument rows of the call: those of the gated convolution, the two other branches, the gates' logits, the stream and
    the output projection. -/
structure Args where
  b : BwdC.Args
  pa : Fin 16384 → Fin 1024 → EReal
  pb : Fin 16384 → Fin 1024 → EReal
  l : Fin 16384 → Fin 3072 → EReal
  x : Fin 16384 → Fin 1024 → EReal
  wo : Fin 1024 → Fin 1024 → EReal

namespace Args

variable (a : Args)

/-- The third branch: the gated convolution times its matrix. -/
def pc (r : Fin 16384) (j : Fin 1024) : EReal := ∑ k, a.b.y r k * a.b.w k j

/-- The three branches, each under its gate. -/
def merged (r : Fin 16384) (k : Fin 1024) : EReal :=
  Ideal.logistic (a.l r ⟨k.val, by omega⟩) * a.pa r k + Ideal.logistic (a.l r ⟨1024 + k.val, by omega⟩) * a.pb r k
    + Ideal.logistic (a.l r ⟨2048 + k.val, by omega⟩) * a.pc r k

/-- The stream after the layer. -/
def next (r : Fin 16384) (j : Fin 1024) : EReal := a.x r j + ∑ k, a.merged r k * a.wo k j

end Args

end Cert.FwdCO

/-! ## What the kernel's run leaves in its two results -/

namespace Cert.Kernel8Ideal.Value

open Cert.Kernel8Ideal Cert.Kernel8Ideal.Gen Cert.FwdCO

section
variable (B Z PA PB : Vec Ideal S512x1024 .bf16) (L : Vec Ideal S512x3072 .bf16) (X : Vec Ideal S512x1024 .f32)
  (W WO : Vec Ideal S1024x1024 .bf16) (b c0 c1 c2 : Vec Ideal S1x1024 .f32) (q0 q1 q2 : Vec Ideal S512x1024 .f32)
  (r : Fin 512) (j : Fin 1024) (a : Args) (row : Fin 512 → Fin 16384)
  (hB : ∀ r k, B (ix2 r k) = a.b.B (row r) k) (hZ : ∀ r k, Z (ix2 r k) = a.b.Z (row r) k)
  (hW : ∀ i j, W (ix2 i j) = a.b.w i j) (hb : ∀ k, b (ix2 0 k) = a.b.bias k)
  (h0 : ∀ k, c0 (ix2 0 k) = a.b.taps 0 k) (h1 : ∀ k, c1 (ix2 0 k) = a.b.taps 1 k) (h2 : ∀ k, c2 (ix2 0 k) = a.b.taps 2 k)
  (e0 : ∀ r k, q0 (ix2 r k) = a.b.qp ((row r).val + 0) k) (e1 : ∀ r k, q1 (ix2 r k) = a.b.qp ((row r).val + 1) k)
  (e2 : ∀ r k, q2 (ix2 r k) = a.b.qp ((row r).val + 2) k)

include hB hZ hW hb h0 h1 h2 e0 e1 e2 in
theorem pay_pc : k0_pay8 (k0_pay2 B) (k0_pay3 Z) (k0_pay4 b) (k0_pay7 c0 q0) c1 q1 c2 q2 W (ix2 r j) = a.pc (row r) j := by
  pointwise [k0_pay8, k0_pay2, k0_pay3, k0_pay4, k0_pay7]
  simp only [hB, hZ, hW, hb, h0, h1, h2, e0, e1, e2]
  rfl

variable (hA : ∀ r k, PA (ix2 r k) = a.pa (row r) k) (hP : ∀ r k, PB (ix2 r k) = a.pb (row r) k)
  (hL : ∀ r k, L (ix2 r k) = a.l (row r) k) (hX : ∀ r k, X (ix2 r k) = a.x (row r) k) (hO : ∀ i j, WO (ix2 i j) = a.wo i j)

include hB hZ hW hb h0 h1 h2 e0 e1 e2 hA hP hL in
theorem pay_merged : k0_pay9 (k0_pay2 B) (k0_pay3 Z) (k0_pay4 b) (k0_pay7 c0 q0) c1 q1 c2 q2 W PA PB L (ix2 r j) = a.merged (row r) j := by
  pointwise [k0_pay9]
  rw [pay_pc B Z W b c0 c1 c2 q0 q1 q2 r j a row hB hZ hW hb h0 h1 h2 e0 e1 e2]
  simp only [hA, hP, hL]
  rfl

include hB hZ hW hb h0 h1 h2 e0 e1 e2 hA hP hL hX hO in
theorem pay_next : k0_pay1 (k0_pay9 (k0_pay2 B) (k0_pay3 Z) (k0_pay4 b) (k0_pay7 c0 q0) c1 q1 c2 q2 W PA PB L) X WO (ix2 r j) = a.next (row r) j := by
  pointwise [k0_pay1]
  rw [hX]
  refine congrArg₂ _ rfl (Finset.sum_congr rfl fun k _ => ?_)
  rw [pay_merged B Z PA PB L W b c0 c1 c2 q0 q1 q2 r k a row hB hZ hW hb h0 h1 h2 e0 e1 e2 hA hP hL, hO]
end

variable (m : (ℓ : Loc nD τ sig) → Buf (Elt Ideal) ℓ)

/-- The argument rows of the call, from the argument arrays. -/
def argRows (c : Dev nD) : Args where
  b := { H := fun r j => m (c.tc.loc main_arg0) (ix2 r ⟨5120 + j.val, by omega⟩)
         B := fun r j => m (c.tc.loc main_arg0) (ix2 r ⟨6144 + j.val, by omega⟩)
         C := fun r j => m (c.tc.loc main_arg0) (ix2 r ⟨7168 + j.val, by omega⟩)
         Z := fun r j => m (c.tc.loc main_arg0) (ix2 r ⟨8192 + j.val, by omega⟩)
         P := fun _ _ => 0
         taps := fun i j => m (c.tc.loc main_arg1) (ix2 i j)
         bias := fun j => m (c.tc.loc main_arg2) (ix1 j)
         w := fun i j => m (c.tc.loc main_arg3) (ix2 i j) }
  pa r j := m (c.tc.loc main_arg5) (ix2 r j)
  pb r j := m (c.tc.loc main_arg6) (ix2 r j)
  l r j := m (c.tc.loc main_arg0) (ix2 r ⟨9216 + j.val, by omega⟩)
  x r j := m (c.tc.loc main_arg4) (ix2 r j)
  wo i j := m (c.tc.loc main_arg7) (ix2 i j)

theorem lt32 (t : Fin cfg0.N) : t.val < 32 := lt_of_lt_of_le t.isLt (le_refl 32)

/-- Row `r` of point `t`'s block, in the whole array. -/
abbrev rowAt (t : Fin cfg0.N) (r : Fin 512) : Fin 16384 := ⟨512 * t.val + r.val, by have := lt32 t; omega⟩

theorem idx : ∀ t : Fin cfg0.N, win0_0.index t = ![t.val, 5] ∧ win0_1.index t = ![16 * t.val - 1, 5]
    ∧ win0_2.index t = ![t.val, 6] ∧ win0_3.index t = ![t.val, 7] ∧ win0_4.index t = ![16 * t.val - 1, 7]
    ∧ win0_5.index t = ![t.val, 8] ∧ win0_6.index t = ![0, 0] ∧ win0_7.index t = ![0, 0]
    ∧ win0_8.index t = ![0, 0] ∧ win0_9.index t = ![t.val, 0] ∧ win0_10.index t = ![t.val, 0]
    ∧ win0_11.index t = ![t.val, 0] ∧ win0_12.index t = ![t.val, 3] ∧ win0_13.index t = ![0, 0]
    ∧ win0_14.index t = ![t.val, 0] ∧ win0_15.index t = ![t.val, 0] :=
  (by decide +kernel : ∀ t : Fin grid0.N, _)

section
variable (c : Dev nD) (t : Fin cfg0.N) (r : Fin 512) (k i j : Fin 1024)

theorem blk0 : (iblk m c 0 t : FVec Ideal S512x1024 .bf16) (ix2 r k) = (argRows m c).b.H (rowAt t r) k := by
  refine Eq.trans ?_ (show m (c.tc.loc main_arg0) (ix2 (rowAt t r) ⟨5120 + k.val, by omega⟩) = _ from rfl)
  blk_point [iblk, V, idx t]
theorem blk2 : (iblk m c 2 t : FVec Ideal S512x1024 .bf16) (ix2 r k) = (argRows m c).b.B (rowAt t r) k := by
  refine Eq.trans ?_ (show m (c.tc.loc main_arg0) (ix2 (rowAt t r) ⟨6144 + k.val, by omega⟩) = _ from rfl)
  blk_point [iblk, V, idx t]
theorem blk3 : (iblk m c 3 t : FVec Ideal S512x1024 .bf16) (ix2 r k) = (argRows m c).b.C (rowAt t r) k := by
  refine Eq.trans ?_ (show m (c.tc.loc main_arg0) (ix2 (rowAt t r) ⟨7168 + k.val, by omega⟩) = _ from rfl)
  blk_point [iblk, V, idx t]
theorem blk5 : (iblk m c 5 t : FVec Ideal S512x1024 .bf16) (ix2 r k) = (argRows m c).b.Z (rowAt t r) k := by
  refine Eq.trans ?_ (show m (c.tc.loc main_arg0) (ix2 (rowAt t r) ⟨8192 + k.val, by omega⟩) = _ from rfl)
  blk_point [iblk, V, idx t]
theorem blk6 (i : Fin 3) : (iblk m c 6 t : FVec Ideal S3x1024 .f32) (ix2 i k) = (argRows m c).b.taps i k := by
  refine Eq.trans ?_ (show m (c.tc.loc main_arg1) (ix2 i k) = _ from rfl)
  blk_point [iblk, V, idx t]
theorem blk7 : (iblk m c 7 t : FVec Ideal S1x1024 .f32) (ix2 0 k) = (argRows m c).b.bias k := by
  refine Eq.trans ?_ (show m (c.tc.loc main_arg2) (ix1 k) = _ from rfl)
  blk_point [iblk, V, idx t]
theorem blk8 : (iblk m c 8 t : FVec Ideal S1024x1024 .bf16) (ix2 i j) = (argRows m c).b.w i j := by
  refine Eq.trans ?_ (show m (c.tc.loc main_arg3) (ix2 i j) = _ from rfl)
  blk_point [iblk, V, idx t]
theorem blk9 : (iblk m c 9 t : FVec Ideal S512x1024 .f32) (ix2 r k) = (argRows m c).x (rowAt t r) k := by
  refine Eq.trans ?_ (show m (c.tc.loc main_arg4) (ix2 (rowAt t r) k) = _ from rfl)
  blk_point [iblk, V, idx t]
theorem blk10 : (iblk m c 10 t : FVec Ideal S512x1024 .bf16) (ix2 r k) = (argRows m c).pa (rowAt t r) k := by
  refine Eq.trans ?_ (show m (c.tc.loc main_arg5) (ix2 (rowAt t r) k) = _ from rfl)
  blk_point [iblk, V, idx t]
theorem blk11 : (iblk m c 11 t : FVec Ideal S512x1024 .bf16) (ix2 r k) = (argRows m c).pb (rowAt t r) k := by
  refine Eq.trans ?_ (show m (c.tc.loc main_arg6) (ix2 (rowAt t r) k) = _ from rfl)
  blk_point [iblk, V, idx t]
theorem blk12 (k : Fin 3072) : (iblk m c 12 t : FVec Ideal S512x3072 .bf16) (ix2 r k) = (argRows m c).l (rowAt t r) k := by
  refine Eq.trans ?_ (show m (c.tc.loc main_arg0) (ix2 (rowAt t r) ⟨9216 + k.val, by omega⟩) = _ from rfl)
  blk_point [iblk, V, idx t]
theorem blk13 : (iblk m c 13 t : FVec Ideal S1024x1024 .bf16) (ix2 i j) = (argRows m c).wo i j := by
  refine Eq.trans ?_ (show m (c.tc.loc main_arg7) (ix2 i j) = _ from rfl)
  blk_point [iblk, V, idx t]

/-- The 32 rows before a tile, except before the first. -/
theorem blk1 (h : 0 < t.val) (s : Fin 32) : (iblk m c 1 t : FVec Ideal S32x1024 .bf16) (ix2 s k)
    = (argRows m c).b.H ⟨32 * (16 * t.val - 1) + s.val, by have := lt32 t; omega⟩ k := by
  refine Eq.trans ?_ (show m (c.tc.loc main_arg0) (ix2 ⟨32 * (16 * t.val - 1) + s.val, by have := lt32 t; omega⟩ ⟨5120 + k.val, by omega⟩) = _ from rfl)
  blk_point [iblk, V, idx t]
theorem blk4 (h : 0 < t.val) (s : Fin 32) : (iblk m c 4 t : FVec Ideal S32x1024 .bf16) (ix2 s k)
    = (argRows m c).b.C ⟨32 * (16 * t.val - 1) + s.val, by have := lt32 t; omega⟩ k := by
  refine Eq.trans ?_ (show m (c.tc.loc main_arg0) (ix2 ⟨32 * (16 * t.val - 1) + s.val, by have := lt32 t; omega⟩ ⟨7168 + k.val, by omega⟩) = _ from rfl)
  blk_point [iblk, V, idx t]

theorem emb14 : (win0_14.blk t).view.emb (ix2 r k : S512x1024.Idx) = ix2 (rowAt t r) k := by
  blk_ext [idx t]
theorem emb15 : (win0_15.blk t).view.emb (ix2 r k : S512x1024.Idx) = ix2 (rowAt t r) k := by
  blk_ext [idx t]

/-- The kernel's test for the first tile. -/
theorem first_tile : ∀ t : Fin cfg0.N, Scalar.cmpi .sgt (BitVec.ofNat 32 (grid0.coords t 0).val) 0#32 = if 0 < t.val then 1#1 else 0#1 :=
  (by decide +kernel : ∀ t : Fin grid0.N, _)

/-- The last two of the 32 rows before a tile: the convolution's input there, zeros before the first tile. -/
theorem pay_halo (s : Fin 32) (hs : 30 ≤ s.val) : k0_pay5 (grid0.coords t) (iblk m c 1 t) (iblk m c 4 t) (ix2 s k)
    = (argRows m c).b.qp (512 * t.val + (s.val - 30)) k := by
  have e := first_tile t
  have hN := lt32 t
  pointwise [k0_pay5]
  by_cases h : 0 < t.val
  · rw [if_pos h] at e
    rw [e, (argRows m c).b.qp_at (r := ⟨32 * (16 * t.val - 1) + s.val, by omega⟩)
      (show _ = 32 * (16 * t.val - 1) + s.val + 2 by omega)]
    pointwise
    rw [blk1 m c t k h, blk4 m c t k h]
    exact mul_comm (G := EReal) _ _
  · rw [if_neg h] at e
    rw [e, (argRows m c).b.qp_zero (by omega)]
    pointwise

theorem pay_q : k0_pay6 (iblk m c 3 t) (iblk m c 0 t) (ix2 r k) = (argRows m c).b.q (rowAt t r) k := by
  pointwise [k0_pay6]
  rw [blk3, blk0]
  rfl

/-- The convolution's input around a tile, as the scratch holds it. -/
abbrev qPieces : List (View.Piece (Elt Ideal) S544x1024 .f32) :=
  [⟨Rect.unit (s := S544x1024) ![32, 0] S512x1024.size inb_S544x1024_S512x1024_32_0, k0_pay6 (iblk m c 3 t) (iblk m c 0 t)⟩,
    ⟨Rect.unit (s := S544x1024) ![0, 0] S32x1024.size inb_S544x1024_S32x1024_0_0, k0_pay5 (grid0.coords t) (iblk m c 1 t) (iblk m c 4 t)⟩]

theorem q_canon (s : Fin 544) (hs : 30 ≤ s.val) : View.canon (qPieces m c t) (ix2 s k) = (argRows m c).b.qp (512 * t.val + (s.val - 30)) k := by
  by_cases h : s.val < 32
  · refine (Rows.canon_skip _ _ _ s k (Or.inl h)).trans ?_
    refine (Rows.canon_rows _ _ _ s ⟨s.val, h⟩ k (Nat.zero_add _).symm).trans ?_
    exact pay_halo m c t k ⟨s.val, h⟩ hs
  · refine (Rows.canon_rows _ _ _ s ⟨s.val - 32, by omega⟩ k (show s.val = 32 + (s.val - 32) by omega)).trans ?_
    rw [pay_q]
    exact ((argRows m c).b.qp_at (r := rowAt t ⟨s.val - 32, by omega⟩) (show _ = 512 * t.val + (s.val - 32) + 2 by omega) k).symm

/-- A load of the scratch `i` rows after the two rows before the tile. -/
theorem read_q {i o : ℕ} (hi : i < 3) (ho : o = 30 + i) (inb : ∀ a, (![o, 0] : Fin 2 → ℕ) a + S512x1024.size a ≤ S544x1024.size a) :
    (View.whole cc0_scratch0).readCov (Val := Elt Ideal) (qPieces m c t) (Rect.unit (s := S544x1024) ![o, 0] S512x1024.size inb).toLoadRect (ix2 r k)
      = (argRows m c).b.qp ((rowAt t r).val + i) k := by
  refine (Rows.readCov_rows _ _ _ ⟨o + r.val, by omega⟩ r k rfl).trans ((q_canon m c t k _ (show 30 ≤ o + r.val by omega)).trans ?_)
  exact congrArg (fun i => (argRows m c).b.qp i k) (show 512 * t.val + (o + r.val - 30) = 512 * t.val + r.val + i by omega)

/-- The convolution's taps as a point reads them. -/
theorem ld_tap (i : ℕ) (hi : i < 3) (inb : ∀ a, (![i, 0] : Fin 2 → ℕ) a + S1x1024.size a ≤ S3x1024.size a) :
    View.ld (iblk m c 6 t : Vec Ideal S3x1024 .f32) (Rect.unit (s := S3x1024) ![i, 0] S1x1024.size inb) (ix2 0 k) = (argRows m c).b.taps ⟨i, hi⟩ k :=
  (Rows.ld_rows _ _ ⟨i, hi⟩ 0 k rfl).trans (blk6 m c t k ⟨i, hi⟩)

/-- A point's store of the branch, -/
theorem outs_pc : ((outsAt0 m c t).1 : FVec Ideal S512x1024 .bf16) (ix2 r j) = (argRows m c).pc (rowAt t r) j := by
  unfold outsAt0
  frame_out
  exact pay_pc _ _ _ _ _ _ _ _ _ _ r j (argRows m c) (rowAt t) (blk2 m c t) (blk5 m c t) (blk8 m c t) (blk7 m c t)
    (fun k => ld_tap m c t k 0 (by decide) _) (fun k => ld_tap m c t k 1 (by decide) _) (fun k => ld_tap m c t k 2 (by decide) _)
    (fun r k => read_q m c t r k (i := 0) (o := 30) (by decide) rfl _) (fun r k => read_q m c t r k (i := 1) (o := 31) (by decide) rfl _) (fun r k => read_q m c t r k (i := 2) (o := 32) (by decide) rfl _)

/-- and of the stream. -/
theorem outs_next : ((outsAt0 m c t).2 : FVec Ideal S512x1024 .f32) (ix2 r j) = (argRows m c).next (rowAt t r) j := by
  unfold outsAt0
  frame_out
  exact pay_next _ _ _ _ _ _ _ _ _ _ _ _ _ _ _ r j (argRows m c) (rowAt t) (blk2 m c t) (blk5 m c t) (blk8 m c t) (blk7 m c t)
    (fun k => ld_tap m c t k 0 (by decide) _) (fun k => ld_tap m c t k 1 (by decide) _) (fun k => ld_tap m c t k 2 (by decide) _)
    (fun r k => read_q m c t r k (i := 0) (o := 30) (by decide) rfl _) (fun r k => read_q m c t r k (i := 1) (o := 31) (by decide) rfl _) (fun r k => read_q m c t r k (i := 2) (o := 32) (by decide) rfl _)
    (blk10 m c t) (blk11 m c t) (blk12 m c t) (blk9 m c t) (blk13 m c t)
end

/-- What the run leaves in the two results. -/
def outPc (c : Dev nD) : FVec Ideal S16384x1024 .bf16 := fun i => (argRows m c).pc (i 0) (i 1)
def outX (c : Dev nD) : FVec Ideal S16384x1024 .f32 := fun i => (argRows m c).next (i 0) (i 1)

theorem arr_pc (c : Dev nD) : (dats m 0 c).arrAt 14 cfg0.N = outPc m c := by
  refine (dats m 0 c).arrAt_eq_of_covers 14 _ (by decide +kernel) fun t hf y => ?_
  have key : ∀ z : S512x1024.Idx, ((outsAt0 m c t).1 : FVec Ideal S512x1024 .bf16) z = outPc m c ((win0_14.blk t).view.emb z) := fun z => by
    obtain ⟨r, k, rfl⟩ := Lift.exists_ix2 z
    rw [outs_pc, emb14]
    rfl
  blk_simp
  rw [after0_14]
  exact key y

theorem arr_x (c : Dev nD) : (dats m 0 c).arrAt 15 cfg0.N = outX m c := by
  refine (dats m 0 c).arrAt_eq_of_covers 15 _ (by decide +kernel) fun t hf y => ?_
  have key : ∀ z : S512x1024.Idx, ((outsAt0 m c t).2 : FVec Ideal S512x1024 .f32) z = outX m c ((win0_15.blk t).view.emb z) := fun z => by
    obtain ⟨r, k, rfl⟩ := Lift.exists_ix2 z
    rw [outs_next, emb15]
    rfl
  blk_simp
  rw [after0_15]
  exact key y

end Cert.Kernel8Ideal.Value

/-! ## What the reference's run leaves in its two results -/

namespace Cert.Reference8Ideal.Value

open Cert.Reference8Ideal Cert.Reference8Ideal.Gen Cert.FwdCO

variable (m : (ℓ : Loc nD τ sig) → Buf (Elt Ideal) ℓ)

/-- The argument rows of the call, as for the kernel. -/
def argRows (c : Dev nD) : Args where
  b := { H := fun r j => m (c.tc.loc main_arg0) (ix2 r ⟨5120 + j.val, by omega⟩)
         B := fun r j => m (c.tc.loc main_arg0) (ix2 r ⟨6144 + j.val, by omega⟩)
         C := fun r j => m (c.tc.loc main_arg0) (ix2 r ⟨7168 + j.val, by omega⟩)
         Z := fun r j => m (c.tc.loc main_arg0) (ix2 r ⟨8192 + j.val, by omega⟩)
         P := fun _ _ => 0
         taps := fun i j => m (c.tc.loc main_arg1) (ix2 i j)
         bias := fun j => m (c.tc.loc main_arg2) (ix1 j)
         w := fun i j => m (c.tc.loc main_arg3) (ix2 i j) }
  pa r j := m (c.tc.loc main_arg5) (ix2 r j)
  pb r j := m (c.tc.loc main_arg6) (ix2 r j)
  l r j := m (c.tc.loc main_arg0) (ix2 r ⟨9216 + j.val, by omega⟩)
  x r j := m (c.tc.loc main_arg4) (ix2 r j)
  wo i j := m (c.tc.loc main_arg7) (ix2 i j)

def outPc (c : Dev nD) : FVec Ideal S16384x1024 .bf16 := fun i => (argRows m c).pc (i 0) (i 1)
def outX (c : Dev nD) : FVec Ideal S16384x1024 .f32 := fun i => (argRows m c).next (i 0) (i 1)

theorem res_x (c : Dev nD) : res_main_v64 m c = outX m c := by
  funext z
  obtain ⟨r, j, rfl⟩ := Lift.exists_ix2 z
  refine Eq.trans ?_ (show (argRows m c).next r j = _ from rfl)
  unfold Args.next Args.merged Args.pc BwdC.Args.y
  simp only [BwdC.Args.conv_eq]
  pointwise [res_main_v64]
  rfl

theorem run_rows (ρ : Dev nD → PrngReg) : θ_run defs (onTc (τ := τ) (main (F := Ideal))) ⟨m, fun _ => 0, ρ⟩ fun r => ∀ c : Dev nD,
      r.2.mem ((c.tc : Thread nD τ).loc main_v62) = outPc m c
      ∧ r.2.mem ((c.tc : Thread nD τ).loc main_v64) = outX m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run m ρ)
  obtain ⟨h0, h1, h2⟩ := h c
  refine ⟨h0.trans ?_, h1.trans (res_x m c), h2⟩
  clear h h0 h1 h2
  funext z
  obtain ⟨r, j, rfl⟩ := Lift.exists_ix2 z
  refine Eq.trans ?_ (show (argRows m c).pc r j = _ from rfl)
  unfold Args.pc BwdC.Args.y
  simp only [BwdC.Args.conv_eq]
  pointwise
  rfl

end Cert.Reference8Ideal.Value

/-! ## The value claim -/

namespace Cert.FwdCO

/-- The reference's rows of equal arguments are the kernel's. -/
theorem value : Cert.algebraic_Kernel8Ideal_Reference8Ideal := by
  intro m g m' g' _ hag
  have eA : ∀ c, Reference8Ideal.Value.argRows m' c = Kernel8Ideal.Value.argRows m c := fun c => by
    obtain ⟨a0, a1, a2, a3, a4, a5, a6, a7⟩ := hag c
    simp only [Reference8Ideal.Value.argRows, Kernel8Ideal.Value.argRows, a0, a1, a2, a3, a4, a5, a6, a7]
  refine ⟨fun c => Kernel8Ideal.Value.outPc m c, fun c => Kernel8Ideal.Value.outX m c,
    (θ_run _ _ _).mono (fun r h c => ?_) (Kernel8Ideal.Value.run_blocks m g),
    (θ_run _ _ _).mono (fun r h c => ?_) (Reference8Ideal.Value.run_rows m' g')⟩
  · obtain ⟨h0, h1, h2⟩ := h c
    exact ⟨h0.trans (Kernel8Ideal.Value.arr_pc m c), h1.trans (Kernel8Ideal.Value.arr_x m c), h2⟩
  · obtain ⟨h0, h1, h2⟩ := h c
    refine ⟨h0.trans ?_, h1.trans ?_, h2⟩
    · unfold Reference8Ideal.Value.outPc
      rw [eA]
      rfl
    · unfold Reference8Ideal.Value.outX
      rw [eA]
      rfl

end Cert.FwdCO

end
-- ==== Proof.FwdAKernel.lean ====
/- The spatial gating branch's forward call: what the kernel's run leaves in its result. Hand-written, untrusted. -/
module

public import proofs.«01_k».proof.Proof.Gen.Kernel9Ideal.Value
public import proofs.«01_k».proof.Proof.BwdASteps
public import proofs.«01_k».proof.Proof.Lift

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Value

open Cert.Kernel9Ideal Cert.Kernel9Ideal.Gen Cert.BwdA Cert.Blocks
open Cert.Kernel5Ideal.Value (trow tblk tlane Filled fill_nil fill_step mixB)

/-! ## The payloads -/

section
variable (B : Vec Ideal S512x1024 .bf16) (G L : Vec Ideal S1x1024 .f32) (P M : FVec Ideal S512x1024 .f32)
  (Y : FVec Ideal S512x1024 .bf16) (W : Vec Ideal S1024x1024 .bf16) (r : Fin 512) (k : Fin 1024)

theorem named_k1 : Named.named (F := Ideal) (φ := .f32) κ "gelu_k1" 0x3D372713#32 = k1 := rfl
theorem pay_u : k0_pay5 B (ix2 r k) = gl (B (ix2 r k)) := by
  pointwise [k0_pay5]
  simp only [named_k1]
  rfl
theorem pay_v : k0_pay6 B (ix2 r k) = gl (B (ix2 r k)) := pay_u B r k
theorem pay_norm : k0_pay9 (k0_pay3 G) (k0_pay4 L) (k0_pay6 B) (k0_pay7 B) k0_pay8 (ix2 r k)
    = hat (fun k => gl (B (ix2 r k))) k * G (ix2 0 k) + L (ix2 0 k) := by
  pointwise [k0_pay9, k0_pay3, k0_pay4, k0_pay7, k0_pay8]
  simp only [pay_v]
  rfl
theorem pay_y : k0_pay50 (k0_pay2 B) P M (ix2 r k) = P (ix2 r k) * M (ix2 r k) * (B (ix2 r k) * Ideal.logistic (B (ix2 r k))) := by
  pointwise [k0_pay50, k0_pay2]
theorem pay_out : k0_pay1 Y W (ix2 r k) = ∑ j, Y (ix2 r j) * W (ix2 j k) := by
  pointwise [k0_pay1]
theorem pay_mix (W : Vec Ideal S1x128x128 .bf16) (X : Vec Ideal S128x128 .bf16) (B : Vec Ideal S128x128 .f32) (i j : Fin 128) :
    k0_pay10 W X B (ix2 i j) = (∑ x, W (ix3 0 i x) * X (ix2 x j)) + B (ix2 i j) := by
  pointwise [k0_pay10]
end

/-! ## The mixed rows, one block at a time -/

section
variable {n o p g : ℕ} {L : List (View.Piece (Elt Ideal) S512x1024 .f32)} {VL : List (View.Piece (Elt Ideal) S512x1024 .bf16)}
  {X : Fin 512 → Fin 1024 → EReal} (V : View sig .tc .vmem S512x1024 .bf16)
  (i1 : ∀ a, (![g, 0, 0] : Fin 3 → ℕ) a + (![1, 128, 128] : Fin 3 → ℕ) a ≤ S8x128x128.size a)
  (i2 i4 : ∀ a, (![o, p] : Fin 2 → ℕ) a + (![128, 128] : Fin 2 → ℕ) a ≤ S512x1024.size a)
  (W : FVec Ideal S8x128x128 .bf16)

/-- A store of one block of the mixed rows after the first `n`. -/
theorem mix_step (B : FVec Ideal S128x1024 .f32)
    (i3 : ∀ a, (![0, p] : Fin 2 → ℕ) a + (![128, 128] : Fin 2 → ℕ) a ≤ S128x1024.size a)
    (hV : ∀ s k, View.canon VL (ix2 s k) = X s k)
    (hL : Filled n L (mixB W B X)) (ho : o = 128 * (n / 8)) (hp : p = 128 * (n % 8)) (hg : g = n % 8) :
    Filled (n + 1) (⟨Rect.unit (s := S512x1024) ![o, p] ![128, 128] i4,
      k0_pay10 (View.ld W (Rect.unit (s := S8x128x128) ![g, 0, 0] ![1, 128, 128] i1))
        (V.readCov VL (Rect.unit (s := S512x1024) ![o, p] ![128, 128] i2).toLoadRect)
        (View.ld B (Rect.unit (s := S128x1024) ![0, p] ![128, 128] i3))⟩ :: L) (mixB W B X) :=
  fill_step hL ho hp i4 _ fun i j s k hs hk => by
    refine (pay_mix _ _ _ i j).trans (congrArg₂ (· + ·) (Finset.sum_congr (M := EReal) rfl fun x _ => congrArg₂ (· * ·) ?_ ?_) ?_)
    · refine Eq.trans (ld_slab (Val := Elt Ideal) (e := .bf16) i1 W (grp k) (show k.val / 128 = g by omega) i x) ?_
      exact congrArg (fun i => W (ix3 (grp k) i x)) (Fin.ext (show i.val = s.val % 128 by omega))
    · exact (readCov_at V i2 VL (trow (tblk s) x) x k j (show 128 * (s.val / 128) + x.val = o + x.val by omega) hk).trans (hV _ k)
    · have e := emb i3 (tlane s) i k j (show s.val % 128 = 0 + i.val by omega) hk
      exact congrArg B e
end

theorem read_filled {e : EltTy} {L : List (View.Piece (Elt Ideal) S512x1024 e)} {f : Fin 512 → Fin 1024 → Elt Ideal e} (V : View sig .tc .vmem S512x1024 e)
    (inb : ∀ a, (![0, 0] : Fin 2 → ℕ) a + (![512, 1024] : Fin 2 → ℕ) a ≤ S512x1024.size a) (h : Filled 32 L f) (r : Fin 512) (k : Fin 1024) :
    V.readCov L (Rect.unit (s := S512x1024) ![0, 0] ![512, 1024] inb).toLoadRect (ix2 r k : S512x1024.Idx) = f r k :=
  (readCov_at V inb L r r k k (Nat.zero_add _).symm (Nat.zero_add _).symm).trans (h r k (by omega))

/-! ## The blocks of the arguments -/

variable (m : (ℓ : Loc nD τ sig) → Buf (Elt Ideal) ℓ)

/-- The argument rows of the call, from the argument arrays. -/
def argRows (c : Dev nD) : Args where
  U r j := m (c.tc.loc main_arg0) (ix2 r ⟨j.val, by omega⟩)
  V r j := m (c.tc.loc main_arg0) (ix2 r ⟨1024 + j.val, by omega⟩)
  Z r j := m (c.tc.loc main_arg0) (ix2 r ⟨2048 + j.val, by omega⟩)
  G _ _ := 0
  lg j := m (c.tc.loc main_arg1) (ix1 j)
  lb j := m (c.tc.loc main_arg2) (ix1 j)
  sw g i j := m (c.tc.loc main_arg3) (ix3 g i j)
  sb g i := m (c.tc.loc main_arg4) (ix2 g i)
  w i j := m (c.tc.loc main_arg5) (ix2 i j)

theorem lt32 (t : Fin cfg0.N) : t.val < 32 := lt_of_lt_of_le t.isLt (le_refl 32)

/-- Row `r` of point `t`'s block, in the whole array. -/
abbrev rowAt (t : Fin cfg0.N) (r : Fin 512) : Fin 16384 :=
  ⟨512 * t.val + r.val, by have := lt32 t; omega⟩

theorem idx : ∀ t : Fin cfg0.N, win0_0.index t = ![t.val, 0] ∧ win0_1.index t = ![t.val, 1]
    ∧ win0_2.index t = ![t.val, 2] ∧ win0_3.index t = ![0, 0] ∧ win0_4.index t = ![0, 0]
    ∧ win0_5.index t = ![0, 0, 0] ∧ win0_6.index t = ![0, 0] ∧ win0_7.index t = ![0, 0]
    ∧ win0_8.index t = ![t.val, 0] :=
  (by decide +kernel : ∀ t : Fin grid0.N, _)

set_option maxHeartbeats 4000000 in
/-- The mask's table: one where the column's half of the block is not after the row's. -/
theorem table : ∀ a b : Fin 128, lit0t (a.val * 128 + b.val) = if b.val / 64 ≤ a.val / 64 then 1#1 else 0#1 := by decide +kernel
theorem mask_at (i j : Fin 128) : lit0 (S128x128.rowMajor (ix2 i j)) = if j.val / 64 ≤ i.val / 64 then 1#1 else 0#1 :=
  (congrArg lit0t (Shape.rowMajor_val_two _)).trans (table i j)
theorem zero_entry : id (constant (F := Ideal) S_ .f32 0x00000000#32) ix0 = 0 := by
  show constant (F := Ideal) S_ .f32 0x00000000#32 ix0 = 0
  pointwise

section
variable (c : Dev nD) (t : Fin cfg0.N) (s r : Fin 512) (k i j : Fin 1024)

/-- The masked matrices and the biases' rows that the call is given. -/
theorem given_wm (g : Fin 8) (i j : Fin 128) : (V m c main_v2 : FVec Ideal S8x128x128 .bf16) (ix3 g i j) = (argRows m c).wm g i j := by
  unfold V Args.wm
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise
  refine (congrArg (fun b : BitVec 1 => if b = 1#1 then _ else _) (mask_at i j)).trans ?_
  split
  · exact if_pos rfl
  · exact (if_neg (by decide)).trans zero_entry
theorem given_bias (i : Fin 128) : (V m c main_v5 : FVec Ideal S128x1024 .f32) (ix2 i k) = (argRows m c).sb (grp k) i := by
  refine Eq.trans ?_ (show m (c.tc.loc main_arg4) (ix2 (grp k) i) = _ from rfl)
  unfold V
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise
theorem given_gain : (V m c main_v6 : FVec Ideal S1x1024 .f32) (ix2 0 k) = (argRows m c).lg k := by
  refine Eq.trans ?_ (show m (c.tc.loc main_arg1) (ix1 k) = _ from rfl)
  unfold V
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise
theorem given_shift : (V m c main_v7 : FVec Ideal S1x1024 .f32) (ix2 0 k) = (argRows m c).lb k := by
  refine Eq.trans ?_ (show m (c.tc.loc main_arg2) (ix1 k) = _ from rfl)
  unfold V
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise
theorem given_w : (V m c main_v8 : FVec Ideal S1024x1024 .bf16) (ix2 i j) = (argRows m c).w i j := by
  refine Eq.trans ?_ (show m (c.tc.loc main_arg5) (ix2 i j) = _ from rfl)
  unfold V
  simp only [hostOps0, hostOps0_1, hostOps0_2, List.flatten_cons, List.flatten_nil, List.append_nil, List.cons_append, List.nil_append, StableHlo.TRef.ternary, StableHlo.TRef.binary, StableHlo.TRef.nullary, StableHlo.TRef.unary, StableHlo.TRef.toBuf, StableHlo.TRef.ofBuf, cast_eq]
  after_results_simp
  pointwise

theorem blk0 : (iblk m c 0 t : FVec Ideal S512x1024 .bf16) (ix2 r k) = (argRows m c).U (rowAt t r) k := by
  refine Eq.trans ?_ (show m (c.tc.loc main_arg0) (ix2 (rowAt t r) ⟨k.val, by omega⟩) = _ from rfl)
  blk_point [iblk, V, idx t]
theorem blk1 : (iblk m c 1 t : FVec Ideal S512x1024 .bf16) (ix2 r k) = (argRows m c).V (rowAt t r) k := by
  refine Eq.trans ?_ (show m (c.tc.loc main_arg0) (ix2 (rowAt t r) ⟨1024 + k.val, by omega⟩) = _ from rfl)
  blk_point [iblk, V, idx t]
theorem blk2 : (iblk m c 2 t : FVec Ideal S512x1024 .bf16) (ix2 r k) = (argRows m c).Z (rowAt t r) k := by
  refine Eq.trans ?_ (show m (c.tc.loc main_arg0) (ix2 (rowAt t r) ⟨2048 + k.val, by omega⟩) = _ from rfl)
  blk_point [iblk, V, idx t]
theorem blk3 : (iblk m c 3 t : FVec Ideal S1x1024 .f32) (ix2 0 k) = (argRows m c).lg k := by
  refine Eq.trans ?_ (given_gain m c k)
  blk_point [iblk, idx t]
theorem blk4 : (iblk m c 4 t : FVec Ideal S1x1024 .f32) (ix2 0 k) = (argRows m c).lb k := by
  refine Eq.trans ?_ (given_shift m c k)
  blk_point [iblk, idx t]
theorem blk5 (g : Fin 8) (i j : Fin 128) : (iblk m c 5 t : FVec Ideal S8x128x128 .bf16) (ix3 g i j) = (argRows m c).wm g i j := by
  refine Eq.trans ?_ (given_wm m c g i j)
  blk_point [iblk, idx t]
theorem blk6 (i : Fin 128) : (iblk m c 6 t : FVec Ideal S128x1024 .f32) (ix2 i k) = (argRows m c).sb (grp k) i := by
  refine Eq.trans ?_ (given_bias m c k i)
  blk_point [iblk, idx t]
theorem blk7 : (iblk m c 7 t : FVec Ideal S1024x1024 .bf16) (ix2 i j) = (argRows m c).w i j := by
  refine Eq.trans ?_ (given_w m c i j)
  blk_point [iblk, idx t]
theorem emb8 : (win0_8.blk t).view.emb (ix2 r k : S512x1024.Idx) = ix2 (rowAt t r) k := by
  blk_ext [idx t]

/-! ## A tile's store -/

/-- The tile's rows of the normalised half. -/
abbrev vnT (s : Fin 512) (k : Fin 1024) : EReal := (argRows m c).vn (rowAt t s) k

theorem keep_vn (inb : ∀ a, (![0, 0] : Fin 2 → ℕ) a + (![512, 1024] : Fin 2 → ℕ) a ≤ S512x1024.size a) (s : Fin 512) (k : Fin 1024) :
    View.canon (Val := Elt Ideal) (e := .bf16) [⟨Rect.unit (s := S512x1024) ![0, 0] ![512, 1024] inb,
      k0_pay9 (k0_pay3 (iblk m c 3 t)) (k0_pay4 (iblk m c 4 t)) (k0_pay6 (iblk m c 1 t)) (k0_pay7 (iblk m c 1 t)) k0_pay8⟩] (ix2 s k) = vnT m c t s k := by
  refine (canon_at inb _ [] s s k k (Nat.zero_add _).symm (Nat.zero_add _).symm).trans ((pay_norm _ _ _ s k).trans ?_)
  simp only [blk1, blk3, blk4]
  rfl
theorem mix_eq : mixB (iblk m c 5 t) (iblk m c 6 t) (vnT m c t) s k = (argRows m c).mixed (rowAt t s) k := by
  unfold mixB Args.mixed
  have e : tlane s = lane (rowAt t s) := Fin.ext (show s.val % 128 = (512 * t.val + s.val) % 128 by omega)
  rw [e, blk6]
  refine congrArg (· + _) (Finset.sum_congr (M := EReal) rfl fun x _ => ?_)
  rw [blk5]
  exact congrArg (fun r => _ * (argRows m c).vn r k)
    (Fin.ext (show 512 * t.val + (128 * (s.val / 128) + x.val) = 128 * ((512 * t.val + s.val) / 128) + x.val by omega))
theorem y_at (M : FVec Ideal S512x1024 .f32) (hM : M (ix2 r k) = (argRows m c).mixed (rowAt t r) k) :
    k0_pay50 (k0_pay2 (iblk m c 2 t)) (k0_pay5 (iblk m c 0 t)) M (ix2 r k) = (argRows m c).y (rowAt t r) k := by
  rw [pay_y, pay_u, hM, blk2, blk0]
  rfl

set_option maxHeartbeats 4000000 in
theorem outs : (outsAt0 m c t : FVec Ideal S512x1024 .bf16) (ix2 r j) = ∑ k, (argRows m c).y (rowAt t r) k * (argRows m c).w k j := by
  unfold outsAt0
  frame_out
  refine (pay_out _ _ r j).trans (Finset.sum_congr (M := EReal) rfl fun k _ => congrArg₂ (· * ·) (y_at m c t r k _ ?_) (blk7 m c t k j))
  refine (read_filled _ _ (f := mixB (iblk m c 5 t) (iblk m c 6 t) (vnT m c t)) ?_ r k).trans (mix_eq m c t r k)
  iterate 32 refine mix_step _ _ _ _ _ _ _ (keep_vn m c t _) ?_ rfl rfl rfl
  exact fill_nil
end

/-- What the run leaves in the result. -/
def outA (c : Dev nD) : FVec Ideal S16384x1024 .bf16 := fun i => ∑ k, (argRows m c).y (i 0) k * (argRows m c).w k (i 1)

theorem arr_out (c : Dev nD) : (dats m 0 c).arrAt 8 cfg0.N = outA m c := by
  refine (dats m 0 c).arrAt_eq_of_covers 8 _ (by decide +kernel) fun t hf y => ?_
  have key : ∀ z : S512x1024.Idx, (outsAt0 m c t : FVec Ideal S512x1024 .bf16) z = outA m c ((win0_8.blk t).view.emb z) := fun z => by
    obtain ⟨r, k, rfl⟩ := Lift.exists_ix2 z
    rw [outs, emb8]
    rfl
  blk_simp
  rw [after0_8]
  exact key y

end Cert.Kernel9Ideal.Value

end
-- ==== Proof.FwdA.lean ====
/- The spatial gating branch's forward call: the reference's result by rows, and the value claim. Hand-written, untrusted. -/
module

public import proofs.«01_k».proof.Proof.Gen.Reference9Ideal.Run
public import proofs.«01_k».proof.Proof.BwdARef
public import proofs.«01_k».proof.Proof.FwdAKernel
public import proofs.«01_k».proof.Defs

@[expose] public section

set_option maxRecDepth 16384

noncomputable section

open Idealize.ShloMosaic Idealize.ShloMosaic.TcCoe Idealize.SL.Sem
open scoped BigOperators

namespace Cert.Reference9Ideal.Value

open Cert.Reference9Ideal Cert.Reference9Ideal.Gen Cert.BwdA
open Cert.Reference5Ideal.Value (k1_eq half_le div128 mod128 mixed_row)

/-! ## The reference's arrays -/

/-- The gelu of an array, -/
def gelu (X : FVec Ideal S16384x1024 .f32) : FVec Ideal S16384x1024 .f32 :=
  mulf X (mulf (broadcastInDim S16384x1024 ![] bcast_S_S16384x1024 (constant S_ .f32 0x3F000000#32)) (addf (broadcastInDim
    S16384x1024 ![] bcast_S_S16384x1024 (constant S_ .f32 0x3F800000#32)) (Host.tanh (mulf (broadcastInDim S16384x1024 ![]
    bcast_S_S16384x1024 (constant S_ .f32 0x3F4C422A#32)) (addf X (mulf (broadcastInDim S16384x1024 ![] bcast_S_S16384x1024
    (Host.divf (constant S_ .f32 0x472EAB00#32) (constant S_ .f32 0x49742400#32))) (mulf (mulf X X) X)))))))
/-- its rows' means, the rows less their means, and the layer norm, -/
def mean (X : FVec Ideal S16384x1024 .f32) : FVec Ideal S16384x1 .f32 :=
  Host.divf (broadcastInDim S16384x1 ![0] bcast_S16384_S16384x1_0 (Host.reduceAdd X (constant S_ .f32 0x00000000#32)
    reducesTo_S16384x1024_S16384_d1 h_S_)) (broadcastInDim S16384x1 ![] bcast_S_S16384x1 (constant S_ .f32 0x44800000#32))
def centred (X : FVec Ideal S16384x1024 .f32) : FVec Ideal S16384x1024 .f32 :=
  subf X (broadcastInDim S16384x1024 ![0, 1] bcast_S16384x1_S16384x1024_0_1 (mean X))
def normed (X : FVec Ideal S16384x1024 .f32) (g b : FVec Ideal S1024 .f32) : FVec Ideal S16384x1024 .f32 :=
  addf (mulf (mulf (centred X) (broadcastInDim S16384x1024 ![0, 1] bcast_S16384x1_S16384x1024_0_1 (Host.rsqrt (addf (mean (mulf
    (centred X) (centred X))) (broadcastInDim S16384x1 ![] bcast_S_S16384x1 (constant S_ .f32 0x3727C5AC#32)))))) (broadcastInDim
    S16384x1024 ![0, 1] bcast_S1x1024_S16384x1024_0_1 (broadcastInDim S1x1024 ![1] bcast_S1024_S1x1024_1 g))) (broadcastInDim
    S16384x1024 ![0, 1] bcast_S1x1024_S16384x1024_0_1 (broadcastInDim S1x1024 ![1] bcast_S1024_S1x1024_1 b))
/-- the half of its block that a place lies in, the matrices under their mask, and the mixed rows. -/
def halves : IVec S128 32 :=
  select (andi (cmpi .ne (signi (iotaInDim S128 32 0)) (broadcastInDim S128 ![] bcast_S_S128 (signi (id (constantI S_ 32
    64#32))))) (cmpi .ne (Host.remsi (iotaInDim S128 32 0) (broadcastInDim S128 ![] bcast_S_S128 (id (constantI S_ 32 64#32))))
    (broadcastInDim S128 ![] bcast_S_S128 (constantI S_ 32 0#32)))) (subi (Host.divsi (iotaInDim S128 32 0) (broadcastInDim S128 ![]
    bcast_S_S128 (id (constantI S_ 32 64#32)))) (broadcastInDim S128 ![] bcast_S_S128 (constantI S_ 32 1#32))) (Host.divsi
    (iotaInDim S128 32 0) (broadcastInDim S128 ![] bcast_S_S128 (id (constantI S_ 32 64#32))))
def masked (W : FVec Ideal S8x128x128 .f32) : FVec Ideal S8x128x128 .f32 :=
  select (broadcastInDim S8x128x128 ![0, 1, 2] bcast_S1x128x128_S8x128x128_0_1_2 (broadcastInDim S1x128x128 ![1, 2]
    bcast_S128x128_S1x128x128_1_2 (cmpi .sle (broadcastInDim S128x128 ![0, 1] bcast_S1x128_S128x128_0_1 (broadcastInDim S1x128 ![1]
    bcast_S128_S1x128_1 halves)) (broadcastInDim S128x128 ![0, 1] bcast_S128x1_S128x128_0_1 (broadcastInDim S128x1 ![0]
    bcast_S128_S128x1_0 halves))))) W (broadcastInDim S8x128x128 ![] bcast_S_S8x128x128 (constant S_ .f32 0x00000000#32))
def mix (Y : FVec Ideal S16384x1024 .f32) (W : FVec Ideal S8x128x128 .f32) (b : FVec Ideal S8x128 .f32) : FVec Ideal S16384x1024 .f32 :=
  shapeCast _ (addf (transpose S128x128x8x128 [1, 3, 0, 2] (Host.dotGeneral
    dot_S128x128x8x128_S8x128x128_S8x128x128x128_1_2_03_1_2_0 none (shapeCast _ Y shapeCasts_S16384x1024_S128x128x8x128) (masked W))
    transposes_S8x128x128x128_S128x128x8x128_1_3_0_2) (broadcastInDim S128x128x8x128 ![0, 1, 2, 3]
    bcast_S1x128x8x1_S128x128x8x128_0_1_2_3 (broadcastInDim S1x128x8x1 ![1, 2, 3] bcast_S128x8x1_S1x128x8x1_1_2_3 (broadcastInDim
    S128x8x1 ![0, 1] bcast_S128x8_S128x8x1_0_1 (transpose S128x8 [1, 0] b transposes_S8x128_S128x8_1_0)))))
    shapeCasts_S128x128x8x128_S16384x1024

/-- The branch's product. -/
def branch (U X Z : FVec Ideal S16384x1024 .f32) (g b : FVec Ideal S1024 .f32) (W : FVec Ideal S8x128x128 .f32) (s : FVec Ideal S8x128 .f32)
    (w : FVec Ideal S1024x1024 .f32) : FVec Ideal S16384x1024 .bf16 :=
  truncf .bf16 (Host.dotGeneral dot_S16384x1024_S1024x1024_S16384x1024_1_0_0_1_n_n none (mulf (mulf (gelu U) (mix (normed (gelu X) g b) W s))
    (mulf Z (Host.divf (broadcastInDim S16384x1024 ![] bcast_S_S16384x1024 (constant S_ .f32 0x3F800000#32))
      (addf (broadcastInDim S16384x1024 ![] bcast_S_S16384x1024 (constant S_ .f32 0x3F800000#32)) (Host.exp (Host.negf Z)))))) w) bitsLt_bf16_f32
/-- A block of 1024 columns of the projections. -/
def part (p : FVec Ideal S16384x12288 .bf16) (o : ℕ) (h : S16384x12288.Slices ![0, o] S16384x1024) : FVec Ideal S16384x1024 .f32 :=
  extf .f32 (extractStridedSlice S16384x1024 ![0, o] p h) bitsLt_bf16_f32

variable (m : (ℓ : Loc nD τ sig) → Buf (Elt Ideal) ℓ)

theorem res_eq (c : Dev nD) : res_main_v81 m c = branch (part (m ((c.tc : Thread nD τ).loc main_arg0)) 0 slices_S16384x12288_S16384x1024_0_0)
    (part (m ((c.tc : Thread nD τ).loc main_arg0)) 1024 slices_S16384x12288_S16384x1024_0_1024)
    (part (m ((c.tc : Thread nD τ).loc main_arg0)) 2048 slices_S16384x12288_S16384x1024_0_2048)
    (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) := rfl

section
variable (X Y : FVec Ideal S16384x1024 .f32) (g b : FVec Ideal S1024 .f32) (W : FVec Ideal S8x128x128 .f32) (r : Fin 16384) (k : Fin 1024)

theorem gelu_at : gelu X (ix2 r k) = gl (X (ix2 r k)) := by
  pointwise [gelu]
  rw [k1_eq]
  exact (mul_left_comm (G := EReal) _ _ _).trans (mul_assoc (G := EReal) _ _ _).symm
theorem mean_at : mean X (ix2 r 0) = Ideal.div (∑ j, X (ix2 r j)) len := by
  pointwise [mean]
theorem centred_at : centred X (ix2 r k) = cen (fun k => X (ix2 r k)) k := by
  pointwise [centred]
  rw [mean_at]
  rfl
theorem normed_at : normed X g b (ix2 r k) = hat (fun k => X (ix2 r k)) k * g (ix1 k) + b (ix1 k) := by
  pointwise [normed]
  rw [centred_at, mean_at]
  pointwise
  simp only [centred_at]
  rfl
theorem halves_at (i : Fin 128) : halves (ix1 i) = BitVec.ofNat 32 (i.val / 64) := by
  pointwise [halves]
  revert i
  decide +kernel
theorem masked_at (g : Fin 8) (i j : Fin 128) : masked W (ix3 g i j) = if j.val / 64 ≤ i.val / 64 then W (ix3 g i j) else 0 := by
  pointwise [masked]
  rw [halves_at, halves_at, half_le ⟨j.val / 64, by omega⟩ ⟨i.val / 64, by omega⟩]
  split
  · exact if_pos rfl
  · exact if_neg (by decide)
end

/-- The argument rows of the call, as for the kernel. -/
def argRows (c : Dev nD) : Args where
  U r j := m (c.tc.loc main_arg0) (ix2 r ⟨j.val, by omega⟩)
  V r j := m (c.tc.loc main_arg0) (ix2 r ⟨1024 + j.val, by omega⟩)
  Z r j := m (c.tc.loc main_arg0) (ix2 r ⟨2048 + j.val, by omega⟩)
  G _ _ := 0
  lg j := m (c.tc.loc main_arg1) (ix1 j)
  lb j := m (c.tc.loc main_arg2) (ix1 j)
  sw g i j := m (c.tc.loc main_arg3) (ix3 g i j)
  sb g i := m (c.tc.loc main_arg4) (ix2 g i)
  w i j := m (c.tc.loc main_arg5) (ix2 i j)

section
variable (c : Dev nD) (Y : FVec Ideal S16384x1024 .f32) (hY : ∀ r k, Y (ix2 r k) = (argRows m c).vn r k)

include hY in
theorem mix_block (n i : Fin 128) (g : Fin 8) (x : Fin 128) :
    mix Y (m ((c.tc : Thread nD τ).loc main_arg3)) (m ((c.tc : Thread nD τ).loc main_arg4)) (ix2 (row n i) (col g x))
      = (argRows m c).mixed (row n i) (col g x) := by
  refine Eq.trans ?_ (mixed_row n i g x _).symm
  pointwise [mix]
  simp only [div128 _ _ (Fin.isLt _), mod128 _ _ (Fin.isLt _), Fin.eta, masked_at, hY, Nat.mul_comm _ 128]
  refine congrArg₂ (fun a b : EReal => a + b) ?_ rfl
  exact (Finset.sum_congr (M := EReal) rfl fun x _ => mul_comm (G := EReal) _ _)
include hY in
theorem mix_at (r : Fin 16384) (k : Fin 1024) :
    mix Y (m ((c.tc : Thread nD τ).loc main_arg3)) (m ((c.tc : Thread nD τ).loc main_arg4)) (ix2 r k) = (argRows m c).mixed r k := by
  obtain ⟨n, i, rfl⟩ := exists_row r
  obtain ⟨g, x, rfl⟩ := exists_col k
  exact mix_block m c Y hY n i g x
end

/-- What the run leaves in the result. -/
def outA (c : Dev nD) : FVec Ideal S16384x1024 .bf16 := fun i => ∑ k, (argRows m c).y (i 0) k * (argRows m c).w k (i 1)

section
variable (c : Dev nD) (r : Fin 16384) (k : Fin 1024)
theorem part_U : part (m ((c.tc : Thread nD τ).loc main_arg0)) 0 slices_S16384x12288_S16384x1024_0_0 (ix2 r k) = (argRows m c).U r k := by
  pointwise [part]
  rfl
theorem part_V : part (m ((c.tc : Thread nD τ).loc main_arg0)) 1024 slices_S16384x12288_S16384x1024_0_1024 (ix2 r k) = (argRows m c).V r k := by
  pointwise [part]
  rfl
theorem part_Z : part (m ((c.tc : Thread nD τ).loc main_arg0)) 2048 slices_S16384x12288_S16384x1024_0_2048 (ix2 r k) = (argRows m c).Z r k := by
  pointwise [part]
  rfl
theorem normed_vn : normed (gelu (part (m ((c.tc : Thread nD τ).loc main_arg0)) 1024 slices_S16384x12288_S16384x1024_0_1024))
    (m ((c.tc : Thread nD τ).loc main_arg1)) (m ((c.tc : Thread nD τ).loc main_arg2)) (ix2 r k) = (argRows m c).vn r k := by
  rw [normed_at]
  simp only [gelu_at, part_V]
  rfl
end

theorem res_out (c : Dev nD) : res_main_v81 m c = outA m c := by
  rw [res_eq]
  funext z
  obtain ⟨r, j, rfl⟩ := Lift.exists_ix2 z
  refine Eq.trans ?_ (show (∑ k, (argRows m c).y r k * (argRows m c).w k j : EReal) = _ from rfl)
  pointwise [branch]
  refine Finset.sum_congr (M := EReal) rfl fun k _ => ?_
  rw [gelu_at, part_U, part_Z, mix_at m c _ (normed_vn m c)]
  rfl

end Cert.Reference9Ideal.Value

namespace Cert.FwdA

/-- The value claim: the kernel and the reference end with equal results. -/
theorem value : Cert.algebraic_Kernel9Ideal_Reference9Ideal := by
  intro m g m' g' _ hag
  have eA : ∀ c, Reference9Ideal.Value.argRows m' c = Kernel9Ideal.Value.argRows m c := fun c => by
    obtain ⟨a0, a1, a2, a3, a4, a5⟩ := hag c
    simp only [Reference9Ideal.Value.argRows, Kernel9Ideal.Value.argRows, a0, a1, a2, a3, a4, a5]
  refine ⟨fun c => Kernel9Ideal.Value.outA m c,
    (θ_run _ _ _).mono (fun r h c => ?_) (Kernel9Ideal.Value.run_blocks m g),
    (θ_run _ _ _).mono (fun r h c => ?_) (Reference9Ideal.Value.run m' g')⟩
  · obtain ⟨h0, h1⟩ := h c
    exact ⟨h0.trans (Kernel9Ideal.Value.arr_out m c), h1⟩
  · obtain ⟨h0, h1⟩ := h c
    refine ⟨h0.trans ((Reference9Ideal.Value.res_out m' c).trans ?_), h1⟩
    unfold Reference9Ideal.Value.outA
    rw [eA]
    rfl

end Cert.FwdA

end
-- ==== Proof.FwdBKernel.lean ====
/- The pooling branch's forward call: what the kernel's run leaves in its result. Hand-written, untrusted. -/
module

public import proofs.«01_k».proof.Proof.Gen.Kernel10Ideal.Value
public import proofs.«01_k».proof.Proof.BwdBTile

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Value

open Cert.Kernel10Ideal Cert.Kernel10Ideal.Gen Cert.BwdB Cert.CumSum Cert.Blocks
open Cert.Kernel4Ideal.Hand (inv_tile lin_eq back_step)

/-! ## The payloads -/

/-- One over the count of a window of `n` rows, as the kernel computes it from the tile's number. -/
abbrev rec (v : BitVec 32) (n : ℕ) (r : Fin 512) : EReal :=
  Ideal.div 1 (FloatOps.sitofp (F := Ideal) FTy.f32 (IntOp.minsi (IntOp.addi (IntOp.addi (Scalar.muli v 512#32) (BitVec.ofNat 32 r.val)) 1#32) (BitVec.ofNat 32 n)))

section
variable (v : BitVec 32) (S A : Vec Ideal S512x256 .f32) (D : Vec Ideal S512x256 .bf16) (W : Vec Ideal S1x256x256 .bf16) (r : Fin 512) (j : Fin 256)

theorem pay_d0 : k0_pay20 (k0_pay14 v) S A (ix2 r j) = S (ix2 r j) * rec v 2 r - A (ix2 r j) := by
  pointwise [k0_pay20, k0_pay14, k0_pay13]
theorem pay_d1 : k0_pay23 (k0_pay17 (k0_pay15 v) S A) (ix2 r j) = S (ix2 r j) * rec v 4 r - A (ix2 r j) := by
  pointwise [k0_pay23, k0_pay17, k0_pay15, k0_pay13]
theorem pay_d2 : k0_pay25 (k0_pay18 (k0_pay16 v) S A) (ix2 r j) = S (ix2 r j) * rec v 8 r - A (ix2 r j) := by
  pointwise [k0_pay25, k0_pay18, k0_pay16, k0_pay13]
theorem pay_d3 : k0_pay27 (k0_pay19 (k0_pay13 v) 16#32 S A) (ix2 r j) = S (ix2 r j) * rec v 16 r - A (ix2 r j) := by
  pointwise [k0_pay27, k0_pay19, k0_pay13]
theorem pay_l0 : k0_pay22 (k0_pay21 D W) (ix2 r j) = ∑ x, D (ix2 r x) * W (ix3 0 x j) := by
  pointwise [k0_pay22, k0_pay21]
theorem pay_l1 : k0_pay24 D W (ix2 r j) = ∑ x, D (ix2 r x) * W (ix3 0 x j) := by
  pointwise [k0_pay24]
theorem pay_l2 : k0_pay26 D W (ix2 r j) = ∑ x, D (ix2 r x) * W (ix3 0 x j) := by
  pointwise [k0_pay26]
theorem pay_l3 : k0_pay1 D W (ix2 r j) = ∑ x, D (ix2 r x) * W (ix3 0 x j) := by
  pointwise [k0_pay1]
end

theorem pay_out (Z : Vec Ideal S512x1024 .bf16) (B C : Vec Ideal S1x1024 .f32) (M : Vec Ideal S512x1024 .f32) (W : Vec Ideal S1024x1024 .bf16)
    (r : Fin 512) (j : Fin 1024) : k0_pay2 (k0_pay3 Z) (k0_pay4 B) (k0_pay5 C) M W (ix2 r j)
      = ∑ k, (M (ix2 r k) + B (ix2 0 k)) * C (ix2 0 k) * (Z (ix2 r k) * Ideal.logistic (Z (ix2 r k))) * W (ix2 k j) := by
  pointwise [k0_pay2, k0_pay3, k0_pay4, k0_pay5]
theorem sum8 (X Y : Vec Ideal S536x1024 .f32) (r : Fin 536) (j : Fin 1024) : k0_pay8 X Y (ix2 r j) = X (ix2 r j) + Y (ix2 r j) := by
  pointwise [k0_pay8]
theorem sum10 (X Y : Vec Ideal S528x768 .f32) (r : Fin 528) (j : Fin 768) : k0_pay10 (k0_pay9 X Y) (ix2 r j) = X (ix2 r j) + Y (ix2 r j) := by
  pointwise [k0_pay10, k0_pay9]
theorem sum11 (X Y : Vec Ideal S520x512 .f32) (r : Fin 520) (j : Fin 512) : k0_pay11 X Y (ix2 r j) = X (ix2 r j) + Y (ix2 r j) := by
  pointwise [k0_pay11]
theorem sum12 (X Y : Vec Ideal S512x256 .f32) (r : Fin 512) (j : Fin 256) : k0_pay12 X Y (ix2 r j) = X (ix2 r j) + Y (ix2 r j) := by
  pointwise [k0_pay12]

/-! ## Stores and loads of the scratch -/

section
variable {sig' : RefSig} {κ : Kind} {sp : Space}

/-- A store over all rows from `o` on and all columns from `p` on, whose entries are two loads of doubled windows' sums. -/
theorem layer {h v o o' p : ℕ} (V W : View sig' κ sp S544x1024 .f32)
    (inb : ∀ a, (![o, p] : Fin 2 → ℕ) a + (![h, v] : Fin 2 → ℕ) a ≤ Shape.size S544x1024 a)
    (inb' : ∀ a, (![o', p] : Fin 2 → ℕ) a + (![h, v] : Fin 2 → ℕ) a ≤ Shape.size S544x1024 a)
    (X : Shape.Idx ⟨2, ![h, v]⟩ → EReal) (L L' : List (View.Piece (Elt Ideal) S544x1024 .f32)) (f : Fin 1024 → ℕ → EReal) (n b : ℕ)
    (hX : ∀ (r : Fin h) (j : Fin v), X (ix2 r j)
      = (V.readCov L (Rect.unit (s := S544x1024) ![o, p] ![h, v] inb).toLoadRect (ix2 r j : Shape.Idx ⟨2, ![h, v]⟩) : EReal)
        + V.readCov L (Rect.unit (s := S544x1024) ![o', p] ![h, v] inb').toLoadRect (ix2 r j : Shape.Idx ⟨2, ![h, v]⟩))
    (ho : o' + n = o) (hh : o + h = 544) (hv : p + v = 1024)
    (hL : ∀ (s : Fin 544) (k : Fin 1024), o' ≤ s.val → p ≤ k.val → View.canon L (ix2 s k) = back (f k) n (b + s.val))
    (s : Fin 544) (k : Fin 1024) (hs : o ≤ s.val) (hk : p ≤ k.val) :
    View.canon (⟨Rect.unit (s := S544x1024) ![o, p] ![h, v] inb, X⟩ :: L') (ix2 s k) = back (f k) (n + n) (b + s.val) := by
  refine (canon_at inb X L' s ⟨s.val - o, by omega⟩ k ⟨k.val - p, by omega⟩ (show s.val = o + (s.val - o) by omega)
    (show k.val = p + (k.val - p) by omega)).trans ((hX _ _).trans ?_)
  refine (back_step V inb inb' L f n b _ _ k ho (show k.val = p + (k.val - p) by omega) fun s hs => hL s k hs hk).trans ?_
  exact congrArg (back _ _) (show b + (o + (s.val - o)) = _ by omega)

/-- A group's load of a tile's rows. -/
theorem load {p : ℕ} (V : View sig' κ sp S544x1024 .f32)
    (inb : ∀ a, (![32, p] : Fin 2 → ℕ) a + (![512, 256] : Fin 2 → ℕ) a ≤ Shape.size S544x1024 a)
    (L : List (View.Piece (Elt Ideal) S544x1024 .f32)) (f : Fin 1024 → ℕ → EReal) (n b : ℕ) (g : Fin 4) (hp : p = 256 * g.val)
    (hL : ∀ (s : Fin 544) (k : Fin 1024), 32 ≤ s.val → 256 * g.val ≤ k.val → k.val < 256 * g.val + 256 → View.canon L (ix2 s k) = back (f k) n (b + s.val))
    (r : Fin 512) (j : Fin 256) :
    V.readCov L (Rect.unit (s := S544x1024) ![32, p] ![512, 256] inb).toLoadRect (ix2 r j : Shape.Idx ⟨2, ![512, 256]⟩)
      = back (f (col g j)) n (b + r.val + 32) := by
  subst hp
  refine (readCov_at V inb L ⟨32 + r.val, by omega⟩ r (col g j) j rfl rfl).trans ?_
  refine (hL _ _ (Nat.le_add_right _ _) (Nat.le_add_right _ _) (show 256 * g.val + j.val < _ by omega)).trans ?_
  exact congrArg (back _ _) (show b + (32 + r.val) = _ by omega)

/-- A load of what the last store left. -/
theorem load_new {p : ℕ} {e : EltTy} (V : View sig' κ sp S512x1024 e)
    (inb : ∀ a, (![0, p] : Fin 2 → ℕ) a + (![512, 256] : Fin 2 → ℕ) a ≤ Shape.size S512x1024 a)
    (X : Shape.Idx ⟨2, ![512, 256]⟩ → Elt Ideal e) (L : List (View.Piece (Elt Ideal) S512x1024 e)) (g : Fin 4) (hp : p = 256 * g.val)
    (r : Fin 512) (j : Fin 256) :
    V.readCov (⟨Rect.unit (s := S512x1024) ![0, p] ![512, 256] inb, X⟩ :: L) (Rect.unit (s := S512x1024) ![0, p] ![512, 256] inb).toLoadRect
      (ix2 r j : Shape.Idx ⟨2, ![512, 256]⟩) = X (ix2 r j) := by
  subst hp
  exact (readCov_at V inb _ r r (col g j) j (Nat.zero_add _).symm rfl).trans
    (canon_at inb X L r r (col g j) j (Nat.zero_add _).symm rfl)
end

/-! ## The blocks of the argument arrays -/

variable (m : (ℓ : Loc nD τ sig) → Buf (Elt Ideal) ℓ)

/-- The argument rows of the call; no cotangent comes in. -/
def argRows (c : Dev nD) : Args where
  P r j := m (c.tc.loc main_arg0) (ix2 r ⟨3072 + j.val, by omega⟩)
  Z r j := m (c.tc.loc main_arg0) (ix2 r ⟨4096 + j.val, by omega⟩)
  G _ _ := 0
  pw g i j := m (c.tc.loc main_arg1) (ix3 g i j)
  pb j := m (c.tc.loc main_arg2) (ix1 j)
  ps j := m (c.tc.loc main_arg3) (ix1 j)
  w i j := m (c.tc.loc main_arg4) (ix2 i j)

theorem lt32 (t : Fin cfg0.N) : t.val < 32 := lt_of_lt_of_le t.isLt (le_refl 32)
/-- Row `r` of point `t`'s block, in the whole array. -/
abbrev rowAt (t : Fin cfg0.N) (r : Fin 512) : Fin 16384 := ⟨512 * t.val + r.val, by have := lt32 t; omega⟩

theorem idx : ∀ t : Fin cfg0.N, win0_0.index t = ![t.val, 3] ∧ win0_1.index t = ![16 * t.val - 1, 3] ∧ win0_2.index t = ![t.val, 4]
    ∧ win0_3.index t = ![0, 0, 0] ∧ win0_4.index t = ![0, 0] ∧ win0_5.index t = ![0, 0] ∧ win0_6.index t = ![0, 0]
    ∧ win0_7.index t = ![t.val, 0] := (by decide +kernel : ∀ t : Fin grid0.N, _)
/-- The tile's number, as the kernel has it, and its test for the first tile. -/
abbrev tileNo (t : Fin cfg0.N) : BitVec 32 := BitVec.ofNat 32 (grid0.coords t 0).val
theorem tile_no : ∀ t : Fin cfg0.N, tileNo t = BitVec.ofNat 32 t.val ∧ Scalar.cmpi .sgt (tileNo t) 0#32 = if 0 < t.val then 1#1 else 0#1 :=
  (by decide +kernel : ∀ t : Fin grid0.N, _)

section
variable (c : Dev nD) (t : Fin cfg0.N) (r : Fin 512) (k : Fin 1024)

theorem blk0 : (iblk m c 0 t : FVec Ideal S512x1024 .bf16) (ix2 r k) = (argRows m c).P (rowAt t r) k := by
  refine Eq.trans ?_ (show m (c.tc.loc main_arg0) (ix2 (rowAt t r) ⟨3072 + k.val, by omega⟩) = _ from rfl)
  blk_point [iblk, V, idx t]
theorem blk2 : (iblk m c 2 t : FVec Ideal S512x1024 .bf16) (ix2 r k) = (argRows m c).Z (rowAt t r) k := by
  refine Eq.trans ?_ (show m (c.tc.loc main_arg0) (ix2 (rowAt t r) ⟨4096 + k.val, by omega⟩) = _ from rfl)
  blk_point [iblk, V, idx t]
theorem blk3 (g : Fin 4) (i j : Fin 256) : (iblk m c 3 t : FVec Ideal S4x256x256 .bf16) (ix3 g i j) = (argRows m c).pw g i j := by
  refine Eq.trans ?_ (show m (c.tc.loc main_arg1) (ix3 g i j) = _ from rfl)
  blk_point [iblk, V, idx t]
theorem blk4 : (iblk m c 4 t : FVec Ideal S1x1024 .f32) (ix2 0 k) = (argRows m c).pb k := by
  refine Eq.trans ?_ (show m (c.tc.loc main_arg2) (ix1 k) = _ from rfl)
  blk_point [iblk, V, idx t]
theorem blk5 : (iblk m c 5 t : FVec Ideal S1x1024 .f32) (ix2 0 k) = (argRows m c).ps k := by
  refine Eq.trans ?_ (show m (c.tc.loc main_arg3) (ix1 k) = _ from rfl)
  blk_point [iblk, V, idx t]
theorem blk6 (i : Fin 1024) : (iblk m c 6 t : FVec Ideal S1024x1024 .bf16) (ix2 i k) = (argRows m c).w i k := by
  refine Eq.trans ?_ (show m (c.tc.loc main_arg4) (ix2 i k) = _ from rfl)
  blk_point [iblk, V, idx t]
/-- The 32 rows before a tile, except before the first tile. -/
theorem blk1 (h : 0 < t.val) (s : Fin 32) : (iblk m c 1 t : FVec Ideal S32x1024 .bf16) (ix2 s k)
    = (argRows m c).P ⟨32 * (16 * t.val - 1) + s.val, by have := lt32 t; omega⟩ k := by
  refine Eq.trans ?_ (show m (c.tc.loc main_arg0) (ix2 ⟨32 * (16 * t.val - 1) + s.val, by have := lt32 t; omega⟩ ⟨3072 + k.val, by omega⟩) = _ from rfl)
  blk_point [iblk, V, idx t]
theorem emb7 : (win0_7.blk t).view.emb (ix2 r k : S512x1024.Idx) = ix2 (rowAt t r) k := by
  blk_ext [idx t]

/-! ## The rows around a tile, and their windows' sums -/

theorem pay_halo (s : Fin 32) : k0_pay6 (grid0.coords t) (iblk m c 1 t) (ix2 s k) = (argRows m c).pz k (512 * t.val + s.val) := by
  have e := (tile_no t).2
  have hN := lt32 t
  pointwise [k0_pay6]
  by_cases h : 0 < t.val
  · rw [if_pos h] at e
    rw [e, (argRows m c).pz_at (r := ⟨32 * (16 * t.val - 1) + s.val, by omega⟩)
      (show _ = 32 * (16 * t.val - 1) + s.val + 32 by omega)]
    pointwise
    rw [blk1 m c t k h]
  · rw [if_neg h] at e
    rw [e, (argRows m c).pz_zero (by omega)]
    pointwise
theorem pay_rows : k0_pay7 (iblk m c 0 t) (ix2 r k) = (argRows m c).P (rowAt t r) k := by
  pointwise [k0_pay7]
  rw [blk0]
end

section
variable (c : Dev nD) (t : Fin cfg0.N)

/-- A rectangle of a scratch buffer. -/
abbrev piece (h v o p : ℕ) (inb : ∀ a, (![o, p] : Fin 2 → ℕ) a + (![h, v] : Fin 2 → ℕ) a ≤ S544x1024.size a) := Rect.unit (s := S544x1024) ![o, p] ![h, v] inb
/-- What a load of a rectangle finds after the stores `L`. -/
abbrev held {s : Shape} {e : EltTy} (V : View sig .tc .vmem s e) (L : List (View.Piece (Elt Ideal) s e)) (R : Rect s) :=
  V.readCov (Val := Elt Ideal) L R.toLoadRect
/-- Column group `g` of a tile's own rows in a scratch buffer. -/
abbrev own (g : Fin 4) := Rect.unit (s := S544x1024) ![32, 256 * g.val] S512x256.size (fun a => by
  fin_cases a
  · exact le_refl 544
  · show 256 * g.val + 256 ≤ 1024
    omega)
/-- All rows of a tile. -/
abbrev full := Rect.unit (s := S512x1024) ![0, 0] S512x1024.size inb_S512x1024_S512x1024_0_0
/-- Column group `g` of all rows of a tile. -/
abbrev quarter (g : Fin 4) := Rect.unit (s := S512x1024) ![0, 256 * g.val] S512x256.size (fun a => by
  fin_cases a
  · exact le_refl 512
  · show 256 * g.val + 256 ≤ 1024
    omega)
/-- Slab `g` of the four matrices. -/
theorem slabOf_le (g : Fin 4) (a : Fin 3) : (![g.val, 0, 0] : Fin 3 → ℕ) a + S1x256x256.size a ≤ S4x256x256.size a := by
  fin_cases a
  · exact g.isLt
  · exact le_refl 256
  · exact le_refl 256
abbrev slabOf (g : Fin 4) := Rect.unit (s := S4x256x256) ![g.val, 0, 0] S1x256x256.size (slabOf_le g)
/-- Matrix `g`, as a tile loads it. -/
abbrev slab (g : Fin 4) := View.ld (iblk m c 3 t : Vec Ideal S4x256x256 .bf16) (slabOf g)

/-- What each scratch buffer holds: the rows, -/
abbrev peL : List (View.Piece (Elt Ideal) S544x1024 .f32) :=
  [⟨Rect.unit (s := S544x1024) ![32, 0] S512x1024.size inb_S544x1024_S512x1024_32_0, k0_pay7 (iblk m c 0 t)⟩,
    ⟨Rect.unit (s := S544x1024) ![0, 0] S32x1024.size inb_S544x1024_S32x1024_0_0, k0_pay6 (grid0.coords t) (iblk m c 1 t)⟩]
/-- and the sums over windows of two, four, eight and sixteen rows. -/
abbrev sa1 : List (View.Piece (Elt Ideal) S544x1024 .f32) :=
  ⟨piece 536 1024 8 0 inb_S544x1024_S536x1024_8_0, k0_pay8 (held (View.whole cc0_scratch0) (peL m c t) (piece 536 1024 8 0 inb_S544x1024_S536x1024_8_0))
      (held (View.whole cc0_scratch0) (peL m c t) (piece 536 1024 7 0 inb_S544x1024_S536x1024_7_0))⟩ :: []
abbrev sb1 : List (View.Piece (Elt Ideal) S544x1024 .f32) :=
  ⟨piece 528 768 16 256 inb_S544x1024_S528x768_16_256, k0_pay10 (k0_pay9 (held (View.whole cc0_scratch1) (sa1 m c t) (piece 528 768 16 256 inb_S544x1024_S528x768_16_256))
      (held (View.whole cc0_scratch1) (sa1 m c t) (piece 528 768 14 256 inb_S544x1024_S528x768_14_256)))⟩ :: []
abbrev sa2 : List (View.Piece (Elt Ideal) S544x1024 .f32) :=
  ⟨piece 520 512 24 512 inb_S544x1024_S520x512_24_512, k0_pay11 (held (View.whole cc0_scratch2) (sb1 m c t) (piece 520 512 24 512 inb_S544x1024_S520x512_24_512))
      (held (View.whole cc0_scratch2) (sb1 m c t) (piece 520 512 20 512 inb_S544x1024_S520x512_20_512))⟩ :: sa1 m c t
abbrev sb2 : List (View.Piece (Elt Ideal) S544x1024 .f32) :=
  ⟨own 3, k0_pay12 (held (View.whole cc0_scratch1) (sa2 m c t) (own 3))
      (held (View.whole cc0_scratch1) (sa2 m c t) (piece 512 256 24 768 inb_S544x1024_S512x256_24_768))⟩ :: sb1 m c t

theorem pe_at (s : Fin 544) (k : Fin 1024) : View.canon (peL m c t) (ix2 s k) = back ((argRows m c).pz k) 1 (512 * t.val + s.val) := by
  rw [back_one]
  by_cases h : s.val < 32
  · refine (canon_off _ _ _ s k (Or.inl h)).trans ?_
    exact (canon_at _ _ _ s ⟨s.val, h⟩ k k (Nat.zero_add _).symm (Nat.zero_add _).symm).trans (pay_halo m c t k ⟨s.val, h⟩)
  · refine (canon_at _ _ _ s ⟨s.val - 32, by omega⟩ k k (show s.val = 32 + (s.val - 32) by omega) (Nat.zero_add _).symm).trans ?_
    rw [pay_rows]
    exact ((argRows m c).pz_at (r := rowAt t ⟨s.val - 32, by omega⟩) (show _ = 512 * t.val + (s.val - 32) + 32 by omega) k).symm
theorem sa1_at (s : Fin 544) (k : Fin 1024) (hs : 8 ≤ s.val) : View.canon (sa1 m c t) (ix2 s k) = back ((argRows m c).pz k) 2 (512 * t.val + s.val) :=
  layer _ (View.whole cc0_scratch0) _ _ _ (peL m c t) _ (argRows m c).pz 1 (512 * t.val) (sum8 _ _) rfl rfl rfl (fun s k _ _ => pe_at m c t s k) s k hs (Nat.zero_le _)
theorem sb1_at (s : Fin 544) (k : Fin 1024) (hs : 16 ≤ s.val) (hk : 256 ≤ k.val) : View.canon (sb1 m c t) (ix2 s k) = back ((argRows m c).pz k) 4 (512 * t.val + s.val) :=
  layer _ (View.whole cc0_scratch1) _ _ _ (sa1 m c t) _ (argRows m c).pz 2 (512 * t.val) (sum10 _ _) rfl rfl rfl (fun s k h _ => sa1_at m c t s k (by omega)) s k hs hk
theorem sa2_at (s : Fin 544) (k : Fin 1024) (hs : 24 ≤ s.val) (hk : 512 ≤ k.val) : View.canon (sa2 m c t) (ix2 s k) = back ((argRows m c).pz k) 8 (512 * t.val + s.val) :=
  layer _ (View.whole cc0_scratch2) _ _ _ (sb1 m c t) _ (argRows m c).pz 4 (512 * t.val) (sum11 _ _) rfl rfl rfl (fun s k h h' => sb1_at m c t s k (by omega) (by omega)) s k hs hk
theorem sb2_at (s : Fin 544) (k : Fin 1024) (hs : 32 ≤ s.val) (hk : 768 ≤ k.val) : View.canon (sb2 m c t) (ix2 s k) = back ((argRows m c).pz k) 16 (512 * t.val + s.val) :=
  layer _ (View.whole cc0_scratch1) _ _ _ (sa2 m c t) _ (argRows m c).pz 8 (512 * t.val) (sum12 _ _) rfl rfl rfl (fun s k h h' => sa2_at m c t s k (by omega) (by omega)) s k hs hk

/-- The rows, as a group's load finds them. -/
theorem load_rows {p : ℕ} (inb : ∀ a, (![32, p] : Fin 2 → ℕ) a + (![512, 256] : Fin 2 → ℕ) a ≤ Shape.size S544x1024 a) (g : Fin 4) (hp : p = 256 * g.val)
    (r : Fin 512) (j : Fin 256) :
    (View.whole cc0_scratch0).readCov (Val := Elt Ideal) (peL m c t) (Rect.unit (s := S544x1024) ![32, p] ![512, 256] inb).toLoadRect (ix2 r j : Shape.Idx ⟨2, ![512, 256]⟩)
      = (argRows m c).P (rowAt t r) (col g j) := by
  refine (load (View.whole cc0_scratch0) inb (peL m c t) (argRows m c).pz 1 (512 * t.val) g hp (fun s k _ _ _ => pe_at m c t s k) r j).trans ?_
  rw [back_one]
  exact (argRows m c).pz_at (r := rowAt t r) rfl _

/-- A window's sum over its count, less the row. -/
theorem d_eq (g : Fin 4) (n : ℕ) (hn : n = win g) (S A : Vec Ideal S512x256 .f32) (r : Fin 512) (j : Fin 256)
    (hS : S (ix2 r j) = back ((argRows m c).pz (col g j)) n (512 * t.val + r.val + 32)) (hA : A (ix2 r j) = (argRows m c).P (rowAt t r) (col g j)) :
    S (ix2 r j) * rec (tileNo t) n r - A (ix2 r j) = (argRows m c).d (rowAt t r) (col g j) := by
  subst hn
  have e : rec (tileNo t) (win g) r = BwdB.inv (win g) (rowAt t r).val :=
    inv_tile (tile_no t).1 (lt32 t) r.isLt (win_pos g) (lt_of_le_of_lt (win_le g) (by decide))
  unfold Args.d
  rw [hS, hA, grp_col, e]

/-! ## The differences and their products, group by group -/

abbrev d0 : FVec Ideal S512x256 .bf16 :=
  k0_pay20 (k0_pay14 (tileNo t)) (held (View.whole cc0_scratch1) (sa2 m c t) (own 0))
    (held (View.whole cc0_scratch0) (peL m c t) (own 0))
abbrev dL0 : List (View.Piece (Elt Ideal) S512x1024 .bf16) :=
  ⟨quarter 0, d0 m c t⟩ :: []
abbrev d1 : FVec Ideal S512x256 .bf16 :=
  k0_pay23 (k0_pay17 (k0_pay15 (tileNo t)) (held (View.whole cc0_scratch2) (sb2 m c t) (own 1))
    (held (View.whole cc0_scratch0) (peL m c t) (own 1)))
abbrev dL1 : List (View.Piece (Elt Ideal) S512x1024 .bf16) :=
  ⟨quarter 1, d1 m c t⟩ :: dL0 m c t
abbrev d2 : FVec Ideal S512x256 .bf16 :=
  k0_pay25 (k0_pay18 (k0_pay16 (tileNo t)) (held (View.whole cc0_scratch1) (sa2 m c t) (own 2))
    (held (View.whole cc0_scratch0) (peL m c t) (own 2)))
abbrev dL2 : List (View.Piece (Elt Ideal) S512x1024 .bf16) :=
  ⟨quarter 2, d2 m c t⟩ :: dL1 m c t
abbrev d3 : FVec Ideal S512x256 .bf16 :=
  k0_pay27 (k0_pay19 (k0_pay13 (tileNo t)) 16#32 (held (View.whole cc0_scratch2) (sb2 m c t) (own 3))
    (held (View.whole cc0_scratch0) (peL m c t) (own 3)))
abbrev dL3 : List (View.Piece (Elt Ideal) S512x1024 .bf16) :=
  ⟨quarter 3, d3 m c t⟩ :: dL2 m c t
abbrev l0 : FVec Ideal S512x256 .f32 :=
  k0_pay22 (k0_pay21 (held (View.whole cc0_scratch3) (dL0 m c t) (quarter 0))
    (slab m c t 0))
abbrev l1 : FVec Ideal S512x256 .f32 :=
  k0_pay24 (held (View.whole cc0_scratch3) (dL1 m c t) (quarter 1))
    (slab m c t 1)
abbrev l2 : FVec Ideal S512x256 .f32 :=
  k0_pay26 (held (View.whole cc0_scratch3) (dL2 m c t) (quarter 2))
    (slab m c t 2)
abbrev l3 : FVec Ideal S512x256 .f32 :=
  k0_pay1 (held (View.whole cc0_scratch3) (dL3 m c t) (quarter 3))
    (slab m c t 3)
abbrev linL : List (View.Piece (Elt Ideal) S512x1024 .f32) :=
  [⟨quarter 3, l3 m c t⟩,
    ⟨quarter 2, l2 m c t⟩,
    ⟨quarter 1, l1 m c t⟩,
    ⟨quarter 0, l0 m c t⟩]

section
variable (r : Fin 512) (j : Fin 256)

theorem d0_at : d0 m c t (ix2 r j) = (argRows m c).d (rowAt t r) (col 0 j) := by
  refine (pay_d0 _ _ _ r j).trans (d_eq m c t 0 2 rfl _ _ r j ?_ (load_rows m c t _ 0 rfl r j))
  exact load _ _ (sa2 m c t) (argRows m c).pz 2 (512 * t.val) 0 rfl (fun s k h hl hu => (canon_off _ _ _ s k (Or.inr (Or.inr (Or.inl (show k.val < 512 from lt_trans hu (by decide)))))).trans (sa1_at m c t s k (le_trans (by decide) h))) r j
theorem d1_at : d1 m c t (ix2 r j) = (argRows m c).d (rowAt t r) (col 1 j) := by
  refine (pay_d1 _ _ _ r j).trans (d_eq m c t 1 4 rfl _ _ r j ?_ (load_rows m c t _ 1 rfl r j))
  exact load _ _ (sb2 m c t) (argRows m c).pz 4 (512 * t.val) 1 rfl (fun s k h hl hu => (canon_off _ _ _ s k (Or.inr (Or.inr (Or.inl (show k.val < 768 from lt_trans hu (by decide)))))).trans (sb1_at m c t s k (le_trans (by decide) h) hl)) r j
theorem d2_at : d2 m c t (ix2 r j) = (argRows m c).d (rowAt t r) (col 2 j) := by
  refine (pay_d2 _ _ _ r j).trans (d_eq m c t 2 8 rfl _ _ r j ?_ (load_rows m c t _ 2 rfl r j))
  exact load _ _ (sa2 m c t) (argRows m c).pz 8 (512 * t.val) 2 rfl (fun s k h hl hu => sa2_at m c t s k (le_trans (by decide) h) hl) r j
theorem d3_at : d3 m c t (ix2 r j) = (argRows m c).d (rowAt t r) (col 3 j) := by
  refine (pay_d3 _ _ _ r j).trans (d_eq m c t 3 16 rfl _ _ r j ?_ (load_rows m c t _ 3 rfl r j))
  exact load _ _ (sb2 m c t) (argRows m c).pz 16 (512 * t.val) 3 rfl (fun s k h hl hu => sb2_at m c t s k h hl) r j
theorem l0_at : l0 m c t (ix2 r j) = (argRows m c).lin0 (rowAt t r) (col 0 j) :=
  (pay_l0 _ _ r j).trans (lin_eq (argRows m c) (rowAt t) 0 r j _ _ (fun r j => (load_new _ _ _ _ 0 rfl r j).trans (d0_at m c t r j))
    fun i j => (ld_slab _ _ 0 rfl i j).trans (blk3 m c t 0 i j))
theorem l1_at : l1 m c t (ix2 r j) = (argRows m c).lin0 (rowAt t r) (col 1 j) :=
  (pay_l1 _ _ r j).trans (lin_eq (argRows m c) (rowAt t) 1 r j _ _ (fun r j => (load_new _ _ _ _ 1 rfl r j).trans (d1_at m c t r j))
    fun i j => (ld_slab _ _ 1 rfl i j).trans (blk3 m c t 1 i j))
theorem l2_at : l2 m c t (ix2 r j) = (argRows m c).lin0 (rowAt t r) (col 2 j) :=
  (pay_l2 _ _ r j).trans (lin_eq (argRows m c) (rowAt t) 2 r j _ _ (fun r j => (load_new _ _ _ _ 2 rfl r j).trans (d2_at m c t r j))
    fun i j => (ld_slab _ _ 2 rfl i j).trans (blk3 m c t 2 i j))
theorem l3_at : l3 m c t (ix2 r j) = (argRows m c).lin0 (rowAt t r) (col 3 j) :=
  (pay_l3 _ _ r j).trans (lin_eq (argRows m c) (rowAt t) 3 r j _ _ (fun r j => (load_new _ _ _ _ 3 rfl r j).trans (d3_at m c t r j))
    fun i j => (ld_slab _ _ 3 rfl i j).trans (blk3 m c t 3 i j))
end

theorem lin_at (V : View sig .tc .vmem S512x1024 .f32) (r : Fin 512) (k : Fin 1024) :
    V.readCov (Val := Elt Ideal) (linL m c t) full.toLoadRect (ix2 r k)
      = (argRows m c).lin0 (rowAt t r) k := by
  obtain ⟨g, j, rfl⟩ := exists_col k
  refine (readCov_at _ _ _ r r (col g j) (col g j) (Nat.zero_add _).symm (Nat.zero_add _).symm).trans ?_
  exact canon_four (Val := Elt Ideal) (e := .f32) (le_refl _) _ _ _ _ (l0 m c t) (l1 m c t) (l2 m c t) (l3 m c t) []
    (fun g j => (argRows m c).lin0 (rowAt t r) (col g j)) r r rfl (l0_at m c t r) (l1_at m c t r) (l2_at m c t r) (l3_at m c t r) g j _ rfl

/-- What a tile stores. -/
theorem tile_out (r : Fin 512) (j : Fin 1024) :
    k0_pay2 (k0_pay3 (iblk m c 2 t)) (k0_pay4 (iblk m c 4 t)) (k0_pay5 (iblk m c 5 t))
      ((View.whole cc0_scratch4).readCov (Val := Elt Ideal) (linL m c t) full.toLoadRect)
      (iblk m c 6 t) (ix2 r j) = ∑ k, (argRows m c).y (rowAt t r) k * (argRows m c).w k j := by
  refine (pay_out _ _ _ _ _ r j).trans (Finset.sum_congr (M := EReal) rfl fun k _ => ?_)
  rw [lin_at, blk2, blk4, blk5, blk6]
  rfl

set_option maxHeartbeats 4000000 in
theorem outs (r : Fin 512) (j : Fin 1024) :
    (outsAt0 m c t : FVec Ideal S512x1024 .bf16) (ix2 r j) = ∑ k, (argRows m c).y (rowAt t r) k * (argRows m c).w k j := by
  unfold outsAt0
  frame_out
  exact tile_out m c t r j
end

/-- What the run leaves in the result. -/
def outB (c : Dev nD) : FVec Ideal S16384x1024 .bf16 := fun i => ∑ k, (argRows m c).y (i 0) k * (argRows m c).w k (i 1)

theorem arr_out (c : Dev nD) : (dats m 0 c).arrAt 7 cfg0.N = outB m c := by
  refine (dats m 0 c).arrAt_eq_of_covers 7 _ (by decide +kernel) fun t hf y => ?_
  have key : ∀ z : S512x1024.Idx, (outsAt0 m c t : FVec Ideal S512x1024 .bf16) z = outB m c ((win0_7.blk t).view.emb z) := fun z => by
    obtain ⟨r, k, rfl⟩ := Lift.exists_ix2 z
    rw [outs, emb7]
    rfl
  blk_simp
  rw [after0_7]
  exact key y

end Cert.Kernel10Ideal.Value

end
-- ==== Proof.FwdB.lean ====
/- The pooling branch's forward call: the reference's result by rows, and the value claim. Hand-written, untrusted. -/
module

public import proofs.«01_k».proof.Proof.Gen.Reference10Ideal.Run
public import proofs.«01_k».proof.Proof.Gen.Pre_finite10
public import proofs.«01_k».proof.Proof.BwdBRef
public import proofs.«01_k».proof.Proof.FwdBKernel
public import proofs.«01_k».proof.Defs

@[expose] public section

set_option maxRecDepth 16384

noncomputable section

open Idealize.ShloMosaic Idealize.ShloMosaic.TcCoe Idealize.ShloMosaic.Tactic Idealize.SL.Sem
open scoped BigOperators

namespace Cert.Reference10Ideal.Value

open Cert.Reference10Ideal Cert.Reference10Ideal.Gen Cert.BwdB Cert.CumSum
open Cert.Reference4Ideal.Value (cat4 cat4_0 cat4_1 cat4_2 cat4_3)

/-! ## The reference's arrays -/

/-- A block of 1024 columns of the projections, -/
def part (p : FVec Ideal S16384x12288 .bf16) (o : ℕ) (h : S16384x12288.Slices ![0, o] S16384x1024) : FVec Ideal S16384x1024 .f32 :=
  extf .f32 (extractStridedSlice S16384x1024 ![0, o] p h) bitsLt_bf16_f32
/-- the running sums of its columns, -/
def sums (P : FVec Ideal S16384x1024 .f32) : FVec Ideal S16384x1024 .f32 :=
  Host.reduceWindowAdd ![16384, 1] ![1, 1] ![16383, 0] ![0, 0] P (broadcastInDim S_ ![] bcast_S_S_ (constant S_ .f32 0x00000000#32))
    reduceWindows_S16384x1024_S16384x1024_w16384s1p16383_0_w1s1p0_0 h_S_
/-- how many rows a window of `n` rows holds, -/
def counts (n : BitVec 32) : FVec Ideal S16384x256 .f32 :=
  broadcastInDim S16384x256 ![0, 1] bcast_S16384x1_S16384x256_0_1 (broadcastInDim S16384x1 ![0] bcast_S16384_S16384x1_0
    (sitofp .f32 (minsi (addi (broadcastInDim S16384 ![] bcast_S_S16384 (constantI S_ 32 1#32)) (iotaInDim S16384 32 0))
      (broadcastInDim S16384 ![] bcast_S_S16384 (constantI S_ 32 n)))))
/-- a group's means over its windows less its rows, -/
def less (A L C B : FVec Ideal S16384x256 .f32) : FVec Ideal S16384x256 .f32 := subf (Host.divf (subf A L) C) B
/-- and a group's running sums, a window later. -/
def late0 (A : FVec Ideal S16384x256 .f32) : FVec Ideal S16384x256 .f32 :=
  extractStridedSlice S16384x256 ![0, 0] (concatenate S16386x256 0 [⟨S2x256, (broadcastInDim S2x256 ![] bcast_S_S2x256 (constant S_ .f32 0x00000000#32))⟩,
    ⟨S16384x256, A⟩] concatenates_S2x256_S16384x256_S16386x256_d0) slices_S16386x256_S16384x256_0_0
def late1 (A : FVec Ideal S16384x256 .f32) : FVec Ideal S16384x256 .f32 :=
  extractStridedSlice S16384x256 ![0, 0] (concatenate S16388x256 0 [⟨S4x256, (broadcastInDim S4x256 ![] bcast_S_S4x256 (constant S_ .f32 0x00000000#32))⟩,
    ⟨S16384x256, A⟩] concatenates_S4x256_S16384x256_S16388x256_d0) slices_S16388x256_S16384x256_0_0
def late2 (A : FVec Ideal S16384x256 .f32) : FVec Ideal S16384x256 .f32 :=
  extractStridedSlice S16384x256 ![0, 0] (concatenate S16392x256 0 [⟨S8x256, (broadcastInDim S8x256 ![] bcast_S_S8x256 (constant S_ .f32 0x00000000#32))⟩,
    ⟨S16384x256, A⟩] concatenates_S8x256_S16384x256_S16392x256_d0) slices_S16392x256_S16384x256_0_0
def late3 (A : FVec Ideal S16384x256 .f32) : FVec Ideal S16384x256 .f32 :=
  extractStridedSlice S16384x256 ![0, 0] (concatenate S16400x256 0 [⟨S16x256, (broadcastInDim S16x256 ![] bcast_S_S16x256 (constant S_ .f32 0x00000000#32))⟩,
    ⟨S16384x256, A⟩] concatenates_S16x256_S16384x256_S16400x256_d0) slices_S16400x256_S16384x256_0_0
def group (T : FVec Ideal S16384x1024 .f32) (o : ℕ) (h : S16384x1024.Slices ![0, o] S16384x256) : FVec Ideal S16384x256 .f32 :=
  extractStridedSlice S16384x256 ![0, o] T h

/-- The four groups side by side, -/
def pooled (P T : FVec Ideal S16384x1024 .f32) : FVec Ideal S16384x4x256 .f32 :=
  cat4
    (less (group T 0 slices_S16384x1024_S16384x256_0_0) (late0 (group T 0 slices_S16384x1024_S16384x256_0_0)) (counts 2#32) (group P 0 slices_S16384x1024_S16384x256_0_0))
    (less (group T 256 slices_S16384x1024_S16384x256_0_256) (late1 (group T 256 slices_S16384x1024_S16384x256_0_256)) (counts 4#32) (group P 256 slices_S16384x1024_S16384x256_0_256))
    (less (group T 512 slices_S16384x1024_S16384x256_0_512) (late2 (group T 512 slices_S16384x1024_S16384x256_0_512)) (counts 8#32) (group P 512 slices_S16384x1024_S16384x256_0_512))
    (less (group T 768 slices_S16384x1024_S16384x256_0_768) (late3 (group T 768 slices_S16384x1024_S16384x256_0_768)) (counts 16#32) (group P 768 slices_S16384x1024_S16384x256_0_768))
/-- and the branch's product. -/
def branch (D : FVec Ideal S16384x4x256 .f32) (Z : FVec Ideal S16384x1024 .f32) (W : FVec Ideal S4x256x256 .f32) (b s : FVec Ideal S1024 .f32)
    (w : FVec Ideal S1024x1024 .f32) : FVec Ideal S16384x1024 .bf16 :=
  truncf .bf16 (Host.dotGeneral dot_S16384x1024_S1024x1024_S16384x1024_1_0_0_1_n_n none (mulf (mulf (addf (shapeCast _ (transpose S16384x4x256 [2, 0, 1]
    (Host.dotGeneral dot_S4x256x256_S16384x4x256_S4x256x16384_1_2_2_0_0_1 none W D) transposes_S4x256x16384_S16384x4x256_2_0_1)
    shapeCasts_S16384x4x256_S16384x1024) (broadcastInDim S16384x1024 ![0, 1] bcast_S1x1024_S16384x1024_0_1 (broadcastInDim S1x1024 ![1] bcast_S1024_S1x1024_1 b)))
    (broadcastInDim S16384x1024 ![0, 1] bcast_S1x1024_S16384x1024_0_1 (broadcastInDim S1x1024 ![1] bcast_S1024_S1x1024_1 s)))
    (mulf Z (Host.divf (broadcastInDim S16384x1024 ![] bcast_S_S16384x1024 (constant S_ .f32 0x3F800000#32))
      (addf (broadcastInDim S16384x1024 ![] bcast_S_S16384x1024 (constant S_ .f32 0x3F800000#32)) (Host.exp (Host.negf Z)))))) w) bitsLt_bf16_f32

variable (m : (ℓ : Loc nD τ sig) → Buf (Elt Ideal) ℓ)

theorem res_eq (c : Dev nD) : res_main_v74 m c = branch
    (pooled (part (m ((c.tc : Thread nD τ).loc main_arg0)) 3072 slices_S16384x12288_S16384x1024_0_3072)
      (sums (part (m ((c.tc : Thread nD τ).loc main_arg0)) 3072 slices_S16384x12288_S16384x1024_0_3072)))
    (part (m ((c.tc : Thread nD τ).loc main_arg0)) 4096 slices_S16384x12288_S16384x1024_0_4096)
    (m ((c.tc : Thread nD τ).loc main_arg1)) (m ((c.tc : Thread nD τ).loc main_arg2)) (m ((c.tc : Thread nD τ).loc main_arg3))
    (m ((c.tc : Thread nD τ).loc main_arg4)) := rfl

/-- The argument rows of the call, as for the kernel. -/
def argRows (c : Dev nD) : Args where
  P r j := m (c.tc.loc main_arg0) (ix2 r ⟨3072 + j.val, by omega⟩)
  Z r j := m (c.tc.loc main_arg0) (ix2 r ⟨4096 + j.val, by omega⟩)
  G _ _ := 0
  pw g i j := m (c.tc.loc main_arg1) (ix3 g i j)
  pb j := m (c.tc.loc main_arg2) (ix1 j)
  ps j := m (c.tc.loc main_arg3) (ix1 j)
  w i j := m (c.tc.loc main_arg4) (ix2 i j)

section
variable (c : Dev nD) (r : Fin 16384) (k : Fin 1024)
theorem part_P : part (m ((c.tc : Thread nD τ).loc main_arg0)) 3072 slices_S16384x12288_S16384x1024_0_3072 (ix2 r k) = (argRows m c).P r k := by
  pointwise [part]
  rfl
theorem part_Z : part (m ((c.tc : Thread nD τ).loc main_arg0)) 4096 slices_S16384x12288_S16384x1024_0_4096 (ix2 r k) = (argRows m c).Z r k := by
  pointwise [part]
  rfl
end

/-! ## The pooled rows -/

section
variable (a : Args) (ha : ∀ r k, IsReal (a.P r k)) (P : FVec Ideal S16384x1024 .f32) (hP : ∀ r k, P (ix2 r k) = a.P r k) (r : Fin 16384)

include hP in
/-- A running sum of the pooled rows, with the 32 rows of zeros before them. -/
theorem sums_at (k : Fin 1024) : sums P (ix2 r k) = ∑ i ∈ Finset.range (r.val + 33), a.pz k i := by
  refine (prefix_rows (N := 16384) _ _ reduceWindows_S16384x1024_S16384x1024_w16384s1p16383_0_w1s1p0_0 h_S_ ?_ r k
    (fun i => a.pz k (32 + i)) fun s => ?_).trans ?_
  · pointwise
  · exact (hP s k).trans (a.pz_at (Nat.add_comm _ _) k).symm
  · have e : ∑ i ∈ Finset.range 32, a.pz k i = 0 := Finset.sum_eq_zero fun i hi => a.pz_zero (Finset.mem_range.1 hi) k
    have := Finset.sum_range_add (fun i => a.pz k i) 32 (r.val + 1)
    rw [e, zero_add] at this
    exact this.symm.trans (congrArg (fun n => ∑ i ∈ Finset.range n, a.pz k i) (by omega))

include ha in
/-- Where the rows are real, a running sum less the one that ends before the window is the window's sum. -/
theorem window (k : Fin 1024) (n : ℕ) (hn : n ≤ 16) (S : Fin 16384 → EReal) (hS : ∀ s : Fin 16384, S s = ∑ i ∈ Finset.range (s.val + 33), a.pz k i) :
    S r - (if _ : r.val < n then 0 else S ⟨r.val - n, by omega⟩) = back (a.pz k) n (r.val + 32) := by
  have hr : ∀ i, IsReal (a.pz k i) := fun i => by
    unfold Args.pz
    split
    · exact ha _ _
    · exact IsReal.zero
  refine Eq.trans ?_ (prefix_sub hr n (r.val + 32) (by omega))
  refine congrArg₂ (· - ·) (hS r) ?_
  by_cases hr : r.val < n
  · exact (dif_pos hr).trans (Finset.sum_eq_zero fun i hi => a.pz_zero (by have := Finset.mem_range.1 hi; omega) k).symm
  · exact ((dif_neg hr).trans (hS _)).trans (congrArg (fun n => ∑ i ∈ Finset.range n, a.pz k i)
      (show r.val - n + 33 = r.val + 32 + 1 - n by omega))

variable (j : Fin 256)

theorem counts_at (n : ℕ) (hn : n < 2 ^ 31) : counts (BitVec.ofNat 32 n) (ix2 r j) = (cnt n r.val : EReal) := by
  pointwise [counts]
  refine Eq.trans (congrArg (fun b => (((IntOp.minsi b (BitVec.ofNat 32 n)).toInt : ℝ) : EReal)) ?_) (cnt_min n r.val hn (by omega))
  exact (BitVec.ofNat_add _ _).symm.trans (congrArg (BitVec.ofNat 32) (Nat.add_comm _ _))
theorem group_at (T : FVec Ideal S16384x1024 .f32) (g : Fin 4) (o : ℕ) (h : S16384x1024.Slices ![0, o] S16384x256) (ho : o = 256 * g.val) :
    group T o h (ix2 r j) = T (ix2 r (col g j)) := by
  subst ho
  pointwise [group]
  rfl
theorem late0_at (A : FVec Ideal S16384x256 .f32) : late0 A (ix2 r j) = if _ : r.val < 2 then 0 else A (ix2 ⟨r.val - 2, by omega⟩ j) := by
  pointwise [late0]
theorem late1_at (A : FVec Ideal S16384x256 .f32) : late1 A (ix2 r j) = if _ : r.val < 4 then 0 else A (ix2 ⟨r.val - 4, by omega⟩ j) := by
  pointwise [late1]
theorem late2_at (A : FVec Ideal S16384x256 .f32) : late2 A (ix2 r j) = if _ : r.val < 8 then 0 else A (ix2 ⟨r.val - 8, by omega⟩ j) := by
  pointwise [late2]
theorem late3_at (A : FVec Ideal S16384x256 .f32) : late3 A (ix2 r j) = if _ : r.val < 16 then 0 else A (ix2 ⟨r.val - 16, by omega⟩ j) := by
  pointwise [late3]

include ha hP in
/-- A group's rows, as the branch reads them. -/
theorem less_at (g : Fin 4) (n : ℕ) (hn : n = win g) (o : ℕ) (h : S16384x1024.Slices ![0, o] S16384x256) (ho : o = 256 * g.val) (L : FVec Ideal S16384x256 .f32)
    (hL : L (ix2 r j) = if _ : r.val < n then 0 else group (sums P) o h (ix2 ⟨r.val - n, by omega⟩ j)) :
    less (group (sums P) o h) L (counts (BitVec.ofNat 32 n)) (group P o h) (ix2 r j) = a.d r (col g j) := by
  refine (show less _ _ _ _ (ix2 r j) = Ideal.div (group (sums P) o h (ix2 r j) - L (ix2 r j)) (counts (BitVec.ofNat 32 n) (ix2 r j))
    - group P o h (ix2 r j) from rfl).trans ?_
  rw [hL, counts_at r j n (by rw [hn]; exact lt_of_le_of_lt (win_le g) (by decide)), div_cnt (by rw [hn]; exact win_pos g), group_at r j P g o h ho, hP,
    window a ha r (col g j) n (by rw [hn]; exact win_le g) (fun s => group (sums P) o h (ix2 s j))
      fun s => (group_at s j (sums P) g o h ho).trans (sums_at a P hP s (col g j))]
  subst hn
  unfold Args.d
  rw [grp_col]

include ha hP in
theorem pooled_at (g : Fin 4) : pooled P (sums P) (ix3 r g j) = a.d r (col g j) := by
  obtain rfl | rfl | rfl | rfl := (by decide : ∀ g : Fin 4, g = 0 ∨ g = 1 ∨ g = 2 ∨ g = 3) g
  · exact (cat4_0 _ _ _ _ r j).trans (less_at a ha P hP r j 0 2 rfl _ _ rfl _ (late0_at r j _))
  · exact (cat4_1 _ _ _ _ r j).trans (less_at a ha P hP r j 1 4 rfl _ _ rfl _ (late1_at r j _))
  · exact (cat4_2 _ _ _ _ r j).trans (less_at a ha P hP r j 2 8 rfl _ _ rfl _ (late2_at r j _))
  · exact (cat4_3 _ _ _ _ r j).trans (less_at a ha P hP r j 3 16 rfl _ _ rfl _ (late3_at r j _))
end

/-! ## The product, and the claim -/

/-- What the run leaves in the result. -/
def outB (c : Dev nD) : FVec Ideal S16384x1024 .bf16 := fun i => ∑ k, (argRows m c).y (i 0) k * (argRows m c).w k (i 1)

theorem res_out (c : Dev nD) (h : ∀ r k, IsReal ((argRows m c).P r k)) : res_main_v74 m c = outB m c := by
  rw [res_eq]
  funext z
  obtain ⟨r, j, rfl⟩ := Lift.exists_ix2 z
  refine Eq.trans ?_ (show (∑ k, (argRows m c).y r k * (argRows m c).w k j : EReal) = _ from rfl)
  pointwise [branch]
  refine Finset.sum_congr (M := EReal) rfl fun k _ => congrArg (· * _) ?_
  rw [part_Z]
  refine congrArg (fun x => (x + (argRows m c).pb k) * (argRows m c).ps k * (argRows m c).gate r k) ?_
  exact Finset.sum_congr (M := EReal) rfl fun x _ => (mul_comm (G := EReal) _ _).trans
    (congrArg (· * _) (pooled_at (argRows m c) h _ (part_P m c) r x (grp k)))

end Cert.Reference10Ideal.Value

namespace Cert.FwdB

/-- Where the precondition holds the rows that are pooled are real. -/
theorem rows_real (m : (ℓ : Loc Cert.Kernel10Ideal.nD Cert.Kernel10Ideal.τ Cert.Kernel10Ideal.sig) → Buf (Elt Ideal) ℓ)
    (h : Cert.Pre_Kernel10Ideal_finite10 m) (c : Dev Cert.Kernel10Ideal.nD) (r : Fin 16384) (k : Fin 1024) : IsReal ((Kernel10Ideal.Value.argRows m c).P r k) := by
  have h0 := congrFun (h c) (fun a => a.elim0)
  unfold Cert.Pre_finite10.fn at h0
  dsimp only at h0
  haveI : Subsingleton Cert.Pre_finite10.S_.Idx := ⟨fun a b => funext fun i => i.elim0⟩
  have e := real_of_all h0 (fun i => by pointwise)
  refine (congrArg IsReal (?_ : _ = _)).mp (e (ix2 r k))
  pointwise
  rfl

/-- The value claim: where the precondition holds, the kernel and the reference end with equal results. -/
theorem value : Cert.algebraic_Kernel10Ideal_Reference10Ideal_pre_finite10 := by
  intro m g m' g' hpre hag
  have eA : ∀ c, Reference10Ideal.Value.argRows m' c = Kernel10Ideal.Value.argRows m c := fun c => by
    obtain ⟨a0, a1, a2, a3, a4⟩ := hag c
    simp only [Reference10Ideal.Value.argRows, Kernel10Ideal.Value.argRows, a0, a1, a2, a3, a4]
  refine ⟨fun c => Kernel10Ideal.Value.outB m c,
    (θ_run _ _ _).mono (fun r h c => ?_) (Kernel10Ideal.Value.run_blocks m g),
    (θ_run _ _ _).mono (fun r h c => ?_) (Reference10Ideal.Value.run m' g')⟩
  · obtain ⟨h0, h1⟩ := h c
    exact ⟨h0.trans (Kernel10Ideal.Value.arr_out m c), h1⟩
  · obtain ⟨h0, h1⟩ := h c
    refine ⟨h0.trans ((Reference10Ideal.Value.res_out m' c ?_).trans ?_), h1⟩
    · rw [eA]
      exact rows_real m hpre c
    · unfold Reference10Ideal.Value.outB
      rw [eA]
      rfl

end Cert.FwdB

end
-- ==== Proof.FwdProj.lean ====
/- The input projection's forward call: the normalised rows times the weights, and the same rows transposed, kernel against
   reference. Hand-written, untrusted. -/
module

public import proofs.«01_k».proof.Proof.FwdProjFrame
public import proofs.«01_k».proof.Proof.Gen.Reference7Ideal.Run
public import proofs.«01_k».proof.Proof.LossHead
public import proofs.«01_k».proof.Proof.Blocks

@[expose] public section

set_option maxRecDepth 16384

noncomputable section

open Idealize.ShloMosaic Idealize.ShloMosaic.TcCoe Idealize.SL.Sem
open Idealize.ShloMosaic.Pipeline (Dat)
open scoped BigOperators
open Cert.LossHead (rms)

namespace Cert.FwdProj

/-- A row, normalised and scaled by the gain. -/
def unitRow (x g : Fin 1024 → EReal) (k : Fin 1024) : EReal := x k * rms x * g k

/-- The call's arguments: the residual stream's rows, the gain, the weights. -/
structure Args where
  x : Fin 16384 → Fin 1024 → EReal
  g : Fin 1024 → EReal
  w : Fin 1024 → Fin 12288 → EReal

/-- Entry `(r, n)` of the projection. -/
def Args.proj (a : Args) (r : Fin 16384) (n : Fin 12288) : EReal := ∑ k, unitRow (a.x r) a.g k * a.w k n

end Cert.FwdProj

namespace Cert.Kernel7Ideal.Hand

open Cert.Kernel7Ideal Cert.Kernel7Ideal.Gen Cert.FwdProj Cert.Blocks

/-! ## The payloads -/

section
variable (X : Vec Ideal S1024x1024 .f32) (G : Vec Ideal S1x1024 .f32) (H : Vec Ideal S1024x1024 .bf16)
  (W : Vec Ideal S1x1024x1536 .bf16) (r k : Fin 1024) (j : Fin 1536)

theorem pay_rows : k0_pay2 X G (ix2 r k) = unitRow (fun i => X (ix2 r i)) (fun i => G (ix2 0 i)) k := by
  pointwise [k0_pay2, k0_pay1]
  rfl
theorem pay_cols : k0_pay3 X G (ix2 k r) = unitRow (fun i => X (ix2 r i)) (fun i => G (ix2 0 i)) k := by
  pointwise [k0_pay3, k0_pay1]
  rfl
theorem pay_left : k0_pay4 H W (ix2 r j) = ∑ k, H (ix2 r k) * W (ix3 0 k j) := by pointwise [k0_pay4]
theorem pay_right : k0_pay5 H W (ix2 r j) = ∑ k, H (ix2 r k) * W (ix3 0 k j) := by pointwise [k0_pay5]

/-- Column `j` of slab `q` of the block of columns. -/
theorem prod_at (V : Vec Ideal S2x1024x1536 .bf16) (q : Fin 2) (n : Fin 3072) (hn : n.val = 1536 * q.val + j.val) :
    prod H V (ix2 r n) = ∑ k, H (ix2 r k) * V (ix3 q k j) := by
  unfold prod pieces
  obtain rfl | rfl := (by decide : ∀ q : Fin 2, q = 0 ∨ q = 1) q
  · refine (canon_off (Val := Elt Ideal) _ _ _ r n (by have : n.val = 1536 * 0 + j.val := hn; omega)).trans ?_
    refine (canon_at (Val := Elt Ideal) _ _ _ r r n j (by omega) (by have : n.val = 1536 * 0 + j.val := hn; omega)).trans ((pay_left H _ r j).trans ?_)
    exact Finset.sum_congr (M := EReal) rfl fun k _ => congrArg (H (ix2 r k) * ·) (ld_slab (Val := Elt Ideal) _ V 0 rfl k j)
  · refine (canon_at (Val := Elt Ideal) _ _ _ r r n j (by omega) (by have : n.val = 1536 * 1 + j.val := hn; omega)).trans ((pay_right H _ r j).trans ?_)
    exact Finset.sum_congr (M := EReal) rfl fun k _ => congrArg (H (ix2 r k) * ·) (ld_slab (Val := Elt Ideal) _ V 1 rfl k j)
end

/-! ## The blocks, and the arrays after the run -/

variable (m : (ℓ : Loc nD τ sig) → Buf (Elt Ideal) ℓ) (c : Dev nD)

/-- The call's arguments by row. -/
def argRows : Args :=
  ⟨fun r k => m (c.tc.loc main_arg0) (ix2 r k), fun k => m (c.tc.loc main_arg1) (ix1 k), fun k n => m (c.tc.loc main_arg2) (ix2 k n)⟩

/-- The weights in eight slabs of columns, and the gain's row, that the call is given. -/
theorem given_w (s : Fin 8) (k : Fin 1024) (j : Fin 1536) :
    (V m c main_v2 : FVec Ideal S8x1024x1536 .bf16) (ix3 s k j) = (argRows m c).w k ⟨1536 * s.val + j.val, by omega⟩ := by
  refine Eq.trans ?_ (show m (c.tc.loc main_arg2) (ix2 k ⟨1536 * s.val + j.val, by omega⟩) = _ from rfl)
  unfold V
  after_results_simp
  pointwise
  exact congrArg (fun n => m (c.tc.loc main_arg2) (ix2 k n)) (Fin.ext (by simp only [Nat.mul_comm]))
theorem given_gain (k : Fin 1024) : (V m c main_v3 : FVec Ideal S1x1024 .f32) (ix2 0 k) = (argRows m c).g k := by
  refine Eq.trans ?_ (show m (c.tc.loc main_arg1) (ix1 k) = _ from rfl)
  unfold V
  after_results_simp
  pointwise

theorem lt64 (t : Fin cfg0.N) : t.val < 64 := lt_of_lt_of_le t.isLt (le_refl 64)

/-- Row `r` and column `n` of point `t`'s block of the projection, in the whole array. -/
abbrev rowAt (t : Fin cfg0.N) (r : Fin 1024) : Fin 16384 := ⟨1024 * (t.val / 4) + r.val, by have := lt64 t; omega⟩
abbrev colAt (t : Fin cfg0.N) (n : Fin 3072) : Fin 12288 := ⟨3072 * (t.val % 4) + n.val, by omega⟩

theorem idx : ∀ t : Fin cfg0.N, win0_0.index t = ![t.val / 4, 0] ∧ win0_1.index t = ![0, 0] ∧ win0_2.index t = ![t.val % 4, 0, 0]
    ∧ win0_3.index t = ![t.val / 4, t.val % 4] ∧ win0_4.index t = ![0, t.val / 4] :=
  (by decide +kernel : ∀ t : Fin grid0.N, _)

variable (t : Fin cfg0.N) (r k : Fin 1024)

theorem blk0 : (iblk m c 0 t : FVec Ideal S1024x1024 .f32) (ix2 r k) = (argRows m c).x (rowAt t r) k := by
  refine Eq.trans ?_ (show m (c.tc.loc main_arg0) (ix2 (rowAt t r) k) = _ from rfl)
  blk_point [iblk, V, idx t]
theorem blk1 : (iblk m c 1 t : FVec Ideal S1x1024 .f32) (ix2 0 k) = (argRows m c).g k := by
  refine Eq.trans ?_ (given_gain m c k)
  blk_point [iblk, idx t]
theorem blk2 (q : Fin 2) (j : Fin 1536) (n : Fin 3072) (hn : n.val = 1536 * q.val + j.val) :
    (iblk m c 2 t : FVec Ideal S2x1024x1536 .bf16) (ix3 q k j) = (argRows m c).w k (colAt t n) := by
  refine Eq.trans ?_ ((given_w m c ⟨2 * (t.val % 4) + q.val, by omega⟩ k j).trans
    (congrArg ((argRows m c).w k) (Fin.ext (show 1536 * (2 * (t.val % 4) + q.val) + j.val = 3072 * (t.val % 4) + n.val by omega))))
  blk_point [iblk, idx t]

/-- The kept rows at every point of a row tile, and their transpose. -/
theorem rows_at : rows m c t (ix2 r k) = unitRow ((argRows m c).x (rowAt t r)) (argRows m c).g k :=
  (pay_rows _ _ r k).trans (congrArg₂ (fun x g => unitRow x g k) (funext fun i => blk0 m c t r i) (funext fun i => blk1 m c t i))
theorem cols_at : cols m c t (ix2 k r) = unitRow ((argRows m c).x (rowAt t r)) (argRows m c).g k :=
  (pay_cols _ _ r k).trans (congrArg₂ (fun x g => unitRow x g k) (funext fun i => blk0 m c t r i) (funext fun i => blk1 m c t i))

theorem block_at (n : Fin 3072) : prod (rows m c t) (iblk m c 2 t) (ix2 r n) = (argRows m c).proj (rowAt t r) (colAt t n) := by
  have hn : n.val = 1536 * (⟨n.val / 1536, by omega⟩ : Fin 2).val + (⟨n.val % 1536, by omega⟩ : Fin 1536).val :=
    (Nat.div_add_mod _ _).symm
  refine (prod_at _ r _ _ _ n hn).trans (Finset.sum_congr (M := EReal) rfl fun k _ => ?_)
  rw [rows_at, blk2 m c t k _ _ n hn]

theorem emb3 (n : Fin 3072) : (win0_3.blk t).view.emb (ix2 r n : S1024x3072.Idx) = ix2 (rowAt t r) (colAt t n) := by
  blk_ext [idx t]
theorem emb4 : (win0_4.blk t).view.emb (ix2 k r : S1024x1024.Idx) = ix2 k (rowAt t r) := by
  blk_ext [idx t]

/-- The two results by entry. -/
def outProj : FVec Ideal S16384x12288 .bf16 := fun z => (argRows m c).proj (z 0) (z 1)
def outCols : FVec Ideal S1024x16384 .bf16 := fun z => unitRow ((argRows m c).x (z 1)) (argRows m c).g (z 0)

theorem arr_proj : (dats m 0 c).arrAt 3 cfg0.N = outProj m c := by
  have key : ∀ (t : Fin cfg0.N) (y : S1024x3072.Idx), prod (rows m c t) (iblk m c 2 t) y = outProj m c ((win0_3.blk t).view.emb y) :=
    fun t y => by
      obtain ⟨r, n, rfl⟩ := Lift.exists_ix2 y
      rw [emb3]
      exact block_at m c t r n
  refine (dats m 0 c).arrAt_eq_of_covers 3 _ (by decide +kernel) fun t hf y => ?_
  blk_simp
  rw [after3]
  exact key t y
theorem arr_cols : (dats m 0 c).arrAt 4 cfg0.N = outCols m c := by
  have key : ∀ (t : Fin cfg0.N) (y : S1024x1024.Idx), cols m c t y = outCols m c ((win0_4.blk t).view.emb y) :=
    fun t y => by
      obtain ⟨k, r, rfl⟩ := Lift.exists_ix2 y
      rw [emb4]
      exact cols_at m c t r k
  refine (dats m 0 c).arrAt_eq_of_covers 4 _ (by decide +kernel) fun t hf y => ?_
  blk_simp
  rw [after4]
  exact key t y

end Cert.Kernel7Ideal.Hand

namespace Cert.Reference7Ideal.Value

open Cert.Reference7Ideal Cert.Reference7Ideal.Gen Cert.FwdProj

/-- The normalised rows' array, as the reference's lines write it. -/
abbrev unitArr (X : FVec Ideal S16384x1024 .f32) (G : FVec Ideal S1024 .f32) : FVec Ideal S16384x1024 .f32 :=
  mulf (mulf X (broadcastInDim S16384x1024 ![0, 1] bcast_S16384x1_S16384x1024_0_1 (Host.rsqrt (addf (Host.divf
    (broadcastInDim S16384x1 ![0] bcast_S16384_S16384x1_0 (Host.reduceAdd (mulf X X) (constant S_ .f32 0x00000000#32) reducesTo_S16384x1024_S16384_d1 h_S_))
    (broadcastInDim S16384x1 ![] bcast_S_S16384x1 (constant S_ .f32 0x44800000#32)))
    (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 G))

section
variable (X : FVec Ideal S16384x1024 .f32) (G : FVec Ideal S1024 .f32) (W : FVec Ideal S1024x12288 .f32) (r : Fin 16384)
  (k : Fin 1024) (n : Fin 12288)

theorem unit_at : unitArr X G (ix2 r k) = unitRow (fun i => X (ix2 r i)) (fun i => G (ix1 i)) k := by
  pointwise
  rfl
theorem dot_at (A : FVec Ideal S16384x1024 .f32) :
    truncf .bf16 (Host.dotGeneral (φ₁ := .f32) (φ₂ := .f32) dot_S16384x1024_S1024x12288_S16384x12288_1_0_0_1_n_n none A W) bitsLt_bf16_f32 (ix2 r n)
      = ∑ k, A (ix2 r k) * W (ix2 k n) := by pointwise
theorem turn_at (A : FVec Ideal S16384x1024 .f32) :
    truncf .bf16 (transpose S1024x16384 [1, 0] A transposes_S16384x1024_S1024x16384_1_0) bitsLt_bf16_f32 (ix2 k r) = A (ix2 r k) := by pointwise
end

end Cert.Reference7Ideal.Value

namespace Cert.FwdProj

open Cert.Reference7Ideal.Value (unitArr unit_at dot_at turn_at)

/-- The value claim: the kernel and the reference end with equal results. -/
theorem value : Cert.algebraic_Kernel7Ideal_Reference7Ideal := by
  intro m g m' g' _ hag
  refine ⟨fun c => Kernel7Ideal.Hand.outProj m c, fun c => Kernel7Ideal.Hand.outCols m c,
    (θ_run _ _ _).mono (fun r h c => ?_) (θ_run_and (Kernel7Ideal.Hand.run_main m g) (Kernel7Ideal.Hand.frame m g)),
    (θ_run _ _ _).mono (fun r h c => ?_) (Reference7Ideal.Value.run m' g')⟩
  · obtain ⟨h, hk, -⟩ := h
    exact ⟨((h c).1 3).trans (Kernel7Ideal.Hand.arr_proj m c), ((h c).1 4).trans (Kernel7Ideal.Hand.arr_cols m c), hk c⟩
  · obtain ⟨h0, h1, h2⟩ := h c
    obtain ⟨a0, a1, a2⟩ := hag c
    have row : ∀ (r : Fin 16384) (k : Fin 1024), unitArr (m' (c.tc.loc Reference7Ideal.main_arg0)) (m' (c.tc.loc Reference7Ideal.main_arg1)) (ix2 r k)
        = unitRow ((Kernel7Ideal.Hand.argRows m c).x r) (Kernel7Ideal.Hand.argRows m c).g k := fun r k => by
      rw [unit_at, a0, a1]
      rfl
    refine ⟨h0.trans (funext fun z => ?_), h1.trans (funext fun z => ?_), h2⟩
    · obtain ⟨r, n, rfl⟩ := Lift.exists_ix2 z
      refine (dot_at _ r n (unitArr (m' (c.tc.loc Reference7Ideal.main_arg0)) (m' (c.tc.loc Reference7Ideal.main_arg1)))).trans ?_
      show _ = (Kernel7Ideal.Hand.argRows m c).proj r n
      refine Finset.sum_congr (M := EReal) rfl fun k _ => ?_
      rw [row, a2]
      rfl
    · obtain ⟨k, r, rfl⟩ := Lift.exists_ix2 z
      exact (turn_at r k (unitArr (m' (c.tc.loc Reference7Ideal.main_arg0)) (m' (c.tc.loc Reference7Ideal.main_arg1)))).trans (row r k)

end Cert.FwdProj

end
-- ==== Proof.BwdProjDw.lean ====
/- The input projection's weight gradient: the normalised rows' transpose times the projection's cotangent, its column groups in
   the weights' order, kernel against reference. Hand-written, untrusted. -/
module

public import proofs.«01_k».proof.Proof.Gen.Kernel11Ideal.Value
public import proofs.«01_k».proof.Proof.Gen.Reference11Ideal.Run
public import proofs.«01_k».proof.Proof.BwdProjRef
public import proofs.«01_k».proof.Proof.FwdProj

@[expose] public section

set_option maxRecDepth 16384

noncomputable section

open Idealize.ShloMosaic Idealize.ShloMosaic.TcCoe Idealize.SL.Sem
open Idealize.ShloMosaic.Pipeline (Dat)
open scoped BigOperators
open Cert.BwdProjDx (perm back col dcol dcol_col exists_col)
open Cert.FwdProj (unitRow)

namespace Cert.BwdProjDw

/-- The call's arguments that the gradient reads: the rows, the gain, the projection's cotangent. -/
structure Args where
  x : Fin 16384 → Fin 1024 → EReal
  g : Fin 1024 → EReal
  d : Fin 16384 → Fin 12288 → EReal

/-- The gradient at row `k` of the weights, with the cotangent's column `n`. -/
def Args.dw (a : Args) (k : Fin 1024) (n : Fin 12288) : EReal := ∑ s, unitRow (a.x s) a.g k * a.d s n

/-- Column `j` of slab `c`, of the weights' eight slabs of columns. -/
abbrev slab (c : Fin 8) (j : Fin 1536) : Fin 12288 := ⟨1536 * c.val + j.val, by omega⟩

end Cert.BwdProjDw

namespace Cert.Kernel11Ideal.Value

open Cert.Kernel11Ideal Cert.Kernel11Ideal.Gen Cert.BwdProjDw

section
variable (A : Vec Ideal S1024x512 .f32) (H : Vec Ideal S1024x8192 .bf16) (D : Vec Ideal S8192x512 .bf16) (k : Fin 1024) (j : Fin 512)

theorem pay_zero (z : S1024x512.Idx) : k0_pay1 (F := Ideal) z = 0 := by pointwise [k0_pay1]
theorem pay_acc : k0_pay2 A H D (ix2 k j) = A (ix2 k j) + ∑ s, H (ix2 k s) * D (ix2 s j) := by pointwise [k0_pay2]
theorem pay_out (q : Fin 1) : k0_pay3 A (ix3 q k j) = A (ix2 k j) := by pointwise [k0_pay3]
end

variable (m : (ℓ : Loc nD τ sig) → Buf (Elt Ideal) ℓ) (c : Dev nD)

/-- The call's arguments by row. -/
def argRows : Args :=
  ⟨fun r k => m (c.tc.loc main_arg0) (ix2 r k), fun k => m (c.tc.loc main_arg1) (ix1 k), fun r n => m (c.tc.loc main_arg3) (ix2 r n)⟩

/-- The transposed normalised rows that the call is given. -/
theorem given_h (k : Fin 1024) (s : Fin 16384) :
    (V m c main_v14 : FVec Ideal S1024x16384 .bf16) (ix2 k s) = unitRow ((argRows m c).x s) (argRows m c).g k := by
  refine Eq.trans ?_ (show unitRow (fun i => m (c.tc.loc main_arg0) (ix2 s i)) (fun i => m (c.tc.loc main_arg1) (ix1 i)) k = _ from rfl)
  unfold V
  after_results_simp
  pointwise
  rfl

theorem lt48 (t : Fin cfg0.N) : t.val < 48 := lt_of_lt_of_le t.isLt (le_refl 48)

/-- Row `s` and column `j` of point `t`'s tile of the cotangent, in the whole array. -/
abbrev rowAt (t : Fin cfg0.N) (s : Fin 8192) : Fin 16384 := ⟨8192 * (t.val % 2) + s.val, by omega⟩
abbrev colAt (t : Fin cfg0.N) (j : Fin 512) : Fin 12288 := ⟨512 * (t.val / 2) + j.val, by have := lt48 t; omega⟩

/-- The group of point `t`'s columns, and the block of 512 of the weights' columns they belong to. -/
abbrev grp (t : Fin cfg0.N) : Fin 12 := ⟨t.val / 4, by have := lt48 t; omega⟩
def place (t : Fin cfg0.N) : Fin 24 := ⟨2 * (perm (grp t)).val + t.val / 2 % 2, by omega⟩

theorem idx : ∀ t : Fin cfg0.N, win0_0.index t = ![0, t.val % 2] ∧ win0_1.index t = ![t.val % 2, t.val / 2]
    ∧ win0_2.index t = ![(place t).val / 3, 0, (place t).val % 3] :=
  (by decide +kernel : ∀ t : Fin grid0.N, _)

variable (t : Fin cfg0.N)

theorem blk0 (k : Fin 1024) (s : Fin 8192) :
    (iblk m c 0 t : FVec Ideal S1024x8192 .bf16) (ix2 k s) = unitRow ((argRows m c).x (rowAt t s)) (argRows m c).g k := by
  refine Eq.trans ?_ (given_h m c k (rowAt t s))
  blk_point [iblk, idx t]
theorem blk1 (s : Fin 8192) (j : Fin 512) :
    (iblk m c 1 t : FVec Ideal S8192x512 .bf16) (ix2 s j) = (argRows m c).d (rowAt t s) (colAt t j) := by
  refine Eq.trans ?_ (show m (c.tc.loc main_arg3) (ix2 (rowAt t s) (colAt t j)) = _ from rfl)
  blk_point [iblk, V, idx t]

/-- What a point adds to the accumulated product: half of the rows. -/
abbrev part (z : S1024x512.Idx) : EReal :=
  ∑ s : Fin 8192, unitRow ((argRows m c).x (rowAt t s)) (argRows m c).g (z 0) * (argRows m c).d (rowAt t s) (colAt t (z 1))

theorem step (A : Vec Ideal S1024x512 .f32) (z : S1024x512.Idx) :
    k0_pay2 A (iblk m c 0 t) (iblk m c 1 t) z = A z + part m c t z := by
  obtain ⟨k, j, rfl⟩ := Lift.exists_ix2 z
  rw [pay_acc]
  exact congrArg (A (ix2 k j) + ·) (Finset.sum_congr rfl fun s _ => by rw [blk0, blk1]; rfl)

theorem sc_first (h : t.val % 2 = 0) (z : S1024x512.Idx) : (outsAt0 m c t.val t.isLt).2 z = 0 + part m c t z := by
  rw [outsAt0_A m c t h (by omega)]
  frame_out
  rw [step, pay_zero]
theorem sc_step (h : ¬t.val % 2 = 0) (z : S1024x512.Idx) :
    (outsAt0 m c t.val t.isLt).2 z = (outsAt0 m c (t.val - 1) (Nat.lt_of_le_of_lt (Nat.sub_le _ _) t.isLt)).2 z + part m c t z := by
  rw [outsAt0_B m c t h (by omega)]
  frame_out
  rw [read_unread_whole, step]

/-- The second point of a tile leaves the gradient. -/
theorem sc_last (h : t.val % 2 = 1) (k : Fin 1024) (j : Fin 512) :
    ((outsAt0 m c t.val t.isLt).2 : FVec Ideal S1024x512 .f32) (ix2 k j) = (argRows m c).dw k (colAt t j) := by
  rw [Pipeline.eq_sum_fin_of_reset_step_apply_of_flush (fun n h => (outsAt0 m c n h).2) 2 (fun _ => 0) (part m c) (sc_first m c)
    (sc_step m c) t h _, zero_add]
  unfold Args.dw
  rw [Fin.sum_univ_tiles 2 8192 (by norm_num) fun s => unitRow ((argRows m c).x s) (argRows m c).g k * (argRows m c).d s (colAt t j)]
  refine Finset.sum_congr rfl fun q _ => Finset.sum_congr rfl fun s _ => ?_
  have e1 : rowAt ⟨2 * (t.val / 2) + q.val, Pipeline.run_point_lt_of_flush t h q⟩ s = ⟨q.val * 8192 + s.val, by omega⟩ :=
    Fin.ext (show 8192 * ((2 * (t.val / 2) + q.val) % 2) + s.val = q.val * 8192 + s.val by omega)
  have e2 : colAt ⟨2 * (t.val / 2) + q.val, Pipeline.run_point_lt_of_flush t h q⟩ j = colAt t j :=
    Fin.ext (show 512 * ((2 * (t.val / 2) + q.val) / 2) + j.val = 512 * (t.val / 2) + j.val by omega)
  show unitRow ((argRows m c).x (rowAt _ s)) _ k * (argRows m c).d (rowAt _ s) (colAt _ j) = _
  rw [e1, e2]

theorem out_B (h : t.val % 2 = 1) : (outsAt0 m c t.val t.isLt).1 = k0_pay3 (outsAt0 m c t.val t.isLt).2 := by
  rw [outsAt0_B m c t (by omega) h]
  frame_out

/-- Where an entry of a point's block of the result lies in the whole array. -/
theorem emb2 (q : Fin 1) (k : Fin 1024) (j : Fin 512) : (win0_2.blk t).view.emb (ix3 q k j : S1x1024x512.Idx)
    = ix3 ⟨(place t).val / 3, by omega⟩ k ⟨512 * ((place t).val % 3) + j.val, by omega⟩ := by
  blk_ext [idx t]

/-- The point's columns of the cotangent are those of the weights' columns that its block of the result stands for. -/
theorem dcol_place (j : Fin 512) :
    dcol (slab ⟨(place t).val / 3, by omega⟩ ⟨512 * ((place t).val % 3) + j.val, by omega⟩) = colAt t j := by
  have e : slab ⟨(place t).val / 3, by omega⟩ ⟨512 * ((place t).val % 3) + j.val, by omega⟩
      = col (perm (grp t)) ⟨512 * (t.val / 2 % 2) + j.val, by omega⟩ := Fin.ext (by
    have hp : (place t).val = 2 * (perm (grp t)).val + t.val / 2 % 2 := rfl
    show 1536 * ((place t).val / 3) + (512 * ((place t).val % 3) + j.val) = 1024 * (perm (grp t)).val + (512 * (t.val / 2 % 2) + j.val)
    omega)
  rw [e, dcol_col, (by decide : ∀ q, back (perm q) = q) (grp t)]
  exact Fin.ext (show 1024 * (t.val / 4) + (512 * (t.val / 2 % 2) + j.val) = 512 * (t.val / 2) + j.val by omega)

/-- What the run leaves in the result, and that it does. -/
def outDw : FVec Ideal S8x1024x1536 .bf16 := fun z => (argRows m c).dw (z 1) (dcol (slab (z 0) (z 2)))
theorem arr_dw : (dats m 0 c).arrAt 2 cfg0.N = outDw m c := by
  refine (dats m 0 c).arrAt_eq_of_covers 2 _ (by decide +kernel) fun t hf y => ?_
  have h1 := (flush0_2 t).mp hf
  have key : ∀ z : S1x1024x512.Idx, ((outsAt0 m c t.val t.isLt).1 : FVec Ideal S1x1024x512 .bf16) z
      = outDw m c ((win0_2.blk t).view.emb z) := fun z => by
    obtain ⟨q, k, j, rfl⟩ : ∃ q k j, z = ix3 q k j := ⟨_, _, _, (ix3_eta z).symm⟩
    rw [out_B m c t h1, pay_out, emb2, sc_last m c t h1]
    exact congrArg ((argRows m c).dw k) (dcol_place t j).symm
  blk_simp
  rw [after0_2]
  exact key y

end Cert.Kernel11Ideal.Value

namespace Cert.Reference11Ideal.Value

open Cert.Reference11Ideal Cert.Reference11Ideal.Gen Cert.BwdProjDw

theorem turn_at (C : FVec Ideal S16384x12288 .bf16) (A : FVec Ideal S16384x1024 .f32) (c : Fin 8) (k : Fin 1024) (j : Fin 1536) :
    (transpose S8x1024x1536 [1, 0, 2] (shapeCast _ (truncf .bf16 (transpose S1024x12288 [1, 0] (Host.dotGeneral (φ₁ := .f32) (φ₂ := .f32)
      dot_S16384x12288_S16384x1024_S12288x1024_0_0_1_1_n_n none (extf .f32 C bitsLt_bf16_f32) A) transposes_S12288x1024_S1024x12288_1_0)
      bitsLt_bf16_f32) shapeCasts_S1024x12288_S1024x8x1536) transposes_S1024x8x1536_S8x1024x1536_1_0_2 : FVec Ideal S8x1024x1536 .bf16) (ix3 c k j)
      = ∑ s, C (ix2 s (slab c j)) * A (ix2 s k) := by
  pointwise
  exact Finset.sum_congr (M := EReal) rfl fun s _ => congrArg (fun n => C (ix2 s n) * A (ix2 s k)) (Fin.ext (by simp only [Nat.mul_comm]))

end Cert.Reference11Ideal.Value

namespace Cert.BwdProjDw

open Cert.Reference6Ideal.Value (cot cot_at)
open Cert.Reference7Ideal.Value (unitArr unit_at)

/-- The value claim: the kernel and the reference end with equal results. -/
theorem value : Cert.algebraic_Kernel11Ideal_Reference11Ideal := by
  intro m g m' g' _ hag
  refine ⟨fun c => Kernel11Ideal.Value.outDw m c, (θ_run _ _ _).mono (fun r h c => ?_) (Kernel11Ideal.Value.run_blocks m g),
    (θ_run _ _ _).mono (fun r h c => ?_) (Reference11Ideal.Value.run m' g')⟩
  · exact ⟨(h c).1.trans (Kernel11Ideal.Value.arr_dw m c), (h c).2⟩
  · obtain ⟨h0, h1⟩ := h c
    obtain ⟨a0, a1, -, a3⟩ := hag c
    refine ⟨h0.trans (funext fun z => ?_), h1⟩
    obtain ⟨q, k, j, rfl⟩ : ∃ q k j, z = ix3 q k j := ⟨_, _, _, (ix3_eta z).symm⟩
    refine (Reference11Ideal.Value.turn_at (cot (m' (c.tc.loc Reference11Ideal.main_arg3)))
      (unitArr (m' (c.tc.loc Reference11Ideal.main_arg0)) (m' (c.tc.loc Reference11Ideal.main_arg1))) q k j).trans ?_
    show _ = (Kernel11Ideal.Value.argRows m c).dw k (dcol (slab q j))
    refine Finset.sum_congr (M := EReal) rfl fun s _ => ?_
    obtain ⟨i, l, e⟩ := exists_col (slab q j)
    rw [e, cot_at, dcol_col, unit_at, a0, a1, a3]
    exact mul_comm (G := EReal) _ _

end Cert.BwdProjDw

end
-- ==== Proof.Adamw.lean ====
/- The optimiser's step on the projection's weights: each entry's gradient is the sum of the eight devices' parts; from it the step
   itself and the two running means, kernel against reference. Hand-written, untrusted. -/
module

public import proofs.«01_k».proof.Defs
public import proofs.«01_k».proof.Proof.Gen.Kernel12Ideal.Value
public import proofs.«01_k».proof.Proof.Gen.Reference12Ideal.Run
public import proofs.«01_k».proof.Proof.Blocks
public import proofs.«01_k».proof.Proof.Lift

@[expose] public section

set_option maxRecDepth 16384

noncomputable section

open Idealize.ShloMosaic Idealize.ShloMosaic.TcCoe Idealize.SL.Sem
open Idealize.ShloMosaic.Pipeline (Dat)
open scoped BigOperators

namespace Cert.Adamw

/-- A number by its float word. -/
abbrev lit (w : BitVec 32) : EReal := Ideal.ofBits .f32 w

/-- The running means of the gradient `g` and of its square after the step, from those before, and the change of the weight. -/
def mean (g m : EReal) : EReal := lit 0x3F666666#32 * m + lit 0x3DCCCCCD#32 * g
def square (g v : EReal) : EReal := lit 0x3F7FBE77#32 * v + lit 0x3A83126F#32 * (g * g)
def change (g w m v : EReal) : EReal :=
  lit 0xBA83126F#32 * (Ideal.div (Ideal.div (mean g m) (lit 0x3F26BD02#32))
    (Ideal.sqrt (Ideal.div (square g v) (lit 0x3C231ACC#32)) + lit 0x322BCC77#32) + lit 0x3C23D70A#32 * w)

/-- The layer of a packed row, and its row there. -/
abbrev layer (r : Fin 4096) : Fin 4 := ⟨r.val / 1024, by omega⟩
abbrev inner (r : Fin 4096) : Fin 1024 := ⟨r.val % 1024, by omega⟩

/-- The call's arguments by packed row: the devices' parts of the gradient, the weights, the two running means. -/
structure Args where
  p : Fin 4096 → Fin 8 → Fin 1536 → EReal
  w : Fin 4096 → Fin 1536 → EReal
  m : Fin 4096 → Fin 1536 → EReal
  v : Fin 4096 → Fin 1536 → EReal

/-- The four results by packed row. -/
def Args.grad (a : Args) (r : Fin 4096) (j : Fin 1536) : EReal := ∑ d, a.p r d j
def Args.change (a : Args) (r : Fin 4096) (j : Fin 1536) : EReal := Adamw.change (a.grad r j) (a.w r j) (a.m r j) (a.v r j)
def Args.mean (a : Args) (r : Fin 4096) (j : Fin 1536) : EReal := Adamw.mean (a.grad r j) (a.m r j)
def Args.square (a : Args) (r : Fin 4096) (j : Fin 1536) : EReal := Adamw.square (a.grad r j) (a.v r j)

end Cert.Adamw

namespace Cert.Kernel12Ideal.Value

open Cert.Kernel12Ideal Cert.Kernel12Ideal.Gen Cert.Adamw
open Cert.Blocks (ld_slab)

/-- Slab `d` of a block of the parts. -/
theorem slab_le (d : Fin 8) (a : Fin 3) : (![d.val, 0, 0] : Fin 3 → ℕ) a + S1x128x1536.size a ≤ S8x128x1536.size a := by
  fin_cases a
  · exact d.isLt
  · exact le_refl 128
  · exact le_refl 1536
abbrev slab (d : Fin 8) := Rect.unit (s := S8x128x1536) ![d.val, 0, 0] S1x128x1536.size (slab_le d)

section
variable (G W M U : Vec Ideal S128x1536 .f32) (X : Vec Ideal S8x128x1536 .bf16) (z : S128x1536.Idx)

theorem pay_mean : k0_pay1 G M z = mean (G z) (M z) := by pointwise [k0_pay1, mean]
theorem pay_square : k0_pay2 G U z = square (G z) (U z) := by pointwise [k0_pay2, square]
theorem pay_change : k0_pay3 G (k0_pay14 W) M U z = change (G z) (W z) (M z) (U z) := by
  pointwise [k0_pay3, k0_pay14, change, pay_mean, pay_square]

/-- The sum of a block's eight slabs. -/
abbrev total : FVec Ideal S128x1536 .f32 :=
  k0_pay13 (View.ld X (slab 0)) (View.ld X (slab 1)) (View.ld X (slab 2)) (View.ld X (slab 3)) (View.ld X (slab 4)) (View.ld X (slab 5))
    (View.ld X (slab 6)) (View.ld X (slab 7))
theorem total_at (i : Fin 128) (j : Fin 1536) : total X (ix2 i j) = ∑ d, X (ix3 d i j) := by
  have h (d : Fin 8) : View.ld X (slab d) (ix3 0 i j : S1x128x1536.Idx) = X (ix3 d i j) :=
    ld_slab (Val := Elt Ideal) (e := .bf16) (slab_le d) X d rfl i j
  rw [Fin.sum_univ_eight, ← h 0, ← h 1, ← h 2, ← h 3, ← h 4, ← h 5, ← h 6, ← h 7]
  pointwise [k0_pay13]
end

variable (m : (ℓ : Loc nD τ sig) → Buf (Elt Ideal) ℓ) (c : Dev nD)

/-- The call's arguments by packed row. -/
def argRows : Args :=
  ⟨fun r d j => m (c.tc.loc main_arg0) (ix4 (layer r) d (inner r) j), fun r j => m (c.tc.loc main_arg1) (ix3 (layer r) (inner r) j),
    fun r j => m (c.tc.loc main_arg2) (ix3 (layer r) (inner r) j), fun r j => m (c.tc.loc main_arg3) (ix3 (layer r) (inner r) j)⟩

/-- The parts of each layer, and the three packed arrays, that the call is given. -/
theorem given_p (q : Fin 4) (d : Fin 8) (k : Fin 1024) (j : Fin 1536) :
    (![V m c main_v1, V m c main_v3, V m c main_v5, V m c main_v7] q : FVec Ideal S8x1024x1536 .bf16) (ix3 d k j)
      = m (c.tc.loc main_arg0) (ix4 q d k j) := by
  fin_cases q
  all_goals
    dsimp only [Matrix.cons_val]
    unfold V
    after_results_simp
    pointwise
theorem given_w (r : Fin 4096) (j : Fin 1536) : (V m c main_v8 : FVec Ideal S4096x1536 .f32) (ix2 r j) = (argRows m c).w r j
    ∧ (V m c main_v9 : FVec Ideal S4096x1536 .f32) (ix2 r j) = (argRows m c).m r j
    ∧ (V m c main_v10 : FVec Ideal S4096x1536 .f32) (ix2 r j) = (argRows m c).v r j := by
  unfold argRows V
  refine ⟨?_, ?_, ?_⟩
  all_goals
    dsimp only
    after_results_simp
    pointwise

theorem lt32 (t : Fin cfg0.N) : t.val < 32 := lt_of_lt_of_le t.isLt (le_refl 32)

/-- Row `i` of point `t`'s block, among the packed rows. -/
abbrev rowAt (t : Fin cfg0.N) (i : Fin 128) : Fin 4096 := ⟨128 * t.val + i.val, by have := lt32 t; omega⟩

theorem idx : ∀ t : Fin cfg0.N, win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)
theorem idxp : ∀ t : Fin cfg0.N, win0_0.index t = ![0, if t.val / 8 = 0 then t.val % 8 else 0, 0]
    ∧ win0_1.index t = ![0, if t.val / 8 = 1 then t.val % 8 else 0, 0] ∧ win0_2.index t = ![0, if t.val / 8 = 2 then t.val % 8 else 0, 0]
    ∧ win0_3.index t = ![0, if t.val / 8 = 3 then t.val % 8 else 0, 0] :=
  (by decide +kernel : ∀ t : Fin grid0.N, _)

variable (t : Fin cfg0.N)

theorem blk4 (i : Fin 128) (j : Fin 1536) : (iblk m c 4 t : FVec Ideal S128x1536 .f32) (ix2 i j) = (argRows m c).w (rowAt t i) j := by
  refine Eq.trans ?_ (given_w m c (rowAt t i) j).1
  blk_point [iblk, idx t]
theorem blk5 (i : Fin 128) (j : Fin 1536) : (iblk m c 5 t : FVec Ideal S128x1536 .f32) (ix2 i j) = (argRows m c).m (rowAt t i) j := by
  refine Eq.trans ?_ (given_w m c (rowAt t i) j).2.1
  blk_point [iblk, idx t]
theorem blk6 (i : Fin 128) (j : Fin 1536) : (iblk m c 6 t : FVec Ideal S128x1536 .f32) (ix2 i j) = (argRows m c).v (rowAt t i) j := by
  refine Eq.trans ?_ (given_w m c (rowAt t i) j).2.2
  blk_point [iblk, idx t]

/-- The block of the parts that the point's layer reads. -/
abbrev partBlk (q : Fin 4) : FVec Ideal S8x128x1536 .bf16 := ![iblk m c 0 t, iblk m c 1 t, iblk m c 2 t, iblk m c 3 t] q
theorem blkp (q : Fin 4) (hq : t.val / 8 = q.val) (d : Fin 8) (i : Fin 128) (j : Fin 1536) :
    partBlk m c t q (ix3 d i j) = (argRows m c).p (rowAt t i) d j := by
  have hl : layer (rowAt t i) = q := Fin.ext (show (128 * t.val + i.val) / 1024 = q.val by omega)
  have hk : inner (rowAt t i) = ⟨128 * (t.val % 8) + i.val, by omega⟩ :=
    Fin.ext (show (128 * t.val + i.val) % 1024 = 128 * (t.val % 8) + i.val by omega)
  refine Eq.trans ?_ ((given_p m c q d (inner (rowAt t i)) j).trans
    (congrArg (fun l => m (c.tc.loc main_arg0) (ix4 l d (inner (rowAt t i)) j)) hl.symm))
  rw [hk]
  fin_cases q
  all_goals
    dsimp only at hq
    dsimp only [partBlk, Matrix.cons_val]
    blk_point [iblk, idxp t, hq]
    rw [if_pos trivial]
    omega
theorem total_blk (q : Fin 4) (hq : t.val / 8 = q.val) (i : Fin 128) (j : Fin 1536) :
    total (partBlk m c t q) (ix2 i j) = (argRows m c).grad (rowAt t i) j :=
  (total_at _ i j).trans (Finset.sum_congr (M := EReal) rfl fun d _ => blkp m c t q hq d i j)

/-- What a point stores in the four results. -/
theorem outs_eq (q : Fin 4) (hq : t.val / 8 = q.val) : outsAt0 m c t.val t.isLt = (total (partBlk m c t q),
    k0_pay3 (total (partBlk m c t q)) (k0_pay14 (iblk m c 4 t)) (iblk m c 5 t) (iblk m c 6 t),
    k0_pay1 (total (partBlk m c t q)) (iblk m c 5 t), k0_pay2 (total (partBlk m c t q)) (iblk m c 6 t)) := by
  have := lt32 t
  fin_cases q
  all_goals dsimp only at hq
  on_goal 1 => rw [outsAt0_A m c t (by omega) (by omega) (by omega) (by omega)]
  on_goal 2 => rw [outsAt0_B m c t (by omega) (by omega) (by omega) (by omega)]
  on_goal 3 => rw [outsAt0_C m c t (by omega) (by omega) (by omega) (by omega)]
  on_goal 4 => rw [outsAt0_D m c t (by omega) (by omega) (by omega) (by omega)]
  all_goals
    frame_out
    rfl

theorem outs_at (i : Fin 128) (j : Fin 1536) :
    ((outsAt0 m c t.val t.isLt).1 : FVec Ideal S128x1536 .f32) (ix2 i j) = (argRows m c).grad (rowAt t i) j
    ∧ ((outsAt0 m c t.val t.isLt).2.1 : FVec Ideal S128x1536 .f32) (ix2 i j) = (argRows m c).change (rowAt t i) j
    ∧ ((outsAt0 m c t.val t.isLt).2.2.1 : FVec Ideal S128x1536 .f32) (ix2 i j) = (argRows m c).mean (rowAt t i) j
    ∧ ((outsAt0 m c t.val t.isLt).2.2.2 : FVec Ideal S128x1536 .f32) (ix2 i j) = (argRows m c).square (rowAt t i) j := by
  have hq : t.val / 8 = (⟨t.val / 8, by have := lt32 t; omega⟩ : Fin 4).val := rfl
  rw [outs_eq m c t _ hq]
  refine ⟨total_blk m c t _ hq i j, (pay_change _ _ _ _ _).trans ?_, (pay_mean _ _ _).trans ?_, (pay_square _ _ _).trans ?_⟩
  all_goals
    rw [total_blk m c t _ hq i j]
    try rw [blk4]
    try rw [blk5]
    try rw [blk6]
    rfl

/-- A result after the run, from what its points store. -/
abbrev packed (f : Fin 4096 → Fin 1536 → EReal) : FVec Ideal S4096x1536 .f32 := fun z => f (z 0) (z 1)
theorem packed_blk (f : Fin 4096 → Fin 1536 → EReal) (e : S128x1536.Idx → S4096x1536.Idx) (he : ∀ i j, e (ix2 i j) = ix2 (rowAt t i) j)
    (X : FVec Ideal S128x1536 .f32) (hX : ∀ i j, X (ix2 i j) = f (rowAt t i) j) (z : S128x1536.Idx) : X z = packed f (e z) := by
  obtain ⟨i, j, rfl⟩ := Lift.exists_ix2 z
  rw [he]
  exact hX i j

theorem arr_grad : (dats m 0 c).arrAt 7 cfg0.N = packed (argRows m c).grad := by
  refine (dats m 0 c).arrAt_eq_of_covers 7 _ (by decide +kernel) fun t _ y => ?_
  blk_simp
  rw [after0_7]
  exact packed_blk t _ (win0_7.blk t).view.emb (fun i j => by blk_ext [idx t]) _ (fun i j => (outs_at m c t i j).1) y
theorem arr_change : (dats m 0 c).arrAt 8 cfg0.N = packed (argRows m c).change := by
  refine (dats m 0 c).arrAt_eq_of_covers 8 _ (by decide +kernel) fun t _ y => ?_
  blk_simp
  rw [after0_8]
  exact packed_blk t _ (win0_8.blk t).view.emb (fun i j => by blk_ext [idx t]) _ (fun i j => (outs_at m c t i j).2.1) y
theorem arr_mean : (dats m 0 c).arrAt 9 cfg0.N = packed (argRows m c).mean := by
  refine (dats m 0 c).arrAt_eq_of_covers 9 _ (by decide +kernel) fun t _ y => ?_
  blk_simp
  rw [after0_9]
  exact packed_blk t _ (win0_9.blk t).view.emb (fun i j => by blk_ext [idx t]) _ (fun i j => (outs_at m c t i j).2.2.1) y
theorem arr_square : (dats m 0 c).arrAt 10 cfg0.N = packed (argRows m c).square := by
  refine (dats m 0 c).arrAt_eq_of_covers 10 _ (by decide +kernel) fun t _ y => ?_
  blk_simp
  rw [after0_10]
  exact packed_blk t _ (win0_10.blk t).view.emb (fun i j => by blk_ext [idx t]) _ (fun i j => (outs_at m c t i j).2.2.2) y

end Cert.Kernel12Ideal.Value

namespace Cert.Reference12Ideal.Value

open Cert.Reference12Ideal Cert.Reference12Ideal.Gen Cert.Adamw

variable (P : FVec Ideal S4x8x1024x1536 .bf16) (W M U : FVec Ideal S4x1024x1536 .f32) (r : Fin 4096) (j : Fin 1536)

/-- The arguments' rows in the packed order. -/
def rows : Args := ⟨fun r d j => P (ix4 (layer r) d (inner r) j), fun r j => W (ix3 (layer r) (inner r) j),
  fun r j => M (ix3 (layer r) (inner r) j), fun r j => U (ix3 (layer r) (inner r) j)⟩

/-- The sum over the devices, and the two means, as the reference forms them. -/
def total : FVec Ideal S4x1024x1536 .f32 :=
  Host.reduceAdd (extf .f32 P bitsLt_bf16_f32) (constant S_ .f32 0x00000000#32) reducesTo_S4x8x1024x1536_S4x1024x1536_d1 h_S_
theorem total_at (l : Fin 4) (k : Fin 1024) : total P (ix3 l k j) = ∑ d, P (ix4 l d k j) := by
  pointwise [total]

theorem grad_at : (shapeCast S4096x1536 (total P) shapeCasts_S4x1024x1536_S4096x1536) (ix2 r j) = (rows P W M U).grad r j := by
  refine Eq.trans ?_ (total_at P j (layer r) (inner r))
  pointwise

abbrev all (w : BitVec 32) : FVec Ideal S4x1024x1536 .f32 := broadcastInDim S4x1024x1536 ![] bcast_S_S4x1024x1536 (constant S_ .f32 w)
abbrev means : FVec Ideal S4x1024x1536 .f32 := addf (mulf (all 0x3F666666#32) M) (mulf (all 0x3DCCCCCD#32) (total P))
abbrev squares : FVec Ideal S4x1024x1536 .f32 := addf (mulf (all 0x3F7FBE77#32) U) (mulf (all 0x3A83126F#32) (mulf (total P) (total P)))

theorem mean_at : (shapeCast S4096x1536 (means P M) shapeCasts_S4x1024x1536_S4096x1536) (ix2 r j) = (rows P W M U).mean r j := by
  refine Eq.trans ?_ (show Adamw.mean (∑ d, P (ix4 (layer r) d (inner r) j)) (M (ix3 (layer r) (inner r) j)) = _ from rfl)
  rw [← total_at]
  pointwise [Adamw.mean]
theorem square_at : (shapeCast S4096x1536 (squares P U) shapeCasts_S4x1024x1536_S4096x1536) (ix2 r j) = (rows P W M U).square r j := by
  refine Eq.trans ?_ (show Adamw.square (∑ d, P (ix4 (layer r) d (inner r) j)) (U (ix3 (layer r) (inner r) j)) = _ from rfl)
  rw [← total_at]
  pointwise [Adamw.square]
theorem change_at : (shapeCast S4096x1536 (mulf (all 0xBA83126F#32) (addf (Host.divf (Host.divf (means P M) (all 0x3F26BD02#32))
    (addf (Host.sqrt (Host.divf (squares P U) (all 0x3C231ACC#32))) (all 0x322BCC77#32))) (mulf (all 0x3C23D70A#32) W)))
    shapeCasts_S4x1024x1536_S4096x1536) (ix2 r j) = (rows P W M U).change r j := by
  refine Eq.trans ?_ (show Adamw.change (∑ d, P (ix4 (layer r) d (inner r) j)) (W (ix3 (layer r) (inner r) j)) (M (ix3 (layer r) (inner r) j))
    (U (ix3 (layer r) (inner r) j)) = _ from rfl)
  rw [← total_at]
  pointwise [Adamw.change, Adamw.mean, Adamw.square]

end Cert.Reference12Ideal.Value

namespace Cert.Adamw

/-- The value claim: the kernel and the reference end with equal results. -/
theorem value : Cert.algebraic_Kernel12Ideal_Reference12Ideal := by
  intro m g m' g' _ hag
  have pack (f : Fin 4096 → Fin 1536 → EReal) (X : FVec Ideal ⟨2, ![4096, 1536]⟩ .f32) (h : ∀ r j, X (ix2 r j) = f r j) :
      X = Kernel12Ideal.Value.packed f := funext fun z => by
    obtain ⟨r, j, rfl⟩ := Lift.exists_ix2 z
    exact h r j
  refine ⟨fun c => Kernel12Ideal.Value.packed (Kernel12Ideal.Value.argRows m c).grad,
    fun c => Kernel12Ideal.Value.packed (Kernel12Ideal.Value.argRows m c).change,
    fun c => Kernel12Ideal.Value.packed (Kernel12Ideal.Value.argRows m c).mean,
    fun c => Kernel12Ideal.Value.packed (Kernel12Ideal.Value.argRows m c).square,
    (θ_run _ _ _).mono (fun r h c => ?_) (Kernel12Ideal.Value.run_blocks m g),
    (θ_run _ _ _).mono (fun r h c => ?_) (Reference12Ideal.Value.run m' g')⟩
  · obtain ⟨h0, h1, h2, h3, h4⟩ := h c
    exact ⟨h0.trans (Kernel12Ideal.Value.arr_grad m c), h1.trans (Kernel12Ideal.Value.arr_change m c),
      h2.trans (Kernel12Ideal.Value.arr_mean m c), h3.trans (Kernel12Ideal.Value.arr_square m c), h4⟩
  · obtain ⟨h0, h1, h2, h3, h4⟩ := h c
    obtain ⟨a0, a1, a2, a3⟩ := hag c
    have e : Reference12Ideal.Value.rows (m' (c.tc.loc Reference12Ideal.main_arg0)) (m' (c.tc.loc Reference12Ideal.main_arg1))
        (m' (c.tc.loc Reference12Ideal.main_arg2)) (m' (c.tc.loc Reference12Ideal.main_arg3)) = Kernel12Ideal.Value.argRows m c := by
      rw [a0, a1, a2, a3]
      rfl
    beta_reduce
    rw [← e]
    exact ⟨h0.trans (pack _ _ fun r j => Reference12Ideal.Value.grad_at _ _ _ _ r j),
      h1.trans (pack _ _ fun r j => Reference12Ideal.Value.change_at _ _ _ _ r j),
      h2.trans (pack _ _ fun r j => Reference12Ideal.Value.mean_at _ _ _ _ r j),
      h3.trans (pack _ _ fun r j => Reference12Ideal.Value.square_at _ _ _ _ r j), h4⟩

end Cert.Adamw

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal
public import proofs.«01_k».proof.Proof.BwdCFrame
public import proofs.«01_k».proof.Proof.Gen.Reference3Ideal.Run
public import proofs.«01_k».proof.Proof.Gen.Kernel4
public import proofs.«01_k».proof.Proof.Gen.Kernel4Ideal
public import proofs.«01_k».proof.Proof.BwdBFrame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel7
public import proofs.«01_k».proof.Proof.Gen.Kernel7Ideal
public import proofs.«01_k».proof.Proof.FwdProjFrame
public import proofs.«01_k».proof.Proof.Gen.Reference7Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Pre_finite
public import proofs.«01_k».proof.Proof.Gen.Pre_finite3
public import proofs.«01_k».proof.Proof.Gen.Pre_finite4
public import proofs.«01_k».proof.Proof.Gen.Pre_finite5
public import proofs.«01_k».proof.Proof.Gen.Pre_finite6
public import proofs.«01_k».proof.Proof.Gen.Pre_finite10
public import proofs.«01_k».proof.Proof.Gen.On_written2
public import proofs.«01_k».proof.Proof.Gen.On_causal5
public import proofs.«01_k».proof.Proof.LossHead
public import proofs.«01_k».proof.Proof.BwdO
public import proofs.«01_k».proof.Proof.BwdC
public import proofs.«01_k».proof.Proof.BwdB
public import proofs.«01_k».proof.Proof.BwdA
public import proofs.«01_k».proof.Proof.BwdProjDx
public import proofs.«01_k».proof.Proof.FwdCO
public import proofs.«01_k».proof.Proof.FwdA
public import proofs.«01_k».proof.Proof.FwdB
public import proofs.«01_k».proof.Proof.FwdProj
public import proofs.«01_k».proof.Proof.BwdProjDw
public import proofs.«01_k».proof.Proof.Adamw
public import Idealize.ShloMosaic.Adequacy
public import Idealize.ShloMosaic.Init

@[expose] public section

noncomputable section

open Idealize.ShloMosaic Idealize.ShloMosaic.Tactic Idealize.SL.Sem

namespace Cert.Proof

namespace Host

/-- The frame of Reference10Ideal, a host program: its run leaves the arguments as they were and no semaphore counts. -/
theorem reference10Ideal : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- The frame of Reference11Ideal, a host program: its run leaves the arguments as they were and no semaphore counts. -/
theorem reference11Ideal : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The frame of Reference12Ideal, a host program: its run leaves the arguments as they were and no semaphore counts. -/
theorem reference12Ideal : Cert.quiescent_Reference12Ideal := fun m ρ _ =>
  (θ_run Cert.Reference12Ideal.defs _ _).mono (fun r h => ⟨fun c => (h c).2.2.2.2, Idealize.ShloMosaic.sem_eq_zero_of_no_sems (by decide) r.2⟩)
    (Cert.Reference12Ideal.Value.run (F := Ideal) m ρ)

/-- The frame of Reference2Ideal, a host program: its run leaves the arguments as they were and no semaphore counts. -/
theorem reference2Ideal : Cert.quiescent_Reference2Ideal := fun m ρ _ =>
  (θ_run Cert.Reference2Ideal.defs _ _).mono (fun r h => ⟨fun c => (h c).2.2.2, Idealize.ShloMosaic.sem_eq_zero_of_no_sems (by decide) r.2⟩)
    (Cert.Reference2Ideal.Value.run (F := Ideal) m ρ)

/-- The frame of Reference3Ideal, a host program: its run leaves the arguments as they were and no semaphore counts. -/
theorem reference3Ideal : Cert.quiescent_Reference3Ideal := fun m ρ _ =>
  (θ_run Cert.Reference3Ideal.defs _ _).mono (fun r h => ⟨fun c => (h c).2.2.2.2, Idealize.ShloMosaic.sem_eq_zero_of_no_sems (by decide) r.2⟩)
    (Cert.Reference3Ideal.Value.run (F := Ideal) m ρ)

/-- The frame of Reference4Ideal, a host program: its run leaves the arguments as they were and no semaphore counts. -/
theorem reference4Ideal : Cert.quiescent_Reference4Ideal := fun m ρ _ =>
  (θ_run Cert.Reference4Ideal.defs _ _).mono (fun r h => ⟨fun c => (h c).2.2.2.2.2, Idealize.ShloMosaic.sem_eq_zero_of_no_sems (by decide) r.2⟩)
    (Cert.Reference4Ideal.Value.run (F := Ideal) m ρ)

/-- The frame of Reference5Ideal, a host program: its run leaves the arguments as they were and no semaphore counts. -/
theorem reference5Ideal : Cert.quiescent_Reference5Ideal := fun m ρ _ =>
  (θ_run Cert.Reference5Ideal.defs _ _).mono (fun r h => ⟨fun c => (h c).2.2.2.2.2.2, Idealize.ShloMosaic.sem_eq_zero_of_no_sems (by decide) r.2⟩)
    (Cert.Reference5Ideal.Value.run (F := Ideal) m ρ)

/-- The frame of Reference6Ideal, a host program: its run leaves the arguments as they were and no semaphore counts. -/
theorem reference6Ideal : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

/-- The frame of Reference7Ideal, a host program: its run leaves the arguments as they were and no semaphore counts. -/
theorem reference7Ideal : Cert.quiescent_Reference7Ideal := fun m ρ _ =>
  (θ_run Cert.Reference7Ideal.defs _ _).mono (fun r h => ⟨fun c => (h c).2.2, Idealize.ShloMosaic.sem_eq_zero_of_no_sems (by decide) r.2⟩)
    (Cert.Reference7Ideal.Value.run (F := Ideal) m ρ)

/-- The frame of Reference8Ideal, a host program: its run leaves the arguments as they were and no semaphore counts. -/
theorem reference8Ideal : Cert.quiescent_Reference8Ideal := fun m ρ _ =>
  (θ_run Cert.Reference8Ideal.defs _ _).mono (fun r h => ⟨fun c => (h c).2.2, Idealize.ShloMosaic.sem_eq_zero_of_no_sems (by decide) r.2⟩)
    (Cert.Reference8Ideal.Value.run (F := Ideal) m ρ)

/-- The frame of Reference9Ideal, a host program: its run leaves the arguments as they were and no semaphore counts. -/
theorem reference9Ideal : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The frame of ReferenceIdeal, a host program: its run leaves the arguments as they were and no semaphore counts. -/
theorem referenceIdeal : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

end Host

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel7.Gen.facts, Cert.Kernel7Ideal.Gen.facts, Cert.Reference7Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Pre_finite.Gen.facts, Cert.Pre_finite3.Gen.facts, Cert.Pre_finite4.Gen.facts, Cert.Pre_finite5.Gen.facts, Cert.Pre_finite6.Gen.facts, Cert.Pre_finite10.Gen.facts, Cert.On_written2.Gen.facts, Cert.On_causal5.Gen.facts,
  fun m ρ _ => Cert.Kernel.Gen.frame m ρ,
  fun m ρ _ => Cert.KernelIdeal.Gen.frame m ρ,
  fun m ρ _ => Cert.KernelIdeal.Gen.frame m ρ,
  Host.referenceIdeal,
  fun m ρ _ => Host.referenceIdeal m ρ trivial,
  fun m ρ _ => Cert.Kernel2.Gen.frame m ρ,
  fun m ρ _ => Cert.Kernel2Ideal.Gen.frame m ρ,
  Host.reference2Ideal,
  (show Cert.quiescent_Kernel3 = Cert.Kernel3Ideal.Hand.Framed Bits by sl_kernel_rfl).mpr Cert.Kernel3Ideal.Hand.framed,
  fun m ρ _ => Cert.Kernel3Ideal.Hand.frame m ρ,
  fun m ρ _ => Cert.Kernel3Ideal.Hand.frame m ρ,
  Host.reference3Ideal,
  fun m ρ _ => Host.reference3Ideal m ρ trivial,
  (show Cert.quiescent_Kernel4 = Cert.Kernel4Ideal.Hand.Framed Bits by sl_kernel_rfl).mpr Cert.Kernel4Ideal.Hand.framed,
  fun m ρ _ => Cert.Kernel4Ideal.Hand.frame m ρ,
  fun m ρ _ => Cert.Kernel4Ideal.Hand.frame m ρ,
  Host.reference4Ideal,
  fun m ρ _ => Host.reference4Ideal m ρ trivial,
  fun m ρ _ => Cert.Kernel5.Gen.frame m ρ,
  fun m ρ _ => Cert.Kernel5Ideal.Gen.frame m ρ,
  fun m ρ _ => Cert.Kernel5Ideal.Gen.frame m ρ,
  Host.reference5Ideal,
  fun m ρ _ => Host.reference5Ideal m ρ trivial,
  fun m ρ _ => Cert.Kernel6.Gen.frame m ρ,
  fun m ρ _ => Cert.Kernel6Ideal.Gen.frame m ρ,
  fun m ρ _ => Cert.Kernel6Ideal.Gen.frame m ρ,
  Host.reference6Ideal,
  fun m ρ _ => Host.reference6Ideal m ρ trivial,
  fun m ρ _ => Cert.Kernel8.Gen.frame m ρ,
  fun m ρ _ => Cert.Kernel8Ideal.Gen.frame m ρ,
  Host.reference8Ideal,
  fun m ρ _ => Cert.Kernel9.Gen.frame m ρ,
  fun m ρ _ => Cert.Kernel9Ideal.Gen.frame m ρ,
  Host.reference9Ideal,
  fun m ρ _ => Cert.Kernel10.Gen.frame m ρ,
  fun m ρ _ => Cert.Kernel10Ideal.Gen.frame m ρ,
  fun m ρ _ => Cert.Kernel10Ideal.Gen.frame m ρ,
  Host.reference10Ideal,
  fun m ρ _ => Host.reference10Ideal m ρ trivial,
  (show Cert.quiescent_Kernel7 = Cert.Kernel7Ideal.Hand.Framed Bits by sl_kernel_rfl).mpr Cert.Kernel7Ideal.Hand.framed,
  fun m ρ _ => Cert.Kernel7Ideal.Hand.frame m ρ,
  Host.reference7Ideal,
  fun m ρ _ => Cert.Kernel11.Gen.frame m ρ,
  fun m ρ _ => Cert.Kernel11Ideal.Gen.frame m ρ,
  Host.reference11Ideal,
  fun m ρ _ => Cert.Kernel12.Gen.frame m ρ,
  fun m ρ _ => Cert.Kernel12Ideal.Gen.frame m ρ,
  Host.reference12Ideal,
  trivial,
  Cert.LossHead.value,
  trivial,
  Cert.BwdO.value,
  trivial,
  Cert.BwdC.value,
  trivial,
  Cert.BwdB.value,
  ⟨IdealRules.named_const.statement Cert.Kernel5Ideal.κ "gelu_k1" .f32 0x3D372713#32 _ rfl, IdealRules.named_const.statement Cert.Kernel5Ideal.κ "gelu_3k1" .f32 0x3E095D4F#32 _ rfl⟩,
  Cert.BwdA.value,
  trivial,
  Cert.BwdProjDx.value,
  trivial,
  Cert.FwdCO.value,
  IdealRules.named_const.statement Cert.Kernel9Ideal.κ "gelu_k1" .f32 0x3D372713#32 _ rfl,
  Cert.FwdA.value,
  trivial,
  Cert.FwdB.value,
  trivial,
  Cert.FwdProj.value,
  trivial,
  Cert.BwdProjDw.value,
  trivial,
  Cert.Adamw.value⟩

end Cert.Proof

end
